-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15)
      ∧ r.2.mem ((c.tc : Thread Cert.Kernel12.nD Cert.Kernel12.τ).loc Cert.Kernel12.main_arg16) = m ((c.tc : Thread Cert.Kernel12.nD Cert.Kernel12.τ).loc Cert.Kernel12.main_arg16)
      ∧ r.2.mem ((c.tc : Thread Cert.Kernel12.nD Cert.Kernel12.τ).loc Cert.Kernel12.main_arg17) = m ((c.tc : Thread Cert.Kernel12.nD Cert.Kernel12.τ).loc Cert.Kernel12.main_arg17)
      ∧ r.2.mem ((c.tc : Thread Cert.Kernel12.nD Cert.Kernel12.τ).loc Cert.Kernel12.main_arg18) = m ((c.tc : Thread Cert.Kernel12.nD Cert.Kernel12.τ).loc Cert.Kernel12.main_arg18))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
      ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
      ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
      ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9)
      ∧ r.2.mem ((c.tc : Thread Cert.Kernel25.nD Cert.Kernel25.τ).loc Cert.Kernel25.main_arg10) = m ((c.tc : Thread Cert.Kernel25.nD Cert.Kernel25.τ).loc Cert.Kernel25.main_arg10)
      ∧ r.2.mem ((c.tc : Thread Cert.Kernel25.nD Cert.Kernel25.τ).loc Cert.Kernel25.main_arg11) = m ((c.tc : Thread Cert.Kernel25.nD Cert.Kernel25.τ).loc Cert.Kernel25.main_arg11))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
      ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
      ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9)
      ∧ r.2.mem ((c.tc : Thread Cert.Reference25Ideal.nD Cert.Reference25Ideal.τ).loc Cert.Reference25Ideal.main_arg10) = m ((c.tc : Thread Cert.Reference25Ideal.nD Cert.Reference25Ideal.τ).loc Cert.Reference25Ideal.main_arg10)
      ∧ r.2.mem ((c.tc : Thread Cert.Reference25Ideal.nD Cert.Reference25Ideal.τ).loc Cert.Reference25Ideal.main_arg11) = m ((c.tc : Thread Cert.Reference25Ideal.nD Cert.Reference25Ideal.τ).loc Cert.Reference25Ideal.main_arg11))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9)
      ∧ r.2.mem ((c.tc : Thread Cert.Kernel26.nD Cert.Kernel26.τ).loc Cert.Kernel26.main_arg10) = m ((c.tc : Thread Cert.Kernel26.nD Cert.Kernel26.τ).loc Cert.Kernel26.main_arg10)
      ∧ r.2.mem ((c.tc : Thread Cert.Kernel26.nD Cert.Kernel26.τ).loc Cert.Kernel26.main_arg11) = m ((c.tc : Thread Cert.Kernel26.nD Cert.Kernel26.τ).loc Cert.Kernel26.main_arg11))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
      ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
      ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9)
      ∧ r.2.mem ((c.tc : Thread Cert.Reference26Ideal.nD Cert.Reference26Ideal.τ).loc Cert.Reference26Ideal.main_arg10) = m ((c.tc : Thread Cert.Reference26Ideal.nD Cert.Reference26Ideal.τ).loc Cert.Reference26Ideal.main_arg10)
      ∧ r.2.mem ((c.tc : Thread Cert.Reference26Ideal.nD Cert.Reference26Ideal.τ).loc Cert.Reference26Ideal.main_arg11) = m ((c.tc : Thread Cert.Reference26Ideal.nD Cert.Reference26Ideal.τ).loc Cert.Reference26Ideal.main_arg11))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8)
      ∧ r.2.mem ((c.tc : Thread Cert.Kernel27.nD Cert.Kernel27.τ).loc Cert.Kernel27.main_arg9) = m ((c.tc : Thread Cert.Kernel27.nD Cert.Kernel27.τ).loc Cert.Kernel27.main_arg9)
      ∧ r.2.mem ((c.tc : Thread Cert.Kernel27.nD Cert.Kernel27.τ).loc Cert.Kernel27.main_arg10) = m ((c.tc : Thread Cert.Kernel27.nD Cert.Kernel27.τ).loc Cert.Kernel27.main_arg10)
      ∧ r.2.mem ((c.tc : Thread Cert.Kernel27.nD Cert.Kernel27.τ).loc Cert.Kernel27.main_arg11) = m ((c.tc : Thread Cert.Kernel27.nD Cert.Kernel27.τ).loc Cert.Kernel27.main_arg11))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
      ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
      ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9)
      ∧ r.2.mem ((c.tc : Thread Cert.Reference27Ideal.nD Cert.Reference27Ideal.τ).loc Cert.Reference27Ideal.main_arg10) = m ((c.tc : Thread Cert.Reference27Ideal.nD Cert.Reference27Ideal.τ).loc Cert.Reference27Ideal.main_arg10)
      ∧ r.2.mem ((c.tc : Thread Cert.Reference27Ideal.nD Cert.Reference27Ideal.τ).loc Cert.Reference27Ideal.main_arg11) = m ((c.tc : Thread Cert.Reference27Ideal.nD Cert.Reference27Ideal.τ).loc Cert.Reference27Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v150) = v0 c
          ∧ r.2.mem ((c.tc : Thread Cert.Reference3Ideal.nD Cert.Reference3Ideal.τ).loc Cert.Reference3Ideal.main_v151) = v1 c
          ∧ r.2.mem ((c.tc : Thread Cert.Reference3Ideal.nD Cert.Reference3Ideal.τ).loc Cert.Reference3Ideal.main_v152) = v2 c
          ∧ r.2.mem ((c.tc : Thread Cert.Reference3Ideal.nD Cert.Reference3Ideal.τ).loc Cert.Reference3Ideal.main_v154) = v3 c
          ∧ r.2.mem ((c.tc : Thread Cert.Reference3Ideal.nD Cert.Reference3Ideal.τ).loc Cert.Reference3Ideal.main_v160) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)) (v4 : (c : Dev Cert.Kernel4Ideal.nD) → Buf (Elt Ideal) ((c.tc : Thread Cert.Kernel4Ideal.nD Cert.Kernel4Ideal.τ).loc Cert.Kernel4Ideal.main_v24_4)) (v5 : (c : Dev Cert.Kernel4Ideal.nD) → Buf (Elt Ideal) ((c.tc : Thread Cert.Kernel4Ideal.nD Cert.Kernel4Ideal.τ).loc Cert.Kernel4Ideal.main_v24_5)) (v6 : (c : Dev Cert.Kernel4Ideal.nD) → Buf (Elt Ideal) ((c.tc : Thread Cert.Kernel4Ideal.nD Cert.Kernel4Ideal.τ).loc Cert.Kernel4Ideal.main_v24_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_v24_4) = v4 c
          ∧ r.2.mem ((c.tc : Thread Cert.Kernel4Ideal.nD Cert.Kernel4Ideal.τ).loc Cert.Kernel4Ideal.main_v24_5) = v5 c
          ∧ r.2.mem ((c.tc : Thread Cert.Kernel4Ideal.nD Cert.Kernel4Ideal.τ).loc Cert.Kernel4Ideal.main_v24_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v41) = v4 c
          ∧ r.2.mem ((c.tc : Thread Cert.Reference4Ideal.nD Cert.Reference4Ideal.τ).loc Cert.Reference4Ideal.main_v43) = v5 c
          ∧ r.2.mem ((c.tc : Thread Cert.Reference4Ideal.nD Cert.Reference4Ideal.τ).loc Cert.Reference4Ideal.main_v44) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v43) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v61) = v1 c
          ∧ r.2.mem ((c.tc : Thread Cert.Reference6Ideal.nD Cert.Reference6Ideal.τ).loc Cert.Reference6Ideal.main_v64) = v2 c
          ∧ r.2.mem ((c.tc : Thread Cert.Reference6Ideal.nD Cert.Reference6Ideal.τ).loc Cert.Reference6Ideal.main_v67) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)) (v2 : (c : Dev Cert.Kernel7Ideal.nD) → Buf (Elt Ideal) ((c.tc : Thread Cert.Kernel7Ideal.nD Cert.Kernel7Ideal.τ).loc Cert.Kernel7Ideal.main_v9_2)) (v3 : (c : Dev Cert.Kernel7Ideal.nD) → Buf (Elt Ideal) ((c.tc : Thread Cert.Kernel7Ideal.nD Cert.Kernel7Ideal.τ).loc Cert.Kernel7Ideal.main_v9_3)) (v4 : (c : Dev Cert.Kernel7Ideal.nD) → Buf (Elt Ideal) ((c.tc : Thread Cert.Kernel7Ideal.nD Cert.Kernel7Ideal.τ).loc Cert.Kernel7Ideal.main_v9_4)) (v5 : (c : Dev Cert.Kernel7Ideal.nD) → Buf (Elt Ideal) ((c.tc : Thread Cert.Kernel7Ideal.nD Cert.Kernel7Ideal.τ).loc Cert.Kernel7Ideal.main_v9_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_v9_2) = v2 c
          ∧ r.2.mem ((c.tc : Thread Cert.Kernel7Ideal.nD Cert.Kernel7Ideal.τ).loc Cert.Kernel7Ideal.main_v9_3) = v3 c
          ∧ r.2.mem ((c.tc : Thread Cert.Kernel7Ideal.nD Cert.Kernel7Ideal.τ).loc Cert.Kernel7Ideal.main_v9_4) = v4 c
          ∧ r.2.mem ((c.tc : Thread Cert.Kernel7Ideal.nD Cert.Kernel7Ideal.τ).loc Cert.Kernel7Ideal.main_v9_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v34) = v3 c
          ∧ r.2.mem ((c.tc : Thread Cert.Reference7Ideal.nD Cert.Reference7Ideal.τ).loc Cert.Reference7Ideal.main_v36) = v4 c
          ∧ r.2.mem ((c.tc : Thread Cert.Reference7Ideal.nD Cert.Reference7Ideal.τ).loc Cert.Reference7Ideal.main_v38) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_v20) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def preserves_Kernel11_Kernel11Ideal : Prop :=
  True

def preserves_Kernel12_Kernel12Ideal : Prop :=
  True

def preserves_Kernel13_Kernel13Ideal : Prop :=
  True

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)) (v7 : (c : Dev Cert.Kernel17Ideal.nD) → Buf (Elt Ideal) ((c.tc : Thread Cert.Kernel17Ideal.nD Cert.Kernel17Ideal.τ).loc Cert.Kernel17Ideal.main_v0_7)) (v8 : (c : Dev Cert.Kernel17Ideal.nD) → Buf (Elt Ideal) ((c.tc : Thread Cert.Kernel17Ideal.nD Cert.Kernel17Ideal.τ).loc Cert.Kernel17Ideal.main_v0_8)) (v9 : (c : Dev Cert.Kernel17Ideal.nD) → Buf (Elt Ideal) ((c.tc : Thread Cert.Kernel17Ideal.nD Cert.Kernel17Ideal.τ).loc Cert.Kernel17Ideal.main_v0_9)) (v10 : (c : Dev Cert.Kernel17Ideal.nD) → Buf (Elt Ideal) ((c.tc : Thread Cert.Kernel17Ideal.nD Cert.Kernel17Ideal.τ).loc Cert.Kernel17Ideal.main_v0_10)) (v11 : (c : Dev Cert.Kernel17Ideal.nD) → Buf (Elt Ideal) ((c.tc : Thread Cert.Kernel17Ideal.nD Cert.Kernel17Ideal.τ).loc Cert.Kernel17Ideal.main_v0_11)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_v0_7) = v7 c
          ∧ r.2.mem ((c.tc : Thread Cert.Kernel17Ideal.nD Cert.Kernel17Ideal.τ).loc Cert.Kernel17Ideal.main_v0_8) = v8 c
          ∧ r.2.mem ((c.tc : Thread Cert.Kernel17Ideal.nD Cert.Kernel17Ideal.τ).loc Cert.Kernel17Ideal.main_v0_9) = v9 c
          ∧ r.2.mem ((c.tc : Thread Cert.Kernel17Ideal.nD Cert.Kernel17Ideal.τ).loc Cert.Kernel17Ideal.main_v0_10) = v10 c
          ∧ r.2.mem ((c.tc : Thread Cert.Kernel17Ideal.nD Cert.Kernel17Ideal.τ).loc Cert.Kernel17Ideal.main_v0_11) = v11 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_v27) = v4 c
          ∧ r.2.mem ((c.tc : Thread Cert.Reference17Ideal.nD Cert.Reference17Ideal.τ).loc Cert.Reference17Ideal.main_v51) = v5 c
          ∧ r.2.mem ((c.tc : Thread Cert.Reference17Ideal.nD Cert.Reference17Ideal.τ).loc Cert.Reference17Ideal.main_v32) = v6 c
          ∧ r.2.mem ((c.tc : Thread Cert.Reference17Ideal.nD Cert.Reference17Ideal.τ).loc Cert.Reference17Ideal.main_v38) = v7 c
          ∧ r.2.mem ((c.tc : Thread Cert.Reference17Ideal.nD Cert.Reference17Ideal.τ).loc Cert.Reference17Ideal.main_v53) = v8 c
          ∧ r.2.mem ((c.tc : Thread Cert.Reference17Ideal.nD Cert.Reference17Ideal.τ).loc Cert.Reference17Ideal.main_v77) = v9 c
          ∧ r.2.mem ((c.tc : Thread Cert.Reference17Ideal.nD Cert.Reference17Ideal.τ).loc Cert.Reference17Ideal.main_v58) = v10 c
          ∧ r.2.mem ((c.tc : Thread Cert.Reference17Ideal.nD Cert.Reference17Ideal.τ).loc Cert.Reference17Ideal.main_v64) = v11 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)) (v3 : (c : Dev Cert.Kernel18Ideal.nD) → Buf (Elt Ideal) ((c.tc : Thread Cert.Kernel18Ideal.nD Cert.Kernel18Ideal.τ).loc Cert.Kernel18Ideal.main_v6_3)) (v4 : (c : Dev Cert.Kernel18Ideal.nD) → Buf (Elt Ideal) ((c.tc : Thread Cert.Kernel18Ideal.nD Cert.Kernel18Ideal.τ).loc Cert.Kernel18Ideal.main_v6_4)) (v5 : (c : Dev Cert.Kernel18Ideal.nD) → Buf (Elt Ideal) ((c.tc : Thread Cert.Kernel18Ideal.nD Cert.Kernel18Ideal.τ).loc Cert.Kernel18Ideal.main_v6_5)) (v6 : (c : Dev Cert.Kernel18Ideal.nD) → Buf (Elt Ideal) ((c.tc : Thread Cert.Kernel18Ideal.nD Cert.Kernel18Ideal.τ).loc Cert.Kernel18Ideal.main_v6_6)) (v7 : (c : Dev Cert.Kernel18Ideal.nD) → Buf (Elt Ideal) ((c.tc : Thread Cert.Kernel18Ideal.nD Cert.Kernel18Ideal.τ).loc Cert.Kernel18Ideal.main_v6_7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_v6_3) = v3 c
          ∧ r.2.mem ((c.tc : Thread Cert.Kernel18Ideal.nD Cert.Kernel18Ideal.τ).loc Cert.Kernel18Ideal.main_v6_4) = v4 c
          ∧ r.2.mem ((c.tc : Thread Cert.Kernel18Ideal.nD Cert.Kernel18Ideal.τ).loc Cert.Kernel18Ideal.main_v6_5) = v5 c
          ∧ r.2.mem ((c.tc : Thread Cert.Kernel18Ideal.nD Cert.Kernel18Ideal.τ).loc Cert.Kernel18Ideal.main_v6_6) = v6 c
          ∧ r.2.mem ((c.tc : Thread Cert.Kernel18Ideal.nD Cert.Kernel18Ideal.τ).loc Cert.Kernel18Ideal.main_v6_7) = v7 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v54) = v0 c
          ∧ r.2.mem ((c.tc : Thread Cert.Reference18Ideal.nD Cert.Reference18Ideal.τ).loc Cert.Reference18Ideal.main_v55) = v1 c
          ∧ r.2.mem ((c.tc : Thread Cert.Reference18Ideal.nD Cert.Reference18Ideal.τ).loc Cert.Reference18Ideal.main_v56) = v2 c
          ∧ r.2.mem ((c.tc : Thread Cert.Reference18Ideal.nD Cert.Reference18Ideal.τ).loc Cert.Reference18Ideal.main_v57) = v3 c
          ∧ r.2.mem ((c.tc : Thread Cert.Reference18Ideal.nD Cert.Reference18Ideal.τ).loc Cert.Reference18Ideal.main_v58) = v4 c
          ∧ r.2.mem ((c.tc : Thread Cert.Reference18Ideal.nD Cert.Reference18Ideal.τ).loc Cert.Reference18Ideal.main_v59) = v5 c
          ∧ r.2.mem ((c.tc : Thread Cert.Reference18Ideal.nD Cert.Reference18Ideal.τ).loc Cert.Reference18Ideal.main_v60) = v6 c
          ∧ r.2.mem ((c.tc : Thread Cert.Reference18Ideal.nD Cert.Reference18Ideal.τ).loc Cert.Reference18Ideal.main_v61) = v7 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)) (v4 : (c : Dev Cert.Kernel22Ideal.nD) → Buf (Elt Ideal) ((c.tc : Thread Cert.Kernel22Ideal.nD Cert.Kernel22Ideal.τ).loc Cert.Kernel22Ideal.main_v0_4)) (v5 : (c : Dev Cert.Kernel22Ideal.nD) → Buf (Elt Ideal) ((c.tc : Thread Cert.Kernel22Ideal.nD Cert.Kernel22Ideal.τ).loc Cert.Kernel22Ideal.main_v0_5)) (v6 : (c : Dev Cert.Kernel22Ideal.nD) → Buf (Elt Ideal) ((c.tc : Thread Cert.Kernel22Ideal.nD Cert.Kernel22Ideal.τ).loc Cert.Kernel22Ideal.main_v0_6)) (v7 : (c : Dev Cert.Kernel22Ideal.nD) → Buf (Elt Ideal) ((c.tc : Thread Cert.Kernel22Ideal.nD Cert.Kernel22Ideal.τ).loc Cert.Kernel22Ideal.main_v0_7)) (v8 : (c : Dev Cert.Kernel22Ideal.nD) → Buf (Elt Ideal) ((c.tc : Thread Cert.Kernel22Ideal.nD Cert.Kernel22Ideal.τ).loc Cert.Kernel22Ideal.main_v0_8)) (v9 : (c : Dev Cert.Kernel22Ideal.nD) → Buf (Elt Ideal) ((c.tc : Thread Cert.Kernel22Ideal.nD Cert.Kernel22Ideal.τ).loc Cert.Kernel22Ideal.main_v0_9)) (v10 : (c : Dev Cert.Kernel22Ideal.nD) → Buf (Elt Ideal) ((c.tc : Thread Cert.Kernel22Ideal.nD Cert.Kernel22Ideal.τ).loc Cert.Kernel22Ideal.main_v0_10)) (v11 : (c : Dev Cert.Kernel22Ideal.nD) → Buf (Elt Ideal) ((c.tc : Thread Cert.Kernel22Ideal.nD Cert.Kernel22Ideal.τ).loc Cert.Kernel22Ideal.main_v0_11)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_v0_4) = v4 c
          ∧ r.2.mem ((c.tc : Thread Cert.Kernel22Ideal.nD Cert.Kernel22Ideal.τ).loc Cert.Kernel22Ideal.main_v0_5) = v5 c
          ∧ r.2.mem ((c.tc : Thread Cert.Kernel22Ideal.nD Cert.Kernel22Ideal.τ).loc Cert.Kernel22Ideal.main_v0_6) = v6 c
          ∧ r.2.mem ((c.tc : Thread Cert.Kernel22Ideal.nD Cert.Kernel22Ideal.τ).loc Cert.Kernel22Ideal.main_v0_7) = v7 c
          ∧ r.2.mem ((c.tc : Thread Cert.Kernel22Ideal.nD Cert.Kernel22Ideal.τ).loc Cert.Kernel22Ideal.main_v0_8) = v8 c
          ∧ r.2.mem ((c.tc : Thread Cert.Kernel22Ideal.nD Cert.Kernel22Ideal.τ).loc Cert.Kernel22Ideal.main_v0_9) = v9 c
          ∧ r.2.mem ((c.tc : Thread Cert.Kernel22Ideal.nD Cert.Kernel22Ideal.τ).loc Cert.Kernel22Ideal.main_v0_10) = v10 c
          ∧ r.2.mem ((c.tc : Thread Cert.Kernel22Ideal.nD Cert.Kernel22Ideal.τ).loc Cert.Kernel22Ideal.main_v0_11) = v11 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg3) = v0 c
          ∧ r.2.mem ((c.tc : Thread Cert.Reference22Ideal.nD Cert.Reference22Ideal.τ).loc Cert.Reference22Ideal.main_arg4) = v1 c
          ∧ r.2.mem ((c.tc : Thread Cert.Reference22Ideal.nD Cert.Reference22Ideal.τ).loc Cert.Reference22Ideal.main_arg5) = v2 c
          ∧ r.2.mem ((c.tc : Thread Cert.Reference22Ideal.nD Cert.Reference22Ideal.τ).loc Cert.Reference22Ideal.main_v23) = v3 c
          ∧ r.2.mem ((c.tc : Thread Cert.Reference22Ideal.nD Cert.Reference22Ideal.τ).loc Cert.Reference22Ideal.main_v47) = v4 c
          ∧ r.2.mem ((c.tc : Thread Cert.Reference22Ideal.nD Cert.Reference22Ideal.τ).loc Cert.Reference22Ideal.main_v71) = v5 c
          ∧ r.2.mem ((c.tc : Thread Cert.Reference22Ideal.nD Cert.Reference22Ideal.τ).loc Cert.Reference22Ideal.main_v4) = v6 c
          ∧ r.2.mem ((c.tc : Thread Cert.Reference22Ideal.nD Cert.Reference22Ideal.τ).loc Cert.Reference22Ideal.main_v28) = v7 c
          ∧ r.2.mem ((c.tc : Thread Cert.Reference22Ideal.nD Cert.Reference22Ideal.τ).loc Cert.Reference22Ideal.main_v52) = v8 c
          ∧ r.2.mem ((c.tc : Thread Cert.Reference22Ideal.nD Cert.Reference22Ideal.τ).loc Cert.Reference22Ideal.main_v10) = v9 c
          ∧ r.2.mem ((c.tc : Thread Cert.Reference22Ideal.nD Cert.Reference22Ideal.τ).loc Cert.Reference22Ideal.main_v34) = v10 c
          ∧ r.2.mem ((c.tc : Thread Cert.Reference22Ideal.nD Cert.Reference22Ideal.τ).loc Cert.Reference22Ideal.main_v58) = v11 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)) (v5 : (c : Dev Cert.Kernel23Ideal.nD) → Buf (Elt Ideal) ((c.tc : Thread Cert.Kernel23Ideal.nD Cert.Kernel23Ideal.τ).loc Cert.Kernel23Ideal.main_v0_5)) (v6 : (c : Dev Cert.Kernel23Ideal.nD) → Buf (Elt Ideal) ((c.tc : Thread Cert.Kernel23Ideal.nD Cert.Kernel23Ideal.τ).loc Cert.Kernel23Ideal.main_v0_6)) (v7 : (c : Dev Cert.Kernel23Ideal.nD) → Buf (Elt Ideal) ((c.tc : Thread Cert.Kernel23Ideal.nD Cert.Kernel23Ideal.τ).loc Cert.Kernel23Ideal.main_v0_7)) (v8 : (c : Dev Cert.Kernel23Ideal.nD) → Buf (Elt Ideal) ((c.tc : Thread Cert.Kernel23Ideal.nD Cert.Kernel23Ideal.τ).loc Cert.Kernel23Ideal.main_v0_8)) (v9 : (c : Dev Cert.Kernel23Ideal.nD) → Buf (Elt Ideal) ((c.tc : Thread Cert.Kernel23Ideal.nD Cert.Kernel23Ideal.τ).loc Cert.Kernel23Ideal.main_v0_9)) (v10 : (c : Dev Cert.Kernel23Ideal.nD) → Buf (Elt Ideal) ((c.tc : Thread Cert.Kernel23Ideal.nD Cert.Kernel23Ideal.τ).loc Cert.Kernel23Ideal.main_v0_10)) (v11 : (c : Dev Cert.Kernel23Ideal.nD) → Buf (Elt Ideal) ((c.tc : Thread Cert.Kernel23Ideal.nD Cert.Kernel23Ideal.τ).loc Cert.Kernel23Ideal.main_v0_11)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_v0_5) = v5 c
          ∧ r.2.mem ((c.tc : Thread Cert.Kernel23Ideal.nD Cert.Kernel23Ideal.τ).loc Cert.Kernel23Ideal.main_v0_6) = v6 c
          ∧ r.2.mem ((c.tc : Thread Cert.Kernel23Ideal.nD Cert.Kernel23Ideal.τ).loc Cert.Kernel23Ideal.main_v0_7) = v7 c
          ∧ r.2.mem ((c.tc : Thread Cert.Kernel23Ideal.nD Cert.Kernel23Ideal.τ).loc Cert.Kernel23Ideal.main_v0_8) = v8 c
          ∧ r.2.mem ((c.tc : Thread Cert.Kernel23Ideal.nD Cert.Kernel23Ideal.τ).loc Cert.Kernel23Ideal.main_v0_9) = v9 c
          ∧ r.2.mem ((c.tc : Thread Cert.Kernel23Ideal.nD Cert.Kernel23Ideal.τ).loc Cert.Kernel23Ideal.main_v0_10) = v10 c
          ∧ r.2.mem ((c.tc : Thread Cert.Kernel23Ideal.nD Cert.Kernel23Ideal.τ).loc Cert.Kernel23Ideal.main_v0_11) = v11 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg3) = v0 c
          ∧ r.2.mem ((c.tc : Thread Cert.Reference23Ideal.nD Cert.Reference23Ideal.τ).loc Cert.Reference23Ideal.main_arg4) = v1 c
          ∧ r.2.mem ((c.tc : Thread Cert.Reference23Ideal.nD Cert.Reference23Ideal.τ).loc Cert.Reference23Ideal.main_arg5) = v2 c
          ∧ r.2.mem ((c.tc : Thread Cert.Reference23Ideal.nD Cert.Reference23Ideal.τ).loc Cert.Reference23Ideal.main_v23) = v3 c
          ∧ r.2.mem ((c.tc : Thread Cert.Reference23Ideal.nD Cert.Reference23Ideal.τ).loc Cert.Reference23Ideal.main_v47) = v4 c
          ∧ r.2.mem ((c.tc : Thread Cert.Reference23Ideal.nD Cert.Reference23Ideal.τ).loc Cert.Reference23Ideal.main_v71) = v5 c
          ∧ r.2.mem ((c.tc : Thread Cert.Reference23Ideal.nD Cert.Reference23Ideal.τ).loc Cert.Reference23Ideal.main_v4) = v6 c
          ∧ r.2.mem ((c.tc : Thread Cert.Reference23Ideal.nD Cert.Reference23Ideal.τ).loc Cert.Reference23Ideal.main_v28) = v7 c
          ∧ r.2.mem ((c.tc : Thread Cert.Reference23Ideal.nD Cert.Reference23Ideal.τ).loc Cert.Reference23Ideal.main_v52) = v8 c
          ∧ r.2.mem ((c.tc : Thread Cert.Reference23Ideal.nD Cert.Reference23Ideal.τ).loc Cert.Reference23Ideal.main_v10) = v9 c
          ∧ r.2.mem ((c.tc : Thread Cert.Reference23Ideal.nD Cert.Reference23Ideal.τ).loc Cert.Reference23Ideal.main_v34) = v10 c
          ∧ r.2.mem ((c.tc : Thread Cert.Reference23Ideal.nD Cert.Reference23Ideal.τ).loc Cert.Reference23Ideal.main_v58) = v11 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)) (v5 : (c : Dev Cert.Kernel24Ideal.nD) → Buf (Elt Ideal) ((c.tc : Thread Cert.Kernel24Ideal.nD Cert.Kernel24Ideal.τ).loc Cert.Kernel24Ideal.main_v0_5)) (v6 : (c : Dev Cert.Kernel24Ideal.nD) → Buf (Elt Ideal) ((c.tc : Thread Cert.Kernel24Ideal.nD Cert.Kernel24Ideal.τ).loc Cert.Kernel24Ideal.main_v0_6)) (v7 : (c : Dev Cert.Kernel24Ideal.nD) → Buf (Elt Ideal) ((c.tc : Thread Cert.Kernel24Ideal.nD Cert.Kernel24Ideal.τ).loc Cert.Kernel24Ideal.main_v0_7)) (v8 : (c : Dev Cert.Kernel24Ideal.nD) → Buf (Elt Ideal) ((c.tc : Thread Cert.Kernel24Ideal.nD Cert.Kernel24Ideal.τ).loc Cert.Kernel24Ideal.main_v0_8)) (v9 : (c : Dev Cert.Kernel24Ideal.nD) → Buf (Elt Ideal) ((c.tc : Thread Cert.Kernel24Ideal.nD Cert.Kernel24Ideal.τ).loc Cert.Kernel24Ideal.main_v0_9)) (v10 : (c : Dev Cert.Kernel24Ideal.nD) → Buf (Elt Ideal) ((c.tc : Thread Cert.Kernel24Ideal.nD Cert.Kernel24Ideal.τ).loc Cert.Kernel24Ideal.main_v0_10)) (v11 : (c : Dev Cert.Kernel24Ideal.nD) → Buf (Elt Ideal) ((c.tc : Thread Cert.Kernel24Ideal.nD Cert.Kernel24Ideal.τ).loc Cert.Kernel24Ideal.main_v0_11)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_v0_5) = v5 c
          ∧ r.2.mem ((c.tc : Thread Cert.Kernel24Ideal.nD Cert.Kernel24Ideal.τ).loc Cert.Kernel24Ideal.main_v0_6) = v6 c
          ∧ r.2.mem ((c.tc : Thread Cert.Kernel24Ideal.nD Cert.Kernel24Ideal.τ).loc Cert.Kernel24Ideal.main_v0_7) = v7 c
          ∧ r.2.mem ((c.tc : Thread Cert.Kernel24Ideal.nD Cert.Kernel24Ideal.τ).loc Cert.Kernel24Ideal.main_v0_8) = v8 c
          ∧ r.2.mem ((c.tc : Thread Cert.Kernel24Ideal.nD Cert.Kernel24Ideal.τ).loc Cert.Kernel24Ideal.main_v0_9) = v9 c
          ∧ r.2.mem ((c.tc : Thread Cert.Kernel24Ideal.nD Cert.Kernel24Ideal.τ).loc Cert.Kernel24Ideal.main_v0_10) = v10 c
          ∧ r.2.mem ((c.tc : Thread Cert.Kernel24Ideal.nD Cert.Kernel24Ideal.τ).loc Cert.Kernel24Ideal.main_v0_11) = v11 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg3) = v0 c
          ∧ r.2.mem ((c.tc : Thread Cert.Reference24Ideal.nD Cert.Reference24Ideal.τ).loc Cert.Reference24Ideal.main_arg4) = v1 c
          ∧ r.2.mem ((c.tc : Thread Cert.Reference24Ideal.nD Cert.Reference24Ideal.τ).loc Cert.Reference24Ideal.main_arg5) = v2 c
          ∧ r.2.mem ((c.tc : Thread Cert.Reference24Ideal.nD Cert.Reference24Ideal.τ).loc Cert.Reference24Ideal.main_v23) = v3 c
          ∧ r.2.mem ((c.tc : Thread Cert.Reference24Ideal.nD Cert.Reference24Ideal.τ).loc Cert.Reference24Ideal.main_v47) = v4 c
          ∧ r.2.mem ((c.tc : Thread Cert.Reference24Ideal.nD Cert.Reference24Ideal.τ).loc Cert.Reference24Ideal.main_v71) = v5 c
          ∧ r.2.mem ((c.tc : Thread Cert.Reference24Ideal.nD Cert.Reference24Ideal.τ).loc Cert.Reference24Ideal.main_v4) = v6 c
          ∧ r.2.mem ((c.tc : Thread Cert.Reference24Ideal.nD Cert.Reference24Ideal.τ).loc Cert.Reference24Ideal.main_v28) = v7 c
          ∧ r.2.mem ((c.tc : Thread Cert.Reference24Ideal.nD Cert.Reference24Ideal.τ).loc Cert.Reference24Ideal.main_v52) = v8 c
          ∧ r.2.mem ((c.tc : Thread Cert.Reference24Ideal.nD Cert.Reference24Ideal.τ).loc Cert.Reference24Ideal.main_v10) = v9 c
          ∧ r.2.mem ((c.tc : Thread Cert.Reference24Ideal.nD Cert.Reference24Ideal.τ).loc Cert.Reference24Ideal.main_v34) = v10 c
          ∧ r.2.mem ((c.tc : Thread Cert.Reference24Ideal.nD Cert.Reference24Ideal.τ).loc Cert.Reference24Ideal.main_v58) = v11 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)
      ∧ m' ((c.tc : Thread Cert.Reference25Ideal.nD Cert.Reference25Ideal.τ).loc Cert.Reference25Ideal.main_arg10) = m ((c.tc : Thread Cert.Kernel25Ideal.nD Cert.Kernel25Ideal.τ).loc Cert.Kernel25Ideal.main_arg10)
      ∧ m' ((c.tc : Thread Cert.Reference25Ideal.nD Cert.Reference25Ideal.τ).loc Cert.Reference25Ideal.main_arg11) = m ((c.tc : Thread Cert.Kernel25Ideal.nD Cert.Kernel25Ideal.τ).loc Cert.Kernel25Ideal.main_arg11)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)) (v5 : (c : Dev Cert.Kernel25Ideal.nD) → Buf (Elt Ideal) ((c.tc : Thread Cert.Kernel25Ideal.nD Cert.Kernel25Ideal.τ).loc Cert.Kernel25Ideal.main_v0_5)) (v6 : (c : Dev Cert.Kernel25Ideal.nD) → Buf (Elt Ideal) ((c.tc : Thread Cert.Kernel25Ideal.nD Cert.Kernel25Ideal.τ).loc Cert.Kernel25Ideal.main_v0_6)) (v7 : (c : Dev Cert.Kernel25Ideal.nD) → Buf (Elt Ideal) ((c.tc : Thread Cert.Kernel25Ideal.nD Cert.Kernel25Ideal.τ).loc Cert.Kernel25Ideal.main_v0_7)) (v8 : (c : Dev Cert.Kernel25Ideal.nD) → Buf (Elt Ideal) ((c.tc : Thread Cert.Kernel25Ideal.nD Cert.Kernel25Ideal.τ).loc Cert.Kernel25Ideal.main_v0_8)) (v9 : (c : Dev Cert.Kernel25Ideal.nD) → Buf (Elt Ideal) ((c.tc : Thread Cert.Kernel25Ideal.nD Cert.Kernel25Ideal.τ).loc Cert.Kernel25Ideal.main_v0_9)) (v10 : (c : Dev Cert.Kernel25Ideal.nD) → Buf (Elt Ideal) ((c.tc : Thread Cert.Kernel25Ideal.nD Cert.Kernel25Ideal.τ).loc Cert.Kernel25Ideal.main_v0_10)) (v11 : (c : Dev Cert.Kernel25Ideal.nD) → Buf (Elt Ideal) ((c.tc : Thread Cert.Kernel25Ideal.nD Cert.Kernel25Ideal.τ).loc Cert.Kernel25Ideal.main_v0_11)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_v0_5) = v5 c
          ∧ r.2.mem ((c.tc : Thread Cert.Kernel25Ideal.nD Cert.Kernel25Ideal.τ).loc Cert.Kernel25Ideal.main_v0_6) = v6 c
          ∧ r.2.mem ((c.tc : Thread Cert.Kernel25Ideal.nD Cert.Kernel25Ideal.τ).loc Cert.Kernel25Ideal.main_v0_7) = v7 c
          ∧ r.2.mem ((c.tc : Thread Cert.Kernel25Ideal.nD Cert.Kernel25Ideal.τ).loc Cert.Kernel25Ideal.main_v0_8) = v8 c
          ∧ r.2.mem ((c.tc : Thread Cert.Kernel25Ideal.nD Cert.Kernel25Ideal.τ).loc Cert.Kernel25Ideal.main_v0_9) = v9 c
          ∧ r.2.mem ((c.tc : Thread Cert.Kernel25Ideal.nD Cert.Kernel25Ideal.τ).loc Cert.Kernel25Ideal.main_v0_10) = v10 c
          ∧ r.2.mem ((c.tc : Thread Cert.Kernel25Ideal.nD Cert.Kernel25Ideal.τ).loc Cert.Kernel25Ideal.main_v0_11) = v11 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
          ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
          ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg3) = v0 c
          ∧ r.2.mem ((c.tc : Thread Cert.Reference25Ideal.nD Cert.Reference25Ideal.τ).loc Cert.Reference25Ideal.main_arg4) = v1 c
          ∧ r.2.mem ((c.tc : Thread Cert.Reference25Ideal.nD Cert.Reference25Ideal.τ).loc Cert.Reference25Ideal.main_arg5) = v2 c
          ∧ r.2.mem ((c.tc : Thread Cert.Reference25Ideal.nD Cert.Reference25Ideal.τ).loc Cert.Reference25Ideal.main_v23) = v3 c
          ∧ r.2.mem ((c.tc : Thread Cert.Reference25Ideal.nD Cert.Reference25Ideal.τ).loc Cert.Reference25Ideal.main_v47) = v4 c
          ∧ r.2.mem ((c.tc : Thread Cert.Reference25Ideal.nD Cert.Reference25Ideal.τ).loc Cert.Reference25Ideal.main_v71) = v5 c
          ∧ r.2.mem ((c.tc : Thread Cert.Reference25Ideal.nD Cert.Reference25Ideal.τ).loc Cert.Reference25Ideal.main_v4) = v6 c
          ∧ r.2.mem ((c.tc : Thread Cert.Reference25Ideal.nD Cert.Reference25Ideal.τ).loc Cert.Reference25Ideal.main_v28) = v7 c
          ∧ r.2.mem ((c.tc : Thread Cert.Reference25Ideal.nD Cert.Reference25Ideal.τ).loc Cert.Reference25Ideal.main_v52) = v8 c
          ∧ r.2.mem ((c.tc : Thread Cert.Reference25Ideal.nD Cert.Reference25Ideal.τ).loc Cert.Reference25Ideal.main_v10) = v9 c
          ∧ r.2.mem ((c.tc : Thread Cert.Reference25Ideal.nD Cert.Reference25Ideal.τ).loc Cert.Reference25Ideal.main_v34) = v10 c
          ∧ r.2.mem ((c.tc : Thread Cert.Reference25Ideal.nD Cert.Reference25Ideal.τ).loc Cert.Reference25Ideal.main_v58) = v11 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9)
          ∧ r.2.mem ((c.tc : Thread Cert.Reference25Ideal.nD Cert.Reference25Ideal.τ).loc Cert.Reference25Ideal.main_arg10) = m' ((c.tc : Thread Cert.Reference25Ideal.nD Cert.Reference25Ideal.τ).loc Cert.Reference25Ideal.main_arg10)
          ∧ r.2.mem ((c.tc : Thread Cert.Reference25Ideal.nD Cert.Reference25Ideal.τ).loc Cert.Reference25Ideal.main_arg11) = m' ((c.tc : Thread Cert.Reference25Ideal.nD Cert.Reference25Ideal.τ).loc Cert.Reference25Ideal.main_arg11))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)
      ∧ m' ((c.tc : Thread Cert.Reference26Ideal.nD Cert.Reference26Ideal.τ).loc Cert.Reference26Ideal.main_arg10) = m ((c.tc : Thread Cert.Kernel26Ideal.nD Cert.Kernel26Ideal.τ).loc Cert.Kernel26Ideal.main_arg10)
      ∧ m' ((c.tc : Thread Cert.Reference26Ideal.nD Cert.Reference26Ideal.τ).loc Cert.Reference26Ideal.main_arg11) = m ((c.tc : Thread Cert.Kernel26Ideal.nD Cert.Kernel26Ideal.τ).loc Cert.Kernel26Ideal.main_arg11)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)) (v4 : (c : Dev Cert.Kernel26Ideal.nD) → Buf (Elt Ideal) ((c.tc : Thread Cert.Kernel26Ideal.nD Cert.Kernel26Ideal.τ).loc Cert.Kernel26Ideal.main_v0_4)) (v5 : (c : Dev Cert.Kernel26Ideal.nD) → Buf (Elt Ideal) ((c.tc : Thread Cert.Kernel26Ideal.nD Cert.Kernel26Ideal.τ).loc Cert.Kernel26Ideal.main_v0_5)) (v6 : (c : Dev Cert.Kernel26Ideal.nD) → Buf (Elt Ideal) ((c.tc : Thread Cert.Kernel26Ideal.nD Cert.Kernel26Ideal.τ).loc Cert.Kernel26Ideal.main_v0_6)) (v7 : (c : Dev Cert.Kernel26Ideal.nD) → Buf (Elt Ideal) ((c.tc : Thread Cert.Kernel26Ideal.nD Cert.Kernel26Ideal.τ).loc Cert.Kernel26Ideal.main_v0_7)) (v8 : (c : Dev Cert.Kernel26Ideal.nD) → Buf (Elt Ideal) ((c.tc : Thread Cert.Kernel26Ideal.nD Cert.Kernel26Ideal.τ).loc Cert.Kernel26Ideal.main_v0_8)) (v9 : (c : Dev Cert.Kernel26Ideal.nD) → Buf (Elt Ideal) ((c.tc : Thread Cert.Kernel26Ideal.nD Cert.Kernel26Ideal.τ).loc Cert.Kernel26Ideal.main_v0_9)) (v10 : (c : Dev Cert.Kernel26Ideal.nD) → Buf (Elt Ideal) ((c.tc : Thread Cert.Kernel26Ideal.nD Cert.Kernel26Ideal.τ).loc Cert.Kernel26Ideal.main_v0_10)) (v11 : (c : Dev Cert.Kernel26Ideal.nD) → Buf (Elt Ideal) ((c.tc : Thread Cert.Kernel26Ideal.nD Cert.Kernel26Ideal.τ).loc Cert.Kernel26Ideal.main_v0_11)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_v0_4) = v4 c
          ∧ r.2.mem ((c.tc : Thread Cert.Kernel26Ideal.nD Cert.Kernel26Ideal.τ).loc Cert.Kernel26Ideal.main_v0_5) = v5 c
          ∧ r.2.mem ((c.tc : Thread Cert.Kernel26Ideal.nD Cert.Kernel26Ideal.τ).loc Cert.Kernel26Ideal.main_v0_6) = v6 c
          ∧ r.2.mem ((c.tc : Thread Cert.Kernel26Ideal.nD Cert.Kernel26Ideal.τ).loc Cert.Kernel26Ideal.main_v0_7) = v7 c
          ∧ r.2.mem ((c.tc : Thread Cert.Kernel26Ideal.nD Cert.Kernel26Ideal.τ).loc Cert.Kernel26Ideal.main_v0_8) = v8 c
          ∧ r.2.mem ((c.tc : Thread Cert.Kernel26Ideal.nD Cert.Kernel26Ideal.τ).loc Cert.Kernel26Ideal.main_v0_9) = v9 c
          ∧ r.2.mem ((c.tc : Thread Cert.Kernel26Ideal.nD Cert.Kernel26Ideal.τ).loc Cert.Kernel26Ideal.main_v0_10) = v10 c
          ∧ r.2.mem ((c.tc : Thread Cert.Kernel26Ideal.nD Cert.Kernel26Ideal.τ).loc Cert.Kernel26Ideal.main_v0_11) = v11 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
          ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
          ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg3) = v0 c
          ∧ r.2.mem ((c.tc : Thread Cert.Reference26Ideal.nD Cert.Reference26Ideal.τ).loc Cert.Reference26Ideal.main_arg4) = v1 c
          ∧ r.2.mem ((c.tc : Thread Cert.Reference26Ideal.nD Cert.Reference26Ideal.τ).loc Cert.Reference26Ideal.main_arg5) = v2 c
          ∧ r.2.mem ((c.tc : Thread Cert.Reference26Ideal.nD Cert.Reference26Ideal.τ).loc Cert.Reference26Ideal.main_v23) = v3 c
          ∧ r.2.mem ((c.tc : Thread Cert.Reference26Ideal.nD Cert.Reference26Ideal.τ).loc Cert.Reference26Ideal.main_v47) = v4 c
          ∧ r.2.mem ((c.tc : Thread Cert.Reference26Ideal.nD Cert.Reference26Ideal.τ).loc Cert.Reference26Ideal.main_v71) = v5 c
          ∧ r.2.mem ((c.tc : Thread Cert.Reference26Ideal.nD Cert.Reference26Ideal.τ).loc Cert.Reference26Ideal.main_v4) = v6 c
          ∧ r.2.mem ((c.tc : Thread Cert.Reference26Ideal.nD Cert.Reference26Ideal.τ).loc Cert.Reference26Ideal.main_v28) = v7 c
          ∧ r.2.mem ((c.tc : Thread Cert.Reference26Ideal.nD Cert.Reference26Ideal.τ).loc Cert.Reference26Ideal.main_v52) = v8 c
          ∧ r.2.mem ((c.tc : Thread Cert.Reference26Ideal.nD Cert.Reference26Ideal.τ).loc Cert.Reference26Ideal.main_v10) = v9 c
          ∧ r.2.mem ((c.tc : Thread Cert.Reference26Ideal.nD Cert.Reference26Ideal.τ).loc Cert.Reference26Ideal.main_v34) = v10 c
          ∧ r.2.mem ((c.tc : Thread Cert.Reference26Ideal.nD Cert.Reference26Ideal.τ).loc Cert.Reference26Ideal.main_v58) = v11 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9)
          ∧ r.2.mem ((c.tc : Thread Cert.Reference26Ideal.nD Cert.Reference26Ideal.τ).loc Cert.Reference26Ideal.main_arg10) = m' ((c.tc : Thread Cert.Reference26Ideal.nD Cert.Reference26Ideal.τ).loc Cert.Reference26Ideal.main_arg10)
          ∧ r.2.mem ((c.tc : Thread Cert.Reference26Ideal.nD Cert.Reference26Ideal.τ).loc Cert.Reference26Ideal.main_arg11) = m' ((c.tc : Thread Cert.Reference26Ideal.nD Cert.Reference26Ideal.τ).loc Cert.Reference26Ideal.main_arg11))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)
      ∧ m' ((c.tc : Thread Cert.Reference27Ideal.nD Cert.Reference27Ideal.τ).loc Cert.Reference27Ideal.main_arg9) = m ((c.tc : Thread Cert.Kernel27Ideal.nD Cert.Kernel27Ideal.τ).loc Cert.Kernel27Ideal.main_arg9)
      ∧ m' ((c.tc : Thread Cert.Reference27Ideal.nD Cert.Reference27Ideal.τ).loc Cert.Reference27Ideal.main_arg10) = m ((c.tc : Thread Cert.Kernel27Ideal.nD Cert.Kernel27Ideal.τ).loc Cert.Kernel27Ideal.main_arg10)
      ∧ m' ((c.tc : Thread Cert.Reference27Ideal.nD Cert.Reference27Ideal.τ).loc Cert.Reference27Ideal.main_arg11) = m ((c.tc : Thread Cert.Kernel27Ideal.nD Cert.Kernel27Ideal.τ).loc Cert.Kernel27Ideal.main_arg11)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)) (v4 : (c : Dev Cert.Kernel27Ideal.nD) → Buf (Elt Ideal) ((c.tc : Thread Cert.Kernel27Ideal.nD Cert.Kernel27Ideal.τ).loc Cert.Kernel27Ideal.main_v0_4)) (v5 : (c : Dev Cert.Kernel27Ideal.nD) → Buf (Elt Ideal) ((c.tc : Thread Cert.Kernel27Ideal.nD Cert.Kernel27Ideal.τ).loc Cert.Kernel27Ideal.main_v0_5)) (v6 : (c : Dev Cert.Kernel27Ideal.nD) → Buf (Elt Ideal) ((c.tc : Thread Cert.Kernel27Ideal.nD Cert.Kernel27Ideal.τ).loc Cert.Kernel27Ideal.main_v0_6)) (v7 : (c : Dev Cert.Kernel27Ideal.nD) → Buf (Elt Ideal) ((c.tc : Thread Cert.Kernel27Ideal.nD Cert.Kernel27Ideal.τ).loc Cert.Kernel27Ideal.main_v0_7)) (v8 : (c : Dev Cert.Kernel27Ideal.nD) → Buf (Elt Ideal) ((c.tc : Thread Cert.Kernel27Ideal.nD Cert.Kernel27Ideal.τ).loc Cert.Kernel27Ideal.main_v0_8)) (v9 : (c : Dev Cert.Kernel27Ideal.nD) → Buf (Elt Ideal) ((c.tc : Thread Cert.Kernel27Ideal.nD Cert.Kernel27Ideal.τ).loc Cert.Kernel27Ideal.main_v0_9)) (v10 : (c : Dev Cert.Kernel27Ideal.nD) → Buf (Elt Ideal) ((c.tc : Thread Cert.Kernel27Ideal.nD Cert.Kernel27Ideal.τ).loc Cert.Kernel27Ideal.main_v0_10)) (v11 : (c : Dev Cert.Kernel27Ideal.nD) → Buf (Elt Ideal) ((c.tc : Thread Cert.Kernel27Ideal.nD Cert.Kernel27Ideal.τ).loc Cert.Kernel27Ideal.main_v0_11)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_v0_4) = v4 c
          ∧ r.2.mem ((c.tc : Thread Cert.Kernel27Ideal.nD Cert.Kernel27Ideal.τ).loc Cert.Kernel27Ideal.main_v0_5) = v5 c
          ∧ r.2.mem ((c.tc : Thread Cert.Kernel27Ideal.nD Cert.Kernel27Ideal.τ).loc Cert.Kernel27Ideal.main_v0_6) = v6 c
          ∧ r.2.mem ((c.tc : Thread Cert.Kernel27Ideal.nD Cert.Kernel27Ideal.τ).loc Cert.Kernel27Ideal.main_v0_7) = v7 c
          ∧ r.2.mem ((c.tc : Thread Cert.Kernel27Ideal.nD Cert.Kernel27Ideal.τ).loc Cert.Kernel27Ideal.main_v0_8) = v8 c
          ∧ r.2.mem ((c.tc : Thread Cert.Kernel27Ideal.nD Cert.Kernel27Ideal.τ).loc Cert.Kernel27Ideal.main_v0_9) = v9 c
          ∧ r.2.mem ((c.tc : Thread Cert.Kernel27Ideal.nD Cert.Kernel27Ideal.τ).loc Cert.Kernel27Ideal.main_v0_10) = v10 c
          ∧ r.2.mem ((c.tc : Thread Cert.Kernel27Ideal.nD Cert.Kernel27Ideal.τ).loc Cert.Kernel27Ideal.main_v0_11) = v11 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
          ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
          ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
          ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg3) = v0 c
          ∧ r.2.mem ((c.tc : Thread Cert.Reference27Ideal.nD Cert.Reference27Ideal.τ).loc Cert.Reference27Ideal.main_arg4) = v1 c
          ∧ r.2.mem ((c.tc : Thread Cert.Reference27Ideal.nD Cert.Reference27Ideal.τ).loc Cert.Reference27Ideal.main_arg5) = v2 c
          ∧ r.2.mem ((c.tc : Thread Cert.Reference27Ideal.nD Cert.Reference27Ideal.τ).loc Cert.Reference27Ideal.main_v23) = v3 c
          ∧ r.2.mem ((c.tc : Thread Cert.Reference27Ideal.nD Cert.Reference27Ideal.τ).loc Cert.Reference27Ideal.main_v47) = v4 c
          ∧ r.2.mem ((c.tc : Thread Cert.Reference27Ideal.nD Cert.Reference27Ideal.τ).loc Cert.Reference27Ideal.main_v71) = v5 c
          ∧ r.2.mem ((c.tc : Thread Cert.Reference27Ideal.nD Cert.Reference27Ideal.τ).loc Cert.Reference27Ideal.main_v4) = v6 c
          ∧ r.2.mem ((c.tc : Thread Cert.Reference27Ideal.nD Cert.Reference27Ideal.τ).loc Cert.Reference27Ideal.main_v28) = v7 c
          ∧ r.2.mem ((c.tc : Thread Cert.Reference27Ideal.nD Cert.Reference27Ideal.τ).loc Cert.Reference27Ideal.main_v52) = v8 c
          ∧ r.2.mem ((c.tc : Thread Cert.Reference27Ideal.nD Cert.Reference27Ideal.τ).loc Cert.Reference27Ideal.main_v10) = v9 c
          ∧ r.2.mem ((c.tc : Thread Cert.Reference27Ideal.nD Cert.Reference27Ideal.τ).loc Cert.Reference27Ideal.main_v34) = v10 c
          ∧ r.2.mem ((c.tc : Thread Cert.Reference27Ideal.nD Cert.Reference27Ideal.τ).loc Cert.Reference27Ideal.main_v58) = v11 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8)
          ∧ r.2.mem ((c.tc : Thread Cert.Reference27Ideal.nD Cert.Reference27Ideal.τ).loc Cert.Reference27Ideal.main_arg9) = m' ((c.tc : Thread Cert.Reference27Ideal.nD Cert.Reference27Ideal.τ).loc Cert.Reference27Ideal.main_arg9)
          ∧ r.2.mem ((c.tc : Thread Cert.Reference27Ideal.nD Cert.Reference27Ideal.τ).loc Cert.Reference27Ideal.main_arg10) = m' ((c.tc : Thread Cert.Reference27Ideal.nD Cert.Reference27Ideal.τ).loc Cert.Reference27Ideal.main_arg10)
          ∧ r.2.mem ((c.tc : Thread Cert.Reference27Ideal.nD Cert.Reference27Ideal.τ).loc Cert.Reference27Ideal.main_arg11) = m' ((c.tc : Thread Cert.Reference27Ideal.nD Cert.Reference27Ideal.τ).loc Cert.Reference27Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hKernel11 : Cert.Kernel11.Facts) (hKernel11Ideal : Cert.Kernel11Ideal.Facts) (hKernel12 : Cert.Kernel12.Facts) (hKernel12Ideal : Cert.Kernel12Ideal.Facts) (hKernel13 : Cert.Kernel13.Facts) (hKernel13Ideal : Cert.Kernel13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite2 : Cert.Pre_finite2.Facts) (hPre_finite3 : Cert.Pre_finite3.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ preserves_Kernel12_Kernel12Ideal
    ∧ preserves_Kernel13_Kernel13Ideal
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bitsLt_bf16_f32 : FTy.bits .bf16 < FTy.bits .f32
  bcast_S_S2048x2816 : S_.BroadcastsInDim S2048x2816 (![] : Fin 0 → Fin S2048x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x2816 .bf16) (main_arg2 : FVec F S2048x2816 .bf16) (main_arg3 : FVec F S2816x1024 .bf16) : IVec S2048x1024 1 × IVec S2048x2816 1 × IVec S2048x2816 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x2816 .f32 := (extf .f32 · bitsLt_bf16_f32) main_arg1
  let main_v4 : FVec F S2048x2816 .f32 := Host.absf main_v3
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_v7 : FVec F S2048x2816 .f32 := (extf .f32 · bitsLt_bf16_f32) main_arg2
  let main_v8 : FVec F S2048x2816 .f32 := Host.absf main_v7
  let main_cst_1 : FVec F S_ .f32 := constant S_ .f32 0x7F800000#32
  let main_v9 : FVec F S2048x2816 .f32 := broadcastInDim S2048x2816 ![] bcast_S_S2048x2816 main_cst_1
  let main_v10 : IVec S2048x2816 1 := cmpf .olt main_v8 main_v9
  let main_v11 : FVec F S2816x1024 .f32 := (extf .f32 · bitsLt_bf16_f32) main_arg3
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  (main_v2, main_v6, main_v10, main_v14)
-- ==== Pre_finite2.lean ====
abbrev S2048x2816 : Shape := ⟨2, ![2048, 2816]⟩
abbrev S2048x1024 : Shape := ⟨2, ![2048, 1024]⟩
abbrev S1024 : Shape := ⟨1, ![1024]⟩
abbrev S1024x2816 : Shape := ⟨2, ![1024, 2816]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)
  bcast_S_S2048x1024 : S_.BroadcastsInDim S2048x1024 (![] : Fin 0 → Fin S2048x1024.rank)
  bcast_S_S1024 : S_.BroadcastsInDim S1024 (![] : Fin 0 → Fin S1024.rank)
  bcast_S_S1024x2816 : S_.BroadcastsInDim S1024x2816 (![] : Fin 0 → Fin S1024x2816.rank)

variable [Facts]

def fn_part1 {F : FTy → Type} [FloatOps F] (main_v3 : IVec S2048x2816 1) (main_v7 : IVec S2048x2816 1) (main_v10 : IVec S2048x1024 1) (main_v13 : IVec S1024 1) (main_v16 : IVec S1024x2816 1) (main_v17 : FVec F S1024x2816 .f32) (main_cst_4 : FVec F S_ .f32) : IVec S2048x2816 1 × IVec S2048x2816 1 × IVec S2048x1024 1 × IVec S1024 1 × IVec S1024x2816 1 × IVec S1024x2816 1 :=
  let main_v18 : FVec F S1024x2816 .f32 := broadcastInDim S1024x2816 ![] bcast_S_S1024x2816 main_cst_4
  let main_v19 : IVec S1024x2816 1 := cmpf .olt main_v17 main_v18
  (main_v3, main_v7, main_v10, main_v13, main_v16, main_v19)

def fn {F : FTy → Type} [FloatOps F] (main_arg0 : FVec F S2048x2816 .bf16) (main_arg1 : FVec F S2048x2816 .bf16) (main_arg2 : FVec F S2048x1024 .f32) (main_arg3 : FVec F S2048x1024 .f32) (main_arg4 : FVec F S1024 .f32) (main_arg5 : FVec F S1024x2816 .f32) (main_arg6 : FVec F S1024x2816 .f32) : IVec S2048x2816 1 × IVec S2048x2816 1 × IVec S2048x1024 1 × IVec S1024 1 × IVec S1024x2816 1 × IVec S1024x2816 1 :=
  let main_v0 : FVec F S2048x2816 .f32 := (extf .f32 · bitsLt_bf16_f32) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_v4 : FVec F S2048x2816 .f32 := (extf .f32 · bitsLt_bf16_f32) main_arg1
  let main_v5 : FVec F S2048x2816 .f32 := Host.absf main_v4
  let main_cst_0 : FVec F S_ .f32 := constant S_ .f32 0x7F800000#32
  let main_v6 : FVec F S2048x2816 .f32 := broadcastInDim S2048x2816 ![] bcast_S_S2048x2816 main_cst_0
  let main_v7 : IVec S2048x2816 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1024 .f32 := Host.absf main_arg4
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1024x2816 .f32 := Host.absf main_arg5
  let main_cst_3 : FVec F S_ .f32 := constant S_ .f32 0x7F800000#32
  let main_v15 : FVec F S1024x2816 .f32 := broadcastInDim S1024x2816 ![] bcast_S_S1024x2816 main_cst_3
  let main_v16 : IVec S1024x2816 1 := cmpf .olt main_v14 main_v15
  let main_v17 : FVec F S1024x2816 .f32 := Host.absf main_arg6
  let main_cst_4 : FVec F S_ .f32 := constant S_ .f32 0x7F800000#32
  fn_part1 (F := F) main_v3 main_v7 main_v10 main_v13 main_v16 main_v17 main_cst_4
-- ==== Pre_finite3.lean ====
abbrev S2048x1024 : Shape := ⟨2, ![2048, 1024]⟩
abbrev S2048x256 : Shape := ⟨2, ![2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_arg7 : FVec F S1024 .f32) (main_arg8 : FVec F S1024 .f32) (main_v2 : IVec S2048x1024 1) (main_v5 : IVec S2048x256 1) (main_v8 : IVec S2048x1024 1) (main_v11 : IVec S1024 1) (main_v14 : IVec S1024x1024 1) (main_v17 : IVec S1024 1) : IVec S2048x1024 1 × IVec S2048x256 1 × IVec S2048x1024 1 × IVec S1024 1 × IVec S1024x1024 1 × IVec S1024 1 × IVec S256x1024 1 × IVec S1024 1 × IVec S1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  (main_v2, main_v5, main_v8, main_v11, main_v14, main_v17, main_v20, main_v23, main_v26)

def fn {F : FTy → Type} [FloatOps F] (main_arg0 : FVec F S2048x1024 .f32) (main_arg1 : FVec F S2048x256 .f32) (main_arg2 : FVec F S2048x1024 .f32) (main_arg3 : FVec F S1024 .f32) (main_arg4 : FVec F S1024x1024 .f32) (main_arg5 : FVec F S1024 .f32) (main_arg6 : FVec F S256x1024 .f32) (main_arg7 : FVec F S1024 .f32) (main_arg8 : FVec F S1024 .f32) : IVec S2048x1024 1 × IVec S2048x256 1 × IVec S2048x1024 1 × IVec S1024 1 × IVec S1024x1024 1 × IVec S1024 1 × IVec S256x1024 1 × IVec S1024 1 × IVec S1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_v2 main_v5 main_v8 main_v11 main_v14 main_v17
-- ==== Pre_finite5.lean ====
abbrev S2048x2048 : Shape := ⟨2, ![2048, 2048]⟩
abbrev S2048x512 : Shape := ⟨2, ![2048, 512]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x512 : S_.BroadcastsInDim S2048x512 (![] : Fin 0 → Fin S2048x512.rank)

variable [Facts]

def fn {F : FTy → Type} [FloatOps F] (main_arg0 : FVec F S2048x2048 .bf16) (main_arg1 : FVec F S2048x2048 .bf16) (main_arg2 : FVec F S2048x2048 .bf16) (main_arg3 : FVec F S2048x2048 .bf16) (main_arg4 : FVec F S2048x512 .f32) (main_arg5 : FVec F S2048x512 .bf16) : IVec S2048x2048 1 × IVec S2048x512 1 :=
  let main_v0 : FVec F S2048x2048 .f32 := (extf .f32 · bitsLt_bf16_f32) main_arg3
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x512 .f32 := (extf .f32 · bitsLt_bf16_f32) main_arg5
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  (main_v3, main_v7)
-- ==== Pre_finite6.lean ====
abbrev S2048x512 : Shape := ⟨2, ![2048, 512]⟩
abbrev S2048x1024 : Shape := ⟨2, ![2048, 1024]⟩
abbrev S1024 : Shape := ⟨1, ![1024]⟩
abbrev S1024x3584 : Shape := ⟨2, ![1024, 3584]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S2048x1024 : S_.BroadcastsInDim S2048x1024 (![] : Fin 0 → Fin S2048x1024.rank)
  bcast_S_S1024 : S_.BroadcastsInDim S1024 (![] : Fin 0 → Fin S1024.rank)
  bcast_S_S1024x3584 : S_.BroadcastsInDim S1024x3584 (![] : Fin 0 → Fin S1024x3584.rank)

variable [Facts]

def fn_part1 {F : FTy → Type} [FloatOps F] (main_arg6 : FVec F S1024 .f32) (main_arg7 : FVec F S1024x3584 .f32) (main_v3 : IVec S2048x512 1) (main_v7 : IVec S2048x1024 1) (main_v11 : IVec S2048x1024 1) (main_v15 : IVec S2048x1024 1) (main_v18 : IVec S2048x1024 1) : IVec S2048x512 1 × IVec S2048x1024 1 × IVec S2048x1024 1 × IVec S2048x1024 1 × IVec S2048x1024 1 × IVec S1024 1 × IVec S1024x3584 1 :=
  let main_v19 : FVec F S1024 .f32 := Host.absf main_arg6
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  let main_v22 : FVec F S1024x3584 .f32 := Host.absf main_arg7
  let main_cst_5 : FVec F S_ .f32 := constant S_ .f32 0x7F800000#32
  let main_v23 : FVec F S1024x3584 .f32 := broadcastInDim S1024x3584 ![] bcast_S_S1024x3584 main_cst_5
  let main_v24 : IVec S1024x3584 1 := cmpf .olt main_v22 main_v23
  (main_v3, main_v7, main_v11, main_v15, main_v18, main_v21, main_v24)

def fn {F : FTy → Type} [FloatOps F] (main_arg0 : FVec F S2048x512 .bf16) (main_arg1 : FVec F S2048x1024 .bf16) (main_arg2 : FVec F S2048x1024 .bf16) (main_arg3 : FVec F S2048x1024 .bf16) (main_arg4 : FVec F S2048x1024 .f32) (main_arg5 : FVec F S2048x1024 .f32) (main_arg6 : FVec F S1024 .f32) (main_arg7 : FVec F S1024x3584 .f32) : IVec S2048x512 1 × IVec S2048x1024 1 × IVec S2048x1024 1 × IVec S2048x1024 1 × IVec S2048x1024 1 × IVec S1024 1 × IVec S1024x3584 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  let main_v16 : FVec F S2048x1024 .f32 := Host.absf main_arg4
  let main_cst_3 : FVec F S_ .f32 := constant S_ .f32 0x7F800000#32
  let main_v17 : FVec F S2048x1024 .f32 := broadcastInDim S2048x1024 ![] bcast_S_S2048x1024 main_cst_3
  let main_v18 : IVec S2048x1024 1 := cmpf .olt main_v16 main_v17
  fn_part1 (F := F) main_arg6 main_arg7 main_v3 main_v7 main_v11 main_v15 main_v18
-- ==== Kernel.lean ====
abbrev S2048x1024 : Shape := ⟨2, ![2048, 1024]⟩
abbrev S2048x2816 : Shape := ⟨2, ![2048, 2816]⟩
abbrev S2816x1024 : Shape := ⟨2, ![2816, 1024]⟩
abbrev S256x1024 : Shape := ⟨2, ![256, 1024]⟩
abbrev S256x2816 : Shape := ⟨2, ![256, 2816]⟩

abbrev nBuf : Space → Nat
  | .hbm => 7
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2048x2816, .bf16⟩
  | .hbm, ⟨3, _⟩ => ⟨S2816x1024, .bf16⟩
  | .hbm, ⟨4, _⟩ => ⟨S2048x2816, .bf16⟩
  | .hbm, ⟨5, _⟩ => ⟨S2048x2816, .bf16⟩
  | .hbm, ⟨6, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2048x2816, .bf16⟩
  | .hbm, ⟨3, _⟩ => ⟨S2816x1024, .bf16⟩
  | .hbm, ⟨4, _⟩ => ⟨S2048x2816, .f32⟩
  | .hbm, ⟨5, _⟩ => ⟨S2048x2816, .f32⟩
  | .hbm, ⟨6, _⟩ => ⟨S2816x1024, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x1024, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .bf16⟩
  | .hbm, ⟨40, _⟩ => ⟨S2048x2816, .bf16⟩
  | .hbm, ⟨41, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_v5_2 : Ref sig .tc := ⟨.hbm, 24, rfl⟩
abbrev main_call1_cst_1 : Ref sig .tc := ⟨.hbm, 25, rfl⟩
abbrev main_call1_v6 : Ref sig .tc := ⟨.hbm, 26, rfl⟩
abbrev main_call1_v7 : Ref sig .tc := ⟨.hbm, 27, rfl⟩
abbrev main_v5_1 : Ref sig .tc := ⟨.hbm, 28, rfl⟩
abbrev main_v5_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩

abbrev nD : Nat := 1
abbrev τ : Topo := Topo.v7x

variable {F : FTy → Type} [FloatOps F]
-- ==== Kernel2.lean ====
abbrev S2048x2816 : Shape := ⟨2, ![2048, 2816]⟩
abbrev S2048x1024 : Shape := ⟨2, ![2048, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S8x1024 : Shape := ⟨2, ![8, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2048x1024, .f32⟩
  | .hbm, ⟨13, _⟩ => ⟨S2048x1024, .bf16⟩
  | .hbm, ⟨14, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S2048x2816 : Shape := ⟨2, ![2048, 2816]⟩
abbrev S2048x1024 : Shape := ⟨2, ![2048, 1024]⟩
abbrev S1024 : Shape := ⟨1, ![1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x1024, .bf16⟩
  | .hbm, ⟨77, _⟩ => ⟨S1x1024, .f32⟩
  | .hbm, ⟨78, _⟩ => ⟨S_, .f32⟩
  | .hbm, ⟨79, _⟩ => ⟨S7x1024, .f32⟩
  | .hbm, ⟨80, _⟩ => ⟨S8x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Kernel3.lean ====
abbrev S2048x1024 : Shape := ⟨2, ![2048, 1024]⟩
abbrev S2048x256 : Shape := ⟨2, ![2048, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S8x128 : Shape := ⟨2, ![8, 128]⟩
abbrev S8x1024 : Shape := ⟨2, ![8, 1024]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 21
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S1024x256, .f32⟩
  | .hbm, ⟨13, _⟩ => ⟨S1024x256, .bf16⟩
  | .hbm, ⟨14, _⟩ => ⟨S1x1024, .f32⟩
  | .hbm, ⟨15, _⟩ => ⟨S1x1024, .f32⟩
  | .hbm, ⟨16, _⟩ => ⟨S2048x1024, .f32⟩
  | .hbm, ⟨17, _⟩ => ⟨S8x128, .f32⟩
  | .hbm, ⟨18, _⟩ => ⟨S1024x1024, .bf16⟩
  | .hbm, ⟨19, _⟩ => ⟨S1024x256, .bf16⟩
  | .hbm, ⟨20, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x256, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S8x128, .f32⟩
  | .local _ .vmem, ⟨15, _⟩ => ⟨S1024x1024, .bf16⟩
  | .local _ .vmem, ⟨16, _⟩ => ⟨S1024x256, .bf16⟩
  | .local _ .vmem, ⟨17, _⟩ => ⟨S8x1024, .f32⟩
  | .local _ .vmem, ⟨18, _⟩ => ⟨S1024x1024, .f32⟩
  | .local _ .vmem, ⟨19, _⟩ => ⟨S1024x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v179 : BitVec 1 := Scalar.cmpi .eq arg0 c7_i32
  let v180 : BitVec 32 := Scalar.extui v179
  let c0_i32_84 : BitVec 32 := 0#32
  let v181 : BitVec 1 := Scalar.cmpi .ne v180 c0_i32_84
  v181

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S2048x1024 : Shape := ⟨2, ![2048, 1024]⟩
abbrev S2048x256 : Shape := ⟨2, ![2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x256 : Shape := ⟨2, ![1024, 256]⟩
abbrev S8x128 : Shape := ⟨2, ![8, 128]⟩
abbrev S4x1024 : Shape := ⟨2, ![4, 1024]⟩
abbrev S8x1024 : Shape := ⟨2, ![8, 1024]⟩

abbrev nBuf : Space → Nat
  | .hbm => 211
  | .vmem => 0
  | .smem => 0
  | _ => 0

abbrev hbmTy0_0 (i : Nat) : BufTy := match i % 128 with
  | 0 => ⟨S2048x1024, .f32⟩
  | 1 => ⟨S2048x256, .f32⟩
  | 2 => ⟨S2048x1024, .f32⟩
  | 3 => ⟨S1024, .f32⟩
  | 4 => ⟨S1024x1024, .f32⟩
  | 5 => ⟨S1024, .f32⟩
  | 6 => ⟨S256x1024, .f32⟩
  | 7 => ⟨S1024, .f32⟩
  | 8 => ⟨S1024, .f32⟩
  | 9 => ⟨S2048x1024, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x1024, .f32⟩
  | 25 => ⟨S2048x1024, .f32⟩
  | 26 => ⟨S1x1024, .f32⟩
  | 27 => ⟨S2048x1024, .f32⟩
  | 28 => ⟨S2048x1024, .f32⟩
  | 29 => ⟨S2048x1024, .f32⟩
  | 30 => ⟨S1x1024, .f32⟩
  | 31 => ⟨S2048x1024, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S2048x1024, .f32⟩
  | 45 => ⟨S2048x1024, .f32⟩
  | 46 => ⟨S2048x1024, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x1024, .f32⟩
  | 62 => ⟨S2048x1024, .f32⟩
  | 63 => ⟨S1x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S_, .f32⟩
  | 70 => ⟨S2048, .f32⟩
  | 71 => ⟨S2048x1, .f32⟩
  | 72 => ⟨S_, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x1, .f32⟩
  | 79 => ⟨S2048x1, .f32⟩
  | 80 => ⟨S_, .f32⟩
  | 81 => ⟨S2048x1, .f32⟩
  | 82 => ⟨S2048x1, .f32⟩
  | 83 => ⟨S2048x1024, .f32⟩
  | 84 => ⟨S2048x1024, .f32⟩
  | 85 => ⟨S1x1024, .f32⟩
  | 86 => ⟨S2048x1024, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S_, .f32⟩
  | 94 => ⟨S2048, .f32⟩
  | 95 => ⟨S_, .f32⟩
  | 96 => ⟨S2048, .f32⟩
  | 97 => ⟨S2048, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S2048, .f32⟩
  | 106 => ⟨S_, .f32⟩
  | 107 => ⟨S2048, .f32⟩
  | 108 => ⟨S2048, .f32⟩
  | 109 => ⟨S2048x1024, .f32⟩
  | 110 => ⟨S2048x1024, .f32⟩
  | 111 => ⟨S2048x1024, .f32⟩
  | 112 => ⟨S_, .f32⟩
  | 113 => ⟨S1024, .f32⟩
  | 114 => ⟨S1x1024, .f32⟩
  | 115 => ⟨S2048x1024, .f32⟩
  | 116 => ⟨S2048x1024, .f32⟩
  | 117 => ⟨S_, .f32⟩
  | 118 => ⟨S1024, .f32⟩
  | 119 => ⟨S2048x1024, .f32⟩
  | 120 => ⟨S_, .f32⟩
  | 121 => ⟨S2048, .f32⟩
  | 122 => ⟨S2048x1, .f32⟩
  | 123 => ⟨S2048x1024, .f32⟩
  | 124 => ⟨S2048x1024, .f32⟩
  | 125 => ⟨S2048x1, .f32⟩
  | 126 => ⟨S_, .f32⟩
  | 127 => ⟨S2048x1, .f32⟩
  | _ => ⟨S2048x1024, .f32⟩

abbrev hbmTy0_1 (i : Nat) : BufTy := match i % 128 with
  | 0 => ⟨S2048x1, .f32⟩
  | 1 => ⟨S_, .f32⟩
  | 2 => ⟨S2048, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S_, .f32⟩
  | 12 => ⟨S1024, .f32⟩
  | 13 => ⟨S1x1024, .f32⟩
  | 14 => ⟨S2048x1024, .f32⟩
  | 15 => ⟨S2048x1024, .f32⟩
  | 16 => ⟨S_, .f32⟩
  | 17 => ⟨S1024, .f32⟩
  | 18 => ⟨S2048x1024, .f32⟩
  | 19 => ⟨S_, .f32⟩
  | 20 => ⟨S2048, .f32⟩
  | 21 => ⟨S2048x1, .f32⟩
  | 22 => ⟨S2048x1024, .f32⟩
  | 23 => ⟨S2048x1024, .f32⟩
  | 24 => ⟨S2048x1, .f32⟩
  | 25 => ⟨S_, .f32⟩
  | 26 => ⟨S2048x1, .f32⟩
  | 27 => ⟨S2048x1, .f32⟩
  | 28 => ⟨S_, .f32⟩
  | 29 => ⟨S2048, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S1024x256, .f32⟩
  | 36 => ⟨S256x1024, .f32⟩
  | 37 => ⟨S2048x1024, .f32⟩
  | 38 => ⟨S_, .f32⟩
  | 39 => ⟨S1024, .f32⟩
  | 40 => ⟨S1x1024, .f32⟩
  | 41 => ⟨S_, .f32⟩
  | 42 => ⟨S1024, .f32⟩
  | 43 => ⟨S1024x1024, .f32⟩
  | 44 => ⟨S1024x1024, .f32⟩
  | 45 => ⟨S2048x1024, .f32⟩
  | 46 => ⟨S2048x1024, .f32⟩
  | 47 => ⟨S_, .f32⟩
  | 48 => ⟨S1024, .f32⟩
  | 49 => ⟨S1x1024, .f32⟩
  | 50 => ⟨S2048x1024, .f32⟩
  | 51 => ⟨S2048x1024, .f32⟩
  | 52 => ⟨S_, .f32⟩
  | 53 => ⟨S1024, .f32⟩
  | 54 => ⟨S2048x1024, .f32⟩
  | 55 => ⟨S_, .f32⟩
  | 56 => ⟨S2048, .f32⟩
  | 57 => ⟨S2048x1, .f32⟩
  | 58 => ⟨S2048x1024, .f32⟩
  | 59 => ⟨S2048x1024, .f32⟩
  | 60 => ⟨S2048x1024, .f32⟩
  | 61 => ⟨S2048x1, .f32⟩
  | 62 => ⟨S_, .f32⟩
  | 63 => ⟨S2048x1, .f32⟩
  | 64 => ⟨S2048x1, .f32⟩
  | 65 => ⟨S_, .f32⟩
  | 66 => ⟨S2048, .f32⟩
  | 67 => ⟨S2048x1024, .f32⟩
  | 68 => ⟨S2048x1024, .f32⟩
  | 69 => ⟨S2048x1024, .f32⟩
  | 70 => ⟨S2048x1024, .f32⟩
  | 71 => ⟨S2048x1024, .f32⟩
  | 72 => ⟨S8x128, .f32⟩
  | 73 => ⟨S1024x1024, .bf16⟩
  | 74 => ⟨S1024x256, .f32⟩
  | 75 => ⟨S1024x256, .bf16⟩
  | 76 => ⟨S1x1024, .f32⟩
  | 77 => ⟨S1x1024, .f32⟩
  | 78 => ⟨S1x1024, .f32⟩
  | 79 => ⟨S1x1024, .f32⟩
  | 80 => ⟨S_, .f32⟩
  | 81 => ⟨S4x1024, .f32⟩
  | 82 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_cst_19 : Ref sig .tc := ⟨.hbm, 102, rfl⟩
abbrev main_cst_20 : Ref sig .tc := ⟨.hbm, 103, rfl⟩
abbrev main_v73 : Ref sig .tc := ⟨.hbm, 104, rfl⟩
abbrev main_v74 : Ref sig .tc := ⟨.hbm, 105, rfl⟩
abbrev main_cst_21 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_22 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_25 : Ref sig .tc := ⟨.hbm, 126, rfl⟩
abbrev main_v91 : Ref sig .tc := ⟨.hbm, 127, rfl⟩
abbrev main_v92 : Ref sig .tc := ⟨.hbm, 128, rfl⟩
abbrev main_cst_26 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_28 : Ref sig .tc := ⟨.hbm, 144, rfl⟩
abbrev main_v106 : Ref sig .tc := ⟨.hbm, 145, rfl⟩
abbrev main_v107 : Ref sig .tc := ⟨.hbm, 146, rfl⟩
abbrev main_cst_29 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_30 : Ref sig .tc := ⟨.hbm, 153, rfl⟩
abbrev main_v113 : Ref sig .tc := ⟨.hbm, 154, rfl⟩
abbrev main_v114 : Ref sig .tc := ⟨.hbm, 155, rfl⟩
abbrev main_cst_31 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_32 : Ref sig .tc := ⟨.hbm, 166, rfl⟩
abbrev main_v124 : Ref sig .tc := ⟨.hbm, 167, rfl⟩
abbrev main_v125 : Ref sig .tc := ⟨.hbm, 168, rfl⟩
abbrev main_cst_33 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_34 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_35 : Ref sig .tc := ⟨.hbm, 180, rfl⟩
abbrev main_v135 : Ref sig .tc := ⟨.hbm, 181, rfl⟩
abbrev main_v136 : Ref sig .tc := ⟨.hbm, 182, rfl⟩
abbrev main_cst_36 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_37 : Ref sig .tc := ⟨.hbm, 190, rfl⟩
abbrev main_v143 : Ref sig .tc := ⟨.hbm, 191, rfl⟩
abbrev main_v144 : Ref sig .tc := ⟨.hbm, 192, rfl⟩
abbrev main_cst_38 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_39 : Ref sig .tc := ⟨.hbm, 208, rfl⟩
abbrev main_v159 : Ref sig .tc := ⟨.hbm, 209, rfl⟩
abbrev main_v160 : Ref sig .tc := ⟨.hbm, 210, rfl⟩

abbrev nD : Nat := 1
abbrev τ : Topo := Topo.v7x

variable {F : FTy → Type} [FloatOps F]
-- ==== Kernel4.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 43
  | .vmem => 33
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S2048x1024, .bf16⟩
  | .hbm, ⟨31, _⟩ => ⟨S2048x1024, .bf16⟩
  | .hbm, ⟨32, _⟩ => ⟨S1024x1024, .bf16⟩
  | .hbm, ⟨33, _⟩ => ⟨S1024x512, .f32⟩
  | .hbm, ⟨34, _⟩ => ⟨S1024x512, .bf16⟩
  | .hbm, ⟨35, _⟩ => ⟨S1024x1024, .bf16⟩
  | .hbm, ⟨36, _⟩ => ⟨S2048x1024, .bf16⟩
  | .hbm, ⟨37, _⟩ => ⟨S2048x1024, .bf16⟩
  | .hbm, ⟨38, _⟩ => ⟨S2048x512, .f32⟩
  | .hbm, ⟨39, _⟩ => ⟨S2048x1024, .f32⟩
  | .hbm, ⟨40, _⟩ => ⟨S1024x1024, .bf16⟩
  | .hbm, ⟨41, _⟩ => ⟨S1024x512, .bf16⟩
  | .hbm, ⟨42, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x512, .bf16⟩
  | .local _ .vmem, ⟨18, _⟩ => ⟨S1024x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x512, .f32⟩
  | .local _ .vmem, ⟨24, _⟩ => ⟨S256x512, .f32⟩
  | .local _ .vmem, ⟨25, _⟩ => ⟨S256x1024, .f32⟩
  | .local _ .vmem, ⟨26, _⟩ => ⟨S256x1024, .f32⟩
  | .local _ .vmem, ⟨27, _⟩ => ⟨S1024x1024, .bf16⟩
  | .local _ .vmem, ⟨28, _⟩ => ⟨S1024x512, .bf16⟩
  | .local _ .vmem, ⟨29, _⟩ => ⟨S1024x1024, .bf16⟩
  | .local _ .vmem, ⟨30, _⟩ => ⟨S1024x1024, .f32⟩
  | .local _ .vmem, ⟨31, _⟩ => ⟨S1024x512, .f32⟩
  | .local _ .vmem, ⟨32, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v24_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v68 : BitVec 1 := Scalar.cmpi .eq arg0 c7_i32
  let v69 : BitVec 32 := Scalar.extui v68
  let c0_i32_49 : BitVec 32 := 0#32
  let v70 : BitVec 1 := Scalar.cmpi .ne v69 c0_i32_49
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference4Ideal.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1024x1024, .f32⟩
  | .hbm, ⟨39, _⟩ => ⟨S1024x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S1024x1024, .f32⟩
  | .hbm, ⟨44, _⟩ => ⟨S1024x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S1024x512, .f32⟩
  | .hbm, ⟨50, _⟩ => ⟨S512x1024, .f32⟩
  | .hbm, ⟨51, _⟩ => ⟨S2048x512, .f32⟩
  | .hbm, ⟨52, _⟩ => ⟨S2048x1024, .f32⟩
  | .hbm, ⟨53, _⟩ => ⟨S2048x1024, .bf16⟩
  | .hbm, ⟨54, _⟩ => ⟨S2048x1024, .bf16⟩
  | .hbm, ⟨55, _⟩ => ⟨S1024x1024, .bf16⟩
  | .hbm, ⟨56, _⟩ => ⟨S1024x512, .f32⟩
  | .hbm, ⟨57, _⟩ => ⟨S1024x512, .bf16⟩
  | .hbm, ⟨58, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel5.lean ====
abbrev S2048x2048 : Shape := ⟨2, ![2048, 2048]⟩
abbrev S2048x512 : Shape := ⟨2, ![2048, 512]⟩
abbrev S16x2048 : Shape := ⟨2, ![16, 2048]⟩
abbrev S64x512 : Shape := ⟨2, ![64, 512]⟩
abbrev S2048x128 : Shape := ⟨2, ![2048, 128]⟩
abbrev S16x512 : Shape := ⟨2, ![16, 512]⟩
abbrev S64x128 : Shape := ⟨2, ![64, 128]⟩
abbrev S128x512 : Shape := ⟨2, ![128, 512]⟩
abbrev S16x128 : Shape := ⟨2, ![16, 128]⟩
abbrev S512x128 : Shape := ⟨2, ![512, 128]⟩

abbrev nBuf : Space → Nat
  | .hbm => 10
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x512, .f32⟩
  | .hbm, ⟨5, _⟩ => ⟨S2048x512, .bf16⟩
  | .hbm, ⟨6, _⟩ => ⟨S16x2048, .bf16⟩
  | .hbm, ⟨7, _⟩ => ⟨S16x2048, .bf16⟩
  | .hbm, ⟨8, _⟩ => ⟨S64x512, .bf16⟩
  | .hbm, ⟨9, _⟩ => ⟨S64x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S64x128, .bf16⟩
  | .local _ .vmem, ⟨17, _⟩ => ⟨S64x128, .bf16⟩
  | .local _ .vmem, ⟨18, _⟩ => ⟨S64x128, .bf16⟩
  | .local _ .vmem, ⟨19, _⟩ => ⟨S64x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2048x2048 : Shape := ⟨2, ![2048, 2048]⟩
abbrev S2048x512 : Shape := ⟨2, ![2048, 512]⟩
abbrev S2048x32x64 : Shape := ⟨3, ![2048, 32, 64]⟩
abbrev S2048x32x16 : Shape := ⟨3, ![2048, 32, 16]⟩
abbrev S_ : Shape := ⟨0, ![]⟩
abbrev S32x64x16 : Shape := ⟨3, ![32, 64, 16]⟩
abbrev S32x16x64 : Shape := ⟨3, ![32, 16, 64]⟩
abbrev S32x64x2048 : Shape := ⟨3, ![32, 64, 2048]⟩
abbrev S32x16x2048 : Shape := ⟨3, ![32, 16, 2048]⟩
abbrev S2048x16 : Shape := ⟨2, ![2048, 16]⟩
abbrev S16x2048 : Shape := ⟨2, ![16, 2048]⟩
abbrev S512x64 : Shape := ⟨2, ![512, 64]⟩
abbrev S64x512 : Shape := ⟨2, ![64, 512]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x512, .f32⟩
  | .hbm, ⟨5, _⟩ => ⟨S2048x512, .bf16⟩
  | .hbm, ⟨6, _⟩ => ⟨S2048x2048, .f32⟩
  | .hbm, ⟨7, _⟩ => ⟨S2048x32x64, .f32⟩
  | .hbm, ⟨8, _⟩ => ⟨S2048x2048, .f32⟩
  | .hbm, ⟨9, _⟩ => ⟨S2048x32x64, .f32⟩
  | .hbm, ⟨10, _⟩ => ⟨S2048x2048, .f32⟩
  | .hbm, ⟨11, _⟩ => ⟨S2048x32x64, .f32⟩
  | .hbm, ⟨12, _⟩ => ⟨S2048x2048, .f32⟩
  | .hbm, ⟨13, _⟩ => ⟨S2048x32x64, .f32⟩
  | .hbm, ⟨14, _⟩ => ⟨S2048x32x16, .f32⟩
  | .hbm, ⟨15, _⟩ => ⟨S2048x512, .f32⟩
  | .hbm, ⟨16, _⟩ => ⟨S2048x32x16, .f32⟩
  | .hbm, ⟨17, _⟩ => ⟨S_, .f32⟩
  | .hbm, ⟨18, _⟩ => ⟨S32x64x16, .f32⟩
  | .hbm, ⟨19, _⟩ => ⟨S_, .f32⟩
  | .hbm, ⟨20, _⟩ => ⟨S32x16x64, .f32⟩
  | .hbm, ⟨21, _⟩ => ⟨S32x64x2048, .f32⟩
  | .hbm, ⟨22, _⟩ => ⟨S2048x32x64, .f32⟩
  | .hbm, ⟨23, _⟩ => ⟨S32x64x2048, .f32⟩
  | .hbm, ⟨24, _⟩ => ⟨S2048x32x64, .f32⟩
  | .hbm, ⟨25, _⟩ => ⟨S32x16x2048, .f32⟩
  | .hbm, ⟨26, _⟩ => ⟨S2048x32x16, .f32⟩
  | .hbm, ⟨27, _⟩ => ⟨S32x16x2048, .f32⟩
  | .hbm, ⟨28, _⟩ => ⟨S2048x32x16, .f32⟩
  | .hbm, ⟨29, _⟩ => ⟨S2048x32x16, .f32⟩
  | .hbm, ⟨30, _⟩ => ⟨S2048x32x16, .f32⟩
  | .hbm, ⟨31, _⟩ => ⟨S32x16x2048, .f32⟩
  | .hbm, ⟨32, _⟩ => ⟨S32x16x64, .f32⟩
  | .hbm, ⟨33, _⟩ => ⟨S32x16x2048, .f32⟩
  | .hbm, ⟨34, _⟩ => ⟨S32x16x64, .f32⟩
  | .hbm, ⟨35, _⟩ => ⟨S32x64x2048, .f32⟩
  | .hbm, ⟨36, _⟩ => ⟨S32x64x16, .f32⟩
  | .hbm, ⟨37, _⟩ => ⟨S32x64x2048, .f32⟩
  | .hbm, ⟨38, _⟩ => ⟨S32x64x16, .f32⟩
  | .hbm, ⟨39, _⟩ => ⟨S2048x16, .f32⟩
  | .hbm, ⟨40, _⟩ => ⟨S16x2048, .f32⟩
  | .hbm, ⟨41, _⟩ => ⟨S16x2048, .bf16⟩
  | .hbm, ⟨42, _⟩ => ⟨S2048x16, .f32⟩
  | .hbm, ⟨43, _⟩ => ⟨S16x2048, .f32⟩
  | .hbm, ⟨44, _⟩ => ⟨S16x2048, .bf16⟩
  | .hbm, ⟨45, _⟩ => ⟨S512x64, .f32⟩
  | .hbm, ⟨46, _⟩ => ⟨S64x512, .f32⟩
  | .hbm, ⟨47, _⟩ => ⟨S64x512, .bf16⟩
  | .hbm, ⟨48, _⟩ => ⟨S32x16x64, .f32⟩
  | .hbm, ⟨49, _⟩ => ⟨S512x64, .f32⟩
  | .hbm, ⟨50, _⟩ => ⟨S64x512, .f32⟩
  | .hbm, ⟨51, _⟩ => ⟨S64x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Kernel6.lean ====
abbrev S2048x512 : Shape := ⟨2, ![2048, 512]⟩
abbrev S2048x1024 : Shape := ⟨2, ![2048, 1024]⟩
abbrev S1024 : Shape := ⟨1, ![1024]⟩
abbrev S1024x3584 : Shape := ⟨2, ![1024, 3584]⟩
abbrev S1x1024 : Shape := ⟨2, ![1, 1024]⟩
abbrev S3584x1024 : Shape := ⟨2, ![3584, 1024]⟩
abbrev S8x1024 : Shape := ⟨2, ![8, 1024]⟩
abbrev S8x3584 : Shape := ⟨2, ![8, 3584]⟩
abbrev S256x512 : Shape := ⟨2, ![256, 512]⟩
abbrev S256x1024 : Shape := ⟨2, ![256, 1024]⟩
abbrev S512x1024 : Shape := ⟨2, ![512, 1024]⟩
abbrev S1x512 : Shape := ⟨2, ![1, 512]⟩
abbrev S512 : Shape := ⟨1, ![512]⟩
abbrev S1024x1024 : Shape := ⟨2, ![1024, 1024]⟩
abbrev S256 : Shape := ⟨1, ![256]⟩
abbrev S256x1 : Shape := ⟨2, ![256, 1]⟩

abbrev nBuf : Space → Nat
  | .hbm => 15
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024x3584, .f32⟩
  | .hbm, ⟨8, _⟩ => ⟨S1x1024, .f32⟩
  | .hbm, ⟨9, _⟩ => ⟨S3584x1024, .f32⟩
  | .hbm, ⟨10, _⟩ => ⟨S3584x1024, .bf16⟩
  | .hbm, ⟨11, _⟩ => ⟨S2048x1024, .f32⟩
  | .hbm, ⟨12, _⟩ => ⟨S2048x1024, .bf16⟩
  | .hbm, ⟨13, _⟩ => ⟨S8x1024, .f32⟩
  | .hbm, ⟨14, _⟩ => ⟨S8x3584, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S3584x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x3584, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3584x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S2048x512 : Shape := ⟨2, ![2048, 512]⟩
abbrev S2048x1024 : Shape := ⟨2, ![2048, 1024]⟩
abbrev S1024 : Shape := ⟨1, ![1024]⟩
abbrev S1024x3584 : Shape := ⟨2, ![1024, 3584]⟩
abbrev S2048x3584 : Shape := ⟨2, ![2048, 3584]⟩
abbrev S_ : Shape := ⟨0, ![]⟩
abbrev S3584 : Shape := ⟨1, ![3584]⟩
abbrev S2048 : Shape := ⟨1, ![2048]⟩
abbrev S2048x1 : Shape := ⟨2, ![2048, 1]⟩
abbrev S1x1024 : Shape := ⟨2, ![1, 1024]⟩
abbrev S1x3584 : Shape := ⟨2, ![1, 3584]⟩
abbrev S7x1024 : Shape := ⟨2, ![7, 1024]⟩
abbrev S8x1024 : Shape := ⟨2, ![8, 1024]⟩
abbrev S7x3584 : Shape := ⟨2, ![7, 3584]⟩
abbrev S8x3584 : Shape := ⟨2, ![8, 3584]⟩

abbrev nBuf : Space → Nat
  | .hbm => 93
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024x3584, .f32⟩
  | .hbm, ⟨8, _⟩ => ⟨S2048x3584, .bf16⟩
  | .hbm, ⟨9, _⟩ => ⟨S2048x3584, .f32⟩
  | .hbm, ⟨10, _⟩ => ⟨S_, .f32⟩
  | .hbm, ⟨11, _⟩ => ⟨S3584, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x3584, .f32⟩
  | .hbm, ⟨33, _⟩ => ⟨S1x3584, .f32⟩
  | .hbm, ⟨34, _⟩ => ⟨S2048x3584, .f32⟩
  | .hbm, ⟨35, _⟩ => ⟨S2048x3584, .f32⟩
  | .hbm, ⟨36, _⟩ => ⟨S_, .f32⟩
  | .hbm, ⟨37, _⟩ => ⟨S3584, .f32⟩
  | .hbm, ⟨38, _⟩ => ⟨S1x3584, .f32⟩
  | .hbm, ⟨39, _⟩ => ⟨S_, .f32⟩
  | .hbm, ⟨40, _⟩ => ⟨S3584, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S2048x1024, .bf16⟩
  | .hbm, ⟨85, _⟩ => ⟨S1x1024, .f32⟩
  | .hbm, ⟨86, _⟩ => ⟨S_, .f32⟩
  | .hbm, ⟨87, _⟩ => ⟨S7x1024, .f32⟩
  | .hbm, ⟨88, _⟩ => ⟨S8x1024, .f32⟩
  | .hbm, ⟨89, _⟩ => ⟨S1x3584, .f32⟩
  | .hbm, ⟨90, _⟩ => ⟨S_, .f32⟩
  | .hbm, ⟨91, _⟩ => ⟨S7x3584, .f32⟩
  | .hbm, ⟨92, _⟩ => ⟨S8x3584, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Kernel7.lean ====
abbrev S2048x512 : Shape := ⟨2, ![2048, 512]⟩
abbrev S2048x1024 : Shape := ⟨2, ![2048, 1024]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S1024x512 : Shape := ⟨2, ![1024, 512]⟩
abbrev S1x1024 : Shape := ⟨2, ![1, 1024]⟩
abbrev S2816x1024 : Shape := ⟨2, ![2816, 1024]⟩
abbrev S2048x2816 : Shape := ⟨2, ![2048, 2816]⟩
abbrev S256x512 : Shape := ⟨2, ![256, 512]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 26
  | .vmem => 28
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S1024x512, .f32⟩
  | .hbm, ⟨12, _⟩ => ⟨S1024x512, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S2816x1024, .f32⟩
  | .hbm, ⟨17, _⟩ => ⟨S2816x1024, .bf16⟩
  | .hbm, ⟨18, _⟩ => ⟨S2816x1024, .f32⟩
  | .hbm, ⟨19, _⟩ => ⟨S2816x1024, .bf16⟩
  | .hbm, ⟨20, _⟩ => ⟨S2048x1024, .f32⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x2816, .bf16⟩
  | .hbm, ⟨25, _⟩ => ⟨S2048x2816, .bf16⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S2816x1024, .bf16⟩
  | .local _ .vmem, ⟨15, _⟩ => ⟨S2816x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S256x2816, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S2048x512 : Shape := ⟨2, ![2048, 512]⟩
abbrev S2048x1024 : Shape := ⟨2, ![2048, 1024]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | .hbm, ⟨51, _⟩ => ⟨S2048x1024, .bf16⟩
  | .hbm, ⟨52, _⟩ => ⟨S2048x1024, .bf16⟩
  | .hbm, ⟨53, _⟩ => ⟨S2048x2816, .f32⟩
  | .hbm, ⟨54, _⟩ => ⟨S2048x2816, .bf16⟩
  | .hbm, ⟨55, _⟩ => ⟨S2048x2816, .f32⟩
  | .hbm, ⟨56, _⟩ => ⟨S2048x2816, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel8.lean ====
abbrev S2048x1024 : Shape := ⟨2, ![2048, 1024]⟩
abbrev S1024 : Shape := ⟨1, ![1024]⟩
abbrev S1024x3584 : Shape := ⟨2, ![1024, 3584]⟩
abbrev S3584 : Shape := ⟨1, ![3584]⟩
abbrev S1x1024 : Shape := ⟨2, ![1, 1024]⟩
abbrev S3584x1024 : Shape := ⟨2, ![3584, 1024]⟩
abbrev S1x3584 : Shape := ⟨2, ![1, 3584]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩
abbrev S1x512 : Shape := ⟨2, ![1, 512]⟩
abbrev S1024x1024 : Shape := ⟨2, ![1024, 1024]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3584, .f32⟩
  | .hbm, ⟨3, _⟩ => ⟨S3584, .f32⟩
  | .hbm, ⟨4, _⟩ => ⟨S1x1024, .f32⟩
  | .hbm, ⟨5, _⟩ => ⟨S3584x1024, .f32⟩
  | .hbm, ⟨6, _⟩ => ⟨S3584x1024, .bf16⟩
  | .hbm, ⟨7, _⟩ => ⟨S1x3584, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3584x1024, .bf16⟩
  | .local _ .vmem, ⟨4, _⟩ => ⟨S1x3584, .f32⟩
  | .local _ .vmem, ⟨5, _⟩ => ⟨S256x512, .f32⟩
  | .local _ .vmem, ⟨6, _⟩ => ⟨S256x512, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S2048x1024 : Shape := ⟨2, ![2048, 1024]⟩
abbrev S1024 : Shape := ⟨1, ![1024]⟩
abbrev S1024x3584 : Shape := ⟨2, ![1024, 3584]⟩
abbrev S3584 : Shape := ⟨1, ![3584]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3584 : Shape := ⟨2, ![2048, 3584]⟩
abbrev S1x3584 : Shape := ⟨2, ![1, 3584]⟩
abbrev S2048x512 : Shape := ⟨2, ![2048, 512]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3584, .f32⟩
  | .hbm, ⟨3, _⟩ => ⟨S3584, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x3584, .f32⟩
  | .hbm, ⟨21, _⟩ => ⟨S1x3584, .f32⟩
  | .hbm, ⟨22, _⟩ => ⟨S2048x3584, .f32⟩
  | .hbm, ⟨23, _⟩ => ⟨S2048x3584, .f32⟩
  | .hbm, ⟨24, _⟩ => ⟨S2048x512, .f32⟩
  | .hbm, ⟨25, _⟩ => ⟨S2048x1024, .f32⟩
  | .hbm, ⟨26, _⟩ => ⟨S2048x1024, .f32⟩
  | .hbm, ⟨27, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel9.lean ====
abbrev S2048x2816 : Shape := ⟨2, ![2048, 2816]⟩
abbrev S2048x1024 : Shape := ⟨2, ![2048, 1024]⟩
abbrev S2816x1024 : Shape := ⟨2, ![2816, 1024]⟩
abbrev S256x2816 : Shape := ⟨2, ![256, 2816]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .f32⟩
  | .hbm, ⟨3, _⟩ => ⟨S2816x1024, .f32⟩
  | .hbm, ⟨4, _⟩ => ⟨S2816x1024, .bf16⟩
  | .hbm, ⟨5, _⟩ => ⟨S2048x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2048x2816 : Shape := ⟨2, ![2048, 2816]⟩
abbrev S2048x1024 : Shape := ⟨2, ![2048, 1024]⟩
abbrev S2816x1024 : Shape := ⟨2, ![2816, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .f32⟩
  | .hbm, ⟨3, _⟩ => ⟨S2816x1024, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x1024, .f32⟩
  | .hbm, ⟨17, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel10.lean ====
abbrev S2048x1024 : Shape := ⟨2, ![2048, 1024]⟩
abbrev S4x1024 : Shape := ⟨2, ![4, 1024]⟩
abbrev S4x256x256 : Shape := ⟨3, ![4, 256, 256]⟩
abbrev S1x1024 : Shape := ⟨2, ![1, 1024]⟩
abbrev S64x1024 : Shape := ⟨2, ![64, 1024]⟩
abbrev S8x1024 : Shape := ⟨2, ![8, 1024]⟩
abbrev S256x1024 : Shape := ⟨2, ![256, 1024]⟩
abbrev S264x1024 : Shape := ⟨2, ![264, 1024]⟩
abbrev S256x256 : Shape := ⟨2, ![256, 256]⟩
abbrev S1x256x256 : Shape := ⟨3, ![1, 256, 256]⟩
abbrev S1024 : Shape := ⟨1, ![1024]⟩
abbrev S64x256 : Shape := ⟨2, ![64, 256]⟩

abbrev nBuf : Space → Nat
  | .hbm => 14
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S4x1024, .f32⟩
  | .hbm, ⟨5, _⟩ => ⟨S4x256x256, .bf16⟩
  | .hbm, ⟨6, _⟩ => ⟨S1x1024, .f32⟩
  | .hbm, ⟨7, _⟩ => ⟨S4x256x256, .bf16⟩
  | .hbm, ⟨8, _⟩ => ⟨S1x1024, .f32⟩
  | .hbm, ⟨9, _⟩ => ⟨S1x1024, .f32⟩
  | .hbm, ⟨10, _⟩ => ⟨S2048x1024, .bf16⟩
  | .hbm, ⟨11, _⟩ => ⟨S64x1024, .bf16⟩
  | .hbm, ⟨12, _⟩ => ⟨S64x1024, .bf16⟩
  | .hbm, ⟨13, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S4x1024, .f32⟩
  | .local _ .vmem, ⟨11, _⟩ => ⟨S4x256x256, .bf16⟩
  | .local _ .vmem, ⟨12, _⟩ => ⟨S1x1024, .f32⟩
  | .local _ .vmem, ⟨13, _⟩ => ⟨S4x256x256, .bf16⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S64x1024, .bf16⟩
  | .local _ .vmem, ⟨19, _⟩ => ⟨S64x1024, .bf16⟩
  | .local _ .vmem, ⟨20, _⟩ => ⟨S8x1024, .f32⟩
  | .local _ .vmem, ⟨21, _⟩ => ⟨S256x1024, .f32⟩
  | .local _ .vmem, ⟨22, _⟩ => ⟨S256x1024, .f32⟩
  | .local _ .vmem, ⟨23, _⟩ => ⟨S264x1024, .f32⟩
  | .local _ .vmem, ⟨24, _⟩ => ⟨S264x1024, .f32⟩
  | .local _ .vmem, ⟨25, _⟩ => ⟨S8x1024, .f32⟩
  | .local _ .vmem, ⟨26, _⟩ => ⟨S4x256x256, .f32⟩
  | .local _ .vmem, ⟨27, _⟩ => ⟨S4x256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_49 : BitVec 32 := 0#32
  let c256_i32 : BitVec 32 := 256#32
  let v82 : BitVec 32 := Scalar.addi c0_i32_49 c256_i32
  let c1_i32 : BitVec 32 := 1#32
  ⟨c0_i32_49, v82, c1_i32⟩
def k0_off1 (k0_t1 : Fin k0_t1_loop.trips) : Fin 2 → Nat :=
  let c255_i32 : BitVec 32 := 255#32
  let c0_i32_49 : BitVec 32 := 0#32
  let c1_i32 : BitVec 32 := 1#32
  let arg23 : BitVec 32 := Scf.iv c0_i32_49 c1_i32 k0_t1
  let v351 : BitVec 32 := Scalar.subi c255_i32 arg23
  let v352 : Index := Scalar.indexCast v351
  let c0_235 : Index := 0#32
  ![v352.toNat, 0]
def k0_cond2 (i : grid0.Coords) : BitVec 1 :=
  let arg0 : BitVec 32 := BitVec.ofNat 32 (i 0).val
  let c7_i32_233 : BitVec 32 := 7#32
  let v348 : BitVec 1 := Scalar.cmpi .eq arg0 c7_i32_233
  let v349 : BitVec 32 := Scalar.extui v348
  let c0_i32_234 : BitVec 32 := 0#32
  let v350 : BitVec 1 := Scalar.cmpi .ne v349 c0_i32_234
  v350

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Kernel11.lean ====
abbrev S2048x512 : Shape := ⟨2, ![2048, 512]⟩
abbrev S2048x2048 : Shape := ⟨2, ![2048, 2048]⟩
abbrev S512x512 : Shape := ⟨2, ![512, 512]⟩
abbrev S1x512 : Shape := ⟨2, ![1, 512]⟩
abbrev S4x512x128 : Shape := ⟨3, ![4, 512, 128]⟩
abbrev S4x128x512 : Shape := ⟨3, ![4, 128, 512]⟩
abbrev S1x2048 : Shape := ⟨2, ![1, 2048]⟩
abbrev S8x512 : Shape := ⟨2, ![8, 512]⟩
abbrev S8x2048 : Shape := ⟨2, ![8, 2048]⟩
abbrev S256x512 : Shape := ⟨2, ![256, 512]⟩
abbrev S256x2048 : Shape := ⟨2, ![256, 2048]⟩
abbrev S264x2048 : Shape := ⟨2, ![264, 2048]⟩
abbrev S512 : Shape := ⟨1, ![512]⟩
abbrev S256x128 : Shape := ⟨2, ![256, 128]⟩
abbrev S1x512x128 : Shape := ⟨3, ![1, 512, 128]⟩
abbrev S512x128 : Shape := ⟨2, ![512, 128]⟩
abbrev S2048 : Shape := ⟨1, ![2048]⟩
abbrev S1x128x512 : Shape := ⟨3, ![1, 128, 512]⟩
abbrev S128x512 : Shape := ⟨2, ![128, 512]⟩
abbrev S1x128 : Shape := ⟨2, ![1, 128]⟩

abbrev nBuf : Space → Nat
  | .hbm => 21
  | .vmem => 35
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x2048, .bf16⟩
  | .hbm, ⟨3, _⟩ => ⟨S2048x2048, .bf16⟩
  | .hbm, ⟨4, _⟩ => ⟨S2048x512, .f32⟩
  | .hbm, ⟨5, _⟩ => ⟨S512x512, .bf16⟩
  | .hbm, ⟨6, _⟩ => ⟨S1x512, .f32⟩
  | .hbm, ⟨7, _⟩ => ⟨S4x512x128, .bf16⟩
  | .hbm, ⟨8, _⟩ => ⟨S4x512x128, .bf16⟩
  | .hbm, ⟨9, _⟩ => ⟨S4x128x512, .bf16⟩
  | .hbm, ⟨10, _⟩ => ⟨S4x128x512, .bf16⟩
  | .hbm, ⟨11, _⟩ => ⟨S1x2048, .f32⟩
  | .hbm, ⟨12, _⟩ => ⟨S1x2048, .f32⟩
  | .hbm, ⟨13, _⟩ => ⟨S1x512, .f32⟩
  | .hbm, ⟨14, _⟩ => ⟨S2048x512, .bf16⟩
  | .hbm, ⟨15, _⟩ => ⟨S2048x2048, .bf16⟩
  | .hbm, ⟨16, _⟩ => ⟨S2048x2048, .bf16⟩
  | .hbm, ⟨17, _⟩ => ⟨S2048x512, .bf16⟩
  | .hbm, ⟨18, _⟩ => ⟨S512x512, .bf16⟩
  | .hbm, ⟨19, _⟩ => ⟨S8x512, .f32⟩
  | .hbm, ⟨20, _⟩ => ⟨S8x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x512, .f32⟩
  | .local _ .vmem, ⟨9, _⟩ => ⟨S256x512, .f32⟩
  | .local _ .vmem, ⟨10, _⟩ => ⟨S512x512, .bf16⟩
  | .local _ .vmem, ⟨11, _⟩ => ⟨S1x512, .f32⟩
  | .local _ .vmem, ⟨12, _⟩ => ⟨S4x512x128, .bf16⟩
  | .local _ .vmem, ⟨13, _⟩ => ⟨S4x512x128, .bf16⟩
  | .local _ .vmem, ⟨14, _⟩ => ⟨S4x128x512, .bf16⟩
  | .local _ .vmem, ⟨15, _⟩ => ⟨S4x128x512, .bf16⟩
  | .local _ .vmem, ⟨16, _⟩ => ⟨S1x2048, .f32⟩
  | .local _ .vmem, ⟨17, _⟩ => ⟨S1x2048, .f32⟩
  | .local _ .vmem, ⟨18, _⟩ => ⟨S1x512, .f32⟩
  | .local _ .vmem, ⟨19, _⟩ => ⟨S256x512, .bf16⟩
  | .local _ .vmem, ⟨20, _⟩ => ⟨S256x512, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x512, .bf16⟩
  | .local _ .vmem, ⟨26, _⟩ => ⟨S256x512, .bf16⟩
  | .local _ .vmem, ⟨27, _⟩ => ⟨S512x512, .bf16⟩
  | .local _ .vmem, ⟨28, _⟩ => ⟨S8x512, .f32⟩
  | .local _ .vmem, ⟨29, _⟩ => ⟨S8x2048, .f32⟩
  | .local _ .vmem, ⟨30, _⟩ => ⟨S264x2048, .f32⟩
  | .local _ .vmem, ⟨31, _⟩ => ⟨S264x2048, .f32⟩
  | .local _ .vmem, ⟨32, _⟩ => ⟨S8x2048, .f32⟩
  | .local _ .vmem, ⟨33, _⟩ => ⟨S8x2048, .f32⟩
  | .local _ .vmem, ⟨34, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_94 : BitVec 32 := 0#32
  let c256_i32 : BitVec 32 := 256#32
  let v143 : BitVec 32 := Scalar.addi c0_i32_94 c256_i32
  let c1_i32 : BitVec 32 := 1#32
  ⟨c0_i32_94, v143, c1_i32⟩
def k0_off1 (k0_t1 : Fin k0_t1_loop.trips) : Fin 2 → Nat :=
  let c255_i32 : BitVec 32 := 255#32
  let c0_i32_94 : BitVec 32 := 0#32
  let c1_i32 : BitVec 32 := 1#32
  let arg27 : BitVec 32 := Scf.iv c0_i32_94 c1_i32 k0_t1
  let v256 : BitVec 32 := Scalar.subi c255_i32 arg27
  let v257 : Index := Scalar.indexCast v256
  let c0_180 : Index := 0#32
  ![v257.toNat, 0]
def k0_cond2 (i : grid0.Coords) : BitVec 1 :=
  let arg0 : BitVec 32 := BitVec.ofNat 32 (i 0).val
  let c7_i32 : BitVec 32 := 7#32
  let v253 : BitVec 1 := Scalar.cmpi .eq arg0 c7_i32
  let v254 : BitVec 32 := Scalar.extui v253
  let c0_i32_179 : BitVec 32 := 0#32
  let v255 : BitVec 1 := Scalar.cmpi .ne v254 c0_i32_179
  v255

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Kernel12.lean ====
abbrev S8x8x1024 : Shape := ⟨3, ![8, 8, 1024]⟩
abbrev S8x8x3584 : Shape := ⟨3, ![8, 8, 3584]⟩
abbrev S8x8x512 : Shape := ⟨3, ![8, 8, 512]⟩
abbrev S8x8x2048 : Shape := ⟨3, ![8, 8, 2048]⟩
abbrev S512x1024 : Shape := ⟨2, ![512, 1024]⟩
abbrev S8x16x2048 : Shape := ⟨3, ![8, 16, 2048]⟩
abbrev S512x512 : Shape := ⟨2, ![512, 512]⟩
abbrev S8x8x128 : Shape := ⟨3, ![8, 8, 128]⟩
abbrev S32x64 : Shape := ⟨2, ![32, 64]⟩
abbrev S32 : Shape := ⟨1, ![32]⟩
abbrev S32x64x16 : Shape := ⟨3, ![32, 64, 16]⟩
abbrev S2048 : Shape := ⟨1, ![2048]⟩
abbrev S1x2048 : Shape := ⟨2, ![1, 2048]⟩
abbrev S2048x1 : Shape := ⟨2, ![2048, 1]⟩
abbrev S2048x16 : Shape := ⟨2, ![2048, 16]⟩
abbrev S8x128 : Shape := ⟨2, ![8, 128]⟩
abbrev S1x1024 : Shape := ⟨2, ![1, 1024]⟩
abbrev S1x3584 : Shape := ⟨2, ![1, 3584]⟩
abbrev S1x512 : Shape := ⟨2, ![1, 512]⟩
abbrev S1024x64 : Shape := ⟨2, ![1024, 64]⟩
abbrev S512x64 : Shape := ⟨2, ![512, 64]⟩
abbrev S32x1 : Shape := ⟨2, ![32, 1]⟩
abbrev S4x1024 : Shape := ⟨2, ![4, 1024]⟩
abbrev S1x8x1024 : Shape := ⟨3, ![1, 8, 1024]⟩
abbrev S1x8x3584 : Shape := ⟨3, ![1, 8, 3584]⟩
abbrev S1x8x512 : Shape := ⟨3, ![1, 8, 512]⟩
abbrev S1x8x2048 : Shape := ⟨3, ![1, 8, 2048]⟩
abbrev S64x1024 : Shape := ⟨2, ![64, 1024]⟩
abbrev S1x16x2048 : Shape := ⟨3, ![1, 16, 2048]⟩
abbrev S64x512 : Shape := ⟨2, ![64, 512]⟩
abbrev S1x8x128 : Shape := ⟨3, ![1, 8, 128]⟩
abbrev S8x1024 : Shape := ⟨2, ![8, 1024]⟩
abbrev S8x3584 : Shape := ⟨2, ![8, 3584]⟩
abbrev S8x512 : Shape := ⟨2, ![8, 512]⟩
abbrev S8x2048 : Shape := ⟨2, ![8, 2048]⟩
abbrev S16x2048 : Shape := ⟨2, ![16, 2048]⟩
abbrev S2048x8 : Shape := ⟨2, ![2048, 8]⟩
abbrev S32x2048 : Shape := ⟨2, ![32, 2048]⟩
abbrev S1x128 : Shape := ⟨2, ![1, 128]⟩
abbrev S2048x128 : Shape := ⟨2, ![2048, 128]⟩
abbrev S32x128 : Shape := ⟨2, ![32, 128]⟩

abbrev nBuf : Space → Nat
  | .hbm => 53
  | .vmem => 71
  | .smem => 0
  | _ => 0

abbrev bufTy : (tb : Table) → Fin (tcTables nBuf tb) → BufTy
  | .hbm, ⟨0, _⟩ => ⟨S8x8x1024, .f32⟩
  | .hbm, ⟨1, _⟩ => ⟨S8x8x1024, .f32⟩
  | .hbm, ⟨2, _⟩ => ⟨S8x8x1024, .f32⟩
  | .hbm, ⟨3, _⟩ => ⟨S8x8x1024, .f32⟩
  | .hbm, ⟨4, _⟩ => ⟨S8x8x3584, .f32⟩
  | .hbm, ⟨5, _⟩ => ⟨S8x8x512, .f32⟩
  | .hbm, ⟨6, _⟩ => ⟨S8x8x2048, .f32⟩
  | .hbm, ⟨7, _⟩ => ⟨S512x1024, .bf16⟩
  | .hbm, ⟨8, _⟩ => ⟨S512x1024, .bf16⟩
  | .hbm, ⟨9, _⟩ => ⟨S8x16x2048, .bf16⟩
  | .hbm, ⟨10, _⟩ => ⟨S8x16x2048, .bf16⟩
  | .hbm, ⟨11, _⟩ => ⟨S512x512, .bf16⟩
  | .hbm, ⟨12, _⟩ => ⟨S512x512, .bf16⟩
  | .hbm, ⟨13, _⟩ => ⟨S8x8x128, .f32⟩
  | .hbm, ⟨14, _⟩ => ⟨S32x64, .f32⟩
  | .hbm, ⟨15, _⟩ => ⟨S32x64, .f32⟩
  | .hbm, ⟨16, _⟩ => ⟨S32, .f32⟩
  | .hbm, ⟨17, _⟩ => ⟨S32x64x16, .f32⟩
  | .hbm, ⟨18, _⟩ => ⟨S32x64x16, .f32⟩
  | .hbm, ⟨19, _⟩ => ⟨S32x64, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x16, .f32⟩
  | .hbm, ⟨28, _⟩ => ⟨S2048x16, .f32⟩
  | .hbm, ⟨29, _⟩ => ⟨S8x128, .f32⟩
  | .hbm, ⟨30, _⟩ => ⟨S1x1024, .f32⟩
  | .hbm, ⟨31, _⟩ => ⟨S1x3584, .f32⟩
  | .hbm, ⟨32, _⟩ => ⟨S1x512, .f32⟩
  | .hbm, ⟨33, _⟩ => ⟨S1x512, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1024x64, .f32⟩
  | .hbm, ⟨44, _⟩ => ⟨S1024x64, .f32⟩
  | .hbm, ⟨45, _⟩ => ⟨S512x64, .f32⟩
  | .hbm, ⟨46, _⟩ => ⟨S512x64, .f32⟩
  | .hbm, ⟨47, _⟩ => ⟨S2048x16, .f32⟩
  | .hbm, ⟨48, _⟩ => ⟨S2048x16, .f32⟩
  | .hbm, ⟨49, _⟩ => ⟨S2048x1, .f32⟩
  | .hbm, ⟨50, _⟩ => ⟨S2048x1, .f32⟩
  | .hbm, ⟨51, _⟩ => ⟨S32x1, .f32⟩
  | .hbm, ⟨52, _⟩ => ⟨S4x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x3584, .f32⟩
  | .local _ .vmem, ⟨9, _⟩ => ⟨S1x8x3584, .f32⟩
  | .local _ .vmem, ⟨10, _⟩ => ⟨S1x8x512, .f32⟩
  | .local _ .vmem, ⟨11, _⟩ => ⟨S1x8x512, .f32⟩
  | .local _ .vmem, ⟨12, _⟩ => ⟨S1x8x2048, .f32⟩
  | .local _ .vmem, ⟨13, _⟩ => ⟨S1x8x2048, .f32⟩
  | .local _ .vmem, ⟨14, _⟩ => ⟨S64x1024, .bf16⟩
  | .local _ .vmem, ⟨15, _⟩ => ⟨S64x1024, .bf16⟩
  | .local _ .vmem, ⟨16, _⟩ => ⟨S64x1024, .bf16⟩
  | .local _ .vmem, ⟨17, _⟩ => ⟨S64x1024, .bf16⟩
  | .local _ .vmem, ⟨18, _⟩ => ⟨S1x16x2048, .bf16⟩
  | .local _ .vmem, ⟨19, _⟩ => ⟨S1x16x2048, .bf16⟩
  | .local _ .vmem, ⟨20, _⟩ => ⟨S1x16x2048, .bf16⟩
  | .local _ .vmem, ⟨21, _⟩ => ⟨S1x16x2048, .bf16⟩
  | .local _ .vmem, ⟨22, _⟩ => ⟨S64x512, .bf16⟩
  | .local _ .vmem, ⟨23, _⟩ => ⟨S64x512, .bf16⟩
  | .local _ .vmem, ⟨24, _⟩ => ⟨S64x512, .bf16⟩
  | .local _ .vmem, ⟨25, _⟩ => ⟨S64x512, .bf16⟩
  | .local _ .vmem, ⟨26, _⟩ => ⟨S1x8x128, .f32⟩
  | .local _ .vmem, ⟨27, _⟩ => ⟨S1x8x128, .f32⟩
  | .local _ .vmem, ⟨28, _⟩ => ⟨S2048x1, .f32⟩
  | .local _ .vmem, ⟨29, _⟩ => ⟨S2048x1, .f32⟩
  | .local _ .vmem, ⟨30, _⟩ => ⟨S2048x1, .f32⟩
  | .local _ .vmem, ⟨31, _⟩ => ⟨S2048x16, .f32⟩
  | .local _ .vmem, ⟨32, _⟩ => ⟨S2048x16, .f32⟩
  | .local _ .vmem, ⟨33, _⟩ => ⟨S8x128, .f32⟩
  | .local _ .vmem, ⟨34, _⟩ => ⟨S1x1024, .f32⟩
  | .local _ .vmem, ⟨35, _⟩ => ⟨S1x3584, .f32⟩
  | .local _ .vmem, ⟨36, _⟩ => ⟨S1x512, .f32⟩
  | .local _ .vmem, ⟨37, _⟩ => ⟨S1x512, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1024x64, .f32⟩
  | .local _ .vmem, ⟨48, _⟩ => ⟨S1024x64, .f32⟩
  | .local _ .vmem, ⟨49, _⟩ => ⟨S512x64, .f32⟩
  | .local _ .vmem, ⟨50, _⟩ => ⟨S512x64, .f32⟩
  | .local _ .vmem, ⟨51, _⟩ => ⟨S2048x16, .f32⟩
  | .local _ .vmem, ⟨52, _⟩ => ⟨S2048x16, .f32⟩
  | .local _ .vmem, ⟨53, _⟩ => ⟨S2048x1, .f32⟩
  | .local _ .vmem, ⟨54, _⟩ => ⟨S2048x1, .f32⟩
  | .local _ .vmem, ⟨55, _⟩ => ⟨S32x1, .f32⟩
  | .local _ .vmem, ⟨56, _⟩ => ⟨S4x1024, .f32⟩
  | .local _ .vmem, ⟨57, _⟩ => ⟨S8x1024, .f32⟩
  | .local _ .vmem, ⟨58, _⟩ => ⟨S8x1024, .f32⟩
  | .local _ .vmem, ⟨59, _⟩ => ⟨S8x1024, .f32⟩
  | .local _ .vmem, ⟨60, _⟩ => ⟨S8x1024, .f32⟩
  | .local _ .vmem, ⟨61, _⟩ => ⟨S8x3584, .f32⟩
  | .local _ .vmem, ⟨62, _⟩ => ⟨S8x512, .f32⟩
  | .local _ .vmem, ⟨63, _⟩ => ⟨S8x2048, .f32⟩
  | .local _ .vmem, ⟨64, _⟩ => ⟨S64x1024, .f32⟩
  | .local _ .vmem, ⟨65, _⟩ => ⟨S64x1024, .f32⟩
  | .local _ .vmem, ⟨66, _⟩ => ⟨S16x2048, .f32⟩
  | .local _ .vmem, ⟨67, _⟩ => ⟨S16x2048, .f32⟩
  | .local _ .vmem, ⟨68, _⟩ => ⟨S64x512, .f32⟩
  | .local _ .vmem, ⟨69, _⟩ => ⟨S64x512, .f32⟩
  | .local _ .vmem, ⟨70, _⟩ => ⟨S8x128, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v10_3 : Ref sig .tc := ⟨.hbm, 32, rfl⟩
abbrev main_v10_4 : Ref sig .tc := ⟨.hbm, 33, rfl⟩
abbrev main_v10_5 : Ref sig .tc := ⟨.hbm, 34, rfl⟩
abbrev main_v10_6 : Ref sig .tc := ⟨.hbm, 35, rfl⟩
abbrev main_v10_7 : Ref sig .tc := ⟨.hbm, 36, rfl⟩
abbrev main_v10_8 : Ref sig .tc := ⟨.hbm, 37, rfl⟩
abbrev main_v10_9 : Ref sig .tc := ⟨.hbm, 38, rfl⟩
abbrev main_v10_10 : Ref sig .tc := ⟨.hbm, 39, rfl⟩
abbrev main_v10_11 : Ref sig .tc := ⟨.hbm, 40, rfl⟩
abbrev main_v10_12 : Ref sig .tc := ⟨.hbm, 41, rfl⟩
abbrev main_v10_13 : Ref sig .tc := ⟨.hbm, 42, rfl⟩
abbrev main_v10_14 : Ref sig .tc := ⟨.hbm, 43, rfl⟩
abbrev main_v10_15 : Ref sig .tc := ⟨.hbm, 44, rfl⟩
abbrev main_v10_16 : Ref sig .tc := ⟨.hbm, 45, rfl⟩
abbrev main_v10_17 : Ref sig .tc := ⟨.hbm, 46, rfl⟩
abbrev main_v10_18 : Ref sig .tc := ⟨.hbm, 47, rfl⟩
abbrev main_v10_19 : Ref sig .tc := ⟨.hbm, 48, rfl⟩
abbrev main_v10_20 : Ref sig .tc := ⟨.hbm, 49, rfl⟩
abbrev main_v10_21 : Ref sig .tc := ⟨.hbm, 50, rfl⟩
abbrev main_v10_22 : Ref sig .tc := ⟨.hbm, 51, rfl⟩
abbrev main_v10_23 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg28_0 : Ref sig .tc := ⟨.vmem, 42, rfl⟩
abbrev cc0_stg29_0 : Ref sig .tc := ⟨.vmem, 43, rfl⟩
abbrev cc0_stg30_0 : Ref sig .tc := ⟨.vmem, 44, rfl⟩
abbrev cc0_stg31_0 : Ref sig .tc := ⟨.vmem, 45, rfl⟩
abbrev cc0_stg32_0 : Ref sig .tc := ⟨.vmem, 46, rfl⟩
abbrev cc0_stg33_0 : Ref sig .tc := ⟨.vmem, 47, rfl⟩
abbrev cc0_stg34_0 : Ref sig .tc := ⟨.vmem, 48, rfl⟩
abbrev cc0_stg35_0 : Ref sig .tc := ⟨.vmem, 49, rfl⟩
abbrev cc0_stg36_0 : Ref sig .tc := ⟨.vmem, 50, rfl⟩
abbrev cc0_stg37_0 : Ref sig .tc := ⟨.vmem, 51, rfl⟩
abbrev cc0_stg38_0 : Ref sig .tc := ⟨.vmem, 52, rfl⟩
abbrev cc0_stg39_0 : Ref sig .tc := ⟨.vmem, 53, rfl⟩
abbrev cc0_stg40_0 : Ref sig .tc := ⟨.vmem, 54, rfl⟩
abbrev cc0_stg41_0 : Ref sig .tc := ⟨.vmem, 55, rfl⟩
abbrev cc0_stg42_0 : Ref sig .tc := ⟨.vmem, 56, rfl⟩
abbrev cc0_scratch0 : Ref sig .tc := ⟨.vmem, 57, rfl⟩
abbrev cc0_scratch1 : Ref sig .tc := ⟨.vmem, 58, rfl⟩
abbrev cc0_scratch2 : Ref sig .tc := ⟨.vmem, 59, rfl⟩
abbrev cc0_scratch3 : Ref sig .tc := ⟨.vmem, 60, rfl⟩
abbrev cc0_scratch4 : Ref sig .tc := ⟨.vmem, 61, rfl⟩
abbrev cc0_scratch5 : Ref sig .tc := ⟨.vmem, 62, rfl⟩
abbrev cc0_scratch6 : Ref sig .tc := ⟨.vmem, 63, rfl⟩
abbrev cc0_scratch7 : Ref sig .tc := ⟨.vmem, 64, rfl⟩
abbrev cc0_scratch8 : Ref sig .tc := ⟨.vmem, 65, rfl⟩
abbrev cc0_scratch9 : Ref sig .tc := ⟨.vmem, 66, rfl⟩
abbrev cc0_scratch10 : Ref sig .tc := ⟨.vmem, 67, rfl⟩
abbrev cc0_scratch11 : Ref sig .tc := ⟨.vmem, 68, rfl⟩
abbrev cc0_scratch12 : Ref sig .tc := ⟨.vmem, 69, rfl⟩
abbrev cc0_scratch13 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41
abbrev cc0_sem28_0 : DmaSem sig := 42
abbrev cc0_sem29_0 : DmaSem sig := 43
abbrev cc0_sem30_0 : DmaSem sig := 44
abbrev cc0_sem31_0 : DmaSem sig := 45
abbrev cc0_sem32_0 : DmaSem sig := 46
abbrev cc0_sem33_0 : DmaSem sig := 47
abbrev cc0_sem34_0 : DmaSem sig := 48
abbrev cc0_sem35_0 : DmaSem sig := 49
abbrev cc0_sem36_0 : DmaSem sig := 50
abbrev cc0_sem37_0 : DmaSem sig := 51
abbrev cc0_sem38_0 : DmaSem sig := 52
abbrev cc0_sem39_0 : DmaSem sig := 53
abbrev cc0_sem40_0 : DmaSem sig := 54
abbrev cc0_sem41_0 : DmaSem sig := 55
abbrev cc0_sem42_0 : DmaSem sig := 56

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2048x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2048x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x3584 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1024x64 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1024x64 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S512x64 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S512x64 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S2048x16 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S2048x16 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S2048x1 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S2048x1 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S32x1 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S4x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]
-- ==== Kernel13.lean ====
abbrev S2048x512 : Shape := ⟨2, ![2048, 512]⟩
abbrev S2048x1024 : Shape := ⟨2, ![2048, 1024]⟩
abbrev S4x128x512 : Shape := ⟨3, ![4, 128, 512]⟩
abbrev S1x2048 : Shape := ⟨2, ![1, 2048]⟩
abbrev S4x512x128 : Shape := ⟨3, ![4, 512, 128]⟩
abbrev S1x512 : Shape := ⟨2, ![1, 512]⟩
abbrev S512x512 : Shape := ⟨2, ![512, 512]⟩
abbrev S4x1024 : Shape := ⟨2, ![4, 1024]⟩
abbrev S1x1024 : Shape := ⟨2, ![1, 1024]⟩
abbrev S4x256x256 : Shape := ⟨3, ![4, 256, 256]⟩
abbrev S2048x2048 : Shape := ⟨2, ![2048, 2048]⟩
abbrev S256x512 : Shape := ⟨2, ![256, 512]⟩
abbrev S256x1024 : Shape := ⟨2, ![256, 1024]⟩
abbrev S256x2048 : Shape := ⟨2, ![256, 2048]⟩
abbrev S8x2048 : Shape := ⟨2, ![8, 2048]⟩
abbrev S264x1024 : Shape := ⟨2, ![264, 1024]⟩
abbrev S8x1024 : Shape := ⟨2, ![8, 1024]⟩
abbrev S256x128 : Shape := ⟨2, ![256, 128]⟩
abbrev S1x128x512 : Shape := ⟨3, ![1, 128, 512]⟩
abbrev S128x512 : Shape := ⟨2, ![128, 512]⟩
abbrev S1x512x128 : Shape := ⟨3, ![1, 512, 128]⟩
abbrev S512x128 : Shape := ⟨2, ![512, 128]⟩
abbrev S1x128 : Shape := ⟨2, ![1, 128]⟩
abbrev S256x256 : Shape := ⟨2, ![256, 256]⟩
abbrev S1x256x256 : Shape := ⟨3, ![1, 256, 256]⟩

abbrev nBuf : Space → Nat
  | .hbm => 25
  | .vmem => 41
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S4x128x512, .bf16⟩
  | .hbm, ⟨3, _⟩ => ⟨S4x128x512, .bf16⟩
  | .hbm, ⟨4, _⟩ => ⟨S1x2048, .f32⟩
  | .hbm, ⟨5, _⟩ => ⟨S1x2048, .f32⟩
  | .hbm, ⟨6, _⟩ => ⟨S4x512x128, .bf16⟩
  | .hbm, ⟨7, _⟩ => ⟨S4x512x128, .bf16⟩
  | .hbm, ⟨8, _⟩ => ⟨S1x512, .f32⟩
  | .hbm, ⟨9, _⟩ => ⟨S512x512, .bf16⟩
  | .hbm, ⟨10, _⟩ => ⟨S1x512, .f32⟩
  | .hbm, ⟨11, _⟩ => ⟨S4x1024, .f32⟩
  | .hbm, ⟨12, _⟩ => ⟨S1x1024, .f32⟩
  | .hbm, ⟨13, _⟩ => ⟨S4x256x256, .bf16⟩
  | .hbm, ⟨14, _⟩ => ⟨S1x1024, .f32⟩
  | .hbm, ⟨15, _⟩ => ⟨S4x256x256, .bf16⟩
  | .hbm, ⟨16, _⟩ => ⟨S1x1024, .f32⟩
  | .hbm, ⟨17, _⟩ => ⟨S1x1024, .f32⟩
  | .hbm, ⟨18, _⟩ => ⟨S2048x2048, .bf16⟩
  | .hbm, ⟨19, _⟩ => ⟨S2048x2048, .bf16⟩
  | .hbm, ⟨20, _⟩ => ⟨S2048x512, .f32⟩
  | .hbm, ⟨21, _⟩ => ⟨S2048x512, .f32⟩
  | .hbm, ⟨22, _⟩ => ⟨S2048x1024, .f32⟩
  | .hbm, ⟨23, _⟩ => ⟨S2048x1024, .f32⟩
  | .hbm, ⟨24, _⟩ => ⟨S2048x1024, .f32⟩
  | .local _ .vmem, ⟨0, _⟩ => ⟨S256x512, .f32⟩
  | .local _ .vmem, ⟨1, _⟩ => ⟨S256x512, .f32⟩
  | .local _ .vmem, ⟨2, _⟩ => ⟨S4x128x512, .bf16⟩
  | .local _ .vmem, ⟨3, _⟩ => ⟨S4x128x512, .bf16⟩
  | .local _ .vmem, ⟨4, _⟩ => ⟨S1x2048, .f32⟩
  | .local _ .vmem, ⟨5, _⟩ => ⟨S1x2048, .f32⟩
  | .local _ .vmem, ⟨6, _⟩ => ⟨S4x512x128, .bf16⟩
  | .local _ .vmem, ⟨7, _⟩ => ⟨S4x512x128, .bf16⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S256x1024, .f32⟩
  | .local _ .vmem, ⟨12, _⟩ => ⟨S256x1024, .f32⟩
  | .local _ .vmem, ⟨13, _⟩ => ⟨S4x1024, .f32⟩
  | .local _ .vmem, ⟨14, _⟩ => ⟨S1x1024, .f32⟩
  | .local _ .vmem, ⟨15, _⟩ => ⟨S4x256x256, .bf16⟩
  | .local _ .vmem, ⟨16, _⟩ => ⟨S1x1024, .f32⟩
  | .local _ .vmem, ⟨17, _⟩ => ⟨S4x256x256, .bf16⟩
  | .local _ .vmem, ⟨18, _⟩ => ⟨S1x1024, .f32⟩
  | .local _ .vmem, ⟨19, _⟩ => ⟨S1x1024, .f32⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S8x2048, .f32⟩
  | .local _ .vmem, ⟨35, _⟩ => ⟨S8x2048, .f32⟩
  | .local _ .vmem, ⟨36, _⟩ => ⟨S256x2048, .f32⟩
  | .local _ .vmem, ⟨37, _⟩ => ⟨S256x2048, .f32⟩
  | .local _ .vmem, ⟨38, _⟩ => ⟨S264x1024, .f32⟩
  | .local _ .vmem, ⟨39, _⟩ => ⟨S256x1024, .f32⟩
  | .local _ .vmem, ⟨40, _⟩ => ⟨S8x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev main_v0_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_scratch6 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_51 : BitVec 32 := 0#32
  let c256_i32 : BitVec 32 := 256#32
  let v61 : BitVec 32 := Scalar.addi c0_i32_51 c256_i32
  let c1_i32 : BitVec 32 := 1#32
  ⟨c0_i32_51, v61, c1_i32⟩
def k0_off1 (k0_t1 : Fin k0_t1_loop.trips) : Fin 2 → Nat :=
  let c0_i32_51 : BitVec 32 := 0#32
  let c1_i32 : BitVec 32 := 1#32
  let arg33 : BitVec 32 := Scf.iv c0_i32_51 c1_i32 k0_t1
  let v309 : Index := Scalar.indexCast arg33
  let c0_238 : Index := 0#32
  ![v309.toNat, 0]
@[reducible] def k0_t2_loop : Scf.Loop 32 :=
  let c0_i32_232 : BitVec 32 := 0#32
  let c256_i32_233 : BitVec 32 := 256#32
  let v301 : BitVec 32 := Scalar.addi c0_i32_232 c256_i32_233
  let c1_i32_234 : BitVec 32 := 1#32
  ⟨c0_i32_232, v301, c1_i32_234⟩
def k0_off2 (k0_t2 : Fin k0_t2_loop.trips) : Fin 2 → Nat :=
  let c0_i32_232 : BitVec 32 := 0#32
  let c1_i32_234 : BitVec 32 := 1#32
  let arg33 : BitVec 32 := Scf.iv c0_i32_232 c1_i32_234 k0_t2
  let v306 : Index := Scalar.indexCast arg33
  let c0_238 : Index := 0#32
  ![v306.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Kernel14.lean ====
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S4x64x512, .bf16⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S4x64x512 : Shape := ⟨3, ![4, 64, 512]⟩
abbrev S64x512 : Shape := ⟨2, ![64, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S4x64x512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | _, _ => ⟨S4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S1x4x128 : Shape := ⟨3, ![1, 4, 128]⟩
abbrev S4x128 : Shape := ⟨2, ![4, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S1x4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S1x4x128 : Shape := ⟨3, ![1, 4, 128]⟩
abbrev S4x128 : Shape := ⟨2, ![4, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S_, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x128, .f32⟩
  | .hbm, ⟨13, _⟩ => ⟨S_, .f32⟩
  | .hbm, ⟨14, _⟩ => ⟨S4x128, .f32⟩
  | .hbm, ⟨15, _⟩ => ⟨S4x128, .f32⟩
  | .hbm, ⟨16, _⟩ => ⟨S4x128, .f32⟩
  | .hbm, ⟨17, _⟩ => ⟨S_, .f32⟩
  | .hbm, ⟨18, _⟩ => ⟨S4x128, .f32⟩
  | .hbm, ⟨19, _⟩ => ⟨S4x128, .f32⟩
  | .hbm, ⟨20, _⟩ => ⟨S4x128, .f32⟩
  | .hbm, ⟨21, _⟩ => ⟨S_, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | _, _ => ⟨S1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S4x128x512 : Shape := ⟨3, ![4, 128, 512]⟩
abbrev S512x128 : Shape := ⟨2, ![512, 128]⟩
abbrev S4x128x256 : Shape := ⟨3, ![4, 128, 256]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x128x512, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x128x256, .bf16⟩
  | .local _ .vmem, ⟨1, _⟩ => ⟨S4x128x256, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4x128x512 : Shape := ⟨3, ![4, 128, 512]⟩
abbrev S512x128 : Shape := ⟨2, ![512, 128]⟩
abbrev S_ : Shape := ⟨0, ![]⟩
abbrev S128x512 : Shape := ⟨2, ![128, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x128x512, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x128x512, .f32⟩
  | .hbm, ⟨5, _⟩ => ⟨S_, .f32⟩
  | .hbm, ⟨6, _⟩ => ⟨S128x512, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | _, _ => ⟨S4x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 24
  | .vmem => 24
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S4x128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S4x128x1024, .bf16⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]
-- ==== Reference17Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S4x128x1024, .f32⟩
  | .hbm, ⟨13, _⟩ => ⟨S_, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S4x128x1024, .f32⟩
  | .hbm, ⟨49, _⟩ => ⟨S_, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | .hbm, ⟨54, _⟩ => ⟨S_, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S128x1024, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S_, .f32⟩
  | .hbm, ⟨67, _⟩ => ⟨S128x1024, .f32⟩
  | .hbm, ⟨68, _⟩ => ⟨S128x1024, .f32⟩
  | .hbm, ⟨69, _⟩ => ⟨S_, .f32⟩
  | .hbm, ⟨70, _⟩ => ⟨S128x1024, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S128x1024, .f32⟩
  | .hbm, ⟨77, _⟩ => ⟨S_, .f32⟩
  | .hbm, ⟨78, _⟩ => ⟨S128x1024, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128x1024, .f32⟩
  | .hbm, ⟨83, _⟩ => ⟨S128x1024, .f32⟩
  | .hbm, ⟨84, _⟩ => ⟨S4x128x1024, .f32⟩
  | .hbm, ⟨85, _⟩ => ⟨S_, .f32⟩
  | .hbm, ⟨86, _⟩ => ⟨S128x1024, .f32⟩
  | .hbm, ⟨87, _⟩ => ⟨S_, .f32⟩
  | .hbm, ⟨88, _⟩ => ⟨S128x1024, .f32⟩
  | .hbm, ⟨89, _⟩ => ⟨S128x1024, .f32⟩
  | .hbm, ⟨90, _⟩ => ⟨S_, .f32⟩
  | .hbm, ⟨91, _⟩ => ⟨S128x1024, .f32⟩
  | .hbm, ⟨92, _⟩ => ⟨S128x1024, .f32⟩
  | .hbm, ⟨93, _⟩ => ⟨S128x1024, .f32⟩
  | .hbm, ⟨94, _⟩ => ⟨S_, .f32⟩
  | .hbm, ⟨95, _⟩ => ⟨S128x1024, .f32⟩
  | .hbm, ⟨96, _⟩ => ⟨S128x1024, .f32⟩
  | .hbm, ⟨97, _⟩ => ⟨S128x1024, .f32⟩
  | .hbm, ⟨98, _⟩ => ⟨S_, .f32⟩
  | .hbm, ⟨99, _⟩ => ⟨S128x1024, .f32⟩
  | .hbm, ⟨100, _⟩ => ⟨S128x1024, .f32⟩
  | .hbm, ⟨101, _⟩ => ⟨S128x1024, .f32⟩
  | .hbm, ⟨102, _⟩ => ⟨S_, .f32⟩
  | .hbm, ⟨103, _⟩ => ⟨S128x1024, .f32⟩
  | .hbm, ⟨104, _⟩ => ⟨S128x1024, .f32⟩
  | .hbm, ⟨105, _⟩ => ⟨S_, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S_, .f32⟩
  | .hbm, ⟨110, _⟩ => ⟨S128x1024, .f32⟩
  | .hbm, ⟨111, _⟩ => ⟨S128x1024, .f32⟩
  | .hbm, ⟨112, _⟩ => ⟨S128x1024, .f32⟩
  | .hbm, ⟨113, _⟩ => ⟨S_, .f32⟩
  | .hbm, ⟨114, _⟩ => ⟨S128x1024, .f32⟩
  | .hbm, ⟨115, _⟩ => ⟨S128x1024, .f32⟩
  | .hbm, ⟨116, _⟩ => ⟨S128x1024, .f32⟩
  | .hbm, ⟨117, _⟩ => ⟨S_, .f32⟩
  | .hbm, ⟨118, _⟩ => ⟨S128x1024, .f32⟩
  | .hbm, ⟨119, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_cst_10 : Ref sig .tc := ⟨.hbm, 51, rfl⟩
abbrev main_v28 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_12 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_13 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_16 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_17 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_cst_20 : Ref sig .tc := ⟨.hbm, 87, rfl⟩
abbrev main_v54 : Ref sig .tc := ⟨.hbm, 88, rfl⟩
abbrev main_v55 : Ref sig .tc := ⟨.hbm, 89, rfl⟩
abbrev main_cst_21 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_22 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_23 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_24 : Ref sig .tc := ⟨.hbm, 102, rfl⟩
abbrev main_v65 : Ref sig .tc := ⟨.hbm, 103, rfl⟩
abbrev main_v66 : Ref sig .tc := ⟨.hbm, 104, rfl⟩
abbrev main_cst_25 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_26 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_27 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_28 : Ref sig .tc := ⟨.hbm, 117, rfl⟩
abbrev main_v76 : Ref sig .tc := ⟨.hbm, 118, rfl⟩
abbrev main_v77 : Ref sig .tc := ⟨.hbm, 119, rfl⟩

abbrev nD : Nat := 1
abbrev τ : Topo := Topo.v7x

variable {F : FTy → Type} [FloatOps F]
-- ==== Kernel18.lean ====
abbrev S4x352x1024 : Shape := ⟨3, ![4, 352, 1024]⟩
abbrev S1024x352 : Shape := ⟨2, ![1024, 352]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 22
  | .vmem => 32
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S4x176x1024, .bf16⟩
  | .local _ .vmem, ⟨9, _⟩ => ⟨S4x176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference18Ideal.lean ====
abbrev S4x352x1024 : Shape := ⟨3, ![4, 352, 1024]⟩
abbrev S1024x352 : Shape := ⟨2, ![1024, 352]⟩
abbrev S_ : Shape := ⟨0, ![]⟩
abbrev S352x1024 : Shape := ⟨2, ![352, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S4x352x1024, .f32⟩
  | .hbm, ⟨9, _⟩ => ⟨S_, .f32⟩
  | .hbm, ⟨10, _⟩ => ⟨S352x1024, .f32⟩
  | .hbm, ⟨11, _⟩ => ⟨S1024x352, .f32⟩
  | .hbm, ⟨12, _⟩ => ⟨S_, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S1024x352, .f32⟩
  | .hbm, ⟨23, _⟩ => ⟨S_, .f32⟩
  | .hbm, ⟨24, _⟩ => ⟨S1024x352, .f32⟩
  | .hbm, ⟨25, _⟩ => ⟨S1024x352, .f32⟩
  | .hbm, ⟨26, _⟩ => ⟨S1024x352, .f32⟩
  | .hbm, ⟨27, _⟩ => ⟨S_, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | .hbm, ⟨37, _⟩ => ⟨S1024x352, .f32⟩
  | .hbm, ⟨38, _⟩ => ⟨S_, .f32⟩
  | .hbm, ⟨39, _⟩ => ⟨S1024x352, .f32⟩
  | .hbm, ⟨40, _⟩ => ⟨S1024x352, .f32⟩
  | .hbm, ⟨41, _⟩ => ⟨S1024x352, .f32⟩
  | .hbm, ⟨42, _⟩ => ⟨S_, .f32⟩
  | .hbm, ⟨43, _⟩ => ⟨S1024x352, .f32⟩
  | .hbm, ⟨44, _⟩ => ⟨S1024x352, .f32⟩
  | .hbm, ⟨45, _⟩ => ⟨S4x352x1024, .f32⟩
  | .hbm, ⟨46, _⟩ => ⟨S_, .f32⟩
  | .hbm, ⟨47, _⟩ => ⟨S352x1024, .f32⟩
  | .hbm, ⟨48, _⟩ => ⟨S1024x352, .f32⟩
  | .hbm, ⟨49, _⟩ => ⟨S_, .f32⟩
  | .hbm, ⟨50, _⟩ => ⟨S1024x352, .f32⟩
  | .hbm, ⟨51, _⟩ => ⟨S1024x352, .f32⟩
  | .hbm, ⟨52, _⟩ => ⟨S_, .f32⟩
  | .hbm, ⟨53, _⟩ => ⟨S1024x352, .f32⟩
  | .hbm, ⟨54, _⟩ => ⟨S1024x352, .f32⟩
  | .hbm, ⟨55, _⟩ => ⟨S1024x352, .f32⟩
  | .hbm, ⟨56, _⟩ => ⟨S_, .f32⟩
  | .hbm, ⟨57, _⟩ => ⟨S1024x352, .f32⟩
  | .hbm, ⟨58, _⟩ => ⟨S1024x352, .f32⟩
  | .hbm, ⟨59, _⟩ => ⟨S1024x352, .f32⟩
  | .hbm, ⟨60, _⟩ => ⟨S_, .f32⟩
  | .hbm, ⟨61, _⟩ => ⟨S1024x352, .f32⟩
  | .hbm, ⟨62, _⟩ => ⟨S1024x352, .f32⟩
  | .hbm, ⟨63, _⟩ => ⟨S1024x352, .f32⟩
  | .hbm, ⟨64, _⟩ => ⟨S_, .f32⟩
  | .hbm, ⟨65, _⟩ => ⟨S1024x352, .f32⟩
  | .hbm, ⟨66, _⟩ => ⟨S1024x352, .f32⟩
  | .hbm, ⟨67, _⟩ => ⟨S_, .f32⟩
  | .hbm, ⟨68, _⟩ => ⟨S1024x352, .f32⟩
  | .hbm, ⟨69, _⟩ => ⟨S1024x352, .f32⟩
  | .hbm, ⟨70, _⟩ => ⟨S1024x352, .f32⟩
  | .hbm, ⟨71, _⟩ => ⟨S_, .f32⟩
  | .hbm, ⟨72, _⟩ => ⟨S1024x352, .f32⟩
  | .hbm, ⟨73, _⟩ => ⟨S1024x352, .f32⟩
  | .hbm, ⟨74, _⟩ => ⟨S1024x352, .f32⟩
  | .hbm, ⟨75, _⟩ => ⟨S_, .f32⟩
  | .hbm, ⟨76, _⟩ => ⟨S1024x352, .f32⟩
  | .hbm, ⟨77, _⟩ => ⟨S1024x352, .f32⟩
  | .hbm, ⟨78, _⟩ => ⟨S1024x352, .f32⟩
  | .hbm, ⟨79, _⟩ => ⟨S_, .f32⟩
  | .hbm, ⟨80, _⟩ => ⟨S1024x352, .f32⟩
  | .hbm, ⟨81, _⟩ => ⟨S1024x352, .f32⟩
  | .hbm, ⟨82, _⟩ => ⟨S352x1024, .f32⟩
  | .hbm, ⟨83, _⟩ => ⟨S352x1024, .f32⟩
  | .hbm, ⟨84, _⟩ => ⟨S352x1024, .f32⟩
  | .hbm, ⟨85, _⟩ => ⟨S352x1024, .f32⟩
  | .hbm, ⟨86, _⟩ => ⟨S352x1024, .f32⟩
  | .hbm, ⟨87, _⟩ => ⟨S352x1024, .f32⟩
  | .hbm, ⟨88, _⟩ => ⟨S352x1024, .f32⟩
  | .hbm, ⟨89, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_13 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_14 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_17 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_18 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]
-- ==== Kernel19.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S4x128x256 : Shape := ⟨3, ![4, 128, 256]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x128x256, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S4x128x256, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S4x128x256 : Shape := ⟨3, ![4, 128, 256]⟩
abbrev S256x128 : Shape := ⟨2, ![256, 128]⟩
abbrev S_ : Shape := ⟨0, ![]⟩
abbrev S128x256 : Shape := ⟨2, ![128, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S4x128x256, .f32⟩
  | .hbm, ⟨5, _⟩ => ⟨S_, .f32⟩
  | .hbm, ⟨6, _⟩ => ⟨S128x256, .f32⟩
  | .hbm, ⟨7, _⟩ => ⟨S256x128, .f32⟩
  | .hbm, ⟨8, _⟩ => ⟨S_, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S256x128, .f32⟩
  | .hbm, ⟨23, _⟩ => ⟨S_, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S_, .f32⟩
  | .hbm, ⟨39, _⟩ => ⟨S256x128, .f32⟩
  | .hbm, ⟨40, _⟩ => ⟨S256x128, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel21.lean ====
abbrev S1x2048 : Shape := ⟨2, ![1, 2048]⟩
abbrev S2048x1 : Shape := ⟨2, ![2048, 1]⟩
abbrev S2048x16 : Shape := ⟨2, ![2048, 16]⟩
abbrev S512x64 : Shape := ⟨2, ![512, 64]⟩
abbrev S1024x64 : Shape := ⟨2, ![1024, 64]⟩
abbrev S4x128x512 : Shape := ⟨3, ![4, 128, 512]⟩
abbrev S4x512x128 : Shape := ⟨3, ![4, 512, 128]⟩
abbrev S4x256x256 : Shape := ⟨3, ![4, 256, 256]⟩
abbrev S16x2048 : Shape := ⟨2, ![16, 2048]⟩
abbrev S16x512 : Shape := ⟨2, ![16, 512]⟩
abbrev S128x16 : Shape := ⟨2, ![128, 16]⟩
abbrev S128x512 : Shape := ⟨2, ![128, 512]⟩
abbrev S1x128x512 : Shape := ⟨3, ![1, 128, 512]⟩
abbrev S128x64 : Shape := ⟨2, ![128, 64]⟩
abbrev S64x128 : Shape := ⟨2, ![64, 128]⟩
abbrev S512x128 : Shape := ⟨2, ![512, 128]⟩
abbrev S1x512x128 : Shape := ⟨3, ![1, 512, 128]⟩
abbrev S256x64 : Shape := ⟨2, ![256, 64]⟩
abbrev S64x256 : Shape := ⟨2, ![64, 256]⟩
abbrev S256x256 : Shape := ⟨2, ![256, 256]⟩
abbrev S1x256x256 : Shape := ⟨3, ![1, 256, 256]⟩

abbrev nBuf : Space → Nat
  | .hbm => 20
  | .vmem => 20
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S2048x16, .f32⟩
  | .hbm, ⟨7, _⟩ => ⟨S2048x16, .f32⟩
  | .hbm, ⟨8, _⟩ => ⟨S512x64, .f32⟩
  | .hbm, ⟨9, _⟩ => ⟨S512x64, .f32⟩
  | .hbm, ⟨10, _⟩ => ⟨S1024x64, .f32⟩
  | .hbm, ⟨11, _⟩ => ⟨S1024x64, .f32⟩
  | .hbm, ⟨12, _⟩ => ⟨S1x2048, .f32⟩
  | .hbm, ⟨13, _⟩ => ⟨S1x2048, .f32⟩
  | .hbm, ⟨14, _⟩ => ⟨S4x128x512, .bf16⟩
  | .hbm, ⟨15, _⟩ => ⟨S4x128x512, .bf16⟩
  | .hbm, ⟨16, _⟩ => ⟨S4x512x128, .bf16⟩
  | .hbm, ⟨17, _⟩ => ⟨S4x512x128, .bf16⟩
  | .hbm, ⟨18, _⟩ => ⟨S4x256x256, .bf16⟩
  | .hbm, ⟨19, _⟩ => ⟨S4x256x256, .bf16⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x16, .f32⟩
  | .local _ .vmem, ⟨7, _⟩ => ⟨S2048x16, .f32⟩
  | .local _ .vmem, ⟨8, _⟩ => ⟨S512x64, .f32⟩
  | .local _ .vmem, ⟨9, _⟩ => ⟨S512x64, .f32⟩
  | .local _ .vmem, ⟨10, _⟩ => ⟨S1024x64, .f32⟩
  | .local _ .vmem, ⟨11, _⟩ => ⟨S1024x64, .f32⟩
  | .local _ .vmem, ⟨12, _⟩ => ⟨S1x2048, .f32⟩
  | .local _ .vmem, ⟨13, _⟩ => ⟨S1x2048, .f32⟩
  | .local _ .vmem, ⟨14, _⟩ => ⟨S4x128x512, .bf16⟩
  | .local _ .vmem, ⟨15, _⟩ => ⟨S4x128x512, .bf16⟩
  | .local _ .vmem, ⟨16, _⟩ => ⟨S4x512x128, .bf16⟩
  | .local _ .vmem, ⟨17, _⟩ => ⟨S4x512x128, .bf16⟩
  | .local _ .vmem, ⟨18, _⟩ => ⟨S4x256x256, .bf16⟩
  | .local _ .vmem, ⟨19, _⟩ => ⟨S4x256x256, .bf16⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x512x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Kernel22.lean ====
abbrev S1x1024 : Shape := ⟨2, ![1, 1024]⟩

abbrev nBuf : Space → Nat
  | .hbm => 24
  | .vmem => 24
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference22Ideal.lean ====
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel23.lean ====
abbrev S1x1024 : Shape := ⟨2, ![1, 1024]⟩

abbrev nBuf : Space → Nat
  | .hbm => 24
  | .vmem => 24
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference23Ideal.lean ====
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel24.lean ====
abbrev S1x1024 : Shape := ⟨2, ![1, 1024]⟩
abbrev S1x3584 : Shape := ⟨2, ![1, 3584]⟩
abbrev S1x512 : Shape := ⟨2, ![1, 512]⟩

abbrev nBuf : Space → Nat
  | .hbm => 24
  | .vmem => 24
  | .smem => 0
  | _ => 0

abbrev bufTy : (tb : Table) → Fin (tcTables nBuf tb) → BufTy
  | .hbm, ⟨0, _⟩ => ⟨S1x1024, .f32⟩
  | .hbm, ⟨1, _⟩ => ⟨S1x3584, .f32⟩
  | .hbm, ⟨2, _⟩ => ⟨S1x512, .f32⟩
  | .hbm, ⟨3, _⟩ => ⟨S1x1024, .f32⟩
  | .hbm, ⟨4, _⟩ => ⟨S1x3584, .f32⟩
  | .hbm, ⟨5, _⟩ => ⟨S1x512, .f32⟩
  | .hbm, ⟨6, _⟩ => ⟨S1x1024, .f32⟩
  | .hbm, ⟨7, _⟩ => ⟨S1x3584, .f32⟩
  | .hbm, ⟨8, _⟩ => ⟨S1x512, .f32⟩
  | .hbm, ⟨9, _⟩ => ⟨S1x1024, .f32⟩
  | .hbm, ⟨10, _⟩ => ⟨S1x3584, .f32⟩
  | .hbm, ⟨11, _⟩ => ⟨S1x512, .f32⟩
  | .hbm, ⟨12, _⟩ => ⟨S1x1024, .f32⟩
  | .hbm, ⟨13, _⟩ => ⟨S1x3584, .f32⟩
  | .hbm, ⟨14, _⟩ => ⟨S1x512, .f32⟩
  | .hbm, ⟨15, _⟩ => ⟨S1x1024, .f32⟩
  | .hbm, ⟨16, _⟩ => ⟨S1x3584, .f32⟩
  | .hbm, ⟨17, _⟩ => ⟨S1x512, .f32⟩
  | .hbm, ⟨18, _⟩ => ⟨S1x1024, .f32⟩
  | .hbm, ⟨19, _⟩ => ⟨S1x3584, .f32⟩
  | .hbm, ⟨20, _⟩ => ⟨S1x512, .f32⟩
  | .hbm, ⟨21, _⟩ => ⟨S1x1024, .f32⟩
  | .hbm, ⟨22, _⟩ => ⟨S1x3584, .f32⟩
  | .hbm, ⟨23, _⟩ => ⟨S1x512, .f32⟩
  | .local _ .vmem, ⟨0, _⟩ => ⟨S1x1024, .f32⟩
  | .local _ .vmem, ⟨1, _⟩ => ⟨S1x3584, .f32⟩
  | .local _ .vmem, ⟨2, _⟩ => ⟨S1x512, .f32⟩
  | .local _ .vmem, ⟨3, _⟩ => ⟨S1x1024, .f32⟩
  | .local _ .vmem, ⟨4, _⟩ => ⟨S1x3584, .f32⟩
  | .local _ .vmem, ⟨5, _⟩ => ⟨S1x512, .f32⟩
  | .local _ .vmem, ⟨6, _⟩ => ⟨S1x1024, .f32⟩
  | .local _ .vmem, ⟨7, _⟩ => ⟨S1x3584, .f32⟩
  | .local _ .vmem, ⟨8, _⟩ => ⟨S1x512, .f32⟩
  | .local _ .vmem, ⟨9, _⟩ => ⟨S1x1024, .f32⟩
  | .local _ .vmem, ⟨10, _⟩ => ⟨S1x3584, .f32⟩
  | .local _ .vmem, ⟨11, _⟩ => ⟨S1x512, .f32⟩
  | .local _ .vmem, ⟨12, _⟩ => ⟨S1x1024, .f32⟩
  | .local _ .vmem, ⟨13, _⟩ => ⟨S1x3584, .f32⟩
  | .local _ .vmem, ⟨14, _⟩ => ⟨S1x512, .f32⟩
  | .local _ .vmem, ⟨15, _⟩ => ⟨S1x1024, .f32⟩
  | .local _ .vmem, ⟨16, _⟩ => ⟨S1x3584, .f32⟩
  | .local _ .vmem, ⟨17, _⟩ => ⟨S1x512, .f32⟩
  | .local _ .vmem, ⟨18, _⟩ => ⟨S1x1024, .f32⟩
  | .local _ .vmem, ⟨19, _⟩ => ⟨S1x3584, .f32⟩
  | .local _ .vmem, ⟨20, _⟩ => ⟨S1x512, .f32⟩
  | .local _ .vmem, ⟨21, _⟩ => ⟨S1x1024, .f32⟩
  | .local _ .vmem, ⟨22, _⟩ => ⟨S1x3584, .f32⟩
  | .local _ .vmem, ⟨23, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3584 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x3584 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x3584 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x3584 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference24Ideal.lean ====
abbrev S1x1024 : Shape := ⟨2, ![1, 1024]⟩
abbrev S1x3584 : Shape := ⟨2, ![1, 3584]⟩
abbrev S1x512 : Shape := ⟨2, ![1, 512]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x3584, .f32⟩
  | .hbm, ⟨2, _⟩ => ⟨S1x512, .f32⟩
  | .hbm, ⟨3, _⟩ => ⟨S1x1024, .f32⟩
  | .hbm, ⟨4, _⟩ => ⟨S1x3584, .f32⟩
  | .hbm, ⟨5, _⟩ => ⟨S1x512, .f32⟩
  | .hbm, ⟨6, _⟩ => ⟨S1x1024, .f32⟩
  | .hbm, ⟨7, _⟩ => ⟨S1x3584, .f32⟩
  | .hbm, ⟨8, _⟩ => ⟨S1x512, .f32⟩
  | .hbm, ⟨9, _⟩ => ⟨S1x1024, .f32⟩
  | .hbm, ⟨10, _⟩ => ⟨S1x3584, .f32⟩
  | .hbm, ⟨11, _⟩ => ⟨S1x512, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x3584, .f32⟩
  | .hbm, ⟨47, _⟩ => ⟨S1x3584, .f32⟩
  | .hbm, ⟨48, _⟩ => ⟨S_, .f32⟩
  | .hbm, ⟨49, _⟩ => ⟨S1x3584, .f32⟩
  | .hbm, ⟨50, _⟩ => ⟨S1x3584, .f32⟩
  | .hbm, ⟨51, _⟩ => ⟨S1x3584, .f32⟩
  | .hbm, ⟨52, _⟩ => ⟨S_, .f32⟩
  | .hbm, ⟨53, _⟩ => ⟨S1x3584, .f32⟩
  | .hbm, ⟨54, _⟩ => ⟨S1x3584, .f32⟩
  | .hbm, ⟨55, _⟩ => ⟨S1x3584, .f32⟩
  | .hbm, ⟨56, _⟩ => ⟨S_, .f32⟩
  | .hbm, ⟨57, _⟩ => ⟨S1x3584, .f32⟩
  | .hbm, ⟨58, _⟩ => ⟨S1x3584, .f32⟩
  | .hbm, ⟨59, _⟩ => ⟨S1x3584, .f32⟩
  | .hbm, ⟨60, _⟩ => ⟨S_, .f32⟩
  | .hbm, ⟨61, _⟩ => ⟨S1x3584, .f32⟩
  | .hbm, ⟨62, _⟩ => ⟨S1x3584, .f32⟩
  | .hbm, ⟨63, _⟩ => ⟨S_, .f32⟩
  | .hbm, ⟨64, _⟩ => ⟨S1x3584, .f32⟩
  | .hbm, ⟨65, _⟩ => ⟨S1x3584, .f32⟩
  | .hbm, ⟨66, _⟩ => ⟨S1x3584, .f32⟩
  | .hbm, ⟨67, _⟩ => ⟨S_, .f32⟩
  | .hbm, ⟨68, _⟩ => ⟨S1x3584, .f32⟩
  | .hbm, ⟨69, _⟩ => ⟨S1x3584, .f32⟩
  | .hbm, ⟨70, _⟩ => ⟨S1x3584, .f32⟩
  | .hbm, ⟨71, _⟩ => ⟨S_, .f32⟩
  | .hbm, ⟨72, _⟩ => ⟨S1x3584, .f32⟩
  | .hbm, ⟨73, _⟩ => ⟨S1x3584, .f32⟩
  | .hbm, ⟨74, _⟩ => ⟨S1x3584, .f32⟩
  | .hbm, ⟨75, _⟩ => ⟨S_, .f32⟩
  | .hbm, ⟨76, _⟩ => ⟨S1x3584, .f32⟩
  | .hbm, ⟨77, _⟩ => ⟨S1x3584, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S_, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S_, .f32⟩
  | .hbm, ⟨97, _⟩ => ⟨S1x512, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel25.lean ====
abbrev S1x32 : Shape := ⟨2, ![1, 32]⟩
abbrev S1x16x64 : Shape := ⟨3, ![1, 16, 64]⟩

abbrev nBuf : Space → Nat
  | .hbm => 24
  | .vmem => 24
  | .smem => 0
  | _ => 0

abbrev bufTy : (tb : Table) → Fin (tcTables nBuf tb) → BufTy
  | .hbm, ⟨0, _⟩ => ⟨S1x32, .f32⟩
  | .hbm, ⟨1, _⟩ => ⟨S1x16x64, .f32⟩
  | .hbm, ⟨2, _⟩ => ⟨S1x16x64, .f32⟩
  | .hbm, ⟨3, _⟩ => ⟨S1x32, .f32⟩
  | .hbm, ⟨4, _⟩ => ⟨S1x16x64, .f32⟩
  | .hbm, ⟨5, _⟩ => ⟨S1x16x64, .f32⟩
  | .hbm, ⟨6, _⟩ => ⟨S1x32, .f32⟩
  | .hbm, ⟨7, _⟩ => ⟨S1x16x64, .f32⟩
  | .hbm, ⟨8, _⟩ => ⟨S1x16x64, .f32⟩
  | .hbm, ⟨9, _⟩ => ⟨S1x32, .f32⟩
  | .hbm, ⟨10, _⟩ => ⟨S1x16x64, .f32⟩
  | .hbm, ⟨11, _⟩ => ⟨S1x16x64, .f32⟩
  | .hbm, ⟨12, _⟩ => ⟨S1x32, .f32⟩
  | .hbm, ⟨13, _⟩ => ⟨S1x16x64, .f32⟩
  | .hbm, ⟨14, _⟩ => ⟨S1x16x64, .f32⟩
  | .hbm, ⟨15, _⟩ => ⟨S1x32, .f32⟩
  | .hbm, ⟨16, _⟩ => ⟨S1x16x64, .f32⟩
  | .hbm, ⟨17, _⟩ => ⟨S1x16x64, .f32⟩
  | .hbm, ⟨18, _⟩ => ⟨S1x32, .f32⟩
  | .hbm, ⟨19, _⟩ => ⟨S1x16x64, .f32⟩
  | .hbm, ⟨20, _⟩ => ⟨S1x16x64, .f32⟩
  | .hbm, ⟨21, _⟩ => ⟨S1x32, .f32⟩
  | .hbm, ⟨22, _⟩ => ⟨S1x16x64, .f32⟩
  | .hbm, ⟨23, _⟩ => ⟨S1x16x64, .f32⟩
  | .local _ .vmem, ⟨0, _⟩ => ⟨S1x32, .f32⟩
  | .local _ .vmem, ⟨1, _⟩ => ⟨S1x16x64, .f32⟩
  | .local _ .vmem, ⟨2, _⟩ => ⟨S1x16x64, .f32⟩
  | .local _ .vmem, ⟨3, _⟩ => ⟨S1x32, .f32⟩
  | .local _ .vmem, ⟨4, _⟩ => ⟨S1x16x64, .f32⟩
  | .local _ .vmem, ⟨5, _⟩ => ⟨S1x16x64, .f32⟩
  | .local _ .vmem, ⟨6, _⟩ => ⟨S1x32, .f32⟩
  | .local _ .vmem, ⟨7, _⟩ => ⟨S1x16x64, .f32⟩
  | .local _ .vmem, ⟨8, _⟩ => ⟨S1x16x64, .f32⟩
  | .local _ .vmem, ⟨9, _⟩ => ⟨S1x32, .f32⟩
  | .local _ .vmem, ⟨10, _⟩ => ⟨S1x16x64, .f32⟩
  | .local _ .vmem, ⟨11, _⟩ => ⟨S1x16x64, .f32⟩
  | .local _ .vmem, ⟨12, _⟩ => ⟨S1x32, .f32⟩
  | .local _ .vmem, ⟨13, _⟩ => ⟨S1x16x64, .f32⟩
  | .local _ .vmem, ⟨14, _⟩ => ⟨S1x16x64, .f32⟩
  | .local _ .vmem, ⟨15, _⟩ => ⟨S1x32, .f32⟩
  | .local _ .vmem, ⟨16, _⟩ => ⟨S1x16x64, .f32⟩
  | .local _ .vmem, ⟨17, _⟩ => ⟨S1x16x64, .f32⟩
  | .local _ .vmem, ⟨18, _⟩ => ⟨S1x32, .f32⟩
  | .local _ .vmem, ⟨19, _⟩ => ⟨S1x16x64, .f32⟩
  | .local _ .vmem, ⟨20, _⟩ => ⟨S1x16x64, .f32⟩
  | .local _ .vmem, ⟨21, _⟩ => ⟨S1x32, .f32⟩
  | .local _ .vmem, ⟨22, _⟩ => ⟨S1x16x64, .f32⟩
  | .local _ .vmem, ⟨23, _⟩ => ⟨S1x16x64, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x16x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x32 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x16x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x16x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference25Ideal.lean ====
abbrev S1x32 : Shape := ⟨2, ![1, 32]⟩
abbrev S1x16x64 : Shape := ⟨3, ![1, 16, 64]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x16x64, .f32⟩
  | .hbm, ⟨2, _⟩ => ⟨S1x16x64, .f32⟩
  | .hbm, ⟨3, _⟩ => ⟨S1x32, .f32⟩
  | .hbm, ⟨4, _⟩ => ⟨S1x16x64, .f32⟩
  | .hbm, ⟨5, _⟩ => ⟨S1x16x64, .f32⟩
  | .hbm, ⟨6, _⟩ => ⟨S1x32, .f32⟩
  | .hbm, ⟨7, _⟩ => ⟨S1x16x64, .f32⟩
  | .hbm, ⟨8, _⟩ => ⟨S1x16x64, .f32⟩
  | .hbm, ⟨9, _⟩ => ⟨S1x32, .f32⟩
  | .hbm, ⟨10, _⟩ => ⟨S1x16x64, .f32⟩
  | .hbm, ⟨11, _⟩ => ⟨S1x16x64, .f32⟩
  | .hbm, ⟨12, _⟩ => ⟨S_, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S_, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S_, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S_, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S_, .f32⟩
  | .hbm, ⟨43, _⟩ => ⟨S1x32, .f32⟩
  | .hbm, ⟨44, _⟩ => ⟨S1x32, .f32⟩
  | .hbm, ⟨45, _⟩ => ⟨S_, .f32⟩
  | .hbm, ⟨46, _⟩ => ⟨S1x16x64, .f32⟩
  | .hbm, ⟨47, _⟩ => ⟨S1x16x64, .f32⟩
  | .hbm, ⟨48, _⟩ => ⟨S_, .f32⟩
  | .hbm, ⟨49, _⟩ => ⟨S1x16x64, .f32⟩
  | .hbm, ⟨50, _⟩ => ⟨S1x16x64, .f32⟩
  | .hbm, ⟨51, _⟩ => ⟨S1x16x64, .f32⟩
  | .hbm, ⟨52, _⟩ => ⟨S_, .f32⟩
  | .hbm, ⟨53, _⟩ => ⟨S1x16x64, .f32⟩
  | .hbm, ⟨54, _⟩ => ⟨S1x16x64, .f32⟩
  | .hbm, ⟨55, _⟩ => ⟨S1x16x64, .f32⟩
  | .hbm, ⟨56, _⟩ => ⟨S_, .f32⟩
  | .hbm, ⟨57, _⟩ => ⟨S1x16x64, .f32⟩
  | .hbm, ⟨58, _⟩ => ⟨S1x16x64, .f32⟩
  | .hbm, ⟨59, _⟩ => ⟨S1x16x64, .f32⟩
  | .hbm, ⟨60, _⟩ => ⟨S_, .f32⟩
  | .hbm, ⟨61, _⟩ => ⟨S1x16x64, .f32⟩
  | .hbm, ⟨62, _⟩ => ⟨S1x16x64, .f32⟩
  | .hbm, ⟨63, _⟩ => ⟨S_, .f32⟩
  | .hbm, ⟨64, _⟩ => ⟨S1x16x64, .f32⟩
  | .hbm, ⟨65, _⟩ => ⟨S1x16x64, .f32⟩
  | .hbm, ⟨66, _⟩ => ⟨S1x16x64, .f32⟩
  | .hbm, ⟨67, _⟩ => ⟨S_, .f32⟩
  | .hbm, ⟨68, _⟩ => ⟨S1x16x64, .f32⟩
  | .hbm, ⟨69, _⟩ => ⟨S1x16x64, .f32⟩
  | .hbm, ⟨70, _⟩ => ⟨S1x16x64, .f32⟩
  | .hbm, ⟨71, _⟩ => ⟨S_, .f32⟩
  | .hbm, ⟨72, _⟩ => ⟨S1x16x64, .f32⟩
  | .hbm, ⟨73, _⟩ => ⟨S1x16x64, .f32⟩
  | .hbm, ⟨74, _⟩ => ⟨S1x16x64, .f32⟩
  | .hbm, ⟨75, _⟩ => ⟨S_, .f32⟩
  | .hbm, ⟨76, _⟩ => ⟨S1x16x64, .f32⟩
  | .hbm, ⟨77, _⟩ => ⟨S1x16x64, .f32⟩
  | .hbm, ⟨78, _⟩ => ⟨S_, .f32⟩
  | .hbm, ⟨79, _⟩ => ⟨S1x16x64, .f32⟩
  | .hbm, ⟨80, _⟩ => ⟨S1x16x64, .f32⟩
  | .hbm, ⟨81, _⟩ => ⟨S_, .f32⟩
  | .hbm, ⟨82, _⟩ => ⟨S1x16x64, .f32⟩
  | .hbm, ⟨83, _⟩ => ⟨S1x16x64, .f32⟩
  | .hbm, ⟨84, _⟩ => ⟨S1x16x64, .f32⟩
  | .hbm, ⟨85, _⟩ => ⟨S_, .f32⟩
  | .hbm, ⟨86, _⟩ => ⟨S1x16x64, .f32⟩
  | .hbm, ⟨87, _⟩ => ⟨S1x16x64, .f32⟩
  | .hbm, ⟨88, _⟩ => ⟨S1x16x64, .f32⟩
  | .hbm, ⟨89, _⟩ => ⟨S_, .f32⟩
  | .hbm, ⟨90, _⟩ => ⟨S1x16x64, .f32⟩
  | .hbm, ⟨91, _⟩ => ⟨S1x16x64, .f32⟩
  | .hbm, ⟨92, _⟩ => ⟨S1x16x64, .f32⟩
  | .hbm, ⟨93, _⟩ => ⟨S_, .f32⟩
  | .hbm, ⟨94, _⟩ => ⟨S1x16x64, .f32⟩
  | .hbm, ⟨95, _⟩ => ⟨S1x16x64, .f32⟩
  | .hbm, ⟨96, _⟩ => ⟨S_, .f32⟩
  | .hbm, ⟨97, _⟩ => ⟨S1x16x64, .f32⟩
  | .hbm, ⟨98, _⟩ => ⟨S1x16x64, .f32⟩
  | .hbm, ⟨99, _⟩ => ⟨S1x16x64, .f32⟩
  | .hbm, ⟨100, _⟩ => ⟨S_, .f32⟩
  | .hbm, ⟨101, _⟩ => ⟨S1x16x64, .f32⟩
  | .hbm, ⟨102, _⟩ => ⟨S1x16x64, .f32⟩
  | .hbm, ⟨103, _⟩ => ⟨S1x16x64, .f32⟩
  | .hbm, ⟨104, _⟩ => ⟨S_, .f32⟩
  | .hbm, ⟨105, _⟩ => ⟨S1x16x64, .f32⟩
  | .hbm, ⟨106, _⟩ => ⟨S1x16x64, .f32⟩
  | .hbm, ⟨107, _⟩ => ⟨S1x16x64, .f32⟩
  | .hbm, ⟨108, _⟩ => ⟨S_, .f32⟩
  | .hbm, ⟨109, _⟩ => ⟨S1x16x64, .f32⟩
  | .hbm, ⟨110, _⟩ => ⟨S1x16x64, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel26.lean ====
abbrev S1x32x64 : Shape := ⟨3, ![1, 32, 64]⟩
abbrev S1x32x16x64 : Shape := ⟨4, ![1, 32, 16, 64]⟩

abbrev nBuf : Space → Nat
  | .hbm => 24
  | .vmem => 24
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x16x64, .f32⟩
  | .hbm, ⟨3, _⟩ => ⟨S1x32x64, .f32⟩
  | .hbm, ⟨4, _⟩ => ⟨S1x32x64, .f32⟩
  | .hbm, ⟨5, _⟩ => ⟨S1x32x16x64, .f32⟩
  | .hbm, ⟨6, _⟩ => ⟨S1x32x64, .f32⟩
  | .hbm, ⟨7, _⟩ => ⟨S1x32x64, .f32⟩
  | .hbm, ⟨8, _⟩ => ⟨S1x32x16x64, .f32⟩
  | .hbm, ⟨9, _⟩ => ⟨S1x32x64, .f32⟩
  | .hbm, ⟨10, _⟩ => ⟨S1x32x64, .f32⟩
  | .hbm, ⟨11, _⟩ => ⟨S1x32x16x64, .f32⟩
  | .hbm, ⟨12, _⟩ => ⟨S1x32x64, .f32⟩
  | .hbm, ⟨13, _⟩ => ⟨S1x32x64, .f32⟩
  | .hbm, ⟨14, _⟩ => ⟨S1x32x16x64, .f32⟩
  | .hbm, ⟨15, _⟩ => ⟨S1x32x64, .f32⟩
  | .hbm, ⟨16, _⟩ => ⟨S1x32x64, .f32⟩
  | .hbm, ⟨17, _⟩ => ⟨S1x32x16x64, .f32⟩
  | .hbm, ⟨18, _⟩ => ⟨S1x32x64, .f32⟩
  | .hbm, ⟨19, _⟩ => ⟨S1x32x64, .f32⟩
  | .hbm, ⟨20, _⟩ => ⟨S1x32x16x64, .f32⟩
  | .hbm, ⟨21, _⟩ => ⟨S1x32x64, .f32⟩
  | .hbm, ⟨22, _⟩ => ⟨S1x32x64, .f32⟩
  | .hbm, ⟨23, _⟩ => ⟨S1x32x16x64, .f32⟩
  | .local _ .vmem, ⟨0, _⟩ => ⟨S1x32x64, .f32⟩
  | .local _ .vmem, ⟨1, _⟩ => ⟨S1x32x64, .f32⟩
  | .local _ .vmem, ⟨2, _⟩ => ⟨S1x32x16x64, .f32⟩
  | .local _ .vmem, ⟨3, _⟩ => ⟨S1x32x64, .f32⟩
  | .local _ .vmem, ⟨4, _⟩ => ⟨S1x32x64, .f32⟩
  | .local _ .vmem, ⟨5, _⟩ => ⟨S1x32x16x64, .f32⟩
  | .local _ .vmem, ⟨6, _⟩ => ⟨S1x32x64, .f32⟩
  | .local _ .vmem, ⟨7, _⟩ => ⟨S1x32x64, .f32⟩
  | .local _ .vmem, ⟨8, _⟩ => ⟨S1x32x16x64, .f32⟩
  | .local _ .vmem, ⟨9, _⟩ => ⟨S1x32x64, .f32⟩
  | .local _ .vmem, ⟨10, _⟩ => ⟨S1x32x64, .f32⟩
  | .local _ .vmem, ⟨11, _⟩ => ⟨S1x32x16x64, .f32⟩
  | .local _ .vmem, ⟨12, _⟩ => ⟨S1x32x64, .f32⟩
  | .local _ .vmem, ⟨13, _⟩ => ⟨S1x32x64, .f32⟩
  | .local _ .vmem, ⟨14, _⟩ => ⟨S1x32x16x64, .f32⟩
  | .local _ .vmem, ⟨15, _⟩ => ⟨S1x32x64, .f32⟩
  | .local _ .vmem, ⟨16, _⟩ => ⟨S1x32x64, .f32⟩
  | .local _ .vmem, ⟨17, _⟩ => ⟨S1x32x16x64, .f32⟩
  | .local _ .vmem, ⟨18, _⟩ => ⟨S1x32x64, .f32⟩
  | .local _ .vmem, ⟨19, _⟩ => ⟨S1x32x64, .f32⟩
  | .local _ .vmem, ⟨20, _⟩ => ⟨S1x32x16x64, .f32⟩
  | .local _ .vmem, ⟨21, _⟩ => ⟨S1x32x64, .f32⟩
  | .local _ .vmem, ⟨22, _⟩ => ⟨S1x32x64, .f32⟩
  | .local _ .vmem, ⟨23, _⟩ => ⟨S1x32x16x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x32x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x32x16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x32x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x32x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x32x16x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x32x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x32x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x32x16x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x32x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x32x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x32x16x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference26Ideal.lean ====
abbrev S1x32x64 : Shape := ⟨3, ![1, 32, 64]⟩
abbrev S1x32x16x64 : Shape := ⟨4, ![1, 32, 16, 64]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x16x64, .f32⟩
  | .hbm, ⟨3, _⟩ => ⟨S1x32x64, .f32⟩
  | .hbm, ⟨4, _⟩ => ⟨S1x32x64, .f32⟩
  | .hbm, ⟨5, _⟩ => ⟨S1x32x16x64, .f32⟩
  | .hbm, ⟨6, _⟩ => ⟨S1x32x64, .f32⟩
  | .hbm, ⟨7, _⟩ => ⟨S1x32x64, .f32⟩
  | .hbm, ⟨8, _⟩ => ⟨S1x32x16x64, .f32⟩
  | .hbm, ⟨9, _⟩ => ⟨S1x32x64, .f32⟩
  | .hbm, ⟨10, _⟩ => ⟨S1x32x64, .f32⟩
  | .hbm, ⟨11, _⟩ => ⟨S1x32x16x64, .f32⟩
  | .hbm, ⟨12, _⟩ => ⟨S_, .f32⟩
  | .hbm, ⟨13, _⟩ => ⟨S1x32x64, .f32⟩
  | .hbm, ⟨14, _⟩ => ⟨S1x32x64, .f32⟩
  | .hbm, ⟨15, _⟩ => ⟨S_, .f32⟩
  | .hbm, ⟨16, _⟩ => ⟨S1x32x64, .f32⟩
  | .hbm, ⟨17, _⟩ => ⟨S1x32x64, .f32⟩
  | .hbm, ⟨18, _⟩ => ⟨S1x32x64, .f32⟩
  | .hbm, ⟨19, _⟩ => ⟨S_, .f32⟩
  | .hbm, ⟨20, _⟩ => ⟨S1x32x64, .f32⟩
  | .hbm, ⟨21, _⟩ => ⟨S1x32x64, .f32⟩
  | .hbm, ⟨22, _⟩ => ⟨S1x32x64, .f32⟩
  | .hbm, ⟨23, _⟩ => ⟨S_, .f32⟩
  | .hbm, ⟨24, _⟩ => ⟨S1x32x64, .f32⟩
  | .hbm, ⟨25, _⟩ => ⟨S1x32x64, .f32⟩
  | .hbm, ⟨26, _⟩ => ⟨S1x32x64, .f32⟩
  | .hbm, ⟨27, _⟩ => ⟨S_, .f32⟩
  | .hbm, ⟨28, _⟩ => ⟨S1x32x64, .f32⟩
  | .hbm, ⟨29, _⟩ => ⟨S1x32x64, .f32⟩
  | .hbm, ⟨30, _⟩ => ⟨S_, .f32⟩
  | .hbm, ⟨31, _⟩ => ⟨S1x32x64, .f32⟩
  | .hbm, ⟨32, _⟩ => ⟨S1x32x64, .f32⟩
  | .hbm, ⟨33, _⟩ => ⟨S1x32x64, .f32⟩
  | .hbm, ⟨34, _⟩ => ⟨S_, .f32⟩
  | .hbm, ⟨35, _⟩ => ⟨S1x32x64, .f32⟩
  | .hbm, ⟨36, _⟩ => ⟨S1x32x64, .f32⟩
  | .hbm, ⟨37, _⟩ => ⟨S1x32x64, .f32⟩
  | .hbm, ⟨38, _⟩ => ⟨S_, .f32⟩
  | .hbm, ⟨39, _⟩ => ⟨S1x32x64, .f32⟩
  | .hbm, ⟨40, _⟩ => ⟨S1x32x64, .f32⟩
  | .hbm, ⟨41, _⟩ => ⟨S1x32x64, .f32⟩
  | .hbm, ⟨42, _⟩ => ⟨S_, .f32⟩
  | .hbm, ⟨43, _⟩ => ⟨S1x32x64, .f32⟩
  | .hbm, ⟨44, _⟩ => ⟨S1x32x64, .f32⟩
  | .hbm, ⟨45, _⟩ => ⟨S_, .f32⟩
  | .hbm, ⟨46, _⟩ => ⟨S1x32x64, .f32⟩
  | .hbm, ⟨47, _⟩ => ⟨S1x32x64, .f32⟩
  | .hbm, ⟨48, _⟩ => ⟨S_, .f32⟩
  | .hbm, ⟨49, _⟩ => ⟨S1x32x64, .f32⟩
  | .hbm, ⟨50, _⟩ => ⟨S1x32x64, .f32⟩
  | .hbm, ⟨51, _⟩ => ⟨S1x32x64, .f32⟩
  | .hbm, ⟨52, _⟩ => ⟨S_, .f32⟩
  | .hbm, ⟨53, _⟩ => ⟨S1x32x64, .f32⟩
  | .hbm, ⟨54, _⟩ => ⟨S1x32x64, .f32⟩
  | .hbm, ⟨55, _⟩ => ⟨S1x32x64, .f32⟩
  | .hbm, ⟨56, _⟩ => ⟨S_, .f32⟩
  | .hbm, ⟨57, _⟩ => ⟨S1x32x64, .f32⟩
  | .hbm, ⟨58, _⟩ => ⟨S1x32x64, .f32⟩
  | .hbm, ⟨59, _⟩ => ⟨S1x32x64, .f32⟩
  | .hbm, ⟨60, _⟩ => ⟨S_, .f32⟩
  | .hbm, ⟨61, _⟩ => ⟨S1x32x64, .f32⟩
  | .hbm, ⟨62, _⟩ => ⟨S1x32x64, .f32⟩
  | .hbm, ⟨63, _⟩ => ⟨S_, .f32⟩
  | .hbm, ⟨64, _⟩ => ⟨S1x32x64, .f32⟩
  | .hbm, ⟨65, _⟩ => ⟨S1x32x64, .f32⟩
  | .hbm, ⟨66, _⟩ => ⟨S1x32x64, .f32⟩
  | .hbm, ⟨67, _⟩ => ⟨S_, .f32⟩
  | .hbm, ⟨68, _⟩ => ⟨S1x32x64, .f32⟩
  | .hbm, ⟨69, _⟩ => ⟨S1x32x64, .f32⟩
  | .hbm, ⟨70, _⟩ => ⟨S1x32x64, .f32⟩
  | .hbm, ⟨71, _⟩ => ⟨S_, .f32⟩
  | .hbm, ⟨72, _⟩ => ⟨S1x32x64, .f32⟩
  | .hbm, ⟨73, _⟩ => ⟨S1x32x64, .f32⟩
  | .hbm, ⟨74, _⟩ => ⟨S1x32x64, .f32⟩
  | .hbm, ⟨75, _⟩ => ⟨S_, .f32⟩
  | .hbm, ⟨76, _⟩ => ⟨S1x32x64, .f32⟩
  | .hbm, ⟨77, _⟩ => ⟨S1x32x64, .f32⟩
  | .hbm, ⟨78, _⟩ => ⟨S_, .f32⟩
  | .hbm, ⟨79, _⟩ => ⟨S1x32x16x64, .f32⟩
  | .hbm, ⟨80, _⟩ => ⟨S1x32x16x64, .f32⟩
  | .hbm, ⟨81, _⟩ => ⟨S_, .f32⟩
  | .hbm, ⟨82, _⟩ => ⟨S1x32x16x64, .f32⟩
  | .hbm, ⟨83, _⟩ => ⟨S1x32x16x64, .f32⟩
  | .hbm, ⟨84, _⟩ => ⟨S1x32x16x64, .f32⟩
  | .hbm, ⟨85, _⟩ => ⟨S_, .f32⟩
  | .hbm, ⟨86, _⟩ => ⟨S1x32x16x64, .f32⟩
  | .hbm, ⟨87, _⟩ => ⟨S1x32x16x64, .f32⟩
  | .hbm, ⟨88, _⟩ => ⟨S1x32x16x64, .f32⟩
  | .hbm, ⟨89, _⟩ => ⟨S_, .f32⟩
  | .hbm, ⟨90, _⟩ => ⟨S1x32x16x64, .f32⟩
  | .hbm, ⟨91, _⟩ => ⟨S1x32x16x64, .f32⟩
  | .hbm, ⟨92, _⟩ => ⟨S1x32x16x64, .f32⟩
  | .hbm, ⟨93, _⟩ => ⟨S_, .f32⟩
  | .hbm, ⟨94, _⟩ => ⟨S1x32x16x64, .f32⟩
  | .hbm, ⟨95, _⟩ => ⟨S1x32x16x64, .f32⟩
  | .hbm, ⟨96, _⟩ => ⟨S_, .f32⟩
  | .hbm, ⟨97, _⟩ => ⟨S1x32x16x64, .f32⟩
  | .hbm, ⟨98, _⟩ => ⟨S1x32x16x64, .f32⟩
  | .hbm, ⟨99, _⟩ => ⟨S1x32x16x64, .f32⟩
  | .hbm, ⟨100, _⟩ => ⟨S_, .f32⟩
  | .hbm, ⟨101, _⟩ => ⟨S1x32x16x64, .f32⟩
  | .hbm, ⟨102, _⟩ => ⟨S1x32x16x64, .f32⟩
  | .hbm, ⟨103, _⟩ => ⟨S1x32x16x64, .f32⟩
  | .hbm, ⟨104, _⟩ => ⟨S_, .f32⟩
  | .hbm, ⟨105, _⟩ => ⟨S1x32x16x64, .f32⟩
  | .hbm, ⟨106, _⟩ => ⟨S1x32x16x64, .f32⟩
  | .hbm, ⟨107, _⟩ => ⟨S1x32x16x64, .f32⟩
  | .hbm, ⟨108, _⟩ => ⟨S_, .f32⟩
  | .hbm, ⟨109, _⟩ => ⟨S1x32x16x64, .f32⟩
  | .hbm, ⟨110, _⟩ => ⟨S1x32x16x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel27.lean ====
abbrev S1x32x16x64 : Shape := ⟨4, ![1, 32, 16, 64]⟩
abbrev S1x16x64x64 : Shape := ⟨4, ![1, 16, 64, 64]⟩

abbrev nBuf : Space → Nat
  | .hbm => 24
  | .vmem => 24
  | .smem => 0
  | _ => 0

abbrev bufTy : (tb : Table) → Fin (tcTables nBuf tb) → BufTy
  | .hbm, ⟨0, _⟩ => ⟨S1x32x16x64, .f32⟩
  | .hbm, ⟨1, _⟩ => ⟨S1x16x64x64, .f32⟩
  | .hbm, ⟨2, _⟩ => ⟨S1x16x64x64, .f32⟩
  | .hbm, ⟨3, _⟩ => ⟨S1x32x16x64, .f32⟩
  | .hbm, ⟨4, _⟩ => ⟨S1x16x64x64, .f32⟩
  | .hbm, ⟨5, _⟩ => ⟨S1x16x64x64, .f32⟩
  | .hbm, ⟨6, _⟩ => ⟨S1x32x16x64, .f32⟩
  | .hbm, ⟨7, _⟩ => ⟨S1x16x64x64, .f32⟩
  | .hbm, ⟨8, _⟩ => ⟨S1x16x64x64, .f32⟩
  | .hbm, ⟨9, _⟩ => ⟨S1x32x16x64, .f32⟩
  | .hbm, ⟨10, _⟩ => ⟨S1x16x64x64, .f32⟩
  | .hbm, ⟨11, _⟩ => ⟨S1x16x64x64, .f32⟩
  | .hbm, ⟨12, _⟩ => ⟨S1x32x16x64, .f32⟩
  | .hbm, ⟨13, _⟩ => ⟨S1x16x64x64, .f32⟩
  | .hbm, ⟨14, _⟩ => ⟨S1x16x64x64, .f32⟩
  | .hbm, ⟨15, _⟩ => ⟨S1x32x16x64, .f32⟩
  | .hbm, ⟨16, _⟩ => ⟨S1x16x64x64, .f32⟩
  | .hbm, ⟨17, _⟩ => ⟨S1x16x64x64, .f32⟩
  | .hbm, ⟨18, _⟩ => ⟨S1x32x16x64, .f32⟩
  | .hbm, ⟨19, _⟩ => ⟨S1x16x64x64, .f32⟩
  | .hbm, ⟨20, _⟩ => ⟨S1x16x64x64, .f32⟩
  | .hbm, ⟨21, _⟩ => ⟨S1x32x16x64, .f32⟩
  | .hbm, ⟨22, _⟩ => ⟨S1x16x64x64, .f32⟩
  | .hbm, ⟨23, _⟩ => ⟨S1x16x64x64, .f32⟩
  | .local _ .vmem, ⟨0, _⟩ => ⟨S1x32x16x64, .f32⟩
  | .local _ .vmem, ⟨1, _⟩ => ⟨S1x16x64x64, .f32⟩
  | .local _ .vmem, ⟨2, _⟩ => ⟨S1x16x64x64, .f32⟩
  | .local _ .vmem, ⟨3, _⟩ => ⟨S1x32x16x64, .f32⟩
  | .local _ .vmem, ⟨4, _⟩ => ⟨S1x16x64x64, .f32⟩
  | .local _ .vmem, ⟨5, _⟩ => ⟨S1x16x64x64, .f32⟩
  | .local _ .vmem, ⟨6, _⟩ => ⟨S1x32x16x64, .f32⟩
  | .local _ .vmem, ⟨7, _⟩ => ⟨S1x16x64x64, .f32⟩
  | .local _ .vmem, ⟨8, _⟩ => ⟨S1x16x64x64, .f32⟩
  | .local _ .vmem, ⟨9, _⟩ => ⟨S1x32x16x64, .f32⟩
  | .local _ .vmem, ⟨10, _⟩ => ⟨S1x16x64x64, .f32⟩
  | .local _ .vmem, ⟨11, _⟩ => ⟨S1x16x64x64, .f32⟩
  | .local _ .vmem, ⟨12, _⟩ => ⟨S1x32x16x64, .f32⟩
  | .local _ .vmem, ⟨13, _⟩ => ⟨S1x16x64x64, .f32⟩
  | .local _ .vmem, ⟨14, _⟩ => ⟨S1x16x64x64, .f32⟩
  | .local _ .vmem, ⟨15, _⟩ => ⟨S1x32x16x64, .f32⟩
  | .local _ .vmem, ⟨16, _⟩ => ⟨S1x16x64x64, .f32⟩
  | .local _ .vmem, ⟨17, _⟩ => ⟨S1x16x64x64, .f32⟩
  | .local _ .vmem, ⟨18, _⟩ => ⟨S1x32x16x64, .f32⟩
  | .local _ .vmem, ⟨19, _⟩ => ⟨S1x16x64x64, .f32⟩
  | .local _ .vmem, ⟨20, _⟩ => ⟨S1x16x64x64, .f32⟩
  | .local _ .vmem, ⟨21, _⟩ => ⟨S1x32x16x64, .f32⟩
  | .local _ .vmem, ⟨22, _⟩ => ⟨S1x16x64x64, .f32⟩
  | .local _ .vmem, ⟨23, _⟩ => ⟨S1x16x64x64, .f32⟩
  | _, _ => ⟨S1x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1x32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16x64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x32x16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x16x64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x32x16x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16x64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16x64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x32x16x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x16x64x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x16x64x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference27Ideal.lean ====
abbrev S1x32x16x64 : Shape := ⟨4, ![1, 32, 16, 64]⟩
abbrev S1x16x64x64 : Shape := ⟨4, ![1, 16, 64, 64]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x32x16x64, .f32⟩
  | .hbm, ⟨1, _⟩ => ⟨S1x16x64x64, .f32⟩
  | .hbm, ⟨2, _⟩ => ⟨S1x16x64x64, .f32⟩
  | .hbm, ⟨3, _⟩ => ⟨S1x32x16x64, .f32⟩
  | .hbm, ⟨4, _⟩ => ⟨S1x16x64x64, .f32⟩
  | .hbm, ⟨5, _⟩ => ⟨S1x16x64x64, .f32⟩
  | .hbm, ⟨6, _⟩ => ⟨S1x32x16x64, .f32⟩
  | .hbm, ⟨7, _⟩ => ⟨S1x16x64x64, .f32⟩
  | .hbm, ⟨8, _⟩ => ⟨S1x16x64x64, .f32⟩
  | .hbm, ⟨9, _⟩ => ⟨S1x32x16x64, .f32⟩
  | .hbm, ⟨10, _⟩ => ⟨S1x16x64x64, .f32⟩
  | .hbm, ⟨11, _⟩ => ⟨S1x16x64x64, .f32⟩
  | .hbm, ⟨12, _⟩ => ⟨S_, .f32⟩
  | .hbm, ⟨13, _⟩ => ⟨S1x32x16x64, .f32⟩
  | .hbm, ⟨14, _⟩ => ⟨S1x32x16x64, .f32⟩
  | .hbm, ⟨15, _⟩ => ⟨S_, .f32⟩
  | .hbm, ⟨16, _⟩ => ⟨S1x32x16x64, .f32⟩
  | .hbm, ⟨17, _⟩ => ⟨S1x32x16x64, .f32⟩
  | .hbm, ⟨18, _⟩ => ⟨S1x32x16x64, .f32⟩
  | .hbm, ⟨19, _⟩ => ⟨S_, .f32⟩
  | .hbm, ⟨20, _⟩ => ⟨S1x32x16x64, .f32⟩
  | .hbm, ⟨21, _⟩ => ⟨S1x32x16x64, .f32⟩
  | .hbm, ⟨22, _⟩ => ⟨S1x32x16x64, .f32⟩
  | .hbm, ⟨23, _⟩ => ⟨S_, .f32⟩
  | .hbm, ⟨24, _⟩ => ⟨S1x32x16x64, .f32⟩
  | .hbm, ⟨25, _⟩ => ⟨S1x32x16x64, .f32⟩
  | .hbm, ⟨26, _⟩ => ⟨S1x32x16x64, .f32⟩
  | .hbm, ⟨27, _⟩ => ⟨S_, .f32⟩
  | .hbm, ⟨28, _⟩ => ⟨S1x32x16x64, .f32⟩
  | .hbm, ⟨29, _⟩ => ⟨S1x32x16x64, .f32⟩
  | .hbm, ⟨30, _⟩ => ⟨S_, .f32⟩
  | .hbm, ⟨31, _⟩ => ⟨S1x32x16x64, .f32⟩
  | .hbm, ⟨32, _⟩ => ⟨S1x32x16x64, .f32⟩
  | .hbm, ⟨33, _⟩ => ⟨S1x32x16x64, .f32⟩
  | .hbm, ⟨34, _⟩ => ⟨S_, .f32⟩
  | .hbm, ⟨35, _⟩ => ⟨S1x32x16x64, .f32⟩
  | .hbm, ⟨36, _⟩ => ⟨S1x32x16x64, .f32⟩
  | .hbm, ⟨37, _⟩ => ⟨S1x32x16x64, .f32⟩
  | .hbm, ⟨38, _⟩ => ⟨S_, .f32⟩
  | .hbm, ⟨39, _⟩ => ⟨S1x32x16x64, .f32⟩
  | .hbm, ⟨40, _⟩ => ⟨S1x32x16x64, .f32⟩
  | .hbm, ⟨41, _⟩ => ⟨S1x32x16x64, .f32⟩
  | .hbm, ⟨42, _⟩ => ⟨S_, .f32⟩
  | .hbm, ⟨43, _⟩ => ⟨S1x32x16x64, .f32⟩
  | .hbm, ⟨44, _⟩ => ⟨S1x32x16x64, .f32⟩
  | .hbm, ⟨45, _⟩ => ⟨S_, .f32⟩
  | .hbm, ⟨46, _⟩ => ⟨S1x16x64x64, .f32⟩
  | .hbm, ⟨47, _⟩ => ⟨S1x16x64x64, .f32⟩
  | .hbm, ⟨48, _⟩ => ⟨S_, .f32⟩
  | .hbm, ⟨49, _⟩ => ⟨S1x16x64x64, .f32⟩
  | .hbm, ⟨50, _⟩ => ⟨S1x16x64x64, .f32⟩
  | .hbm, ⟨51, _⟩ => ⟨S1x16x64x64, .f32⟩
  | .hbm, ⟨52, _⟩ => ⟨S_, .f32⟩
  | .hbm, ⟨53, _⟩ => ⟨S1x16x64x64, .f32⟩
  | .hbm, ⟨54, _⟩ => ⟨S1x16x64x64, .f32⟩
  | .hbm, ⟨55, _⟩ => ⟨S1x16x64x64, .f32⟩
  | .hbm, ⟨56, _⟩ => ⟨S_, .f32⟩
  | .hbm, ⟨57, _⟩ => ⟨S1x16x64x64, .f32⟩
  | .hbm, ⟨58, _⟩ => ⟨S1x16x64x64, .f32⟩
  | .hbm, ⟨59, _⟩ => ⟨S1x16x64x64, .f32⟩
  | .hbm, ⟨60, _⟩ => ⟨S_, .f32⟩
  | .hbm, ⟨61, _⟩ => ⟨S1x16x64x64, .f32⟩
  | .hbm, ⟨62, _⟩ => ⟨S1x16x64x64, .f32⟩
  | .hbm, ⟨63, _⟩ => ⟨S_, .f32⟩
  | .hbm, ⟨64, _⟩ => ⟨S1x16x64x64, .f32⟩
  | .hbm, ⟨65, _⟩ => ⟨S1x16x64x64, .f32⟩
  | .hbm, ⟨66, _⟩ => ⟨S1x16x64x64, .f32⟩
  | .hbm, ⟨67, _⟩ => ⟨S_, .f32⟩
  | .hbm, ⟨68, _⟩ => ⟨S1x16x64x64, .f32⟩
  | .hbm, ⟨69, _⟩ => ⟨S1x16x64x64, .f32⟩
  | .hbm, ⟨70, _⟩ => ⟨S1x16x64x64, .f32⟩
  | .hbm, ⟨71, _⟩ => ⟨S_, .f32⟩
  | .hbm, ⟨72, _⟩ => ⟨S1x16x64x64, .f32⟩
  | .hbm, ⟨73, _⟩ => ⟨S1x16x64x64, .f32⟩
  | .hbm, ⟨74, _⟩ => ⟨S1x16x64x64, .f32⟩
  | .hbm, ⟨75, _⟩ => ⟨S_, .f32⟩
  | .hbm, ⟨76, _⟩ => ⟨S1x16x64x64, .f32⟩
  | .hbm, ⟨77, _⟩ => ⟨S1x16x64x64, .f32⟩
  | .hbm, ⟨78, _⟩ => ⟨S_, .f32⟩
  | .hbm, ⟨79, _⟩ => ⟨S1x16x64x64, .f32⟩
  | .hbm, ⟨80, _⟩ => ⟨S1x16x64x64, .f32⟩
  | .hbm, ⟨81, _⟩ => ⟨S_, .f32⟩
  | .hbm, ⟨82, _⟩ => ⟨S1x16x64x64, .f32⟩
  | .hbm, ⟨83, _⟩ => ⟨S1x16x64x64, .f32⟩
  | .hbm, ⟨84, _⟩ => ⟨S1x16x64x64, .f32⟩
  | .hbm, ⟨85, _⟩ => ⟨S_, .f32⟩
  | .hbm, ⟨86, _⟩ => ⟨S1x16x64x64, .f32⟩
  | .hbm, ⟨87, _⟩ => ⟨S1x16x64x64, .f32⟩
  | .hbm, ⟨88, _⟩ => ⟨S1x16x64x64, .f32⟩
  | .hbm, ⟨89, _⟩ => ⟨S_, .f32⟩
  | .hbm, ⟨90, _⟩ => ⟨S1x16x64x64, .f32⟩
  | .hbm, ⟨91, _⟩ => ⟨S1x16x64x64, .f32⟩
  | .hbm, ⟨92, _⟩ => ⟨S1x16x64x64, .f32⟩
  | .hbm, ⟨93, _⟩ => ⟨S_, .f32⟩
  | .hbm, ⟨94, _⟩ => ⟨S1x16x64x64, .f32⟩
  | .hbm, ⟨95, _⟩ => ⟨S1x16x64x64, .f32⟩
  | .hbm, ⟨96, _⟩ => ⟨S_, .f32⟩
  | .hbm, ⟨97, _⟩ => ⟨S1x16x64x64, .f32⟩
  | .hbm, ⟨98, _⟩ => ⟨S1x16x64x64, .f32⟩
  | .hbm, ⟨99, _⟩ => ⟨S1x16x64x64, .f32⟩
  | .hbm, ⟨100, _⟩ => ⟨S_, .f32⟩
  | .hbm, ⟨101, _⟩ => ⟨S1x16x64x64, .f32⟩
  | .hbm, ⟨102, _⟩ => ⟨S1x16x64x64, .f32⟩
  | .hbm, ⟨103, _⟩ => ⟨S1x16x64x64, .f32⟩
  | .hbm, ⟨104, _⟩ => ⟨S_, .f32⟩
  | .hbm, ⟨105, _⟩ => ⟨S1x16x64x64, .f32⟩
  | .hbm, ⟨106, _⟩ => ⟨S1x16x64x64, .f32⟩
  | .hbm, ⟨107, _⟩ => ⟨S1x16x64x64, .f32⟩
  | .hbm, ⟨108, _⟩ => ⟨S_, .f32⟩
  | .hbm, ⟨109, _⟩ => ⟨S1x16x64x64, .f32⟩
  | .hbm, ⟨110, _⟩ => ⟨S1x16x64x64, .f32⟩
  | _, _ => ⟨S1x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Reals.lean ====
/- Real numbers inside the extended reals. The value claims are stated for finite arguments, and this module says what
   that buys: an array the precondition admits is an array of real numbers, and every operation of the two programs
   sends real numbers to real numbers, so that an equation between their results is an equation of real analysis. -/
module

public import Idealize.ShloMosaic.PureOps.Ideal.Laws
public import Idealize.ShloMosaic.Lib.ValueIdx
public import Idealize.ShloMosaic.Lib.IdealHost
public import Idealize.ShloMosaic.Lib.MatmulPlain

@[expose] public section

noncomputable section

namespace Cert.Reals

open Idealize.ShloMosaic
open scoped BigOperators

/-- The word of positive infinity decodes to the top element. -/
theorem ofBits_inf : Ideal.ofBits .f32 0x7F800000#32 = ⊤ := by simp [Ideal.ofBits, Ideal.ieee]

/-- A value whose absolute value compares below infinity is a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf] at h'
  induction x using EReal.rec with
  | bot => simp [Ideal.cmp] at h'
  | top => simp [Ideal.cmp] at h'
  | coe r => exact ⟨r, rfl⟩

/-- An array whose entries all compare below infinity is an array of real numbers. -/
theorem real_array {s z : Shape} {dims : Fin z.rank → Fin s.rank} (x : FVec Ideal s .f32) (hb : z.BroadcastsInDim s dims)
    (h : cmpf .olt (Host.absf x) (broadcastInDim s dims hb (constant (F := Ideal) z .f32 0x7F800000#32)) = fun _ => 1#1) :
    ∃ f : s.Idx → ℝ, x = fun i => (f i : EReal) := by
  have h1 : ∀ i, ∃ r : ℝ, x i = (r : EReal) := fun i => real_of_cmp (x i) (congrFun h i)
  choose f hf using h1
  exact ⟨f, funext hf⟩

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real numbers is the real sum. -/
theorem sum_mul {ι : Type*} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

/-- Division by a real number other than zero. -/
theorem div_coe' (x : ℝ) {y : ℝ} (h : y ≠ 0) : Ideal.div (x : EReal) (y : EReal) = ((x / y : ℝ) : EReal) := by
  rw [Ideal.div_coe h, ← EReal.coe_mul]; congr 1; field_simp

/-- The logistic function over the reals. -/
def sg (x : ℝ) : ℝ := (1 + Real.exp (-x))⁻¹

theorem logistic_coe (x : ℝ) : Ideal.logistic (x : EReal) = ((sg x : ℝ) : EReal) := Ideal.logistic_coe x

/-- The host spells the logistic function `1 / (1 + exp (-x))`. -/
theorem hostLogistic_coe (x : ℝ) : Ideal.div 1 (1 + Ideal.exp (-(x : EReal))) = ((sg x : ℝ) : EReal) := logistic_coe x

theorem one_coe : (1 : EReal) = ((1 : ℝ) : EReal) := rfl

end Cert.Reals

end
-- ==== Proof.FfnBwdA.lean ====
/- The backward of the gated product `silu(fg) * fu` that feeds the down projection: what the kernel's three result
   arrays hold, as functions of the argument arrays index by index. Point `t` of the grid works on rows
   `256 t … 256 t + 255`; the down projection's weights are read whole. -/
module

public import proofs.«01_k».proof.Proof.Gen.KernelIdeal.Value
public import proofs.«01_k».proof.Proof.Reals

@[expose] public section

noncomputable section

namespace Cert.KernelIdeal.FfnBwdA

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

theorem hz : (![0, 0] : Fin 2 → Nat) = fun _ => 0 := funext fun a => by fin_cases a <;> rfl

/-! ## What the kernel computes at one index -/

/-- The cotangent of the gated product at row `r`, column `j`: row `r` of `dx2` against row `j` of the weights. -/
def dact (dx2 : S2048x1024.Idx → EReal) (w : S2816x1024.Idx → EReal) (i : S2048x2816.Idx) : EReal :=
  ∑ k : Fin 1024, dx2 (ix2 (i 0) k) * w (ix2 (i 1) k)

/-- The gate's cotangent, as the kernel spells it. -/
def gDfg (dx2 : S2048x1024.Idx → EReal) (fg fu : S2048x2816.Idx → EReal) (w : S2816x1024.Idx → EReal) (i : S2048x2816.Idx) : EReal :=
  (dact dx2 w i * fu i) * (Ideal.logistic (fg i) * (1 + fg i * (1 - Ideal.logistic (fg i))))
/-- The up branch's cotangent. -/
def gDfu (dx2 : S2048x1024.Idx → EReal) (fg : S2048x2816.Idx → EReal) (w : S2816x1024.Idx → EReal) (i : S2048x2816.Idx) : EReal :=
  dact dx2 w i * (fg i * Ideal.logistic (fg i))
/-- The gated product itself. -/
def gAct (fg fu : S2048x2816.Idx → EReal) (i : S2048x2816.Idx) : EReal := (fg i * Ideal.logistic (fg i)) * fu i

/-! ## The blocks the points read and write -/

variable (m : (ℓ : Loc nD τ sig) → Buf (Elt Ideal) ℓ)

/-- Row `256 t + r` of the long arrays. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 := by decide +kernel

theorem blk0 (c : Dev nD) (t : Fin cfg0.N) (r : Fin 256) (k : Fin 1024) :
    iblk m c 0 t (ix2 r k) = m ((c : Thread nD τ).loc main_arg0) (ix2 (row t r) k) := by
  show m ((c : Thread nD τ).loc main_arg0) ((win0_0.rect t).emb (ix2 r k)) = _
  refine congrArg _ (Shape.idx_ext₂ ?_ ?_)
  · rw [Pipeline.Window.rect_emb_val win0_0 t _ 0 rfl, (idx_facts t).1]; rfl
  · rw [Pipeline.Window.rect_emb_val win0_0 t _ 1 rfl, (idx_facts t).2.1]; show 0 * 1024 + k.val = k.val; omega

theorem blk1 (c : Dev nD) (t : Fin cfg0.N) (r : Fin 256) (k : Fin 2816) :
    iblk m c 1 t (ix2 r k) = m ((c : Thread nD τ).loc main_arg1) (ix2 (row t r) k) := by
  show m ((c : Thread nD τ).loc main_arg1) ((win0_1.rect t).emb (ix2 r k)) = _
  refine congrArg _ (Shape.idx_ext₂ ?_ ?_)
  · rw [Pipeline.Window.rect_emb_val win0_1 t _ 0 rfl, (idx_facts t).2.2.1]; rfl
  · rw [Pipeline.Window.rect_emb_val win0_1 t _ 1 rfl, (idx_facts t).2.2.2.1]; show 0 * 2816 + k.val = k.val; omega

theorem blk2 (c : Dev nD) (t : Fin cfg0.N) (r : Fin 256) (k : Fin 2816) :
    iblk m c 2 t (ix2 r k) = m ((c : Thread nD τ).loc main_arg2) (ix2 (row t r) k) := by
  show m ((c : Thread nD τ).loc main_arg2) ((win0_2.rect t).emb (ix2 r k)) = _
  refine congrArg _ (Shape.idx_ext₂ ?_ ?_)
  · rw [Pipeline.Window.rect_emb_val win0_2 t _ 0 rfl, (idx_facts t).2.2.2.2.1]; rfl
  · rw [Pipeline.Window.rect_emb_val win0_2 t _ 1 rfl, (idx_facts t).2.2.2.2.2.1]; show 0 * 2816 + k.val = k.val; omega

theorem blk3 (c : Dev nD) (t : Fin cfg0.N) (r : Fin 2816) (k : Fin 1024) :
    iblk m c 3 t (ix2 r k) = m ((c : Thread nD τ).loc main_arg3) (ix2 r k) := by
  show m ((c : Thread nD τ).loc main_arg3) ((win0_3.rect t).emb (ix2 r k)) = _
  refine congrArg _ (Shape.idx_ext₂ ?_ ?_)
  · rw [Pipeline.Window.rect_emb_val win0_3 t _ 0 rfl, (idx_facts t).2.2.2.2.2.2.1]; show 0 * 2816 + r.val = r.val; omega
  · rw [Pipeline.Window.rect_emb_val win0_3 t _ 1 rfl, (idx_facts t).2.2.2.2.2.2.2.1]; show 0 * 1024 + k.val = k.val; omega

/-- Where row `r`, column `k` of an output block lies in the array: the three outputs move alike. -/
theorem emb4 (t : Fin cfg0.N) (r : Fin 256) (k : Fin 2816) : (win0_4.rect t).emb (ix2 r k) = ix2 (row t r) k := by
  refine Shape.idx_ext₂ ?_ ?_
  · rw [Pipeline.Window.rect_emb_val win0_4 t _ 0 rfl, (idx_facts t).2.2.2.2.2.2.2.2.1]; rfl
  · rw [Pipeline.Window.rect_emb_val win0_4 t _ 1 rfl, (idx_facts t).2.2.2.2.2.2.2.2.2.1]; show 0 * 2816 + k.val = k.val; omega

theorem emb5 (t : Fin cfg0.N) (r : Fin 256) (k : Fin 2816) : (win0_5.rect t).emb (ix2 r k) = ix2 (row t r) k := emb4 t r k

theorem emb6 (t : Fin cfg0.N) (r : Fin 256) (k : Fin 2816) : (win0_6.rect t).emb (ix2 r k) = ix2 (row t r) k := emb4 t r k

/-- The block product at one index: the accumulator starts from zero. -/
theorem pay1_apply (v0 : Vec Ideal S256x1024 .f32) (v1 : Vec Ideal S2816x1024 .bf16) (r : Fin 256) (j : Fin 2816) :
    k0_pay1 (F := Ideal) v0 v1 (ix2 r j) = ∑ k : Fin 1024, (v0 (ix2 r k) : EReal) * (v1 (ix2 j k) : EReal) := by
  have h := Ideal.matmul_transposedRhs_apply (M := 256) (K := 1024) (N := 2816) (φ₁ := .bf16) (φ₂ := .bf16) none
    (truncf .bf16 v0 bitsLt_bf16_f32) v1 (constant S256x2816 .f32 0x00000000#32) r j
  refine Eq.trans h ?_
  rw [show (constant (F := Ideal) S256x2816 .f32 0x00000000#32 (ix2 r j) : EReal) = 0 from Ideal.ofBits_zero_f32, zero_add]
  rfl

variable (c : Dev nD)

/-- The block product of point `t` is the whole cotangent read at the block's rows. -/
theorem pay1_blk (t : Fin cfg0.N) (r : Fin 256) (j : Fin 2816) :
    k0_pay1 (F := Ideal) (iblk m c 0 t) (iblk m c 3 t) (ix2 r j)
      = dact (m ((c : Thread nD τ).loc main_arg0)) (m ((c : Thread nD τ).loc main_arg3)) (ix2 (row t r) j) := by
  rw [pay1_apply]
  exact Finset.sum_congr rfl fun k _ => by rw [blk0, blk3]

theorem flushed4_eq (t : Fin cfg0.N) :
    (dats m 0 c).flushed 4 t = (win0_4.blk t).view.read (Elt Ideal) (gDfg (m ((c : Thread nD τ).loc main_arg0)) (m ((c : Thread nD τ).loc main_arg1))
      (m ((c : Thread nD τ).loc main_arg2)) (m ((c : Thread nD τ).loc main_arg3))) := by
  rw [Value.flushed4]
  unfold out0_4
  rw [View.canon_unit_zero hz, View.ld_unit_zero hz, View.ld_unit_zero hz, View.ld_unit_zero hz, View.ld_unit_zero hz]
  funext i
  obtain ⟨r, j, rfl⟩ : ∃ (r : Fin 256) (j : Fin 2816), i = ix2 r j := ⟨_, _, eq_ix2 i⟩
  show k0_pay7 (F := Ideal) (iblk m c 0 t) (iblk m c 3 t) (iblk m c 1 t) (iblk m c 2 t) (ix2 r j) = gDfg _ _ _ _ ((win0_4.rect t).emb (ix2 r j))
  rw [emb4]
  unfold gDfg
  rw [← pay1_blk, ← blk1 m c, ← blk2 m c, ← Ideal.ofBits_one_f32]
  rfl

theorem flushed5_eq (t : Fin cfg0.N) :
    (dats m 0 c).flushed 5 t = (win0_5.blk t).view.read (Elt Ideal) (gDfu (m ((c : Thread nD τ).loc main_arg0)) (m ((c : Thread nD τ).loc main_arg1))
      (m ((c : Thread nD τ).loc main_arg3))) := by
  rw [Value.flushed5]
  unfold out0_5
  rw [View.canon_unit_zero hz, View.ld_unit_zero hz, View.ld_unit_zero hz, View.ld_unit_zero hz]
  funext i
  obtain ⟨r, j, rfl⟩ : ∃ (r : Fin 256) (j : Fin 2816), i = ix2 r j := ⟨_, _, eq_ix2 i⟩
  show k0_pay6 (F := Ideal) (iblk m c 0 t) (iblk m c 3 t) (iblk m c 1 t) (ix2 r j) = gDfu _ _ _ ((win0_5.rect t).emb (ix2 r j))
  rw [emb5]
  unfold gDfu
  rw [← pay1_blk, ← blk1 m c]
  rfl

theorem flushed6_eq (t : Fin cfg0.N) :
    (dats m 0 c).flushed 6 t = (win0_6.blk t).view.read (Elt Ideal) (gAct (m ((c : Thread nD τ).loc main_arg1))
      (m ((c : Thread nD τ).loc main_arg2))) := by
  rw [Value.flushed6]
  unfold out0_6
  rw [View.canon_unit_zero hz, View.ld_unit_zero hz, View.ld_unit_zero hz]
  funext i
  obtain ⟨r, j, rfl⟩ : ∃ (r : Fin 256) (j : Fin 2816), i = ix2 r j := ⟨_, _, eq_ix2 i⟩
  show k0_pay8 (F := Ideal) (iblk m c 1 t) (iblk m c 2 t) (ix2 r j) = gAct _ _ ((win0_6.rect t).emb (ix2 r j))
  rw [emb6]
  unfold gAct
  rw [← blk1 m c, ← blk2 m c]
  rfl

/-! ## The blocks tile the arrays -/

/-- The point and the row inside its block of a row of the array. -/
theorem row_surj (i : S2048x2816.Idx) : ∃ (t : Fin cfg0.N) (r : Fin 256) (j : Fin 2816), i = ix2 (row t r) j := by
  have h0 : (i 0 : Nat) < 2048 := (i 0).isLt
  refine ⟨⟨(i 0 : Nat) / 256, by show (i 0 : Nat) / 256 < 8; omega⟩, ⟨(i 0 : Nat) % 256, by omega⟩, i 1, Shape.idx_ext₂ ?_ rfl⟩
  show (i 0 : Nat) = (i 0 : Nat) / 256 * 256 + (i 0 : Nat) % 256
  omega

theorem cover4 (i : S2048x2816.Idx) : ∃ t : Fin cfg0.N, (cfg0.win 4).flush t = true ∧ i ∈ ((cfg0.win 4).blk t).view.set := by
  obtain ⟨t, r, j, rfl⟩ := row_surj i
  refine ⟨t, flush0_4 t, ?_⟩
  rw [← emb4]
  exact View.emb_mem_set (win0_4.blk t).view (ix2 r j)

theorem cover5 (i : S2048x2816.Idx) : ∃ t : Fin cfg0.N, (cfg0.win 5).flush t = true ∧ i ∈ ((cfg0.win 5).blk t).view.set := by
  obtain ⟨t, r, j, rfl⟩ := row_surj i
  refine ⟨t, flush0_5 t, ?_⟩
  rw [← emb5]
  exact View.emb_mem_set (win0_5.blk t).view (ix2 r j)

theorem cover6 (i : S2048x2816.Idx) : ∃ t : Fin cfg0.N, (cfg0.win 6).flush t = true ∧ i ∈ ((cfg0.win 6).blk t).view.set := by
  obtain ⟨t, r, j, rfl⟩ := row_surj i
  refine ⟨t, flush0_6 t, ?_⟩
  rw [← emb6]
  exact View.emb_mem_set (win0_6.blk t).view (ix2 r j)

/-- The run, read: the three result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = gDfg (m ((c : Thread nD τ).loc main_arg0)) (m ((c : Thread nD τ).loc main_arg1))
        (m ((c : Thread nD τ).loc main_arg2)) (m ((c : Thread nD τ).loc main_arg3))
      ∧ r.2.mem ((c : Thread nD τ).loc main_v0_1) = gDfu (m ((c : Thread nD τ).loc main_arg0)) (m ((c : Thread nD τ).loc main_arg1))
        (m ((c : Thread nD τ).loc main_arg3))
      ∧ r.2.mem ((c : Thread nD τ).loc main_v0_2) = gAct (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 _ (fun t _ => flushed4_eq m c t) cover4),
      (h c).2.1.trans ((dats m 0 c).arrAt_eq_of_cover 5 _ (fun t _ => flushed5_eq m c t) cover5),
      (h c).2.2.1.trans ((dats m 0 c).arrAt_eq_of_cover 6 _ (fun t _ => flushed6_eq m c t) cover6),
      (h c).2.2.2⟩)
    (Value.run_blocks m ρ)

end Cert.KernelIdeal.FfnBwdA

end
-- ==== Proof.FfnBwdAEq.lean ====
/- The equation of the gated product's backward: for finite arguments the derivative that `jax.vjp` takes of
   `(silu(fg) * fu) @ w_down` is what the kernel's own formula gives. -/
module

public import proofs.«01_k».proof.Proof.FfnBwdA
public import proofs.«01_k».proof.Proof.Gen.ReferenceIdeal.Run
public import proofs.«01_k».proof.Proof.Gen.ReferenceIdeal.Read

@[expose] public section

noncomputable section

namespace Cert.FfnBwdAEq

open Cert.ReferenceIdeal Cert.ReferenceIdeal.Read Idealize.ShloMosaic Idealize.ShloMosaic.TcCoe Idealize.SL.Sem
open Idealize.ShloMosaic.ValueIdx Cert.Reals
open Cert.KernelIdeal.FfnBwdA (dact gDfg gDfu gAct)
open scoped BigOperators

variable (x0 : S2048x1024.Idx → EReal) (x1 x2 : S2048x2816.Idx → EReal) (x3 : S2816x1024.Idx → EReal)

/-- The reference's product is the kernel's. -/
theorem ref_dact (i : S2048x2816.Idx) : val_main_v8 (F := Ideal) x0 x3 i = dact x0 x3 i := by
  rw [val_main_v8_apply]
  refine Finset.sum_congr rfl fun k _ => ?_
  rw [val_main_v2_apply]
  exact congrArg₂ (fun a b => x0 a * x3 b) (Shape.idx_ext₂ rfl rfl) (Shape.idx_ext₂ rfl rfl)

/-- The reference's logistic function of the gate, both times it is computed. -/
theorem ref_sg (i : S2048x2816.Idx) : val_main_call0_v5 (F := Ideal) x1 i = Ideal.logistic (x1 i) := by
  show Ideal.div (Ideal.ofBits .f32 0x3F800000#32) (Ideal.ofBits .f32 0x3F800000#32 + Ideal.exp (-(x1 i))) = _
  rw [Ideal.ofBits_one_f32]; rfl

theorem act_eq : val_main_v14 (F := Ideal) x1 x2 = gAct x1 x2 := by
  funext i
  show x1 i * val_main_call0_v5 (F := Ideal) x1 i * x2 i = _
  rw [ref_sg]; rfl

/-- The same logistic function, computed again for the derivative. -/
theorem ref_sg' (i : S2048x2816.Idx) : val_main_v5_2 (F := Ideal) x1 i = Ideal.logistic (x1 i) := ref_sg x1 i

/-- One minus it. -/
theorem ref_one_sub (i : S2048x2816.Idx) : val_main_call1_v7 (F := Ideal) x1 i = 1 - Ideal.logistic (x1 i) := by
  show Ideal.ofBits .f32 0x3F800000#32 - val_main_v5_2 (F := Ideal) x1 i = _
  rw [Ideal.ofBits_one_f32, ref_sg']

/-- The up branch's cotangent: the same product in the other order. -/
theorem dfu_eq : val_main_v13 (F := Ideal) x0 x1 x3 = gDfu x0 x1 x3 := by
  funext i
  show x1 i * val_main_v5_2 (F := Ideal) x1 i * val_main_v8 (F := Ideal) x0 x3 i = _
  rw [ref_sg', ref_dact]; exact mul_comm _ _

/-- The gate's cotangent at real numbers: the reference's sum of two products is the kernel's one product. -/
theorem dfg_eq (a0 : S2048x1024.Idx → ℝ) (a1 a2 : S2048x2816.Idx → ℝ) (a3 : S2816x1024.Idx → ℝ) :
    val_main_v12 (F := Ideal) (fun i => (a0 i : EReal)) (fun i => (a1 i : EReal)) (fun i => (a2 i : EReal)) (fun i => (a3 i : EReal))
      = gDfg (fun i => (a0 i : EReal)) (fun i => (a1 i : EReal)) (fun i => (a2 i : EReal)) (fun i => (a3 i : EReal)) := by
  funext i
  set y0 : S2048x1024.Idx → EReal := fun i => (a0 i : EReal)
  set y1 : S2048x2816.Idx → EReal := fun i => (a1 i : EReal)
  set y2 : S2048x2816.Idx → EReal := fun i => (a2 i : EReal)
  set y3 : S2816x1024.Idx → EReal := fun i => (a3 i : EReal)
  show val_main_v8 (F := Ideal) y0 y3 i * y2 i * val_main_v5_2 (F := Ideal) y1 i
      + y1 i * (val_main_v8 (F := Ideal) y0 y3 i * y2 i) * (val_main_v5_2 (F := Ideal) y1 i * val_main_call1_v7 (F := Ideal) y1 i) = _
  rw [ref_dact, ref_sg', ref_one_sub]
  have hd : dact y0 y3 i = ((∑ k : Fin 1024, a0 (ix2 (i 0) k) * a3 (ix2 (i 1) k) : ℝ) : EReal) :=
    sum_mul Finset.univ (fun k : Fin 1024 => a0 (ix2 (i 0) k)) (fun k => a3 (ix2 (i 1) k))
  unfold gDfg
  rw [hd]
  generalize (∑ k : Fin 1024, a0 (ix2 (i 0) k) * a3 (ix2 (i 1) k)) = d
  rw [show y1 i = (a1 i : EReal) from rfl, show y2 i = (a2 i : EReal) from rfl, logistic_coe, one_coe]
  simp only [← EReal.coe_mul, ← EReal.coe_add, ← EReal.coe_sub]
  exact congrArg Real.toEReal (by ring)

end Cert.FfnBwdAEq

end
-- ==== Proof.Blocks.lean ====
/- Blocks of two axes read index by index over the extended reals: sums along an axis, a column or a row spread over a
   block, and the loads of a whole buffer. Stated once for every size; the calls use them at their own. -/
module

public import proofs.«01_k».proof.Proof.Reals
public import Idealize.ShloMosaic.Lib.VecWindow
public import Idealize.ShloMosaic.Lib.Pipeline.Value

@[expose] public section

noncomputable section

namespace Cert.Blocks

open Idealize.ShloMosaic Idealize.ShloMosaic.ValueIdx
open scoped BigOperators

variable {a b : Nat}

theorem hz : (![0, 0] : Fin 2 → Nat) = fun _ => 0 := funext fun a => by fin_cases a <;> rfl

/-- A load of a whole buffer of two axes reads the buffer. -/
theorem ld_whole {Val : EltTy → Type} {e : EltTy} (x : (⟨2, ![a, b]⟩ : Shape).Idx → Val e)
    (inb : ∀ i, (![0, 0] : Fin 2 → Nat) i + (⟨2, ![a, b]⟩ : Shape).size i ≤ (⟨2, ![a, b]⟩ : Shape).size i) :
    View.ld x (Rect.unit (s := ⟨2, ![a, b]⟩) ![0, 0] (⟨2, ![a, b]⟩ : Shape).size inb) = x :=
  View.ld_unit_zero (S := ⟨2, ![a, b]⟩) hz inb x

/-- A sum along the last axis. -/
theorem sumRow (v : FVec Ideal ⟨2, ![a, b]⟩ .f32) (acc : BitVec FTy.f32.bits) (h : (⟨2, ![a, b]⟩ : Shape).Reduces [1] ⟨1, ![a]⟩)
    (hφ : FKind.Formats .f32) (hacc : acc = FKind.add.neutral .f32 hφ) (r : Fin a) :
    (multiReduction .add [1] ⟨1, ![a]⟩ v acc h hφ hacc (ix1 r) : EReal) = ∑ k : Fin b, (v (ix2 r k) : EReal) := by
  refine (Ideal.multiReduction_add_single v acc h hφ hacc (ix1 r)).trans ?_
  exact Finset.sum_congr rfl fun k _ => congrArg v (Shape.idx_ext₂ rfl rfl)

/-- A sum along the first axis. -/
theorem sumCol (v : FVec Ideal ⟨2, ![a, b]⟩ .f32) (acc : BitVec FTy.f32.bits) (h : (⟨2, ![a, b]⟩ : Shape).Reduces [0] ⟨1, ![b]⟩)
    (hφ : FKind.Formats .f32) (hacc : acc = FKind.add.neutral .f32 hφ) (j : Fin b) :
    (multiReduction .add [0] ⟨1, ![b]⟩ v acc h hφ hacc (ix1 j) : EReal) = ∑ k : Fin a, (v (ix2 k j) : EReal) := by
  refine (Ideal.multiReduction_add_single v acc h hφ hacc (ix1 j)).trans ?_
  exact Finset.sum_congr rfl fun k _ => congrArg v (Shape.idx_ext₂ rfl rfl)

/-- A vector stood up as a column. -/
theorem colCast {α : Type} (v : (⟨1, ![a]⟩ : Shape).Idx → α) (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    rw [Shape.rowMajor_val_one, Shape.rowMajor_val_two]; show r.val = r.val * 1 + u.val; omega)

/-- A vector laid down as a row. -/
theorem rowCast {α : Type} (v : (⟨1, ![b]⟩ : Shape).Idx → α) (h : (⟨1, ![b]⟩ : Shape).ShapeCasts ⟨2, ![1, b]⟩) (u : Fin 1) (j : Fin b) :
    shapeCast ⟨2, ![1, b]⟩ v h (ix2 u j) = v (ix1 j) :=
  shapeCast_apply v h _ _ (by
    rw [Shape.rowMajor_val_one, Shape.rowMajor_val_two]; show j.val = u.val * b + j.val; have : u.val = 0 := by omega
    rw [this]; omega)

/-- A column spread over a block. -/
theorem spreadCol {α : Type} (v : (⟨2, ![a, 1]⟩ : Shape).Idx → α) (h : (⟨2, ![a, 1]⟩ : Shape).Broadcasts ⟨2, ![a, b]⟩) (r : Fin a) (j : Fin b) :
    broadcastTo ⟨2, ![a, b]⟩ v h (ix2 r j) = v (ix2 r 0) :=
  broadcastTo_apply v h _ _ (fun i => by
    match i with
    | ⟨0, _⟩ => show r.val = if a = 1 then 0 else r.val; split <;> omega
    | ⟨1, _⟩ => rfl)

/-- A row spread over a block. -/
theorem spreadRow {α : Type} (v : (⟨2, ![1, b]⟩ : Shape).Idx → α) (h : (⟨2, ![1, b]⟩ : Shape).Broadcasts ⟨2, ![a, b]⟩) (r : Fin a) (j : Fin b) :
    broadcastTo ⟨2, ![a, b]⟩ v h (ix2 r j) = v (ix2 0 j) :=
  broadcastTo_apply v h _ _ (fun i => by
    match i with
    | ⟨0, _⟩ => rfl
    | ⟨1, _⟩ => show j.val = if b = 1 then 0 else j.val; split <;> omega)

/-- An array with one row replaced, read at an index. -/
theorem put_row {α : Type} {n : Nat} (x : (⟨2, ![n, b]⟩ : Shape).Idx → α) (k : Nat) (w : (⟨2, ![1, b]⟩ : Shape).Idx → α) (r : Fin n) (j : Fin b) :
    VecWindow.put (s := ⟨2, ![n, b]⟩) x ![k, 0] ![1, b] w (ix2 r j) = if r.val = k then w (ix2 0 j) else x (ix2 r j) := by
  unfold VecWindow.put
  by_cases h : r.val = k
  · rw [if_pos h, dif_pos (fun i => by
      match i with
      | ⟨0, _⟩ => exact ⟨h.ge, by show r.val < k + 1; omega⟩
      | ⟨1, _⟩ => exact ⟨Nat.zero_le _, by show j.val < 0 + b; have := j.isLt; omega⟩)]
    refine congrArg w (Shape.idx_ext₂ ?_ ?_)
    · show r.val - k = 0; omega
    · show j.val - 0 = j.val; omega
  · rw [if_neg h, dif_neg (fun hh => h (by
      have h0 := hh (0 : Fin 2)
      have h1 : k ≤ r.val := h0.1
      have h2 : r.val < k + 1 := h0.2
      omega))]

/-- One row of an array, loaded. -/
theorem ld_row {Val : EltTy → Type} {e : EltTy} {n : Nat} (x : (⟨2, ![n, b]⟩ : Shape).Idx → Val e) (k : Fin n)
    (inb : ∀ i, (![k.val, 0] : Fin 2 → Nat) i + (⟨2, ![1, b]⟩ : Shape).size i ≤ (⟨2, ![n, b]⟩ : Shape).size i) (u : Fin 1) (j : Fin b) :
    View.ld x (Rect.unit (s := ⟨2, ![n, b]⟩) ![k.val, 0] (⟨2, ![1, b]⟩ : Shape).size inb) (ix2 u j) = x (ix2 k j) := by
  show x _ = _
  refine congrArg x (Shape.idx_ext₂ ?_ ?_)
  · show k.val + 1 * u.val = k.val; omega
  · show 0 + 1 * j.val = j.val; omega

/-- The rows of eight blocks of 256, one after the other, are the 2048 rows. -/
theorem sum_rows {M : Type*} [AddCommMonoid M] (f : Fin 2048 → M) :
    ∑ t : Fin 8, ∑ r : Fin 256, f ⟨t.val * 256 + r.val, by omega⟩ = ∑ i, f i := by
  rw [← Fintype.sum_prod_type' (f := fun (t : Fin 8) (r : Fin 256) => f ⟨t.val * 256 + r.val, by omega⟩)]
  exact Fintype.sum_equiv (finProdFinEquiv (m := 8) (n := 256)) _ _ fun p => congrArg f (Fin.ext (by
    show p.1.val * 256 + p.2.val = p.2.val + 256 * p.1.val; omega))

end Cert.Blocks

end
-- ==== Proof.Rms.lean ====
/- The root-mean-square norm of one row of 1024 numbers and its backward, in the two spellings the programs use: the
   kernels' closed form and the terms that the derivative of `x * rsqrt(mean(x^2) + eps)` consists of. At real numbers
   the two are equal. -/
module

public import proofs.«01_k».proof.Proof.Reals

@[expose] public section

noncomputable section

namespace Cert.Rms

open Idealize.ShloMosaic Cert.Reals
open scoped BigOperators

/-- The row's length and the small number added to the mean square, as the programs write them. -/
def cN : EReal := Ideal.ofBits .f32 0x44800000#32
def cEps : EReal := Ideal.ofBits .f32 0x358637BD#32
def cNegHalf : EReal := Ideal.ofBits .f32 0xBF000000#32

/-- The mean square plus the small number. -/
def msq (f : Fin 1024 → EReal) : EReal := Ideal.div (∑ k, f k * f k) cN + cEps
/-- Its reciprocal root. -/
def rinv (f : Fin 1024 → EReal) : EReal := Ideal.rsqrt (msq f)
/-- The kernels' backward: the cotangent less its mean along the normed row, times the reciprocal root. -/
def bwd (f d : Fin 1024 → EReal) (j : Fin 1024) : EReal :=
  rinv f * (d j - (f j * rinv f) * Ideal.div (∑ k, d k * (f k * rinv f)) cN)
/-- The cotangent of the square that the derivative goes through, a number of the row. -/
def dsq (f d : Fin 1024 → EReal) : EReal :=
  Ideal.div ((∑ k, f k * d k) * (cNegHalf * Ideal.div (rinv f) (msq f))) cN

theorem cN_eq : cN = ((1024 : ℝ) : EReal) := by
  unfold cN; simp [Ideal.ofBits, Ideal.ieee, -EReal.coe_mul]; norm_num
theorem cNegHalf_eq : cNegHalf = ((-(1 / 2) : ℝ) : EReal) := by
  unfold cNegHalf; simp [Ideal.ofBits, Ideal.ieee, -EReal.coe_mul, -EReal.coe_neg]; norm_num
/-- The small number is a positive real. -/
theorem cEps_pos : ∃ e : ℝ, 0 < e ∧ cEps = (e : EReal) := by
  refine ⟨_, ?_, by unfold cEps; simp [Ideal.ofBits, Ideal.ieee, -EReal.coe_mul]; rfl⟩
  positivity

variable (a b : Fin 1024 → ℝ)

/-- At real numbers the mean square plus the small number is a positive real. -/
theorem msq_real : ∃ s : ℝ, 0 < s ∧ msq (fun k => (a k : EReal)) = (s : EReal) := by
  obtain ⟨e, he, h⟩ := cEps_pos
  refine ⟨(∑ k, a k * a k) / 1024 + e, ?_, ?_⟩
  · have : 0 ≤ ∑ k, a k * a k := Finset.sum_nonneg fun k _ => mul_self_nonneg _
    positivity
  · unfold msq; rw [h, cN_eq, sum_mul, div_coe' _ (by norm_num), ← EReal.coe_add]

/-- The reciprocal root of a positive real is a positive real. -/
theorem rsqrt_pos {s : ℝ} (h : 0 < s) : Ideal.rsqrt (s : EReal) = (((Real.sqrt s)⁻¹ : ℝ) : EReal) := by
  rw [Ideal.rsqrt_coe, if_neg (not_lt.mpr h.le), if_neg h.ne']

theorem rinv_real : ∃ r : ℝ, rinv (fun k => (a k : EReal)) = (r : EReal) := by
  obtain ⟨s, hs, h⟩ := msq_real a
  exact ⟨_, by unfold rinv; rw [h, rsqrt_pos hs]⟩

/-- The backward of a norm whose row also passes by unchanged with cotangent `p`: the kernels' spelling
    and the derivative's, which adds the two equal contributions of the square one after the other. -/
theorem bwd_eq (p : EReal) (j : Fin 1024) :
    (p + (b j : EReal) * rinv (fun k => (a k : EReal))
        + (a j : EReal) * dsq (fun k => (a k : EReal)) (fun k => (b k : EReal)))
        + dsq (fun k => (a k : EReal)) (fun k => (b k : EReal)) * (a j : EReal)
      = p + bwd (fun k => (a k : EReal)) (fun k => (b k : EReal)) j := by
  rw [add_assoc, add_assoc]
  refine congrArg (fun y => p + y) ?_
  obtain ⟨s, hs, h⟩ := msq_real a
  have hr : rinv (fun k => (a k : EReal)) = (((Real.sqrt s)⁻¹ : ℝ) : EReal) := by unfold rinv; rw [h, rsqrt_pos hs]
  have hq : Real.sqrt s * Real.sqrt s = s := Real.mul_self_sqrt hs.le
  have hq0 : Real.sqrt s ≠ 0 := (Real.sqrt_pos.mpr hs).ne'
  unfold bwd dsq
  rw [hr, h, cN_eq, cNegHalf_eq]
  generalize Real.sqrt s = q at hq hq0
  subst hq
  simp only [← EReal.coe_mul, ← coe_sum, div_coe' _ (mul_ne_zero hq0 hq0), div_coe' _ (show (1024 : ℝ) ≠ 0 by norm_num), ← EReal.coe_add, ← EReal.coe_sub]
  refine congrArg Real.toEReal ?_
  have e : ∑ k, b k * (a k * q⁻¹) = (∑ k, a k * b k) * q⁻¹ := by
    rw [Finset.sum_mul]; exact Finset.sum_congr rfl fun k _ => by ring
  rw [e]
  generalize ∑ k, a k * b k = S
  field_simp
  ring

/-- So is the kernels' backward a real number. -/
theorem bwd_real (j : Fin 1024) : ∃ r : ℝ, bwd (fun k => (a k : EReal)) (fun k => (b k : EReal)) j = (r : EReal) := by
  obtain ⟨r, hr⟩ := rinv_real a
  unfold bwd
  rw [hr, cN_eq]
  simp only [← EReal.coe_mul, ← coe_sum, div_coe' _ (show (1024 : ℝ) ≠ 0 by norm_num), ← EReal.coe_sub]
  exact ⟨_, rfl⟩

end Cert.Rms

end
-- ==== Proof.FfnBwdB.lean ====
/- The backward of the feed-forward block's norm and its two up projections: what the kernel's three result arrays hold,
   as functions of the argument arrays index by index. Point `t` of the grid works on rows `256 t … 256 t + 255`; the
   gain's gradient is added up over the points in row 0 of an array of eight rows. -/
module

public import proofs.«01_k».proof.Proof.Gen.Kernel2Ideal.Value
public import proofs.«01_k».proof.Proof.Blocks
public import proofs.«01_k».proof.Proof.Rms

@[expose] public section

noncomputable section

namespace Cert.Kernel2Ideal.FfnBwdB

open Cert.Kernel2Ideal Cert.Kernel2Ideal.Gen Idealize.ShloMosaic Idealize.ShloMosaic.TcCoe Idealize.SL.Sem
open Idealize.ShloMosaic.Pipeline (Dat)
open Idealize.ShloMosaic.ValueIdx
open Cert.Blocks (hz)
open scoped BigOperators

/-! ## What the kernel computes at one index -/

/-- The cotangent of the normed rows: both projections' cotangents against the rows of their weights. -/
def dh2 (dfg dfu : S2048x2816.Idx → EReal) (wg wu : S1024x2816.Idx → EReal) (r : Fin 2048) (j : Fin 1024) : EReal :=
  (∑ k : Fin 2816, dfg (ix2 r k) * wg (ix2 j k)) + ∑ k : Fin 2816, dfu (ix2 r k) * wu (ix2 j k)

/-- The rows' cotangent: the residual's plus the norm's backward. -/
def gDx1 (dfg dfu : S2048x2816.Idx → EReal) (x dx2 : S2048x1024.Idx → EReal) (g : S1024.Idx → EReal) (wg wu : S1024x2816.Idx → EReal)
    (i : S2048x1024.Idx) : EReal :=
  dx2 i + Rms.bwd (fun k => x (ix2 (i 0) k)) (fun k => dh2 dfg dfu wg wu (i 0) k * g (ix1 k)) (i 1)

/-- The normed rows. -/
def gH2 (x : S2048x1024.Idx → EReal) (g : S1024.Idx → EReal) (i : S2048x1024.Idx) : EReal :=
  (x i * Rms.rinv (fun k => x (ix2 (i 0) k))) * g (ix1 (i 1))

/-- One row's contribution to the gain's gradient. -/
def dgain (dfg dfu : S2048x2816.Idx → EReal) (x : S2048x1024.Idx → EReal) (wg wu : S1024x2816.Idx → EReal) (r : Fin 2048) (j : Fin 1024) : EReal :=
  dh2 dfg dfu wg wu r j * (x (ix2 r j) * Rms.rinv (fun k => x (ix2 r k)))

/-- The gain's gradient in row 0, zeros below it. -/
def gVec (dfg dfu : S2048x2816.Idx → EReal) (x : S2048x1024.Idx → EReal) (wg wu : S1024x2816.Idx → EReal) (i : S8x1024.Idx) : EReal :=
  if (i 0).val = 0 then ∑ r, dgain dfg dfu x wg wu r (i 1) else 0

/-! ## The payloads of the body at one index -/

theorem mm_apply (v : FVec Ideal S256x2816 .bf16) (w : FVec Ideal S2816x1024 .bf16) (r : Fin 256) (j : Fin 1024) :
    (matmul (F := Ideal) dot_S256x2816_S2816x1024_S256x1024_1_0_0_1_n_n none v w (constant S256x1024 .f32 0x00000000#32) (ix2 r j) : EReal)
      = ∑ k : Fin 2816, (v (ix2 r k) : EReal) * (w (ix2 k j) : EReal) := by
  have h := Ideal.matmul_plain_apply (M := 256) (K := 2816) (N := 1024) (φ₁ := .bf16) (φ₂ := .bf16) none v w (constant S256x1024 .f32 0x00000000#32) r j
  refine Eq.trans h ?_
  rw [show (constant (F := Ideal) S256x1024 .f32 0x00000000#32 (ix2 r j) : EReal) = 0 from Ideal.ofBits_zero_f32, zero_add]

theorem pay4_apply (v3 : Vec Ideal S256x2816 .bf16) (v4 : Vec Ideal S2816x1024 .bf16) (v7 : Vec Ideal S256x2816 .bf16) (v8 : Vec Ideal S2816x1024 .bf16)
    (r : Fin 256) (j : Fin 1024) : (k0_pay4 (F := Ideal) v3 v4 v7 v8 (ix2 r j) : EReal)
      = (∑ k : Fin 2816, (v3 (ix2 r k) : EReal) * (v4 (ix2 k j) : EReal)) + ∑ k : Fin 2816, (v7 (ix2 r k) : EReal) * (v8 (ix2 k j) : EReal) := by
  unfold k0_pay4
  rw [shapeCast_self, shapeCast_self]
  exact congrArg₂ (· + ·) (mm_apply v3 v4 r j) (mm_apply v7 v8 r j)

theorem pay5_apply (x : Vec Ideal S256x1024 .f32) (r : Fin 256) (u : Fin 1) :
    (k0_pay5 (F := Ideal) x (ix2 r u) : EReal) = Rms.rinv (fun k => x (ix2 r k)) := by
  unfold k0_pay5
  refine congrArg (fun s => Ideal.rsqrt (Ideal.div s Rms.cN + Rms.cEps)) ?_
  exact (Blocks.colCast _ _ r u).trans (Blocks.sumRow _ _ _ _ _ r)

theorem pay6_apply (x : Vec Ideal S256x1024 .f32) (r : Fin 256) (j : Fin 1024) :
    (k0_pay6 (F := Ideal) x (ix2 r j) : EReal) = x (ix2 r j) * Rms.rinv (fun k => x (ix2 r k)) := by
  unfold k0_pay6
  refine congrArg (fun s => (x (ix2 r j) : EReal) * s) ?_
  exact (Blocks.spreadCol _ _ r j).trans (pay5_apply x r 0)

theorem pay7_apply (x : Vec Ideal S256x1024 .f32) (g : Vec Ideal S1x1024 .f32) (r : Fin 256) (j : Fin 1024) :
    (k0_pay7 (F := Ideal) x g (ix2 r j) : EReal) = (x (ix2 r j) * Rms.rinv (fun k => x (ix2 r k))) * g (ix2 0 j) := by
  unfold k0_pay7
  rw [shapeCast_self]
  exact congrArg₂ (fun a b : EReal => a * b) (pay6_apply x r j) (Blocks.spreadRow _ _ r j)

theorem pay8_apply (v3 : Vec Ideal S256x2816 .bf16) (v4 : Vec Ideal S2816x1024 .bf16) (v7 : Vec Ideal S256x2816 .bf16) (v8 : Vec Ideal S2816x1024 .bf16)
    (g : Vec Ideal S1x1024 .f32) (r : Fin 256) (j : Fin 1024) :
    (k0_pay8 (F := Ideal) v3 v4 v7 v8 g (ix2 r j) : EReal) = k0_pay4 (F := Ideal) v3 v4 v7 v8 (ix2 r j) * g (ix2 0 j) := by
  unfold k0_pay8
  rw [shapeCast_self]
  exact congrArg (fun b : EReal => (k0_pay4 (F := Ideal) v3 v4 v7 v8 (ix2 r j) : EReal) * b) (Blocks.spreadRow _ _ r j)

theorem pay1_apply (x : Vec Ideal S256x1024 .f32) (d e p : FVec Ideal S256x1024 .f32)
    (he : ∀ r j, (e (ix2 r j) : EReal) = d (ix2 r j) * k0_pay6 (F := Ideal) x (ix2 r j)) (r : Fin 256) (j : Fin 1024) :
    (k0_pay1 (F := Ideal) (k0_pay5 x) (k0_pay6 x) d e p (ix2 r j) : EReal)
      = p (ix2 r j) + Rms.bwd (fun k => x (ix2 r k)) (fun k => d (ix2 r k)) j := by
  unfold k0_pay1 Rms.bwd
  refine congrArg (fun s : EReal => (p (ix2 r j) : EReal) + s) ?_
  refine congrArg₂ (fun a b : EReal => a * b) ((Blocks.spreadCol _ _ r j).trans (pay5_apply x r 0)) ?_
  refine congrArg (fun s : EReal => (d (ix2 r j) : EReal) - s) ?_
  refine congrArg₂ (fun a b : EReal => a * b) (pay6_apply x r j) ?_
  refine (Blocks.spreadCol _ _ r j).trans ?_
  refine congrArg (fun s : EReal => Ideal.div s Rms.cN) ?_
  refine ((Blocks.colCast _ _ r 0).trans (Blocks.sumRow _ _ _ _ _ r)).trans ?_
  exact Finset.sum_congr rfl fun k _ => (he r k).trans (congrArg (fun s : EReal => (d (ix2 r k) : EReal) * s) (pay6_apply x r k))

theorem pay2_apply (v11 v22 : FVec Ideal S256x1024 .f32) (v47 : Vec Ideal S1x1024 .f32) (u : Fin 1) (j : Fin 1024) :
    (k0_pay2 (F := Ideal) v11 v22 v47 (ix2 u j) : EReal) = v47 (ix2 u j) + ∑ r : Fin 256, (v11 (ix2 r j) : EReal) * (v22 (ix2 r j) : EReal) := by
  unfold k0_pay2
  rw [shapeCast_self]
  exact congrArg (fun s : EReal => (v47 (ix2 u j) : EReal) + s) ((Blocks.rowCast _ _ u j).trans (Blocks.sumCol _ _ _ _ _ j))

/-! ## What the body leaves in the three buffers at each point -/

variable (m : (ℓ : Loc nD τ sig) → Buf (Elt Ideal) ℓ)

theorem outs7 (c : Dev nD) (t : Fin cfg0.N) : (outsAt0 m c t.val t.isLt).1
    = k0_pay1 (k0_pay5 (iblk m c 2 t)) (k0_pay6 (iblk m c 2 t)) (k0_pay8 (iblk m c 0 t) (iblk m c 5 t) (iblk m c 1 t) (iblk m c 6 t) (iblk m c 4 t))
       (k0_pay9 (iblk m c 0 t) (iblk m c 5 t) (iblk m c 1 t) (iblk m c 6 t) (iblk m c 2 t) (iblk m c 4 t)) (iblk m c 3 t) := by
  by_cases h0 : t.val % 8 = 0
  · rw [outsAt0_A m c t h0]
    dsimp only
    unfold out0_A_7 kernelRun0_A
    dsimp only
    sl_unfold_words
    rw [View.read_writes_full]
    simp only [View.readAt_eq_ld, Memref.IsWhole.read_unread, View.ld_unit_zero (S := S256x1024) hz, View.ld_unit_zero (S := S256x2816) hz,
      View.ld_unit_zero (S := S2816x1024) hz, View.ld_unit_zero (S := S1x1024) hz]
  · rw [outsAt0_B m c t h0]
    dsimp only
    unfold out0_B_7 kernelRun0_B
    dsimp only
    sl_unfold_words
    rw [View.read_writes_full]
    simp only [View.readAt_eq_ld, Memref.IsWhole.read_unread, View.ld_unit_zero (S := S256x1024) hz, View.ld_unit_zero (S := S256x2816) hz,
      View.ld_unit_zero (S := S2816x1024) hz, View.ld_unit_zero (S := S1x1024) hz]

theorem outs8 (c : Dev nD) (t : Fin cfg0.N) : (outsAt0 m c t.val t.isLt).2.1 = k0_pay7 (iblk m c 2 t) (iblk m c 4 t) := by
  by_cases h0 : t.val % 8 = 0
  · rw [outsAt0_A m c t h0]
    dsimp only
    unfold out0_A_8 kernelRun0_A
    dsimp only
    sl_unfold_words
    rw [View.read_writes_full]
    simp only [View.readAt_eq_ld, Memref.IsWhole.read_unread, View.ld_unit_zero (S := S256x1024) hz, View.ld_unit_zero (S := S1x1024) hz]
  · rw [outsAt0_B m c t h0]
    dsimp only
    unfold out0_B_8 kernelRun0_B
    dsimp only
    sl_unfold_words
    rw [View.read_writes_full]
    simp only [View.readAt_eq_ld, Memref.IsWhole.read_unread, View.ld_unit_zero (S := S256x1024) hz, View.ld_unit_zero (S := S1x1024) hz]

/-- The block's contribution to the gain's gradient. -/
def part (c : Dev nD) (t : Fin cfg0.N) (j : Fin 1024) : EReal :=
  ∑ r : Fin 256, (k0_pay4 (F := Ideal) (iblk m c 0 t) (iblk m c 5 t) (iblk m c 1 t) (iblk m c 6 t) (ix2 r j) : EReal)
    * (k0_pay6 (F := Ideal) (iblk m c 2 t) (ix2 r j) : EReal)

theorem outs9_A (c : Dev nD) (t : Fin cfg0.N) (h0 : t.val % 8 = 0) (r : Fin 8) (j : Fin 1024) :
    ((outsAt0 m c t.val t.isLt).2.2 (ix2 r j) : EReal) = if r.val = 0 then 0 + part m c t j else 0 := by
  rw [outsAt0_A m c t h0]
  dsimp only
  unfold out0_A_9 kernelRun0_A
  dsimp only
  sl_unfold_words
  rw [View.read_writes_cons_put _ _ _ _ _ rfl, View.read_writes_full]
  refine (Blocks.put_row _ 0 _ r j).trans ?_
  split
  · simp only [View.readAt_eq_ld, Memref.IsWhole.read_unread, View.ld_unit_zero (S := S256x1024) hz, View.ld_unit_zero (S := S256x2816) hz,
      View.ld_unit_zero (S := S2816x1024) hz]
    rw [pay2_apply]
    refine congrArg (fun s : EReal => s + part m c t j) ?_
    rw [View.readCov, View.readAt_eq_ld, View.read_writes_full]
    exact (Blocks.ld_row (n := 8) _ 0 _ 0 j).trans Ideal.ofBits_zero_f32
  · exact Ideal.ofBits_zero_f32

theorem outs9_B (c : Dev nD) (t : Fin cfg0.N) (h0 : ¬ t.val % 8 = 0) (r : Fin 8) (j : Fin 1024) :
    ((outsAt0 m c t.val t.isLt).2.2 (ix2 r j) : EReal)
      = if r.val = 0 then (outsAt0 m c (t.val - 1) (Nat.lt_of_le_of_lt (Nat.sub_le _ _) t.isLt)).2.2 (ix2 0 j) + part m c t j
        else (outsAt0 m c (t.val - 1) (Nat.lt_of_le_of_lt (Nat.sub_le _ _) t.isLt)).2.2 (ix2 r j) := by
  rw [outsAt0_B m c t h0]
  dsimp only
  unfold out0_B_9 kernelRun0_B
  dsimp only
  sl_unfold_words
  rw [View.read_writes_cons_put _ _ _ _ _ rfl, View.writes_nil, Memref.IsWhole.read_unread]
  refine (Blocks.put_row _ 0 _ r j).trans ?_
  split
  · simp only [View.readAt_eq_ld, Memref.IsWhole.read_unread, View.ld_unit_zero (S := S256x1024) hz, View.ld_unit_zero (S := S256x2816) hz,
      View.ld_unit_zero (S := S2816x1024) hz]
    rw [pay2_apply]
    refine congrArg (fun s : EReal => s + part m c t j) ?_
    exact Blocks.ld_row (n := 8) _ 0 _ 0 j
  · rfl

/-- After point `n` row 0 holds the sum of the blocks' contributions up to `n`, the other rows zero. -/
theorem outs9 (c : Dev nD) (j : Fin 1024) : ∀ (n : ℕ) (hn : n < cfg0.N) (r : Fin 8), ((outsAt0 m c n hn).2.2 (ix2 r j) : EReal)
    = if r.val = 0 then ∑ t : Fin (n + 1), part m c ⟨t.val, Nat.lt_of_lt_of_le t.isLt hn⟩ j else 0
  | 0, hn, r => by
    rw [outs9_A m c ⟨0, hn⟩ rfl r j, zero_add, Fin.sum_univ_one]; rfl
  | n + 1, hn, r => by
    have hN : n + 1 < 8 := Nat.lt_of_lt_of_eq hn N_0
    rw [outs9_B m c ⟨n + 1, hn⟩ (by show ¬ (n + 1) % 8 = 0; omega) r j]
    show (if r.val = 0 then ((outsAt0 m c n _).2.2 (ix2 0 j) : EReal) + part m c ⟨n + 1, hn⟩ j else ((outsAt0 m c n _).2.2 (ix2 r j) : EReal)) = _
    rw [outs9 c j n (Nat.lt_of_succ_lt hn) 0, outs9 c j n (Nat.lt_of_succ_lt hn) r]
    by_cases h : r.val = 0
    · rw [if_pos h, if_pos h, if_pos (show (0 : Fin 8).val = 0 from rfl), Fin.sum_univ_castSucc (n := n + 1)]; rfl
    · rw [if_neg h, if_neg h, if_neg h]

/-! ## The blocks the points read and write -/

/-- Row `256 t + r` of the long arrays. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0)
    ∧ (win0_8.index t 0 = t.val ∧ win0_8.index t 1 = 0) ∧ (win0_9.index t 0 = 0 ∧ win0_9.index t 1 = 0) := by decide +kernel

theorem emb0 (t : Fin cfg0.N) (r : Fin 256) (k : Fin 2816) : (win0_0.rect t).emb (ix2 r k) = ix2 (row t r) k := by
  refine Shape.idx_ext₂ ?_ ?_
  · rw [Pipeline.Window.rect_emb_val win0_0 t _ 0 rfl, (idx_facts t).1.1]; rfl
  · rw [Pipeline.Window.rect_emb_val win0_0 t _ 1 rfl, (idx_facts t).1.2]; show 0 * 2816 + k.val = k.val; omega
theorem emb1 (t : Fin cfg0.N) (r : Fin 256) (k : Fin 2816) : (win0_1.rect t).emb (ix2 r k) = ix2 (row t r) k := emb0 t r k
theorem emb2 (t : Fin cfg0.N) (r : Fin 256) (k : Fin 1024) : (win0_2.rect t).emb (ix2 r k) = ix2 (row t r) k := by
  refine Shape.idx_ext₂ ?_ ?_
  · rw [Pipeline.Window.rect_emb_val win0_2 t _ 0 rfl, (idx_facts t).2.2.1.1]; rfl
  · rw [Pipeline.Window.rect_emb_val win0_2 t _ 1 rfl, (idx_facts t).2.2.1.2]; show 0 * 1024 + k.val = k.val; omega
theorem emb3 (t : Fin cfg0.N) (r : Fin 256) (k : Fin 1024) : (win0_3.rect t).emb (ix2 r k) = ix2 (row t r) k := emb2 t r k
theorem emb4 (t : Fin cfg0.N) (r : Fin 1) (k : Fin 1024) : (win0_4.rect t).emb (ix2 r k) = ix2 r k := by
  refine Shape.idx_ext₂ ?_ ?_
  · rw [Pipeline.Window.rect_emb_val win0_4 t _ 0 rfl, (idx_facts t).2.2.2.2.1.1]; show 0 * 1 + r.val = r.val; omega
  · rw [Pipeline.Window.rect_emb_val win0_4 t _ 1 rfl, (idx_facts t).2.2.2.2.1.2]; show 0 * 1024 + k.val = k.val; omega
theorem emb5 (t : Fin cfg0.N) (r : Fin 2816) (k : Fin 1024) : (win0_5.rect t).emb (ix2 r k) = ix2 r k := by
  refine Shape.idx_ext₂ ?_ ?_
  · rw [Pipeline.Window.rect_emb_val win0_5 t _ 0 rfl, (idx_facts t).2.2.2.2.2.1.1]; show 0 * 2816 + r.val = r.val; omega
  · rw [Pipeline.Window.rect_emb_val win0_5 t _ 1 rfl, (idx_facts t).2.2.2.2.2.1.2]; show 0 * 1024 + k.val = k.val; omega
theorem emb6 (t : Fin cfg0.N) (r : Fin 2816) (k : Fin 1024) : (win0_6.rect t).emb (ix2 r k) = ix2 r k := emb5 t r k
theorem emb7 (t : Fin cfg0.N) (r : Fin 256) (k : Fin 1024) : (win0_7.rect t).emb (ix2 r k) = ix2 (row t r) k := emb2 t r k
theorem emb8 (t : Fin cfg0.N) (r : Fin 256) (k : Fin 1024) : (win0_8.rect t).emb (ix2 r k) = ix2 (row t r) k := emb2 t r k
theorem emb9 (t : Fin cfg0.N) (r : Fin 8) (k : Fin 1024) : (win0_9.rect t).emb (ix2 r k) = ix2 r k := by
  refine Shape.idx_ext₂ ?_ ?_
  · rw [Pipeline.Window.rect_emb_val win0_9 t _ 0 rfl, (idx_facts t).2.2.2.2.2.2.2.2.2.1]; show 0 * 8 + r.val = r.val; omega
  · rw [Pipeline.Window.rect_emb_val win0_9 t _ 1 rfl, (idx_facts t).2.2.2.2.2.2.2.2.2.2]; show 0 * 1024 + k.val = k.val; omega

variable (c : Dev nD)

theorem blk0 (t : Fin cfg0.N) (r : Fin 256) (k : Fin 2816) : iblk m c 0 t (ix2 r k) = m ((c : Thread nD τ).loc main_arg0) (ix2 (row t r) k) := by
  show m ((c : Thread nD τ).loc main_arg0) ((win0_0.rect t).emb (ix2 r k)) = _
  rw [emb0]
theorem blk1 (t : Fin cfg0.N) (r : Fin 256) (k : Fin 2816) : iblk m c 1 t (ix2 r k) = m ((c : Thread nD τ).loc main_arg1) (ix2 (row t r) k) := by
  show m ((c : Thread nD τ).loc main_arg1) ((win0_1.rect t).emb (ix2 r k)) = _
  rw [emb1]
theorem blk2 (t : Fin cfg0.N) (r : Fin 256) (k : Fin 1024) : iblk m c 2 t (ix2 r k) = m ((c : Thread nD τ).loc main_arg2) (ix2 (row t r) k) := by
  show m ((c : Thread nD τ).loc main_arg2) ((win0_2.rect t).emb (ix2 r k)) = _
  rw [emb2]
theorem blk3 (t : Fin cfg0.N) (r : Fin 256) (k : Fin 1024) : iblk m c 3 t (ix2 r k) = m ((c : Thread nD τ).loc main_arg3) (ix2 (row t r) k) := by
  show m ((c : Thread nD τ).loc main_arg3) ((win0_3.rect t).emb (ix2 r k)) = _
  rw [emb3]
/-- The gain is laid down as one row before the launch. -/
theorem blk4 (t : Fin cfg0.N) (r : Fin 1) (k : Fin 1024) : (iblk m c 4 t (ix2 r k) : EReal) = m ((c : Thread nD τ).loc main_arg4) (ix1 k) := by
  show V m c main_v0 ((win0_4.rect t).emb (ix2 r k)) = _
  rw [emb4]
  entry_read
  exact Blocks.rowCast _ _ r k
/-- The weights are transposed before the launch. -/
theorem blk5 (t : Fin cfg0.N) (r : Fin 2816) (k : Fin 1024) : (iblk m c 5 t (ix2 r k) : EReal) = m ((c : Thread nD τ).loc main_arg5) (ix2 k r) := by
  show V m c main_v2 ((win0_5.rect t).emb (ix2 r k)) = _
  rw [emb5]
  entry_read
  exact congrArg (m ((c : Thread nD τ).loc main_arg5)) (Shape.idx_ext₂ rfl rfl)
theorem blk6 (t : Fin cfg0.N) (r : Fin 2816) (k : Fin 1024) : (iblk m c 6 t (ix2 r k) : EReal) = m ((c : Thread nD τ).loc main_arg6) (ix2 k r) := by
  show V m c main_v4 ((win0_6.rect t).emb (ix2 r k)) = _
  rw [emb6]
  entry_read
  exact congrArg (m ((c : Thread nD τ).loc main_arg6)) (Shape.idx_ext₂ rfl rfl)

/-! ## The blocks written back are blocks of the whole arrays -/

abbrev A0 : S2048x2816.Idx → EReal := m ((c : Thread nD τ).loc main_arg0)
abbrev A1 : S2048x2816.Idx → EReal := m ((c : Thread nD τ).loc main_arg1)
abbrev A2 : S2048x1024.Idx → EReal := m ((c : Thread nD τ).loc main_arg2)
abbrev A3 : S2048x1024.Idx → EReal := m ((c : Thread nD τ).loc main_arg3)
abbrev A4 : S1024.Idx → EReal := m ((c : Thread nD τ).loc main_arg4)
abbrev A5 : S1024x2816.Idx → EReal := m ((c : Thread nD τ).loc main_arg5)
abbrev A6 : S1024x2816.Idx → EReal := m ((c : Thread nD τ).loc main_arg6)

theorem pay4_blk (t : Fin cfg0.N) (r : Fin 256) (j : Fin 1024) :
    (k0_pay4 (F := Ideal) (iblk m c 0 t) (iblk m c 5 t) (iblk m c 1 t) (iblk m c 6 t) (ix2 r j) : EReal)
      = dh2 (A0 m c) (A1 m c) (A5 m c) (A6 m c) (row t r) j := by
  rw [pay4_apply]
  exact congrArg₂ (· + ·) (Finset.sum_congr rfl fun k _ => congrArg₂ (fun a b : EReal => a * b) (blk0 m c t r k) (blk5 m c t k j))
    (Finset.sum_congr rfl fun k _ => congrArg₂ (fun a b : EReal => a * b) (blk1 m c t r k) (blk6 m c t k j))

theorem x_row (t : Fin cfg0.N) (r : Fin 256) : (fun k => iblk m c 2 t (ix2 r k) : Fin 1024 → EReal) = fun k => A2 m c (ix2 (row t r) k) :=
  funext fun k => blk2 m c t r k

theorem flushed7_eq (t : Fin cfg0.N) :
    (dats m 0 c).flushed 7 t = (win0_7.blk t).view.read (Elt Ideal) (gDx1 (A0 m c) (A1 m c) (A2 m c) (A3 m c) (A4 m c) (A5 m c) (A6 m c)) := by
  rw [Value.flushed7, outs7]
  funext i
  obtain ⟨r, j, rfl⟩ : ∃ (r : Fin 256) (j : Fin 1024), i = ix2 r j := ⟨_, _, eq_ix2 i⟩
  refine (pay1_apply _ _ _ _ (fun _ _ => rfl) r j).trans ?_
  show _ = gDx1 _ _ _ _ _ _ _ ((win0_7.rect t).emb (ix2 r j))
  rw [emb7, x_row]
  unfold gDx1
  refine congrArg₂ (· + ·) (blk3 m c t r j) (congrArg (fun d => Rms.bwd _ d j) (funext fun k => ?_))
  rw [pay8_apply, pay4_blk, blk4]

theorem flushed8_eq (t : Fin cfg0.N) :
    (dats m 0 c).flushed 8 t = (win0_8.blk t).view.read (Elt Ideal) (gH2 (A2 m c) (A4 m c)) := by
  rw [Value.flushed8, outs8]
  funext i
  obtain ⟨r, j, rfl⟩ : ∃ (r : Fin 256) (j : Fin 1024), i = ix2 r j := ⟨_, _, eq_ix2 i⟩
  refine (pay7_apply _ _ r j).trans ?_
  show _ = gH2 _ _ ((win0_8.rect t).emb (ix2 r j))
  rw [emb8, x_row, blk2 m c t r j, blk4]
  rfl

/-- The contributions of all blocks are the contributions of all rows. -/
theorem part_sum (j : Fin 1024) : ∑ t : Fin 8, part m c t j = ∑ r, dgain (A0 m c) (A1 m c) (A2 m c) (A5 m c) (A6 m c) r j := by
  rw [← Blocks.sum_rows]
  refine Finset.sum_congr rfl fun (t : Fin cfg0.N) _ => Finset.sum_congr rfl fun r _ => ?_
  show (k0_pay4 (F := Ideal) (iblk m c 0 t) (iblk m c 5 t) (iblk m c 1 t) (iblk m c 6 t) (ix2 r j) : EReal)
    * (k0_pay6 (F := Ideal) (iblk m c 2 t) (ix2 r j) : EReal) = dgain _ _ _ _ _ (row t r) j
  rw [pay4_blk, pay6_apply, x_row, blk2 m c t r j]
  rfl

theorem flushed9_eq (t : Fin cfg0.N) (hf : (cfg0.win 9).flush t = true) :
    (dats m 0 c).flushed 9 t = (win0_9.blk t).view.read (Elt Ideal) (gVec (A0 m c) (A1 m c) (A2 m c) (A5 m c) (A6 m c)) := by
  have h7 : t.val % 8 = 7 := (flush0_9 t).mp hf
  have hN : t.val < 8 := t.isLt
  obtain rfl : t = ⟨7, by decide⟩ := Fin.ext (by show t.val = 7; omega)
  rw [Value.flushed9]
  funext i
  obtain ⟨r, j, rfl⟩ : ∃ (r : Fin 8) (j : Fin 1024), i = ix2 r j := ⟨_, _, eq_ix2 i⟩
  refine (outs9 m c j 7 (by decide) r).trans ?_
  show _ = gVec _ _ _ _ _ ((win0_9.rect _).emb (ix2 r j))
  rw [emb9]
  unfold gVec
  exact congrArg (fun s : EReal => if r.val = 0 then s else 0) (part_sum m c j)

theorem row_surj (i : S2048x1024.Idx) : ∃ (t : Fin cfg0.N) (r : Fin 256) (j : Fin 1024), i = ix2 (row t r) j := by
  have h0 : (i 0 : Nat) < 2048 := (i 0).isLt
  refine ⟨⟨(i 0 : Nat) / 256, by show (i 0 : Nat) / 256 < 8; omega⟩, ⟨(i 0 : Nat) % 256, by omega⟩, i 1, Shape.idx_ext₂ ?_ rfl⟩
  show (i 0 : Nat) = (i 0 : Nat) / 256 * 256 + (i 0 : Nat) % 256
  omega

theorem cover7 (i : S2048x1024.Idx) : ∃ t : Fin cfg0.N, (cfg0.win 7).flush t = true ∧ i ∈ ((cfg0.win 7).blk t).view.set := by
  obtain ⟨t, r, j, rfl⟩ := row_surj i
  refine ⟨t, flush0_7 t, ?_⟩
  rw [← emb7]
  exact View.emb_mem_set (win0_7.blk t).view (ix2 r j)

theorem cover8 (i : S2048x1024.Idx) : ∃ t : Fin cfg0.N, (cfg0.win 8).flush t = true ∧ i ∈ ((cfg0.win 8).blk t).view.set := by
  obtain ⟨t, r, j, rfl⟩ := row_surj i
  refine ⟨t, flush0_8 t, ?_⟩
  rw [← emb8]
  exact View.emb_mem_set (win0_8.blk t).view (ix2 r j)

theorem cover9 (i : S8x1024.Idx) : ∃ t : Fin cfg0.N, (cfg0.win 9).flush t = true ∧ i ∈ ((cfg0.win 9).blk t).view.set := by
  obtain ⟨r, j, rfl⟩ : ∃ (r : Fin 8) (j : Fin 1024), i = ix2 r j := ⟨_, _, eq_ix2 i⟩
  refine ⟨⟨7, by decide⟩, (flush0_9 _).mpr rfl, ?_⟩
  rw [← emb9 ⟨7, by decide⟩]
  exact View.emb_mem_set (win0_9.blk _).view (ix2 r j)

/-- The run, read: the three result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5_0) = gDx1 (A0 m c) (A1 m c) (A2 m c) (A3 m c) (A4 m c) (A5 m c) (A6 m c)
      ∧ r.2.mem ((c : Thread nD τ).loc main_v5_1) = gH2 (A2 m c) (A4 m c)
      ∧ r.2.mem ((c : Thread nD τ).loc main_v5_2) = gVec (A0 m c) (A1 m c) (A2 m c) (A5 m c) (A6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨(h c).1.trans ((dats m 0 c).arrAt_eq_of_cover 7 _ (fun t _ => flushed7_eq m c t) cover7),
      (h c).2.1.trans ((dats m 0 c).arrAt_eq_of_cover 8 _ (fun t _ => flushed8_eq m c t) cover8),
      (h c).2.2.1.trans ((dats m 0 c).arrAt_eq_of_cover 9 _ (fun t hf => flushed9_eq m c t hf) cover9),
      (h c).2.2.2⟩)
    (Value.run_blocks m ρ)

end Cert.Kernel2Ideal.FfnBwdB

end
-- ==== Proof.FfnBwdBEq.lean ====
/- The equation of the backward of the feed-forward block's norm and up projections: the derivative that `jax.vjp` takes
   of `x, rms_norm(x) @ w_gate, rms_norm(x) @ w_up` is what the kernel's own formula gives. The rows' cotangent needs
   finite arguments; the gain's gradient and the normed rows are equal for all. -/
module

public import proofs.«01_k».proof.Proof.FfnBwdB
public import proofs.«01_k».proof.Proof.Gen.Reference2Ideal.Run
public import proofs.«01_k».proof.Proof.Gen.Reference2Ideal.Read

@[expose] public section

noncomputable section

namespace Cert.FfnBwdBEq

open Cert.Reference2Ideal Cert.Reference2Ideal.Read Idealize.ShloMosaic Idealize.ShloMosaic.TcCoe Idealize.SL.Sem
open Idealize.ShloMosaic.ValueIdx Cert.Reals
open Cert.Kernel2Ideal.FfnBwdB (dh2 gDx1 gH2 dgain gVec)
open scoped BigOperators

variable (x0 x1 : S2048x2816.Idx → EReal) (x2 x3 : S2048x1024.Idx → EReal) (x4 : S1024.Idx → EReal) (x5 x6 : S1024x2816.Idx → EReal)

/-- The mean square of a row and the small number. -/
theorem ref_msq (r : Fin 2048) (u : Fin 1) : val_main_v6 (F := Ideal) x2 (ix2 r u) = Rms.msq (fun k => x2 (ix2 r k)) := by
  show Ideal.div (val_main_v2 (F := Ideal) x2 (ix2 r u)) (val_main_v3 (F := Ideal) (ix2 r u)) + val_main_v5 (F := Ideal) (ix2 r u) = _
  rw [val_main_v2_apply, val_main_v1_apply, val_main_v3_apply, val_main_v5_apply]
  show Ideal.div (Ideal.ofBits .f32 0x00000000#32 + _) Rms.cN + Rms.cEps = _
  rw [Ideal.ofBits_zero_f32, zero_add]
  refine congrArg (fun s => Ideal.div s Rms.cN + Rms.cEps) (Finset.sum_congr rfl fun k _ => ?_)
  exact congrArg (fun i => x2 i * x2 i) (Shape.idx_ext₂ rfl rfl)

theorem ref_rinv (r : Fin 2048) (u : Fin 1) : val_main_v7 (F := Ideal) x2 (ix2 r u) = Rms.rinv (fun k => x2 (ix2 r k)) :=
  congrArg Ideal.rsqrt (ref_msq x2 r u)

theorem ref_rinv' (i : S2048x1024.Idx) : val_main_v11 (F := Ideal) x2 i = Rms.rinv (fun k => x2 (ix2 (i 0) k)) := by
  rw [val_main_v11_apply]
  exact (congrArg (val_main_v7 (F := Ideal) x2) (show idx_main_v11 i = ix2 (n0 := 2048) (n1 := 1) (i 0) 0 from Shape.idx_ext₂ rfl rfl)).trans (ref_rinv x2 (i 0) 0)

/-- The normed rows, computed again for the second result. -/
theorem h2_eq : val_main_v57 (F := Ideal) x2 x4 = gH2 x2 x4 := by
  funext i
  show (x2 i * val_main_v11 (F := Ideal) x2 i) * val_main_v14 (F := Ideal) x4 i = _
  rw [ref_rinv', val_main_v14_apply, val_main_v13_apply]
  exact congrArg (fun k => (x2 i * Rms.rinv (fun k => x2 (ix2 (i 0) k))) * x4 k) (funext fun a => by fin_cases a; rfl)

/-- The cotangent of the normed rows: the two products in the other order. -/
theorem ref_dh2 (r : Fin 2048) (j : Fin 1024) : val_main_v22 (F := Ideal) x0 x1 x5 x6 (ix2 r j) = dh2 x0 x1 x5 x6 r j := by
  show val_main_v20 (F := Ideal) x1 x6 (ix2 r j) + val_main_v21 (F := Ideal) x0 x5 (ix2 r j) = _
  rw [val_main_v20_apply, val_main_v21_apply, add_comm]
  refine congrArg₂ (· + ·) (Finset.sum_congr rfl fun k _ => ?_) (Finset.sum_congr rfl fun k _ => ?_)
  · exact congrArg₂ (fun a b => x0 a * x5 b) (Shape.idx_ext₂ rfl rfl) (Shape.idx_ext₂ rfl rfl)
  · exact congrArg₂ (fun a b => x1 a * x6 b) (Shape.idx_ext₂ rfl rfl) (Shape.idx_ext₂ rfl rfl)

/-- The cotangent of the normed rows before the gain. -/
theorem ref_dxn (r : Fin 2048) (j : Fin 1024) : val_main_v27 (F := Ideal) x0 x1 x4 x5 x6 (ix2 r j) = dh2 x0 x1 x5 x6 r j * x4 (ix1 j) := by
  show val_main_v22 (F := Ideal) x0 x1 x5 x6 (ix2 r j) * val_main_v26 (F := Ideal) x4 (ix2 r j) = _
  rw [ref_dh2, val_main_v26_apply, val_main_v13_apply]
  exact congrArg (fun k => dh2 x0 x1 x5 x6 r j * x4 k) (funext fun a => by fin_cases a; rfl)

/-- The gain's gradient, a row of its own. -/
theorem ref_gain (j : Fin 1024) : val_main_v58 (F := Ideal) x0 x1 x2 x5 x6 (ix2 0 j) = ∑ r, dgain x0 x1 x2 x5 x6 r j := by
  rw [val_main_v58_apply, val_main_v28_apply, Fin.sum_univ_one, val_main_v25_apply, val_main_v24_apply]
  show Ideal.ofBits .f32 0x00000000#32 + (Ideal.ofBits .f32 0x00000000#32 + _) = _
  rw [Ideal.ofBits_zero_f32, zero_add, zero_add]
  refine Finset.sum_congr rfl fun r _ => ?_
  have e : idx_main_v24 (idx_main_v25 (idx_main_v28 (idx_main_v58 (ix2 0 j)) 0)) r = ix2 r j :=
    Shape.idx_ext₂ rfl (by show 0 * 1024 + (0 * 1024 + j.val) = j.val; omega)
  rw [e]
  show (x2 (ix2 r j) * val_main_v11 (F := Ideal) x2 (ix2 r j)) * val_main_v22 (F := Ideal) x0 x1 x5 x6 (ix2 r j) = _
  rw [ref_rinv', ref_dh2]
  exact mul_comm _ _

/-- The gain's gradient in row 0 of eight rows, zeros below. -/
theorem vec_eq : val_main_v60 (F := Ideal) x0 x1 x2 x5 x6 = gVec x0 x1 x2 x5 x6 := by
  funext i
  obtain ⟨r, j, rfl⟩ : ∃ (r : Fin 8) (j : Fin 1024), i = ix2 r j := ⟨_, _, eq_ix2 i⟩
  unfold val_main_v60 gVec
  by_cases hr : r.val = 0
  · obtain rfl : r = 0 := Fin.ext hr
    refine Eq.trans ?_ (if_pos (show (ix2 (0 : Fin 8) j 0).val = 0 from rfl)).symm
    exact (concatenate_pair_apply_left (0 : Fin S8x1024.rank) _ _ Gen.concatenates_S1x1024_S7x1024_S8x1024_d0 _ rfl (ix2 0 j)
      (fun b => by fin_cases b <;> rfl)).trans (ref_gain x0 x1 x2 x5 x6 j)
  · refine Eq.trans ?_ (if_neg (show ¬(ix2 r j 0).val = 0 from hr)).symm
    exact (concatenate_pair_apply_right (0 : Fin S8x1024.rank) _ _ Gen.concatenates_S1x1024_S7x1024_S8x1024_d0 _ rfl rfl
      (ix2 (⟨r.val - 1, by omega⟩ : Fin 7) j) (fun b hb => by fin_cases b <;> first | exact absurd rfl hb | rfl)
      (by show r.val - 1 + 1 = r.val; omega)).trans Ideal.ofBits_zero_f32

/-- The number of a row that the derivative of the square is a multiple of. -/
theorem ref_dsq (r : Fin 2048) (j : Fin 1024) : val_main_v39 (F := Ideal) x0 x1 x2 x4 x5 x6 (ix2 r j)
    = Rms.dsq (fun k => x2 (ix2 r k)) (fun k => dh2 x0 x1 x5 x6 r k * x4 (ix1 k)) := by
  rw [val_main_v39_apply, val_main_v38_apply, Fin.sum_univ_one]
  show Ideal.ofBits .f32 0x00000000#32 + Ideal.div (val_main_v31 (F := Ideal) x0 x1 x2 x4 x5 x6 _ * (val_main_v9 (F := Ideal) _ * Ideal.div (val_main_v7 (F := Ideal) x2 _) (val_main_v6 (F := Ideal) x2 _))) (val_main_v36 (F := Ideal) _) = _
  rw [Ideal.ofBits_zero_f32, zero_add, val_main_v31_apply, val_main_v30_apply, val_main_v9_apply, val_main_v36_apply]
  have e : idx_main_v38 (idx_main_v39 (ix2 r j)) 0 = ix2 r 0 := Shape.idx_ext₂ rfl rfl
  rw [e, ref_rinv, ref_msq]
  show Ideal.div ((Ideal.ofBits .f32 0x00000000#32 + _) * (Rms.cNegHalf * _)) Rms.cN = _
  rw [Ideal.ofBits_zero_f32, zero_add]
  unfold Rms.dsq
  refine congrArg (fun s => Ideal.div (s * _) Rms.cN) (Finset.sum_congr rfl fun k _ => ?_)
  have e' : idx_main_v30 (idx_main_v31 (ix2 r 0)) k = ix2 r k :=
    Shape.idx_ext₂ (by show r.val * 1 + 0 = r.val; omega) rfl
  rw [e']
  show x2 (ix2 r k) * val_main_v27 (F := Ideal) x0 x1 x4 x5 x6 (ix2 r k) = _
  rw [ref_dxn]

/-- The rows' cotangent at real numbers. -/
theorem dx1_eq (a0 a1 : S2048x2816.Idx → ℝ) (a2 : S2048x1024.Idx → ℝ) (a4 : S1024.Idx → ℝ) (a5 a6 : S1024x2816.Idx → ℝ) :
    val_main_v43 (F := Ideal) (fun i => (a0 i : EReal)) (fun i => (a1 i : EReal)) (fun i => (a2 i : EReal)) x3 (fun i => (a4 i : EReal))
        (fun i => (a5 i : EReal)) (fun i => (a6 i : EReal))
      = gDx1 (fun i => (a0 i : EReal)) (fun i => (a1 i : EReal)) (fun i => (a2 i : EReal)) x3 (fun i => (a4 i : EReal))
        (fun i => (a5 i : EReal)) (fun i => (a6 i : EReal)) := by
  funext i
  obtain ⟨r, j, rfl⟩ : ∃ (r : Fin 2048) (j : Fin 1024), i = ix2 r j := ⟨_, _, eq_ix2 i⟩
  show ((x3 (ix2 r j) + val_main_v27 (F := Ideal) _ _ _ _ _ (ix2 r j) * val_main_v11 (F := Ideal) _ (ix2 r j))
      + (a2 (ix2 r j) : EReal) * val_main_v39 (F := Ideal) _ _ _ _ _ _ (ix2 r j))
      + val_main_v39 (F := Ideal) _ _ _ _ _ _ (ix2 r j) * (a2 (ix2 r j) : EReal) = _
  rw [ref_dsq, ref_dxn, ref_rinv']
  have hd : ∀ k : Fin 1024, dh2 (fun i => (a0 i : EReal)) (fun i => (a1 i : EReal)) (fun i => (a5 i : EReal)) (fun i => (a6 i : EReal)) r k * (a4 (ix1 k) : EReal)
      = (((∑ q : Fin 2816, a0 (ix2 r q) * a5 (ix2 k q)) + ∑ q : Fin 2816, a1 (ix2 r q) * a6 (ix2 k q)) * a4 (ix1 k) : ℝ) := fun k => by
    unfold dh2
    rw [sum_mul, sum_mul, ← EReal.coe_add, ← EReal.coe_mul]
  unfold gDx1
  show (((x3 (ix2 r j) + dh2 _ _ _ _ r j * (a4 (ix1 j) : EReal) * _) + _ * Rms.dsq _ (fun k => dh2 _ _ _ _ r k * (a4 (ix1 k) : EReal)))
    + Rms.dsq _ (fun k => dh2 _ _ _ _ r k * (a4 (ix1 k) : EReal)) * _) = x3 (ix2 r j) + Rms.bwd _ (fun k => dh2 _ _ _ _ r k * (a4 (ix1 k) : EReal)) j
  simp only [hd]
  exact Rms.bwd_eq (fun k => a2 (ix2 r k))
    (fun k => ((∑ q : Fin 2816, a0 (ix2 r q) * a5 (ix2 k q)) + ∑ q : Fin 2816, a1 (ix2 r q) * a6 (ix2 k q)) * a4 (ix1 k)) (x3 (ix2 r j)) j

end Cert.FfnBwdBEq

end
-- ==== Proof.RmsBlock.lean ====
/- Blocks of rows read index by index: the reciprocal roots of a block's rows, the backward of the root-mean-square norm
   on a block, and the three matrix products the kernels use. Stated once for every number of rows. -/
module

public import proofs.«01_k».proof.Proof.Blocks
public import proofs.«01_k».proof.Proof.Rms

@[expose] public section

noncomputable section

namespace Cert.Blocks

open Idealize.ShloMosaic Idealize.ShloMosaic.ValueIdx
open scoped BigOperators

variable {a : Nat}

/-- The reciprocal root of each row's mean square. -/
theorem rinvCol (v : FVec Ideal ⟨2, ![a, 1024]⟩ .f32) (acc : BitVec FTy.f32.bits) (h : (⟨2, ![a, 1024]⟩ : Shape).Reduces [1] ⟨1, ![a]⟩)
    (hφ : FKind.Formats .f32) (hacc : acc = FKind.add.neutral .f32 hφ) (hc : (⟨1, ![a]⟩ : Shape).ShapeCasts ⟨2, ![a, 1]⟩)
    (r : Fin a) (u : Fin 1) (f : Fin 1024 → EReal) (hf : ∀ k, (v (ix2 r k) : EReal) = f k) :
    (rsqrt (addf (divf (shapeCast ⟨2, ![a, 1]⟩ (multiReduction .add [1] ⟨1, ![a]⟩ (mulf v v) acc h hφ hacc) hc)
        (broadcast ⟨2, ![a, 1]⟩ (Scalar.ofBits .f32 0x44800000#32))) (broadcast ⟨2, ![a, 1]⟩ (Scalar.ofBits .f32 0x358637BD#32))) (ix2 r u) : EReal)
      = Rms.rinv f := by
  refine congrArg (fun s => Ideal.rsqrt (Ideal.div s Rms.cN + Rms.cEps)) ?_
  refine ((colCast _ _ r u).trans (sumRow _ _ _ _ _ r)).trans (Finset.sum_congr rfl fun k _ => ?_)
  exact congrArg₂ (fun x y : EReal => x * y) (hf k) (hf k)

/-- The norm's backward on a block: `rr` holds the rows' reciprocal roots, `xh` the normed rows, `d` their cotangent. -/
theorem bwdBlock (rr : FVec Ideal ⟨2, ![a, 1]⟩ .f32) (xh d : FVec Ideal ⟨2, ![a, 1024]⟩ .f32) (acc : BitVec FTy.f32.bits)
    (h : (⟨2, ![a, 1024]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, 1024]⟩)
    (r : Fin a) (f D : Fin 1024 → EReal) (hr : (rr (ix2 r 0) : EReal) = Rms.rinv f) (hx : ∀ k, (xh (ix2 r k) : EReal) = f k * Rms.rinv f)
    (hd : ∀ k, (d (ix2 r k) : EReal) = D k) (j : Fin 1024) :
    (mulf (broadcastTo ⟨2, ![a, 1024]⟩ rr hb) (subf d (mulf xh (broadcastTo ⟨2, ![a, 1024]⟩
        (divf (shapeCast ⟨2, ![a, 1]⟩ (multiReduction .add [1] ⟨1, ![a]⟩ (mulf d xh) acc h hφ hacc) hc)
          (broadcast ⟨2, ![a, 1]⟩ (Scalar.ofBits .f32 0x44800000#32))) hb))) (ix2 r j) : EReal) = Rms.bwd f D j := by
  unfold Rms.bwd
  refine congrArg₂ (fun x y : EReal => x * y) ((spreadCol _ _ r j).trans hr) ?_
  refine congrArg₂ (fun x y : EReal => x - y) (hd j) ?_
  refine congrArg₂ (fun x y : EReal => x * y) (hx j) ?_
  refine (spreadCol _ _ r j).trans (congrArg (fun s : EReal => Ideal.div s Rms.cN) ?_)
  refine ((colCast _ _ r 0).trans (sumRow _ _ _ _ _ r)).trans (Finset.sum_congr rfl fun k _ => ?_)
  exact congrArg₂ (fun x y : EReal => x * y) (hd k) (hx k)

/-! ## Matrix products onto a zero accumulator -/

variable {M K N : Nat} {φ₁ φ₂ : FTy}

theorem mmNN (v : FVec Ideal ⟨2, ![M, K]⟩ φ₁) (w : FVec Ideal ⟨2, ![K, N]⟩ φ₂) (r : Fin M) (c : Fin N) :
    (matmul (F := Ideal) (DotDims.plain M K N) none v w (constant ⟨2, ![M, N]⟩ .f32 0x00000000#32) (ix2 r c) : EReal)
      = ∑ k : Fin K, (v (ix2 r k) : EReal) * (w (ix2 k c) : EReal) := by
  refine (Ideal.matmul_plain_apply none v w (constant ⟨2, ![M, N]⟩ .f32 0x00000000#32) r c).trans ?_
  rw [show (constant (F := Ideal) ⟨2, ![M, N]⟩ .f32 0x00000000#32 (ix2 r c) : EReal) = 0 from Ideal.ofBits_zero_f32, zero_add]

theorem mmNT (v : FVec Ideal ⟨2, ![M, K]⟩ φ₁) (w : FVec Ideal ⟨2, ![N, K]⟩ φ₂) (r : Fin M) (c : Fin N) :
    (matmul (F := Ideal) (DotDims.transposedRhs M K N) none v w (constant ⟨2, ![M, N]⟩ .f32 0x00000000#32) (ix2 r c) : EReal)
      = ∑ k : Fin K, (v (ix2 r k) : EReal) * (w (ix2 c k) : EReal) := by
  refine (Ideal.matmul_transposedRhs_apply none v w (constant ⟨2, ![M, N]⟩ .f32 0x00000000#32) r c).trans ?_
  rw [show (constant (F := Ideal) ⟨2, ![M, N]⟩ .f32 0x00000000#32 (ix2 r c) : EReal) = 0 from Ideal.ofBits_zero_f32, zero_add]

/-- The dimension numbers of a product of a transposed left operand, `[K,M]ᵀ × [K,N]`. -/
def tn (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem tn_rank (M K N : Nat) : (tn M K N).contr.rank = 1 := rfl
theorem tn_size (M K N : Nat) : (tn M K N).contr.size ⟨0, by rw [tn_rank]; exact Nat.one_pos⟩ = K := rfl

theorem mmTN (v : FVec Ideal ⟨2, ![K, M]⟩ φ₁) (w : FVec Ideal ⟨2, ![K, N]⟩ φ₂) (r : Fin M) (c : Fin N) :
    (matmul (F := Ideal) (tn M K N) none v w (constant ⟨2, ![M, N]⟩ .f32 0x00000000#32) (ix2 r c) : EReal)
      = ∑ k : Fin K, (v (ix2 k r) : EReal) * (w (ix2 k c) : EReal) := by
  refine (Ideal.matmul_apply (tn M K N) none v w _ _).trans ?_
  rw [show (constant (F := Ideal) ⟨2, ![M, N]⟩ .f32 0x00000000#32 (ix2 r c) : EReal) = 0 from Ideal.ofBits_zero_f32, zero_add,
    ← Equiv.sum_comp (contrEquiv1 (tn M K N) K (tn_rank M K N) (tn_size M K N)).symm]
  refine Finset.sum_congr rfl fun k _ => ?_
  have hk := contrEquiv1_symm_val (tn M K N) K (tn_rank M K N) (tn_size M K N) k
  have el : (tn M K N).lhsIdx (ix2 r c) ((contrEquiv1 (tn M K N) K (tn_rank M K N) (tn_size M K N)).symm k) = ix2 k r := by
    funext x; apply Fin.ext
    match x with
    | ⟨0, _⟩ => exact hk
    | ⟨1, _⟩ => rfl
  have er : (tn M K N).rhsIdx (ix2 r c) ((contrEquiv1 (tn M K N) K (tn_rank M K N) (tn_size M K N)).symm k) = ix2 k c := by
    funext x; apply Fin.ext
    match x with
    | ⟨0, _⟩ => exact hk
    | ⟨1, _⟩ => rfl
  rw [el, er]

/-- The sum of all entries of a column, taken through a shape of three axes. -/
theorem sumColumn (v : FVec Ideal ⟨2, ![a, 1]⟩ .f32) (acc : BitVec FTy.f32.bits) (hs : (⟨2, ![a, 1]⟩ : Shape).ShapeCasts ⟨3, ![1, a, 1]⟩)
    (h : (⟨3, ![1, a, 1]⟩ : Shape).Reduces [1, 2] ⟨1, ![1]⟩) (hφ : FKind.Formats .f32) (hacc : acc = FKind.add.neutral .f32 hφ)
    (hc : (⟨1, ![1]⟩ : Shape).ShapeCasts ⟨3, ![1, 1, 1]⟩) (hp : ∀ i, (![0, 0, 0] : Fin 3 → Nat) i < (⟨3, ![1, 1, 1]⟩ : Shape).size i) :
    (extractAt ![0, 0, 0] (shapeCast ⟨3, ![1, 1, 1]⟩ (multiReduction .add [1, 2] ⟨1, ![1]⟩ (shapeCast ⟨3, ![1, a, 1]⟩ v hs) acc h hφ hacc) hc) hp : EReal)
      = ∑ r : Fin a, (v (ix2 r 0) : EReal) := by
  have e1 : (extractAt ![0, 0, 0] (shapeCast ⟨3, ![1, 1, 1]⟩ (multiReduction .add [1, 2] ⟨1, ![1]⟩ (shapeCast ⟨3, ![1, a, 1]⟩ v hs) acc h hφ hacc) hc) hp : EReal)
      = multiReduction .add [1, 2] ⟨1, ![1]⟩ (shapeCast ⟨3, ![1, a, 1]⟩ v hs) acc h hφ hacc (ix1 0) :=
    shapeCast_apply _ hc _ _ (by rw [Shape.rowMajor_val_one, Shape.rowMajor_val_three]; rfl)
  rw [e1, Ideal.multiReduction_add_total _ acc h (fun b => by fin_cases b; rfl) hφ hacc]
  refine Fintype.sum_equiv (⟨fun i => i 1, fun r => ix3 0 r 0, fun i => ?_, fun r => rfl⟩ : (⟨3, ![1, a, 1]⟩ : Shape).Idx ≃ Fin a) _ _ fun i => ?_
  · funext x
    match x with
    | ⟨0, _⟩ => exact Fin.ext (by have := (i 0).isLt; show 0 = (i 0).val; have h1 : (i 0).val < 1 := this; omega)
    | ⟨1, _⟩ => rfl
    | ⟨2, _⟩ => exact Fin.ext (by have h1 : (i 2).val < 1 := (i 2).isLt; show 0 = (i 2).val; omega)
  · refine shapeCast_apply v hs _ _ ?_
    have h0 : (i 0).val < 1 := (i 0).isLt
    have h2 : (i 2).val < 1 := (i 2).isLt
    rw [Shape.rowMajor_val_two, Shape.rowMajor_val_three]
    show (i 1).val * 1 + 0 = ((i 0).val * a + (i 1).val) * 1 + (i 2).val
    rw [show (i 0).val = 0 by omega, show (i 2).val = 0 by omega]; omega

/-- A value that starts as one term and grows by one term per point is the sum of the terms so far. -/
theorem sweep {N : Nat} (x f : (n : Nat) → n < N → EReal) (h0 : ∀ hn, x 0 hn = 0 + f 0 hn)
    (hs : ∀ (n : Nat) (hn : n + 1 < N), x (n + 1) hn = x n (Nat.lt_of_succ_lt hn) + f (n + 1) hn) :
    ∀ (n : Nat) (hn : n < N), x n hn = ∑ t : Fin (n + 1), f t.val (Nat.lt_of_lt_of_le t.isLt hn)
  | 0, hn => by rw [h0, zero_add, Fin.sum_univ_one]; rfl
  | n + 1, hn => by rw [hs, sweep x f h0 hs n, Fin.sum_univ_castSucc (n := n + 1)]; rfl

/-- A nonnegative real factor moves into a sum of extended reals. -/
theorem mul_sum_nonneg {ι : Type*} (s : Finset ι) (c : EReal) (hc : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top hc ht, ih]

end Cert.Blocks

end
-- ==== Proof.TailRow.lean ====
/- The per-layer embedding, its gate, the last norm and the loss: what one row of 1024 numbers gives, forward and
   backward, as functions of the row and of the parameters. Both programs are read in these terms. -/
module

public import proofs.«01_k».proof.Proof.Rms

@[expose] public section

noncomputable section

namespace Cert.Tail

open Idealize.ShloMosaic
open scoped BigOperators

/-- The parameters: three gains, the gate's weights and bias, the embedding's weights by output and input. -/
structure Par where
  gpg : Fin 1024 → EReal
  wpg : Fin 1024 → Fin 1024 → EReal
  bpg : Fin 1024 → EReal
  wple : Fin 1024 → Fin 256 → EReal
  gple : Fin 1024 → EReal
  gfin : Fin 1024 → EReal

/-- One row: the block's input, the embedding's input, the target. -/
structure Row where
  x : Fin 1024 → EReal
  p : Fin 256 → EReal
  tg : Fin 1024 → EReal

/-- One half, one, and one over the row's length, as the programs write them. -/
def cHalf : EReal := Ideal.ofBits .f32 0x3F000000#32
def cOne : EReal := Ideal.ofBits .f32 0x3F800000#32
def cInv : EReal := Ideal.ofBits .f32 0x3A800000#32

theorem cHalf_eq : cHalf = ((1 / 2 : ℝ) : EReal) := by
  unfold cHalf; simp [Ideal.ofBits, Ideal.ieee, -EReal.coe_mul]; norm_num
theorem cOne_eq : cOne = 1 := Ideal.ofBits_one_f32
theorem cInv_eq : cInv = ((1 / 1024 : ℝ) : EReal) := by
  unfold cInv; simp [Ideal.ofBits, Ideal.ieee, -EReal.coe_mul]; norm_num

variable (P : Par) (R : Row)

/-- The normed row under the gate's gain. -/
def h3 (k : Fin 1024) : EReal := (R.x k * Rms.rinv R.x) * P.gpg k
/-- The gate. -/
def gp (j : Fin 1024) : EReal := Ideal.logistic ((∑ k, h3 P R k * P.wpg k j) + P.bpg j)
/-- The embedding before its norm, and after it. -/
def pe (j : Fin 1024) : EReal := ∑ q, R.p q * P.wple j q
def e (j : Fin 1024) : EReal := (pe P R j * Rms.rinv (pe P R)) * P.gple j
/-- The gated sum, and the difference between its norm and the target. -/
def x3 (j : Fin 1024) : EReal := R.x j + gp P R j * e P R j
def diff (j : Fin 1024) : EReal := (x3 P R j * Rms.rinv (x3 P R)) * P.gfin j - R.tg j
/-- The row's mean squared difference. -/
def rowLoss : EReal := Ideal.div (∑ j, diff P R j * diff P R j) Rms.cN
/-- The cotangents, from the loss back to the row. -/
def dy (j : Fin 1024) : EReal := diff P R j * cInv
def dx3 (j : Fin 1024) : EReal := Rms.bwd (x3 P R) (fun k => dy P R k * P.gfin k) j
def de (j : Fin 1024) : EReal := dx3 P R j * gp P R j
def dpe (j : Fin 1024) : EReal := Rms.bwd (pe P R) (fun k => de P R k * P.gple k) j
def dpre (j : Fin 1024) : EReal := ((dx3 P R j * e P R j) * gp P R j) * (cOne - gp P R j)
def dh3 (k : Fin 1024) : EReal := ∑ j, dpre P R j * P.wpg k j
def dx2 (j : Fin 1024) : EReal := dx3 P R j + Rms.bwd R.x (fun k => dh3 P R k * P.gpg k) j

/-- The row's contributions to the four vectors' gradients: the gate's bias, the three gains. -/
def vecRow (i : Fin 4) (j : Fin 1024) : EReal :=
  match i with
  | 0 => dpre P R j
  | 1 => dh3 P R j * (R.x j * Rms.rinv R.x)
  | 2 => de P R j * (pe P R j * Rms.rinv (pe P R))
  | 3 => dy P R j * (x3 P R j * Rms.rinv (x3 P R))

end Cert.Tail

end
-- ==== Proof.TailBody.lean ====
/- The body of the per-layer embedding and loss kernel, read at one row of a block: every intermediate value of the body
   is the row function of the same meaning. -/
module

public import proofs.«01_k».proof.Proof.Gen.Kernel3Ideal.Skeleton
public import proofs.«01_k».proof.Proof.RmsBlock
public import proofs.«01_k».proof.Proof.TailRow

@[expose] public section

noncomputable section

namespace Cert.Kernel3Ideal.TailBody

open Cert.Kernel3Ideal Cert.Kernel3Ideal.Gen Idealize.ShloMosaic Idealize.ShloMosaic.TcCoe
open Idealize.ShloMosaic.ValueIdx Cert.Tail
open scoped BigOperators

variable (v3 : Vec Ideal S256x1024 .f32) (v14 : Vec Ideal S1x1024 .f32) (v18 : Vec Ideal S1024x1024 .bf16) (v22 : Vec Ideal S1x1024 .f32)
  (v27 : Vec Ideal S256x256 .f32) (v28 : Vec Ideal S1024x256 .bf16) (v42 v58 : Vec Ideal S1x1024 .f32) (v62 : Vec Ideal S256x1024 .f32)

/-- The parameters, from the blocks that hold them. -/
def par : Par where
  gpg k := v14 (ix2 0 k)
  wpg k j := v18 (ix2 k j)
  bpg j := v22 (ix2 0 j)
  wple j q := v28 (ix2 j q)
  gple j := v42 (ix2 0 j)
  gfin j := v58 (ix2 0 j)

/-- One row of the blocks of rows. -/
def row (r : Fin 256) : Row where
  x k := v3 (ix2 r k)
  p q := v27 (ix2 r q)
  tg j := v62 (ix2 r j)

/-- The body's intermediate blocks. -/
abbrev b26 : FVec Ideal S256x1024 .f32 := k0_pay13 v3 v14 v18 v22
abbrev b31 : FVec Ideal S256x1024 .f32 := k0_pay14 v27 v28
abbrev b36 : FVec Ideal S256x1 .f32 := k0_pay15 v27 v28
abbrev b41 : FVec Ideal S256x1024 .f32 := k0_pay17 (b31 v27 v28) (b36 v27 v28)
abbrev b45 : FVec Ideal S256x1024 .f32 := k0_pay18 (b31 v27 v28) (b36 v27 v28) v42
abbrev b55 : FVec Ideal S256x1 .f32 := k0_pay20 v3 (b26 v3 v14 v18 v22) (b31 v27 v28) (b36 v27 v28) v42
abbrev b57 : FVec Ideal S256x1024 .f32 := k0_pay21 v3 (b26 v3 v14 v18 v22) (b31 v27 v28) (b36 v27 v28) v42
abbrev b63 : FVec Ideal S256x1024 .f32 := k0_pay22 v3 (b26 v3 v14 v18 v22) (b31 v27 v28) (b36 v27 v28) v42 v58 v62
abbrev b94 : FVec Ideal S256x1024 .f32 :=
  k0_pay25 (b55 v3 v14 v18 v22 v27 v28 v42) (b57 v3 v14 v18 v22 v27 v28 v42) (b63 v3 v14 v18 v22 v27 v28 v42 v58 v62) v58
abbrev b96 : FVec Ideal S256x1024 .f32 :=
  k0_pay27 (b45 v27 v28 v42) (b55 v3 v14 v18 v22 v27 v28 v42) (b57 v3 v14 v18 v22 v27 v28 v42) (b63 v3 v14 v18 v22 v27 v28 v42 v58 v62) v58
abbrev b97 : FVec Ideal S256x1024 .f32 :=
  k0_pay28 (b26 v3 v14 v18 v22) (b55 v3 v14 v18 v22 v27 v28 v42) (b57 v3 v14 v18 v22 v27 v28 v42) (b63 v3 v14 v18 v22 v27 v28 v42 v58 v62) v58

variable (r : Fin 256)

theorem p10 (u : Fin 1) : (k0_pay10 (F := Ideal) v3 (ix2 r u) : EReal) = Rms.rinv (row v3 v27 v62 r).x := by
  unfold k0_pay10
  exact Blocks.rinvCol v3 _ _ _ _ _ r u _ fun _ => rfl

theorem p11 (k : Fin 1024) : (k0_pay11 (F := Ideal) v3 (ix2 r k) : EReal) = (row v3 v27 v62 r).x k * Rms.rinv (row v3 v27 v62 r).x := by
  unfold k0_pay11
  exact congrArg (fun s : EReal => v3 (ix2 r k) * s) ((Blocks.spreadCol _ _ r k).trans (p10 v3 v27 v62 r 0))

theorem p12 (k : Fin 1024) : (k0_pay12 (F := Ideal) v3 v14 (ix2 r k) : EReal)
    = h3 (par v14 v18 v22 v28 v42 v58) (row v3 v27 v62 r) k := by
  unfold k0_pay12
  rw [shapeCast_self]
  exact congrArg₂ (fun x y : EReal => x * y) (p11 v3 v27 v62 r k) (Blocks.spreadRow _ _ r k)

theorem p13 (j : Fin 1024) : (b26 v3 v14 v18 v22 (ix2 r j) : EReal) = gp (par v14 v18 v22 v28 v42 v58) (row v3 v27 v62 r) j := by
  unfold b26 k0_pay13
  rw [shapeCast_self, shapeCast_self]
  refine congrArg Ideal.logistic (congrArg₂ (fun x y : EReal => x + y) ?_ (Blocks.spreadRow _ _ r j))
  exact Eq.trans (Blocks.mmNN _ _ r j) (Finset.sum_congr rfl fun k _ =>
    congrArg₂ (fun x y : EReal => x * y) (p12 v3 v14 v18 v22 v27 v28 v42 v58 v62 r k) rfl)

theorem p14 (j : Fin 1024) : (b31 v27 v28 (ix2 r j) : EReal) = pe (par v14 v18 v22 v28 v42 v58) (row v3 v27 v62 r) j := by
  unfold b31 k0_pay14
  rw [shapeCast_self]
  exact Blocks.mmNT _ _ r j

theorem p16 (u : Fin 1) : (k0_pay16 (F := Ideal) (b36 v27 v28) (ix2 r u) : EReal)
    = Rms.rinv (pe (par v14 v18 v22 v28 v42 v58) (row v3 v27 v62 r)) := by
  unfold k0_pay16 b36 k0_pay15
  exact Blocks.rinvCol (k0_pay14 v27 v28) _ _ _ _ _ r u _ (p14 v3 v14 v18 v22 v27 v28 v42 v58 v62 r)

theorem p17 (j : Fin 1024) : (b41 v27 v28 (ix2 r j) : EReal) = pe (par v14 v18 v22 v28 v42 v58) (row v3 v27 v62 r) j
    * Rms.rinv (pe (par v14 v18 v22 v28 v42 v58) (row v3 v27 v62 r)) := by
  unfold b41 k0_pay17
  exact congrArg₂ (fun x y : EReal => x * y) (p14 v3 v14 v18 v22 v27 v28 v42 v58 v62 r j)
    ((Blocks.spreadCol _ _ r j).trans (p16 v3 v14 v18 v22 v27 v28 v42 v58 v62 r 0))

theorem p18 (j : Fin 1024) : (b45 v27 v28 v42 (ix2 r j) : EReal) = e (par v14 v18 v22 v28 v42 v58) (row v3 v27 v62 r) j := by
  unfold b45 k0_pay18
  rw [shapeCast_self]
  exact congrArg₂ (fun x y : EReal => x * y) (p17 v3 v14 v18 v22 v27 v28 v42 v58 v62 r j) (Blocks.spreadRow _ _ r j)

theorem p19 (j : Fin 1024) : (k0_pay19 (F := Ideal) v3 (b26 v3 v14 v18 v22) (b31 v27 v28) (b36 v27 v28) v42 (ix2 r j) : EReal)
    = x3 (par v14 v18 v22 v28 v42 v58) (row v3 v27 v62 r) j := by
  unfold k0_pay19
  exact congrArg (fun s : EReal => v3 (ix2 r j) + s) (congrArg₂ (fun x y : EReal => x * y) (p13 v3 v14 v18 v22 v27 v28 v42 v58 v62 r j)
    (p18 v3 v14 v18 v22 v27 v28 v42 v58 v62 r j))

theorem p20 (u : Fin 1) : (b55 v3 v14 v18 v22 v27 v28 v42 (ix2 r u) : EReal)
    = Rms.rinv (x3 (par v14 v18 v22 v28 v42 v58) (row v3 v27 v62 r)) := by
  unfold b55 k0_pay20
  exact Blocks.rinvCol (k0_pay19 _ _ _ _ _) _ _ _ _ _ r u _ (p19 v3 v14 v18 v22 v27 v28 v42 v58 v62 r)

theorem p21 (j : Fin 1024) : (b57 v3 v14 v18 v22 v27 v28 v42 (ix2 r j) : EReal) = x3 (par v14 v18 v22 v28 v42 v58) (row v3 v27 v62 r) j
    * Rms.rinv (x3 (par v14 v18 v22 v28 v42 v58) (row v3 v27 v62 r)) := by
  unfold b57 k0_pay21
  exact congrArg₂ (fun x y : EReal => x * y) (p19 v3 v14 v18 v22 v27 v28 v42 v58 v62 r j)
    ((Blocks.spreadCol _ _ r j).trans (p20 v3 v14 v18 v22 v27 v28 v42 v58 v62 r 0))

theorem p22 (j : Fin 1024) : (b63 v3 v14 v18 v22 v27 v28 v42 v58 v62 (ix2 r j) : EReal) = diff (par v14 v18 v22 v28 v42 v58) (row v3 v27 v62 r) j := by
  unfold b63 k0_pay22
  rw [shapeCast_self]
  exact congrArg (fun s : EReal => s - v62 (ix2 r j)) (congrArg₂ (fun x y : EReal => x * y) (p21 v3 v14 v18 v22 v27 v28 v42 v58 v62 r j)
    (Blocks.spreadRow _ _ r j))

/-- The loss: each entry of the small block grows by half the sum of the rows' means. -/
theorem p23 (v64 : Vec Ideal S8x128 .f32) (i : S8x128.Idx) :
    (k0_pay23 (F := Ideal) v3 (b26 v3 v14 v18 v22) (b31 v27 v28) (b36 v27 v28) v42 v58 v62 v64 i : EReal)
      = v64 i + cHalf * ∑ r : Fin 256, rowLoss (par v14 v18 v22 v28 v42 v58) (row v3 v27 v62 r) := by
  unfold k0_pay23
  rw [shapeCast_self]
  refine congrArg (fun s : EReal => v64 i + cHalf * s) ?_
  refine (Blocks.sumColumn _ _ _ _ _ _ _ _).trans (Finset.sum_congr rfl fun r _ => ?_)
  refine congrArg (fun s : EReal => Ideal.div s Rms.cN) ?_
  refine ((Blocks.colCast _ _ r 0).trans (Blocks.sumRow _ _ _ _ _ r)).trans (Finset.sum_congr rfl fun k _ => ?_)
  exact congrArg₂ (fun x y : EReal => x * y) (p22 v3 v14 v18 v22 v27 v28 v42 v58 v62 r k) (p22 v3 v14 v18 v22 v27 v28 v42 v58 v62 r k)

theorem p24 (j : Fin 1024) : (k0_pay24 (F := Ideal) (b63 v3 v14 v18 v22 v27 v28 v42 v58 v62) (ix2 r j) : EReal)
    = dy (par v14 v18 v22 v28 v42 v58) (row v3 v27 v62 r) j := by
  unfold k0_pay24
  exact congrArg (fun s : EReal => s * cInv) (p22 v3 v14 v18 v22 v27 v28 v42 v58 v62 r j)

theorem p25 (j : Fin 1024) : (b94 v3 v14 v18 v22 v27 v28 v42 v58 v62 (ix2 r j) : EReal) = dx3 (par v14 v18 v22 v28 v42 v58) (row v3 v27 v62 r) j := by
  unfold b94 k0_pay25
  rw [shapeCast_self]
  exact Blocks.bwdBlock _ _ _ _ _ _ _ _ _ r _ (fun k => dy (par v14 v18 v22 v28 v42 v58) (row v3 v27 v62 r) k * v58 (ix2 0 k))
    (p20 v3 v14 v18 v22 v27 v28 v42 v58 v62 r 0) (p21 v3 v14 v18 v22 v27 v28 v42 v58 v62 r)
    (fun k => congrArg₂ (fun x y : EReal => x * y) (p24 v3 v14 v18 v22 v27 v28 v42 v58 v62 r k) (Blocks.spreadRow _ _ r k)) j

theorem p26 (j : Fin 1024) : (k0_pay26 (F := Ideal) (b57 v3 v14 v18 v22 v27 v28 v42) (b63 v3 v14 v18 v22 v27 v28 v42 v58 v62) (ix2 r j) : EReal)
    = vecRow (par v14 v18 v22 v28 v42 v58) (row v3 v27 v62 r) 3 j := by
  unfold k0_pay26
  exact congrArg₂ (fun x y : EReal => x * y) (p24 v3 v14 v18 v22 v27 v28 v42 v58 v62 r j) (p21 v3 v14 v18 v22 v27 v28 v42 v58 v62 r j)

theorem p28 (j : Fin 1024) : (b97 v3 v14 v18 v22 v27 v28 v42 v58 v62 (ix2 r j) : EReal) = de (par v14 v18 v22 v28 v42 v58) (row v3 v27 v62 r) j := by
  unfold b97 k0_pay28
  exact congrArg₂ (fun x y : EReal => x * y) (p25 v3 v14 v18 v22 v27 v28 v42 v58 v62 r j) (p13 v3 v14 v18 v22 v27 v28 v42 v58 v62 r j)

theorem p29 (j : Fin 1024) : (k0_pay29 (F := Ideal) (b26 v3 v14 v18 v22) (b41 v27 v28) (b55 v3 v14 v18 v22 v27 v28 v42)
      (b57 v3 v14 v18 v22 v27 v28 v42) (b63 v3 v14 v18 v22 v27 v28 v42 v58 v62) v58 (ix2 r j) : EReal)
    = vecRow (par v14 v18 v22 v28 v42 v58) (row v3 v27 v62 r) 2 j := by
  unfold k0_pay29
  exact congrArg₂ (fun x y : EReal => x * y) (p28 v3 v14 v18 v22 v27 v28 v42 v58 v62 r j) (p17 v3 v14 v18 v22 v27 v28 v42 v58 v62 r j)

/-- The embedding's weights: the accumulator plus the products of the rows' cotangents and inputs. -/
theorem p30 (v113 : Vec Ideal S1024x256 .f32) (j : Fin 1024) (q : Fin 256) :
    (k0_pay30 (F := Ideal) (b26 v3 v14 v18 v22) (k0_pay16 (b36 v27 v28)) (b41 v27 v28) (b55 v3 v14 v18 v22 v27 v28 v42)
      (b57 v3 v14 v18 v22 v27 v28 v42) (b63 v3 v14 v18 v22 v27 v28 v42 v58 v62) v58 v42 v113 v27 (ix2 j q) : EReal)
      = v113 (ix2 j q) + ∑ r : Fin 256, dpe (par v14 v18 v22 v28 v42 v58) (row v3 v27 v62 r) j * v27 (ix2 r q) := by
  unfold k0_pay30
  rw [shapeCast_self, shapeCast_self]
  refine congrArg (fun s : EReal => v113 (ix2 j q) + s) ?_
  refine (Blocks.mmTN _ _ j q).trans (Finset.sum_congr rfl fun r _ => congrArg (fun s : EReal => s * v27 (ix2 r q)) ?_)
  exact Blocks.bwdBlock _ _ _ _ _ _ _ _ _ r _ (fun k => de (par v14 v18 v22 v28 v42 v58) (row v3 v27 v62 r) k * v42 (ix2 0 k))
    (p16 v3 v14 v18 v22 v27 v28 v42 v58 v62 r 0) (p17 v3 v14 v18 v22 v27 v28 v42 v58 v62 r)
    (fun k => congrArg₂ (fun x y : EReal => x * y) (p28 v3 v14 v18 v22 v27 v28 v42 v58 v62 r k) (Blocks.spreadRow _ _ r k)) j

theorem p31 (j : Fin 1024) : (k0_pay31 (F := Ideal) (b26 v3 v14 v18 v22) (b96 v3 v14 v18 v22 v27 v28 v42 v58 v62) (ix2 r j) : EReal)
    = dpre (par v14 v18 v22 v28 v42 v58) (row v3 v27 v62 r) j := by
  unfold k0_pay31 b96 k0_pay27
  have hg := p13 v3 v14 v18 v22 v27 v28 v42 v58 v62 r j
  exact congrArg₂ (fun x y : EReal => x * y) (congrArg₂ (fun x y : EReal => x * y) (congrArg₂ (fun x y : EReal => x * y)
    (p25 v3 v14 v18 v22 v27 v28 v42 v58 v62 r j) (p18 v3 v14 v18 v22 v27 v28 v42 v58 v62 r j)) hg) (congrArg (fun s : EReal => cOne - s) hg)

/-- The gate's weights: the accumulator plus the products of the rows' normed inputs and cotangents. -/
theorem p32 (v126 : Vec Ideal S1024x1024 .f32) (k j : Fin 1024) :
    (k0_pay32 (F := Ideal) (k0_pay12 v3 v14) (b26 v3 v14 v18 v22) (b96 v3 v14 v18 v22 v27 v28 v42 v58 v62) v126 (ix2 k j) : EReal)
      = v126 (ix2 k j) + ∑ r : Fin 256, h3 (par v14 v18 v22 v28 v42 v58) (row v3 v27 v62 r) k
          * dpre (par v14 v18 v22 v28 v42 v58) (row v3 v27 v62 r) j := by
  unfold k0_pay32
  rw [shapeCast_self]
  refine congrArg (fun s : EReal => v126 (ix2 k j) + s) ?_
  refine (Blocks.mmTN _ _ k j).trans (Finset.sum_congr rfl fun r _ => ?_)
  exact congrArg₂ (fun x y : EReal => x * y) (p12 v3 v14 v18 v22 v27 v28 v42 v58 v62 r k) (p31 v3 v14 v18 v22 v27 v28 v42 v58 v62 r j)

theorem p33 (k : Fin 1024) : (k0_pay33 (F := Ideal) (b26 v3 v14 v18 v22) (b96 v3 v14 v18 v22 v27 v28 v42 v58 v62) v18 (ix2 r k) : EReal)
    = dh3 (par v14 v18 v22 v28 v42 v58) (row v3 v27 v62 r) k := by
  unfold k0_pay33
  rw [shapeCast_self]
  exact Eq.trans (Blocks.mmNT _ _ r k) (Finset.sum_congr rfl fun j _ =>
    congrArg₂ (fun x y : EReal => x * y) (p31 v3 v14 v18 v22 v27 v28 v42 v58 v62 r j) rfl)

theorem p34 (j : Fin 1024) : (k0_pay34 (F := Ideal) (k0_pay11 v3) (b26 v3 v14 v18 v22) (b96 v3 v14 v18 v22 v27 v28 v42 v58 v62) v18 (ix2 r j) : EReal)
    = vecRow (par v14 v18 v22 v28 v42 v58) (row v3 v27 v62 r) 1 j := by
  unfold k0_pay34
  exact congrArg₂ (fun x y : EReal => x * y) (p33 v3 v14 v18 v22 v27 v28 v42 v58 v62 r j) (p11 v3 v27 v62 r j)

/-- The rows' cotangent. -/
theorem p35 (j : Fin 1024) : (k0_pay35 (F := Ideal) (k0_pay10 v3) (k0_pay11 v3) (b26 v3 v14 v18 v22) (b94 v3 v14 v18 v22 v27 v28 v42 v58 v62)
      (b96 v3 v14 v18 v22 v27 v28 v42 v58 v62) v18 v14 (ix2 r j) : EReal)
    = dx2 (par v14 v18 v22 v28 v42 v58) (row v3 v27 v62 r) j := by
  unfold k0_pay35
  rw [shapeCast_self]
  refine congrArg₂ (fun x y : EReal => x + y) (p25 v3 v14 v18 v22 v27 v28 v42 v58 v62 r j) ?_
  exact Blocks.bwdBlock _ _ _ _ _ _ _ _ _ r _ (fun k => dh3 (par v14 v18 v22 v28 v42 v58) (row v3 v27 v62 r) k * v14 (ix2 0 k))
    (p10 v3 v27 v62 r 0) (p11 v3 v27 v62 r)
    (fun k => congrArg₂ (fun x y : EReal => x * y) (p33 v3 v14 v18 v22 v27 v28 v42 v58 v62 r k) (Blocks.spreadRow _ _ r k)) j

/-- One row of the vectors' accumulator: the row before plus a column sum. -/
theorem addRow (v : FVec Ideal S256x1024 .f32) (w : Vec Ideal S1x1024 .f32) (f : Fin 256 → Fin 1024 → EReal)
    (hv : ∀ r j, (v (ix2 r j) : EReal) = f r j) (u : Fin 1) (j : Fin 1024) :
    (k0_pay1 (F := Ideal) v w (ix2 u j) : EReal) = w (ix2 u j) + ∑ r : Fin 256, f r j := by
  unfold k0_pay1
  rw [shapeCast_self]
  refine congrArg (fun s : EReal => w (ix2 u j) + s) ?_
  exact ((Blocks.rowCast _ _ u j).trans (Blocks.sumCol _ _ _ _ _ j)).trans (Finset.sum_congr rfl fun r _ => hv r j)

end Cert.Kernel3Ideal.TailBody

end
-- ==== Proof.Tail.lean ====
/- The per-layer embedding and loss kernel: what its five result arrays hold, as functions of the argument arrays index
   by index. Point `t` of the grid works on rows `256 t … 256 t + 255`; the loss and the parameters' gradients are
   added up over the points. -/
module

public import proofs.«01_k».proof.Proof.Gen.Kernel3Ideal.Value
public import proofs.«01_k».proof.Proof.TailBody

@[expose] public section

noncomputable section

namespace Cert.Kernel3Ideal.TailK

open Cert.Kernel3Ideal Cert.Kernel3Ideal.Gen Idealize.ShloMosaic Idealize.ShloMosaic.TcCoe Idealize.SL.Sem
open Idealize.ShloMosaic.Pipeline (Dat)
open Idealize.ShloMosaic.ValueIdx Cert.Tail Cert.Kernel3Ideal.TailBody
open Cert.Blocks (hz)
open scoped BigOperators

variable (m : (ℓ : Loc nD τ sig) → Buf (Elt Ideal) ℓ) (c : Dev nD)

/-! ## What the body leaves at each point -/

theorem cases3 (t : Fin cfg0.N) : (t.val % 8 = 0 ∧ ¬t.val % 8 = 7) ∨ (¬t.val % 8 = 0 ∧ ¬t.val % 8 = 7) ∨ (¬t.val % 8 = 0 ∧ t.val % 8 = 7) := by omega

theorem cases2 (t : Fin cfg0.N) (h0 : ¬t.val % 8 = 0) : (¬t.val % 8 = 0 ∧ ¬t.val % 8 = 7) ∨ (¬t.val % 8 = 0 ∧ t.val % 8 = 7) := by omega

/-- The parameters and the rows of a point's blocks. -/
def bpar (t : Fin cfg0.N) : Par := par (iblk m c 3 t) (iblk m c 4 t) (iblk m c 5 t) (iblk m c 6 t) (iblk m c 7 t) (iblk m c 8 t)
def brow (t : Fin cfg0.N) (r : Fin 256) : Row := row (iblk m c 0 t) (iblk m c 1 t) (iblk m c 2 t) r

theorem outs9 (t : Fin cfg0.N) (r : Fin 256) (j : Fin 1024) :
    ((outsAt0 m c t.val t.isLt).1 (ix2 r j) : EReal) = dx2 (bpar m c t) (brow m c t r) j := by
  rcases cases3 t with ⟨h0, h1⟩ | ⟨h0, h1⟩ | ⟨h0, h1⟩ <;>
  first
  | (rw [outsAt0_A m c t h0 h1]; dsimp only; unfold out0_A_9 kernelRun0_A)
  | (rw [outsAt0_B m c t h0 h1]; dsimp only; unfold out0_B_9 kernelRun0_B)
  | (rw [outsAt0_C m c t h0 h1]; dsimp only; unfold out0_C_9 kernelRun0_C)
  all_goals
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    exact p35 _ _ _ _ _ _ _ _ _ r j

/-- One point's part of the loss. -/
def lossPart (t : Fin cfg0.N) : EReal := cHalf * ∑ r : Fin 256, rowLoss (bpar m c t) (brow m c t r)

theorem outs10_first (t : Fin cfg0.N) (h0 : t.val % 8 = 0) (i : S8x128.Idx) : ((outsAt0 m c t.val t.isLt).2.1 i : EReal) = 0 + lossPart m c t := by
  have h1 : ¬t.val % 8 = 7 := by omega
  · rw [outsAt0_A m c t h0 h1]; dsimp only; unfold out0_A_10 kernelRun0_A
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    refine (p23 _ _ _ _ _ _ _ _ _ _ i).trans (congrArg (fun s : EReal => s + lossPart m c t) ?_)
    rw [View.readCov, View.readAt_eq_ld, View.read_writes_full, View.ld_unit_zero (S := S8x128) hz]
    exact Ideal.ofBits_zero_f32

theorem outs10_next (t : Fin cfg0.N) (h0 : ¬t.val % 8 = 0) (i : S8x128.Idx) : ((outsAt0 m c t.val t.isLt).2.1 i : EReal)
    = (outsAt0 m c (t.val - 1) (Nat.lt_of_le_of_lt (Nat.sub_le _ _) t.isLt)).2.1 i + lossPart m c t := by
  rcases cases2 t h0 with ⟨h0, h1⟩ | ⟨h0, h1⟩
  · rw [outsAt0_B m c t h0 h1]; dsimp only; unfold out0_B_10 kernelRun0_B
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    exact p23 _ _ _ _ _ _ _ _ _ _ i
  · rw [outsAt0_C m c t h0 h1]; dsimp only; unfold out0_C_10 kernelRun0_C
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    exact p23 _ _ _ _ _ _ _ _ _ _ i

/-- One point's part of the gate's weights. -/
def wpgPart (k j : Fin 1024) (t : Fin cfg0.N) : EReal := ∑ r : Fin 256, h3 (bpar m c t) (brow m c t r) k * dpre (bpar m c t) (brow m c t r) j

theorem outsS0_first (t : Fin cfg0.N) (h0 : t.val % 8 = 0) (k j : Fin 1024) :
    ((outsAt0 m c t.val t.isLt).2.2.2.2.2.1 (ix2 k j) : EReal) = 0 + wpgPart m c k j t := by
  have h1 : ¬t.val % 8 = 7 := by omega
  · rw [outsAt0_A m c t h0 h1]; dsimp only; unfold sout0_A_0 kernelRun0_A
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    refine (p32 _ _ _ _ _ _ _ _ _ _ k j).trans (congrArg (fun s : EReal => s + wpgPart m c k j t) ?_)
    rw [View.readCov, View.readAt_eq_ld, View.read_writes_full, View.ld_unit_zero (S := S1024x1024) hz]
    unfold k0_pay7
    rw [shapeCast_self]
    exact Ideal.ofBits_zero_f32

theorem outsS0_next (t : Fin cfg0.N) (h0 : ¬t.val % 8 = 0) (k j : Fin 1024) : ((outsAt0 m c t.val t.isLt).2.2.2.2.2.1 (ix2 k j) : EReal)
    = (outsAt0 m c (t.val - 1) (Nat.lt_of_le_of_lt (Nat.sub_le _ _) t.isLt)).2.2.2.2.2.1 (ix2 k j) + wpgPart m c k j t := by
  rcases cases2 t h0 with ⟨h0, h1⟩ | ⟨h0, h1⟩
  · rw [outsAt0_B m c t h0 h1]; dsimp only; unfold sout0_B_0 kernelRun0_B
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    exact (p32 _ _ _ _ _ _ _ _ _ _ k j).trans (congrArg (fun s : EReal => s + wpgPart m c k j t)
      (congrFun (Memref.IsWhole.read_unread (Memref.isWhole_whole cc0_scratch0) _) (ix2 k j)))
  · rw [outsAt0_C m c t h0 h1]; dsimp only; unfold sout0_C_0 kernelRun0_C
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    exact (p32 _ _ _ _ _ _ _ _ _ _ k j).trans (congrArg (fun s : EReal => s + wpgPart m c k j t)
      (congrFun (Memref.IsWhole.read_unread (Memref.isWhole_whole cc0_scratch0) _) (ix2 k j)))

/-- One point's part of the embedding's weights. -/
def wplePart (j : Fin 1024) (q : Fin 256) (t : Fin cfg0.N) : EReal := ∑ r : Fin 256, dpe (bpar m c t) (brow m c t r) j * (brow m c t r).p q

theorem outsS1_first (t : Fin cfg0.N) (h0 : t.val % 8 = 0) (j : Fin 1024) (q : Fin 256) :
    ((outsAt0 m c t.val t.isLt).2.2.2.2.2.2 (ix2 j q) : EReal) = 0 + wplePart m c j q t := by
  have h1 : ¬t.val % 8 = 7 := by omega
  · rw [outsAt0_A m c t h0 h1]; dsimp only; unfold sout0_A_1 kernelRun0_A
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    refine (p30 _ _ _ _ _ _ _ _ _ _ j q).trans (congrArg (fun s : EReal => s + wplePart m c j q t) ?_)
    rw [View.readCov, View.readAt_eq_ld, View.read_writes_full, View.ld_unit_zero (S := S1024x256) hz]
    unfold k0_pay8
    rw [shapeCast_self]
    exact Ideal.ofBits_zero_f32

theorem outsS1_next (t : Fin cfg0.N) (h0 : ¬t.val % 8 = 0) (j : Fin 1024) (q : Fin 256) : ((outsAt0 m c t.val t.isLt).2.2.2.2.2.2 (ix2 j q) : EReal)
    = (outsAt0 m c (t.val - 1) (Nat.lt_of_le_of_lt (Nat.sub_le _ _) t.isLt)).2.2.2.2.2.2 (ix2 j q) + wplePart m c j q t := by
  rcases cases2 t h0 with ⟨h0, h1⟩ | ⟨h0, h1⟩
  · rw [outsAt0_B m c t h0 h1]; dsimp only; unfold sout0_B_1 kernelRun0_B
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    exact (p30 _ _ _ _ _ _ _ _ _ _ j q).trans (congrArg (fun s : EReal => s + wplePart m c j q t)
      (congrFun (Memref.IsWhole.read_unread (Memref.isWhole_whole cc0_scratch1) _) (ix2 j q)))
  · rw [outsAt0_C m c t h0 h1]; dsimp only; unfold sout0_C_1 kernelRun0_C
    dsimp only
    sl_unfold_words
    rw [View.read_writes_full]
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    exact (p30 _ _ _ _ _ _ _ _ _ _ j q).trans (congrArg (fun s : EReal => s + wplePart m c j q t)
      (congrFun (Memref.IsWhole.read_unread (Memref.isWhole_whole cc0_scratch1) _) (ix2 j q)))

/-- The last point stores the two accumulators. -/
theorem outs11 (t : Fin cfg0.N) (h1 : t.val % 8 = 7) (k j : Fin 1024) :
    ((outsAt0 m c t.val t.isLt).2.2.1 (ix2 k j) : EReal) = (outsAt0 m c t.val t.isLt).2.2.2.2.2.1 (ix2 k j) := by
  have h0 : ¬t.val % 8 = 0 := by omega
  rw [outsAt0_C m c t h0 h1]; dsimp only; unfold out0_C_11 sout0_C_0 kernelRun0_C
  dsimp only
  sl_unfold_words
  rw [View.read_writes_full, View.read_writes_full, View.readCov, View.readAt_eq_ld, View.read_writes_full, View.ld_unit_zero (S := S1024x1024) hz]
  rfl

theorem outs12 (t : Fin cfg0.N) (h1 : t.val % 8 = 7) (j : Fin 1024) (q : Fin 256) :
    ((outsAt0 m c t.val t.isLt).2.2.2.1 (ix2 j q) : EReal) = (outsAt0 m c t.val t.isLt).2.2.2.2.2.2 (ix2 j q) := by
  have h0 : ¬t.val % 8 = 0 := by omega
  rw [outsAt0_C m c t h0 h1]; dsimp only; unfold out0_C_12 sout0_C_1 kernelRun0_C
  dsimp only
  sl_unfold_words
  rw [View.read_writes_full, View.read_writes_full, View.readCov, View.readAt_eq_ld, View.read_writes_full, View.ld_unit_zero (S := S1024x256) hz]
  rfl

/-- One point's part of the vectors' gradients. -/
def vecPart (i : Fin 4) (j : Fin 1024) (t : Fin cfg0.N) : EReal := ∑ r : Fin 256, vecRow (bpar m c t) (brow m c t r) i j

theorem outs13_first (t : Fin cfg0.N) (h0 : t.val % 8 = 0) (r : Fin 8) (j : Fin 1024) : ((outsAt0 m c t.val t.isLt).2.2.2.2.1 (ix2 r j) : EReal)
    = if h : r.val < 4 then 0 + vecPart m c ⟨r.val, h⟩ j t else 0 := by
  have h1 : ¬t.val % 8 = 7 := by omega
  · rw [outsAt0_A m c t h0 h1]; dsimp only; unfold out0_A_13 kernelRun0_A
    dsimp only
    sl_unfold_words
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    rw [View.read_writes_cons_put _ _ _ _ _ rfl, View.read_writes_cons_put _ _ _ _ _ rfl, View.read_writes_cons_put _ _ _ _ _ rfl,
      View.read_writes_cons_put _ _ _ _ _ rfl, View.read_writes_full]
    refine (Blocks.put_row _ 3 _ r j).trans ?_
    by_cases e3 : r.val = 3
    · obtain rfl : r = 3 := Fin.ext e3
      refine (if_pos rfl).trans (Eq.trans ?_ (dif_pos (show ((3 : Fin 8).val < 4) from by decide)).symm)
      refine (addRow _ _ (fun r j => vecRow (bpar m c t) (brow m c t r) 3 j) (fun r j => p26 _ _ _ _ _ _ _ _ _ r j) 0 j).trans ?_
      exact congrArg (fun s : EReal => s + vecPart m c 3 j t) (by
        rw [View.readCov, View.readAt_eq_ld]
        refine (Blocks.ld_row (n := 8) _ 3 _ 0 j).trans ?_
        rw [View.read_writes_cons_put _ _ _ _ _ rfl, View.read_writes_cons_put _ _ _ _ _ rfl, View.read_writes_cons_put _ _ _ _ _ rfl, View.read_writes_full]
        refine (Blocks.put_row _ 2 _ _ j).trans ((if_neg (by decide)).trans ?_)
        refine (Blocks.put_row _ 1 _ _ j).trans ((if_neg (by decide)).trans ?_)
        refine (Blocks.put_row _ 0 _ _ j).trans ((if_neg (by decide)).trans ?_)
        exact Ideal.ofBits_zero_f32)
    refine (if_neg e3).trans ?_
    refine (Blocks.put_row _ 2 _ r j).trans ?_
    by_cases e2 : r.val = 2
    · obtain rfl : r = 2 := Fin.ext e2
      refine (if_pos rfl).trans (Eq.trans ?_ (dif_pos (show ((2 : Fin 8).val < 4) from by decide)).symm)
      refine (addRow _ _ (fun r j => vecRow (bpar m c t) (brow m c t r) 2 j) (fun r j => p29 _ _ _ _ _ _ _ _ _ r j) 0 j).trans ?_
      exact congrArg (fun s : EReal => s + vecPart m c 2 j t) (by
        rw [View.readCov, View.readAt_eq_ld]
        refine (Blocks.ld_row (n := 8) _ 2 _ 0 j).trans ?_
        rw [View.read_writes_cons_put _ _ _ _ _ rfl, View.read_writes_cons_put _ _ _ _ _ rfl, View.read_writes_full]
        refine (Blocks.put_row _ 1 _ _ j).trans ((if_neg (by decide)).trans ?_)
        refine (Blocks.put_row _ 0 _ _ j).trans ((if_neg (by decide)).trans ?_)
        exact Ideal.ofBits_zero_f32)
    refine (if_neg e2).trans ?_
    refine (Blocks.put_row _ 1 _ r j).trans ?_
    by_cases e1 : r.val = 1
    · obtain rfl : r = 1 := Fin.ext e1
      refine (if_pos rfl).trans (Eq.trans ?_ (dif_pos (show ((1 : Fin 8).val < 4) from by decide)).symm)
      refine (addRow _ _ (fun r j => vecRow (bpar m c t) (brow m c t r) 1 j) (fun r j => p34 _ _ _ _ _ _ _ _ _ r j) 0 j).trans ?_
      exact congrArg (fun s : EReal => s + vecPart m c 1 j t) (by
        rw [View.readCov, View.readAt_eq_ld]
        refine (Blocks.ld_row (n := 8) _ 1 _ 0 j).trans ?_
        rw [View.read_writes_cons_put _ _ _ _ _ rfl, View.read_writes_full]
        refine (Blocks.put_row _ 0 _ _ j).trans ((if_neg (by decide)).trans ?_)
        exact Ideal.ofBits_zero_f32)
    refine (if_neg e1).trans ?_
    refine (Blocks.put_row _ 0 _ r j).trans ?_
    by_cases e0 : r.val = 0
    · obtain rfl : r = 0 := Fin.ext e0
      refine (if_pos rfl).trans (Eq.trans ?_ (dif_pos (show ((0 : Fin 8).val < 4) from by decide)).symm)
      refine (addRow _ _ (fun r j => vecRow (bpar m c t) (brow m c t r) 0 j) (fun r j => p31 _ _ _ _ _ _ _ _ _ r j) 0 j).trans ?_
      exact congrArg (fun s : EReal => s + vecPart m c 0 j t) (by
        rw [View.readCov, View.readAt_eq_ld]
        refine (Blocks.ld_row (n := 8) _ 0 _ 0 j).trans ?_
        rw [View.read_writes_full]
        exact Ideal.ofBits_zero_f32)
    refine (if_neg e0).trans ?_
    have hr : ¬ r.val < 4 := by omega
    rw [dif_neg hr]
    exact Ideal.ofBits_zero_f32

theorem outs13_next (t : Fin cfg0.N) (h0 : ¬t.val % 8 = 0) (r : Fin 8) (j : Fin 1024) : ((outsAt0 m c t.val t.isLt).2.2.2.2.1 (ix2 r j) : EReal)
    = if h : r.val < 4 then (outsAt0 m c (t.val - 1) (Nat.lt_of_le_of_lt (Nat.sub_le _ _) t.isLt)).2.2.2.2.1 (ix2 r j) + vecPart m c ⟨r.val, h⟩ j t
      else (outsAt0 m c (t.val - 1) (Nat.lt_of_le_of_lt (Nat.sub_le _ _) t.isLt)).2.2.2.2.1 (ix2 r j) := by
  rcases cases2 t h0 with ⟨h0, h1⟩ | ⟨h0, h1⟩
  · rw [outsAt0_B m c t h0 h1]; dsimp only; unfold out0_B_13 kernelRun0_B
    dsimp only
    sl_unfold_words
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    rw [View.read_writes_cons_put _ _ _ _ _ rfl, View.read_writes_cons_put _ _ _ _ _ rfl, View.read_writes_cons_put _ _ _ _ _ rfl,
      View.read_writes_cons_put _ _ _ _ _ rfl, View.writes_nil, Memref.IsWhole.read_unread]
    refine (Blocks.put_row _ 3 _ r j).trans ?_
    by_cases e3 : r.val = 3
    · obtain rfl : r = 3 := Fin.ext e3
      refine (if_pos rfl).trans (Eq.trans ?_ (dif_pos (show ((3 : Fin 8).val < 4) from by decide)).symm)
      refine (addRow _ _ (fun r j => vecRow (bpar m c t) (brow m c t r) 3 j) (fun r j => p26 _ _ _ _ _ _ _ _ _ r j) 0 j).trans ?_
      exact congrArg (fun s : EReal => s + vecPart m c 3 j t) (Blocks.ld_row (n := 8) _ 3 _ 0 j)
    refine (if_neg e3).trans ?_
    refine (Blocks.put_row _ 2 _ r j).trans ?_
    by_cases e2 : r.val = 2
    · obtain rfl : r = 2 := Fin.ext e2
      refine (if_pos rfl).trans (Eq.trans ?_ (dif_pos (show ((2 : Fin 8).val < 4) from by decide)).symm)
      refine (addRow _ _ (fun r j => vecRow (bpar m c t) (brow m c t r) 2 j) (fun r j => p29 _ _ _ _ _ _ _ _ _ r j) 0 j).trans ?_
      exact congrArg (fun s : EReal => s + vecPart m c 2 j t) (Blocks.ld_row (n := 8) _ 2 _ 0 j)
    refine (if_neg e2).trans ?_
    refine (Blocks.put_row _ 1 _ r j).trans ?_
    by_cases e1 : r.val = 1
    · obtain rfl : r = 1 := Fin.ext e1
      refine (if_pos rfl).trans (Eq.trans ?_ (dif_pos (show ((1 : Fin 8).val < 4) from by decide)).symm)
      refine (addRow _ _ (fun r j => vecRow (bpar m c t) (brow m c t r) 1 j) (fun r j => p34 _ _ _ _ _ _ _ _ _ r j) 0 j).trans ?_
      exact congrArg (fun s : EReal => s + vecPart m c 1 j t) (Blocks.ld_row (n := 8) _ 1 _ 0 j)
    refine (if_neg e1).trans ?_
    refine (Blocks.put_row _ 0 _ r j).trans ?_
    by_cases e0 : r.val = 0
    · obtain rfl : r = 0 := Fin.ext e0
      refine (if_pos rfl).trans (Eq.trans ?_ (dif_pos (show ((0 : Fin 8).val < 4) from by decide)).symm)
      refine (addRow _ _ (fun r j => vecRow (bpar m c t) (brow m c t r) 0 j) (fun r j => p31 _ _ _ _ _ _ _ _ _ r j) 0 j).trans ?_
      exact congrArg (fun s : EReal => s + vecPart m c 0 j t) (Blocks.ld_row (n := 8) _ 0 _ 0 j)
    refine (if_neg e0).trans ?_
    have hr : ¬ r.val < 4 := by omega
    rw [dif_neg hr]
  · rw [outsAt0_C m c t h0 h1]; dsimp only; unfold out0_C_13 kernelRun0_C
    dsimp only
    sl_unfold_words
    simp only [View.readAt_eq_ld, Memref.IsWhole.read_unread, View.ld_unit_zero (S := S256x1024) hz, View.ld_unit_zero (S := S256x256) hz,
      View.ld_unit_zero (S := S1x1024) hz, View.ld_unit_zero (S := S1024x1024) hz, View.ld_unit_zero (S := S1024x256) hz,
      View.ld_unit_zero (S := S8x128) hz]
    rw [View.read_writes_cons_put _ _ _ _ _ rfl, View.read_writes_cons_put _ _ _ _ _ rfl, View.read_writes_cons_put _ _ _ _ _ rfl,
      View.read_writes_cons_put _ _ _ _ _ rfl, View.writes_nil, Memref.IsWhole.read_unread]
    refine (Blocks.put_row _ 3 _ r j).trans ?_
    by_cases e3 : r.val = 3
    · obtain rfl : r = 3 := Fin.ext e3
      refine (if_pos rfl).trans (Eq.trans ?_ (dif_pos (show ((3 : Fin 8).val < 4) from by decide)).symm)
      refine (addRow _ _ (fun r j => vecRow (bpar m c t) (brow m c t r) 3 j) (fun r j => p26 _ _ _ _ _ _ _ _ _ r j) 0 j).trans ?_
      exact congrArg (fun s : EReal => s + vecPart m c 3 j t) (Blocks.ld_row (n := 8) _ 3 _ 0 j)
    refine (if_neg e3).trans ?_
    refine (Blocks.put_row _ 2 _ r j).trans ?_
    by_cases e2 : r.val = 2
    · obtain rfl : r = 2 := Fin.ext e2
      refine (if_pos rfl).trans (Eq.trans ?_ (dif_pos (show ((2 : Fin 8).val < 4) from by decide)).symm)
      refine (addRow _ _ (fun r j => vecRow (bpar m c t) (brow m c t r) 2 j) (fun r j => p29 _ _ _ _ _ _ _ _ _ r j) 0 j).trans ?_
      exact congrArg (fun s : EReal => s + vecPart m c 2 j t) (Blocks.ld_row (n := 8) _ 2 _ 0 j)
    refine (if_neg e2).trans ?_
    refine (Blocks.put_row _ 1 _ r j).trans ?_
    by_cases e1 : r.val = 1
    · obtain rfl : r = 1 := Fin.ext e1
      refine (if_pos rfl).trans (Eq.trans ?_ (dif_pos (show ((1 : Fin 8).val < 4) from by decide)).symm)
      refine (addRow _ _ (fun r j => vecRow (bpar m c t) (brow m c t r) 1 j) (fun r j => p34 _ _ _ _ _ _ _ _ _ r j) 0 j).trans ?_
      exact congrArg (fun s : EReal => s + vecPart m c 1 j t) (Blocks.ld_row (n := 8) _ 1 _ 0 j)
    refine (if_neg e1).trans ?_
    refine (Blocks.put_row _ 0 _ r j).trans ?_
    by_cases e0 : r.val = 0
    · obtain rfl : r = 0 := Fin.ext e0
      refine (if_pos rfl).trans (Eq.trans ?_ (dif_pos (show ((0 : Fin 8).val < 4) from by decide)).symm)
      refine (addRow _ _ (fun r j => vecRow (bpar m c t) (brow m c t r) 0 j) (fun r j => p31 _ _ _ _ _ _ _ _ _ r j) 0 j).trans ?_
      exact congrArg (fun s : EReal => s + vecPart m c 0 j t) (Blocks.ld_row (n := 8) _ 0 _ 0 j)
    refine (if_neg e0).trans ?_
    have hr : ¬ r.val < 4 := by omega
    rw [dif_neg hr]

/-! ## The accumulators over the points -/

theorem N8 : cfg0.N = 8 := N_0

theorem next_ne {n : Nat} (hn : n + 1 < cfg0.N) : ¬(n + 1) % 8 = 0 := by
  have : n + 1 < 8 := Nat.lt_of_lt_of_eq hn N8
  omega

theorem loss_sweep (i : S8x128.Idx) : ∀ (n : Nat) (hn : n < cfg0.N), ((outsAt0 m c n hn).2.1 i : EReal)
    = ∑ t : Fin (n + 1), lossPart m c ⟨t.val, Nat.lt_of_lt_of_le t.isLt hn⟩ := Blocks.sweep (N := cfg0.N) (fun n hn => ((outsAt0 m c n hn).2.1 i : EReal)) (fun n hn => lossPart m c ⟨n, hn⟩)
  (fun hn => outs10_first m c ⟨0, hn⟩ rfl i) (fun n hn => outs10_next m c ⟨n + 1, hn⟩ (next_ne hn) i)

theorem wpg_sweep (k j : Fin 1024) : ∀ (n : Nat) (hn : n < cfg0.N), ((outsAt0 m c n hn).2.2.2.2.2.1 (ix2 k j) : EReal)
    = ∑ t : Fin (n + 1), wpgPart m c k j ⟨t.val, Nat.lt_of_lt_of_le t.isLt hn⟩ := Blocks.sweep (N := cfg0.N) (fun n hn => ((outsAt0 m c n hn).2.2.2.2.2.1 (ix2 k j) : EReal)) (fun n hn => wpgPart m c k j ⟨n, hn⟩)
  (fun hn => outsS0_first m c ⟨0, hn⟩ rfl k j) (fun n hn => outsS0_next m c ⟨n + 1, hn⟩ (next_ne hn) k j)

theorem wple_sweep (j : Fin 1024) (q : Fin 256) : ∀ (n : Nat) (hn : n < cfg0.N), ((outsAt0 m c n hn).2.2.2.2.2.2 (ix2 j q) : EReal)
    = ∑ t : Fin (n + 1), wplePart m c j q ⟨t.val, Nat.lt_of_lt_of_le t.isLt hn⟩ := Blocks.sweep (N := cfg0.N) (fun n hn => ((outsAt0 m c n hn).2.2.2.2.2.2 (ix2 j q) : EReal)) (fun n hn => wplePart m c j q ⟨n, hn⟩)
  (fun hn => outsS1_first m c ⟨0, hn⟩ rfl j q) (fun n hn => outsS1_next m c ⟨n + 1, hn⟩ (next_ne hn) j q)

theorem vec_sweep (r : Fin 8) (h : r.val < 4) (j : Fin 1024) : ∀ (n : Nat) (hn : n < cfg0.N), ((outsAt0 m c n hn).2.2.2.2.1 (ix2 r j) : EReal)
    = ∑ t : Fin (n + 1), vecPart m c ⟨r.val, h⟩ j ⟨t.val, Nat.lt_of_lt_of_le t.isLt hn⟩ := Blocks.sweep (N := cfg0.N) (fun n hn => ((outsAt0 m c n hn).2.2.2.2.1 (ix2 r j) : EReal))
  (fun n hn => vecPart m c ⟨r.val, h⟩ j ⟨n, hn⟩)
  (fun hn => (outs13_first m c ⟨0, hn⟩ rfl r j).trans (dif_pos h)) (fun n hn => (outs13_next m c ⟨n + 1, hn⟩ (next_ne hn) r j).trans (dif_pos h))

/-- The four last rows stay zero. -/
theorem vec_zero (r : Fin 8) (h : ¬r.val < 4) (j : Fin 1024) : ∀ (n : Nat) (hn : n < cfg0.N), ((outsAt0 m c n hn).2.2.2.2.1 (ix2 r j) : EReal) = 0
  | 0, hn => (outs13_first m c ⟨0, hn⟩ rfl r j).trans (dif_neg h)
  | n + 1, hn => ((outs13_next m c ⟨n + 1, hn⟩ (next_ne hn) r j).trans (dif_neg h)).trans (vec_zero r h j n (Nat.lt_of_succ_lt hn))

/-! ## The blocks as rows of the arrays -/

/-- Row `r` of block `t` among all rows. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0)
    ∧ (win0_10.index t 0 = 0 ∧ win0_10.index t 1 = 0) ∧ (win0_11.index t 0 = 0 ∧ win0_11.index t 1 = 0)
    ∧ (win0_12.index t 0 = 0 ∧ win0_12.index t 1 = 0) ∧ (win0_13.index t 0 = 0 ∧ win0_13.index t 1 = 0) := by decide +kernel

theorem emb0 (t : Fin cfg0.N) (r : Fin 256) (k : Fin 1024) : (win0_0.rect t).emb (ix2 r k) = ix2 (row t r) k := by
  refine Shape.idx_ext₂ ?_ ?_
  · rw [Pipeline.Window.rect_emb_val win0_0 t _ 0 rfl, (idx_facts t).1.1]; rfl
  · rw [Pipeline.Window.rect_emb_val win0_0 t _ 1 rfl, (idx_facts t).1.2]; show 0 * 1024 + k.val = k.val; omega
theorem emb1 (t : Fin cfg0.N) (r : Fin 256) (k : Fin 256) : (win0_1.rect t).emb (ix2 r k) = ix2 (row t r) k := by
  refine Shape.idx_ext₂ ?_ ?_
  · rw [Pipeline.Window.rect_emb_val win0_1 t _ 0 rfl, (idx_facts t).2.1.1]; rfl
  · rw [Pipeline.Window.rect_emb_val win0_1 t _ 1 rfl, (idx_facts t).2.1.2]; show 0 * 256 + k.val = k.val; omega
theorem emb2 (t : Fin cfg0.N) (r : Fin 256) (k : Fin 1024) : (win0_2.rect t).emb (ix2 r k) = ix2 (row t r) k := emb0 t r k
theorem emb3 (t : Fin cfg0.N) (r : Fin 1) (k : Fin 1024) : (win0_3.rect t).emb (ix2 r k) = ix2 r k := by
  refine Shape.idx_ext₂ ?_ ?_
  · rw [Pipeline.Window.rect_emb_val win0_3 t _ 0 rfl, (idx_facts t).2.2.2.1.1]; show 0 * 1 + r.val = r.val; omega
  · rw [Pipeline.Window.rect_emb_val win0_3 t _ 1 rfl, (idx_facts t).2.2.2.1.2]; show 0 * 1024 + k.val = k.val; omega
theorem emb4 (t : Fin cfg0.N) (r : Fin 1024) (k : Fin 1024) : (win0_4.rect t).emb (ix2 r k) = ix2 r k := by
  refine Shape.idx_ext₂ ?_ ?_
  · rw [Pipeline.Window.rect_emb_val win0_4 t _ 0 rfl, (idx_facts t).2.2.2.2.1.1]; show 0 * 1024 + r.val = r.val; omega
  · rw [Pipeline.Window.rect_emb_val win0_4 t _ 1 rfl, (idx_facts t).2.2.2.2.1.2]; show 0 * 1024 + k.val = k.val; omega
theorem emb5 (t : Fin cfg0.N) (r : Fin 1) (k : Fin 1024) : (win0_5.rect t).emb (ix2 r k) = ix2 r k := emb3 t r k
theorem emb6 (t : Fin cfg0.N) (r : Fin 1024) (k : Fin 256) : (win0_6.rect t).emb (ix2 r k) = ix2 r k := by
  refine Shape.idx_ext₂ ?_ ?_
  · rw [Pipeline.Window.rect_emb_val win0_6 t _ 0 rfl, (idx_facts t).2.2.2.2.2.2.1.1]; show 0 * 1024 + r.val = r.val; omega
  · rw [Pipeline.Window.rect_emb_val win0_6 t _ 1 rfl, (idx_facts t).2.2.2.2.2.2.1.2]; show 0 * 256 + k.val = k.val; omega
theorem emb7 (t : Fin cfg0.N) (r : Fin 1) (k : Fin 1024) : (win0_7.rect t).emb (ix2 r k) = ix2 r k := emb3 t r k
theorem emb8 (t : Fin cfg0.N) (r : Fin 1) (k : Fin 1024) : (win0_8.rect t).emb (ix2 r k) = ix2 r k := emb3 t r k
theorem emb9 (t : Fin cfg0.N) (r : Fin 256) (k : Fin 1024) : (win0_9.rect t).emb (ix2 r k) = ix2 (row t r) k := emb0 t r k
theorem emb10 (t : Fin cfg0.N) (r : Fin 8) (k : Fin 128) : (win0_10.rect t).emb (ix2 r k) = ix2 r k := by
  refine Shape.idx_ext₂ ?_ ?_
  · rw [Pipeline.Window.rect_emb_val win0_10 t _ 0 rfl, (idx_facts t).2.2.2.2.2.2.2.2.2.2.1.1]; show 0 * 8 + r.val = r.val; omega
  · rw [Pipeline.Window.rect_emb_val win0_10 t _ 1 rfl, (idx_facts t).2.2.2.2.2.2.2.2.2.2.1.2]; show 0 * 128 + k.val = k.val; omega
theorem emb11 (t : Fin cfg0.N) (r : Fin 1024) (k : Fin 1024) : (win0_11.rect t).emb (ix2 r k) = ix2 r k := emb4 t r k
theorem emb12 (t : Fin cfg0.N) (r : Fin 1024) (k : Fin 256) : (win0_12.rect t).emb (ix2 r k) = ix2 r k := emb6 t r k
theorem emb13 (t : Fin cfg0.N) (r : Fin 8) (k : Fin 1024) : (win0_13.rect t).emb (ix2 r k) = ix2 r k := by
  refine Shape.idx_ext₂ ?_ ?_
  · rw [Pipeline.Window.rect_emb_val win0_13 t _ 0 rfl, (idx_facts t).2.2.2.2.2.2.2.2.2.2.2.2.2.1]; show 0 * 8 + r.val = r.val; omega
  · rw [Pipeline.Window.rect_emb_val win0_13 t _ 1 rfl, (idx_facts t).2.2.2.2.2.2.2.2.2.2.2.2.2.2]; show 0 * 1024 + k.val = k.val; omega

variable (c : Dev nD)

theorem blk0 (t : Fin cfg0.N) (r : Fin 256) (k : Fin 1024) : (iblk m c 0 t (ix2 r k) : EReal) = m ((c : Thread nD τ).loc main_arg0) (ix2 (row t r) k) := by
  show m ((c : Thread nD τ).loc main_arg0) ((win0_0.rect t).emb (ix2 r k)) = _
  rw [emb0]
theorem blk1 (t : Fin cfg0.N) (r : Fin 256) (k : Fin 256) : (iblk m c 1 t (ix2 r k) : EReal) = m ((c : Thread nD τ).loc main_arg1) (ix2 (row t r) k) := by
  show m ((c : Thread nD τ).loc main_arg1) ((win0_1.rect t).emb (ix2 r k)) = _
  rw [emb1]
theorem blk2 (t : Fin cfg0.N) (r : Fin 256) (k : Fin 1024) : (iblk m c 2 t (ix2 r k) : EReal) = m ((c : Thread nD τ).loc main_arg2) (ix2 (row t r) k) := by
  show m ((c : Thread nD τ).loc main_arg2) ((win0_2.rect t).emb (ix2 r k)) = _
  rw [emb2]
theorem blk3 (t : Fin cfg0.N) (r : Fin 1) (k : Fin 1024) : (iblk m c 3 t (ix2 r k) : EReal) = m ((c : Thread nD τ).loc main_arg3) (ix1 k) := by
  show V m c main_v0 ((win0_3.rect t).emb (ix2 r k)) = _
  rw [emb3]
  entry_read
  exact Blocks.rowCast _ _ r k
theorem blk4 (t : Fin cfg0.N) (r : Fin 1024) (k : Fin 1024) : (iblk m c 4 t (ix2 r k) : EReal) = m ((c : Thread nD τ).loc main_arg4) (ix2 r k) := by
  show V m c main_v1 ((win0_4.rect t).emb (ix2 r k)) = _
  rw [emb4]
  entry_read
  rfl
theorem blk5 (t : Fin cfg0.N) (r : Fin 1) (k : Fin 1024) : (iblk m c 5 t (ix2 r k) : EReal) = m ((c : Thread nD τ).loc main_arg5) (ix1 k) := by
  show V m c main_v2 ((win0_5.rect t).emb (ix2 r k)) = _
  rw [emb5]
  entry_read
  exact Blocks.rowCast _ _ r k
theorem blk6 (t : Fin cfg0.N) (r : Fin 1024) (k : Fin 256) : (iblk m c 6 t (ix2 r k) : EReal) = m ((c : Thread nD τ).loc main_arg6) (ix2 k r) := by
  show V m c main_v4 ((win0_6.rect t).emb (ix2 r k)) = _
  rw [emb6]
  entry_read
  exact congrArg (m ((c : Thread nD τ).loc main_arg6)) (Shape.idx_ext₂ rfl rfl)
theorem blk7 (t : Fin cfg0.N) (r : Fin 1) (k : Fin 1024) : (iblk m c 7 t (ix2 r k) : EReal) = m ((c : Thread nD τ).loc main_arg7) (ix1 k) := by
  show V m c main_v5 ((win0_7.rect t).emb (ix2 r k)) = _
  rw [emb7]
  entry_read
  exact Blocks.rowCast _ _ r k
theorem blk8 (t : Fin cfg0.N) (r : Fin 1) (k : Fin 1024) : (iblk m c 8 t (ix2 r k) : EReal) = m ((c : Thread nD τ).loc main_arg8) (ix1 k) := by
  show V m c main_v6 ((win0_8.rect t).emb (ix2 r k)) = _
  rw [emb8]
  entry_read
  exact Blocks.rowCast _ _ r k

/-- The parameters and the rows of the argument arrays. -/
def PP : Par where
  gpg k := m ((c : Thread nD τ).loc main_arg3) (ix1 k)
  wpg k j := m ((c : Thread nD τ).loc main_arg4) (ix2 k j)
  bpg j := m ((c : Thread nD τ).loc main_arg5) (ix1 j)
  wple j q := m ((c : Thread nD τ).loc main_arg6) (ix2 q j)
  gple j := m ((c : Thread nD τ).loc main_arg7) (ix1 j)
  gfin j := m ((c : Thread nD τ).loc main_arg8) (ix1 j)

def RR (i : Fin 2048) : Row where
  x k := m ((c : Thread nD τ).loc main_arg0) (ix2 i k)
  p q := m ((c : Thread nD τ).loc main_arg1) (ix2 i q)
  tg j := m ((c : Thread nD τ).loc main_arg2) (ix2 i j)

theorem bpar_eq (t : Fin cfg0.N) : bpar m c t = PP m c := by
  unfold bpar par PP
  congr 1
  · exact funext fun k => blk3 m c t 0 k
  · exact funext fun k => funext fun j => blk4 m c t k j
  · exact funext fun k => blk5 m c t 0 k
  · exact funext fun j => funext fun q => blk6 m c t j q
  · exact funext fun k => blk7 m c t 0 k
  · exact funext fun k => blk8 m c t 0 k

theorem brow_eq (t : Fin cfg0.N) (r : Fin 256) : brow m c t r = RR m c (row t r) := by
  unfold brow TailBody.row RR
  congr 1
  · exact funext fun k => blk0 m c t r k
  · exact funext fun k => blk1 m c t r k
  · exact funext fun k => blk2 m c t r k

/-! ## The results -/

/-- The gradient of the block's input, the loss in every place, the two weights' gradients, and the four vectors' gradients
    in the first four rows over zeros. -/
def gDx2 (i : S2048x1024.Idx) : EReal := dx2 (PP m c) (RR m c (i 0)) (i 1)
def gLoss (_ : S8x128.Idx) : EReal := cHalf * ∑ r : Fin 2048, rowLoss (PP m c) (RR m c r)
def gDwpg (i : S1024x1024.Idx) : EReal := ∑ r : Fin 2048, h3 (PP m c) (RR m c r) (i 0) * dpre (PP m c) (RR m c r) (i 1)
def gDwple (i : S1024x256.Idx) : EReal := ∑ r : Fin 2048, dpe (PP m c) (RR m c r) (i 0) * (RR m c r).p (i 1)
def gVec (i : S8x1024.Idx) : EReal := if h : (i 0 : Nat) < 4 then ∑ r : Fin 2048, vecRow (PP m c) (RR m c r) ⟨i 0, h⟩ (i 1) else 0

theorem flushed9_eq (t : Fin cfg0.N) : (dats m 0 c).flushed 9 t = (win0_9.blk t).view.read (Elt Ideal) (gDx2 m c) := by
  rw [Value.flushed9]
  funext i
  obtain ⟨r, j, rfl⟩ : ∃ (r : Fin 256) (j : Fin 1024), i = ix2 r j := ⟨_, _, eq_ix2 i⟩
  refine (outs9 m c t r j).trans ?_
  show _ = gDx2 m c ((win0_9.rect t).emb (ix2 r j))
  rw [emb9, bpar_eq, brow_eq]
  rfl

theorem cHalf_pos : 0 ≤ cHalf ∧ cHalf ≠ ⊤ := by
  rw [cHalf_eq]
  exact ⟨by exact_mod_cast (by norm_num : (0 : ℝ) ≤ 1 / 2), EReal.coe_ne_top _⟩

theorem loss_sum : ∑ t : Fin 8, lossPart m c t = cHalf * ∑ r : Fin 2048, rowLoss (PP m c) (RR m c r) := by
  rw [← Blocks.sum_rows, Blocks.mul_sum_nonneg _ _ cHalf_pos.1 cHalf_pos.2]
  refine Finset.sum_congr rfl fun (t : Fin cfg0.N) _ => ?_
  unfold lossPart
  rw [bpar_eq]
  exact congrArg (fun s : EReal => cHalf * s) (Finset.sum_congr rfl fun r _ => congrArg _ (brow_eq m c t r))

theorem wpg_sum (k j : Fin 1024) : ∑ t : Fin 8, wpgPart m c k j t = gDwpg m c (ix2 k j) := by
  unfold gDwpg
  rw [← Blocks.sum_rows]
  refine Finset.sum_congr rfl fun (t : Fin cfg0.N) _ => Finset.sum_congr rfl fun r _ => ?_
  rw [bpar_eq, brow_eq]
  rfl

theorem wple_sum (j : Fin 1024) (q : Fin 256) : ∑ t : Fin 8, wplePart m c j q t = gDwple m c (ix2 j q) := by
  unfold gDwple
  rw [← Blocks.sum_rows]
  refine Finset.sum_congr rfl fun (t : Fin cfg0.N) _ => Finset.sum_congr rfl fun r _ => ?_
  rw [bpar_eq, brow_eq]
  rfl

theorem vec_sum (i : Fin 4) (j : Fin 1024) : ∑ t : Fin 8, vecPart m c i j t = ∑ r : Fin 2048, vecRow (PP m c) (RR m c r) i j := by
  rw [← Blocks.sum_rows]
  refine Finset.sum_congr rfl fun (t : Fin cfg0.N) _ => Finset.sum_congr rfl fun r _ => ?_
  rw [bpar_eq, brow_eq]
  rfl

/-- A point that writes an accumulator back is the last one. -/
theorem last_point (t : Fin cfg0.N) (h7 : t.val % 8 = 7) : t = ⟨7, by decide⟩ := by
  have hN : t.val < 8 := t.isLt
  exact Fin.ext (by show t.val = 7; omega)

theorem flushed10_eq (t : Fin cfg0.N) (hf : (cfg0.win 10).flush t = true) :
    (dats m 0 c).flushed 10 t = (win0_10.blk t).view.read (Elt Ideal) (gLoss m c) := by
  obtain rfl := last_point t ((flush0_10 t).mp hf)
  rw [Value.flushed10]
  funext i
  exact (loss_sweep m c _ 7 (by decide)).trans (loss_sum m c)

theorem flushed11_eq (t : Fin cfg0.N) (hf : (cfg0.win 11).flush t = true) :
    (dats m 0 c).flushed 11 t = (win0_11.blk t).view.read (Elt Ideal) (gDwpg m c) := by
  obtain rfl := last_point t ((flush0_11 t).mp hf)
  rw [Value.flushed11]
  funext i
  obtain ⟨k, j, rfl⟩ : ∃ (k : Fin 1024) (j : Fin 1024), i = ix2 k j := ⟨_, _, eq_ix2 i⟩
  refine ((outs11 m c _ rfl k j).trans (wpg_sweep m c k j 7 (by decide))).trans ?_
  show _ = gDwpg m c ((win0_11.rect _).emb (ix2 k j))
  rw [emb11]
  exact wpg_sum m c k j

theorem flushed12_eq (t : Fin cfg0.N) (hf : (cfg0.win 12).flush t = true) :
    (dats m 0 c).flushed 12 t = (win0_12.blk t).view.read (Elt Ideal) (gDwple m c) := by
  obtain rfl := last_point t ((flush0_12 t).mp hf)
  rw [Value.flushed12]
  funext i
  obtain ⟨j, q, rfl⟩ : ∃ (j : Fin 1024) (q : Fin 256), i = ix2 j q := ⟨_, _, eq_ix2 i⟩
  refine ((outs12 m c _ rfl j q).trans (wple_sweep m c j q 7 (by decide))).trans ?_
  show _ = gDwple m c ((win0_12.rect _).emb (ix2 j q))
  rw [emb12]
  exact wple_sum m c j q

theorem flushed13_eq (t : Fin cfg0.N) (hf : (cfg0.win 13).flush t = true) :
    (dats m 0 c).flushed 13 t = (win0_13.blk t).view.read (Elt Ideal) (gVec m c) := by
  obtain rfl := last_point t ((flush0_13 t).mp hf)
  rw [Value.flushed13]
  funext i
  obtain ⟨r, j, rfl⟩ : ∃ (r : Fin 8) (j : Fin 1024), i = ix2 r j := ⟨_, _, eq_ix2 i⟩
  show ((outsAt0 m c 7 _).2.2.2.2.1 (ix2 r j) : EReal) = gVec m c ((win0_13.rect _).emb (ix2 r j))
  rw [emb13]
  unfold gVec
  by_cases h : r.val < 4
  · exact ((vec_sweep m c r h j 7 (by decide)).trans (vec_sum m c ⟨r.val, h⟩ j)).trans (Eq.symm (dif_pos (show ((ix2 r j 0 : Fin 8) : Nat) < 4 from h)))
  · exact (vec_zero m c r h j 7 (by decide)).trans (Eq.symm (dif_neg (show ¬((ix2 r j 0 : Fin 8) : Nat) < 4 from h)))

theorem row_surj (i : S2048x1024.Idx) : ∃ (t : Fin cfg0.N) (r : Fin 256) (j : Fin 1024), i = ix2 (row t r) j := by
  have h0 : (i 0 : Nat) < 2048 := (i 0).isLt
  refine ⟨⟨(i 0 : Nat) / 256, by show (i 0 : Nat) / 256 < 8; omega⟩, ⟨(i 0 : Nat) % 256, by omega⟩, i 1, Shape.idx_ext₂ ?_ rfl⟩
  show (i 0 : Nat) = (i 0 : Nat) / 256 * 256 + (i 0 : Nat) % 256
  omega

theorem cover9 (i : S2048x1024.Idx) : ∃ t : Fin cfg0.N, (cfg0.win 9).flush t = true ∧ i ∈ ((cfg0.win 9).blk t).view.set := by
  obtain ⟨t, r, j, rfl⟩ := row_surj i
  refine ⟨t, flush0_9 t, ?_⟩
  rw [← emb9]
  exact View.emb_mem_set (win0_9.blk t).view (ix2 r j)

theorem cover10 (i : S8x128.Idx) : ∃ t : Fin cfg0.N, (cfg0.win 10).flush t = true ∧ i ∈ ((cfg0.win 10).blk t).view.set := by
  obtain ⟨r, j, rfl⟩ : ∃ (r : Fin 8) (j : Fin 128), i = ix2 r j := ⟨_, _, eq_ix2 i⟩
  refine ⟨⟨7, by decide⟩, (flush0_10 _).mpr rfl, ?_⟩
  rw [← emb10 ⟨7, by decide⟩]
  exact View.emb_mem_set (win0_10.blk _).view (ix2 r j)

theorem cover11 (i : S1024x1024.Idx) : ∃ t : Fin cfg0.N, (cfg0.win 11).flush t = true ∧ i ∈ ((cfg0.win 11).blk t).view.set := by
  obtain ⟨r, j, rfl⟩ : ∃ (r : Fin 1024) (j : Fin 1024), i = ix2 r j := ⟨_, _, eq_ix2 i⟩
  refine ⟨⟨7, by decide⟩, (flush0_11 _).mpr rfl, ?_⟩
  rw [← emb11 ⟨7, by decide⟩]
  exact View.emb_mem_set (win0_11.blk _).view (ix2 r j)

theorem cover12 (i : S1024x256.Idx) : ∃ t : Fin cfg0.N, (cfg0.win 12).flush t = true ∧ i ∈ ((cfg0.win 12).blk t).view.set := by
  obtain ⟨r, j, rfl⟩ : ∃ (r : Fin 1024) (j : Fin 256), i = ix2 r j := ⟨_, _, eq_ix2 i⟩
  refine ⟨⟨7, by decide⟩, (flush0_12 _).mpr rfl, ?_⟩
  rw [← emb12 ⟨7, by decide⟩]
  exact View.emb_mem_set (win0_12.blk _).view (ix2 r j)

theorem cover13 (i : S8x1024.Idx) : ∃ t : Fin cfg0.N, (cfg0.win 13).flush t = true ∧ i ∈ ((cfg0.win 13).blk t).view.set := by
  obtain ⟨r, j, rfl⟩ : ∃ (r : Fin 8) (j : Fin 1024), i = ix2 r j := ⟨_, _, eq_ix2 i⟩
  refine ⟨⟨7, by decide⟩, (flush0_13 _).mpr rfl, ?_⟩
  rw [← emb13 ⟨7, by decide⟩]
  exact View.emb_mem_set (win0_13.blk _).view (ix2 r j)

/-- The run, read: the five result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v7_0) = gDx2 m c
      ∧ r.2.mem ((c : Thread nD τ).loc main_v7_1) = gLoss m c
      ∧ r.2.mem ((c : Thread nD τ).loc main_v7_2) = gDwpg m c
      ∧ r.2.mem ((c : Thread nD τ).loc main_v7_3) = gDwple m c
      ∧ r.2.mem ((c : Thread nD τ).loc main_v7_4) = gVec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨(h c).1.trans ((dats m 0 c).arrAt_eq_of_cover 9 _ (fun t _ => flushed9_eq m c t) cover9),
      (h c).2.1.trans ((dats m 0 c).arrAt_eq_of_cover 10 _ (flushed10_eq m c) cover10),
      (h c).2.2.1.trans ((dats m 0 c).arrAt_eq_of_cover 11 _ (flushed11_eq m c) cover11),
      (h c).2.2.2.1.trans ((dats m 0 c).arrAt_eq_of_cover 12 _ (flushed12_eq m c) cover12),
      (h c).2.2.2.2.1.trans ((dats m 0 c).arrAt_eq_of_cover 13 _ (flushed13_eq m c) cover13),
      (h c).2.2.2.2.2⟩)
    (Value.run_blocks m ρ)

end Cert.Kernel3Ideal.TailK

end
-- ==== Proof.HostRms.lean ====
/- The norm of rows of 1024 numbers as the references' array operations compute it, and what its derivative adds up:
   sums of rows and of columns, the mean square, the number of a row that the square's derivative is a multiple of. -/
module

public import proofs.«01_k».proof.Proof.Blocks
public import proofs.«01_k».proof.Proof.Rms
public import Idealize.ShloMosaic.Lib.Pipeline.Value
public import Idealize.ShloMosaic.Lib.ValueIdx
public import Idealize.ShloMosaic.PureOps.Ideal.Laws

@[expose] public section

noncomputable section

namespace Cert.HostRms

open Idealize.ShloMosaic Idealize.ShloMosaic.ValueIdx Cert.Reals
open scoped BigOperators

abbrev Z : Shape := ⟨0, ![]⟩
abbrev A : Shape := ⟨2, ![2048, 1024]⟩
abbrev C : Shape := ⟨2, ![2048, 1]⟩
abbrev V : Shape := ⟨1, ![2048]⟩
abbrev G : Shape := ⟨1, ![1024]⟩
abbrev R : Shape := ⟨2, ![1, 1024]⟩

abbrev zero : FVec Ideal Z .f32 := constant (F := Ideal) Z .f32 0x00000000#32

theorem zero_add' (i : Z.Idx) (s : EReal) : (zero i : EReal) + s = s := by
  show Ideal.ofBits .f32 0x00000000#32 + s = s
  rw [Ideal.ofBits_zero_f32, zero_add]

variable {n : Nat}

/-- A sum along the rows. -/
theorem rowSum {b : Nat} (y : FVec Ideal ⟨2, ![n, b]⟩ .f32) (h : (⟨2, ![n, b]⟩ : Shape).ReducesTo [1] ⟨1, ![n]⟩)
    (h' : (⟨2, ![n, b]⟩ : Shape).Reduces [1] ⟨1, ![n]⟩) (hz : 0 < Z.numel) (i : (⟨1, ![n]⟩ : Shape).Idx) :
    (Host.reduceAdd (F := Ideal) y zero h hz i : EReal) = ∑ k : Fin b, y (ix2 (i 0) k) := by
  simp only [Host.reduceAdd, Ideal.hostReduceAdd_def]
  rw [Ideal.hostReduceAdd_single h h']
  refine (zero_add' _ _).trans (Finset.sum_congr rfl fun k _ => ?_)
  exact congrArg y (funext fun a => Fin.ext (by match a with | ⟨0, _⟩ => rfl | ⟨1, _⟩ => rfl))

/-- A sum along the columns. -/
theorem colSum {b : Nat} (y : FVec Ideal ⟨2, ![n, b]⟩ .f32) (h : (⟨2, ![n, b]⟩ : Shape).ReducesTo [0] ⟨1, ![b]⟩)
    (h' : (⟨2, ![n, b]⟩ : Shape).Reduces [0] ⟨1, ![b]⟩) (hz : 0 < Z.numel) (i : (⟨1, ![b]⟩ : Shape).Idx) :
    (Host.reduceAdd (F := Ideal) y zero h hz i : EReal) = ∑ k : Fin n, y (ix2 k (i 0)) := by
  simp only [Host.reduceAdd, Ideal.hostReduceAdd_def]
  rw [Ideal.hostReduceAdd_single h h']
  refine (zero_add' _ _).trans (Finset.sum_congr rfl fun k _ => ?_)
  exact congrArg y (funext fun a => Fin.ext (by match a with | ⟨0, _⟩ => rfl | ⟨1, _⟩ => rfl))

/-- A vector as a column, by spreading and by laying down; a column spread over rows; a gain spread over rows. -/
theorem asCol (y : FVec Ideal V .f32) (h : V.BroadcastsInDim C ![0]) (r : Fin 2048) (u : Fin 1) : broadcastInDim C ![0] h y (ix2 r u) = y (ix1 r) :=
  broadcastInDim_apply _ h y _ _ (fun a => match a with | ⟨0, _⟩ => by show r.val = if (2048 : Nat) = 1 then 0 else r.val; rw [if_neg (by decide)])
theorem castCol (y : FVec Ideal V .f32) (h : V.ShapeCasts C) (r : Fin 2048) (u : Fin 1) : shapeCast C y h (ix2 r u) = y (ix1 r) :=
  shapeCast_apply y h _ _ (by rw [Shape.rowMajor_val_one, Shape.rowMajor_val_two]; show r.val = r.val * 1 + u.val; omega)
theorem spreadCol (y : FVec Ideal C .f32) (h : C.BroadcastsInDim A ![0, 1]) (r : Fin 2048) (j : Fin 1024) : broadcastInDim A ![0, 1] h y (ix2 r j) = y (ix2 r 0) :=
  broadcastInDim_apply _ h y _ _ (fun a => match a with
    | ⟨0, _⟩ => by show r.val = if (2048 : Nat) = 1 then 0 else r.val; rw [if_neg (by decide)]
    | ⟨1, _⟩ => by show 0 = if (1 : Nat) = 1 then 0 else j.val; rw [if_pos rfl])
theorem spreadVec (y : FVec Ideal V .f32) (h : V.BroadcastsInDim A ![0]) (r : Fin 2048) (j : Fin 1024) : broadcastInDim A ![0] h y (ix2 r j) = y (ix1 r) :=
  broadcastInDim_apply _ h y _ _ (fun a => match a with | ⟨0, _⟩ => by show r.val = if (2048 : Nat) = 1 then 0 else r.val; rw [if_neg (by decide)])
theorem spreadGain (y : FVec Ideal G .f32) (h : G.BroadcastsInDim R ![1]) (h' : R.BroadcastsInDim A ![0, 1]) (r : Fin 2048) (j : Fin 1024) :
    broadcastInDim A ![0, 1] h' (broadcastInDim R ![1] h y) (ix2 r j) = y (ix1 j) :=
  (broadcastInDim_apply _ h' _ _ (ix2 (0 : Fin 1) j) (fun a => match a with
    | ⟨0, _⟩ => by show 0 = if (1 : Nat) = 1 then 0 else r.val; rw [if_pos rfl]
    | ⟨1, _⟩ => by show j.val = if (1024 : Nat) = 1 then 0 else j.val; rw [if_neg (by decide)])).trans
  (broadcastInDim_apply _ h y _ (ix1 j) (fun a => match a with | ⟨0, _⟩ => by show j.val = if (1024 : Nat) = 1 then 0 else j.val; rw [if_neg (by decide)]))

theorem reduces1 : A.Reduces [1] V := by decide
theorem reduces0 : A.Reduces [0] G := by decide
theorem reducesC : C.Reduces [1] V := by decide
theorem reducesR : R.Reduces [0] G := by decide

/-- A gain's gradient: the sum of the rows, passed twice through a row. -/
theorem gainSum (y : FVec Ideal A .f32) (h : A.ReducesTo [0] G) (h' : R.ReducesTo [0] G) (hz : 0 < Z.numel) (hs hs' : G.ShapeCasts R) (u : Fin 1) (j : Fin 1024) :
    (shapeCast R (Host.reduceAdd (F := Ideal) (shapeCast R (Host.reduceAdd (F := Ideal) y zero h hz) hs) zero h' hz) hs' (ix2 u j) : EReal)
      = ∑ r : Fin 2048, y (ix2 r j) := by
  rw [Blocks.rowCast, colSum _ _ reducesR, Fin.sum_univ_one]
  exact (Blocks.rowCast _ hs 0 j).trans (colSum _ h reduces0 hz (ix1 j))

variable (x d : FVec Ideal A .f32) (q : FVec Ideal C .f32)

/-- The mean square of the rows and the small number. -/
theorem msq (h : A.ReducesTo [1] V) (hz : 0 < Z.numel) (hc : V.BroadcastsInDim C ![0]) (hs hs' : Z.BroadcastsInDim C ![]) (r : Fin 2048) (u : Fin 1) :
    (addf (F := Ideal) (Host.divf (F := Ideal) (broadcastInDim C ![0] hc (Host.reduceAdd (F := Ideal) (mulf x x) zero h hz))
        (broadcastInDim C ![] hs (constant (F := Ideal) Z .f32 0x44800000#32))) (broadcastInDim C ![] hs' (constant (F := Ideal) Z .f32 0x358637BD#32)) (ix2 r u) : EReal)
      = Rms.msq (fun k => x (ix2 r k)) := by
  refine congrArg (fun s => Ideal.div s Rms.cN + Rms.cEps) ?_
  rw [asCol, rowSum _ h reduces1]
  rfl

/-- The number of a row that the derivative of the square is a multiple of. -/
theorem dsq (h : A.ReducesTo [1] V) (h' : C.ReducesTo [1] V) (hz : 0 < Z.numel) (hc : V.ShapeCasts C) (hs hs' : Z.BroadcastsInDim C ![]) (hb : V.BroadcastsInDim A ![0])
    (f D : Fin 1024 → EReal) (r : Fin 2048) (j : Fin 1024) (hx : ∀ k, (x (ix2 r k) : EReal) = f k) (hd : ∀ k, (d (ix2 r k) : EReal) = D k) (hq : (q (ix2 r 0) : EReal) = Rms.msq f) :
    (broadcastInDim A ![0] hb (Host.reduceAdd (F := Ideal) (Host.divf (F := Ideal) (mulf (F := Ideal) (shapeCast C (Host.reduceAdd (F := Ideal) (mulf x d) zero h hz) hc)
        (mulf (F := Ideal) (broadcastInDim C ![] hs (constant (F := Ideal) Z .f32 0xBF000000#32)) (Host.divf (F := Ideal) (Host.rsqrt (F := Ideal) q) q)))
        (broadcastInDim C ![] hs' (constant (F := Ideal) Z .f32 0x44800000#32))) zero h' hz) (ix2 r j) : EReal)
      = Rms.dsq f D := by
  rw [spreadVec, rowSum _ h' reducesC, Fin.sum_univ_one]
  show Ideal.div (shapeCast C _ hc (ix2 r 0) * (Rms.cNegHalf * Ideal.div (Ideal.rsqrt (q (ix2 r 0))) (q (ix2 r 0)))) Rms.cN = _
  rw [castCol, rowSum _ h reduces1, hq]
  unfold Rms.dsq
  exact congrArg (fun s => Ideal.div (s * _) Rms.cN) (Finset.sum_congr rfl fun k _ => congrArg₂ (fun a b : EReal => a * b) (hx k) (hd k))

/-- The normed rows times the gain. -/
theorem normed (g : FVec Ideal G .f32) (h : A.ReducesTo [1] V) (hz : 0 < Z.numel) (hc : V.BroadcastsInDim C ![0]) (hs hs' : Z.BroadcastsInDim C ![])
    (hb : C.BroadcastsInDim A ![0, 1]) (hg : G.BroadcastsInDim R ![1]) (hg' : R.BroadcastsInDim A ![0, 1]) (f : Fin 1024 → EReal) (r : Fin 2048) (j : Fin 1024)
    (hx : ∀ k, (x (ix2 r k) : EReal) = f k) :
    (mulf (F := Ideal) (mulf (F := Ideal) x (broadcastInDim A ![0, 1] hb (Host.rsqrt (F := Ideal) (addf (F := Ideal) (Host.divf (F := Ideal)
        (broadcastInDim C ![0] hc (Host.reduceAdd (F := Ideal) (mulf x x) zero h hz)) (broadcastInDim C ![] hs (constant (F := Ideal) Z .f32 0x44800000#32)))
        (broadcastInDim C ![] hs' (constant (F := Ideal) Z .f32 0x358637BD#32)))))) (broadcastInDim A ![0, 1] hg' (broadcastInDim R ![1] hg g)) (ix2 r j) : EReal)
      = (f j * Rms.rinv f) * g (ix1 j) := by
  refine congrArg₂ (fun a b : EReal => a * b) (congrArg₂ (fun a b : EReal => a * b) (hx j) ?_) (spreadGain g hg hg' r j)
  refine (spreadCol _ hb r j).trans ?_
  refine congrArg Ideal.rsqrt ((msq x h hz hc hs hs' r 0).trans ?_)
  exact congrArg Rms.msq (funext hx)

end Cert.HostRms

end
-- ==== Proof.RealVals.lean ====
/- Extended reals that are real numbers, and the operations under which they stay so. -/
module

public import proofs.«01_k».proof.Proof.Rms

@[expose] public section

noncomputable section

namespace Cert.Reals

open Idealize.ShloMosaic
open scoped BigOperators

/-- The number is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.logistic {x : EReal} : IsReal x → IsReal (Ideal.logistic x)
  | ⟨a, ha⟩ => ⟨sg a, by rw [ha, logistic_coe]⟩
theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

end Cert.Reals

namespace Cert.Rms

open Idealize.ShloMosaic Cert.Reals
open scoped BigOperators

variable (f d : Fin 1024 → EReal)

theorem rinv_isReal (h : ∀ k, IsReal (f k)) : IsReal (rinv f) := by
  choose a ha using h
  obtain ⟨r, hr⟩ := rinv_real a
  exact ⟨r, by rw [← hr]; exact congrArg rinv (funext ha)⟩

theorem bwd_isReal (h : ∀ k, IsReal (f k)) (h' : ∀ k, IsReal (d k)) (j : Fin 1024) : IsReal (bwd f d j) := by
  choose a ha using h
  choose b hb using h'
  obtain ⟨r, hr⟩ := bwd_real a b j
  exact ⟨r, by rw [← hr, funext ha, funext hb]⟩

/-- The derivative's spelling of a norm's backward is the kernels', at rows of real numbers. -/
theorem bwd_spelling (h : ∀ k, IsReal (f k)) (h' : ∀ k, IsReal (d k)) (p : EReal) (j : Fin 1024) :
    ((p + d j * rinv f) + f j * dsq f d) + dsq f d * f j = p + bwd f d j := by
  choose a ha using h
  choose b hb using h'
  rw [funext ha, funext hb]
  exact bwd_eq a b p j

/-- The same where nothing passes by. -/
theorem bwd_spelling₀ (h : ∀ k, IsReal (f k)) (h' : ∀ k, IsReal (d k)) (j : Fin 1024) :
    (d j * rinv f + f j * dsq f d) + dsq f d * f j = bwd f d j := by
  have e := bwd_spelling f d h h' 0 j
  rwa [zero_add, zero_add] at e

end Cert.Rms

end
-- ==== Proof.TailEq.lean ====
/- The equation of the per-layer embedding and the loss: the loss and the derivative that `jax.value_and_grad` takes of it
   are what the kernel's own formulas give, row by row. The cotangents need finite arguments. -/
module

public import proofs.«01_k».proof.Proof.Tail
public import proofs.«01_k».proof.Proof.HostRms
public import proofs.«01_k».proof.Proof.RealVals
public import proofs.«01_k».proof.Proof.Gen.Reference3Ideal.Run
public import proofs.«01_k».proof.Proof.Gen.Reference3Ideal.Read

@[expose] public section

noncomputable section

namespace Cert.TailEq

open Cert.Reference3Ideal Cert.Reference3Ideal.Read Idealize.ShloMosaic Idealize.ShloMosaic.TcCoe Idealize.SL.Sem
open Idealize.ShloMosaic.ValueIdx Cert.Reals Cert.Tail
open scoped BigOperators

variable (a0 : S2048x1024.Idx → EReal) (a1 : S2048x256.Idx → EReal) (a2 : S2048x1024.Idx → EReal) (a3 : S1024.Idx → EReal) (a4 : S1024x1024.Idx → EReal)
  (a5 : S1024.Idx → EReal) (a6 : S256x1024.Idx → EReal) (a7 a8 : S1024.Idx → EReal)

/-- The parameters and a row, from the arrays. -/
def pp : Par where
  gpg k := a3 (ix1 k)
  wpg k j := a4 (ix2 k j)
  bpg j := a5 (ix1 j)
  wple j q := a6 (ix2 q j)
  gple j := a7 (ix1 j)
  gfin j := a8 (ix1 j)

def rr (i : Fin 2048) : Row where
  x k := a0 (ix2 i k)
  p q := a1 (ix2 i q)
  tg j := a2 (ix2 i j)

/-! ## Rows of real numbers stay real -/

/-- All of the parameters, all of a row, are real numbers. -/
structure PReal (P : Par) : Prop where
  gpg : ∀ k, IsReal (P.gpg k)
  wpg : ∀ k j, IsReal (P.wpg k j)
  bpg : ∀ k, IsReal (P.bpg k)
  wple : ∀ j q, IsReal (P.wple j q)
  gple : ∀ k, IsReal (P.gple k)
  gfin : ∀ k, IsReal (P.gfin k)

structure RReal (R : Row) : Prop where
  x : ∀ k, IsReal (R.x k)
  p : ∀ k, IsReal (R.p k)
  tg : ∀ k, IsReal (R.tg k)

section
variable {P : Par} {R : Row} (hP : PReal P) (hR : RReal R)
include hP hR

theorem h3_real (k : Fin 1024) : IsReal (h3 P R k) := ((hR.x k).mul (Rms.rinv_isReal _ hR.x)).mul (hP.gpg k)
theorem gp_real (j : Fin 1024) : IsReal (gp P R j) :=
  ((IsReal.sum _ _ fun k => (h3_real hP hR k).mul (hP.wpg k j)).add (hP.bpg j)).logistic
theorem pe_real (j : Fin 1024) : IsReal (pe P R j) := IsReal.sum _ _ fun q => (hR.p q).mul (hP.wple j q)
theorem e_real (j : Fin 1024) : IsReal (e P R j) := ((pe_real hP hR j).mul (Rms.rinv_isReal _ (pe_real hP hR))).mul (hP.gple j)
theorem x3_real (j : Fin 1024) : IsReal (x3 P R j) := (hR.x j).add ((gp_real hP hR j).mul (e_real hP hR j))
theorem diff_real (j : Fin 1024) : IsReal (diff P R j) := (((x3_real hP hR j).mul (Rms.rinv_isReal _ (x3_real hP hR))).mul (hP.gfin j)).sub (hR.tg j)
theorem dxn3_real (j : Fin 1024) : IsReal (dy P R j * P.gfin j) :=
  ((diff_real hP hR j).mul (by rw [cInv_eq]; exact IsReal.coe _)).mul (hP.gfin j)
theorem dx3_real (j : Fin 1024) : IsReal (dx3 P R j) := Rms.bwd_isReal _ _ (x3_real hP hR) (dxn3_real hP hR) j
theorem dpeh_real (j : Fin 1024) : IsReal (de P R j * P.gple j) := ((dx3_real hP hR j).mul (gp_real hP hR j)).mul (hP.gple j)
theorem dpre_real (j : Fin 1024) : IsReal (dpre P R j) :=
  (((dx3_real hP hR j).mul (e_real hP hR j)).mul (gp_real hP hR j)).mul ((by rw [cOne_eq]; exact IsReal.one : IsReal cOne).sub (gp_real hP hR j))
theorem dxh_real (j : Fin 1024) : IsReal (dh3 P R j * P.gpg j) :=
  (IsReal.sum _ _ fun q => (dpre_real hP hR q).mul (hP.wpg j q)).mul (hP.gpg j)

end

/-! ## The reference's arrays, row by row -/

theorem r_msq (r : Fin 2048) (u : Fin 1) : (val_main_v6 (F := Ideal) a0 (ix2 r u) : EReal) = Rms.msq (rr a0 a1 a2 r).x := HostRms.msq a0 _ _ _ _ _ r u

theorem r_rinv (r : Fin 2048) (j : Fin 1024) : (val_main_v11 (F := Ideal) a0 (ix2 r j) : EReal) = Rms.rinv (rr a0 a1 a2 r).x :=
  (HostRms.spreadCol _ _ r j).trans (congrArg Ideal.rsqrt (r_msq a0 a1 a2 r 0))

theorem r_h3 (r : Fin 2048) (j : Fin 1024) : (val_main_v15 (F := Ideal) a0 a3 (ix2 r j) : EReal) = h3 (pp a3 a4 a5 a6 a7 a8) (rr a0 a1 a2 r) j :=
  congrArg₂ (fun a b : EReal => (a0 (ix2 r j) * a) * b) (r_rinv a0 a1 a2 r j) (HostRms.spreadGain a3 _ _ r j)

theorem r_gp (r : Fin 2048) (j : Fin 1024) : (val_main_v25 (F := Ideal) a0 a3 a4 a5 (ix2 r j) : EReal) = gp (pp a3 a4 a5 a6 a7 a8) (rr a0 a1 a2 r) j := by
  show Ideal.div (Ideal.ofBits .f32 0x3F800000#32) (Ideal.ofBits .f32 0x3F800000#32 + Ideal.exp (-(val_main_v16 (F := Ideal) a0 a3 a4 (ix2 r j) + val_main_v18 (F := Ideal) a5 (ix2 r j)))) = _
  rw [Ideal.ofBits_one_f32, val_main_v16_apply]
  refine congrArg Ideal.logistic (congrArg₂ (fun a b : EReal => a + b) (Finset.sum_congr rfl fun k _ => ?_) (HostRms.spreadGain a5 _ _ r j))
  exact congrArg₂ (fun a b : EReal => a * b) ((congrArg (val_main_v15 (F := Ideal) a0 a3) (show lidx_main_v16 (ix2 r j) k = ix2 r k from Shape.idx_ext₂ rfl rfl)).trans (r_h3 a0 a1 a2 a3 a4 a5 a6 a7 a8 r k)) (congrArg a4 (Shape.idx_ext₂ rfl rfl))

theorem r_pe (r : Fin 2048) (j : Fin 1024) : (val_main_v29 (F := Ideal) a1 a6 (ix2 r j) : EReal) = pe (pp a3 a4 a5 a6 a7 a8) (rr a0 a1 a2 r) j := by
  rw [val_main_v29_apply]
  exact Finset.sum_congr rfl fun k _ => congrArg₂ (fun a b : EReal => a * b) (congrArg a1 (Shape.idx_ext₂ rfl rfl)) (congrArg a6 (Shape.idx_ext₂ rfl rfl))

theorem r_msq_pe (r : Fin 2048) (u : Fin 1) : (val_main_v36 (F := Ideal) a1 a6 (ix2 r u) : EReal) = Rms.msq (pe (pp a3 a4 a5 a6 a7 a8) (rr a0 a1 a2 r)) :=
  (HostRms.msq (val_main_v29 (F := Ideal) a1 a6) _ _ _ _ _ r u).trans (congrArg Rms.msq (funext fun k => r_pe a0 a1 a2 a3 a4 a5 a6 a7 a8 r k))

theorem r_rinv_pe (r : Fin 2048) (j : Fin 1024) : (val_main_v41 (F := Ideal) a1 a6 (ix2 r j) : EReal) = Rms.rinv (pe (pp a3 a4 a5 a6 a7 a8) (rr a0 a1 a2 r)) :=
  (HostRms.spreadCol _ _ r j).trans (congrArg Ideal.rsqrt (r_msq_pe a0 a1 a2 a3 a4 a5 a6 a7 a8 r 0))

theorem r_e (r : Fin 2048) (j : Fin 1024) : (val_main_v45 (F := Ideal) a1 a6 a7 (ix2 r j) : EReal) = e (pp a3 a4 a5 a6 a7 a8) (rr a0 a1 a2 r) j :=
  congrArg₂ (fun a b : EReal => a * b) (congrArg₂ (fun a b : EReal => a * b) (r_pe a0 a1 a2 a3 a4 a5 a6 a7 a8 r j) (r_rinv_pe a0 a1 a2 a3 a4 a5 a6 a7 a8 r j)) (HostRms.spreadGain a7 _ _ r j)

theorem r_x3 (r : Fin 2048) (j : Fin 1024) : (val_main_v47 (F := Ideal) a0 a1 a3 a4 a5 a6 a7 (ix2 r j) : EReal) = x3 (pp a3 a4 a5 a6 a7 a8) (rr a0 a1 a2 r) j :=
  congrArg₂ (fun a b : EReal => a0 (ix2 r j) + a * b) (r_gp a0 a1 a2 a3 a4 a5 a6 a7 a8 r j) (r_e a0 a1 a2 a3 a4 a5 a6 a7 a8 r j)

theorem r_msq_x3 (r : Fin 2048) (u : Fin 1) : (val_main_v54 (F := Ideal) a0 a1 a3 a4 a5 a6 a7 (ix2 r u) : EReal) = Rms.msq (x3 (pp a3 a4 a5 a6 a7 a8) (rr a0 a1 a2 r)) :=
  (HostRms.msq (val_main_v47 (F := Ideal) a0 a1 a3 a4 a5 a6 a7) _ _ _ _ _ r u).trans (congrArg Rms.msq (funext fun k => r_x3 a0 a1 a2 a3 a4 a5 a6 a7 a8 r k))

theorem r_rinv_x3 (r : Fin 2048) (j : Fin 1024) : (val_main_v59 (F := Ideal) a0 a1 a3 a4 a5 a6 a7 (ix2 r j) : EReal) = Rms.rinv (x3 (pp a3 a4 a5 a6 a7 a8) (rr a0 a1 a2 r)) :=
  (HostRms.spreadCol _ _ r j).trans (congrArg Ideal.rsqrt (r_msq_x3 a0 a1 a2 a3 a4 a5 a6 a7 a8 r 0))

theorem r_diff (r : Fin 2048) (j : Fin 1024) : (val_main_v64 (F := Ideal) a0 a1 a2 a3 a4 a5 a6 a7 a8 (ix2 r j) : EReal) = diff (pp a3 a4 a5 a6 a7 a8) (rr a0 a1 a2 r) j :=
  congrArg₂ (fun a b : EReal => a * b - a2 (ix2 r j)) (congrArg₂ (fun a b : EReal => a * b) (r_x3 a0 a1 a2 a3 a4 a5 a6 a7 a8 r j) (r_rinv_x3 a0 a1 a2 a3 a4 a5 a6 a7 a8 r j)) (HostRms.spreadGain a8 _ _ r j)

/-- Half the mean's share, times twice the difference. -/
theorem half_twice (d : EReal) : Ideal.div (Ideal.ofBits .f32 0x3F000000#32 * Ideal.ofBits .f32 0x3F800000#32) (Ideal.ofBits .f32 0x44800000#32) * (Ideal.ofBits .f32 0x40000000#32 * d) = d * cInv := by
  have h1 : Ideal.ofBits .f32 0x3F000000#32 = ((1 / 2 : ℝ) : EReal) := cHalf_eq
  have h2 : Ideal.ofBits .f32 0x44800000#32 = ((1024 : ℝ) : EReal) := Rms.cN_eq
  have h3 : Ideal.ofBits .f32 0x40000000#32 = ((2 : ℝ) : EReal) := by simp [Ideal.ofBits, Ideal.ieee, -EReal.coe_mul]; norm_num
  rw [h1, h2, h3, Ideal.ofBits_one_f32, mul_one, div_coe' _ (by norm_num), ← mul_assoc, ← EReal.coe_mul, cInv_eq, mul_comm]
  norm_num

theorem r_dy (r : Fin 2048) (j : Fin 1024) : (val_main_v78 (F := Ideal) a0 a1 a2 a3 a4 a5 a6 a7 a8 (ix2 r j) : EReal) = dy (pp a3 a4 a5 a6 a7 a8) (rr a0 a1 a2 r) j :=
  (half_twice _).trans (congrArg (fun d : EReal => d * cInv) (r_diff a0 a1 a2 a3 a4 a5 a6 a7 a8 r j))

theorem r_dxn3 (r : Fin 2048) (j : Fin 1024) : (val_main_v83 (F := Ideal) a0 a1 a2 a3 a4 a5 a6 a7 a8 (ix2 r j) : EReal) = dy (pp a3 a4 a5 a6 a7 a8) (rr a0 a1 a2 r) j * (pp a3 a4 a5 a6 a7 a8).gfin j :=
  congrArg₂ (fun a b : EReal => a * b) (r_dy a0 a1 a2 a3 a4 a5 a6 a7 a8 r j) (HostRms.spreadGain a8 _ _ r j)

theorem r_dsq3 (r : Fin 2048) (j : Fin 1024) : (val_main_v94 (F := Ideal) a0 a1 a2 a3 a4 a5 a6 a7 a8 (ix2 r j) : EReal) = Rms.dsq (x3 (pp a3 a4 a5 a6 a7 a8) (rr a0 a1 a2 r)) (fun k => dy (pp a3 a4 a5 a6 a7 a8) (rr a0 a1 a2 r) k * (pp a3 a4 a5 a6 a7 a8).gfin k) :=
  HostRms.dsq (val_main_v47 (F := Ideal) a0 a1 a3 a4 a5 a6 a7) (val_main_v83 (F := Ideal) a0 a1 a2 a3 a4 a5 a6 a7 a8) (val_main_v54 (F := Ideal) a0 a1 a3 a4 a5 a6 a7) _ _ _ _ _ _ _ _ _ r j (fun k => r_x3 a0 a1 a2 a3 a4 a5 a6 a7 a8 r k) (fun k => r_dxn3 a0 a1 a2 a3 a4 a5 a6 a7 a8 r k) (r_msq_x3 a0 a1 a2 a3 a4 a5 a6 a7 a8 r 0)

theorem r_dx3 (r : Fin 2048) (j : Fin 1024) (hP : PReal (pp a3 a4 a5 a6 a7 a8)) (hR : RReal (rr a0 a1 a2 r)) : (val_main_v98 (F := Ideal) a0 a1 a2 a3 a4 a5 a6 a7 a8 (ix2 r j) : EReal) = dx3 (pp a3 a4 a5 a6 a7 a8) (rr a0 a1 a2 r) j := by
  show (val_main_v83 (F := Ideal) a0 a1 a2 a3 a4 a5 a6 a7 a8 (ix2 r j) * val_main_v88 (F := Ideal) a0 a1 a3 a4 a5 a6 a7 (ix2 r j) + val_main_v47 (F := Ideal) a0 a1 a3 a4 a5 a6 a7 (ix2 r j) * val_main_v94 (F := Ideal) a0 a1 a2 a3 a4 a5 a6 a7 a8 (ix2 r j)) + val_main_v94 (F := Ideal) a0 a1 a2 a3 a4 a5 a6 a7 a8 (ix2 r j) * val_main_v47 (F := Ideal) a0 a1 a3 a4 a5 a6 a7 (ix2 r j) = _
  rw [r_dsq3, r_dxn3, r_x3, show val_main_v88 (F := Ideal) a0 a1 a3 a4 a5 a6 a7 (ix2 r j) = _ from r_rinv_x3 a0 a1 a2 a3 a4 a5 a6 a7 a8 r j]
  exact Rms.bwd_spelling₀ _ (fun k => dy (pp a3 a4 a5 a6 a7 a8) (rr a0 a1 a2 r) k * (pp a3 a4 a5 a6 a7 a8).gfin k) (x3_real hP hR) (dxn3_real hP hR) j

theorem r_de (r : Fin 2048) (j : Fin 1024) (hP : PReal (pp a3 a4 a5 a6 a7 a8)) (hR : RReal (rr a0 a1 a2 r)) : (val_main_v99 (F := Ideal) a0 a1 a2 a3 a4 a5 a6 a7 a8 (ix2 r j) : EReal) = de (pp a3 a4 a5 a6 a7 a8) (rr a0 a1 a2 r) j :=
  (congrArg₂ (fun a b : EReal => a * b) (r_gp a0 a1 a2 a3 a4 a5 a6 a7 a8 r j) (r_dx3 a0 a1 a2 a3 a4 a5 a6 a7 a8 r j hP hR)).trans (mul_comm _ _)

theorem r_dpeh (r : Fin 2048) (j : Fin 1024) (hP : PReal (pp a3 a4 a5 a6 a7 a8)) (hR : RReal (rr a0 a1 a2 r)) : (val_main_v105 (F := Ideal) a0 a1 a2 a3 a4 a5 a6 a7 a8 (ix2 r j) : EReal) = de (pp a3 a4 a5 a6 a7 a8) (rr a0 a1 a2 r) j * (pp a3 a4 a5 a6 a7 a8).gple j :=
  congrArg₂ (fun a b : EReal => a * b) (r_de a0 a1 a2 a3 a4 a5 a6 a7 a8 r j hP hR) (HostRms.spreadGain a7 _ _ r j)

theorem r_dsq_pe (r : Fin 2048) (j : Fin 1024) (hP : PReal (pp a3 a4 a5 a6 a7 a8)) (hR : RReal (rr a0 a1 a2 r)) : (val_main_v116 (F := Ideal) a0 a1 a2 a3 a4 a5 a6 a7 a8 (ix2 r j) : EReal) = Rms.dsq (pe (pp a3 a4 a5 a6 a7 a8) (rr a0 a1 a2 r)) (fun k => de (pp a3 a4 a5 a6 a7 a8) (rr a0 a1 a2 r) k * (pp a3 a4 a5 a6 a7 a8).gple k) :=
  HostRms.dsq (val_main_v29 (F := Ideal) a1 a6) (val_main_v105 (F := Ideal) a0 a1 a2 a3 a4 a5 a6 a7 a8) (val_main_v36 (F := Ideal) a1 a6) _ _ _ _ _ _ _ _ _ r j (fun k => r_pe a0 a1 a2 a3 a4 a5 a6 a7 a8 r k) (fun k => r_dpeh a0 a1 a2 a3 a4 a5 a6 a7 a8 r k hP hR) (r_msq_pe a0 a1 a2 a3 a4 a5 a6 a7 a8 r 0)

theorem r_dpe (r : Fin 2048) (j : Fin 1024) (hP : PReal (pp a3 a4 a5 a6 a7 a8)) (hR : RReal (rr a0 a1 a2 r)) : (val_main_v120 (F := Ideal) a0 a1 a2 a3 a4 a5 a6 a7 a8 (ix2 r j) : EReal) = dpe (pp a3 a4 a5 a6 a7 a8) (rr a0 a1 a2 r) j := by
  show (val_main_v105 (F := Ideal) a0 a1 a2 a3 a4 a5 a6 a7 a8 (ix2 r j) * val_main_v110 (F := Ideal) a1 a6 (ix2 r j) + val_main_v29 (F := Ideal) a1 a6 (ix2 r j) * val_main_v116 (F := Ideal) a0 a1 a2 a3 a4 a5 a6 a7 a8 (ix2 r j)) + val_main_v116 (F := Ideal) a0 a1 a2 a3 a4 a5 a6 a7 a8 (ix2 r j) * val_main_v29 (F := Ideal) a1 a6 (ix2 r j) = _
  rw [r_dsq_pe (hP := hP) (hR := hR), r_dpeh (hP := hP) (hR := hR), r_pe a0 a1 a2 a3 a4 a5 a6 a7 a8, show val_main_v110 (F := Ideal) a1 a6 (ix2 r j) = _ from r_rinv_pe a0 a1 a2 a3 a4 a5 a6 a7 a8 r j]
  exact Rms.bwd_spelling₀ _ (fun k => de (pp a3 a4 a5 a6 a7 a8) (rr a0 a1 a2 r) k * (pp a3 a4 a5 a6 a7 a8).gple k) (pe_real hP hR) (dpeh_real hP hR) j

theorem r_dpre (r : Fin 2048) (j : Fin 1024) (hP : PReal (pp a3 a4 a5 a6 a7 a8)) (hR : RReal (rr a0 a1 a2 r)) : (val_main_v123 (F := Ideal) a0 a1 a2 a3 a4 a5 a6 a7 a8 (ix2 r j) : EReal) = dpre (pp a3 a4 a5 a6 a7 a8) (rr a0 a1 a2 r) j :=
  (congrArg₂ (fun a b : EReal => a * b) (congrArg₂ (fun a b : EReal => a * b) (r_dx3 a0 a1 a2 a3 a4 a5 a6 a7 a8 r j hP hR) (r_e a0 a1 a2 a3 a4 a5 a6 a7 a8 r j))
    (congrArg (fun g : EReal => g * (cOne - g)) (r_gp a0 a1 a2 a3 a4 a5 a6 a7 a8 r j))).trans (mul_assoc _ _ _).symm

theorem r_dh3 (r : Fin 2048) (j : Fin 1024) (hP : PReal (pp a3 a4 a5 a6 a7 a8)) (hR : RReal (rr a0 a1 a2 r)) : (val_main_v129 (F := Ideal) a0 a1 a2 a3 a4 a5 a6 a7 a8 (ix2 r j) : EReal) = dh3 (pp a3 a4 a5 a6 a7 a8) (rr a0 a1 a2 r) j := by
  rw [val_main_v129_apply]
  exact Finset.sum_congr rfl fun k _ => congrArg₂ (fun a b : EReal => a * b)
    ((congrArg (val_main_v123 (F := Ideal) a0 a1 a2 a3 a4 a5 a6 a7 a8) (show lidx_main_v129 (ix2 r j) k = ix2 r k from Shape.idx_ext₂ rfl rfl)).trans (r_dpre a0 a1 a2 a3 a4 a5 a6 a7 a8 r k hP hR)) (congrArg a4 (Shape.idx_ext₂ rfl rfl))

theorem r_dxh (r : Fin 2048) (j : Fin 1024) (hP : PReal (pp a3 a4 a5 a6 a7 a8)) (hR : RReal (rr a0 a1 a2 r)) : (val_main_v134 (F := Ideal) a0 a1 a2 a3 a4 a5 a6 a7 a8 (ix2 r j) : EReal) = dh3 (pp a3 a4 a5 a6 a7 a8) (rr a0 a1 a2 r) j * (pp a3 a4 a5 a6 a7 a8).gpg j :=
  congrArg₂ (fun a b : EReal => a * b) (r_dh3 a0 a1 a2 a3 a4 a5 a6 a7 a8 r j hP hR) (HostRms.spreadGain a3 _ _ r j)

theorem r_dsq (r : Fin 2048) (j : Fin 1024) (hP : PReal (pp a3 a4 a5 a6 a7 a8)) (hR : RReal (rr a0 a1 a2 r)) : (val_main_v146 (F := Ideal) a0 a1 a2 a3 a4 a5 a6 a7 a8 (ix2 r j) : EReal) = Rms.dsq (rr a0 a1 a2 r).x (fun k => dh3 (pp a3 a4 a5 a6 a7 a8) (rr a0 a1 a2 r) k * (pp a3 a4 a5 a6 a7 a8).gpg k) :=
  HostRms.dsq a0 (val_main_v134 (F := Ideal) a0 a1 a2 a3 a4 a5 a6 a7 a8) (val_main_v6 (F := Ideal) a0) _ _ _ _ _ _ _ _ _ r j (fun k => rfl) (fun k => r_dxh a0 a1 a2 a3 a4 a5 a6 a7 a8 r k hP hR) (r_msq a0 a1 a2 r 0)

theorem r_dx2 (r : Fin 2048) (j : Fin 1024) (hP : PReal (pp a3 a4 a5 a6 a7 a8)) (hR : RReal (rr a0 a1 a2 r)) : (val_main_v150 (F := Ideal) a0 a1 a2 a3 a4 a5 a6 a7 a8 (ix2 r j) : EReal) = dx2 (pp a3 a4 a5 a6 a7 a8) (rr a0 a1 a2 r) j := by
  show ((val_main_v98 (F := Ideal) a0 a1 a2 a3 a4 a5 a6 a7 a8 (ix2 r j) + val_main_v134 (F := Ideal) a0 a1 a2 a3 a4 a5 a6 a7 a8 (ix2 r j) * val_main_v139 (F := Ideal) a0 (ix2 r j)) + a0 (ix2 r j) * val_main_v146 (F := Ideal) a0 a1 a2 a3 a4 a5 a6 a7 a8 (ix2 r j)) + val_main_v146 (F := Ideal) a0 a1 a2 a3 a4 a5 a6 a7 a8 (ix2 r j) * a0 (ix2 r j) = _
  rw [r_dsq (hP := hP) (hR := hR), r_dxh (hP := hP) (hR := hR), r_dx3 (hP := hP) (hR := hR), show val_main_v139 (F := Ideal) a0 (ix2 r j) = _ from r_rinv a0 a1 a2 r j]
  exact Rms.bwd_spelling _ (fun k => dh3 (pp a3 a4 a5 a6 a7 a8) (rr a0 a1 a2 r) k * (pp a3 a4 a5 a6 a7 a8).gpg k) hR.x (dxh_real hP hR) _ j

/-! ## The results -/

theorem r_loss (i : S8x128.Idx) : (val_main_v151 (F := Ideal) a0 a1 a2 a3 a4 a5 a6 a7 a8 i : EReal) = cHalf * ∑ r : Fin 2048, rowLoss (pp a3 a4 a5 a6 a7 a8) (rr a0 a1 a2 r) := by
  rw [val_main_v151_apply]
  show cHalf * val_main_v71 (F := Ideal) a0 a1 a2 a3 a4 a5 a6 a7 a8 _ = _
  rw [val_main_v71_apply]
  refine congrArg (fun s : EReal => cHalf * s) ((HostRms.zero_add' _ _).trans ?_)
  refine (Fintype.sum_equiv ⟨fun j : S2048.Idx => (j 0 : Fin 2048), fun r => ix1 r, fun j => funext fun a => by match a with | ⟨0, _⟩ => rfl, fun _ => rfl⟩ _ _ fun j => ?_)
  have e : j = ix1 (j 0) := funext fun a => by match a with | ⟨0, _⟩ => rfl
  show Ideal.div (val_main_v68 (F := Ideal) a0 a1 a2 a3 a4 a5 a6 a7 a8 j) Rms.cN = _
  refine congrArg (fun s => Ideal.div s Rms.cN) ((HostRms.rowSum _ _ HostRms.reduces1 _ j).trans (Finset.sum_congr rfl fun k _ => ?_))
  exact congrArg (fun d : EReal => d * d) (r_diff a0 a1 a2 a3 a4 a5 a6 a7 a8 (j 0) k)

theorem r_dwpg (hP : PReal (pp a3 a4 a5 a6 a7 a8)) (hR : ∀ r, RReal (rr a0 a1 a2 r)) (k j : Fin 1024) : (val_main_v152 (F := Ideal) a0 a1 a2 a3 a4 a5 a6 a7 a8 (ix2 k j) : EReal) = ∑ r : Fin 2048, h3 (pp a3 a4 a5 a6 a7 a8) (rr a0 a1 a2 r) k * dpre (pp a3 a4 a5 a6 a7 a8) (rr a0 a1 a2 r) j := by
  show val_main_v128 (F := Ideal) a0 a1 a2 a3 a4 a5 a6 a7 a8 (ix2 k j) = _
  rw [val_main_v128_apply, val_main_v127_apply]
  refine Finset.sum_congr rfl fun r _ => (congrArg₂ (fun a b : EReal => a * b)
    ((congrArg (val_main_v123 (F := Ideal) a0 a1 a2 a3 a4 a5 a6 a7 a8) (show lidx_main_v127 (idx_main_v128 (ix2 k j)) r = ix2 r j from Shape.idx_ext₂ rfl rfl)).trans (r_dpre a0 a1 a2 a3 a4 a5 a6 a7 a8 r j hP (hR r)))
    ((congrArg (val_main_v15 (F := Ideal) a0 a3) (show ridx_main_v127 (idx_main_v128 (ix2 k j)) r = ix2 r k from Shape.idx_ext₂ rfl rfl)).trans (r_h3 a0 a1 a2 a3 a4 a5 a6 a7 a8 r k))).trans (mul_comm _ _)

theorem r_dwple (hP : PReal (pp a3 a4 a5 a6 a7 a8)) (hR : ∀ r, RReal (rr a0 a1 a2 r)) (j : Fin 1024) (q : Fin 256) : (val_main_v154 (F := Ideal) a0 a1 a2 a3 a4 a5 a6 a7 a8 (ix2 j q) : EReal) = ∑ r : Fin 2048, dpe (pp a3 a4 a5 a6 a7 a8) (rr a0 a1 a2 r) j * (rr a0 a1 a2 r).p q := by
  show val_main_v153 (F := Ideal) a0 a1 a2 a3 a4 a5 a6 a7 a8 (ix2 j q) = _
  rw [val_main_v153_apply, val_main_v122_apply, val_main_v121_apply]
  exact Finset.sum_congr rfl fun r _ => congrArg₂ (fun a b : EReal => a * b)
    ((congrArg (val_main_v120 (F := Ideal) a0 a1 a2 a3 a4 a5 a6 a7 a8) (show lidx_main_v121 (idx_main_v122 (idx_main_v153 (ix2 j q))) r = ix2 r j from Shape.idx_ext₂ rfl rfl)).trans (r_dpe a0 a1 a2 a3 a4 a5 a6 a7 a8 r j hP (hR r))) (congrArg a1 (Shape.idx_ext₂ rfl rfl))

/-- The four vectors' gradients, each a sum over the rows. -/
theorem r_rows (hP : PReal (pp a3 a4 a5 a6 a7 a8)) (hR : ∀ r, RReal (rr a0 a1 a2 r)) (j : Fin 1024) :
    (val_main_v155 (F := Ideal) a0 a1 a2 a3 a4 a5 a6 a7 a8 (ix2 0 j) : EReal) = ∑ r : Fin 2048, vecRow (pp a3 a4 a5 a6 a7 a8) (rr a0 a1 a2 r) 0 j
    ∧ (val_main_v156 (F := Ideal) a0 a1 a2 a3 a4 a5 a6 a7 a8 (ix2 0 j) : EReal) = ∑ r : Fin 2048, vecRow (pp a3 a4 a5 a6 a7 a8) (rr a0 a1 a2 r) 1 j
    ∧ (val_main_v157 (F := Ideal) a0 a1 a2 a3 a4 a5 a6 a7 a8 (ix2 0 j) : EReal) = ∑ r : Fin 2048, vecRow (pp a3 a4 a5 a6 a7 a8) (rr a0 a1 a2 r) 2 j
    ∧ (val_main_v158 (F := Ideal) a0 a1 a2 a3 a4 a5 a6 a7 a8 (ix2 0 j) : EReal) = ∑ r : Fin 2048, vecRow (pp a3 a4 a5 a6 a7 a8) (rr a0 a1 a2 r) 3 j :=
  ⟨(HostRms.gainSum _ _ _ _ _ _ 0 j).trans (Finset.sum_congr rfl fun r _ => r_dpre a0 a1 a2 a3 a4 a5 a6 a7 a8 r j hP (hR r)),
    (HostRms.gainSum _ _ _ _ _ _ 0 j).trans (Finset.sum_congr rfl fun r _ => (congrArg₂ (fun a b : EReal => (a0 (ix2 r j) * a) * b) (r_rinv a0 a1 a2 r j) (r_dh3 a0 a1 a2 a3 a4 a5 a6 a7 a8 r j hP (hR r))).trans (mul_comm _ _)),
    (HostRms.gainSum _ _ _ _ _ _ 0 j).trans (Finset.sum_congr rfl fun r _ => (congrArg₂ (fun a b : EReal => a * b) (congrArg₂ (fun a b : EReal => a * b) (r_pe a0 a1 a2 a3 a4 a5 a6 a7 a8 r j) (r_rinv_pe a0 a1 a2 a3 a4 a5 a6 a7 a8 r j)) (r_de a0 a1 a2 a3 a4 a5 a6 a7 a8 r j hP (hR r))).trans (mul_comm _ _)),
    (HostRms.gainSum _ _ _ _ _ _ 0 j).trans (Finset.sum_congr rfl fun r _ => (congrArg₂ (fun a b : EReal => a * b) (congrArg₂ (fun a b : EReal => a * b) (r_x3 a0 a1 a2 a3 a4 a5 a6 a7 a8 r j) (r_rinv_x3 a0 a1 a2 a3 a4 a5 a6 a7 a8 r j)) (r_dy a0 a1 a2 a3 a4 a5 a6 a7 a8 r j)).trans (mul_comm _ _))⟩

theorem r_vec (hP : PReal (pp a3 a4 a5 a6 a7 a8)) (hR : ∀ r, RReal (rr a0 a1 a2 r)) (i : S8x1024.Idx) : (val_main_v160 (F := Ideal) a0 a1 a2 a3 a4 a5 a6 a7 a8 i : EReal) = if h : (i 0 : Nat) < 4 then ∑ r : Fin 2048, vecRow (pp a3 a4 a5 a6 a7 a8) (rr a0 a1 a2 r) ⟨i 0, h⟩ (i 1) else 0 := by
  obtain ⟨r, j, rfl⟩ : ∃ (r : Fin 8) (j : Fin 1024), i = ix2 r j := ⟨_, _, eq_ix2 i⟩
  obtain ⟨e0, e1, e2, e3⟩ := r_rows a0 a1 a2 a3 a4 a5 a6 a7 a8 hP hR j
  unfold val_main_v160
  have hi : ∀ (n : Nat) (i : (⟨2, ![n, 1024]⟩ : Shape).Idx), i 1 = j → ∀ b : Fin 2, b ≠ 0 → (i b).val = ((ix2 r j : S8x1024.Idx) b).val := fun n i h b hb => by
    fin_cases b
    · exact absurd rfl hb
    · exact congrArg Fin.val h
  by_cases h : r.val < 4
  · refine Eq.trans ?_ (dif_pos (show ((ix2 r j 0 : Fin 8) : Nat) < 4 from h)).symm
    have hr : r = 0 ∨ r = 1 ∨ r = 2 ∨ r = 3 := by omega
    rcases hr with rfl | rfl | rfl | rfl
    · refine Eq.trans ?_ e0
      exact concatenate_apply_piece (0 : Fin S8x1024.rank) _ _ _ 0 (by simp) S1x1024 (val_main_v155 (F := Ideal) a0 a1 a2 a3 a4 a5 a6 a7 a8) rfl rfl 0 rfl (ix2 (0 : Fin 1) j) (hi 1 _ rfl) rfl
    · refine Eq.trans ?_ e1
      exact concatenate_apply_piece (0 : Fin S8x1024.rank) _ _ _ 1 (by simp) S1x1024 (val_main_v156 (F := Ideal) a0 a1 a2 a3 a4 a5 a6 a7 a8) rfl rfl 1 rfl (ix2 (0 : Fin 1) j) (hi 1 _ rfl) rfl
    · refine Eq.trans ?_ e2
      exact concatenate_apply_piece (0 : Fin S8x1024.rank) _ _ _ 2 (by simp) S1x1024 (val_main_v157 (F := Ideal) a0 a1 a2 a3 a4 a5 a6 a7 a8) rfl rfl 2 rfl (ix2 (0 : Fin 1) j) (hi 1 _ rfl) rfl
    · refine Eq.trans ?_ e3
      exact concatenate_apply_piece (0 : Fin S8x1024.rank) _ _ _ 3 (by simp) S1x1024 (val_main_v158 (F := Ideal) a0 a1 a2 a3 a4 a5 a6 a7 a8) rfl rfl 3 rfl (ix2 (0 : Fin 1) j) (hi 1 _ rfl) rfl
  · refine Eq.trans ?_ (dif_neg (show ¬((ix2 r j 0 : Fin 8) : Nat) < 4 from h)).symm
    refine Eq.trans ?_ Ideal.ofBits_zero_f32
    exact concatenate_apply_piece (0 : Fin S8x1024.rank) _ _ _ 4 (by simp) S4x1024 (val_main_v159 (F := Ideal) ) rfl rfl 4 rfl (ix2 (⟨r.val - 4, by omega⟩ : Fin 4) j) (hi 4 _ rfl)
      (by show 4 + (r.val - 4) = r.val; omega)

end Cert.TailEq

end
-- ==== Proof.MergeBody.lean ====
/- The merge's backward kernel: what its body computes from its blocks, entry by entry. -/
module

public import proofs.«01_k».proof.Proof.Gen.Kernel4Ideal.Skeleton
public import proofs.«01_k».proof.Proof.RmsBlock
public import Idealize.ShloMosaic.Lib.StackMember

@[expose] public section

noncomputable section

namespace Cert.Kernel4Ideal.MergeK

open Cert.Kernel4Ideal Cert.Kernel4Ideal.Gen Idealize.ShloMosaic Idealize.ShloMosaic.TcCoe Idealize.SL.Sem
open Idealize.ShloMosaic.Pipeline (Dat)
open Idealize.ShloMosaic.ValueIdx
open Cert.Blocks (hz)
open scoped BigOperators

/-! ## A row of the merge -/

/-- The cotangent of the merged sum, from the block's cotangent `d` and the weights. -/
def dmg (d : Fin 1024 → EReal) (wo : Fin 1024 → Fin 1024 → EReal) (j : Fin 1024) : EReal := ∑ k : Fin 1024, d k * wo j k

/-- The cotangent of a branch's gate input `z`, the branch being `q`. -/
def dz (d : Fin 1024 → EReal) (wo : Fin 1024 → Fin 1024 → EReal) (q z : Fin 1024 → EReal) (j : Fin 1024) : EReal :=
  dmg d wo j * q j * Ideal.logistic (z j) * (1 - Ideal.logistic (z j))

/-- The cotangent of a branch. -/
def dbr (d : Fin 1024 → EReal) (wo : Fin 1024 → Fin 1024 → EReal) (z : Fin 1024 → EReal) (j : Fin 1024) : EReal :=
  dmg d wo j * Ideal.logistic (z j)

/-! ## The body's stores -/

section Body

variable (v3 : Vec Ideal S256x1024 .f32) (v5 : Vec Ideal S1024x1024 .bf16)

theorem p9 (r : Fin 256) (j : Fin 1024) :
    (k0_pay9 (F := Ideal) v3 v5 (ix2 r j) : EReal) = dmg (fun k => v3 (ix2 r k)) (fun a b => v5 (ix2 a b)) j := by
  unfold k0_pay9
  rw [shapeCast_self]
  exact Blocks.mmNT _ _ r j

theorem dzBlock (q z g : EReal) (h : g = Ideal.logistic z) (r : Fin 256) (j : Fin 1024) :
    (k0_pay9 (F := Ideal) v3 v5 (ix2 r j) : EReal) * q * g * (Ideal.ofBits .f32 0x3F800000#32 - g)
      = dmg (fun k => v3 (ix2 r k)) (fun a b => v5 (ix2 a b)) j * q * Ideal.logistic z * (1 - Ideal.logistic z) := by
  rw [p9, h, Ideal.ofBits_one_f32]

theorem p12 (v8 : Vec Ideal S256x1024 .f32) (v12 : Vec Ideal S256x1024 .bf16) (r : Fin 256) (j : Fin 1024) :
    (k0_pay12 (F := Ideal) v3 v5 v8 v12 (ix2 r j) : EReal)
      = dz (fun k => v3 (ix2 r k)) (fun a b => v5 (ix2 a b)) (fun k => v12 (ix2 r k)) (fun k => v8 (ix2 r k)) j := by
  unfold k0_pay12
  rw [shapeCast_self]
  exact dzBlock v3 v5 _ _ _ rfl r j

theorem p13 (v10 : Vec Ideal S256x1024 .f32) (v22 : Vec Ideal S256x1024 .bf16) (r : Fin 256) (j : Fin 1024) :
    (k0_pay13 (F := Ideal) v3 v5 v10 v22 (ix2 r j) : EReal)
      = dz (fun k => v3 (ix2 r k)) (fun a b => v5 (ix2 a b)) (fun k => v22 (ix2 r k)) (fun k => v10 (ix2 r k)) j := by
  unfold k0_pay13
  rw [shapeCast_self]
  exact dzBlock v3 v5 _ _ _ rfl r j

theorem p14 (v8 : Vec Ideal S256x1024 .f32) (r : Fin 256) (j : Fin 1024) :
    (k0_pay14 (F := Ideal) v3 v5 v8 (ix2 r j) : EReal)
      = dbr (fun k => v3 (ix2 r k)) (fun a b => v5 (ix2 a b)) (fun k => v8 (ix2 r k)) j :=
  congrArg (fun s : EReal => s * Ideal.logistic (v8 (ix2 r j))) (p9 v3 v5 r j)

theorem p15 (v10 : Vec Ideal S256x1024 .f32) (r : Fin 256) (j : Fin 1024) :
    (k0_pay15 (F := Ideal) v3 v5 v10 (ix2 r j) : EReal)
      = dbr (fun k => v3 (ix2 r k)) (fun a b => v5 (ix2 a b)) (fun k => v10 (ix2 r k)) j :=
  congrArg (fun s : EReal => s * Ideal.logistic (v10 (ix2 r j))) (p9 v3 v5 r j)

theorem p17 (v8 : Vec Ideal S256x1024 .f32) (v36 : Vec Ideal S1024x512 .bf16) (r : Fin 256) (j : Fin 512) :
    (k0_pay17 (F := Ideal) (k0_pay14 v3 v5 v8) v36 (ix2 r j) : EReal)
      = ∑ k : Fin 1024, dbr (fun k => v3 (ix2 r k)) (fun a b => v5 (ix2 a b)) (fun k => v8 (ix2 r k)) k * v36 (ix2 k j) := by
  unfold k0_pay17
  rw [shapeCast_self]
  exact Eq.trans (Blocks.mmNN _ _ r j) (Finset.sum_congr rfl fun k _ => congrArg₂ (fun x y : EReal => x * y) (p14 v3 v5 v8 r k) rfl)

theorem p18 (v10 : Vec Ideal S256x1024 .f32) (v40 : Vec Ideal S1024x1024 .bf16) (r : Fin 256) (j : Fin 1024) :
    (k0_pay18 (F := Ideal) (k0_pay15 v3 v5 v10) v40 (ix2 r j) : EReal)
      = ∑ k : Fin 1024, dbr (fun k => v3 (ix2 r k)) (fun a b => v5 (ix2 a b)) (fun k => v10 (ix2 r k)) k * v40 (ix2 j k) := by
  unfold k0_pay18
  rw [shapeCast_self]
  exact Eq.trans (Blocks.mmNT _ _ r j) (Finset.sum_congr rfl fun k _ => congrArg₂ (fun x y : EReal => x * y) (p15 v3 v5 v10 r k) rfl)

theorem p19 (v44 : Vec Ideal S1024x1024 .f32) (v45 : Vec Ideal S256x1024 .bf16) (k j : Fin 1024) :
    (k0_pay19 (F := Ideal) (k0_pay8 v3) v44 v45 (ix2 k j) : EReal) = v44 (ix2 k j) + ∑ r : Fin 256, (v45 (ix2 r k) : EReal) * v3 (ix2 r j) := by
  unfold k0_pay19
  rw [shapeCast_self, shapeCast_self]
  exact congrArg (fun s : EReal => v44 (ix2 k j) + s) (Blocks.mmTN _ _ k j)

theorem p20 (v8 : Vec Ideal S256x1024 .f32) (v52 : Vec Ideal S1024x512 .f32) (v53 : Vec Ideal S256x512 .f32) (k : Fin 1024) (j : Fin 512) :
    (k0_pay20 (F := Ideal) (k0_pay14 v3 v5 v8) v52 v53 (ix2 k j) : EReal) = v52 (ix2 k j)
      + ∑ r : Fin 256, dbr (fun k => v3 (ix2 r k)) (fun a b => v5 (ix2 a b)) (fun k => v8 (ix2 r k)) k * v53 (ix2 r j) := by
  unfold k0_pay20
  rw [shapeCast_self]
  refine congrArg (fun s : EReal => v52 (ix2 k j) + s) ?_
  exact Eq.trans (Blocks.mmTN _ _ k j) (Finset.sum_congr rfl fun r _ => congrArg₂ (fun x y : EReal => x * y) (p14 v3 v5 v8 r k) rfl)

theorem p1 (v10 : Vec Ideal S256x1024 .f32) (v60 : Vec Ideal S1024x1024 .f32) (v61 : Vec Ideal S256x1024 .f32) (k j : Fin 1024) :
    (k0_pay1 (F := Ideal) (k0_pay16 (k0_pay15 v3 v5 v10)) v60 (k0_pay21 v61) (ix2 k j) : EReal) = v60 (ix2 k j)
      + ∑ r : Fin 256, (v61 (ix2 r k) : EReal) * dbr (fun k => v3 (ix2 r k)) (fun a b => v5 (ix2 a b)) (fun k => v10 (ix2 r k)) j := by
  unfold k0_pay1
  rw [shapeCast_self]
  refine congrArg (fun s : EReal => v60 (ix2 k j) + s) ?_
  exact Eq.trans (Blocks.mmTN _ _ k j) (Finset.sum_congr rfl fun r _ => congrArg₂ (fun x y : EReal => x * y) rfl (p15 v3 v5 v10 r j))

end Body

end Cert.Kernel4Ideal.MergeK

end
-- ==== Proof.Merge.lean ====
/- The merge's backward kernel: what its seven result arrays hold, as functions of the argument arrays index by index.
   Point `t` of the grid works on rows `256 t … 256 t + 255`; the three weights' gradients are added up over the points. -/
module

public import proofs.«01_k».proof.Proof.Gen.Kernel4Ideal.Value
public import proofs.«01_k».proof.Proof.MergeBody
public import Idealize.ShloMosaic.Lib.StackMember

@[expose] public section

noncomputable section

namespace Cert.Kernel4Ideal.MergeK

open Cert.Kernel4Ideal Cert.Kernel4Ideal.Gen Idealize.ShloMosaic Idealize.ShloMosaic.TcCoe Idealize.SL.Sem
open Idealize.ShloMosaic.Pipeline (Dat)
open Idealize.ShloMosaic.ValueIdx
open Cert.Blocks (hz)
open scoped BigOperators

variable (m : (ℓ : Loc nD τ sig) → Buf (Elt Ideal) ℓ) (c : Dev nD)

/-! ## What the body leaves at each point -/

theorem cases3 (t : Fin cfg0.N) : (t.val % 8 = 0 ∧ ¬t.val % 8 = 7) ∨ (¬t.val % 8 = 0 ∧ ¬t.val % 8 = 7) ∨ (¬t.val % 8 = 0 ∧ t.val % 8 = 7) := by omega

theorem cases2 (t : Fin cfg0.N) (h0 : ¬t.val % 8 = 0) : (¬t.val % 8 = 0 ∧ ¬t.val % 8 = 7) ∨ (¬t.val % 8 = 0 ∧ t.val % 8 = 7) := by omega

/-- The rows and the weights of a point's blocks. -/
def bd (t : Fin cfg0.N) (r : Fin 256) (k : Fin 1024) : EReal := iblk m c 0 t (ix2 r k)
def bmg (t : Fin cfg0.N) (r : Fin 256) (k : Fin 1024) : EReal := iblk m c 1 t (ix2 r k)
def bma (t : Fin cfg0.N) (r : Fin 256) (k : Fin 1024) : EReal := iblk m c 2 t (ix2 r k)
def bmb (t : Fin cfg0.N) (r : Fin 256) (k : Fin 1024) : EReal := iblk m c 3 t (ix2 r k)
def bza (t : Fin cfg0.N) (r : Fin 256) (k : Fin 1024) : EReal := iblk m c 4 t (ix2 r k)
def bzb (t : Fin cfg0.N) (r : Fin 256) (k : Fin 1024) : EReal := iblk m c 5 t (ix2 r k)
def bya (t : Fin cfg0.N) (r : Fin 256) (k : Fin 512) : EReal := iblk m c 6 t (ix2 r k)
def byb (t : Fin cfg0.N) (r : Fin 256) (k : Fin 1024) : EReal := iblk m c 7 t (ix2 r k)
def bwo (t : Fin cfg0.N) (k j : Fin 1024) : EReal := iblk m c 8 t (ix2 k j)

theorem outs11 (t : Fin cfg0.N) (r : Fin 256) (j : Fin 1024) :
    ((outsAt0 m c t.val t.isLt).1 (ix2 r j) : EReal) = dz (bd m c t r) (bwo m c t) (bma m c t r) (bza m c t r) j := by
  rcases cases3 t with ⟨h0, h1⟩ | ⟨h0, h1⟩ | ⟨h0, h1⟩ <;>
  first
  | (rw [outsAt0_A m c t h0 h1]; dsimp only; unfold out0_A_11 kernelRun0_A)
  | (rw [outsAt0_B m c t h0 h1]; dsimp only; unfold out0_B_11 kernelRun0_B)
  | (rw [outsAt0_C m c t h0 h1]; dsimp only; unfold out0_C_11 kernelRun0_C)
  all_goals
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact p12 _ _ _ _ r j

theorem outs12 (t : Fin cfg0.N) (r : Fin 256) (j : Fin 1024) :
    ((outsAt0 m c t.val t.isLt).2.1 (ix2 r j) : EReal) = dz (bd m c t r) (bwo m c t) (bmb m c t r) (bzb m c t r) j := by
  rcases cases3 t with ⟨h0, h1⟩ | ⟨h0, h1⟩ | ⟨h0, h1⟩ <;>
  first
  | (rw [outsAt0_A m c t h0 h1]; dsimp only; unfold out0_A_12 kernelRun0_A)
  | (rw [outsAt0_B m c t h0 h1]; dsimp only; unfold out0_B_12 kernelRun0_B)
  | (rw [outsAt0_C m c t h0 h1]; dsimp only; unfold out0_C_12 kernelRun0_C)
  all_goals
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact p13 _ _ _ _ r j

theorem outs13 (t : Fin cfg0.N) (r : Fin 256) (j : Fin 512) :
    ((outsAt0 m c t.val t.isLt).2.2.1 (ix2 r j) : EReal) = ∑ k : Fin 1024, dbr (bd m c t r) (bwo m c t) (bza m c t r) k * iblk m c 9 t (ix2 k j) := by
  rcases cases3 t with ⟨h0, h1⟩ | ⟨h0, h1⟩ | ⟨h0, h1⟩ <;>
  first
  | (rw [outsAt0_A m c t h0 h1]; dsimp only; unfold out0_A_13 kernelRun0_A)
  | (rw [outsAt0_B m c t h0 h1]; dsimp only; unfold out0_B_13 kernelRun0_B)
  | (rw [outsAt0_C m c t h0 h1]; dsimp only; unfold out0_C_13 kernelRun0_C)
  all_goals
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact p17 _ _ _ _ r j

theorem outs14 (t : Fin cfg0.N) (r : Fin 256) (j : Fin 1024) :
    ((outsAt0 m c t.val t.isLt).2.2.2.1 (ix2 r j) : EReal) = ∑ k : Fin 1024, dbr (bd m c t r) (bwo m c t) (bzb m c t r) k * iblk m c 10 t (ix2 j k) := by
  rcases cases3 t with ⟨h0, h1⟩ | ⟨h0, h1⟩ | ⟨h0, h1⟩ <;>
  first
  | (rw [outsAt0_A m c t h0 h1]; dsimp only; unfold out0_A_14 kernelRun0_A)
  | (rw [outsAt0_B m c t h0 h1]; dsimp only; unfold out0_B_14 kernelRun0_B)
  | (rw [outsAt0_C m c t h0 h1]; dsimp only; unfold out0_C_14 kernelRun0_C)
  all_goals
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact p18 _ _ _ _ r j

/-- One point's part of the output weights' gradient. -/
def partO (k : Fin 1024) (j : Fin 1024) (t : Fin cfg0.N) : EReal := ∑ r : Fin 256, bmg m c t r k * bd m c t r j

theorem outsS0_first (t : Fin cfg0.N) (h0 : t.val % 8 = 0) (k : Fin 1024) (j : Fin 1024) :
    ((outsAt0 m c t.val t.isLt).2.2.2.2.2.2.2.1 (ix2 k j) : EReal) = 0 + partO m c k j t := by
  have h1 : ¬t.val % 8 = 7 := by omega
  · rw [outsAt0_A m c t h0 h1]; dsimp only; unfold sout0_A_0 kernelRun0_A
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    refine (p19 _ _ _ k j).trans (congrArg (fun s : EReal => s + partO m c k j t) ?_)
    rw [View.readCov, View.readAt_eq_ld, View.read_writes_full, View.ld_unit_zero (S := S1024x1024) hz]
    unfold k0_pay5
    rw [shapeCast_self]
    exact Ideal.ofBits_zero_f32

theorem outsS0_next (t : Fin cfg0.N) (h0 : ¬t.val % 8 = 0) (k : Fin 1024) (j : Fin 1024) : ((outsAt0 m c t.val t.isLt).2.2.2.2.2.2.2.1 (ix2 k j) : EReal)
    = (outsAt0 m c (t.val - 1) (Nat.lt_of_le_of_lt (Nat.sub_le _ _) t.isLt)).2.2.2.2.2.2.2.1 (ix2 k j) + partO m c k j t := by
  rcases cases2 t h0 with ⟨h0, h1⟩ | ⟨h0, h1⟩
  · rw [outsAt0_B m c t h0 h1]; dsimp only; unfold sout0_B_0 kernelRun0_B
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact (p19 _ _ _ k j).trans (congrArg (fun s : EReal => s + partO m c k j t)
      (congrFun (Memref.IsWhole.read_unread (Memref.isWhole_whole cc0_scratch0) _) (ix2 k j)))
  · rw [outsAt0_C m c t h0 h1]; dsimp only; unfold sout0_C_0 kernelRun0_C
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact (p19 _ _ _ k j).trans (congrArg (fun s : EReal => s + partO m c k j t)
      (congrFun (Memref.IsWhole.read_unread (Memref.isWhole_whole cc0_scratch0) _) (ix2 k j)))

/-- One point's part of the first branch's weights' gradient. -/
def partA (k : Fin 1024) (j : Fin 512) (t : Fin cfg0.N) : EReal := ∑ r : Fin 256, dbr (bd m c t r) (bwo m c t) (bza m c t r) k * bya m c t r j

theorem outsS1_first (t : Fin cfg0.N) (h0 : t.val % 8 = 0) (k : Fin 1024) (j : Fin 512) :
    ((outsAt0 m c t.val t.isLt).2.2.2.2.2.2.2.2.1 (ix2 k j) : EReal) = 0 + partA m c k j t := by
  have h1 : ¬t.val % 8 = 7 := by omega
  · rw [outsAt0_A m c t h0 h1]; dsimp only; unfold sout0_A_1 kernelRun0_A
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    refine (p20 _ _ _ _ _ k j).trans (congrArg (fun s : EReal => s + partA m c k j t) ?_)
    rw [View.readCov, View.readAt_eq_ld, View.read_writes_full, View.ld_unit_zero (S := S1024x512) hz]
    unfold k0_pay6
    rw [shapeCast_self]
    exact Ideal.ofBits_zero_f32

theorem outsS1_next (t : Fin cfg0.N) (h0 : ¬t.val % 8 = 0) (k : Fin 1024) (j : Fin 512) : ((outsAt0 m c t.val t.isLt).2.2.2.2.2.2.2.2.1 (ix2 k j) : EReal)
    = (outsAt0 m c (t.val - 1) (Nat.lt_of_le_of_lt (Nat.sub_le _ _) t.isLt)).2.2.2.2.2.2.2.2.1 (ix2 k j) + partA m c k j t := by
  rcases cases2 t h0 with ⟨h0, h1⟩ | ⟨h0, h1⟩
  · rw [outsAt0_B m c t h0 h1]; dsimp only; unfold sout0_B_1 kernelRun0_B
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact (p20 _ _ _ _ _ k j).trans (congrArg (fun s : EReal => s + partA m c k j t)
      (congrFun (Memref.IsWhole.read_unread (Memref.isWhole_whole cc0_scratch1) _) (ix2 k j)))
  · rw [outsAt0_C m c t h0 h1]; dsimp only; unfold sout0_C_1 kernelRun0_C
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact (p20 _ _ _ _ _ k j).trans (congrArg (fun s : EReal => s + partA m c k j t)
      (congrFun (Memref.IsWhole.read_unread (Memref.isWhole_whole cc0_scratch1) _) (ix2 k j)))

/-- One point's part of the second branch's weights' gradient. -/
def partB (k : Fin 1024) (j : Fin 1024) (t : Fin cfg0.N) : EReal := ∑ r : Fin 256, byb m c t r k * dbr (bd m c t r) (bwo m c t) (bzb m c t r) j

theorem outsS2_first (t : Fin cfg0.N) (h0 : t.val % 8 = 0) (k : Fin 1024) (j : Fin 1024) :
    ((outsAt0 m c t.val t.isLt).2.2.2.2.2.2.2.2.2 (ix2 k j) : EReal) = 0 + partB m c k j t := by
  have h1 : ¬t.val % 8 = 7 := by omega
  · rw [outsAt0_A m c t h0 h1]; dsimp only; unfold sout0_A_2 kernelRun0_A
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    refine (p1 _ _ _ _ _ k j).trans (congrArg (fun s : EReal => s + partB m c k j t) ?_)
    rw [View.readCov, View.readAt_eq_ld, View.read_writes_full, View.ld_unit_zero (S := S1024x1024) hz]
    unfold k0_pay7
    rw [shapeCast_self]
    exact Ideal.ofBits_zero_f32

theorem outsS2_next (t : Fin cfg0.N) (h0 : ¬t.val % 8 = 0) (k : Fin 1024) (j : Fin 1024) : ((outsAt0 m c t.val t.isLt).2.2.2.2.2.2.2.2.2 (ix2 k j) : EReal)
    = (outsAt0 m c (t.val - 1) (Nat.lt_of_le_of_lt (Nat.sub_le _ _) t.isLt)).2.2.2.2.2.2.2.2.2 (ix2 k j) + partB m c k j t := by
  rcases cases2 t h0 with ⟨h0, h1⟩ | ⟨h0, h1⟩
  · rw [outsAt0_B m c t h0 h1]; dsimp only; unfold sout0_B_2 kernelRun0_B
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact (p1 _ _ _ _ _ k j).trans (congrArg (fun s : EReal => s + partB m c k j t)
      (congrFun (Memref.IsWhole.read_unread (Memref.isWhole_whole cc0_scratch2) _) (ix2 k j)))
  · rw [outsAt0_C m c t h0 h1]; dsimp only; unfold sout0_C_2 kernelRun0_C
    dsimp only
    sl_unfold_words
    rw [View.read_writes_full]
    simp only [View.readAt_eq_ld, Memref.IsWhole.read_unread, View.ld_unit_zero (S := S256x1024) hz, View.ld_unit_zero (S := S1024x1024) hz, View.ld_unit_zero (S := S256x512) hz, View.ld_unit_zero (S := S1024x512) hz]
    exact (p1 _ _ _ _ _ k j).trans (congrArg (fun s : EReal => s + partB m c k j t)
      (congrFun (Memref.IsWhole.read_unread (Memref.isWhole_whole cc0_scratch2) _) (ix2 k j)))

/-! The last point stores the three accumulators. -/

theorem outs15 (t : Fin cfg0.N) (h1 : t.val % 8 = 7) (k : Fin 1024) (j : Fin 1024) :
    ((outsAt0 m c t.val t.isLt).2.2.2.2.1 (ix2 k j) : EReal) = (outsAt0 m c t.val t.isLt).2.2.2.2.2.2.2.1 (ix2 k j) := by
  have h0 : ¬t.val % 8 = 0 := by omega
  rw [outsAt0_C m c t h0 h1]; dsimp only; unfold out0_C_15 sout0_C_0 kernelRun0_C
  dsimp only
  sl_unfold_words
  rw [View.read_writes_full, View.read_writes_full, View.readCov, View.readAt_eq_ld, View.read_writes_full, View.ld_unit_zero (S := S1024x1024) hz]
  rfl

theorem outs16 (t : Fin cfg0.N) (h1 : t.val % 8 = 7) (k : Fin 1024) (j : Fin 512) :
    ((outsAt0 m c t.val t.isLt).2.2.2.2.2.1 (ix2 k j) : EReal) = (outsAt0 m c t.val t.isLt).2.2.2.2.2.2.2.2.1 (ix2 k j) := by
  have h0 : ¬t.val % 8 = 0 := by omega
  rw [outsAt0_C m c t h0 h1]; dsimp only; unfold out0_C_16 sout0_C_1 kernelRun0_C
  dsimp only
  sl_unfold_words
  rw [View.read_writes_full, View.read_writes_full, View.readCov, View.readAt_eq_ld, View.read_writes_full, View.ld_unit_zero (S := S1024x512) hz]
  rfl

theorem outs17 (t : Fin cfg0.N) (h1 : t.val % 8 = 7) (k : Fin 1024) (j : Fin 1024) :
    ((outsAt0 m c t.val t.isLt).2.2.2.2.2.2.1 (ix2 k j) : EReal) = (outsAt0 m c t.val t.isLt).2.2.2.2.2.2.2.2.2 (ix2 k j) := by
  have h0 : ¬t.val % 8 = 0 := by omega
  rw [outsAt0_C m c t h0 h1]; dsimp only; unfold out0_C_17 sout0_C_2 kernelRun0_C
  dsimp only
  sl_unfold_words
  rw [View.read_writes_full, View.read_writes_full, View.readCov, View.readAt_eq_ld, View.read_writes_full, View.ld_unit_zero (S := S1024x1024) hz]
  rfl

/-! ## The accumulators over the points -/

theorem N8 : cfg0.N = 8 := N_0

theorem next_ne {n : Nat} (hn : n + 1 < cfg0.N) : ¬(n + 1) % 8 = 0 := by
  have : n + 1 < 8 := Nat.lt_of_lt_of_eq hn N8
  omega

theorem sweepO (k : Fin 1024) (j : Fin 1024) : ∀ (n : Nat) (hn : n < cfg0.N), ((outsAt0 m c n hn).2.2.2.2.2.2.2.1 (ix2 k j) : EReal)
    = ∑ t : Fin (n + 1), partO m c k j ⟨t.val, Nat.lt_of_lt_of_le t.isLt hn⟩ := Blocks.sweep (N := cfg0.N) (fun n hn => ((outsAt0 m c n hn).2.2.2.2.2.2.2.1 (ix2 k j) : EReal)) (fun n hn => partO m c k j ⟨n, hn⟩)
  (fun hn => outsS0_first m c ⟨0, hn⟩ rfl k j) (fun n hn => outsS0_next m c ⟨n + 1, hn⟩ (next_ne hn) k j)

theorem sweepA (k : Fin 1024) (j : Fin 512) : ∀ (n : Nat) (hn : n < cfg0.N), ((outsAt0 m c n hn).2.2.2.2.2.2.2.2.1 (ix2 k j) : EReal)
    = ∑ t : Fin (n + 1), partA m c k j ⟨t.val, Nat.lt_of_lt_of_le t.isLt hn⟩ := Blocks.sweep (N := cfg0.N) (fun n hn => ((outsAt0 m c n hn).2.2.2.2.2.2.2.2.1 (ix2 k j) : EReal)) (fun n hn => partA m c k j ⟨n, hn⟩)
  (fun hn => outsS1_first m c ⟨0, hn⟩ rfl k j) (fun n hn => outsS1_next m c ⟨n + 1, hn⟩ (next_ne hn) k j)

theorem sweepB (k : Fin 1024) (j : Fin 1024) : ∀ (n : Nat) (hn : n < cfg0.N), ((outsAt0 m c n hn).2.2.2.2.2.2.2.2.2 (ix2 k j) : EReal)
    = ∑ t : Fin (n + 1), partB m c k j ⟨t.val, Nat.lt_of_lt_of_le t.isLt hn⟩ := Blocks.sweep (N := cfg0.N) (fun n hn => ((outsAt0 m c n hn).2.2.2.2.2.2.2.2.2 (ix2 k j) : EReal)) (fun n hn => partB m c k j ⟨n, hn⟩)
  (fun hn => outsS2_first m c ⟨0, hn⟩ rfl k j) (fun n hn => outsS2_next m c ⟨n + 1, hn⟩ (next_ne hn) k j)

/-! ## The blocks as rows of the arrays -/

/-- Row `r` of block `t` among all rows. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0)
    ∧ (win0_14.index t 0 = t.val ∧ win0_14.index t 1 = 0) ∧ (win0_15.index t 0 = 0 ∧ win0_15.index t 1 = 0)
    ∧ (win0_16.index t 0 = 0 ∧ win0_16.index t 1 = 0) ∧ (win0_17.index t 0 = 0 ∧ win0_17.index t 1 = 0) := by decide +kernel

theorem emb0 (t : Fin cfg0.N) (r : Fin 256) (k : Fin 1024) : (win0_0.rect t).emb (ix2 r k) = ix2 (row t r) k := by
  refine Shape.idx_ext₂ ?_ ?_
  · rw [Pipeline.Window.rect_emb_val win0_0 t _ 0 rfl, (idx_facts t).1.1]; rfl
  · rw [Pipeline.Window.rect_emb_val win0_0 t _ 1 rfl, (idx_facts t).1.2]; show 0 * 1024 + k.val = k.val; omega
theorem emb1 (t : Fin cfg0.N) (r : Fin 256) (k : Fin 1024) : (win0_1.rect t).emb (ix2 r k) = ix2 (row t r) k := emb0 t r k
theorem emb2 (t : Fin cfg0.N) (r : Fin 256) (k : Fin 1024) : (win0_2.rect t).emb (ix2 r k) = ix2 (row t r) k := emb0 t r k
theorem emb3 (t : Fin cfg0.N) (r : Fin 256) (k : Fin 1024) : (win0_3.rect t).emb (ix2 r k) = ix2 (row t r) k := emb0 t r k
theorem emb4 (t : Fin cfg0.N) (r : Fin 256) (k : Fin 1024) : (win0_4.rect t).emb (ix2 r k) = ix2 (row t r) k := emb0 t r k
theorem emb5 (t : Fin cfg0.N) (r : Fin 256) (k : Fin 1024) : (win0_5.rect t).emb (ix2 r k) = ix2 (row t r) k := emb0 t r k
theorem emb6 (t : Fin cfg0.N) (r : Fin 256) (k : Fin 512) : (win0_6.rect t).emb (ix2 r k) = ix2 (row t r) k := by
  refine Shape.idx_ext₂ ?_ ?_
  · rw [Pipeline.Window.rect_emb_val win0_6 t _ 0 rfl, (idx_facts t).2.2.2.2.2.2.1.1]; rfl
  · rw [Pipeline.Window.rect_emb_val win0_6 t _ 1 rfl, (idx_facts t).2.2.2.2.2.2.1.2]; show 0 * 512 + k.val = k.val; omega
theorem emb7 (t : Fin cfg0.N) (r : Fin 256) (k : Fin 1024) : (win0_7.rect t).emb (ix2 r k) = ix2 (row t r) k := emb0 t r k
theorem emb8 (t : Fin cfg0.N) (r : Fin 1024) (k : Fin 1024) : (win0_8.rect t).emb (ix2 r k) = ix2 r k := by
  refine Shape.idx_ext₂ ?_ ?_
  · rw [Pipeline.Window.rect_emb_val win0_8 t _ 0 rfl, (idx_facts t).2.2.2.2.2.2.2.2.1.1]; show 0 * 1024 + r.val = r.val; omega
  · rw [Pipeline.Window.rect_emb_val win0_8 t _ 1 rfl, (idx_facts t).2.2.2.2.2.2.2.2.1.2]; show 0 * 1024 + k.val = k.val; omega
theorem emb9 (t : Fin cfg0.N) (r : Fin 1024) (k : Fin 512) : (win0_9.rect t).emb (ix2 r k) = ix2 r k := by
  refine Shape.idx_ext₂ ?_ ?_
  · rw [Pipeline.Window.rect_emb_val win0_9 t _ 0 rfl, (idx_facts t).2.2.2.2.2.2.2.2.2.1.1]; show 0 * 1024 + r.val = r.val; omega
  · rw [Pipeline.Window.rect_emb_val win0_9 t _ 1 rfl, (idx_facts t).2.2.2.2.2.2.2.2.2.1.2]; show 0 * 512 + k.val = k.val; omega
theorem emb10 (t : Fin cfg0.N) (r : Fin 1024) (k : Fin 1024) : (win0_10.rect t).emb (ix2 r k) = ix2 r k := emb8 t r k
theorem emb11 (t : Fin cfg0.N) (r : Fin 256) (k : Fin 1024) : (win0_11.rect t).emb (ix2 r k) = ix2 (row t r) k := emb0 t r k
theorem emb12 (t : Fin cfg0.N) (r : Fin 256) (k : Fin 1024) : (win0_12.rect t).emb (ix2 r k) = ix2 (row t r) k := emb0 t r k
theorem emb13 (t : Fin cfg0.N) (r : Fin 256) (k : Fin 512) : (win0_13.rect t).emb (ix2 r k) = ix2 (row t r) k := emb6 t r k
theorem emb14 (t : Fin cfg0.N) (r : Fin 256) (k : Fin 1024) : (win0_14.rect t).emb (ix2 r k) = ix2 (row t r) k := emb0 t r k
theorem emb15 (t : Fin cfg0.N) (r : Fin 1024) (k : Fin 1024) : (win0_15.rect t).emb (ix2 r k) = ix2 r k := emb8 t r k
theorem emb16 (t : Fin cfg0.N) (r : Fin 1024) (k : Fin 512) : (win0_16.rect t).emb (ix2 r k) = ix2 r k := emb9 t r k
theorem emb17 (t : Fin cfg0.N) (r : Fin 1024) (k : Fin 1024) : (win0_17.rect t).emb (ix2 r k) = ix2 r k := emb8 t r k

/-! ## The arrays -/

/-- The rows of the cotangent, the gates' inputs, the branches' inputs and the three weights. -/
def D (i : Fin 2048) (k : Fin 1024) : EReal := m ((c : Thread nD τ).loc main_arg0) (ix2 i k)
def YA (i : Fin 2048) (k : Fin 512) : EReal := m ((c : Thread nD τ).loc main_arg1) (ix2 i k)
def YB (i : Fin 2048) (k : Fin 1024) : EReal := m ((c : Thread nD τ).loc main_arg2) (ix2 i k)
def ZA (i : Fin 2048) (k : Fin 1024) : EReal := m ((c : Thread nD τ).loc main_arg3) (ix2 i k)
def ZB (i : Fin 2048) (k : Fin 1024) : EReal := m ((c : Thread nD τ).loc main_arg4) (ix2 i k)
def WA (k : Fin 512) (j : Fin 1024) : EReal := m ((c : Thread nD τ).loc main_arg5) (ix2 k j)
def WB (k j : Fin 1024) : EReal := m ((c : Thread nD τ).loc main_arg6) (ix2 k j)
def WO (k j : Fin 1024) : EReal := m ((c : Thread nD τ).loc main_arg7) (ix2 k j)

/-- The two branches and the merged sum. -/
def MA (i : Fin 2048) (j : Fin 1024) : EReal := ∑ k : Fin 512, YA m c i k * WA m c k j
def MB (i : Fin 2048) (j : Fin 1024) : EReal := ∑ k : Fin 1024, YB m c i k * WB m c k j
def MG (i : Fin 2048) (j : Fin 1024) : EReal := Ideal.logistic (ZA m c i j) * MA m c i j + Ideal.logistic (ZB m c i j) * MB m c i j

theorem blk0 (t : Fin cfg0.N) (r : Fin 256) (k : Fin 1024) : (iblk m c 0 t (ix2 r k) : EReal) = D m c (row t r) k := by
  show m ((c : Thread nD τ).loc main_arg0) ((win0_0.rect t).emb (ix2 r k)) = _
  rw [emb0]
  rfl
theorem blk4 (t : Fin cfg0.N) (r : Fin 256) (k : Fin 1024) : (iblk m c 4 t (ix2 r k) : EReal) = ZA m c (row t r) k := by
  show m ((c : Thread nD τ).loc main_arg3) ((win0_4.rect t).emb (ix2 r k)) = _
  rw [emb4]
  rfl
theorem blk5 (t : Fin cfg0.N) (r : Fin 256) (k : Fin 1024) : (iblk m c 5 t (ix2 r k) : EReal) = ZB m c (row t r) k := by
  show m ((c : Thread nD τ).loc main_arg4) ((win0_5.rect t).emb (ix2 r k)) = _
  rw [emb5]
  rfl
theorem blk6 (t : Fin cfg0.N) (r : Fin 256) (k : Fin 512) : (iblk m c 6 t (ix2 r k) : EReal) = YA m c (row t r) k := by
  show m ((c : Thread nD τ).loc main_arg1) ((win0_6.rect t).emb (ix2 r k)) = _
  rw [emb6]
  rfl
theorem blk7 (t : Fin cfg0.N) (r : Fin 256) (k : Fin 1024) : (iblk m c 7 t (ix2 r k) : EReal) = YB m c (row t r) k := by
  show m ((c : Thread nD τ).loc main_arg2) ((win0_7.rect t).emb (ix2 r k)) = _
  rw [emb7]
  rfl
theorem blk2 (t : Fin cfg0.N) (r : Fin 256) (k : Fin 1024) : (iblk m c 2 t (ix2 r k) : EReal) = MA m c (row t r) k := by
  show V m c main_v18 ((win0_2.rect t).emb (ix2 r k)) = _
  rw [emb2]
  entry_read
  exact StackMember.dotGeneral_plain_apply (φ₁ := .f32) (φ₂ := .f32) none (m ((c : Thread nD τ).loc main_arg1)) (m ((c : Thread nD τ).loc main_arg5)) _ _
theorem blk3 (t : Fin cfg0.N) (r : Fin 256) (k : Fin 1024) : (iblk m c 3 t (ix2 r k) : EReal) = MB m c (row t r) k := by
  show V m c main_v19 ((win0_3.rect t).emb (ix2 r k)) = _
  rw [emb3]
  entry_read
  exact StackMember.dotGeneral_plain_apply (φ₁ := .f32) (φ₂ := .f32) none (m ((c : Thread nD τ).loc main_arg2)) (m ((c : Thread nD τ).loc main_arg6)) _ _

/-- The host's spelling of the logistic function. -/
theorem hostLogistic (x : EReal) : Ideal.div (Ideal.ofBits .f32 0x3F800000#32) (Ideal.ofBits .f32 0x3F800000#32 + Ideal.exp (-x)) = Ideal.logistic x := by
  rw [Ideal.ofBits_one_f32]
  rfl

theorem blk1 (t : Fin cfg0.N) (r : Fin 256) (k : Fin 1024) : (iblk m c 1 t (ix2 r k) : EReal) = MG m c (row t r) k := by
  show V m c main_v17 ((win0_1.rect t).emb (ix2 r k)) = _
  rw [emb1]
  entry_read
  exact congrArg₂ (fun x y : EReal => x + y)
    (congrArg₂ (fun x y : EReal => x * y) (hostLogistic _) (StackMember.dotGeneral_plain_apply (φ₁ := .f32) (φ₂ := .f32) none (m ((c : Thread nD τ).loc main_arg1)) (m ((c : Thread nD τ).loc main_arg5)) _ _))
    (congrArg₂ (fun x y : EReal => x * y) (hostLogistic _) (StackMember.dotGeneral_plain_apply (φ₁ := .f32) (φ₂ := .f32) none (m ((c : Thread nD τ).loc main_arg2)) (m ((c : Thread nD τ).loc main_arg6)) _ _))
theorem blk8 (t : Fin cfg0.N) (r : Fin 1024) (k : Fin 1024) : (iblk m c 8 t (ix2 r k) : EReal) = WO m c r k := by
  show V m c main_v20 ((win0_8.rect t).emb (ix2 r k)) = _
  rw [emb8]
  entry_read
  rfl
theorem blk9 (t : Fin cfg0.N) (r : Fin 1024) (k : Fin 512) : (iblk m c 9 t (ix2 r k) : EReal) = WA m c k r := by
  show V m c main_v22 ((win0_9.rect t).emb (ix2 r k)) = _
  rw [emb9]
  entry_read
  exact congrArg (m ((c : Thread nD τ).loc main_arg5)) (Shape.idx_ext₂ rfl rfl)
theorem blk10 (t : Fin cfg0.N) (r : Fin 1024) (k : Fin 1024) : (iblk m c 10 t (ix2 r k) : EReal) = WB m c r k := by
  show V m c main_v23 ((win0_10.rect t).emb (ix2 r k)) = _
  rw [emb10]
  entry_read
  rfl

theorem bd_eq (t : Fin cfg0.N) (r : Fin 256) : bd m c t r = D m c (row t r) := funext fun k => blk0 m c t r k
theorem bmg_eq (t : Fin cfg0.N) (r : Fin 256) : bmg m c t r = MG m c (row t r) := funext fun k => blk1 m c t r k
theorem bma_eq (t : Fin cfg0.N) (r : Fin 256) : bma m c t r = MA m c (row t r) := funext fun k => blk2 m c t r k
theorem bmb_eq (t : Fin cfg0.N) (r : Fin 256) : bmb m c t r = MB m c (row t r) := funext fun k => blk3 m c t r k
theorem bza_eq (t : Fin cfg0.N) (r : Fin 256) : bza m c t r = ZA m c (row t r) := funext fun k => blk4 m c t r k
theorem bzb_eq (t : Fin cfg0.N) (r : Fin 256) : bzb m c t r = ZB m c (row t r) := funext fun k => blk5 m c t r k
theorem bya_eq (t : Fin cfg0.N) (r : Fin 256) : bya m c t r = YA m c (row t r) := funext fun k => blk6 m c t r k
theorem byb_eq (t : Fin cfg0.N) (r : Fin 256) : byb m c t r = YB m c (row t r) := funext fun k => blk7 m c t r k
theorem bwo_eq (t : Fin cfg0.N) : bwo m c t = WO m c := funext fun k => funext fun j => blk8 m c t k j

/-! ## The results -/

/-- The cotangents of the gates' inputs and of the branches' inputs, and the three weights' gradients. -/
def gZa (i : S2048x1024.Idx) : EReal := dz (D m c (i 0)) (WO m c) (MA m c (i 0)) (ZA m c (i 0)) (i 1)
def gZb (i : S2048x1024.Idx) : EReal := dz (D m c (i 0)) (WO m c) (MB m c (i 0)) (ZB m c (i 0)) (i 1)
def gYa (i : S2048x512.Idx) : EReal := ∑ k : Fin 1024, dbr (D m c (i 0)) (WO m c) (ZA m c (i 0)) k * WA m c (i 1) k
def gYb (i : S2048x1024.Idx) : EReal := ∑ k : Fin 1024, dbr (D m c (i 0)) (WO m c) (ZB m c (i 0)) k * WB m c (i 1) k
def gWo (i : S1024x1024.Idx) : EReal := ∑ r : Fin 2048, MG m c r (i 0) * D m c r (i 1)
def gWa (i : S1024x512.Idx) : EReal := ∑ r : Fin 2048, dbr (D m c r) (WO m c) (ZA m c r) (i 0) * YA m c r (i 1)
def gWb (i : S1024x1024.Idx) : EReal := ∑ r : Fin 2048, YB m c r (i 0) * dbr (D m c r) (WO m c) (ZB m c r) (i 1)

theorem flushed11_eq (t : Fin cfg0.N) : (dats m 0 c).flushed 11 t = (win0_11.blk t).view.read (Elt Ideal) (gZa m c) := by
  rw [Value.flushed11]
  funext i
  obtain ⟨r, j, rfl⟩ : ∃ (r : Fin 256) (j : Fin 1024), i = ix2 r j := ⟨_, _, eq_ix2 i⟩
  refine (outs11 m c t r j).trans ?_
  show _ = gZa m c ((win0_11.rect t).emb (ix2 r j))
  rw [emb11, bd_eq, bwo_eq, bma_eq, bza_eq]
  rfl

theorem flushed12_eq (t : Fin cfg0.N) : (dats m 0 c).flushed 12 t = (win0_12.blk t).view.read (Elt Ideal) (gZb m c) := by
  rw [Value.flushed12]
  funext i
  obtain ⟨r, j, rfl⟩ : ∃ (r : Fin 256) (j : Fin 1024), i = ix2 r j := ⟨_, _, eq_ix2 i⟩
  refine (outs12 m c t r j).trans ?_
  show _ = gZb m c ((win0_12.rect t).emb (ix2 r j))
  rw [emb12, bd_eq, bwo_eq, bmb_eq, bzb_eq]
  rfl

theorem flushed13_eq (t : Fin cfg0.N) : (dats m 0 c).flushed 13 t = (win0_13.blk t).view.read (Elt Ideal) (gYa m c) := by
  rw [Value.flushed13]
  funext i
  obtain ⟨r, j, rfl⟩ : ∃ (r : Fin 256) (j : Fin 512), i = ix2 r j := ⟨_, _, eq_ix2 i⟩
  refine (outs13 m c t r j).trans ?_
  show _ = gYa m c ((win0_13.rect t).emb (ix2 r j))
  rw [emb13, bd_eq, bwo_eq, bza_eq]
  exact Finset.sum_congr rfl fun k _ => congrArg (fun s : EReal => _ * s) (blk9 m c t k j)

theorem flushed14_eq (t : Fin cfg0.N) : (dats m 0 c).flushed 14 t = (win0_14.blk t).view.read (Elt Ideal) (gYb m c) := by
  rw [Value.flushed14]
  funext i
  obtain ⟨r, j, rfl⟩ : ∃ (r : Fin 256) (j : Fin 1024), i = ix2 r j := ⟨_, _, eq_ix2 i⟩
  refine (outs14 m c t r j).trans ?_
  show _ = gYb m c ((win0_14.rect t).emb (ix2 r j))
  rw [emb14, bd_eq, bwo_eq, bzb_eq]
  exact Finset.sum_congr rfl fun k _ => congrArg (fun s : EReal => _ * s) (blk10 m c t j k)

theorem sumO (k : Fin 1024) (j : Fin 1024) : ∑ t : Fin 8, partO m c k j t = gWo m c (ix2 k j) := by
  unfold gWo
  rw [← Blocks.sum_rows]
  refine Finset.sum_congr rfl fun (t : Fin cfg0.N) _ => Finset.sum_congr rfl fun r _ => ?_
  rw [bmg_eq, bd_eq]
  rfl

theorem sumA (k : Fin 1024) (j : Fin 512) : ∑ t : Fin 8, partA m c k j t = gWa m c (ix2 k j) := by
  unfold gWa
  rw [← Blocks.sum_rows]
  refine Finset.sum_congr rfl fun (t : Fin cfg0.N) _ => Finset.sum_congr rfl fun r _ => ?_
  rw [bd_eq, bwo_eq, bza_eq, bya_eq]
  rfl

theorem sumB (k : Fin 1024) (j : Fin 1024) : ∑ t : Fin 8, partB m c k j t = gWb m c (ix2 k j) := by
  unfold gWb
  rw [← Blocks.sum_rows]
  refine Finset.sum_congr rfl fun (t : Fin cfg0.N) _ => Finset.sum_congr rfl fun r _ => ?_
  rw [byb_eq, bd_eq, bwo_eq, bzb_eq]
  rfl

/-- A point that writes an accumulator back is the last one. -/
theorem last_point (t : Fin cfg0.N) (h7 : t.val % 8 = 7) : t = ⟨7, by decide⟩ := by
  have hN : t.val < 8 := t.isLt
  exact Fin.ext (by show t.val = 7; omega)

theorem flushed15_eq (t : Fin cfg0.N) (hf : (cfg0.win 15).flush t = true) :
    (dats m 0 c).flushed 15 t = (win0_15.blk t).view.read (Elt Ideal) (gWo m c) := by
  obtain rfl := last_point t ((flush0_15 t).mp hf)
  rw [Value.flushed15]
  funext i
  obtain ⟨k, j, rfl⟩ : ∃ (k : Fin 1024) (j : Fin 1024), i = ix2 k j := ⟨_, _, eq_ix2 i⟩
  refine ((outs15 m c _ rfl k j).trans (sweepO m c k j 7 (by decide))).trans ?_
  show _ = gWo m c ((win0_15.rect _).emb (ix2 k j))
  rw [emb15]
  exact sumO m c k j

theorem flushed16_eq (t : Fin cfg0.N) (hf : (cfg0.win 16).flush t = true) :
    (dats m 0 c).flushed 16 t = (win0_16.blk t).view.read (Elt Ideal) (gWa m c) := by
  obtain rfl := last_point t ((flush0_16 t).mp hf)
  rw [Value.flushed16]
  funext i
  obtain ⟨k, j, rfl⟩ : ∃ (k : Fin 1024) (j : Fin 512), i = ix2 k j := ⟨_, _, eq_ix2 i⟩
  refine ((outs16 m c _ rfl k j).trans (sweepA m c k j 7 (by decide))).trans ?_
  show _ = gWa m c ((win0_16.rect _).emb (ix2 k j))
  rw [emb16]
  exact sumA m c k j

theorem flushed17_eq (t : Fin cfg0.N) (hf : (cfg0.win 17).flush t = true) :
    (dats m 0 c).flushed 17 t = (win0_17.blk t).view.read (Elt Ideal) (gWb m c) := by
  obtain rfl := last_point t ((flush0_17 t).mp hf)
  rw [Value.flushed17]
  funext i
  obtain ⟨k, j, rfl⟩ : ∃ (k : Fin 1024) (j : Fin 1024), i = ix2 k j := ⟨_, _, eq_ix2 i⟩
  refine ((outs17 m c _ rfl k j).trans (sweepB m c k j 7 (by decide))).trans ?_
  show _ = gWb m c ((win0_17.rect _).emb (ix2 k j))
  rw [emb17]
  exact sumB m c k j

theorem row_surj {n : Nat} (i : (⟨2, ![2048, n]⟩ : Shape).Idx) : ∃ (t : Fin cfg0.N) (r : Fin 256) (j : Fin n), i = ix2 (row t r) j := by
  have h0 : (i 0 : Nat) < 2048 := (i 0).isLt
  refine ⟨⟨(i 0 : Nat) / 256, by show (i 0 : Nat) / 256 < 8; omega⟩, ⟨(i 0 : Nat) % 256, by omega⟩, i 1, Shape.idx_ext₂ ?_ rfl⟩
  show (i 0 : Nat) = (i 0 : Nat) / 256 * 256 + (i 0 : Nat) % 256
  omega

theorem cover11 (i : S2048x1024.Idx) : ∃ t : Fin cfg0.N, (cfg0.win 11).flush t = true ∧ i ∈ ((cfg0.win 11).blk t).view.set := by
  obtain ⟨t, r, j, rfl⟩ := row_surj i
  refine ⟨t, flush0_11 t, ?_⟩
  rw [← emb11]
  exact View.emb_mem_set (win0_11.blk t).view (ix2 r j)

theorem cover12 (i : S2048x1024.Idx) : ∃ t : Fin cfg0.N, (cfg0.win 12).flush t = true ∧ i ∈ ((cfg0.win 12).blk t).view.set := by
  obtain ⟨t, r, j, rfl⟩ := row_surj i
  refine ⟨t, flush0_12 t, ?_⟩
  rw [← emb12]
  exact View.emb_mem_set (win0_12.blk t).view (ix2 r j)

theorem cover13 (i : S2048x512.Idx) : ∃ t : Fin cfg0.N, (cfg0.win 13).flush t = true ∧ i ∈ ((cfg0.win 13).blk t).view.set := by
  obtain ⟨t, r, j, rfl⟩ := row_surj i
  refine ⟨t, flush0_13 t, ?_⟩
  rw [← emb13]
  exact View.emb_mem_set (win0_13.blk t).view (ix2 r j)

theorem cover14 (i : S2048x1024.Idx) : ∃ t : Fin cfg0.N, (cfg0.win 14).flush t = true ∧ i ∈ ((cfg0.win 14).blk t).view.set := by
  obtain ⟨t, r, j, rfl⟩ := row_surj i
  refine ⟨t, flush0_14 t, ?_⟩
  rw [← emb14]
  exact View.emb_mem_set (win0_14.blk t).view (ix2 r j)

theorem cover15 (i : S1024x1024.Idx) : ∃ t : Fin cfg0.N, (cfg0.win 15).flush t = true ∧ i ∈ ((cfg0.win 15).blk t).view.set := by
  obtain ⟨r, j, rfl⟩ : ∃ (r : Fin 1024) (j : Fin 1024), i = ix2 r j := ⟨_, _, eq_ix2 i⟩
  refine ⟨⟨7, by decide⟩, (flush0_15 _).mpr rfl, ?_⟩
  rw [← emb15 ⟨7, by decide⟩]
  exact View.emb_mem_set (win0_15.blk _).view (ix2 r j)

theorem cover16 (i : S1024x512.Idx) : ∃ t : Fin cfg0.N, (cfg0.win 16).flush t = true ∧ i ∈ ((cfg0.win 16).blk t).view.set := by
  obtain ⟨r, j, rfl⟩ : ∃ (r : Fin 1024) (j : Fin 512), i = ix2 r j := ⟨_, _, eq_ix2 i⟩
  refine ⟨⟨7, by decide⟩, (flush0_16 _).mpr rfl, ?_⟩
  rw [← emb16 ⟨7, by decide⟩]
  exact View.emb_mem_set (win0_16.blk _).view (ix2 r j)

theorem cover17 (i : S1024x1024.Idx) : ∃ t : Fin cfg0.N, (cfg0.win 17).flush t = true ∧ i ∈ ((cfg0.win 17).blk t).view.set := by
  obtain ⟨r, j, rfl⟩ : ∃ (r : Fin 1024) (j : Fin 1024), i = ix2 r j := ⟨_, _, eq_ix2 i⟩
  refine ⟨⟨7, by decide⟩, (flush0_17 _).mpr rfl, ?_⟩
  rw [← emb17 ⟨7, by decide⟩]
  exact View.emb_mem_set (win0_17.blk _).view (ix2 r j)

/-- The run, read: the seven result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v24_0) = gZa m c
      ∧ r.2.mem ((c : Thread nD τ).loc main_v24_1) = gZb m c
      ∧ r.2.mem ((c : Thread nD τ).loc main_v24_2) = gYa m c
      ∧ r.2.mem ((c : Thread nD τ).loc main_v24_3) = gYb m c
      ∧ r.2.mem ((c : Thread nD τ).loc main_v24_4) = gWo m c
      ∧ r.2.mem ((c : Thread nD τ).loc main_v24_5) = gWa m c
      ∧ r.2.mem ((c : Thread nD τ).loc main_v24_6) = gWb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨(h c).1.trans ((dats m 0 c).arrAt_eq_of_cover 11 _ (fun t _ => flushed11_eq m c t) cover11),
      (h c).2.1.trans ((dats m 0 c).arrAt_eq_of_cover 12 _ (fun t _ => flushed12_eq m c t) cover12),
      (h c).2.2.1.trans ((dats m 0 c).arrAt_eq_of_cover 13 _ (fun t _ => flushed13_eq m c t) cover13),
      (h c).2.2.2.1.trans ((dats m 0 c).arrAt_eq_of_cover 14 _ (fun t _ => flushed14_eq m c t) cover14),
      (h c).2.2.2.2.1.trans ((dats m 0 c).arrAt_eq_of_cover 15 _ (flushed15_eq m c) cover15),
      (h c).2.2.2.2.2.1.trans ((dats m 0 c).arrAt_eq_of_cover 16 _ (flushed16_eq m c) cover16),
      (h c).2.2.2.2.2.2.1.trans ((dats m 0 c).arrAt_eq_of_cover 17 _ (flushed17_eq m c) cover17),
      (h c).2.2.2.2.2.2.2⟩)
    (Value.run_blocks m ρ)

end Cert.Kernel4Ideal.MergeK

end
-- ==== Proof.MergeEq.lean ====
/- The equation of the merge: the derivative that `jax.vjp` takes of the merge of the two branches and the product after it
   is what the kernel's own formulas give, row by row. -/
module

public import proofs.«01_k».proof.Proof.Merge
public import proofs.«01_k».proof.Proof.Gen.Reference4Ideal.Run
public import proofs.«01_k».proof.Proof.Gen.Reference4Ideal.Read

@[expose] public section

noncomputable section

namespace Cert.MergeEq

open Cert.Reference4Ideal Cert.Reference4Ideal.Read Idealize.ShloMosaic Idealize.ShloMosaic.TcCoe Idealize.SL.Sem
open Idealize.ShloMosaic.ValueIdx
open Cert.Kernel4Ideal.MergeK (dmg dz dbr hostLogistic)
open scoped BigOperators

variable (a0 : S2048x1024.Idx → EReal) (a1 : S2048x512.Idx → EReal) (a2 a3 a4 : S2048x1024.Idx → EReal) (a5 : S512x1024.Idx → EReal)
  (a6 a7 : S1024x1024.Idx → EReal)

/-- The rows of an array of two axes. -/
def rw2 {a b : Nat} (x : (⟨2, ![a, b]⟩ : Shape).Idx → EReal) (r : Fin a) (k : Fin b) : EReal := x (ix2 r k)

/-- The two branches and the merged sum. -/
def ma (r : Fin 2048) (j : Fin 1024) : EReal := ∑ k : Fin 512, rw2 a1 r k * rw2 a5 k j
def mb (r : Fin 2048) (j : Fin 1024) : EReal := ∑ k : Fin 1024, rw2 a2 r k * rw2 a6 k j
def mg (r : Fin 2048) (j : Fin 1024) : EReal :=
  Ideal.logistic (rw2 a3 r j) * ma a1 a5 r j + Ideal.logistic (rw2 a4 r j) * mb a2 a6 r j

theorem r_ga (i : S2048x1024.Idx) : (val_main_v5 (F := Ideal) a3 (i) : EReal) = Ideal.logistic (a3 i) := hostLogistic (a3 i)

theorem r_gb (i : S2048x1024.Idx) : (val_main_v16 (F := Ideal) a4 (i) : EReal) = Ideal.logistic (a4 i) := hostLogistic (a4 i)

theorem r_ma (r : Fin 2048) (j : Fin 1024) : (val_main_v9 (F := Ideal) a1 a5 (ix2 r j) : EReal) = ma a1 a5 r j := by
  rw [val_main_v9_apply]
  exact Finset.sum_congr rfl fun k _ => congrArg₂ (fun x y : EReal => x * y)
    (congrArg a1 (Shape.idx_ext₂ rfl rfl))
    (congrArg a5 (Shape.idx_ext₂ rfl rfl))

theorem r_mb (r : Fin 2048) (j : Fin 1024) : (val_main_v20 (F := Ideal) a2 a6 (ix2 r j) : EReal) = mb a2 a6 r j := by
  rw [val_main_v20_apply]
  exact Finset.sum_congr rfl fun k _ => congrArg₂ (fun x y : EReal => x * y)
    (congrArg a2 (Shape.idx_ext₂ rfl rfl))
    (congrArg a6 (Shape.idx_ext₂ rfl rfl))

theorem r_mg (r : Fin 2048) (j : Fin 1024) : (val_main_v22 (F := Ideal) a1 a2 a3 a4 a5 a6 (ix2 r j) : EReal) = mg a1 a2 a3 a4 a5 a6 r j :=
  congrArg₂ (fun x y : EReal => x + y) (congrArg₂ (fun x y : EReal => x * y) (r_ga a3 (ix2 r j)) (r_ma a1 a5 r j)) (congrArg₂ (fun x y : EReal => x * y) (r_gb a4 (ix2 r j)) (r_mb a2 a6 r j))

theorem r_dmg (r : Fin 2048) (j : Fin 1024) : (val_main_v26 (F := Ideal) a0 a7 (ix2 r j) : EReal) = dmg (rw2 a0 r) (rw2 a7) j := by
  rw [val_main_v26_apply]
  exact Finset.sum_congr rfl fun k _ => congrArg₂ (fun x y : EReal => x * y)
    (congrArg a0 (Shape.idx_ext₂ rfl rfl))
    (congrArg a7 (Shape.idx_ext₂ rfl rfl))

theorem r_dma (r : Fin 2048) (j : Fin 1024) : (val_main_v33 (F := Ideal) a0 a3 a7 (ix2 r j) : EReal) = dbr (rw2 a0 r) (rw2 a7) (rw2 a3 r) j :=
  (congrArg₂ (fun x y : EReal => x * y) (r_ga a3 (ix2 r j)) (r_dmg a0 a7 r j)).trans (mul_comm _ _)

theorem r_dmb (r : Fin 2048) (j : Fin 1024) : (val_main_v27 (F := Ideal) a0 a4 a7 (ix2 r j) : EReal) = dbr (rw2 a0 r) (rw2 a7) (rw2 a4 r) j :=
  (congrArg₂ (fun x y : EReal => x * y) (r_gb a4 (ix2 r j)) (r_dmg a0 a7 r j)).trans (mul_comm _ _)

theorem r_dza (r : Fin 2048) (j : Fin 1024) : (val_main_v39 (F := Ideal) a0 a1 a3 a5 a7 (ix2 r j) : EReal) = dz (rw2 a0 r) (rw2 a7) (ma a1 a5 r) (rw2 a3 r) j := by
  show val_main_v26 (F := Ideal) a0 a7 (ix2 r j) * val_main_v9 (F := Ideal) a1 a5 (ix2 r j) * (val_main_v5 (F := Ideal) a3 (ix2 r j) * (Ideal.ofBits .f32 0x3F800000#32 - val_main_v5 (F := Ideal) a3 (ix2 r j))) = _
  rw [r_dmg, r_ma, r_ga, Ideal.ofBits_one_f32]
  exact (mul_assoc _ _ _).symm

theorem r_dzb (r : Fin 2048) (j : Fin 1024) : (val_main_v40 (F := Ideal) a0 a2 a4 a6 a7 (ix2 r j) : EReal) = dz (rw2 a0 r) (rw2 a7) (mb a2 a6 r) (rw2 a4 r) j := by
  show val_main_v26 (F := Ideal) a0 a7 (ix2 r j) * val_main_v20 (F := Ideal) a2 a6 (ix2 r j) * (val_main_v16 (F := Ideal) a4 (ix2 r j) * (Ideal.ofBits .f32 0x3F800000#32 - val_main_v16 (F := Ideal) a4 (ix2 r j))) = _
  rw [r_dmg, r_mb, r_gb, Ideal.ofBits_one_f32]
  exact (mul_assoc _ _ _).symm

theorem r_dya (r : Fin 2048) (j : Fin 512) : (val_main_v37 (F := Ideal) a0 a3 a5 a7 (ix2 r j) : EReal) = ∑ k : Fin 1024, dbr (rw2 a0 r) (rw2 a7) (rw2 a3 r) k * rw2 a5 j k := by
  rw [val_main_v37_apply]
  exact Finset.sum_congr rfl fun k _ => congrArg₂ (fun x y : EReal => x * y)
    ((congrArg (val_main_v33 (F := Ideal) a0 a3 a7) (show lidx_main_v37 (ix2 r j) k = ix2 r k from Shape.idx_ext₂ rfl rfl)).trans (r_dma a0 a3 a7 r k))
    (congrArg a5 (Shape.idx_ext₂ rfl rfl))

theorem r_dyb (r : Fin 2048) (j : Fin 1024) : (val_main_v31 (F := Ideal) a0 a4 a6 a7 (ix2 r j) : EReal) = ∑ k : Fin 1024, dbr (rw2 a0 r) (rw2 a7) (rw2 a4 r) k * rw2 a6 j k := by
  rw [val_main_v31_apply]
  exact Finset.sum_congr rfl fun k _ => congrArg₂ (fun x y : EReal => x * y)
    ((congrArg (val_main_v27 (F := Ideal) a0 a4 a7) (show lidx_main_v31 (ix2 r j) k = ix2 r k from Shape.idx_ext₂ rfl rfl)).trans (r_dmb a0 a4 a7 r k))
    (congrArg a6 (Shape.idx_ext₂ rfl rfl))

theorem r_dwo (k j : Fin 1024) : (val_main_v41 (F := Ideal) a0 a1 a2 a3 a4 a5 a6 (ix2 k j) : EReal) = ∑ r : Fin 2048, mg a1 a2 a3 a4 a5 a6 r k * rw2 a0 r j := by
  refine (show val_main_v41 (F := Ideal) a0 a1 a2 a3 a4 a5 a6 (ix2 k j) = val_main_v24 (F := Ideal) a0 a1 a2 a3 a4 a5 a6 (ix2 j k) from congrArg (val_main_v24 (F := Ideal) a0 a1 a2 a3 a4 a5 a6) (Shape.idx_ext₂ rfl rfl)).trans ?_
  rw [val_main_v24_apply]
  exact Finset.sum_congr rfl fun r _ => (congrArg₂ (fun x y : EReal => x * y) (show a0 (lidx_main_v24 (ix2 j k) r) = rw2 a0 r j from congrArg a0 (Shape.idx_ext₂ rfl rfl))
    ((congrArg (val_main_v22 (F := Ideal) a1 a2 a3 a4 a5 a6) (show ridx_main_v24 (ix2 j k) r = ix2 r k from Shape.idx_ext₂ rfl rfl)).trans (r_mg a1 a2 a3 a4 a5 a6 r k))).trans (mul_comm _ _)

theorem r_dwa (k : Fin 1024) (j : Fin 512) : (val_main_v43 (F := Ideal) a0 a1 a3 a7 (ix2 k j) : EReal) = ∑ r : Fin 2048, dbr (rw2 a0 r) (rw2 a7) (rw2 a3 r) k * rw2 a1 r j := by
  refine (show val_main_v43 (F := Ideal) a0 a1 a3 a7 (ix2 k j) = val_main_v35 (F := Ideal) a0 a1 a3 a7 (ix2 k j) from congrArg (val_main_v35 (F := Ideal) a0 a1 a3 a7) (Shape.idx_ext₂ rfl rfl)).trans ?_
  rw [val_main_v35_apply]
  exact Finset.sum_congr rfl fun r _ => congrArg₂ (fun x y : EReal => x * y)
    ((congrArg (val_main_v33 (F := Ideal) a0 a3 a7) (show lidx_main_v35 (ix2 k j) r = ix2 r k from Shape.idx_ext₂ rfl rfl)).trans (r_dma a0 a3 a7 r k)) (congrArg a1 (Shape.idx_ext₂ rfl rfl))

theorem r_dwb (k j : Fin 1024) : (val_main_v44 (F := Ideal) a0 a2 a4 a7 (ix2 k j) : EReal) = ∑ r : Fin 2048, rw2 a2 r k * dbr (rw2 a0 r) (rw2 a7) (rw2 a4 r) j := by
  refine (show val_main_v44 (F := Ideal) a0 a2 a4 a7 (ix2 k j) = val_main_v29 (F := Ideal) a0 a2 a4 a7 (ix2 j k) from congrArg (val_main_v29 (F := Ideal) a0 a2 a4 a7) (Shape.idx_ext₂ rfl rfl)).trans ?_
  rw [val_main_v29_apply]
  exact Finset.sum_congr rfl fun r _ => (congrArg₂ (fun x y : EReal => x * y)
    ((congrArg (val_main_v27 (F := Ideal) a0 a4 a7) (show lidx_main_v29 (ix2 j k) r = ix2 r j from Shape.idx_ext₂ rfl rfl)).trans (r_dmb a0 a4 a7 r j)) (show a2 (ridx_main_v29 (ix2 j k) r) = rw2 a2 r k from congrArg a2 (Shape.idx_ext₂ rfl rfl))).trans (mul_comm _ _)

end Cert.MergeEq

end
-- ==== Proof.Fold.lean ====
/- Folding the blocks on a matrix's diagonal onto each other: the comparison of block numbers and the product with the
   matrix of zeros and ones, entry by entry. -/
module

public import proofs.«01_k».proof.Proof.RmsBlock

@[expose] public section

noncomputable section

namespace Cert.Fold

open Idealize.ShloMosaic Idealize.ShloMosaic.ValueIdx
open scoped BigOperators

/-- The quotient of a word rounded down, as the kernel spells it from the truncated one. -/
def fdiv (x d : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The divisor with zero replaced by one. -/
def pos (d : BitVec 32) : BitVec 32 := Scalar.select (Scalar.cmpi .eq d 0#32) 1#32 d

/-- The remainder with the divisor's sign, as the kernel spells it. -/
def fmod (x d : BitVec 32) : BitVec 32 :=
  Scalar.select (IntOp.andi (IntOp.xori (IntOp.cmpi .slt (IntOp.remsi .vector x (pos d)) 0#32) (Scalar.cmpi .slt (pos d) 0#32))
      (IntOp.cmpi .ne (IntOp.remsi .vector x (pos d)) 0#32))
    (IntOp.addi (IntOp.remsi .vector x (pos d)) (pos d)) (IntOp.remsi .vector x (pos d))

theorem fdiv16 : ∀ i : Fin 128, fdiv (BitVec.ofNat 32 i.val) 16#32 = BitVec.ofNat 32 (i.val / 16) := by decide +kernel
theorem fdiv64 : ∀ i : Fin 512, fdiv (BitVec.ofNat 32 i.val) 64#32 = BitVec.ofNat 32 (i.val / 64) := by decide +kernel
theorem fmod16 : ∀ i : Fin 128, fmod (BitVec.ofNat 32 i.val) 16#32 = BitVec.ofNat 32 (i.val % 16) := by decide +kernel
theorem fmod64 : ∀ i : Fin 512, fmod (BitVec.ofNat 32 i.val) 64#32 = BitVec.ofNat 32 (i.val % 64) := by decide +kernel

theorem word_eq {a b : Nat} (ha : a < 512) (hb : b < 512) : IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      simpa [BitVec.toNat_ofNat, Nat.mod_eq_of_lt (show a < 4294967296 by omega), Nat.mod_eq_of_lt (show b < 4294967296 by omega)] using this)
    rw [if_neg h]; show BitVec.ofBool (BitVec.ofNat 32 a == BitVec.ofNat 32 b) = 0#1; rw [beq_eq_false_iff_ne.mpr this]; rfl

/-- The matrix of zeros and ones, at one entry. -/
theorem pick_eq {a b : Nat} (ha : a < 512) (hb : b < 512) :
    (FloatOps.sitofp (F := Ideal) .f32 ((IntOp.cmpi .eq (BitVec.ofNat 32 a) (BitVec.ofNat 32 b)).setWidth 32) : EReal) = if a = b then 1 else 0 := by
  rw [word_eq ha hb]
  by_cases h : a = b
  · rw [if_pos h, if_pos h]; show (((((1#1 : BitVec 1).setWidth 32).toInt : ℝ)) : EReal) = 1; rw [show ((1#1 : BitVec 1).setWidth 32).toInt = 1 from by decide]; norm_num
  · rw [if_neg h, if_neg h]; show (((((0#1 : BitVec 1).setWidth 32).toInt : ℝ)) : EReal) = 0; rw [show ((0#1 : BitVec 1).setWidth 32).toInt = 0 from by decide]; norm_num

/-- The product with the matrix of zeros and ones picks row `g q + r` of what is kept. -/
theorem fold {n g q r : Nat} (hr : r < g) (hn : g * q + r < n) (x : Fin n → EReal) :
    ∑ i : Fin n, (if r = i.val % g then (1 : EReal) else 0) * (if i.val / g = q then x i else 0) = x ⟨g * q + r, hn⟩ := by
  rw [Finset.sum_eq_single (⟨g * q + r, hn⟩ : Fin n)]
  · have h1 : r = (g * q + r) % g := by rw [Nat.mul_add_mod, Nat.mod_eq_of_lt hr]
    have h2 : (g * q + r) / g = q := by rw [Nat.mul_add_div (by omega), Nat.div_eq_of_lt hr, Nat.add_zero]
    simp only [← h1, h2, if_true, one_mul]
  · intro i _ hi
    by_cases h1 : r = i.val % g
    · have h2 : ¬ i.val / g = q := fun h => hi (Fin.ext (by show i.val = g * q + r; rw [← h, h1]; exact (Nat.div_add_mod _ _).symm))
      rw [if_neg h2, mul_zero]
    · rw [if_neg h1, zero_mul]
  · intro h; exact absurd (Finset.mem_univ _) h

end Cert.Fold

end
-- ==== Proof.S5Params.lean ====
/- The gradients of the S5 branch's input and output matrices: what the kernel's four result arrays hold, index by index.
   Point `t` of the grid works on states `512 t … 512 t + 511` and on channels `128 t … 128 t + 127`: it forms the product of
   the two slabs over all the steps, keeps the blocks on the diagonal and folds them onto each other. -/
module

public import proofs.«01_k».proof.Proof.Gen.Kernel5Ideal.Value
public import proofs.«01_k».proof.Proof.Fold

@[expose] public section

noncomputable section

namespace Cert.Kernel5Ideal.S5P

open Cert.Kernel5Ideal Cert.Kernel5Ideal.Gen Idealize.ShloMosaic Idealize.ShloMosaic.TcCoe Idealize.SL.Sem
open Idealize.ShloMosaic.ValueIdx
open Cert.Blocks Cert.Fold
open scoped BigOperators

/-- The entry of an input matrix's gradient that belongs to state `i 1` and to the `i 0`-th channel of its group. -/
def gB (u : S2048x512.Idx → EReal) (lam : S2048x2048.Idx → EReal) (i : S16x2048.Idx) : EReal :=
  ∑ k : Fin 2048, u (ix2 k ⟨16 * ((i 1 : Nat) / 64) + (i 0 : Nat), by have h0 : (i 0 : Nat) < 16 := (i 0).isLt; have h1 : (i 1 : Nat) < 2048 := (i 1).isLt; omega⟩) * lam (ix2 k (i 1))

/-- The entry of an output matrix's gradient that belongs to channel `i 1` and to the `i 0`-th state of its group. -/
def gC (s : S2048x2048.Idx → EReal) (dy : S2048x512.Idx → EReal) (i : S64x512.Idx) : EReal :=
  ∑ k : Fin 2048, s (ix2 k ⟨64 * ((i 1 : Nat) / 16) + (i 0 : Nat), by have h0 : (i 0 : Nat) < 64 := (i 0).isLt; have h1 : (i 1 : Nat) < 512 := (i 1).isLt; omega⟩) * dy (ix2 k (i 1))

variable (m : (ℓ : Loc nD τ sig) → Buf (Elt Ideal) ℓ)

/-- State `512 t + j` and channel `128 t + j`. -/
def st (t : Fin cfg0.N) (j : Fin 512) : Fin 2048 := ⟨t.val * 512 + j.val, by have : t.val < 4 := t.isLt; have := j.isLt; omega⟩
def ch (t : Fin cfg0.N) (j : Fin 128) : Fin 512 := ⟨t.val * 128 + j.val, by have : t.val < 4 := t.isLt; have := j.isLt; omega⟩

/-- Every window's block index at every point. -/
theorem idx_facts : ∀ (t : Fin cfg0.N), (win0_0.index t 0 = 0 ∧ win0_0.index t 1 = t.val) ∧ (win0_1.index t 0 = 0 ∧ win0_1.index t 1 = t.val) ∧ (win0_2.index t 0 = 0 ∧ win0_2.index t 1 = t.val) ∧ (win0_3.index t 0 = 0 ∧ win0_3.index t 1 = t.val) ∧ (win0_4.index t 0 = 0 ∧ win0_4.index t 1 = t.val) ∧ (win0_5.index t 0 = 0 ∧ win0_5.index t 1 = t.val) ∧ (win0_6.index t 0 = 0 ∧ win0_6.index t 1 = t.val) ∧ (win0_7.index t 0 = 0 ∧ win0_7.index t 1 = t.val) ∧ (win0_8.index t 0 = 0 ∧ win0_8.index t 1 = t.val) ∧ (win0_9.index t 0 = 0 ∧ win0_9.index t 1 = t.val) := by decide +kernel

theorem blk0 (c : Dev nD) (t : Fin cfg0.N) (k : Fin 2048) (j : Fin 512) :
    iblk m c 0 t (ix2 k j) = m ((c : Thread nD τ).loc main_arg0) (ix2 k (st t j)) := by
  show m ((c : Thread nD τ).loc main_arg0) ((win0_0.rect t).emb (ix2 k j)) = _
  refine congrArg _ (Shape.idx_ext₂ ?_ ?_)
  · rw [Pipeline.Window.rect_emb_val win0_0 t _ 0 rfl, (idx_facts t).1.1]; show 0 * 2048 + k.val = k.val; omega
  · rw [Pipeline.Window.rect_emb_val win0_0 t _ 1 rfl, (idx_facts t).1.2]; rfl

theorem blk1 (c : Dev nD) (t : Fin cfg0.N) (k : Fin 2048) (j : Fin 512) :
    iblk m c 1 t (ix2 k j) = m ((c : Thread nD τ).loc main_arg1) (ix2 k (st t j)) := by
  show m ((c : Thread nD τ).loc main_arg1) ((win0_1.rect t).emb (ix2 k j)) = _
  refine congrArg _ (Shape.idx_ext₂ ?_ ?_)
  · rw [Pipeline.Window.rect_emb_val win0_1 t _ 0 rfl, (idx_facts t).2.1.1]; show 0 * 2048 + k.val = k.val; omega
  · rw [Pipeline.Window.rect_emb_val win0_1 t _ 1 rfl, (idx_facts t).2.1.2]; rfl

theorem blk2 (c : Dev nD) (t : Fin cfg0.N) (k : Fin 2048) (j : Fin 512) :
    iblk m c 2 t (ix2 k j) = m ((c : Thread nD τ).loc main_arg2) (ix2 k (st t j)) := by
  show m ((c : Thread nD τ).loc main_arg2) ((win0_2.rect t).emb (ix2 k j)) = _
  refine congrArg _ (Shape.idx_ext₂ ?_ ?_)
  · rw [Pipeline.Window.rect_emb_val win0_2 t _ 0 rfl, (idx_facts t).2.2.1.1]; show 0 * 2048 + k.val = k.val; omega
  · rw [Pipeline.Window.rect_emb_val win0_2 t _ 1 rfl, (idx_facts t).2.2.1.2]; rfl

theorem blk3 (c : Dev nD) (t : Fin cfg0.N) (k : Fin 2048) (j : Fin 512) :
    iblk m c 3 t (ix2 k j) = m ((c : Thread nD τ).loc main_arg3) (ix2 k (st t j)) := by
  show m ((c : Thread nD τ).loc main_arg3) ((win0_3.rect t).emb (ix2 k j)) = _
  refine congrArg _ (Shape.idx_ext₂ ?_ ?_)
  · rw [Pipeline.Window.rect_emb_val win0_3 t _ 0 rfl, (idx_facts t).2.2.2.1.1]; show 0 * 2048 + k.val = k.val; omega
  · rw [Pipeline.Window.rect_emb_val win0_3 t _ 1 rfl, (idx_facts t).2.2.2.1.2]; rfl

theorem blk4 (c : Dev nD) (t : Fin cfg0.N) (k : Fin 2048) (j : Fin 128) :
    iblk m c 4 t (ix2 k j) = m ((c : Thread nD τ).loc main_arg4) (ix2 k (ch t j)) := by
  show m ((c : Thread nD τ).loc main_arg4) ((win0_4.rect t).emb (ix2 k j)) = _
  refine congrArg _ (Shape.idx_ext₂ ?_ ?_)
  · rw [Pipeline.Window.rect_emb_val win0_4 t _ 0 rfl, (idx_facts t).2.2.2.2.1.1]; show 0 * 2048 + k.val = k.val; omega
  · rw [Pipeline.Window.rect_emb_val win0_4 t _ 1 rfl, (idx_facts t).2.2.2.2.1.2]; rfl

theorem blk5 (c : Dev nD) (t : Fin cfg0.N) (k : Fin 2048) (j : Fin 128) :
    iblk m c 5 t (ix2 k j) = m ((c : Thread nD τ).loc main_arg5) (ix2 k (ch t j)) := by
  show m ((c : Thread nD τ).loc main_arg5) ((win0_5.rect t).emb (ix2 k j)) = _
  refine congrArg _ (Shape.idx_ext₂ ?_ ?_)
  · rw [Pipeline.Window.rect_emb_val win0_5 t _ 0 rfl, (idx_facts t).2.2.2.2.2.1.1]; show 0 * 2048 + k.val = k.val; omega
  · rw [Pipeline.Window.rect_emb_val win0_5 t _ 1 rfl, (idx_facts t).2.2.2.2.2.1.2]; rfl

theorem emb6 (t : Fin cfg0.N) (r : Fin 16) (j : Fin 512) : (win0_6.rect t).emb (ix2 r j) = ix2 r (st t j) := by
  refine Shape.idx_ext₂ ?_ ?_
  · rw [Pipeline.Window.rect_emb_val win0_6 t _ 0 rfl, (idx_facts t).2.2.2.2.2.2.1.1]; show 0 * 16 + r.val = r.val; omega
  · rw [Pipeline.Window.rect_emb_val win0_6 t _ 1 rfl, (idx_facts t).2.2.2.2.2.2.1.2]; rfl

theorem emb7 (t : Fin cfg0.N) (r : Fin 16) (j : Fin 512) : (win0_7.rect t).emb (ix2 r j) = ix2 r (st t j) := emb6 t r j

theorem emb8 (t : Fin cfg0.N) (r : Fin 64) (j : Fin 128) : (win0_8.rect t).emb (ix2 r j) = ix2 r (ch t j) := by
  refine Shape.idx_ext₂ ?_ ?_
  · rw [Pipeline.Window.rect_emb_val win0_8 t _ 0 rfl, (idx_facts t).2.2.2.2.2.2.2.2.1.1]; show 0 * 64 + r.val = r.val; omega
  · rw [Pipeline.Window.rect_emb_val win0_8 t _ 1 rfl, (idx_facts t).2.2.2.2.2.2.2.2.1.2]; rfl

theorem emb9 (t : Fin cfg0.N) (r : Fin 64) (j : Fin 128) : (win0_9.rect t).emb (ix2 r j) = ix2 r (ch t j) := emb8 t r j

/-! ## The word arrays that number rows and columns -/

theorem iota_128x512_0 (i : Fin 128) (j : Fin 512) : iota .tc S128x512 32 [0] iota_S128x512_d0_w32 (ix2 i j) = BitVec.ofNat 32 i.val := by
  show BitVec.ofNat 32 (0 * 128 + i.val) = _
  rw [Nat.zero_mul, Nat.zero_add]

theorem iota_128x512_1 (i : Fin 128) (j : Fin 512) : iota .tc S128x512 32 [1] iota_S128x512_d1_w32 (ix2 i j) = BitVec.ofNat 32 j.val := by
  show BitVec.ofNat 32 (0 * 512 + j.val) = _
  rw [Nat.zero_mul, Nat.zero_add]

theorem iota_16x128_0 (i : Fin 16) (j : Fin 128) : iota .tc S16x128 32 [0] iota_S16x128_d0_w32 (ix2 i j) = BitVec.ofNat 32 i.val := by
  show BitVec.ofNat 32 (0 * 16 + i.val) = _
  rw [Nat.zero_mul, Nat.zero_add]

theorem iota_16x128_1 (i : Fin 16) (j : Fin 128) : iota .tc S16x128 32 [1] iota_S16x128_d1_w32 (ix2 i j) = BitVec.ofNat 32 j.val := by
  show BitVec.ofNat 32 (0 * 128 + j.val) = _
  rw [Nat.zero_mul, Nat.zero_add]

theorem iota_512x128_0 (i : Fin 512) (j : Fin 128) : iota .tc S512x128 32 [0] iota_S512x128_d0_w32 (ix2 i j) = BitVec.ofNat 32 i.val := by
  show BitVec.ofNat 32 (0 * 512 + i.val) = _
  rw [Nat.zero_mul, Nat.zero_add]

theorem iota_512x128_1 (i : Fin 512) (j : Fin 128) : iota .tc S512x128 32 [1] iota_S512x128_d1_w32 (ix2 i j) = BitVec.ofNat 32 j.val := by
  show BitVec.ofNat 32 (0 * 128 + j.val) = _
  rw [Nat.zero_mul, Nat.zero_add]

theorem iota_64x512_0 (i : Fin 64) (j : Fin 512) : iota .tc S64x512 32 [0] iota_S64x512_d0_w32 (ix2 i j) = BitVec.ofNat 32 i.val := by
  show BitVec.ofNat 32 (0 * 64 + i.val) = _
  rw [Nat.zero_mul, Nat.zero_add]

theorem iota_64x512_1 (i : Fin 64) (j : Fin 512) : iota .tc S64x512 32 [1] iota_S64x512_d1_w32 (ix2 i j) = BitVec.ofNat 32 j.val := by
  show BitVec.ofNat 32 (0 * 512 + j.val) = _
  rw [Nat.zero_mul, Nat.zero_add]

/-! ## What one point stores -/

theorem pay6 (x0 : Vec Ideal S2048x512 .bf16) (x4 : Vec Ideal S2048x128 .f32) (r : Fin 16) (j : Fin 512) :
    ((k0_pay6 (k0_pay2 x4 x0) (iota .tc S128x512 32 [1] iota_S128x512_d1_w32) k0_pay3 64#32 k0_pay4 k0_pay5 (Scalar.cmpi .sgt 64#32 0#32)) (ix2 r j) : EReal)
      = ∑ k : Fin 2048, (x4 (ix2 k ⟨16 * (j.val / 64) + r.val, by have := r.isLt; have := j.isLt; omega⟩) : EReal) * (x0 (ix2 k j) : EReal) := by
  refine Eq.trans (mmNN _ _ r j) (Eq.trans (Finset.sum_congr rfl fun i _ => congrArg₂ (fun x y : EReal => x * y)
    (x' := if r.val = i.val % 16 then (1 : EReal) else 0) (y' := if i.val / 16 = j.val / 64 then ∑ k : Fin 2048, (x4 (ix2 k i) : EReal) * (x0 (ix2 k j) : EReal) else 0) ?_ ?_)
    (fold (n := 128) (g := 16) (q := j.val / 64) r.isLt (by have := r.isLt; have := j.isLt; omega) fun i => ∑ k : Fin 2048, (x4 (ix2 k i) : EReal) * (x0 (ix2 k j) : EReal)))
  · show FloatOps.sitofp (F := Ideal) .f32 ((IntOp.cmpi .eq (iota .tc S16x128 32 [0] iota_S16x128_d0_w32 (ix2 r i))
      (fmod (iota .tc S16x128 32 [1] iota_S16x128_d1_w32 (ix2 r i)) 16#32)).setWidth 32) = _
    rw [iota_16x128_0, iota_16x128_1, fmod16]
    exact pick_eq (by have := r.isLt; omega) (by omega)
  · show Scalar.select (IntOp.cmpi .eq (fdiv (iota .tc S128x512 32 [0] iota_S128x512_d0_w32 (ix2 i j)) 16#32)
      (fdiv (iota .tc S128x512 32 [1] iota_S128x512_d1_w32 (ix2 i j)) 64#32)) _ (Ideal.ofBits .f32 0x00000000#32) = _
    rw [iota_128x512_0, iota_128x512_1, fdiv16, fdiv64, word_eq (by have := i.isLt; omega) (by have := j.isLt; omega), Ideal.ofBits_zero_f32]
    by_cases h : i.val / 16 = j.val / 64
    · rw [if_pos h, if_pos h]
      exact mmTN _ _ i j
    · rw [if_neg h, if_neg h]; rfl

theorem pay7 (x1 : Vec Ideal S2048x512 .bf16) (x4 : Vec Ideal S2048x128 .f32) (r : Fin 16) (j : Fin 512) :
    ((k0_pay13 (k0_pay8 x1 (k0_pay7 x4) (constant S128x512 .f32 0x00000000#32)) k0_pay9 k0_pay10 k0_pay11 k0_pay12) (ix2 r j) : EReal)
      = ∑ k : Fin 2048, (x4 (ix2 k ⟨16 * (j.val / 64) + r.val, by have := r.isLt; have := j.isLt; omega⟩) : EReal) * (x1 (ix2 k j) : EReal) := by
  refine Eq.trans (mmNN _ _ r j) (Eq.trans (Finset.sum_congr rfl fun i _ => congrArg₂ (fun x y : EReal => x * y)
    (x' := if r.val = i.val % 16 then (1 : EReal) else 0) (y' := if i.val / 16 = j.val / 64 then ∑ k : Fin 2048, (x4 (ix2 k i) : EReal) * (x1 (ix2 k j) : EReal) else 0) ?_ ?_)
    (fold (n := 128) (g := 16) (q := j.val / 64) r.isLt (by have := r.isLt; have := j.isLt; omega) fun i => ∑ k : Fin 2048, (x4 (ix2 k i) : EReal) * (x1 (ix2 k j) : EReal)))
  · show FloatOps.sitofp (F := Ideal) .f32 ((IntOp.cmpi .eq (iota .tc S16x128 32 [0] iota_S16x128_d0_w32 (ix2 r i))
      (fmod (iota .tc S16x128 32 [1] iota_S16x128_d1_w32 (ix2 r i)) 16#32)).setWidth 32) = _
    rw [iota_16x128_0, iota_16x128_1, fmod16]
    exact pick_eq (by have := r.isLt; omega) (by omega)
  · show Scalar.select (IntOp.cmpi .eq (fdiv (iota .tc S128x512 32 [0] iota_S128x512_d0_w32 (ix2 i j)) 16#32)
      (fdiv (iota .tc S128x512 32 [1] iota_S128x512_d1_w32 (ix2 i j)) 64#32)) _ (Ideal.ofBits .f32 0x00000000#32) = _
    rw [iota_128x512_0, iota_128x512_1, fdiv16, fdiv64, word_eq (by have := i.isLt; omega) (by have := j.isLt; omega), Ideal.ofBits_zero_f32]
    by_cases h : i.val / 16 = j.val / 64
    · rw [if_pos h, if_pos h]
      exact mmTN _ _ i j
    · rw [if_neg h, if_neg h]; rfl

theorem pay8 (x2 : Vec Ideal S2048x512 .bf16) (x5 : Vec Ideal S2048x128 .bf16) (r : Fin 64) (j : Fin 128) :
    ((k0_pay19 (k0_pay18 (k0_pay14 x5 x2) (iota .tc S512x128 32 [0] iota_S512x128_d0_w32) (iota .tc S512x128 32 [1] iota_S512x128_d1_w32) 64#32 k0_pay15 k0_pay16 k0_pay17) (iota .tc S64x512 32 [0] iota_S64x512_d0_w32) (iota .tc S64x512 32 [1] iota_S64x512_d1_w32) 64#32 0#32) (ix2 r j) : EReal)
      = ∑ k : Fin 2048, (x2 (ix2 k ⟨64 * (j.val / 16) + r.val, by have := r.isLt; have := j.isLt; omega⟩) : EReal) * (x5 (ix2 k j) : EReal) := by
  refine Eq.trans (mmNN _ _ r j) (Eq.trans (Finset.sum_congr rfl fun i _ => congrArg₂ (fun x y : EReal => x * y)
    (x' := if r.val = i.val % 64 then (1 : EReal) else 0) (y' := if i.val / 64 = j.val / 16 then ∑ k : Fin 2048, (x2 (ix2 k i) : EReal) * (x5 (ix2 k j) : EReal) else 0) ?_ ?_)
    (fold (n := 512) (g := 64) (q := j.val / 16) r.isLt (by have := r.isLt; have := j.isLt; omega) fun i => ∑ k : Fin 2048, (x2 (ix2 k i) : EReal) * (x5 (ix2 k j) : EReal)))
  · show FloatOps.sitofp (F := Ideal) .f32 ((IntOp.cmpi .eq (iota .tc S64x512 32 [0] iota_S64x512_d0_w32 (ix2 r i))
      (fmod (iota .tc S64x512 32 [1] iota_S64x512_d1_w32 (ix2 r i)) 64#32)).setWidth 32) = _
    rw [iota_64x512_0, iota_64x512_1, fmod64]
    exact pick_eq (by have := r.isLt; omega) (by omega)
  · show Scalar.select (IntOp.cmpi .eq (fdiv (iota .tc S512x128 32 [0] iota_S512x128_d0_w32 (ix2 i j)) 64#32)
      (fdiv (iota .tc S512x128 32 [1] iota_S512x128_d1_w32 (ix2 i j)) 16#32)) _ (Ideal.ofBits .f32 0x00000000#32) = _
    rw [iota_512x128_0, iota_512x128_1, fdiv64, fdiv16, word_eq (by have := i.isLt; omega) (by have := j.isLt; omega), Ideal.ofBits_zero_f32]
    by_cases h : i.val / 64 = j.val / 16
    · rw [if_pos h, if_pos h]
      exact mmTN _ _ i j
    · rw [if_neg h, if_neg h]; rfl

theorem pay9 (x3 : Vec Ideal S2048x512 .bf16) (x5 : Vec Ideal S2048x128 .bf16) (r : Fin 64) (j : Fin 128) :
    ((k0_pay1 (k0_pay24 (k0_pay20 x5 x3) (iota .tc S512x128 32 [1] iota_S512x128_d1_w32) k0_pay21 k0_pay22 k0_pay23) (iota .tc S64x512 32 [0] iota_S64x512_d0_w32) (Scalar.select (Scalar.cmpi .eq 64#32 0#32) 1#32 64#32) k0_pay25 k0_pay26 k0_pay27 (Scalar.cmpi .slt (Scalar.select (Scalar.cmpi .eq 64#32 0#32) 1#32 64#32) 0#32)) (ix2 r j) : EReal)
      = ∑ k : Fin 2048, (x3 (ix2 k ⟨64 * (j.val / 16) + r.val, by have := r.isLt; have := j.isLt; omega⟩) : EReal) * (x5 (ix2 k j) : EReal) := by
  refine Eq.trans (mmNN _ _ r j) (Eq.trans (Finset.sum_congr rfl fun i _ => congrArg₂ (fun x y : EReal => x * y)
    (x' := if r.val = i.val % 64 then (1 : EReal) else 0) (y' := if i.val / 64 = j.val / 16 then ∑ k : Fin 2048, (x3 (ix2 k i) : EReal) * (x5 (ix2 k j) : EReal) else 0) ?_ ?_)
    (fold (n := 512) (g := 64) (q := j.val / 16) r.isLt (by have := r.isLt; have := j.isLt; omega) fun i => ∑ k : Fin 2048, (x3 (ix2 k i) : EReal) * (x5 (ix2 k j) : EReal)))
  · show FloatOps.sitofp (F := Ideal) .f32 ((IntOp.cmpi .eq (iota .tc S64x512 32 [0] iota_S64x512_d0_w32 (ix2 r i))
      (fmod (iota .tc S64x512 32 [1] iota_S64x512_d1_w32 (ix2 r i)) 64#32)).setWidth 32) = _
    rw [iota_64x512_0, iota_64x512_1, fmod64]
    exact pick_eq (by have := r.isLt; omega) (by omega)
  · show Scalar.select (IntOp.cmpi .eq (fdiv (iota .tc S512x128 32 [0] iota_S512x128_d0_w32 (ix2 i j)) 64#32)
      (fdiv (iota .tc S512x128 32 [1] iota_S512x128_d1_w32 (ix2 i j)) 16#32)) _ (Ideal.ofBits .f32 0x00000000#32) = _
    rw [iota_512x128_0, iota_512x128_1, fdiv64, fdiv16, word_eq (by have := i.isLt; omega) (by have := j.isLt; omega), Ideal.ofBits_zero_f32]
    by_cases h : i.val / 64 = j.val / 16
    · rw [if_pos h, if_pos h]
      exact mmTN _ _ i j
    · rw [if_neg h, if_neg h]; rfl

variable (c : Dev nD)

theorem flushed6_eq (t : Fin cfg0.N) : (dats m 0 c).flushed 6 t = (win0_6.blk t).view.read (Elt Ideal) (gB (m ((c : Thread nD τ).loc main_arg4)) (m ((c : Thread nD τ).loc main_arg0))) := by
  rw [Value.flushed6]
  unfold out0_6
  rw [View.canon_unit_zero hz, View.ld_unit_zero (S := S2048x128) hz, View.ld_unit_zero (S := S2048x512) hz]
  funext y
  obtain ⟨r, j, rfl⟩ : ∃ (r : Fin 16) (j : Fin 512), y = ix2 r j := ⟨_, _, eq_ix2 y⟩
  refine (pay6 _ _ r j).trans (Eq.trans ?_ (congrArg (gB (m ((c : Thread nD τ).loc main_arg4)) (m ((c : Thread nD τ).loc main_arg0))) (emb6 t r j)).symm)
  refine Finset.sum_congr rfl fun k _ => congrArg₂ (fun x y : EReal => x * y) ((blk4 m c t k _).trans (congrArg _ (Shape.idx_ext₂ rfl ?_))) (blk0 m c t k _)
  show t.val * 128 + (16 * (j.val / 64) + r.val) = 16 * ((t.val * 512 + j.val) / 64) + r.val
  omega

theorem cover6 (i : S16x2048.Idx) : ∃ t : Fin cfg0.N, (cfg0.win 6).flush t = true ∧ i ∈ ((cfg0.win 6).blk t).view.set := by
  have h1 : (i 1 : Nat) < 2048 := (i 1).isLt
  obtain ⟨t, r, j, rfl⟩ : ∃ (t : Fin cfg0.N) (r : Fin 16) (j : Fin 512), i = ix2 r (st t j) :=
    ⟨⟨(i 1 : Nat) / 512, by show (i 1 : Nat) / 512 < 4; omega⟩, i 0, ⟨(i 1 : Nat) % 512, by omega⟩, Shape.idx_ext₂ rfl
      (by show (i 1 : Nat) = (i 1 : Nat) / 512 * 512 + (i 1 : Nat) % 512; omega)⟩
  refine ⟨t, flush0_6 t, ?_⟩
  rw [← emb6]
  exact View.emb_mem_set (win0_6.blk t).view (ix2 r j)

theorem flushed7_eq (t : Fin cfg0.N) : (dats m 0 c).flushed 7 t = (win0_7.blk t).view.read (Elt Ideal) (gB (m ((c : Thread nD τ).loc main_arg4)) (m ((c : Thread nD τ).loc main_arg1))) := by
  rw [Value.flushed7]
  unfold out0_7
  rw [View.canon_unit_zero hz, View.ld_unit_zero (S := S2048x128) hz, View.ld_unit_zero (S := S2048x512) hz]
  funext y
  obtain ⟨r, j, rfl⟩ : ∃ (r : Fin 16) (j : Fin 512), y = ix2 r j := ⟨_, _, eq_ix2 y⟩
  refine (pay7 _ _ r j).trans (Eq.trans ?_ (congrArg (gB (m ((c : Thread nD τ).loc main_arg4)) (m ((c : Thread nD τ).loc main_arg1))) (emb7 t r j)).symm)
  refine Finset.sum_congr rfl fun k _ => congrArg₂ (fun x y : EReal => x * y) ((blk4 m c t k _).trans (congrArg _ (Shape.idx_ext₂ rfl ?_))) (blk1 m c t k _)
  show t.val * 128 + (16 * (j.val / 64) + r.val) = 16 * ((t.val * 512 + j.val) / 64) + r.val
  omega

theorem cover7 (i : S16x2048.Idx) : ∃ t : Fin cfg0.N, (cfg0.win 7).flush t = true ∧ i ∈ ((cfg0.win 7).blk t).view.set := by
  have h1 : (i 1 : Nat) < 2048 := (i 1).isLt
  obtain ⟨t, r, j, rfl⟩ : ∃ (t : Fin cfg0.N) (r : Fin 16) (j : Fin 512), i = ix2 r (st t j) :=
    ⟨⟨(i 1 : Nat) / 512, by show (i 1 : Nat) / 512 < 4; omega⟩, i 0, ⟨(i 1 : Nat) % 512, by omega⟩, Shape.idx_ext₂ rfl
      (by show (i 1 : Nat) = (i 1 : Nat) / 512 * 512 + (i 1 : Nat) % 512; omega)⟩
  refine ⟨t, flush0_7 t, ?_⟩
  rw [← emb7]
  exact View.emb_mem_set (win0_7.blk t).view (ix2 r j)

theorem flushed8_eq (t : Fin cfg0.N) : (dats m 0 c).flushed 8 t = (win0_8.blk t).view.read (Elt Ideal) (gC (m ((c : Thread nD τ).loc main_arg2)) (m ((c : Thread nD τ).loc main_arg5))) := by
  rw [Value.flushed8]
  unfold out0_8
  rw [View.canon_unit_zero hz, View.ld_unit_zero (S := S2048x128) hz, View.ld_unit_zero (S := S2048x512) hz]
  funext y
  obtain ⟨r, j, rfl⟩ : ∃ (r : Fin 64) (j : Fin 128), y = ix2 r j := ⟨_, _, eq_ix2 y⟩
  refine (pay8 _ _ r j).trans (Eq.trans ?_ (congrArg (gC (m ((c : Thread nD τ).loc main_arg2)) (m ((c : Thread nD τ).loc main_arg5))) (emb8 t r j)).symm)
  refine Finset.sum_congr rfl fun k _ => congrArg₂ (fun x y : EReal => x * y) ((blk2 m c t k _).trans (congrArg _ (Shape.idx_ext₂ rfl ?_))) (blk5 m c t k _)
  show t.val * 512 + (64 * (j.val / 16) + r.val) = 64 * ((t.val * 128 + j.val) / 16) + r.val
  omega

theorem cover8 (i : S64x512.Idx) : ∃ t : Fin cfg0.N, (cfg0.win 8).flush t = true ∧ i ∈ ((cfg0.win 8).blk t).view.set := by
  have h1 : (i 1 : Nat) < 512 := (i 1).isLt
  obtain ⟨t, r, j, rfl⟩ : ∃ (t : Fin cfg0.N) (r : Fin 64) (j : Fin 128), i = ix2 r (ch t j) :=
    ⟨⟨(i 1 : Nat) / 128, by show (i 1 : Nat) / 128 < 4; omega⟩, i 0, ⟨(i 1 : Nat) % 128, by omega⟩, Shape.idx_ext₂ rfl
      (by show (i 1 : Nat) = (i 1 : Nat) / 128 * 128 + (i 1 : Nat) % 128; omega)⟩
  refine ⟨t, flush0_8 t, ?_⟩
  rw [← emb8]
  exact View.emb_mem_set (win0_8.blk t).view (ix2 r j)

theorem flushed9_eq (t : Fin cfg0.N) : (dats m 0 c).flushed 9 t = (win0_9.blk t).view.read (Elt Ideal) (gC (m ((c : Thread nD τ).loc main_arg3)) (m ((c : Thread nD τ).loc main_arg5))) := by
  rw [Value.flushed9]
  unfold out0_9
  rw [View.canon_unit_zero hz, View.ld_unit_zero (S := S2048x128) hz, View.ld_unit_zero (S := S2048x512) hz]
  funext y
  obtain ⟨r, j, rfl⟩ : ∃ (r : Fin 64) (j : Fin 128), y = ix2 r j := ⟨_, _, eq_ix2 y⟩
  refine (pay9 _ _ r j).trans (Eq.trans ?_ (congrArg (gC (m ((c : Thread nD τ).loc main_arg3)) (m ((c : Thread nD τ).loc main_arg5))) (emb9 t r j)).symm)
  refine Finset.sum_congr rfl fun k _ => congrArg₂ (fun x y : EReal => x * y) ((blk3 m c t k _).trans (congrArg _ (Shape.idx_ext₂ rfl ?_))) (blk5 m c t k _)
  show t.val * 512 + (64 * (j.val / 16) + r.val) = 64 * ((t.val * 128 + j.val) / 16) + r.val
  omega

theorem cover9 (i : S64x512.Idx) : ∃ t : Fin cfg0.N, (cfg0.win 9).flush t = true ∧ i ∈ ((cfg0.win 9).blk t).view.set := by
  have h1 : (i 1 : Nat) < 512 := (i 1).isLt
  obtain ⟨t, r, j, rfl⟩ : ∃ (t : Fin cfg0.N) (r : Fin 64) (j : Fin 128), i = ix2 r (ch t j) :=
    ⟨⟨(i 1 : Nat) / 128, by show (i 1 : Nat) / 128 < 4; omega⟩, i 0, ⟨(i 1 : Nat) % 128, by omega⟩, Shape.idx_ext₂ rfl
      (by show (i 1 : Nat) = (i 1 : Nat) / 128 * 128 + (i 1 : Nat) % 128; omega)⟩
  refine ⟨t, flush0_9 t, ?_⟩
  rw [← emb9]
  exact View.emb_mem_set (win0_9.blk t).view (ix2 r j)

/-- The run, read: the four result arrays as functions of the arguments, the arguments unchanged. -/
theorem run (ρ : Dev nD → PrngReg) : θ_run defs (onTc (τ := τ) (main (F := Ideal))) ⟨m, fun _ => 0, ρ⟩ fun r => ∀ c : Dev nD,
r.2.mem ((c : Thread nD τ).loc main_v0_0) = gB (m ((c : Thread nD τ).loc main_arg4)) (m ((c : Thread nD τ).loc main_arg0))
      ∧ r.2.mem ((c : Thread nD τ).loc main_v0_1) = gB (m ((c : Thread nD τ).loc main_arg4)) (m ((c : Thread nD τ).loc main_arg1))
      ∧ r.2.mem ((c : Thread nD τ).loc main_v0_2) = gC (m ((c : Thread nD τ).loc main_arg2)) (m ((c : Thread nD τ).loc main_arg5))
      ∧ r.2.mem ((c : Thread nD τ).loc main_v0_3) = gC (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(h c).1.trans ((dats m 0 c).arrAt_eq_of_cover 6 _ (fun t _ => flushed6_eq m c t) cover6),
      (h c).2.1.trans ((dats m 0 c).arrAt_eq_of_cover 7 _ (fun t _ => flushed7_eq m c t) cover7),
      (h c).2.2.1.trans ((dats m 0 c).arrAt_eq_of_cover 8 _ (fun t _ => flushed8_eq m c t) cover8),
      (h c).2.2.2.1.trans ((dats m 0 c).arrAt_eq_of_cover 9 _ (fun t _ => flushed9_eq m c t) cover9),
      (h c).2.2.2.2⟩)
    (Value.run_blocks m ρ)

end Cert.Kernel5Ideal.S5P

end
-- ==== Proof.S5ParamsEq.lean ====
/- The equation of the S5 branch's matrix gradients: the derivative that `jax.vjp` takes of the two input products and of the
   readout is what the folded diagonal blocks hold. -/
module

public import proofs.«01_k».proof.Proof.S5Params
public import proofs.«01_k».proof.Proof.RealVals
public import proofs.«01_k».proof.Proof.Gen.Reference5Ideal.Run
public import proofs.«01_k».proof.Proof.Gen.Reference5Ideal.Read

@[expose] public section

noncomputable section

namespace Cert.S5PEq

open Cert.Reference5Ideal Cert.Reference5Ideal.Read Idealize.ShloMosaic Idealize.ShloMosaic.TcCoe Idealize.SL.Sem
open Idealize.ShloMosaic.ValueIdx
open Cert.Kernel5Ideal.S5P (gB gC)
open Cert.Reals
open scoped BigOperators

variable (a0 a1 a2 a3 : S2048x2048.Idx → EReal) (a4 a5 : S2048x512.Idx → EReal)

/-- State `n` and channel `p` of group `g`. -/
def gn (g : Fin 32) (n : Fin 64) : Fin 2048 := ⟨g.val * 64 + n.val, by have := g.isLt; have := n.isLt; omega⟩
def gp (g : Fin 32) (p : Fin 16) : Fin 512 := ⟨g.val * 16 + p.val, by have := g.isLt; have := p.isLt; omega⟩

theorem ext3 {a b c : Nat} {i j : (⟨3, ![a, b, c]⟩ : Shape).Idx} (h0 : i 0 = j 0) (h1 : i 1 = j 1) (h2 : i 2 = j 2) : i = j := by
  funext x
  match x with
  | ⟨0, _⟩ => exact h0
  | ⟨1, _⟩ => exact h1
  | ⟨2, _⟩ => exact h2

theorem r1 (k : Fin 2048) (g : Fin 32) (n : Fin 64) : (val_main_v1 (F := Ideal) a0 (ix3 k g n) : EReal) = a0 (ix2 k (gn g n)) := by
  refine (val_main_v1_apply (F := Ideal) a0 (ix3 k g n)).trans (show val_main_v0 (F := Ideal) a0 (idx_main_v1 (ix3 k g n)) = a0 (ix2 k (gn g n)) from congrArg a0 (Shape.idx_ext₂ ?_ ?_))
  · show ((k.val * 32 + g.val) * 64 + n.val) / 2048 = k.val
    have := g.isLt; have := n.isLt; omega
  · show ((k.val * 32 + g.val) * 64 + n.val) % 2048 = g.val * 64 + n.val
    have := g.isLt; have := n.isLt; omega

theorem r3 (k : Fin 2048) (g : Fin 32) (n : Fin 64) : (val_main_v3 (F := Ideal) a1 (ix3 k g n) : EReal) = a1 (ix2 k (gn g n)) := by
  refine (val_main_v3_apply (F := Ideal) a1 (ix3 k g n)).trans (show val_main_v2 (F := Ideal) a1 (idx_main_v3 (ix3 k g n)) = a1 (ix2 k (gn g n)) from congrArg a1 (Shape.idx_ext₂ ?_ ?_))
  · show ((k.val * 32 + g.val) * 64 + n.val) / 2048 = k.val
    have := g.isLt; have := n.isLt; omega
  · show ((k.val * 32 + g.val) * 64 + n.val) % 2048 = g.val * 64 + n.val
    have := g.isLt; have := n.isLt; omega

theorem r5 (k : Fin 2048) (g : Fin 32) (n : Fin 64) : (val_main_v5 (F := Ideal) a2 (ix3 k g n) : EReal) = a2 (ix2 k (gn g n)) := by
  refine (val_main_v5_apply (F := Ideal) a2 (ix3 k g n)).trans (show val_main_v4 (F := Ideal) a2 (idx_main_v5 (ix3 k g n)) = a2 (ix2 k (gn g n)) from congrArg a2 (Shape.idx_ext₂ ?_ ?_))
  · show ((k.val * 32 + g.val) * 64 + n.val) / 2048 = k.val
    have := g.isLt; have := n.isLt; omega
  · show ((k.val * 32 + g.val) * 64 + n.val) % 2048 = g.val * 64 + n.val
    have := g.isLt; have := n.isLt; omega

theorem r7 (k : Fin 2048) (g : Fin 32) (n : Fin 64) : (val_main_v7 (F := Ideal) a3 (ix3 k g n) : EReal) = a3 (ix2 k (gn g n)) := by
  refine (val_main_v7_apply (F := Ideal) a3 (ix3 k g n)).trans (show val_main_v6 (F := Ideal) a3 (idx_main_v7 (ix3 k g n)) = a3 (ix2 k (gn g n)) from congrArg a3 (Shape.idx_ext₂ ?_ ?_))
  · show ((k.val * 32 + g.val) * 64 + n.val) / 2048 = k.val
    have := g.isLt; have := n.isLt; omega
  · show ((k.val * 32 + g.val) * 64 + n.val) % 2048 = g.val * 64 + n.val
    have := g.isLt; have := n.isLt; omega

theorem r8 (k : Fin 2048) (g : Fin 32) (n : Fin 16) : (val_main_v8 (F := Ideal) a4 (ix3 k g n) : EReal) = a4 (ix2 k (gp g n)) := by
  refine (val_main_v8_apply (F := Ideal) a4 (ix3 k g n)).trans (congrArg a4 (Shape.idx_ext₂ ?_ ?_))
  · show ((k.val * 32 + g.val) * 16 + n.val) / 512 = k.val
    have := g.isLt; have := n.isLt; omega
  · show ((k.val * 32 + g.val) * 16 + n.val) % 512 = g.val * 16 + n.val
    have := g.isLt; have := n.isLt; omega

theorem r10 (k : Fin 2048) (g : Fin 32) (n : Fin 16) : (val_main_v10 (F := Ideal) a5 (ix3 k g n) : EReal) = a5 (ix2 k (gp g n)) := by
  refine (val_main_v10_apply (F := Ideal) a5 (ix3 k g n)).trans (show val_main_v9 (F := Ideal) a5 (idx_main_v10 (ix3 k g n)) = a5 (ix2 k (gp g n)) from congrArg a5 (Shape.idx_ext₂ ?_ ?_))
  · show ((k.val * 32 + g.val) * 16 + n.val) / 512 = k.val
    have := g.isLt; have := n.isLt; omega
  · show ((k.val * 32 + g.val) * 16 + n.val) % 512 = g.val * 16 + n.val
    have := g.isLt; have := n.isLt; omega

theorem r30 (g : Fin 32) (n : Fin 64) (p : Fin 16) : (val_main_v30 (F := Ideal) a0 a4 (ix3 g n p) : EReal)
    = ∑ k : Fin 2048, a0 (ix2 k (gn g n)) * a4 (ix2 k (gp g p)) := by
  refine (val_main_v30_apply a0 a4 _).trans (Finset.sum_congr rfl fun k _ => congrArg₂ (fun x y : EReal => x * y) ?_ ?_)
  · refine (val_main_v29_apply (F := Ideal) a0 _).trans ?_
    rw [show idx_main_v29 (lidx_main_v30 (ix3 g n p) k) = ix3 k g n from ext3 rfl rfl rfl]
    exact r1 a0 k g n
  · rw [show ridx_main_v30 (ix3 g n p) k = ix3 k g p from ext3 rfl rfl rfl]
    exact r8 a4 k g p

theorem r28 (g : Fin 32) (n : Fin 64) (p : Fin 16) : (val_main_v28 (F := Ideal) a1 a4 (ix3 g n p) : EReal)
    = ∑ k : Fin 2048, a1 (ix2 k (gn g n)) * a4 (ix2 k (gp g p)) := by
  refine (val_main_v28_apply a1 a4 _).trans (Finset.sum_congr rfl fun k _ => congrArg₂ (fun x y : EReal => x * y) ?_ ?_)
  · refine (val_main_v27_apply (F := Ideal) a1 _).trans ?_
    rw [show idx_main_v27 (lidx_main_v28 (ix3 g n p) k) = ix3 k g n from ext3 rfl rfl rfl]
    exact r3 a1 k g n
  · rw [show ridx_main_v28 (ix3 g n p) k = ix3 k g p from ext3 rfl rfl rfl]
    exact r8 a4 k g p

theorem r26 (g : Fin 32) (n : Fin 16) (p : Fin 64) : (val_main_v26 (F := Ideal) a2 a5 (ix3 g n p) : EReal)
    = ∑ k : Fin 2048, a5 (ix2 k (gp g n)) * a2 (ix2 k (gn g p)) := by
  refine (val_main_v26_apply a2 a5 _).trans (Finset.sum_congr rfl fun k _ => congrArg₂ (fun x y : EReal => x * y) ?_ ?_)
  · refine (val_main_v25_apply (F := Ideal) a5 _).trans ?_
    rw [show idx_main_v25 (lidx_main_v26 (ix3 g n p) k) = ix3 k g n from ext3 rfl rfl rfl]
    exact r10 a5 k g n
  · rw [show ridx_main_v26 (ix3 g n p) k = ix3 k g p from ext3 rfl rfl rfl]
    exact r5 a2 k g p

theorem r24 (g : Fin 32) (n : Fin 16) (p : Fin 64) : (val_main_v24 (F := Ideal) a3 a5 (ix3 g n p) : EReal)
    = ∑ k : Fin 2048, -a5 (ix2 k (gp g n)) * a3 (ix2 k (gn g p)) := by
  refine (val_main_v24_apply a3 a5 _).trans (Finset.sum_congr rfl fun k _ => congrArg₂ (fun x y : EReal => x * y) ?_ ?_)
  · refine (val_main_v23_apply (F := Ideal) a5 _).trans ?_
    rw [show idx_main_v23 (lidx_main_v24 (ix3 g n p) k) = ix3 k g n from ext3 rfl rfl rfl]
    exact congrArg (fun x : EReal => -x) (r10 a5 k g n)
  · rw [show ridx_main_v24 (ix3 g n p) k = ix3 k g p from ext3 rfl rfl rfl]
    exact r7 a3 k g p

theorem dB0 : (val_main_v33 (F := Ideal) a0 a4 : S16x2048.Idx → EReal) = gB a4 a0 := by
  funext i
  obtain ⟨p, j, rfl⟩ : ∃ (p : Fin 16) (j : Fin 2048), i = ix2 p j := ⟨_, _, eq_ix2 i⟩
  have hp := p.isLt
  have hj := j.isLt
  show val_main_v32 (F := Ideal) a0 a4 (ix2 p j) = _
  refine (val_main_v32_apply (F := Ideal) a0 a4 _).trans ((val_main_v31_apply (F := Ideal) a0 a4 _).trans ?_)
  rw [show idx_main_v31 (idx_main_v32 (ix2 p j)) = ix3 (⟨j.val / 64, by omega⟩ : Fin 32) (⟨j.val % 64, by omega⟩ : Fin 64) p from
    ext3 (Fin.ext (show (j.val * 16 + p.val) / 1024 = j.val / 64 by omega)) (Fin.ext (show (j.val * 16 + p.val) / 16 % 64 = j.val % 64 by omega))
      (Fin.ext (show (j.val * 16 + p.val) % 16 = p.val by omega)), r30]
  refine Finset.sum_congr rfl fun k _ => (mul_comm _ _).trans (congrArg₂ (fun x y : EReal => x * y) (congrArg a4 (Shape.idx_ext₂ rfl ?_)) (congrArg a0 (Shape.idx_ext₂ rfl ?_)))
  · show j.val / 64 * 16 + p.val = 16 * (j.val / 64) + p.val
    omega
  · show j.val / 64 * 64 + j.val % 64 = j.val
    omega

theorem dB1 : (val_main_v36 (F := Ideal) a1 a4 : S16x2048.Idx → EReal) = gB a4 a1 := by
  funext i
  obtain ⟨p, j, rfl⟩ : ∃ (p : Fin 16) (j : Fin 2048), i = ix2 p j := ⟨_, _, eq_ix2 i⟩
  have hp := p.isLt
  have hj := j.isLt
  show val_main_v35 (F := Ideal) a1 a4 (ix2 p j) = _
  refine (val_main_v35_apply (F := Ideal) a1 a4 _).trans ((val_main_v34_apply (F := Ideal) a1 a4 _).trans ?_)
  rw [show idx_main_v34 (idx_main_v35 (ix2 p j)) = ix3 (⟨j.val / 64, by omega⟩ : Fin 32) (⟨j.val % 64, by omega⟩ : Fin 64) p from
    ext3 (Fin.ext (show (j.val * 16 + p.val) / 1024 = j.val / 64 by omega)) (Fin.ext (show (j.val * 16 + p.val) / 16 % 64 = j.val % 64 by omega))
      (Fin.ext (show (j.val * 16 + p.val) % 16 = p.val by omega)), r28]
  refine Finset.sum_congr rfl fun k _ => (mul_comm _ _).trans (congrArg₂ (fun x y : EReal => x * y) (congrArg a4 (Shape.idx_ext₂ rfl ?_)) (congrArg a1 (Shape.idx_ext₂ rfl ?_)))
  · show j.val / 64 * 16 + p.val = 16 * (j.val / 64) + p.val
    omega
  · show j.val / 64 * 64 + j.val % 64 = j.val
    omega

theorem dC0 : (val_main_v39 (F := Ideal) a2 a5 : S64x512.Idx → EReal) = gC a2 a5 := by
  funext i
  obtain ⟨n, j, rfl⟩ : ∃ (n : Fin 64) (j : Fin 512), i = ix2 n j := ⟨_, _, eq_ix2 i⟩
  have hn := n.isLt
  have hj := j.isLt
  show val_main_v38 (F := Ideal) a2 a5 (ix2 n j) = _
  refine (val_main_v38_apply (F := Ideal) a2 a5 _).trans ((val_main_v37_apply (F := Ideal) a2 a5 _).trans ?_)
  rw [show idx_main_v37 (idx_main_v38 (ix2 n j)) = ix3 (⟨j.val / 16, by omega⟩ : Fin 32) (⟨j.val % 16, by omega⟩ : Fin 16) n from
    ext3 (Fin.ext (show (j.val * 64 + n.val) / 1024 = j.val / 16 by omega)) (Fin.ext (show (j.val * 64 + n.val) / 64 % 16 = j.val % 16 by omega))
      (Fin.ext (show (j.val * 64 + n.val) % 64 = n.val by omega)), r26]
  refine Finset.sum_congr rfl fun k _ => (mul_comm _ _).trans (congrArg₂ (fun x y : EReal => x * y) (congrArg a2 (Shape.idx_ext₂ rfl ?_)) (congrArg a5 (Shape.idx_ext₂ rfl ?_)))
  · show j.val / 16 * 64 + n.val = 64 * (j.val / 16) + n.val
    omega
  · show j.val / 16 * 16 + j.val % 16 = j.val
    omega

/-- The sign goes through a sum of reals. -/
theorem neg_sum {n : Nat} (f g : Fin n → EReal) (hf : ∀ k, IsReal (f k)) (hg : ∀ k, IsReal (g k)) :
    -(∑ k, -f k * g k) = ∑ k, f k * g k := by
  choose x hx using hf
  choose y hy using hg
  simp only [hx, hy]
  rw [show (∑ k, -(x k : EReal) * (y k : EReal)) = ((∑ k, -x k * y k : ℝ) : EReal) from by rw [coe_sum]; rfl,
    show (∑ k, (x k : EReal) * (y k : EReal)) = ((∑ k, x k * y k : ℝ) : EReal) from by rw [coe_sum]; rfl, ← EReal.coe_neg]
  exact congrArg Real.toEReal (by simp)

theorem dC1 (h3 : ∀ i, IsReal (a3 i)) (h5 : ∀ i, IsReal (a5 i)) : (val_main_v43 (F := Ideal) a3 a5 : S64x512.Idx → EReal) = gC a3 a5 := by
  funext i
  obtain ⟨n, j, rfl⟩ : ∃ (n : Fin 64) (j : Fin 512), i = ix2 n j := ⟨_, _, eq_ix2 i⟩
  have hn := n.isLt
  have hj := j.isLt
  show val_main_v42 (F := Ideal) a3 a5 (ix2 n j) = _
  refine (val_main_v42_apply (F := Ideal) a3 a5 _).trans ((val_main_v41_apply (F := Ideal) a3 a5 _).trans ?_)
  rw [show idx_main_v41 (idx_main_v42 (ix2 n j)) = ix3 (⟨j.val / 16, by omega⟩ : Fin 32) (⟨j.val % 16, by omega⟩ : Fin 16) n from
    ext3 (Fin.ext (show (j.val * 64 + n.val) / 1024 = j.val / 16 by omega)) (Fin.ext (show (j.val * 64 + n.val) / 64 % 16 = j.val % 16 by omega))
      (Fin.ext (show (j.val * 64 + n.val) % 64 = n.val by omega))]
  show -(val_main_v24 (F := Ideal) a3 a5 _ : EReal) = _
  rw [r24]
  refine (neg_sum _ _ (fun k => h5 _) (fun k => h3 _)).trans ?_
  refine Finset.sum_congr rfl fun k _ => (mul_comm _ _).trans (congrArg₂ (fun x y : EReal => x * y) (congrArg a3 (Shape.idx_ext₂ rfl ?_)) (congrArg a5 (Shape.idx_ext₂ rfl ?_)))
  · show j.val / 16 * 64 + n.val = 64 * (j.val / 16) + n.val
    omega
  · show j.val / 16 * 16 + j.val % 16 = j.val
    omega

end Cert.S5PEq

end
-- ==== Proof.InprojFrame.lean ====
module

public import proofs.«01_k».proof.Proof.Gen.Kernel6Ideal.Frame
public import proofs.«01_k».proof.Proof.Gen.Kernel6Ideal.Skeleton
public import Idealize.ShloMosaic.Lib.Claim

/-! The run of the input projections' backward kernel: eight points, the two rows of sums zeroed at the first and added to at each,
    the bias row in four column ranges. -/

@[expose] public section

set_option maxRecDepth 16384

noncomputable section

namespace Cert.Kernel6Ideal.InprojF

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the first point only. -/
abbrev cond (i : grid0.Coords) : Prop := (Scalar.cmpi .ne (Scalar.extui (Scalar.cmpi .eq (BitVec.ofNat 32 (i 0).val) 0#32)) 0#32) = 1#1
theorem hcond : ∀ t : Fin cfg0.N, cond (grid0.coords t) ↔ t.val % 8 = 0 :=
  (by decide +kernel : ∀ t : Fin grid0.N, cond (grid0.coords t) ↔ t.val % 8 = 0)

/-! ## The buffers -/

abbrev VO8 : View sig .tc .vmem S256x1024 .f32 := (Memref.whole cc0_stg8_0 : Memref sig .tc .vmem S256x1024 .f32).view
abbrev VO9 : View sig .tc .vmem S256x1024 .bf16 := (Memref.whole cc0_stg9_0 : Memref sig .tc .vmem S256x1024 .bf16).view
abbrev VO10 : View sig .tc .vmem S8x1024 .f32 := (Memref.whole cc0_stg10_0 : Memref sig .tc .vmem S8x1024 .f32).view
abbrev VO11 : View sig .tc .vmem S8x3584 .f32 := (Memref.whole cc0_stg11_0 : Memref sig .tc .vmem S8x3584 .f32).view
abbrev ms0 (t : Fin cfg0.N) : Memref sig .tc .vmem S256x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3584x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S8x3584 .f32 := win0_11.stage (cfg0.slots t 11)
abbrev hs11 (t : Fin cfg0.N) : (ms11 t).IsWhole := hstage0_11 ((cfg0.slots t 11).cast nbuf0_11)

/-! ## The body's runs -/

set_option maxHeartbeats 2000000 in
/-- The body at the first point: on whole buffers, the inputs' at their contents, it runs, leaves the inputs
    alone and writes to each output the pieces found here (last first). -/
noncomputable def runA (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S3584x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S8x1024 .f32) (harg11 : arg11.IsWhole) (arg12 : Memref sig .tc .vmem S8x3584 .f32) (harg12 : arg12.IsWhole) (hc : cond i)
    (x0 : Vec F S256x512 .bf16) (x1 : Vec F S256x1024 .bf16) (x2 : Vec F S256x1024 .bf16) (x3 : Vec F S256x1024 .bf16) (x4 : Vec F S256x1024 .f32) (x5 : Vec F S256x1024 .f32) (x6 : Vec F S1x1024 .f32) (x7 : Vec F S3584x1024 .bf16) :
    Σ' (L8 : List (View.Piece (Elt F) S256x1024 .f32)), Σ' (L9 : List (View.Piece (Elt F) S256x1024 .bf16)), Σ' (L10 : List (View.Piece (Elt F) S8x1024 .f32)), { L11 : List (View.Piece (Elt F) S8x3584 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_inproj_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_inproj_bwd_eq_skeleton]; unfold cc0_inproj_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact H11

set_option maxHeartbeats 2000000 in
/-- The body at a later point: on whole buffers, the inputs' at their contents, the two sums at theirs, it runs, leaves the inputs
    alone and writes to each output the pieces found here (last first). -/
noncomputable def runB (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S3584x1024 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S8x1024 .f32) (harg11 : arg11.IsWhole) (arg12 : Memref sig .tc .vmem S8x3584 .f32) (harg12 : arg12.IsWhole) (hc : ¬cond i)
    (x0 : Vec F S256x512 .bf16) (x1 : Vec F S256x1024 .bf16) (x2 : Vec F S256x1024 .bf16) (x3 : Vec F S256x1024 .bf16) (x4 : Vec F S256x1024 .f32) (x5 : Vec F S256x1024 .f32) (x6 : Vec F S1x1024 .f32) (x7 : Vec F S3584x1024 .bf16) (y10 : Vec F S8x1024 .f32) (y11 : Vec F S8x3584 .f32) :
    Σ' (L8 : List (View.Piece (Elt F) S256x1024 .f32)), Σ' (L9 : List (View.Piece (Elt F) S256x1024 .bf16)), Σ' (L10 : List (View.Piece (Elt F) S8x1024 .f32)), { L11 : List (View.Piece (Elt F) S8x3584 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare y10 ∗ owns (c : Thread nD τ) arg12 fullShare y11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread y10) L10) ∗ (arg12.view.loc (c : Thread nD τ) ↦[arg12.view.set]{fullShare} arg12.view.writes (Elt F) (harg12.unread y11) L11)) -∗ K ⟨⟩))
          ⊢ wp frame (wpE (defs₀ (F := F)) Variants.none c none) E (cc0_inproj_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_inproj_bwd_eq_skeleton]; unfold cc0_inproj_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexact H10
    iexact H11

/-! ## What the outputs hold after each point -/

/-- The first point's run at point `t`. -/
abbrev rA (c : Dev nD) (t : Fin cfg0.N) (h : t.val % 8 = 0) := runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((hcond t).mpr h) (iblk m c 0 t) (iblk m c 1 t) (iblk m c 2 t) (iblk m c 3 t) (iblk m c 4 t) (iblk m c 5 t) (iblk m c 6 t) (iblk m c 7 t)
/-- A later point's run at point `t`, the sums at `y…`. -/
abbrev rB (c : Dev nD) (t : Fin cfg0.N) (h : ¬t.val % 8 = 0) (y10 : Vec F S8x1024 .f32) (y11 : Vec F S8x3584 .f32) := runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun e => h ((hcond t).mp e)) (iblk m c 0 t) (iblk m c 1 t) (iblk m c 2 t) (iblk m c 3 t) (iblk m c 4 t) (iblk m c 5 t) (iblk m c 6 t) (iblk m c 7 t) y10 y11

theorem coverA8 (c : Dev nD) (t : Fin cfg0.N) (h : t.val % 8 = 0) (y : S256x1024.Idx) : ∃ pc ∈ (rA m c t h).1, y ∈ pc.1.set :=
  View.cover_of_tiledL (rA m c t h).1 S256x1024.size (by sl_kernel_rfl) y
/-- What the first point leaves in output 8's buffer. -/
def outA8 (c : Dev nD) (t : Fin cfg0.N) (h : t.val % 8 = 0) : Vec F S256x1024 .f32 :=
  VO8.read (Elt F) (VO8.writes (Elt F) VO8.junk (rA m c t h).1)

theorem coverA9 (c : Dev nD) (t : Fin cfg0.N) (h : t.val % 8 = 0) (y : S256x1024.Idx) : ∃ pc ∈ (rA m c t h).2.1, y ∈ pc.1.set :=
  View.cover_of_tiledL (rA m c t h).2.1 S256x1024.size (by sl_kernel_rfl) y
/-- What the first point leaves in output 9's buffer. -/
def outA9 (c : Dev nD) (t : Fin cfg0.N) (h : t.val % 8 = 0) : Vec F S256x1024 .bf16 :=
  VO9.read (Elt F) (VO9.writes (Elt F) VO9.junk (rA m c t h).2.1)

theorem coverA10 (c : Dev nD) (t : Fin cfg0.N) (h : t.val % 8 = 0) (y : S8x1024.Idx) : ∃ pc ∈ (rA m c t h).2.2.1, y ∈ pc.1.set :=
  View.cover_of_tiledBy (rA m c t h).2.2.1 ![1, 1024] (by sl_kernel_rfl) y
/-- What the first point leaves in output 10's buffer. -/
def outA10 (c : Dev nD) (t : Fin cfg0.N) (h : t.val % 8 = 0) : Vec F S8x1024 .f32 :=
  VO10.read (Elt F) (VO10.writes (Elt F) VO10.junk (rA m c t h).2.2.1)

theorem coverA11 (c : Dev nD) (t : Fin cfg0.N) (h : t.val % 8 = 0) (y : S8x3584.Idx) : ∃ pc ∈ (rA m c t h).2.2.2.1, y ∈ pc.1.set :=
  View.cover_of_tiledBy (rA m c t h).2.2.2.1 ![1, 512] (by sl_kernel_rfl) y
/-- What the first point leaves in output 11's buffer. -/
def outA11 (c : Dev nD) (t : Fin cfg0.N) (h : t.val % 8 = 0) : Vec F S8x3584 .f32 :=
  VO11.read (Elt F) (VO11.writes (Elt F) VO11.junk (rA m c t h).2.2.2.1)

theorem coverB8 (c : Dev nD) (t : Fin cfg0.N) (h : ¬t.val % 8 = 0) (y10 : Vec F S8x1024 .f32) (y11 : Vec F S8x3584 .f32) (y : S256x1024.Idx) : ∃ pc ∈ (rB m c t h y10 y11).1, y ∈ pc.1.set :=
  View.cover_of_tiledL (rB m c t h y10 y11).1 S256x1024.size (by sl_kernel_rfl) y
/-- What a later point leaves in output 8's buffer. -/
def outB8 (c : Dev nD) (t : Fin cfg0.N) (h : ¬t.val % 8 = 0) (y10 : Vec F S8x1024 .f32) (y11 : Vec F S8x3584 .f32) : Vec F S256x1024 .f32 :=
  VO8.read (Elt F) (VO8.writes (Elt F) VO8.junk (rB m c t h y10 y11).1)

theorem coverB9 (c : Dev nD) (t : Fin cfg0.N) (h : ¬t.val % 8 = 0) (y10 : Vec F S8x1024 .f32) (y11 : Vec F S8x3584 .f32) (y : S256x1024.Idx) : ∃ pc ∈ (rB m c t h y10 y11).2.1, y ∈ pc.1.set :=
  View.cover_of_tiledL (rB m c t h y10 y11).2.1 S256x1024.size (by sl_kernel_rfl) y
/-- What a later point leaves in output 9's buffer. -/
def outB9 (c : Dev nD) (t : Fin cfg0.N) (h : ¬t.val % 8 = 0) (y10 : Vec F S8x1024 .f32) (y11 : Vec F S8x3584 .f32) : Vec F S256x1024 .bf16 :=
  VO9.read (Elt F) (VO9.writes (Elt F) VO9.junk (rB m c t h y10 y11).2.1)

/-- What a later point leaves in output 10's buffer: its stores over what the point before left. -/
def outB10 (c : Dev nD) (t : Fin cfg0.N) (h : ¬t.val % 8 = 0) (y10 : Vec F S8x1024 .f32) (y11 : Vec F S8x3584 .f32) : Vec F S8x1024 .f32 :=
  (ms10 t).view.read (Elt F) ((ms10 t).view.writes (Elt F) ((hs10 t).unread y10) (rB m c t h y10 y11).2.2.1)

/-- What a later point leaves in output 11's buffer: its stores over what the point before left. -/
def outB11 (c : Dev nD) (t : Fin cfg0.N) (h : ¬t.val % 8 = 0) (y10 : Vec F S8x1024 .f32) (y11 : Vec F S8x3584 .f32) : Vec F S8x3584 .f32 :=
  (ms11 t).view.read (Elt F) ((ms11 t).view.writes (Elt F) ((hs11 t).unread y11) (rB m c t h y10 y11).2.2.2.1)

/-- What the outputs' buffers hold after the body at position `n`. -/
def outs (c : Dev nD) : (n : ℕ) → n < cfg0.N → Vec F S256x1024 .f32 × Vec F S256x1024 .bf16 × Vec F S8x1024 .f32 × Vec F S8x3584 .f32
  | 0, hn => (outA8 m c ⟨0, hn⟩ (Nat.zero_mod _), outA9 m c ⟨0, hn⟩ (Nat.zero_mod _), outA10 m c ⟨0, hn⟩ (Nat.zero_mod _), outA11 m c ⟨0, hn⟩ (Nat.zero_mod _))
  | n + 1, hn =>
    if h : (n + 1) % 8 = 0 then (outA8 m c ⟨n + 1, hn⟩ h, outA9 m c ⟨n + 1, hn⟩ h, outA10 m c ⟨n + 1, hn⟩ h, outA11 m c ⟨n + 1, hn⟩ h)
    else
      (outB8 m c ⟨n + 1, hn⟩ h ((outs c n (Nat.lt_of_succ_lt hn)).2.2.1) ((outs c n (Nat.lt_of_succ_lt hn)).2.2.2), outB9 m c ⟨n + 1, hn⟩ h ((outs c n (Nat.lt_of_succ_lt hn)).2.2.1) ((outs c n (Nat.lt_of_succ_lt hn)).2.2.2), outB10 m c ⟨n + 1, hn⟩ h ((outs c n (Nat.lt_of_succ_lt hn)).2.2.1) ((outs c n (Nat.lt_of_succ_lt hn)).2.2.2), outB11 m c ⟨n + 1, hn⟩ h ((outs c n (Nat.lt_of_succ_lt hn)).2.2.1) ((outs c n (Nat.lt_of_succ_lt hn)).2.2.2))

/-- The position before `t`'s. -/
abbrev before (c : Dev nD) (t : Fin cfg0.N) := outs m c (t.val - 1) (Nat.lt_of_le_of_lt (Nat.sub_le _ _) t.isLt)

theorem outs_A (c : Dev nD) (t : Fin cfg0.N) (h : t.val % 8 = 0) :
    outs m c t.val t.isLt = (outA8 m c t h, outA9 m c t h, outA10 m c t h, outA11 m c t h) := by
  obtain ⟨n, hn⟩ := t
  cases n with
  | zero => exact rfl
  | succ n => exact (dif_pos h).trans rfl

theorem outs_B (c : Dev nD) (t : Fin cfg0.N) (h : ¬t.val % 8 = 0) :
    outs m c t.val t.isLt = (outB8 m c t h ((before m c t).2.2.1) ((before m c t).2.2.2), outB9 m c t h ((before m c t).2.2.1) ((before m c t).2.2.2), outB10 m c t h ((before m c t).2.2.1) ((before m c t).2.2.2), outB11 m c t h ((before m c t).2.2.1) ((before m c t).2.2.2)) := by
  obtain ⟨n, hn⟩ := t
  cases n with
  | zero => exact absurd (Nat.zero_mod _) h
  | succ n => exact (dif_neg h).trans rfl

/-! ## The pipeline's data -/

/-- After point `t` each input's buffer holds its block, the outputs' hold `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outs m c t.val t.isLt).1 := by dsimp only [dats]
theorem after9 (c : Dev nD) (t : Fin cfg0.N) : (dats m 0 c).after 9 t = (outs m c t.val t.isLt).2.1 := by dsimp only [dats]
theorem after10 (c : Dev nD) (t : Fin cfg0.N) : (dats m 0 c).after 10 t = (outs m c t.val t.isLt).2.2.1 := by dsimp only [dats]
theorem after11 (c : Dev nD) (t : Fin cfg0.N) : (dats m 0 c).after 11 t = (outs m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before10 (c : Dev nD) (t : Fin cfg0.N) (h : ¬t.val % 8 = 0) (d) : (dats m 0 c).before 10 t d = (before m c t).2.2.1 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]
theorem before11 (c : Dev nD) (t : Fin cfg0.N) (h : ¬t.val % 8 = 0) (d) : (dats m 0 c).before 11 t d = (before m c t).2.2.2 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  by_cases h : t.val % 8 = 0
  · rw [outs_A m c t h]
    (try dsimp only); unfold outA8 outA9 outA10 outA11
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((rA m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA8 m c t h)
    isplitl [H9]
    · unfold owns; iexists _; isplitr
      swap; · iexact H9
      ipureintro; exact View.read_writes_of_cover _ _ _ _ _ (coverA9 m c t h)
    isplitl [H10]
    · unfold owns; iexists _; isplitr
      swap; · iexact H10
      ipureintro; exact View.read_writes_of_cover _ _ _ _ _ (coverA10 m c t h)
    unfold owns; iexists _; isplitr
    swap; · iexact H11
    ipureintro; exact View.read_writes_of_cover _ _ _ _ _ (coverA11 m c t h)
  · rw [outs_B m c t h]
    simp only [before10 m c t h, before11 m c t h]
    (try dsimp only); unfold outB8 outB9 outB10 outB11
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((rB m c t h _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iintro ⟨H0, H1, H2, H3, H4, H5, H6, H7, ⟨%e8, H8⟩, ⟨%e9, H9⟩, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB8 m c t h _ _)
    isplitl [H9]
    · unfold owns; iexists _; isplitr
      swap; · iexact H9
      ipureintro; exact View.read_writes_of_cover _ _ _ _ _ (coverB9 m c t h _ _)
    isplitl [H10]
    · unfold owns; iexists _; isplitr
      swap; · iexact H10
      ipureintro; rfl
    unfold owns; iexists _; isplitr
    swap; · iexact H11
    ipureintro; rfl

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every counter ends at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.Kernel6Ideal.InprojF

end
-- ==== Proof.InprojPay.lean ====
/- The backward of the input projection and its norm: the mathematics of the four results, and what the body's
   operations are at one index. The projection's cotangent is four arrays side by side, 512 and three times 1024
   columns, that the kernel never joins: it multiplies each with the matching rows of the weight. -/
module

public import proofs.«01_k».proof.Proof.InprojFrame
public import proofs.«01_k».proof.Proof.Blocks
public import proofs.«01_k».proof.Proof.RmsBlock

@[expose] public section

noncomputable section

namespace Cert.Kernel6Ideal.Inproj

open Cert.Kernel6Ideal Cert.Kernel6Ideal.Gen Idealize.ShloMosaic Idealize.ShloMosaic.TcCoe Idealize.SL.Sem
open Idealize.ShloMosaic.Pipeline (Dat)
open Idealize.ShloMosaic.ValueIdx
open Cert.Blocks (hz)
open scoped BigOperators

/-! ## The mathematics -/

/-- Four arrays side by side, read at a row and a column. -/
def cat4 {n : Nat} (z0 : (⟨2, ![n, 512]⟩ : Shape).Idx → EReal) (z1 z2 z3 : (⟨2, ![n, 1024]⟩ : Shape).Idx → EReal) (r : Fin n) (k : Fin 3584) : EReal :=
  if h0 : k.val < 512 then z0 (ix2 r ⟨k.val, h0⟩)
  else if h1 : k.val < 1536 then z1 (ix2 r ⟨k.val - 512, by omega⟩)
  else if h2 : k.val < 2560 then z2 (ix2 r ⟨k.val - 1536, by omega⟩)
  else z3 (ix2 r ⟨k.val - 2560, by omega⟩)

section
variable {n : Nat} (z0 : (⟨2, ![n, 512]⟩ : Shape).Idx → EReal) (z1 z2 z3 : (⟨2, ![n, 1024]⟩ : Shape).Idx → EReal) (r : Fin n)

theorem cat4_0 (k : Fin 512) : cat4 z0 z1 z2 z3 r ⟨k.val, by omega⟩ = z0 (ix2 r k) := by
  unfold cat4; rw [dif_pos k.isLt]
theorem cat4_1 (k : Fin 1024) : cat4 z0 z1 z2 z3 r ⟨512 + k.val, by omega⟩ = z1 (ix2 r k) := by
  unfold cat4
  rw [dif_neg (by show ¬512 + k.val < 512; omega), dif_pos (show 512 + k.val < 1536 by omega)]
  exact congrArg z1 (Shape.idx_ext₂ rfl (by show 512 + k.val - 512 = k.val; omega))
theorem cat4_2 (k : Fin 1024) : cat4 z0 z1 z2 z3 r ⟨1536 + k.val, by omega⟩ = z2 (ix2 r k) := by
  unfold cat4
  rw [dif_neg (by show ¬1536 + k.val < 512; omega), dif_neg (by show ¬1536 + k.val < 1536; omega), dif_pos (show 1536 + k.val < 2560 by omega)]
  exact congrArg z2 (Shape.idx_ext₂ rfl (by show 1536 + k.val - 1536 = k.val; omega))
theorem cat4_3 (k : Fin 1024) : cat4 z0 z1 z2 z3 r ⟨2560 + k.val, by omega⟩ = z3 (ix2 r k) := by
  unfold cat4
  rw [dif_neg (by show ¬2560 + k.val < 512; omega), dif_neg (by show ¬2560 + k.val < 1536; omega), dif_neg (by show ¬2560 + k.val < 2560; omega)]
  exact congrArg z3 (Shape.idx_ext₂ rfl (by show 2560 + k.val - 2560 = k.val; omega))
end

/-- A sum over the 3584 columns, part by part. -/
theorem sum4 (f : Fin 3584 → EReal) : ∑ k, f k = ((∑ k : Fin 512, f ⟨k.val, by omega⟩) + (∑ k : Fin 1024, f ⟨512 + k.val, by omega⟩)
    + ∑ k : Fin 1024, f ⟨1536 + k.val, by omega⟩) + ∑ k : Fin 1024, f ⟨2560 + k.val, by omega⟩ := by
  refine (Fin.sum_univ_add (a := 2560) (b := 1024) f).trans (congrArg (fun s : EReal => s + _) ?_)
  refine (Fin.sum_univ_add (a := 1536) (b := 1024) _).trans (congrArg (fun s : EReal => s + _) ?_)
  exact Fin.sum_univ_add (a := 512) (b := 1024) _

section
variable (z0 : S2048x512.Idx → EReal) (z1 z2 z3 : S2048x1024.Idx → EReal) (x dx1 : S2048x1024.Idx → EReal) (g : S1024.Idx → EReal) (w : S1024x3584.Idx → EReal)

/-- The cotangent of the normed rows: the projection's cotangent against the rows of the weight. -/
def dh (r : Fin 2048) (j : Fin 1024) : EReal := ∑ k : Fin 3584, cat4 z0 z1 z2 z3 r k * w (ix2 j k)

/-- The rows' cotangent: the residual's plus the norm's backward. -/
def gX (i : S2048x1024.Idx) : EReal :=
  dx1 i + Rms.bwd (fun k => x (ix2 (i 0) k)) (fun k => dh z0 z1 z2 z3 w (i 0) k * g (ix1 k)) (i 1)

/-- The normed rows. -/
def gH (i : S2048x1024.Idx) : EReal := (x i * Rms.rinv (fun k => x (ix2 (i 0) k))) * g (ix1 (i 1))

/-- One row's contribution to the gain's gradient. -/
def dgain (r : Fin 2048) (j : Fin 1024) : EReal := dh z0 z1 z2 z3 w r j * (x (ix2 r j) * Rms.rinv (fun k => x (ix2 r k)))

/-- The gain's gradient in row 0, zeros below it. -/
def gVd (i : S8x1024.Idx) : EReal := if (i 0).val = 0 then ∑ r, dgain z0 z1 z2 z3 x w r (i 1) else 0

/-- The bias' gradient in row 0, zeros below it. -/
def gVn (i : S8x3584.Idx) : EReal := if (i 0).val = 0 then ∑ r, cat4 z0 z1 z2 z3 r (i 1) else 0
end

/-! ## Ranges of a row, stored and loaded -/

/-- An array with some columns of row 0 replaced, read at an index. -/
theorem put_cols {n b : Nat} (x : (⟨2, ![8, n]⟩ : Shape).Idx → EReal) (o : Nat) (w : (⟨2, ![1, b]⟩ : Shape).Idx → EReal) (r : Fin 8) (j : Fin n) :
    VecWindow.put (s := ⟨2, ![8, n]⟩) x ![0, o] ![1, b] w (ix2 r j)
      = if h : r.val = 0 ∧ o ≤ j.val ∧ j.val < o + b then w (ix2 0 ⟨j.val - o, by omega⟩) else x (ix2 r j) := by
  unfold VecWindow.put
  by_cases h : r.val = 0 ∧ o ≤ j.val ∧ j.val < o + b
  · rw [dif_pos h, dif_pos (fun i => by
      match i with
      | ⟨0, _⟩ => exact ⟨Nat.zero_le _, by show r.val < 0 + 1; omega⟩
      | ⟨1, _⟩ => exact h.2)]
    refine congrArg w (Shape.idx_ext₂ ?_ ?_)
    · show r.val - 0 = 0; omega
    · rfl
  · rw [dif_neg h, dif_neg (fun hh => h (by
      have h0 := hh (0 : Fin 2)
      have h1 := hh (1 : Fin 2)
      have h2 : r.val < 0 + 1 := h0.2
      exact ⟨by omega, h1.1, h1.2⟩))]

/-- Some rows and columns of an array, loaded. -/
theorem ld_part {e : EltTy} {n n' a b : Nat} (x : (⟨2, ![n, n']⟩ : Shape).Idx → Elt Ideal e) (o o' : Nat)
    (inb : ∀ i, (![o, o'] : Fin 2 → Nat) i + (⟨2, ![a, b]⟩ : Shape).size i ≤ (⟨2, ![n, n']⟩ : Shape).size i) (u : Fin a) (j : Fin b) (q : Fin n) (p : Fin n')
    (hq : q.val = o + u.val) (hp : p.val = o' + j.val) :
    View.ld x (Rect.unit (s := ⟨2, ![n, n']⟩) ![o, o'] (⟨2, ![a, b]⟩ : Shape).size inb) (ix2 u j) = x (ix2 q p) := by
  show x _ = _
  refine congrArg x (Shape.idx_ext₂ ?_ ?_)
  · show o + 1 * u.val = q.val; omega
  · show o' + 1 * j.val = p.val; omega

/-! ## The payloads of the body at one index -/

theorem pay_dh (z0 : Vec Ideal S256x512 .bf16) (z1 z2 z3 : Vec Ideal S256x1024 .bf16) (w0 : Vec Ideal S512x1024 .bf16) (w1 w2 w3 : Vec Ideal S1024x1024 .bf16)
    (r : Fin 256) (j : Fin 1024) : (k0_pay10 (F := Ideal) (k0_pay7 z0 w0 z1 w1) z2 w2 z3 w3 (ix2 r j) : EReal)
      = ((∑ k : Fin 512, (z0 (ix2 r k) : EReal) * w0 (ix2 k j)) + (∑ k : Fin 1024, (z1 (ix2 r k) : EReal) * w1 (ix2 k j))
        + ∑ k : Fin 1024, (z2 (ix2 r k) : EReal) * w2 (ix2 k j)) + ∑ k : Fin 1024, (z3 (ix2 r k) : EReal) * w3 (ix2 k j) := by
  unfold k0_pay10 k0_pay7
  rw [shapeCast_self, shapeCast_self, shapeCast_self, shapeCast_self]
  refine congrArg₂ (· + ·) (congrArg₂ (· + ·) (congrArg₂ (· + ·) ?_ (Blocks.mmNN (φ₁ := .bf16) (φ₂ := .bf16) z1 w1 r j)) (Blocks.mmNN (φ₁ := .bf16) (φ₂ := .bf16) z2 w2 r j)) (Blocks.mmNN (φ₁ := .bf16) (φ₂ := .bf16) z3 w3 r j)
  exact (congrArg₂ (fun a b : EReal => a + b) Ideal.ofBits_zero_f32 (Blocks.mmNN (φ₁ := .bf16) (φ₂ := .bf16) z0 w0 r j)).trans (zero_add _)

theorem pay12_apply (x : Vec Ideal S256x1024 .f32) (r : Fin 256) (u : Fin 1) :
    (k0_pay12 (F := Ideal) x (ix2 r u) : EReal) = Rms.rinv (fun k => x (ix2 r k)) :=
  Blocks.rinvCol x _ _ _ _ _ r u _ fun _ => rfl

theorem pay13_apply (x : Vec Ideal S256x1024 .f32) (r : Fin 256) (j : Fin 1024) :
    (k0_pay13 (F := Ideal) x (ix2 r j) : EReal) = x (ix2 r j) * Rms.rinv (fun k => x (ix2 r k)) := by
  unfold k0_pay13
  exact congrArg (fun s => (x (ix2 r j) : EReal) * s) ((Blocks.spreadCol _ _ r j).trans (pay12_apply x r 0))

theorem pay1_apply (x : Vec Ideal S256x1024 .f32) (g : Vec Ideal S1x1024 .f32) (r : Fin 256) (j : Fin 1024) :
    (k0_pay1 (F := Ideal) (k0_pay13 x) g (ix2 r j) : EReal) = (x (ix2 r j) * Rms.rinv (fun k => x (ix2 r k))) * g (ix2 0 j) := by
  unfold k0_pay1
  rw [shapeCast_self]
  exact congrArg₂ (fun a b : EReal => a * b) (pay13_apply x r j) (Blocks.spreadRow _ _ r j)

theorem pay2_apply (d : FVec Ideal S256x1024 .f32) (x : Vec Ideal S256x1024 .f32) (g : Vec Ideal S1x1024 .f32) (p : Vec Ideal S256x1024 .f32) (r : Fin 256) (j : Fin 1024) :
    (k0_pay2 (F := Ideal) d (k0_pay12 x) (k0_pay13 x) g p (ix2 r j) : EReal)
      = p (ix2 r j) + Rms.bwd (fun k => x (ix2 r k)) (fun k => (d (ix2 r k) : EReal) * g (ix2 0 k)) j := by
  unfold k0_pay2
  rw [shapeCast_self]
  refine congrArg (fun s : EReal => (p (ix2 r j) : EReal) + s) ?_
  exact Blocks.bwdBlock _ _ _ _ _ _ _ _ _ r _ _ (pay12_apply x r 0) (fun k => pay13_apply x r k)
    (fun k => congrArg (fun b : EReal => (d (ix2 r k) : EReal) * b) (Blocks.spreadRow _ _ r k)) j

theorem pay3_apply (d e : FVec Ideal S256x1024 .f32) (p : Vec Ideal S1x1024 .f32) (u : Fin 1) (j : Fin 1024) :
    (k0_pay3 (F := Ideal) d e p (ix2 u j) : EReal) = p (ix2 u j) + ∑ r : Fin 256, (d (ix2 r j) : EReal) * (e (ix2 r j) : EReal) := by
  unfold k0_pay3
  rw [shapeCast_self]
  exact congrArg (fun s : EReal => (p (ix2 u j) : EReal) + s) ((Blocks.rowCast _ _ u j).trans (Blocks.sumCol _ _ _ _ _ j))

theorem pay6_apply (z : Vec Ideal S256x512 .bf16) (p : Vec Ideal S1x512 .f32) (u : Fin 1) (j : Fin 512) :
    (k0_pay6 (F := Ideal) z p (ix2 u j) : EReal) = p (ix2 u j) + ∑ r : Fin 256, (z (ix2 r j) : EReal) := by
  unfold k0_pay6
  rw [shapeCast_self]
  exact congrArg (fun s : EReal => (p (ix2 u j) : EReal) + s) ((Blocks.rowCast _ _ u j).trans (Blocks.sumCol _ _ _ _ _ j))

theorem pay8_apply (z : Vec Ideal S256x1024 .bf16) (p : Vec Ideal S1x1024 .f32) (u : Fin 1) (j : Fin 1024) :
    (k0_pay8 (F := Ideal) z p (ix2 u j) : EReal) = p (ix2 u j) + ∑ r : Fin 256, (z (ix2 r j) : EReal) := by
  unfold k0_pay8
  rw [shapeCast_self]
  exact congrArg (fun s : EReal => (p (ix2 u j) : EReal) + s) ((Blocks.rowCast _ _ u j).trans (Blocks.sumCol _ _ _ _ _ j))

theorem pay9_apply (z : Vec Ideal S256x1024 .bf16) (p : Vec Ideal S1x1024 .f32) (u : Fin 1) (j : Fin 1024) :
    (k0_pay9 (F := Ideal) z p (ix2 u j) : EReal) = p (ix2 u j) + ∑ r : Fin 256, (z (ix2 r j) : EReal) := by
  unfold k0_pay9
  rw [shapeCast_self]
  exact congrArg (fun s : EReal => (p (ix2 u j) : EReal) + s) ((Blocks.rowCast _ _ u j).trans (Blocks.sumCol _ _ _ _ _ j))

theorem pay11_apply (z : Vec Ideal S256x1024 .bf16) (p : Vec Ideal S1x1024 .f32) (u : Fin 1) (j : Fin 1024) :
    (k0_pay11 (F := Ideal) z p (ix2 u j) : EReal) = p (ix2 u j) + ∑ r : Fin 256, (z (ix2 r j) : EReal) := by
  unfold k0_pay11
  rw [shapeCast_self]
  exact congrArg (fun s : EReal => (p (ix2 u j) : EReal) + s) ((Blocks.rowCast _ _ u j).trans (Blocks.sumCol _ _ _ _ _ j))

end Cert.Kernel6Ideal.Inproj

end
-- ==== Proof.InprojOuts.lean ====
/- The backward of the input projection and its norm: what the kernel's four result arrays hold, as functions of the
   argument arrays index by index. Point `t` of the grid works on rows `256 t … 256 t + 255`; the gain's and the bias'
   gradients are added up over the points in row 0 of arrays of eight rows. -/
module

public import proofs.«01_k».proof.Proof.InprojPay

@[expose] public section

noncomputable section

namespace Cert.Kernel6Ideal.Inproj

open Cert.Kernel6Ideal Cert.Kernel6Ideal.Gen Idealize.ShloMosaic Idealize.ShloMosaic.TcCoe Idealize.SL.Sem
open Idealize.ShloMosaic.Pipeline (Dat)
open Idealize.ShloMosaic.ValueIdx
open Cert.Blocks (hz)
open InprojF
open scoped BigOperators

variable (m : (ℓ : Loc nD τ sig) → Buf (Elt Ideal) ℓ)

/-! ## What the body leaves in the four buffers at each point -/

/-- The cotangent of the block's normed rows, with the weight read in four ranges of rows. -/
def bdh (c : Dev nD) (t : Fin cfg0.N) : FVec Ideal S256x1024 .f32 :=
  k0_pay10 (k0_pay7 (iblk m c 0 t) (View.ld (iblk m c 7 t) (Rect.unit (s := S3584x1024) ![0, 0] S512x1024.size inb_S3584x1024_S512x1024_0_0))
      (iblk m c 1 t) (View.ld (iblk m c 7 t) (Rect.unit (s := S3584x1024) ![512, 0] S1024x1024.size inb_S3584x1024_S1024x1024_512_0)))
    (iblk m c 2 t) (View.ld (iblk m c 7 t) (Rect.unit (s := S3584x1024) ![1536, 0] S1024x1024.size inb_S3584x1024_S1024x1024_1536_0))
    (iblk m c 3 t) (View.ld (iblk m c 7 t) (Rect.unit (s := S3584x1024) ![2560, 0] S1024x1024.size inb_S3584x1024_S1024x1024_2560_0))

theorem outs8 (c : Dev nD) (t : Fin cfg0.N) : (outs m c t.val t.isLt).1
    = k0_pay2 (bdh m c t) (k0_pay12 (iblk m c 4 t)) (k0_pay13 (iblk m c 4 t)) (iblk m c 6 t) (iblk m c 5 t) := by
  by_cases h0 : t.val % 8 = 0
  · rw [outs_A m c t h0]
    dsimp only
    unfold outA8 rA runA
    dsimp only
    sl_unfold_words
    rw [View.read_writes_full]
    simp only [View.readAt_eq_ld, Memref.IsWhole.read_unread, View.ld_unit_zero (S := S256x1024) hz, View.ld_unit_zero (S := S256x512) hz,
      View.ld_unit_zero (S := S1x1024) hz]
    try rfl
  · rw [outs_B m c t h0]
    dsimp only
    unfold outB8 rB runB
    dsimp only
    sl_unfold_words
    rw [View.read_writes_full]
    simp only [View.readAt_eq_ld, Memref.IsWhole.read_unread, View.ld_unit_zero (S := S256x1024) hz, View.ld_unit_zero (S := S256x512) hz,
      View.ld_unit_zero (S := S1x1024) hz]
    try rfl

theorem outs9 (c : Dev nD) (t : Fin cfg0.N) : (outs m c t.val t.isLt).2.1 = k0_pay1 (k0_pay13 (iblk m c 4 t)) (iblk m c 6 t) := by
  by_cases h0 : t.val % 8 = 0
  · rw [outs_A m c t h0]
    dsimp only
    unfold outA9 rA runA
    dsimp only
    sl_unfold_words
    rw [View.read_writes_full]
    simp only [View.readAt_eq_ld, Memref.IsWhole.read_unread, View.ld_unit_zero (S := S256x1024) hz, View.ld_unit_zero (S := S256x512) hz,
      View.ld_unit_zero (S := S1x1024) hz]
    try rfl
  · rw [outs_B m c t h0]
    dsimp only
    unfold outB9 rB runB
    dsimp only
    sl_unfold_words
    rw [View.read_writes_full]
    simp only [View.readAt_eq_ld, Memref.IsWhole.read_unread, View.ld_unit_zero (S := S256x1024) hz, View.ld_unit_zero (S := S256x512) hz,
      View.ld_unit_zero (S := S1x1024) hz]
    try rfl

/-- The block's contribution to the gain's gradient. -/
def part (c : Dev nD) (t : Fin cfg0.N) (j : Fin 1024) : EReal :=
  ∑ r : Fin 256, (bdh m c t (ix2 r j) : EReal) * (k0_pay13 (F := Ideal) (iblk m c 4 t) (ix2 r j) : EReal)

theorem outs10_A (c : Dev nD) (t : Fin cfg0.N) (h0 : t.val % 8 = 0) (r : Fin 8) (j : Fin 1024) :
    ((outs m c t.val t.isLt).2.2.1 (ix2 r j) : EReal) = if r.val = 0 then 0 + part m c t j else 0 := by
  rw [outs_A m c t h0]
  dsimp only
  unfold outA10 rA runA
  dsimp only
  sl_unfold_words
  rw [View.read_writes_cons_put _ _ _ _ _ rfl, View.read_writes_full]
  refine (Blocks.put_row _ 0 _ r j).trans ?_
  split
  · simp only [View.readAt_eq_ld, Memref.IsWhole.read_unread, View.ld_unit_zero (S := S256x1024) hz, View.ld_unit_zero (S := S256x512) hz,
      View.ld_unit_zero (S := S1x1024) hz]
    rw [pay3_apply]
    refine congrArg₂ (fun s s' : EReal => s + s') ?_ rfl
    rw [View.readCov, View.readAt_eq_ld, View.read_writes_full]
    exact (Blocks.ld_row (n := 8) _ 0 _ 0 j).trans Ideal.ofBits_zero_f32
  · exact Ideal.ofBits_zero_f32

theorem outs10_B (c : Dev nD) (t : Fin cfg0.N) (h0 : ¬ t.val % 8 = 0) (r : Fin 8) (j : Fin 1024) :
    ((outs m c t.val t.isLt).2.2.1 (ix2 r j) : EReal)
      = if r.val = 0 then (before m c t).2.2.1 (ix2 0 j) + part m c t j else (before m c t).2.2.1 (ix2 r j) := by
  rw [outs_B m c t h0]
  dsimp only
  unfold outB10 rB runB
  dsimp only
  sl_unfold_words
  rw [View.read_writes_cons_put _ _ _ _ _ rfl, View.writes_nil, Memref.IsWhole.read_unread]
  refine (Blocks.put_row _ 0 _ r j).trans ?_
  split
  · simp only [View.readAt_eq_ld, Memref.IsWhole.read_unread, View.ld_unit_zero (S := S256x1024) hz, View.ld_unit_zero (S := S256x512) hz,
      View.ld_unit_zero (S := S1x1024) hz]
    rw [pay3_apply]
    exact congrArg₂ (fun s s' : EReal => s + s') (Blocks.ld_row (n := 8) _ 0 _ 0 j) rfl
  · rfl

/-- The block's contribution to the bias' gradient. -/
def npart (c : Dev nD) (t : Fin cfg0.N) (k : Fin 3584) : EReal :=
  ∑ r : Fin 256, cat4 (n := 256) (iblk m c 0 t) (iblk m c 1 t) (iblk m c 2 t) (iblk m c 3 t) r k

/-- Row 0 with its four ranges replaced one after the other, each by what it held at first plus a number. -/
theorem put4 (y y1 y2 y3 : (⟨2, ![8, 3584]⟩ : Shape).Idx → EReal) (w0 : (⟨2, ![1, 512]⟩ : Shape).Idx → EReal) (w1 w2 w3 : (⟨2, ![1, 1024]⟩ : Shape).Idx → EReal)
    (e1 : y1 = VecWindow.put (s := ⟨2, ![8, 3584]⟩) y ![0, 0] ![1, 512] w0) (e2 : y2 = VecWindow.put (s := ⟨2, ![8, 3584]⟩) y1 ![0, 512] ![1, 1024] w1)
    (e3 : y3 = VecWindow.put (s := ⟨2, ![8, 3584]⟩) y2 ![0, 1536] ![1, 1024] w2)
    (f : Fin 3584 → EReal) (h0 : ∀ j : Fin 512, w0 (ix2 0 j) = y (ix2 0 ⟨j.val, by omega⟩) + f ⟨j.val, by omega⟩)
    (h1 : ∀ j : Fin 1024, w1 (ix2 0 j) = y (ix2 0 ⟨512 + j.val, by omega⟩) + f ⟨512 + j.val, by omega⟩)
    (h2 : ∀ j : Fin 1024, w2 (ix2 0 j) = y (ix2 0 ⟨1536 + j.val, by omega⟩) + f ⟨1536 + j.val, by omega⟩)
    (h3 : ∀ j : Fin 1024, w3 (ix2 0 j) = y (ix2 0 ⟨2560 + j.val, by omega⟩) + f ⟨2560 + j.val, by omega⟩) (r : Fin 8) (k : Fin 3584) :
    VecWindow.put (s := ⟨2, ![8, 3584]⟩) y3 ![0, 2560] ![1, 1024] w3 (ix2 r k) = if r.val = 0 then y (ix2 0 k) + f k else y (ix2 r k) := by
  by_cases hr : r.val = 0
  · obtain rfl : r = 0 := Fin.ext hr
    rw [if_pos hr, put_cols]
    by_cases c3 : 2560 ≤ k.val
    · rw [dif_pos ⟨rfl, c3, by omega⟩, h3]
      have : (⟨2560 + (k.val - 2560), by omega⟩ : Fin 3584) = k := Fin.ext (by show 2560 + (k.val - 2560) = k.val; omega)
      rw [this]
    rw [dif_neg (fun h => c3 h.2.1), e3, put_cols]
    by_cases c2 : 1536 ≤ k.val
    · rw [dif_pos ⟨rfl, c2, by omega⟩, h2]
      have : (⟨1536 + (k.val - 1536), by omega⟩ : Fin 3584) = k := Fin.ext (by show 1536 + (k.val - 1536) = k.val; omega)
      rw [this]
    rw [dif_neg (fun h => c2 h.2.1), e2, put_cols]
    by_cases c1 : 512 ≤ k.val
    · rw [dif_pos ⟨rfl, c1, by omega⟩, h1]
      have : (⟨512 + (k.val - 512), by omega⟩ : Fin 3584) = k := Fin.ext (by show 512 + (k.val - 512) = k.val; omega)
      rw [this]
    rw [dif_neg (fun h => c1 h.2.1), e1, put_cols, dif_pos ⟨rfl, Nat.zero_le _, by omega⟩, h0]
    rfl
  · rw [if_neg hr, put_cols, dif_neg (fun h => hr h.1), e3, put_cols, dif_neg (fun h => hr h.1), e2, put_cols, dif_neg (fun h => hr h.1),
      e1, put_cols, dif_neg (fun h => hr h.1)]

theorem outs11_A (c : Dev nD) (t : Fin cfg0.N) (h0 : t.val % 8 = 0) (r : Fin 8) (k : Fin 3584) :
    ((outs m c t.val t.isLt).2.2.2 (ix2 r k) : EReal) = if r.val = 0 then 0 + npart m c t k else 0 := by
  rw [outs_A m c t h0]
  dsimp only
  unfold outA11 rA runA
  dsimp only
  sl_unfold_words
  simp only [View.readAt_eq_ld, Memref.IsWhole.read_unread, View.ld_unit_zero (S := S256x1024) hz, View.ld_unit_zero (S := S256x512) hz]
  rw [View.read_writes_cons_put _ _ _ _ _ rfl, View.read_writes_cons_put _ _ _ _ _ rfl, View.read_writes_cons_put _ _ _ _ _ rfl,
    View.read_writes_cons_put _ _ _ _ _ rfl, View.read_writes_full]
  refine (put4 _ _ _ _ _ _ _ _ rfl rfl rfl (npart m c t) ?_ ?_ ?_ ?_ r k).trans ?_
  · intro j
    refine (pay6_apply _ _ 0 j).trans (congrArg₂ (fun s s' : EReal => s + s') ?_ (Finset.sum_congr rfl fun r _ => (cat4_0 _ _ _ _ r j).symm))
    rw [View.readCov, View.readAt_eq_ld, View.read_writes_full]
    exact ld_part _ 0 0 _ 0 j 0 _ rfl (by simp)
  · intro j
    refine (pay8_apply _ _ 0 j).trans (congrArg₂ (fun s s' : EReal => s + s') ?_ (Finset.sum_congr rfl fun r _ => (cat4_1 _ _ _ _ r j).symm))
    rw [View.readCov, View.readAt_eq_ld, View.read_writes_cons_put _ _ _ _ _ rfl, View.read_writes_full]
    refine (ld_part _ 0 512 _ 0 j 0 ⟨512 + j.val, by omega⟩ rfl rfl).trans ?_
    refine (put_cols _ 0 _ 0 _).trans ((dif_neg (by show ¬(_ ∧ _ ∧ 512 + j.val < 0 + 512); omega)).trans ?_)
    rfl
  · intro j
    refine (pay9_apply _ _ 0 j).trans (congrArg₂ (fun s s' : EReal => s + s') ?_ (Finset.sum_congr rfl fun r _ => (cat4_2 _ _ _ _ r j).symm))
    rw [View.readCov, View.readAt_eq_ld, View.read_writes_cons_put _ _ _ _ _ rfl, View.read_writes_cons_put _ _ _ _ _ rfl, View.read_writes_full]
    refine (ld_part _ 0 1536 _ 0 j 0 ⟨1536 + j.val, by omega⟩ rfl rfl).trans ?_
    refine (put_cols _ 512 _ 0 _).trans ((dif_neg (by show ¬(_ ∧ _ ∧ 1536 + j.val < 512 + 1024); omega)).trans ?_)
    refine (put_cols _ 0 _ 0 _).trans ((dif_neg (by show ¬(_ ∧ _ ∧ 1536 + j.val < 0 + 512); omega)).trans ?_)
    rfl
  · intro j
    refine (pay11_apply _ _ 0 j).trans (congrArg₂ (fun s s' : EReal => s + s') ?_ (Finset.sum_congr rfl fun r _ => (cat4_3 _ _ _ _ r j).symm))
    rw [View.readCov, View.readAt_eq_ld, View.read_writes_cons_put _ _ _ _ _ rfl, View.read_writes_cons_put _ _ _ _ _ rfl,
      View.read_writes_cons_put _ _ _ _ _ rfl, View.read_writes_full]
    refine (ld_part _ 0 2560 _ 0 j 0 ⟨2560 + j.val, by omega⟩ rfl rfl).trans ?_
    refine (put_cols _ 1536 _ 0 _).trans ((dif_neg (by show ¬(_ ∧ _ ∧ 2560 + j.val < 1536 + 1024); omega)).trans ?_)
    refine (put_cols _ 512 _ 0 _).trans ((dif_neg (by show ¬(_ ∧ _ ∧ 2560 + j.val < 512 + 1024); omega)).trans ?_)
    refine (put_cols _ 0 _ 0 _).trans ((dif_neg (by show ¬(_ ∧ _ ∧ 2560 + j.val < 0 + 512); omega)).trans ?_)
    rfl
  · exact congrArg (fun z : EReal => if r.val = 0 then z + npart m c t k else z) Ideal.ofBits_zero_f32

theorem outs11_B (c : Dev nD) (t : Fin cfg0.N) (h0 : ¬ t.val % 8 = 0) (r : Fin 8) (k : Fin 3584) :
    ((outs m c t.val t.isLt).2.2.2 (ix2 r k) : EReal)
      = if r.val = 0 then (before m c t).2.2.2 (ix2 0 k) + npart m c t k else (before m c t).2.2.2 (ix2 r k) := by
  rw [outs_B m c t h0]
  dsimp only
  unfold outB11 rB runB
  dsimp only
  sl_unfold_words
  simp only [View.readAt_eq_ld, Memref.IsWhole.read_unread, View.ld_unit_zero (S := S256x1024) hz, View.ld_unit_zero (S := S256x512) hz]
  rw [View.read_writes_cons_put _ _ _ _ _ rfl, View.read_writes_cons_put _ _ _ _ _ rfl, View.read_writes_cons_put _ _ _ _ _ rfl,
    View.read_writes_cons_put _ _ _ _ _ rfl, View.writes_nil, Memref.IsWhole.read_unread]
  refine put4 _ _ _ _ _ _ _ _ rfl rfl rfl (npart m c t) ?_ ?_ ?_ ?_ r k
  · intro j
    refine (pay6_apply _ _ 0 j).trans (congrArg₂ (fun s s' : EReal => s + s') ?_ (Finset.sum_congr rfl fun r _ => (cat4_0 _ _ _ _ r j).symm))
    exact ld_part _ 0 0 _ 0 j 0 _ rfl (by simp)
  · intro j
    refine (pay8_apply _ _ 0 j).trans (congrArg₂ (fun s s' : EReal => s + s') ?_ (Finset.sum_congr rfl fun r _ => (cat4_1 _ _ _ _ r j).symm))
    exact ld_part _ 0 512 _ 0 j 0 _ rfl rfl
  · intro j
    refine (pay9_apply _ _ 0 j).trans (congrArg₂ (fun s s' : EReal => s + s') ?_ (Finset.sum_congr rfl fun r _ => (cat4_2 _ _ _ _ r j).symm))
    exact ld_part _ 0 1536 _ 0 j 0 _ rfl rfl
  · intro j
    refine (pay11_apply _ _ 0 j).trans (congrArg₂ (fun s s' : EReal => s + s') ?_ (Finset.sum_congr rfl fun r _ => (cat4_3 _ _ _ _ r j).symm))
    exact ld_part _ 0 2560 _ 0 j 0 _ rfl rfl

/-- After point `n` row 0 holds the sum of the blocks' contributions up to `n`, the other rows zero. -/
theorem outs10 (c : Dev nD) (j : Fin 1024) : ∀ (n : ℕ) (hn : n < cfg0.N) (r : Fin 8), ((outs m c n hn).2.2.1 (ix2 r j) : EReal)
    = if r.val = 0 then ∑ t : Fin (n + 1), part m c ⟨t.val, Nat.lt_of_lt_of_le t.isLt hn⟩ j else 0
  | 0, hn, r => by
    rw [outs10_A m c ⟨0, hn⟩ rfl r j, zero_add, Fin.sum_univ_one]; rfl
  | n + 1, hn, r => by
    have hN : n + 1 < 8 := Nat.lt_of_lt_of_eq hn N_0
    rw [outs10_B m c ⟨n + 1, hn⟩ (by show ¬ (n + 1) % 8 = 0; omega) r j]
    show (if r.val = 0 then ((outs m c n _).2.2.1 (ix2 0 j) : EReal) + part m c ⟨n + 1, hn⟩ j else ((outs m c n _).2.2.1 (ix2 r j) : EReal)) = _
    rw [outs10 c j n (Nat.lt_of_succ_lt hn) 0, outs10 c j n (Nat.lt_of_succ_lt hn) r]
    by_cases h : r.val = 0
    · rw [if_pos h, if_pos h, if_pos (show (0 : Fin 8).val = 0 from rfl), Fin.sum_univ_castSucc (n := n + 1)]; rfl
    · rw [if_neg h, if_neg h, if_neg h]

/-- After point `n` row 0 holds the sum of the blocks' contributions to the bias up to `n`, the other rows zero. -/
theorem outs11 (c : Dev nD) (j : Fin 3584) : ∀ (n : ℕ) (hn : n < cfg0.N) (r : Fin 8), ((outs m c n hn).2.2.2 (ix2 r j) : EReal)
    = if r.val = 0 then ∑ t : Fin (n + 1), npart m c ⟨t.val, Nat.lt_of_lt_of_le t.isLt hn⟩ j else 0
  | 0, hn, r => by
    rw [outs11_A m c ⟨0, hn⟩ rfl r j, zero_add, Fin.sum_univ_one]; rfl
  | n + 1, hn, r => by
    have hN : n + 1 < 8 := Nat.lt_of_lt_of_eq hn N_0
    rw [outs11_B m c ⟨n + 1, hn⟩ (by show ¬ (n + 1) % 8 = 0; omega) r j]
    show (if r.val = 0 then ((outs m c n _).2.2.2 (ix2 0 j) : EReal) + npart m c ⟨n + 1, hn⟩ j else ((outs m c n _).2.2.2 (ix2 r j) : EReal)) = _
    rw [outs11 c j n (Nat.lt_of_succ_lt hn) 0, outs11 c j n (Nat.lt_of_succ_lt hn) r]
    by_cases h : r.val = 0
    · rw [if_pos h, if_pos h, if_pos (show (0 : Fin 8).val = 0 from rfl), Fin.sum_univ_castSucc (n := n + 1)]; rfl
    · rw [if_neg h, if_neg h, if_neg h]

end Cert.Kernel6Ideal.Inproj

end
-- ==== Proof.Inproj.lean ====
/- The backward of the input projection and its norm: the four result arrays of the kernel's run, as functions of the
   argument arrays. -/
module

public import proofs.«01_k».proof.Proof.InprojOuts

@[expose] public section

noncomputable section

namespace Cert.Kernel6Ideal.Inproj

open Cert.Kernel6Ideal Cert.Kernel6Ideal.Gen Idealize.ShloMosaic Idealize.ShloMosaic.TcCoe Idealize.SL.Sem
open Idealize.ShloMosaic.Pipeline (Dat)
open Idealize.ShloMosaic.ValueIdx
open Cert.Blocks (hz)
open InprojF
open scoped BigOperators

variable (m : (ℓ : Loc nD τ sig) → Buf (Elt Ideal) ℓ)

/-! ## The blocks the points read and write -/

/-- Row `256 t + r` of the long arrays. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0)
    ∧ (win0_9.index t 0 = t.val ∧ win0_9.index t 1 = 0)
    ∧ (win0_10.index t 0 = 0 ∧ win0_10.index t 1 = 0)
    ∧ (win0_11.index t 0 = 0 ∧ win0_11.index t 1 = 0) := by decide +kernel

theorem emb0 (t : Fin cfg0.N) (r : Fin 256) (k : Fin 512) : (win0_0.rect t).emb (ix2 r k) = ix2 (row t r) k := by
  refine Shape.idx_ext₂ ?_ ?_
  · rw [Pipeline.Window.rect_emb_val win0_0 t _ 0 rfl, (idx_facts t).1.1]; rfl
  · rw [Pipeline.Window.rect_emb_val win0_0 t _ 1 rfl, (idx_facts t).1.2]; show 0 * 512 + k.val = k.val; omega
theorem emb1 (t : Fin cfg0.N) (r : Fin 256) (k : Fin 1024) : (win0_1.rect t).emb (ix2 r k) = ix2 (row t r) k := by
  refine Shape.idx_ext₂ ?_ ?_
  · rw [Pipeline.Window.rect_emb_val win0_1 t _ 0 rfl, (idx_facts t).2.1.1]; rfl
  · rw [Pipeline.Window.rect_emb_val win0_1 t _ 1 rfl, (idx_facts t).2.1.2]; show 0 * 1024 + k.val = k.val; omega
theorem emb2 (t : Fin cfg0.N) (r : Fin 256) (k : Fin 1024) : (win0_2.rect t).emb (ix2 r k) = ix2 (row t r) k := emb1 t r k
theorem emb3 (t : Fin cfg0.N) (r : Fin 256) (k : Fin 1024) : (win0_3.rect t).emb (ix2 r k) = ix2 (row t r) k := emb1 t r k
theorem emb4 (t : Fin cfg0.N) (r : Fin 256) (k : Fin 1024) : (win0_4.rect t).emb (ix2 r k) = ix2 (row t r) k := emb1 t r k
theorem emb5 (t : Fin cfg0.N) (r : Fin 256) (k : Fin 1024) : (win0_5.rect t).emb (ix2 r k) = ix2 (row t r) k := emb1 t r k
theorem emb6 (t : Fin cfg0.N) (r : Fin 1) (k : Fin 1024) : (win0_6.rect t).emb (ix2 r k) = ix2 r k := by
  refine Shape.idx_ext₂ ?_ ?_
  · rw [Pipeline.Window.rect_emb_val win0_6 t _ 0 rfl, (idx_facts t).2.2.2.2.2.2.1.1]; show 0 * 1 + r.val = r.val; omega
  · rw [Pipeline.Window.rect_emb_val win0_6 t _ 1 rfl, (idx_facts t).2.2.2.2.2.2.1.2]; show 0 * 1024 + k.val = k.val; omega
theorem emb7 (t : Fin cfg0.N) (r : Fin 3584) (k : Fin 1024) : (win0_7.rect t).emb (ix2 r k) = ix2 r k := by
  refine Shape.idx_ext₂ ?_ ?_
  · rw [Pipeline.Window.rect_emb_val win0_7 t _ 0 rfl, (idx_facts t).2.2.2.2.2.2.2.1.1]; show 0 * 3584 + r.val = r.val; omega
  · rw [Pipeline.Window.rect_emb_val win0_7 t _ 1 rfl, (idx_facts t).2.2.2.2.2.2.2.1.2]; show 0 * 1024 + k.val = k.val; omega
theorem emb8 (t : Fin cfg0.N) (r : Fin 256) (k : Fin 1024) : (win0_8.rect t).emb (ix2 r k) = ix2 (row t r) k := emb1 t r k
theorem emb9 (t : Fin cfg0.N) (r : Fin 256) (k : Fin 1024) : (win0_9.rect t).emb (ix2 r k) = ix2 (row t r) k := emb1 t r k
theorem emb10 (t : Fin cfg0.N) (r : Fin 8) (k : Fin 1024) : (win0_10.rect t).emb (ix2 r k) = ix2 r k := by
  refine Shape.idx_ext₂ ?_ ?_
  · rw [Pipeline.Window.rect_emb_val win0_10 t _ 0 rfl, (idx_facts t).2.2.2.2.2.2.2.2.2.2.1.1]; show 0 * 8 + r.val = r.val; omega
  · rw [Pipeline.Window.rect_emb_val win0_10 t _ 1 rfl, (idx_facts t).2.2.2.2.2.2.2.2.2.2.1.2]; show 0 * 1024 + k.val = k.val; omega
theorem emb11 (t : Fin cfg0.N) (r : Fin 8) (k : Fin 3584) : (win0_11.rect t).emb (ix2 r k) = ix2 r k := by
  refine Shape.idx_ext₂ ?_ ?_
  · rw [Pipeline.Window.rect_emb_val win0_11 t _ 0 rfl, (idx_facts t).2.2.2.2.2.2.2.2.2.2.2.1]; show 0 * 8 + r.val = r.val; omega
  · rw [Pipeline.Window.rect_emb_val win0_11 t _ 1 rfl, (idx_facts t).2.2.2.2.2.2.2.2.2.2.2.2]; show 0 * 3584 + k.val = k.val; omega

variable (c : Dev nD)

theorem blk0 (t : Fin cfg0.N) (r : Fin 256) (k : Fin 512) : iblk m c 0 t (ix2 r k) = m ((c : Thread nD τ).loc main_arg0) (ix2 (row t r) k) := by
  show m ((c : Thread nD τ).loc main_arg0) ((win0_0.rect t).emb (ix2 r k)) = _
  rw [emb0]
theorem blk1 (t : Fin cfg0.N) (r : Fin 256) (k : Fin 1024) : iblk m c 1 t (ix2 r k) = m ((c : Thread nD τ).loc main_arg1) (ix2 (row t r) k) := by
  show m ((c : Thread nD τ).loc main_arg1) ((win0_1.rect t).emb (ix2 r k)) = _
  rw [emb1]
theorem blk2 (t : Fin cfg0.N) (r : Fin 256) (k : Fin 1024) : iblk m c 2 t (ix2 r k) = m ((c : Thread nD τ).loc main_arg2) (ix2 (row t r) k) := by
  show m ((c : Thread nD τ).loc main_arg2) ((win0_2.rect t).emb (ix2 r k)) = _
  rw [emb2]
theorem blk3 (t : Fin cfg0.N) (r : Fin 256) (k : Fin 1024) : iblk m c 3 t (ix2 r k) = m ((c : Thread nD τ).loc main_arg3) (ix2 (row t r) k) := by
  show m ((c : Thread nD τ).loc main_arg3) ((win0_3.rect t).emb (ix2 r k)) = _
  rw [emb3]
theorem blk4 (t : Fin cfg0.N) (r : Fin 256) (k : Fin 1024) : iblk m c 4 t (ix2 r k) = m ((c : Thread nD τ).loc main_arg4) (ix2 (row t r) k) := by
  show m ((c : Thread nD τ).loc main_arg4) ((win0_4.rect t).emb (ix2 r k)) = _
  rw [emb4]
theorem blk5 (t : Fin cfg0.N) (r : Fin 256) (k : Fin 1024) : iblk m c 5 t (ix2 r k) = m ((c : Thread nD τ).loc main_arg5) (ix2 (row t r) k) := by
  show m ((c : Thread nD τ).loc main_arg5) ((win0_5.rect t).emb (ix2 r k)) = _
  rw [emb5]
/-- The gain is laid down as one row before the launch. -/
theorem blk6 (t : Fin cfg0.N) (r : Fin 1) (k : Fin 1024) : (iblk m c 6 t (ix2 r k) : EReal) = m ((c : Thread nD τ).loc main_arg6) (ix1 k) := by
  show V m c main_v0 ((win0_6.rect t).emb (ix2 r k)) = _
  rw [emb6]
  entry_read
  exact Blocks.rowCast _ _ r k
/-- The weight is transposed before the launch. -/
theorem blk7 (t : Fin cfg0.N) (r : Fin 3584) (k : Fin 1024) : (iblk m c 7 t (ix2 r k) : EReal) = m ((c : Thread nD τ).loc main_arg7) (ix2 k r) := by
  show V m c main_v2 ((win0_7.rect t).emb (ix2 r k)) = _
  rw [emb7]
  entry_read
  exact congrArg (m ((c : Thread nD τ).loc main_arg7)) (Shape.idx_ext₂ rfl rfl)

/-! ## The blocks written back are blocks of the whole arrays -/

abbrev A0 : S2048x512.Idx → EReal := m ((c : Thread nD τ).loc main_arg0)
abbrev A1 : S2048x1024.Idx → EReal := m ((c : Thread nD τ).loc main_arg1)
abbrev A2 : S2048x1024.Idx → EReal := m ((c : Thread nD τ).loc main_arg2)
abbrev A3 : S2048x1024.Idx → EReal := m ((c : Thread nD τ).loc main_arg3)
abbrev A4 : S2048x1024.Idx → EReal := m ((c : Thread nD τ).loc main_arg4)
abbrev A5 : S2048x1024.Idx → EReal := m ((c : Thread nD τ).loc main_arg5)
abbrev A6 : S1024.Idx → EReal := m ((c : Thread nD τ).loc main_arg6)
abbrev A7 : S1024x3584.Idx → EReal := m ((c : Thread nD τ).loc main_arg7)

/-- The block's rows of the four arrays side by side are rows of the whole arrays side by side. -/
theorem cat4_blk (t : Fin cfg0.N) (r : Fin 256) (k : Fin 3584) :
    cat4 (n := 256) (iblk m c 0 t) (iblk m c 1 t) (iblk m c 2 t) (iblk m c 3 t) r k = cat4 (A0 m c) (A1 m c) (A2 m c) (A3 m c) (row t r) k := by
  unfold cat4
  split
  · exact blk0 m c t r _
  split
  · exact blk1 m c t r _
  split
  · exact blk2 m c t r _
  · exact blk3 m c t r _

theorem bdh_blk (t : Fin cfg0.N) (r : Fin 256) (j : Fin 1024) : (bdh m c t (ix2 r j) : EReal) = dh (A0 m c) (A1 m c) (A2 m c) (A3 m c) (A7 m c) (row t r) j := by
  unfold bdh dh
  rw [pay_dh, sum4]
  refine congrArg₂ (· + ·) (congrArg₂ (· + ·) (congrArg₂ (· + ·) ?_ ?_) ?_) ?_
  · refine Finset.sum_congr rfl fun k _ => congrArg₂ (fun a b : EReal => a * b) ((blk0 m c t r k).trans (cat4_0 _ _ _ _ _ k).symm) ?_
    exact (ld_part _ 0 0 _ k j ⟨k.val, by omega⟩ j (by simp) (by simp)).trans (blk7 m c t _ j)
  · refine Finset.sum_congr rfl fun k _ => congrArg₂ (fun a b : EReal => a * b) ((blk1 m c t r k).trans (cat4_1 _ _ _ _ _ k).symm) ?_
    exact (ld_part _ 512 0 _ k j ⟨512 + k.val, by omega⟩ j rfl (by simp)).trans (blk7 m c t _ j)
  · refine Finset.sum_congr rfl fun k _ => congrArg₂ (fun a b : EReal => a * b) ((blk2 m c t r k).trans (cat4_2 _ _ _ _ _ k).symm) ?_
    exact (ld_part _ 1536 0 _ k j ⟨1536 + k.val, by omega⟩ j rfl (by simp)).trans (blk7 m c t _ j)
  · refine Finset.sum_congr rfl fun k _ => congrArg₂ (fun a b : EReal => a * b) ((blk3 m c t r k).trans (cat4_3 _ _ _ _ _ k).symm) ?_
    exact (ld_part _ 2560 0 _ k j ⟨2560 + k.val, by omega⟩ j rfl (by simp)).trans (blk7 m c t _ j)

theorem x_row (t : Fin cfg0.N) (r : Fin 256) : (fun k => iblk m c 4 t (ix2 r k) : Fin 1024 → EReal) = fun k => A4 m c (ix2 (row t r) k) :=
  funext fun k => blk4 m c t r k

theorem flushed8_eq (t : Fin cfg0.N) :
    (dats m 0 c).flushed 8 t = (win0_8.blk t).view.read (Elt Ideal) (gX (A0 m c) (A1 m c) (A2 m c) (A3 m c) (A4 m c) (A5 m c) (A6 m c) (A7 m c)) := by
  show (cfg0.win 8).cut (grid0.coords t) ((dats m 0 c).after 8 t) = _
  rw [after8, outs8]
  funext i
  obtain ⟨r, j, rfl⟩ : ∃ (r : Fin 256) (j : Fin 1024), i = ix2 r j := ⟨_, _, eq_ix2 i⟩
  refine (pay2_apply _ _ _ _ r j).trans ?_
  show _ = gX _ _ _ _ _ _ _ _ ((win0_8.rect t).emb (ix2 r j))
  rw [emb8, x_row]
  unfold gX
  refine congrArg₂ (· + ·) (blk5 m c t r j) (congrArg (fun d => Rms.bwd _ d j) (funext fun k => ?_))
  rw [bdh_blk, blk6]

theorem flushed9_eq (t : Fin cfg0.N) :
    (dats m 0 c).flushed 9 t = (win0_9.blk t).view.read (Elt Ideal) (gH (A4 m c) (A6 m c)) := by
  show (cfg0.win 9).cut (grid0.coords t) ((dats m 0 c).after 9 t) = _
  rw [after9, outs9]
  funext i
  obtain ⟨r, j, rfl⟩ : ∃ (r : Fin 256) (j : Fin 1024), i = ix2 r j := ⟨_, _, eq_ix2 i⟩
  refine (pay1_apply _ _ r j).trans ?_
  show _ = gH _ _ ((win0_9.rect t).emb (ix2 r j))
  rw [emb9, x_row, blk4 m c t r j, blk6]
  rfl

/-- The contributions of all blocks are the contributions of all rows. -/
theorem part_sum (j : Fin 1024) : ∑ t : Fin 8, part m c t j = ∑ r, dgain (A0 m c) (A1 m c) (A2 m c) (A3 m c) (A4 m c) (A7 m c) r j := by
  rw [← Blocks.sum_rows]
  refine Finset.sum_congr rfl fun (t : Fin cfg0.N) _ => Finset.sum_congr rfl fun r _ => ?_
  show (bdh m c t (ix2 r j) : EReal) * (k0_pay13 (F := Ideal) (iblk m c 4 t) (ix2 r j) : EReal) = dgain _ _ _ _ _ _ (row t r) j
  rw [bdh_blk, pay13_apply, x_row, blk4 m c t r j]
  rfl

theorem npart_sum (k : Fin 3584) : ∑ t : Fin 8, npart m c t k = ∑ r, cat4 (A0 m c) (A1 m c) (A2 m c) (A3 m c) r k := by
  rw [← Blocks.sum_rows]
  exact Finset.sum_congr rfl fun (t : Fin cfg0.N) _ => Finset.sum_congr rfl fun r _ => cat4_blk m c t r k

theorem flushed10_eq (t : Fin cfg0.N) (hf : (cfg0.win 10).flush t = true) :
    (dats m 0 c).flushed 10 t = (win0_10.blk t).view.read (Elt Ideal) (gVd (A0 m c) (A1 m c) (A2 m c) (A3 m c) (A4 m c) (A7 m c)) := by
  have h7 : t.val % 8 = 7 := (flush0_10 t).mp hf
  have hN : t.val < 8 := t.isLt
  obtain rfl : t = ⟨7, by decide⟩ := Fin.ext (by show t.val = 7; omega)
  show (cfg0.win 10).cut (grid0.coords _) ((dats m 0 c).after 10 _) = _
  rw [after10]
  funext i
  obtain ⟨r, j, rfl⟩ : ∃ (r : Fin 8) (j : Fin 1024), i = ix2 r j := ⟨_, _, eq_ix2 i⟩
  refine (outs10 m c j 7 (by decide) r).trans ?_
  show _ = gVd _ _ _ _ _ _  ((win0_10.rect _).emb (ix2 r j))
  rw [emb10]
  unfold gVd
  exact congrArg (fun s : EReal => if r.val = 0 then s else 0) (part_sum m c j)

theorem flushed11_eq (t : Fin cfg0.N) (hf : (cfg0.win 11).flush t = true) :
    (dats m 0 c).flushed 11 t = (win0_11.blk t).view.read (Elt Ideal) (gVn (A0 m c) (A1 m c) (A2 m c) (A3 m c)) := by
  have h7 : t.val % 8 = 7 := (flush0_11 t).mp hf
  have hN : t.val < 8 := t.isLt
  obtain rfl : t = ⟨7, by decide⟩ := Fin.ext (by show t.val = 7; omega)
  show (cfg0.win 11).cut (grid0.coords _) ((dats m 0 c).after 11 _) = _
  rw [after11]
  funext i
  obtain ⟨r, j, rfl⟩ : ∃ (r : Fin 8) (j : Fin 3584), i = ix2 r j := ⟨_, _, eq_ix2 i⟩
  refine (outs11 m c j 7 (by decide) r).trans ?_
  show _ = gVn _ _ _ _  ((win0_11.rect _).emb (ix2 r j))
  rw [emb11]
  unfold gVn
  exact congrArg (fun s : EReal => if r.val = 0 then s else 0) (npart_sum m c j)

theorem row_surj (i : S2048x1024.Idx) : ∃ (t : Fin cfg0.N) (r : Fin 256) (j : Fin 1024), i = ix2 (row t r) j := by
  have h0 : (i 0 : Nat) < 2048 := (i 0).isLt
  refine ⟨⟨(i 0 : Nat) / 256, by show (i 0 : Nat) / 256 < 8; omega⟩, ⟨(i 0 : Nat) % 256, by omega⟩, i 1, Shape.idx_ext₂ ?_ rfl⟩
  show (i 0 : Nat) = (i 0 : Nat) / 256 * 256 + (i 0 : Nat) % 256
  omega

theorem cover8 (i : S2048x1024.Idx) : ∃ t : Fin cfg0.N, (cfg0.win 8).flush t = true ∧ i ∈ ((cfg0.win 8).blk t).view.set := by
  obtain ⟨t, r, j, rfl⟩ := row_surj i
  refine ⟨t, flush0_8 t, ?_⟩
  rw [← emb8]
  exact View.emb_mem_set (win0_8.blk t).view (ix2 r j)

theorem cover9 (i : S2048x1024.Idx) : ∃ t : Fin cfg0.N, (cfg0.win 9).flush t = true ∧ i ∈ ((cfg0.win 9).blk t).view.set := by
  obtain ⟨t, r, j, rfl⟩ := row_surj i
  refine ⟨t, flush0_9 t, ?_⟩
  rw [← emb9]
  exact View.emb_mem_set (win0_9.blk t).view (ix2 r j)

theorem cover10 (i : S8x1024.Idx) : ∃ t : Fin cfg0.N, (cfg0.win 10).flush t = true ∧ i ∈ ((cfg0.win 10).blk t).view.set := by
  obtain ⟨r, j, rfl⟩ : ∃ (r : Fin 8) (j : Fin 1024), i = ix2 r j := ⟨_, _, eq_ix2 i⟩
  refine ⟨⟨7, by decide⟩, (flush0_10 _).mpr rfl, ?_⟩
  rw [← emb10 ⟨7, by decide⟩]
  exact View.emb_mem_set (win0_10.blk _).view (ix2 r j)

theorem cover11 (i : S8x3584.Idx) : ∃ t : Fin cfg0.N, (cfg0.win 11).flush t = true ∧ i ∈ ((cfg0.win 11).blk t).view.set := by
  obtain ⟨r, j, rfl⟩ : ∃ (r : Fin 8) (j : Fin 3584), i = ix2 r j := ⟨_, _, eq_ix2 i⟩
  refine ⟨⟨7, by decide⟩, (flush0_11 _).mpr rfl, ?_⟩
  rw [← emb11 ⟨7, by decide⟩]
  exact View.emb_mem_set (win0_11.blk _).view (ix2 r j)

/-- The run, read: the four result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = gX (A0 m c) (A1 m c) (A2 m c) (A3 m c) (A4 m c) (A5 m c) (A6 m c) (A7 m c)
      ∧ r.2.mem ((c : Thread nD τ).loc main_v3_1) = gH (A4 m c) (A6 m c)
      ∧ r.2.mem ((c : Thread nD τ).loc main_v3_2) = gVd (A0 m c) (A1 m c) (A2 m c) (A3 m c) (A4 m c) (A7 m c)
      ∧ r.2.mem ((c : Thread nD τ).loc main_v3_3) = gVn (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h c).1 8).trans ((dats m 0 c).arrAt_eq_of_cover 8 _ (fun t _ => flushed8_eq m c t) cover8),
      ((h c).1 9).trans ((dats m 0 c).arrAt_eq_of_cover 9 _ (fun t _ => flushed9_eq m c t) cover9),
      ((h c).1 10).trans ((dats m 0 c).arrAt_eq_of_cover 10 _ (fun t hf => flushed10_eq m c t hf) cover10),
      ((h c).1 11).trans ((dats m 0 c).arrAt_eq_of_cover 11 _ (fun t hf => flushed11_eq m c t hf) cover11),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel6Ideal.Inproj

end
-- ==== Proof.InprojEq.lean ====
/- The equation of the backward of the input projection and its norm: the derivative that `jax.vjp` takes of
   `x, rms_norm(x) @ w_in + b` is what the kernel's own formula gives. The rows' cotangent needs finite arguments; the
   gradients of the gain and the bias and the normed rows are equal for all. -/
module

public import proofs.«01_k».proof.Proof.Inproj
public import proofs.«01_k».proof.Proof.Gen.Reference6Ideal.Run
public import proofs.«01_k».proof.Proof.Gen.Reference6Ideal.Read

@[expose] public section

noncomputable section

namespace Cert.InprojEq

open Cert.Reference6Ideal Cert.Reference6Ideal.Read Idealize.ShloMosaic Idealize.ShloMosaic.TcCoe Idealize.SL.Sem
open Idealize.ShloMosaic.ValueIdx Cert.Reals
open Cert.Kernel6Ideal.Inproj (cat4 cat4_0 dh gX gH dgain gVd gVn)
open scoped BigOperators

variable (x0 : S2048x512.Idx → EReal) (x1 x2 x3 x4 x5 : S2048x1024.Idx → EReal) (x6 : S1024.Idx → EReal) (x7 : S1024x3584.Idx → EReal)

/-- The mean square of a row and the small number. -/
theorem ref_msq (r : Fin 2048) (u : Fin 1) : val_main_v9 (F := Ideal) x4 (ix2 r u) = Rms.msq (fun k => x4 (ix2 r k)) := by
  show Ideal.div (val_main_v5 (F := Ideal) x4 (ix2 r u)) (val_main_v6 (F := Ideal) (ix2 r u)) + val_main_v8 (F := Ideal) (ix2 r u) = _
  rw [val_main_v5_apply, val_main_v4_apply, val_main_v6_apply, val_main_v8_apply]
  show Ideal.div (Ideal.ofBits .f32 0x00000000#32 + _) Rms.cN + Rms.cEps = _
  rw [Ideal.ofBits_zero_f32, zero_add]
  refine congrArg (fun s => Ideal.div s Rms.cN + Rms.cEps) (Finset.sum_congr rfl fun k _ => ?_)
  exact congrArg (fun i => x4 i * x4 i) (Shape.idx_ext₂ rfl rfl)

theorem ref_rinv (r : Fin 2048) (u : Fin 1) : val_main_v10 (F := Ideal) x4 (ix2 r u) = Rms.rinv (fun k => x4 (ix2 r k)) :=
  congrArg Ideal.rsqrt (ref_msq x4 r u)

theorem ref_rinv' (i : S2048x1024.Idx) : val_main_v14 (F := Ideal) x4 i = Rms.rinv (fun k => x4 (ix2 (i 0) k)) := by
  rw [val_main_v14_apply]
  exact (congrArg (val_main_v10 (F := Ideal) x4) (show idx_main_v14 i = ix2 (n0 := 2048) (n1 := 1) (i 0) 0 from Shape.idx_ext₂ rfl rfl)).trans (ref_rinv x4 (i 0) 0)

/-- The normed rows, computed again for the second result. -/
theorem h_eq : val_main_v61 (F := Ideal) x4 x6 = gH x4 x6 := by
  funext i
  show (x4 i * val_main_v14 (F := Ideal) x4 i) * val_main_v17 (F := Ideal) x6 i = _
  rw [ref_rinv', val_main_v17_apply, val_main_v16_apply]
  exact congrArg (fun k => (x4 i * Rms.rinv (fun k => x4 (ix2 (i 0) k))) * x6 k) (funext fun a => by fin_cases a; rfl)

/-- The four arrays joined. -/
theorem ref_cat (r : Fin 2048) (k : Fin 3584) : (val_main_v1 (F := Ideal) x0 x1 x2 x3 (ix2 r k) : EReal) = cat4 x0 x1 x2 x3 r k := by
  show (val_main_v0 (F := Ideal) x0 x1 x2 x3 (ix2 r k) : EReal) = _
  unfold val_main_v0 cat4
  have hb {n : Nat} (q : Fin n) : ∀ b : Fin 2, b.cast rfl ≠ (1 : Fin 2) → (ix2 (n0 := 2048) r q b).val = (ix2 (n0 := 2048) r k (b.cast rfl)).val :=
    fun b hb => by fin_cases b <;> first | rfl | exact absurd rfl hb
  split
  next h0 =>
    exact concatenate_apply_piece (t := S2048x3584) 1 _ _ (ix2 r k) 0 (by show 0 < 4; omega) S2048x512 x0 rfl rfl 0 rfl (ix2 r ⟨k.val, h0⟩) (hb _)
      (by show 0 + k.val = k.val; omega)
  split
  next h0 h1 =>
    exact concatenate_apply_piece (t := S2048x3584) 1 _ _ (ix2 r k) 1 (by show 1 < 4; omega) S2048x1024 x1 rfl rfl 512 rfl (ix2 r ⟨k.val - 512, by omega⟩) (hb _)
      (by show 512 + (k.val - 512) = k.val; omega)
  split
  next h0 h1 h2 =>
    exact concatenate_apply_piece (t := S2048x3584) 1 _ _ (ix2 r k) 2 (by show 2 < 4; omega) S2048x1024 x2 rfl rfl 1536 rfl (ix2 r ⟨k.val - 1536, by omega⟩) (hb _)
      (by show 1536 + (k.val - 1536) = k.val; omega)
  next h0 h1 h2 =>
    exact concatenate_apply_piece (t := S2048x3584) 1 _ _ (ix2 r k) 3 (by show 3 < 4; omega) S2048x1024 x3 rfl rfl 2560 rfl (ix2 r ⟨k.val - 2560, by omega⟩) (hb _)
      (by show 2560 + (k.val - 2560) = k.val; omega)

/-- The cotangent of the normed rows. -/
theorem ref_dh (r : Fin 2048) (j : Fin 1024) : val_main_v26 (F := Ideal) x0 x1 x2 x3 x7 (ix2 r j) = dh x0 x1 x2 x3 x7 r j := by
  rw [val_main_v26_apply]
  refine Finset.sum_congr rfl fun k _ => ?_
  have el : lidx_main_v26 (ix2 r j) k = ix2 r k := Shape.idx_ext₂ rfl rfl
  have er : ridx_main_v26 (ix2 r j) k = ix2 j k := Shape.idx_ext₂ rfl rfl
  rw [el, er, ref_cat]

/-- The cotangent of the normed rows before the gain. -/
theorem ref_dxn (r : Fin 2048) (j : Fin 1024) : val_main_v31 (F := Ideal) x0 x1 x2 x3 x6 x7 (ix2 r j) = dh x0 x1 x2 x3 x7 r j * x6 (ix1 j) := by
  show val_main_v26 (F := Ideal) x0 x1 x2 x3 x7 (ix2 r j) * val_main_v30 (F := Ideal) x6 (ix2 r j) = _
  rw [ref_dh, val_main_v30_apply, val_main_v16_apply]
  exact congrArg (fun k => dh x0 x1 x2 x3 x7 r j * x6 k) (funext fun a => by fin_cases a; rfl)

/-- The gain's gradient, a row of its own. -/
theorem ref_gain (j : Fin 1024) : val_main_v62 (F := Ideal) x0 x1 x2 x3 x4 x7 (ix2 0 j) = ∑ r, dgain x0 x1 x2 x3 x4 x7 r j := by
  rw [val_main_v62_apply, val_main_v32_apply, Fin.sum_univ_one, val_main_v29_apply, val_main_v28_apply]
  show Ideal.ofBits .f32 0x00000000#32 + (Ideal.ofBits .f32 0x00000000#32 + _) = _
  rw [Ideal.ofBits_zero_f32, zero_add, zero_add]
  refine Finset.sum_congr rfl fun r _ => ?_
  have e : idx_main_v28 (idx_main_v29 (idx_main_v32 (idx_main_v62 (ix2 0 j)) 0)) r = ix2 r j :=
    Shape.idx_ext₂ rfl (by show 0 * 1024 + (0 * 1024 + j.val) = j.val; omega)
  rw [e]
  show (x4 (ix2 r j) * val_main_v14 (F := Ideal) x4 (ix2 r j)) * val_main_v26 (F := Ideal) x0 x1 x2 x3 x7 (ix2 r j) = _
  rw [ref_rinv', ref_dh]
  exact mul_comm _ _

/-- The bias' gradient, a row of its own. -/
theorem ref_bias (j : Fin 3584) : val_main_v65 (F := Ideal) x0 x1 x2 x3 (ix2 0 j) = ∑ r, cat4 x0 x1 x2 x3 r j := by
  rw [val_main_v65_apply, val_main_v25_apply, Fin.sum_univ_one, val_main_v24_apply, val_main_v23_apply]
  show Ideal.ofBits .f32 0x00000000#32 + (Ideal.ofBits .f32 0x00000000#32 + _) = _
  rw [Ideal.ofBits_zero_f32, zero_add, zero_add]
  refine Finset.sum_congr rfl fun r _ => ?_
  have e : idx_main_v23 (idx_main_v24 (idx_main_v25 (idx_main_v65 (ix2 0 j)) 0)) r = ix2 r j :=
    Shape.idx_ext₂ rfl (by show 0 * 3584 + (0 * 3584 + j.val) = j.val; omega)
  rw [e, ref_cat]

/-- The gain's gradient in row 0 of eight rows, zeros below. -/
theorem vd_eq : val_main_v64 (F := Ideal) x0 x1 x2 x3 x4 x7 = gVd x0 x1 x2 x3 x4 x7 := by
  funext i
  obtain ⟨r, j, rfl⟩ : ∃ (r : Fin 8) (j : Fin 1024), i = ix2 r j := ⟨_, _, eq_ix2 i⟩
  unfold val_main_v64 gVd
  by_cases hr : r.val = 0
  · obtain rfl : r = 0 := Fin.ext hr
    refine Eq.trans ?_ (if_pos (show (ix2 (0 : Fin 8) j 0).val = 0 from rfl)).symm
    exact (concatenate_pair_apply_left (0 : Fin S8x1024.rank) _ _ Gen.concatenates_S1x1024_S7x1024_S8x1024_d0 _ rfl (ix2 0 j)
      (fun b => by fin_cases b <;> rfl)).trans (ref_gain x0 x1 x2 x3 x4 x7 j)
  · refine Eq.trans ?_ (if_neg (show ¬(ix2 r j 0).val = 0 from hr)).symm
    exact (concatenate_pair_apply_right (0 : Fin S8x1024.rank) _ _ Gen.concatenates_S1x1024_S7x1024_S8x1024_d0 _ rfl rfl
      (ix2 (⟨r.val - 1, by omega⟩ : Fin 7) j) (fun b hb => by fin_cases b <;> first | exact absurd rfl hb | rfl)
      (by show r.val - 1 + 1 = r.val; omega)).trans Ideal.ofBits_zero_f32

/-- The bias' gradient in row 0 of eight rows, zeros below. -/
theorem vn_eq : val_main_v67 (F := Ideal) x0 x1 x2 x3 = gVn x0 x1 x2 x3 := by
  funext i
  obtain ⟨r, j, rfl⟩ : ∃ (r : Fin 8) (j : Fin 3584), i = ix2 r j := ⟨_, _, eq_ix2 i⟩
  unfold val_main_v67 gVn
  by_cases hr : r.val = 0
  · obtain rfl : r = 0 := Fin.ext hr
    refine Eq.trans ?_ (if_pos (show (ix2 (0 : Fin 8) j 0).val = 0 from rfl)).symm
    exact (concatenate_pair_apply_left (0 : Fin S8x3584.rank) _ _ Gen.concatenates_S1x3584_S7x3584_S8x3584_d0 _ rfl (ix2 0 j)
      (fun b => by fin_cases b <;> rfl)).trans (ref_bias x0 x1 x2 x3 j)
  · refine Eq.trans ?_ (if_neg (show ¬(ix2 r j 0).val = 0 from hr)).symm
    exact (concatenate_pair_apply_right (0 : Fin S8x3584.rank) _ _ Gen.concatenates_S1x3584_S7x3584_S8x3584_d0 _ rfl rfl
      (ix2 (⟨r.val - 1, by omega⟩ : Fin 7) j) (fun b hb => by fin_cases b <;> first | exact absurd rfl hb | rfl)
      (by show r.val - 1 + 1 = r.val; omega)).trans Ideal.ofBits_zero_f32

/-- The number of a row that the derivative of the square is a multiple of. -/
theorem ref_dsq (r : Fin 2048) (j : Fin 1024) : val_main_v43 (F := Ideal) x0 x1 x2 x3 x4 x6 x7 (ix2 r j)
    = Rms.dsq (fun k => x4 (ix2 r k)) (fun k => dh x0 x1 x2 x3 x7 r k * x6 (ix1 k)) := by
  rw [val_main_v43_apply, val_main_v42_apply, Fin.sum_univ_one]
  show Ideal.ofBits .f32 0x00000000#32 + Ideal.div (val_main_v35 (F := Ideal) x0 x1 x2 x3 x4 x6 x7 _ * (val_main_v12 (F := Ideal) _ * Ideal.div (val_main_v10 (F := Ideal) x4 _) (val_main_v9 (F := Ideal) x4 _))) (val_main_v40 (F := Ideal) _) = _
  rw [Ideal.ofBits_zero_f32, zero_add, val_main_v35_apply, val_main_v34_apply, val_main_v12_apply, val_main_v40_apply]
  have e : idx_main_v42 (idx_main_v43 (ix2 r j)) 0 = ix2 r 0 := Shape.idx_ext₂ rfl rfl
  rw [e, ref_rinv, ref_msq]
  show Ideal.div ((Ideal.ofBits .f32 0x00000000#32 + _) * (Rms.cNegHalf * _)) Rms.cN = _
  rw [Ideal.ofBits_zero_f32, zero_add]
  unfold Rms.dsq
  refine congrArg (fun s => Ideal.div (s * _) Rms.cN) (Finset.sum_congr rfl fun k _ => ?_)
  have e' : idx_main_v34 (idx_main_v35 (ix2 r 0)) k = ix2 r k :=
    Shape.idx_ext₂ (by show r.val * 1 + 0 = r.val; omega) rfl
  rw [e']
  show x4 (ix2 r k) * val_main_v31 (F := Ideal) x0 x1 x2 x3 x6 x7 (ix2 r k) = _
  rw [ref_dxn]

/-- Real arrays side by side are real. -/
theorem cat4_real (a0 : S2048x512.Idx → ℝ) (a1 a2 a3 : S2048x1024.Idx → ℝ) (r : Fin 2048) (k : Fin 3584) :
    ∃ b : ℝ, cat4 (fun i => (a0 i : EReal)) (fun i => (a1 i : EReal)) (fun i => (a2 i : EReal)) (fun i => (a3 i : EReal)) r k = (b : EReal) := by
  unfold cat4
  split
  · exact ⟨_, rfl⟩
  split
  · exact ⟨_, rfl⟩
  split
  · exact ⟨_, rfl⟩
  · exact ⟨_, rfl⟩

/-- The rows' cotangent at real numbers. -/
theorem dx_eq (a0 : S2048x512.Idx → ℝ) (a1 a2 a3 a4 : S2048x1024.Idx → ℝ) (a6 : S1024.Idx → ℝ) (a7 : S1024x3584.Idx → ℝ) :
    val_main_v47 (F := Ideal) (fun i => (a0 i : EReal)) (fun i => (a1 i : EReal)) (fun i => (a2 i : EReal)) (fun i => (a3 i : EReal)) (fun i => (a4 i : EReal)) x5
        (fun i => (a6 i : EReal)) (fun i => (a7 i : EReal))
      = gX (fun i => (a0 i : EReal)) (fun i => (a1 i : EReal)) (fun i => (a2 i : EReal)) (fun i => (a3 i : EReal)) (fun i => (a4 i : EReal)) x5
        (fun i => (a6 i : EReal)) (fun i => (a7 i : EReal)) := by
  funext i
  obtain ⟨r, j, rfl⟩ : ∃ (r : Fin 2048) (j : Fin 1024), i = ix2 r j := ⟨_, _, eq_ix2 i⟩
  choose b hb using cat4_real a0 a1 a2 a3
  show ((x5 (ix2 r j) + val_main_v31 (F := Ideal) _ _ _ _ _ _ (ix2 r j) * val_main_v14 (F := Ideal) _ (ix2 r j))
      + (a4 (ix2 r j) : EReal) * val_main_v43 (F := Ideal) _ _ _ _ _ _ _ (ix2 r j))
      + val_main_v43 (F := Ideal) _ _ _ _ _ _ _ (ix2 r j) * (a4 (ix2 r j) : EReal) = _
  rw [ref_dsq, ref_dxn, ref_rinv']
  have hd : ∀ k : Fin 1024, dh (fun i => (a0 i : EReal)) (fun i => (a1 i : EReal)) (fun i => (a2 i : EReal)) (fun i => (a3 i : EReal)) (fun i => (a7 i : EReal)) r k
      * (a6 (ix1 k) : EReal) = ((∑ q : Fin 3584, b r q * a7 (ix2 k q)) * a6 (ix1 k) : ℝ) := fun k => by
    unfold dh
    simp only [hb]
    rw [sum_mul, ← EReal.coe_mul]
  unfold gX
  show (((x5 (ix2 r j) + dh _ _ _ _ _ r j * (a6 (ix1 j) : EReal) * _) + _ * Rms.dsq _ (fun k => dh _ _ _ _ _ r k * (a6 (ix1 k) : EReal)))
    + Rms.dsq _ (fun k => dh _ _ _ _ _ r k * (a6 (ix1 k) : EReal)) * _) = x5 (ix2 r j) + Rms.bwd _ (fun k => dh _ _ _ _ _ r k * (a6 (ix1 k) : EReal)) j
  simp only [hd]
  exact Rms.bwd_eq (fun k => a4 (ix2 r k)) (fun k => (∑ q : Fin 3584, b r q * a7 (ix2 k q)) * a6 (ix1 k)) (x5 (ix2 r j)) j

end Cert.InprojEq

end
-- ==== Proof.MergeFwd.lean ====
/- The forward of the gated merge, the residual, and the feed-forward block's norm and two up projections: what the kernel's
   six result arrays hold, as functions of the argument arrays index by index. Point `t` of the grid works on rows
   `256 t … 256 t + 255`. -/
module

public import proofs.«01_k».proof.Proof.Gen.Kernel7Ideal.Value
public import proofs.«01_k».proof.Proof.RmsBlock

@[expose] public section

noncomputable section

namespace Cert.Kernel7Ideal.MergeFwd

open Cert.Kernel7Ideal Cert.Kernel7Ideal.Gen Idealize.ShloMosaic Idealize.ShloMosaic.TcCoe Idealize.SL.Sem
open Idealize.ShloMosaic.Pipeline (Dat)
open Idealize.ShloMosaic.ValueIdx
open Cert.Blocks (hz)
open scoped BigOperators

/-! ## What the kernel computes at one index -/

/-- The first branch projected. -/
def gMa (ya : S2048x512.Idx → EReal) (wa : S512x1024.Idx → EReal) (i : S2048x1024.Idx) : EReal := ∑ k : Fin 512, ya (ix2 (i 0) k) * wa (ix2 k (i 1))
/-- The second branch projected. -/
def gMb (yb : S2048x1024.Idx → EReal) (wb : S1024x1024.Idx → EReal) (i : S2048x1024.Idx) : EReal := ∑ k : Fin 1024, yb (ix2 (i 0) k) * wb (ix2 k (i 1))
/-- The two, each times its gate, added. -/
def gMerged (ya : S2048x512.Idx → EReal) (yb za zb : S2048x1024.Idx → EReal) (wa : S512x1024.Idx → EReal) (wb : S1024x1024.Idx → EReal)
    (i : S2048x1024.Idx) : EReal := Ideal.logistic (za i) * gMa ya wa i + Ideal.logistic (zb i) * gMb yb wb i
/-- The rows after the residual. -/
def gX1 (ya : S2048x512.Idx → EReal) (yb za zb x : S2048x1024.Idx → EReal) (wa : S512x1024.Idx → EReal) (wb wo : S1024x1024.Idx → EReal)
    (i : S2048x1024.Idx) : EReal := x i + ∑ k : Fin 1024, gMerged ya yb za zb wa wb (ix2 (i 0) k) * wo (ix2 k (i 1))
/-- The normed rows against one up projection. -/
def gUp (ya : S2048x512.Idx → EReal) (yb za zb x : S2048x1024.Idx → EReal) (wa : S512x1024.Idx → EReal) (wb wo : S1024x1024.Idx → EReal)
    (g : S1024.Idx → EReal) (w : S1024x2816.Idx → EReal) (i : S2048x2816.Idx) : EReal :=
  ∑ k : Fin 1024, ((gX1 ya yb za zb x wa wb wo (ix2 (i 0) k) * Rms.rinv (fun l => gX1 ya yb za zb x wa wb wo (ix2 (i 0) l))) * g (ix1 k)) * w (ix2 k (i 1))

/-! ## The payloads of the body at one index -/

theorem pay4_apply (v0 : Vec Ideal S256x512 .f32) (v1 : Vec Ideal S1024x512 .bf16) (r : Fin 256) (j : Fin 1024) :
    (k0_pay4 (F := Ideal) v0 v1 (ix2 r j) : EReal) = ∑ k : Fin 512, (v0 (ix2 r k) : EReal) * (v1 (ix2 j k) : EReal) := by
  unfold k0_pay4
  rw [shapeCast_self]
  exact Blocks.mmNT (φ₁ := .bf16) (φ₂ := .bf16) _ _ r j
theorem pay5_apply (v5 : Vec Ideal S256x1024 .f32) (v6 : Vec Ideal S1024x1024 .bf16) (r : Fin 256) (j : Fin 1024) :
    (k0_pay5 (F := Ideal) v5 v6 (ix2 r j) : EReal) = ∑ k : Fin 1024, (v5 (ix2 r k) : EReal) * (v6 (ix2 k j) : EReal) := by
  unfold k0_pay5
  rw [shapeCast_self]
  exact Blocks.mmNN (φ₁ := .bf16) (φ₂ := .bf16) _ _ r j
theorem pay1_apply (v28 : FVec Ideal S256x1024 .f32) (g : Vec Ideal S1x1024 .f32) (r : Fin 256) (j : Fin 1024) (f : Fin 1024 → EReal)
    (hf : ∀ k, (v28 (ix2 r k) : EReal) = f k) :
    (k0_pay1 (F := Ideal) v28 g (ix2 r j) : EReal) = (f j * Rms.rinv f) * g (ix2 0 j) := by
  unfold k0_pay1
  rw [shapeCast_self]
  refine congrArg₂ (fun a b : EReal => a * b) (congrArg₂ (fun a b : EReal => a * b) (hf j) ?_) (Blocks.spreadRow _ _ r j)
  exact (Blocks.spreadCol _ _ r j).trans (Blocks.rinvCol _ _ _ _ _ _ r 0 f hf)
theorem pay2_apply (v28 : FVec Ideal S256x1024 .f32) (g : Vec Ideal S1x1024 .f32) (w : Vec Ideal S2816x1024 .bf16) (r : Fin 256) (j : Fin 2816)
    (f : Fin 1024 → EReal) (hf : ∀ k, (v28 (ix2 r k) : EReal) = f k) :
    (k0_pay2 (F := Ideal) v28 g w (ix2 r j) : EReal) = ∑ k : Fin 1024, ((f k * Rms.rinv f) * g (ix2 0 k)) * (w (ix2 j k) : EReal) := by
  unfold k0_pay2
  rw [shapeCast_self]
  refine (Blocks.mmNT (φ₁ := .bf16) (φ₂ := .bf16) (k0_pay1 v28 g) w r j).trans (Finset.sum_congr rfl fun k _ => ?_)
  rw [pay1_apply v28 g r k f hf]

/-! ## The blocks the points read and write -/

variable (m : (ℓ : Loc nD τ sig) → Buf (Elt Ideal) ℓ)

/-- Row `256 t + r` of the long arrays. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0)
    ∧ (win0_14.index t 0 = t.val ∧ win0_14.index t 1 = 0) ∧ (win0_15.index t 0 = t.val ∧ win0_15.index t 1 = 0)
    ∧ (win0_16.index t 0 = t.val ∧ win0_16.index t 1 = 0) := by decide +kernel

theorem emb0 (t : Fin cfg0.N) (r : Fin 256) (k : Fin 512) : (win0_0.rect t).emb (ix2 r k) = ix2 (row t r) k := by
  refine Shape.idx_ext₂ ?_ ?_
  · rw [Pipeline.Window.rect_emb_val win0_0 t _ 0 rfl, (idx_facts t).1.1]; rfl
  · rw [Pipeline.Window.rect_emb_val win0_0 t _ 1 rfl, (idx_facts t).1.2]; show 0 * 512 + k.val = k.val; omega
theorem emb1 (t : Fin cfg0.N) (r : Fin 256) (k : Fin 1024) : (win0_1.rect t).emb (ix2 r k) = ix2 (row t r) k := by
  refine Shape.idx_ext₂ ?_ ?_
  · rw [Pipeline.Window.rect_emb_val win0_1 t _ 0 rfl, (idx_facts t).2.1.1]; rfl
  · rw [Pipeline.Window.rect_emb_val win0_1 t _ 1 rfl, (idx_facts t).2.1.2]; show 0 * 1024 + k.val = k.val; omega
theorem emb2 (t : Fin cfg0.N) (r : Fin 256) (k : Fin 1024) : (win0_2.rect t).emb (ix2 r k) = ix2 (row t r) k := emb1 t r k
theorem emb3 (t : Fin cfg0.N) (r : Fin 256) (k : Fin 1024) : (win0_3.rect t).emb (ix2 r k) = ix2 (row t r) k := emb1 t r k
theorem emb4 (t : Fin cfg0.N) (r : Fin 256) (k : Fin 1024) : (win0_4.rect t).emb (ix2 r k) = ix2 (row t r) k := emb1 t r k
theorem emb5 (t : Fin cfg0.N) (r : Fin 1024) (k : Fin 512) : (win0_5.rect t).emb (ix2 r k) = ix2 r k := by
  refine Shape.idx_ext₂ ?_ ?_
  · rw [Pipeline.Window.rect_emb_val win0_5 t _ 0 rfl, (idx_facts t).2.2.2.2.2.1.1]; show 0 * 1024 + r.val = r.val; omega
  · rw [Pipeline.Window.rect_emb_val win0_5 t _ 1 rfl, (idx_facts t).2.2.2.2.2.1.2]; show 0 * 512 + k.val = k.val; omega
theorem emb6 (t : Fin cfg0.N) (r : Fin 1024) (k : Fin 1024) : (win0_6.rect t).emb (ix2 r k) = ix2 r k := by
  refine Shape.idx_ext₂ ?_ ?_
  · rw [Pipeline.Window.rect_emb_val win0_6 t _ 0 rfl, (idx_facts t).2.2.2.2.2.2.1.1]; show 0 * 1024 + r.val = r.val; omega
  · rw [Pipeline.Window.rect_emb_val win0_6 t _ 1 rfl, (idx_facts t).2.2.2.2.2.2.1.2]; show 0 * 1024 + k.val = k.val; omega
theorem emb7 (t : Fin cfg0.N) (r : Fin 1024) (k : Fin 1024) : (win0_7.rect t).emb (ix2 r k) = ix2 r k := emb6 t r k
theorem emb8 (t : Fin cfg0.N) (r : Fin 1) (k : Fin 1024) : (win0_8.rect t).emb (ix2 r k) = ix2 r k := by
  refine Shape.idx_ext₂ ?_ ?_
  · rw [Pipeline.Window.rect_emb_val win0_8 t _ 0 rfl, (idx_facts t).2.2.2.2.2.2.2.2.1.1]; show 0 * 1 + r.val = r.val; omega
  · rw [Pipeline.Window.rect_emb_val win0_8 t _ 1 rfl, (idx_facts t).2.2.2.2.2.2.2.2.1.2]; show 0 * 1024 + k.val = k.val; omega
theorem emb9 (t : Fin cfg0.N) (r : Fin 2816) (k : Fin 1024) : (win0_9.rect t).emb (ix2 r k) = ix2 r k := by
  refine Shape.idx_ext₂ ?_ ?_
  · rw [Pipeline.Window.rect_emb_val win0_9 t _ 0 rfl, (idx_facts t).2.2.2.2.2.2.2.2.2.1.1]; show 0 * 2816 + r.val = r.val; omega
  · rw [Pipeline.Window.rect_emb_val win0_9 t _ 1 rfl, (idx_facts t).2.2.2.2.2.2.2.2.2.1.2]; show 0 * 1024 + k.val = k.val; omega
theorem emb10 (t : Fin cfg0.N) (r : Fin 2816) (k : Fin 1024) : (win0_10.rect t).emb (ix2 r k) = ix2 r k := emb9 t r k
theorem emb11 (t : Fin cfg0.N) (r : Fin 256) (k : Fin 1024) : (win0_11.rect t).emb (ix2 r k) = ix2 (row t r) k := emb1 t r k
theorem emb12 (t : Fin cfg0.N) (r : Fin 256) (k : Fin 1024) : (win0_12.rect t).emb (ix2 r k) = ix2 (row t r) k := emb1 t r k
theorem emb13 (t : Fin cfg0.N) (r : Fin 256) (k : Fin 1024) : (win0_13.rect t).emb (ix2 r k) = ix2 (row t r) k := emb1 t r k
theorem emb14 (t : Fin cfg0.N) (r : Fin 256) (k : Fin 1024) : (win0_14.rect t).emb (ix2 r k) = ix2 (row t r) k := emb1 t r k
theorem emb15 (t : Fin cfg0.N) (r : Fin 256) (k : Fin 2816) : (win0_15.rect t).emb (ix2 r k) = ix2 (row t r) k := by
  refine Shape.idx_ext₂ ?_ ?_
  · rw [Pipeline.Window.rect_emb_val win0_15 t _ 0 rfl, (idx_facts t).2.2.2.2.2.2.2.2.2.2.2.2.2.2.2.1.1]; rfl
  · rw [Pipeline.Window.rect_emb_val win0_15 t _ 1 rfl, (idx_facts t).2.2.2.2.2.2.2.2.2.2.2.2.2.2.2.1.2]; show 0 * 2816 + k.val = k.val; omega
theorem emb16 (t : Fin cfg0.N) (r : Fin 256) (k : Fin 2816) : (win0_16.rect t).emb (ix2 r k) = ix2 (row t r) k := emb15 t r k

variable (c : Dev nD)

abbrev A0 : S2048x512.Idx → EReal := m ((c : Thread nD τ).loc main_arg0)
abbrev A1 : S2048x1024.Idx → EReal := m ((c : Thread nD τ).loc main_arg1)
abbrev A2 : S2048x1024.Idx → EReal := m ((c : Thread nD τ).loc main_arg2)
abbrev A3 : S2048x1024.Idx → EReal := m ((c : Thread nD τ).loc main_arg3)
abbrev A4 : S2048x1024.Idx → EReal := m ((c : Thread nD τ).loc main_arg4)
abbrev A5 : S512x1024.Idx → EReal := m ((c : Thread nD τ).loc main_arg5)
abbrev A6 : S1024x1024.Idx → EReal := m ((c : Thread nD τ).loc main_arg6)
abbrev A7 : S1024x1024.Idx → EReal := m ((c : Thread nD τ).loc main_arg7)
abbrev A8 : S1024.Idx → EReal := m ((c : Thread nD τ).loc main_arg8)
abbrev A9 : S1024x2816.Idx → EReal := m ((c : Thread nD τ).loc main_arg9)
abbrev A10 : S1024x2816.Idx → EReal := m ((c : Thread nD τ).loc main_arg10)

theorem blk0 (t : Fin cfg0.N) (r : Fin 256) (k : Fin 512) : (iblk m c 0 t (ix2 r k) : EReal) = A0 m c (ix2 (row t r) k) := by
  show m ((c : Thread nD τ).loc main_arg0) ((win0_0.rect t).emb (ix2 r k)) = _
  rw [emb0]
theorem blk1 (t : Fin cfg0.N) (r : Fin 256) (k : Fin 1024) : (iblk m c 1 t (ix2 r k) : EReal) = A1 m c (ix2 (row t r) k) := by
  show m ((c : Thread nD τ).loc main_arg1) ((win0_1.rect t).emb (ix2 r k)) = _
  rw [emb1]
theorem blk2 (t : Fin cfg0.N) (r : Fin 256) (k : Fin 1024) : (iblk m c 2 t (ix2 r k) : EReal) = A2 m c (ix2 (row t r) k) := by
  show m ((c : Thread nD τ).loc main_arg2) ((win0_2.rect t).emb (ix2 r k)) = _
  rw [emb2]
theorem blk3 (t : Fin cfg0.N) (r : Fin 256) (k : Fin 1024) : (iblk m c 3 t (ix2 r k) : EReal) = A3 m c (ix2 (row t r) k) := by
  show m ((c : Thread nD τ).loc main_arg3) ((win0_3.rect t).emb (ix2 r k)) = _
  rw [emb3]
theorem blk4 (t : Fin cfg0.N) (r : Fin 256) (k : Fin 1024) : (iblk m c 4 t (ix2 r k) : EReal) = A4 m c (ix2 (row t r) k) := by
  show m ((c : Thread nD τ).loc main_arg4) ((win0_4.rect t).emb (ix2 r k)) = _
  rw [emb4]
theorem blk5 (t : Fin cfg0.N) (r : Fin 1024) (k : Fin 512) : (iblk m c 5 t (ix2 r k) : EReal) = A5 m c (ix2 k r) := by
  show V m c main_v1 ((win0_5.rect t).emb (ix2 r k)) = _
  rw [emb5]
  entry_read
  exact congrArg (A5 m c) (Shape.idx_ext₂ rfl rfl)
theorem blk6 (t : Fin cfg0.N) (r : Fin 1024) (k : Fin 1024) : (iblk m c 6 t (ix2 r k) : EReal) = A6 m c (ix2 r k) := by
  show V m c main_v2 ((win0_6.rect t).emb (ix2 r k)) = _
  rw [emb6]
  entry_read
  rfl
theorem blk7 (t : Fin cfg0.N) (r : Fin 1024) (k : Fin 1024) : (iblk m c 7 t (ix2 r k) : EReal) = A7 m c (ix2 r k) := by
  show V m c main_v3 ((win0_7.rect t).emb (ix2 r k)) = _
  rw [emb7]
  entry_read
  rfl
theorem blk8 (t : Fin cfg0.N) (r : Fin 1) (k : Fin 1024) : (iblk m c 8 t (ix2 r k) : EReal) = A8 m c (ix1 k) := by
  show V m c main_v4 ((win0_8.rect t).emb (ix2 r k)) = _
  rw [emb8]
  entry_read
  exact Blocks.rowCast _ _ r k
theorem blk9 (t : Fin cfg0.N) (r : Fin 2816) (k : Fin 1024) : (iblk m c 9 t (ix2 r k) : EReal) = A9 m c (ix2 k r) := by
  show V m c main_v6 ((win0_9.rect t).emb (ix2 r k)) = _
  rw [emb9]
  entry_read
  exact congrArg (A9 m c) (Shape.idx_ext₂ rfl rfl)
theorem blk10 (t : Fin cfg0.N) (r : Fin 2816) (k : Fin 1024) : (iblk m c 10 t (ix2 r k) : EReal) = A10 m c (ix2 k r) := by
  show V m c main_v8 ((win0_10.rect t).emb (ix2 r k)) = _
  rw [emb10]
  entry_read
  exact congrArg (A10 m c) (Shape.idx_ext₂ rfl rfl)

/-! ## The blocks written back are blocks of the whole arrays -/

theorem ma_blk (t : Fin cfg0.N) (r : Fin 256) (j : Fin 1024) :
    (k0_pay4 (F := Ideal) (iblk m c 0 t) (iblk m c 5 t) (ix2 r j) : EReal) = gMa (A0 m c) (A5 m c) (ix2 (row t r) j) := by
  refine (pay4_apply _ _ r j).trans (Finset.sum_congr rfl fun k _ => ?_)
  rw [blk0, blk5]
theorem mb_blk (t : Fin cfg0.N) (r : Fin 256) (j : Fin 1024) :
    (k0_pay5 (F := Ideal) (iblk m c 1 t) (iblk m c 6 t) (ix2 r j) : EReal) = gMb (A1 m c) (A6 m c) (ix2 (row t r) j) := by
  refine (pay5_apply _ _ r j).trans (Finset.sum_congr rfl fun k _ => ?_)
  rw [blk1, blk6]
theorem merged_blk (t : Fin cfg0.N) (r : Fin 256) (j : Fin 1024) :
    (k0_pay6 (F := Ideal) (iblk m c 0 t) (iblk m c 5 t) (iblk m c 1 t) (iblk m c 6 t) (iblk m c 2 t) (iblk m c 3 t) (ix2 r j) : EReal)
      = gMerged (A0 m c) (A1 m c) (A2 m c) (A3 m c) (A5 m c) (A6 m c) (ix2 (row t r) j) := by
  unfold k0_pay6 gMerged
  exact congrArg₂ (fun a b : EReal => a + b)
    (congrArg₂ (fun a b : EReal => a * b) (congrArg Ideal.logistic (blk2 m c t r j)) (ma_blk m c t r j))
    (congrArg₂ (fun a b : EReal => a * b) (congrArg Ideal.logistic (blk3 m c t r j)) (mb_blk m c t r j))
theorem x1_blk (t : Fin cfg0.N) (r : Fin 256) (j : Fin 1024) :
    (k0_pay10 (F := Ideal) (iblk m c 0 t) (iblk m c 5 t) (iblk m c 1 t) (iblk m c 6 t) (iblk m c 2 t) (iblk m c 3 t) (iblk m c 4 t) (iblk m c 7 t) (ix2 r j) : EReal)
      = gX1 (A0 m c) (A1 m c) (A2 m c) (A3 m c) (A4 m c) (A5 m c) (A6 m c) (A7 m c) (ix2 (row t r) j) := by
  unfold k0_pay10 gX1
  rw [shapeCast_self]
  refine congrArg₂ (fun a b : EReal => a + b) (blk4 m c t r j) ?_
  refine (Blocks.mmNN (φ₁ := .bf16) (φ₂ := .bf16) _ (iblk m c 7 t) r j).trans (Finset.sum_congr rfl fun k _ => ?_)
  exact congrArg₂ (fun a b : EReal => a * b) (merged_blk m c t r k) (blk7 m c t k j)
theorem v28_eq (t : Fin cfg0.N) :
    k0_pay11 (F := Ideal) (iblk m c 0 t) (iblk m c 1 t) (iblk m c 2 t) (iblk m c 3 t) (iblk m c 4 t) (iblk m c 5 t) (iblk m c 6 t) (iblk m c 7 t) (iblk m c 8 t)
        (iblk m c 9 t) (iblk m c 10 t)
      = k0_pay10 (F := Ideal) (iblk m c 0 t) (iblk m c 5 t) (iblk m c 1 t) (iblk m c 6 t) (iblk m c 2 t) (iblk m c 3 t) (iblk m c 4 t) (iblk m c 7 t) := by
  unfold k0_pay11
  simp only [View.ld_unit_zero (S := S256x512) hz, View.ld_unit_zero (S := S256x1024) hz, View.ld_unit_zero (S := S1024x512) hz,
    View.ld_unit_zero (S := S1024x1024) hz, View.ld_unit_zero (S := S1x1024) hz, View.ld_unit_zero (S := S2816x1024) hz]

theorem flushed11_eq (t : Fin cfg0.N) : (dats m 0 c).flushed 11 t = (win0_11.blk t).view.read (Elt Ideal) (gX1 (A0 m c) (A1 m c) (A2 m c) (A3 m c) (A4 m c) (A5 m c) (A6 m c) (A7 m c)) := by
  rw [Value.flushed11]
  unfold out0_11
  rw [View.canon_unit_zero hz, v28_eq]
  funext i
  obtain ⟨r, j, rfl⟩ : ∃ (r : Fin 256) (j : Fin 1024), i = ix2 r j := ⟨_, _, eq_ix2 i⟩
  refine (x1_blk m c t r j).trans ?_
  show _ = gX1 _ _ _ _ _ _ _ _ ((win0_11.rect t).emb (ix2 r j))
  rw [emb11]
theorem flushed12_eq (t : Fin cfg0.N) : (dats m 0 c).flushed 12 t = (win0_12.blk t).view.read (Elt Ideal) (gMerged (A0 m c) (A1 m c) (A2 m c) (A3 m c) (A5 m c) (A6 m c)) := by
  rw [Value.flushed12]
  unfold out0_12
  rw [View.canon_unit_zero hz]
  simp only [View.ld_unit_zero (S := S256x512) hz, View.ld_unit_zero (S := S256x1024) hz, View.ld_unit_zero (S := S1024x512) hz,
    View.ld_unit_zero (S := S1024x1024) hz, View.ld_unit_zero (S := S1x1024) hz, View.ld_unit_zero (S := S2816x1024) hz]
  funext i
  obtain ⟨r, j, rfl⟩ : ∃ (r : Fin 256) (j : Fin 1024), i = ix2 r j := ⟨_, _, eq_ix2 i⟩
  refine (merged_blk m c t r j).trans ?_
  show _ = gMerged _ _ _ _ _ _ ((win0_12.rect t).emb (ix2 r j))
  rw [emb12]
theorem flushed13_eq (t : Fin cfg0.N) : (dats m 0 c).flushed 13 t = (win0_13.blk t).view.read (Elt Ideal) (gMa (A0 m c) (A5 m c)) := by
  rw [Value.flushed13]
  unfold out0_13
  rw [View.canon_unit_zero hz]
  simp only [View.ld_unit_zero (S := S256x512) hz, View.ld_unit_zero (S := S256x1024) hz, View.ld_unit_zero (S := S1024x512) hz,
    View.ld_unit_zero (S := S1024x1024) hz, View.ld_unit_zero (S := S1x1024) hz, View.ld_unit_zero (S := S2816x1024) hz]
  funext i
  obtain ⟨r, j, rfl⟩ : ∃ (r : Fin 256) (j : Fin 1024), i = ix2 r j := ⟨_, _, eq_ix2 i⟩
  refine (ma_blk m c t r j).trans ?_
  show _ = gMa _ _ ((win0_13.rect t).emb (ix2 r j))
  rw [emb13]
theorem flushed14_eq (t : Fin cfg0.N) : (dats m 0 c).flushed 14 t = (win0_14.blk t).view.read (Elt Ideal) (gMb (A1 m c) (A6 m c)) := by
  rw [Value.flushed14]
  unfold out0_14
  rw [View.canon_unit_zero hz]
  simp only [View.ld_unit_zero (S := S256x512) hz, View.ld_unit_zero (S := S256x1024) hz, View.ld_unit_zero (S := S1024x512) hz,
    View.ld_unit_zero (S := S1024x1024) hz, View.ld_unit_zero (S := S1x1024) hz, View.ld_unit_zero (S := S2816x1024) hz]
  funext i
  obtain ⟨r, j, rfl⟩ : ∃ (r : Fin 256) (j : Fin 1024), i = ix2 r j := ⟨_, _, eq_ix2 i⟩
  refine (mb_blk m c t r j).trans ?_
  show _ = gMb _ _ ((win0_14.rect t).emb (ix2 r j))
  rw [emb14]
theorem flushed15_eq (t : Fin cfg0.N) :
    (dats m 0 c).flushed 15 t = (win0_15.blk t).view.read (Elt Ideal) (gUp (A0 m c) (A1 m c) (A2 m c) (A3 m c) (A4 m c) (A5 m c) (A6 m c) (A7 m c) (A8 m c) (A9 m c)) := by
  rw [Value.flushed15]
  unfold out0_15
  rw [View.canon_unit_zero hz, v28_eq]
  simp only [View.ld_unit_zero (S := S256x512) hz, View.ld_unit_zero (S := S256x1024) hz, View.ld_unit_zero (S := S1024x512) hz,
    View.ld_unit_zero (S := S1024x1024) hz, View.ld_unit_zero (S := S1x1024) hz, View.ld_unit_zero (S := S2816x1024) hz]
  funext i
  obtain ⟨r, j, rfl⟩ : ∃ (r : Fin 256) (j : Fin 2816), i = ix2 r j := ⟨_, _, eq_ix2 i⟩
  refine (pay2_apply _ _ (iblk m c 9 t) r j _ (fun k => x1_blk m c t r k)).trans ?_
  show _ = gUp _ _ _ _ _ _ _ _ _ _ ((win0_15.rect t).emb (ix2 r j))
  rw [emb15]
  refine Finset.sum_congr rfl fun k _ => ?_
  rw [blk8, blk9]
theorem flushed16_eq (t : Fin cfg0.N) :
    (dats m 0 c).flushed 16 t = (win0_16.blk t).view.read (Elt Ideal) (gUp (A0 m c) (A1 m c) (A2 m c) (A3 m c) (A4 m c) (A5 m c) (A6 m c) (A7 m c) (A8 m c) (A10 m c)) := by
  rw [Value.flushed16]
  unfold out0_16
  rw [View.canon_unit_zero hz, v28_eq]
  simp only [View.ld_unit_zero (S := S256x512) hz, View.ld_unit_zero (S := S256x1024) hz, View.ld_unit_zero (S := S1024x512) hz,
    View.ld_unit_zero (S := S1024x1024) hz, View.ld_unit_zero (S := S1x1024) hz, View.ld_unit_zero (S := S2816x1024) hz]
  funext i
  obtain ⟨r, j, rfl⟩ : ∃ (r : Fin 256) (j : Fin 2816), i = ix2 r j := ⟨_, _, eq_ix2 i⟩
  refine (pay2_apply _ _ (iblk m c 10 t) r j _ (fun k => x1_blk m c t r k)).trans ?_
  show _ = gUp _ _ _ _ _ _ _ _ _ _ ((win0_16.rect t).emb (ix2 r j))
  rw [emb16]
  refine Finset.sum_congr rfl fun k _ => ?_
  rw [blk8, blk10]

/-! ## The blocks tile the arrays -/

/-- The point and the row inside its block of a row of the long arrays. -/
theorem row_surj (q : Fin 2048) : ∃ (t : Fin cfg0.N) (r : Fin 256), q = row t r := by
  have h0 := q.isLt
  refine ⟨⟨q.val / 256, by show q.val / 256 < 8; omega⟩, ⟨q.val % 256, by omega⟩, Fin.ext ?_⟩
  show q.val = q.val / 256 * 256 + q.val % 256
  omega

theorem cover11 (i : S2048x1024.Idx) : ∃ t : Fin cfg0.N, (cfg0.win 11).flush t = true ∧ i ∈ ((cfg0.win 11).blk t).view.set := by
  obtain ⟨q, k, rfl⟩ : ∃ (q : Fin 2048) (k : Fin 1024), i = ix2 q k := ⟨_, _, eq_ix2 i⟩
  obtain ⟨t, r, rfl⟩ := row_surj q
  refine ⟨t, flush0_11 t, ?_⟩
  rw [← emb11]
  exact View.emb_mem_set (win0_11.blk t).view _
theorem cover12 (i : S2048x1024.Idx) : ∃ t : Fin cfg0.N, (cfg0.win 12).flush t = true ∧ i ∈ ((cfg0.win 12).blk t).view.set := by
  obtain ⟨q, k, rfl⟩ : ∃ (q : Fin 2048) (k : Fin 1024), i = ix2 q k := ⟨_, _, eq_ix2 i⟩
  obtain ⟨t, r, rfl⟩ := row_surj q
  refine ⟨t, flush0_12 t, ?_⟩
  rw [← emb12]
  exact View.emb_mem_set (win0_12.blk t).view _
theorem cover13 (i : S2048x1024.Idx) : ∃ t : Fin cfg0.N, (cfg0.win 13).flush t = true ∧ i ∈ ((cfg0.win 13).blk t).view.set := by
  obtain ⟨q, k, rfl⟩ : ∃ (q : Fin 2048) (k : Fin 1024), i = ix2 q k := ⟨_, _, eq_ix2 i⟩
  obtain ⟨t, r, rfl⟩ := row_surj q
  refine ⟨t, flush0_13 t, ?_⟩
  rw [← emb13]
  exact View.emb_mem_set (win0_13.blk t).view _
theorem cover14 (i : S2048x1024.Idx) : ∃ t : Fin cfg0.N, (cfg0.win 14).flush t = true ∧ i ∈ ((cfg0.win 14).blk t).view.set := by
  obtain ⟨q, k, rfl⟩ : ∃ (q : Fin 2048) (k : Fin 1024), i = ix2 q k := ⟨_, _, eq_ix2 i⟩
  obtain ⟨t, r, rfl⟩ := row_surj q
  refine ⟨t, flush0_14 t, ?_⟩
  rw [← emb14]
  exact View.emb_mem_set (win0_14.blk t).view _
theorem cover15 (i : S2048x2816.Idx) : ∃ t : Fin cfg0.N, (cfg0.win 15).flush t = true ∧ i ∈ ((cfg0.win 15).blk t).view.set := by
  obtain ⟨q, k, rfl⟩ : ∃ (q : Fin 2048) (k : Fin 2816), i = ix2 q k := ⟨_, _, eq_ix2 i⟩
  obtain ⟨t, r, rfl⟩ := row_surj q
  refine ⟨t, flush0_15 t, ?_⟩
  rw [← emb15]
  exact View.emb_mem_set (win0_15.blk t).view _
theorem cover16 (i : S2048x2816.Idx) : ∃ t : Fin cfg0.N, (cfg0.win 16).flush t = true ∧ i ∈ ((cfg0.win 16).blk t).view.set := by
  obtain ⟨q, k, rfl⟩ : ∃ (q : Fin 2048) (k : Fin 2816), i = ix2 q k := ⟨_, _, eq_ix2 i⟩
  obtain ⟨t, r, rfl⟩ := row_surj q
  refine ⟨t, flush0_16 t, ?_⟩
  rw [← emb16]
  exact View.emb_mem_set (win0_16.blk t).view _
/-- The run, read: the result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v9_0) = gX1 (A0 m c) (A1 m c) (A2 m c) (A3 m c) (A4 m c) (A5 m c) (A6 m c) (A7 m c)
      ∧ r.2.mem ((c : Thread nD τ).loc main_v9_1) = gMerged (A0 m c) (A1 m c) (A2 m c) (A3 m c) (A5 m c) (A6 m c)
      ∧ r.2.mem ((c : Thread nD τ).loc main_v9_2) = gMa (A0 m c) (A5 m c)
      ∧ r.2.mem ((c : Thread nD τ).loc main_v9_3) = gMb (A1 m c) (A6 m c)
      ∧ r.2.mem ((c : Thread nD τ).loc main_v9_4) = gUp (A0 m c) (A1 m c) (A2 m c) (A3 m c) (A4 m c) (A5 m c) (A6 m c) (A7 m c) (A8 m c) (A9 m c)
      ∧ r.2.mem ((c : Thread nD τ).loc main_v9_5) = gUp (A0 m c) (A1 m c) (A2 m c) (A3 m c) (A4 m c) (A5 m c) (A6 m c) (A7 m c) (A8 m c) (A10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c =>
    ⟨(h c).1.trans ((dats m 0 c).arrAt_eq_of_cover 11 _ (fun t _ => flushed11_eq m c t) cover11),
      (h c).2.1.trans ((dats m 0 c).arrAt_eq_of_cover 12 _ (fun t _ => flushed12_eq m c t) cover12),
      (h c).2.2.1.trans ((dats m 0 c).arrAt_eq_of_cover 13 _ (fun t _ => flushed13_eq m c t) cover13),
      (h c).2.2.2.1.trans ((dats m 0 c).arrAt_eq_of_cover 14 _ (fun t _ => flushed14_eq m c t) cover14),
      (h c).2.2.2.2.1.trans ((dats m 0 c).arrAt_eq_of_cover 15 _ (fun t _ => flushed15_eq m c t) cover15),
      (h c).2.2.2.2.2.1.trans ((dats m 0 c).arrAt_eq_of_cover 16 _ (fun t _ => flushed16_eq m c t) cover16),
      (h c).2.2.2.2.2.2⟩)
    (Value.run_blocks m ρ)

end Cert.Kernel7Ideal.MergeFwd

end
-- ==== Proof.MergeFwdEq.lean ====
/- The equation of the forward of the gated merge, the residual, the norm and the two up projections: what the kernel
   computes is what the plain formulas are, for all arguments. -/
module

public import proofs.«01_k».proof.Proof.MergeFwd
public import proofs.«01_k».proof.Proof.HostRms
public import proofs.«01_k».proof.Proof.Gen.Reference7Ideal.Run
public import proofs.«01_k».proof.Proof.Gen.Reference7Ideal.Read

@[expose] public section

noncomputable section

namespace Cert.MergeFwdEq

open Cert.Reference7Ideal Cert.Reference7Ideal.Read Idealize.ShloMosaic Idealize.ShloMosaic.TcCoe Idealize.SL.Sem
open Idealize.ShloMosaic.ValueIdx
open scoped BigOperators

open Cert.Kernel7Ideal.MergeFwd (gMa gMb gMerged gX1 gUp)

variable (x0 : S2048x512.Idx → EReal) (x1 x2 x3 x4 : S2048x1024.Idx → EReal) (x5 : S512x1024.Idx → EReal) (x6 x7 : S1024x1024.Idx → EReal)
  (x8 : S1024.Idx → EReal) (x9 x10 : S1024x2816.Idx → EReal)

/-- The two gates, as the host's division spells them. -/
theorem ref_sa (i : S2048x1024.Idx) : val_main_v7 (F := Ideal) x2 i = Ideal.logistic (x2 i) := by
  rw [val_main_v7_apply, val_main_v5_apply, val_main_v6_apply, val_main_v4_apply]
  show Ideal.div (Ideal.ofBits .f32 0x3F800000#32) (Ideal.ofBits .f32 0x3F800000#32 + Ideal.exp (-(x2 i))) = _
  rw [Ideal.ofBits_one_f32]
  rfl
theorem ref_sb (i : S2048x1024.Idx) : val_main_v14 (F := Ideal) x3 i = Ideal.logistic (x3 i) := ref_sa x3 i

theorem ma_eq : val_main_v0 (F := Ideal) x0 x5 = gMa x0 x5 := by
  funext i
  refine (val_main_v0_apply x0 x5 i).trans (Finset.sum_congr rfl fun k _ => ?_)
  exact congrArg₂ (fun p q => x0 p * x5 q) (Shape.idx_ext₂ rfl rfl) (Shape.idx_ext₂ rfl rfl)
theorem mb_eq : val_main_v1 (F := Ideal) x1 x6 = gMb x1 x6 := by
  funext i
  refine (val_main_v1_apply x1 x6 i).trans (Finset.sum_congr rfl fun k _ => ?_)
  exact congrArg₂ (fun p q => x1 p * x6 q) (Shape.idx_ext₂ rfl rfl) (Shape.idx_ext₂ rfl rfl)
theorem merged_eq : val_main_v16 (F := Ideal) x0 x1 x2 x3 x5 x6 = gMerged x0 x1 x2 x3 x5 x6 := by
  funext i
  show val_main_v7 (F := Ideal) x2 i * val_main_v0 (F := Ideal) x0 x5 i + val_main_v14 (F := Ideal) x3 i * val_main_v1 (F := Ideal) x1 x6 i = _
  rw [ref_sa, ref_sb, ma_eq, mb_eq]
  rfl
theorem x1_eq : val_main_v18 (F := Ideal) x0 x1 x2 x3 x4 x5 x6 x7 = gX1 x0 x1 x2 x3 x4 x5 x6 x7 := by
  funext i
  show x4 i + val_main_v17 (F := Ideal) x0 x1 x2 x3 x5 x6 x7 i = _
  refine congrArg (fun s : EReal => x4 i + s) ((val_main_v17_apply x0 x1 x2 x3 x5 x6 x7 i).trans (Finset.sum_congr rfl fun k _ => ?_))
  rw [merged_eq]
  exact congrArg₂ (fun p q => gMerged x0 x1 x2 x3 x5 x6 p * x7 q) (Shape.idx_ext₂ rfl rfl) (Shape.idx_ext₂ rfl rfl)

theorem ref_norm (r : Fin 2048) (k : Fin 1024) : val_main_v31 (F := Ideal) x0 x1 x2 x3 x4 x5 x6 x7 x8 (ix2 r k)
      = (gX1 x0 x1 x2 x3 x4 x5 x6 x7 (ix2 r k) * Rms.rinv (fun l => gX1 x0 x1 x2 x3 x4 x5 x6 x7 (ix2 r l))) * x8 (ix1 k) :=
  HostRms.normed (val_main_v18 (F := Ideal) x0 x1 x2 x3 x4 x5 x6 x7) x8 _ _ _ _ _ _ _ _ _ r k (fun l => congrFun (x1_eq x0 x1 x2 x3 x4 x5 x6 x7) (ix2 r l))

theorem gate_eq : val_main_v35 (F := Ideal) x0 x1 x2 x3 x4 x5 x6 x7 x8 x9 = gUp x0 x1 x2 x3 x4 x5 x6 x7 x8 x9 := by
  funext i
  obtain ⟨r, j, rfl⟩ : ∃ (r : Fin 2048) (j : Fin 2816), i = ix2 r j := ⟨_, _, eq_ix2 i⟩
  refine (val_main_v35_apply x0 x1 x2 x3 x4 x5 x6 x7 x8 x9 (ix2 r j)).trans (Finset.sum_congr rfl fun k _ => ?_)
  have el : lidx_main_v35 (ix2 r j) k = ix2 r k := Shape.idx_ext₂ rfl rfl
  have er : ridx_main_v35 (ix2 r j) k = ix2 k j := Shape.idx_ext₂ rfl rfl
  rw [el, er, ref_norm]

theorem up_eq : val_main_v37 (F := Ideal) x0 x1 x2 x3 x4 x5 x6 x7 x8 x10 = gUp x0 x1 x2 x3 x4 x5 x6 x7 x8 x10 := by
  funext i
  obtain ⟨r, j, rfl⟩ : ∃ (r : Fin 2048) (j : Fin 2816), i = ix2 r j := ⟨_, _, eq_ix2 i⟩
  refine (val_main_v37_apply x0 x1 x2 x3 x4 x5 x6 x7 x8 x10 (ix2 r j)).trans (Finset.sum_congr rfl fun k _ => ?_)
  have el : lidx_main_v37 (ix2 r j) k = ix2 r k := Shape.idx_ext₂ rfl rfl
  have er : ridx_main_v37 (ix2 r j) k = ix2 k j := Shape.idx_ext₂ rfl rfl
  rw [el, er, ref_norm]

end Cert.MergeFwdEq

end
-- ==== Proof.InprojFwd.lean ====
/- The forward of the norm and the input projection: what the kernel's four result arrays hold, the product's columns cut in
   four, as functions of the argument arrays index by index. Point `t` of the grid works on rows `256 t … 256 t + 255`. -/
module

public import proofs.«01_k».proof.Proof.Gen.Kernel8Ideal.Value
public import proofs.«01_k».proof.Proof.RmsBlock
public import proofs.«01_k».proof.Proof.InprojPay

@[expose] public section

noncomputable section

namespace Cert.Kernel8Ideal.InprojFwd

open Cert.Kernel8Ideal Cert.Kernel8Ideal.Gen Idealize.ShloMosaic Idealize.ShloMosaic.TcCoe Idealize.SL.Sem
open Idealize.ShloMosaic.Pipeline (Dat)
open Idealize.ShloMosaic.ValueIdx
open Cert.Blocks (hz)
open Cert.Kernel6Ideal.Inproj (ld_part)
open scoped BigOperators

/-! ## What the kernel computes at one index -/

/-- The normed rows against one column of the weights, and the bias. -/
def gZ (x : S2048x1024.Idx → EReal) (g : S1024.Idx → EReal) (w : S1024x3584.Idx → EReal) (b : S3584.Idx → EReal) (r : Fin 2048) (q : Fin 3584) : EReal :=
  (∑ k : Fin 1024, ((x (ix2 r k) * Rms.rinv (fun l => x (ix2 r l))) * g (ix1 k)) * w (ix2 k q)) + b (ix1 q)
/-- Columns `o` to `o + n` of it. -/
def gCut (n o : Nat) (h : o + n ≤ 3584) (x : S2048x1024.Idx → EReal) (g : S1024.Idx → EReal) (w : S1024x3584.Idx → EReal) (b : S3584.Idx → EReal)
    (i : (⟨2, ![2048, n]⟩ : Shape).Idx) : EReal := gZ x g w b (i 0) ⟨o + (i 1).val, Nat.lt_of_lt_of_le (Nat.add_lt_add_left (i 1).isLt o) h⟩
abbrev gZ0 := gCut 512 0 (by decide)
abbrev gZ1 := gCut 1024 512 (by decide)
abbrev gZ2 := gCut 1024 1536 (by decide)
abbrev gZ3 := gCut 1024 2560 (by decide)

/-! ## The payloads of the body at one index -/

theorem pay3_apply (v0 : Vec Ideal S256x1024 .f32) (g : Vec Ideal S1x1024 .f32) (r : Fin 256) (j : Fin 1024) (f : Fin 1024 → EReal)
    (hf : ∀ k, (v0 (ix2 r k) : EReal) = f k) :
    (k0_pay3 (F := Ideal) v0 g (ix2 r j) : EReal) = (f j * Rms.rinv f) * g (ix2 0 j) := by
  unfold k0_pay3
  rw [shapeCast_self]
  refine congrArg₂ (fun a b : EReal => a * b) (congrArg₂ (fun a b : EReal => a * b) (hf j) ?_) (Blocks.spreadRow _ _ r j)
  exact (Blocks.spreadCol _ _ r j).trans (Blocks.rinvCol _ _ _ _ _ _ r 0 f hf)
theorem pay4_apply (v0 : Vec Ideal S256x1024 .f32) (g : Vec Ideal S1x1024 .f32) (w : Vec Ideal S512x1024 .bf16) (b : Vec Ideal S1x512 .f32) (r : Fin 256) (j : Fin 512) (f : Fin 1024 → EReal)
    (hf : ∀ k, (k0_pay3 (F := Ideal) v0 g (ix2 r k) : EReal) = f k) :
    (k0_pay4 (F := Ideal) v0 g w b (ix2 r j) : EReal) = (∑ k : Fin 1024, f k * (w (ix2 j k) : EReal)) + b (ix2 0 j) := by
  unfold k0_pay4
  rw [shapeCast_self, shapeCast_self]
  refine congrArg₂ (fun a b : EReal => a + b) ((Blocks.mmNT (φ₁ := .bf16) (φ₂ := .bf16) _ _ r j).trans (Finset.sum_congr rfl fun k _ => ?_)) (Blocks.spreadRow _ _ r j)
  exact congrArg (fun a : EReal => a * w (ix2 j k)) (hf k)
theorem pay5_apply (v0 : Vec Ideal S256x1024 .f32) (g : Vec Ideal S1x1024 .f32) (w : Vec Ideal S1024x1024 .bf16) (b : Vec Ideal S1x1024 .f32) (r : Fin 256) (j : Fin 1024) (f : Fin 1024 → EReal)
    (hf : ∀ k, (k0_pay3 (F := Ideal) v0 g (ix2 r k) : EReal) = f k) :
    (k0_pay5 (F := Ideal) v0 g w b (ix2 r j) : EReal) = (∑ k : Fin 1024, f k * (w (ix2 j k) : EReal)) + b (ix2 0 j) := by
  unfold k0_pay5
  rw [shapeCast_self, shapeCast_self]
  refine congrArg₂ (fun a b : EReal => a + b) ((Blocks.mmNT (φ₁ := .bf16) (φ₂ := .bf16) _ _ r j).trans (Finset.sum_congr rfl fun k _ => ?_)) (Blocks.spreadRow _ _ r j)
  exact congrArg (fun a : EReal => a * w (ix2 j k)) (hf k)
theorem pay2_apply (h : FVec Ideal S256x1024 .bf16) (w : Vec Ideal S1024x1024 .bf16) (b : Vec Ideal S1x1024 .f32) (r : Fin 256) (j : Fin 1024) (f : Fin 1024 → EReal)
    (hf : ∀ k, (h (ix2 r k) : EReal) = f k) :
    (k0_pay2 (F := Ideal) h w b (ix2 r j) : EReal) = (∑ k : Fin 1024, f k * (w (ix2 j k) : EReal)) + b (ix2 0 j) := by
  unfold k0_pay2
  rw [shapeCast_self, shapeCast_self]
  refine congrArg₂ (fun a b : EReal => a + b) ((Blocks.mmNT (φ₁ := .bf16) (φ₂ := .bf16) _ _ r j).trans (Finset.sum_congr rfl fun k _ => ?_)) (Blocks.spreadRow _ _ r j)
  exact congrArg (fun a : EReal => a * w (ix2 j k)) (hf k)
theorem pay1_eq (h : FVec Ideal S256x1024 .bf16) (w : Vec Ideal S1024x1024 .bf16) (b : Vec Ideal S1x1024 .f32) : k0_pay1 (F := Ideal) h (k0_pay6 w) b = k0_pay2 h w b := rfl

/-! ## The blocks the points read and write -/

variable (m : (ℓ : Loc nD τ sig) → Buf (Elt Ideal) ℓ)

/-- Row `256 t + r` of the long arrays. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) := by decide +kernel

theorem emb0 (t : Fin cfg0.N) (r : Fin 256) (k : Fin 1024) : (win0_0.rect t).emb (ix2 r k) = ix2 (row t r) k := by
  refine Shape.idx_ext₂ ?_ ?_
  · rw [Pipeline.Window.rect_emb_val win0_0 t _ 0 rfl, (idx_facts t).1.1]; rfl
  · rw [Pipeline.Window.rect_emb_val win0_0 t _ 1 rfl, (idx_facts t).1.2]; show 0 * 1024 + k.val = k.val; omega
theorem emb1 (t : Fin cfg0.N) (r : Fin 1) (k : Fin 1024) : (win0_1.rect t).emb (ix2 r k) = ix2 r k := by
  refine Shape.idx_ext₂ ?_ ?_
  · rw [Pipeline.Window.rect_emb_val win0_1 t _ 0 rfl, (idx_facts t).2.1.1]; show 0 * 1 + r.val = r.val; omega
  · rw [Pipeline.Window.rect_emb_val win0_1 t _ 1 rfl, (idx_facts t).2.1.2]; show 0 * 1024 + k.val = k.val; omega
theorem emb2 (t : Fin cfg0.N) (r : Fin 3584) (k : Fin 1024) : (win0_2.rect t).emb (ix2 r k) = ix2 r k := by
  refine Shape.idx_ext₂ ?_ ?_
  · rw [Pipeline.Window.rect_emb_val win0_2 t _ 0 rfl, (idx_facts t).2.2.1.1]; show 0 * 3584 + r.val = r.val; omega
  · rw [Pipeline.Window.rect_emb_val win0_2 t _ 1 rfl, (idx_facts t).2.2.1.2]; show 0 * 1024 + k.val = k.val; omega
theorem emb3 (t : Fin cfg0.N) (r : Fin 1) (k : Fin 3584) : (win0_3.rect t).emb (ix2 r k) = ix2 r k := by
  refine Shape.idx_ext₂ ?_ ?_
  · rw [Pipeline.Window.rect_emb_val win0_3 t _ 0 rfl, (idx_facts t).2.2.2.1.1]; show 0 * 1 + r.val = r.val; omega
  · rw [Pipeline.Window.rect_emb_val win0_3 t _ 1 rfl, (idx_facts t).2.2.2.1.2]; show 0 * 3584 + k.val = k.val; omega
theorem emb4 (t : Fin cfg0.N) (r : Fin 256) (k : Fin 512) : (win0_4.rect t).emb (ix2 r k) = ix2 (row t r) k := by
  refine Shape.idx_ext₂ ?_ ?_
  · rw [Pipeline.Window.rect_emb_val win0_4 t _ 0 rfl, (idx_facts t).2.2.2.2.1.1]; rfl
  · rw [Pipeline.Window.rect_emb_val win0_4 t _ 1 rfl, (idx_facts t).2.2.2.2.1.2]; show 0 * 512 + k.val = k.val; omega
theorem emb5 (t : Fin cfg0.N) (r : Fin 256) (k : Fin 1024) : (win0_5.rect t).emb (ix2 r k) = ix2 (row t r) k := emb0 t r k
theorem emb6 (t : Fin cfg0.N) (r : Fin 256) (k : Fin 1024) : (win0_6.rect t).emb (ix2 r k) = ix2 (row t r) k := emb0 t r k
theorem emb7 (t : Fin cfg0.N) (r : Fin 256) (k : Fin 1024) : (win0_7.rect t).emb (ix2 r k) = ix2 (row t r) k := emb0 t r k

variable (c : Dev nD)

abbrev A0 : S2048x1024.Idx → EReal := m ((c : Thread nD τ).loc main_arg0)
abbrev A1 : S1024.Idx → EReal := m ((c : Thread nD τ).loc main_arg1)
abbrev A2 : S1024x3584.Idx → EReal := m ((c : Thread nD τ).loc main_arg2)
abbrev A3 : S3584.Idx → EReal := m ((c : Thread nD τ).loc main_arg3)

theorem blk0 (t : Fin cfg0.N) (r : Fin 256) (k : Fin 1024) : (iblk m c 0 t (ix2 r k) : EReal) = A0 m c (ix2 (row t r) k) := by
  show m ((c : Thread nD τ).loc main_arg0) ((win0_0.rect t).emb (ix2 r k)) = _
  rw [emb0]
theorem blk1 (t : Fin cfg0.N) (r : Fin 1) (k : Fin 1024) : (iblk m c 1 t (ix2 r k) : EReal) = A1 m c (ix1 k) := by
  show V m c main_v0 ((win0_1.rect t).emb (ix2 r k)) = _
  rw [emb1]
  entry_read
  exact Blocks.rowCast _ _ r k
theorem blk2 (t : Fin cfg0.N) (r : Fin 3584) (k : Fin 1024) : (iblk m c 2 t (ix2 r k) : EReal) = A2 m c (ix2 k r) := by
  show V m c main_v2 ((win0_2.rect t).emb (ix2 r k)) = _
  rw [emb2]
  entry_read
  exact congrArg (A2 m c) (Shape.idx_ext₂ rfl rfl)
theorem blk3 (t : Fin cfg0.N) (r : Fin 1) (k : Fin 3584) : (iblk m c 3 t (ix2 r k) : EReal) = A3 m c (ix1 k) := by
  show V m c main_v3 ((win0_3.rect t).emb (ix2 r k)) = _
  rw [emb3]
  entry_read
  exact Blocks.rowCast _ _ r k

/-! ## The blocks written back are blocks of the whole arrays -/

/-- The normed rows of a point. -/
abbrev fn (t : Fin cfg0.N) (r : Fin 256) (k : Fin 1024) : EReal :=
  (A0 m c (ix2 (row t r) k) * Rms.rinv (fun l => A0 m c (ix2 (row t r) l))) * A1 m c (ix1 k)
theorem norm_blk (t : Fin cfg0.N) (r : Fin 256) (k : Fin 1024) : (k0_pay3 (F := Ideal) (iblk m c 0 t) (iblk m c 1 t) (ix2 r k) : EReal) = fn m c t r k := by
  refine (pay3_apply _ _ r k _ (fun l => blk0 m c t r l)).trans ?_
  rw [blk1]
theorem norm_eq (t : Fin cfg0.N) :
    k0_pay7 (F := Ideal) (iblk m c 0 t) (iblk m c 1 t) (iblk m c 2 t) (iblk m c 3 t) = k0_pay3 (F := Ideal) (iblk m c 0 t) (iblk m c 1 t) := by
  unfold k0_pay7
  simp only [View.ld_unit_zero (S := S256x1024) hz, View.ld_unit_zero (S := S1x1024) hz]
theorem flushed4_eq (t : Fin cfg0.N) : (dats m 0 c).flushed 4 t = (win0_4.blk t).view.read (Elt Ideal) (gZ0 (A0 m c) (A1 m c) (A2 m c) (A3 m c)) := by
  rw [Value.flushed4]
  unfold out0_4
  rw [View.canon_unit_zero hz]
  rw [View.ld_unit_zero (S := S256x1024) hz, View.ld_unit_zero (S := S1x1024) hz]
  funext i
  obtain ⟨r, j, rfl⟩ : ∃ (r : Fin 256) (j : Fin 512), i = ix2 r j := ⟨_, _, eq_ix2 i⟩
  have hj : 0 + j.val < 3584 := by omega
  refine (pay4_apply _ _ _ _ r j _ (fun k => norm_blk m c t r k)).trans ?_
  show _ = gZ0 _ _ _ _ ((win0_4.rect t).emb (ix2 r j))
  rw [emb4]
  refine congrArg₂ (fun a b : EReal => a + b) (Finset.sum_congr rfl fun k _ => congrArg (fun a : EReal => fn m c t r k * a) ?_) ?_
  · exact (ld_part (iblk m c 2 t) 0 0 _ j k ⟨0 + j.val, hj⟩ k rfl (Nat.zero_add _).symm).trans (blk2 m c t _ k)
  · exact (ld_part (iblk m c 3 t) 0 0 _ 0 j 0 ⟨0 + j.val, hj⟩ rfl rfl).trans (blk3 m c t 0 _)
theorem flushed5_eq (t : Fin cfg0.N) : (dats m 0 c).flushed 5 t = (win0_5.blk t).view.read (Elt Ideal) (gZ1 (A0 m c) (A1 m c) (A2 m c) (A3 m c)) := by
  rw [Value.flushed5]
  unfold out0_5
  rw [View.canon_unit_zero hz]
  rw [View.ld_unit_zero (S := S256x1024) hz, View.ld_unit_zero (S := S1x1024) hz]
  funext i
  obtain ⟨r, j, rfl⟩ : ∃ (r : Fin 256) (j : Fin 1024), i = ix2 r j := ⟨_, _, eq_ix2 i⟩
  have hj : 512 + j.val < 3584 := by omega
  refine (pay5_apply _ _ _ _ r j _ (fun k => norm_blk m c t r k)).trans ?_
  show _ = gZ1 _ _ _ _ ((win0_5.rect t).emb (ix2 r j))
  rw [emb5]
  refine congrArg₂ (fun a b : EReal => a + b) (Finset.sum_congr rfl fun k _ => congrArg (fun a : EReal => fn m c t r k * a) ?_) ?_
  · exact (ld_part (iblk m c 2 t) 512 0 _ j k ⟨512 + j.val, hj⟩ k rfl (Nat.zero_add _).symm).trans (blk2 m c t _ k)
  · exact (ld_part (iblk m c 3 t) 0 512 _ 0 j 0 ⟨512 + j.val, hj⟩ rfl rfl).trans (blk3 m c t 0 _)
theorem flushed6_eq (t : Fin cfg0.N) : (dats m 0 c).flushed 6 t = (win0_6.blk t).view.read (Elt Ideal) (gZ2 (A0 m c) (A1 m c) (A2 m c) (A3 m c)) := by
  rw [Value.flushed6]
  unfold out0_6
  rw [View.canon_unit_zero hz, pay1_eq, norm_eq]
  funext i
  obtain ⟨r, j, rfl⟩ : ∃ (r : Fin 256) (j : Fin 1024), i = ix2 r j := ⟨_, _, eq_ix2 i⟩
  have hj : 1536 + j.val < 3584 := by omega
  refine (pay2_apply _ _ _ r j _ (fun k => norm_blk m c t r k)).trans ?_
  show _ = gZ2 _ _ _ _ ((win0_6.rect t).emb (ix2 r j))
  rw [emb6]
  refine congrArg₂ (fun a b : EReal => a + b) (Finset.sum_congr rfl fun k _ => congrArg (fun a : EReal => fn m c t r k * a) ?_) ?_
  · exact (ld_part (iblk m c 2 t) 1536 0 _ j k ⟨1536 + j.val, hj⟩ k rfl (Nat.zero_add _).symm).trans (blk2 m c t _ k)
  · exact (ld_part (iblk m c 3 t) 0 1536 _ 0 j 0 ⟨1536 + j.val, hj⟩ rfl rfl).trans (blk3 m c t 0 _)
theorem flushed7_eq (t : Fin cfg0.N) : (dats m 0 c).flushed 7 t = (win0_7.blk t).view.read (Elt Ideal) (gZ3 (A0 m c) (A1 m c) (A2 m c) (A3 m c)) := by
  rw [Value.flushed7]
  unfold out0_7
  rw [View.canon_unit_zero hz, norm_eq]
  funext i
  obtain ⟨r, j, rfl⟩ : ∃ (r : Fin 256) (j : Fin 1024), i = ix2 r j := ⟨_, _, eq_ix2 i⟩
  have hj : 2560 + j.val < 3584 := by omega
  refine (pay2_apply _ _ _ r j _ (fun k => norm_blk m c t r k)).trans ?_
  show _ = gZ3 _ _ _ _ ((win0_7.rect t).emb (ix2 r j))
  rw [emb7]
  refine congrArg₂ (fun a b : EReal => a + b) (Finset.sum_congr rfl fun k _ => congrArg (fun a : EReal => fn m c t r k * a) ?_) ?_
  · exact (ld_part (iblk m c 2 t) 2560 0 _ j k ⟨2560 + j.val, hj⟩ k rfl (Nat.zero_add _).symm).trans (blk2 m c t _ k)
  · exact (ld_part (iblk m c 3 t) 0 2560 _ 0 j 0 ⟨2560 + j.val, hj⟩ rfl rfl).trans (blk3 m c t 0 _)

/-! ## The blocks tile the arrays -/

/-- The point and the row inside its block of a row of the long arrays. -/
theorem row_surj (q : Fin 2048) : ∃ (t : Fin cfg0.N) (r : Fin 256), q = row t r := by
  have h0 := q.isLt
  refine ⟨⟨q.val / 256, by show q.val / 256 < 8; omega⟩, ⟨q.val % 256, by omega⟩, Fin.ext ?_⟩
  show q.val = q.val / 256 * 256 + q.val % 256
  omega

theorem cover4 (i : S2048x512.Idx) : ∃ t : Fin cfg0.N, (cfg0.win 4).flush t = true ∧ i ∈ ((cfg0.win 4).blk t).view.set := by
  obtain ⟨q, k, rfl⟩ : ∃ (q : Fin 2048) (k : Fin 512), i = ix2 q k := ⟨_, _, eq_ix2 i⟩
  obtain ⟨t, r, rfl⟩ := row_surj q
  refine ⟨t, flush0_4 t, ?_⟩
  rw [← emb4]
  exact View.emb_mem_set (win0_4.blk t).view _
theorem cover5 (i : S2048x1024.Idx) : ∃ t : Fin cfg0.N, (cfg0.win 5).flush t = true ∧ i ∈ ((cfg0.win 5).blk t).view.set := by
  obtain ⟨q, k, rfl⟩ : ∃ (q : Fin 2048) (k : Fin 1024), i = ix2 q k := ⟨_, _, eq_ix2 i⟩
  obtain ⟨t, r, rfl⟩ := row_surj q
  refine ⟨t, flush0_5 t, ?_⟩
  rw [← emb5]
  exact View.emb_mem_set (win0_5.blk t).view _
theorem cover6 (i : S2048x1024.Idx) : ∃ t : Fin cfg0.N, (cfg0.win 6).flush t = true ∧ i ∈ ((cfg0.win 6).blk t).view.set := by
  obtain ⟨q, k, rfl⟩ : ∃ (q : Fin 2048) (k : Fin 1024), i = ix2 q k := ⟨_, _, eq_ix2 i⟩
  obtain ⟨t, r, rfl⟩ := row_surj q
  refine ⟨t, flush0_6 t, ?_⟩
  rw [← emb6]
  exact View.emb_mem_set (win0_6.blk t).view _
theorem cover7 (i : S2048x1024.Idx) : ∃ t : Fin cfg0.N, (cfg0.win 7).flush t = true ∧ i ∈ ((cfg0.win 7).blk t).view.set := by
  obtain ⟨q, k, rfl⟩ : ∃ (q : Fin 2048) (k : Fin 1024), i = ix2 q k := ⟨_, _, eq_ix2 i⟩
  obtain ⟨t, r, rfl⟩ := row_surj q
  refine ⟨t, flush0_7 t, ?_⟩
  rw [← emb7]
  exact View.emb_mem_set (win0_7.blk t).view _
/-- The run, read: the result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = gZ0 (A0 m c) (A1 m c) (A2 m c) (A3 m c)
      ∧ r.2.mem ((c : Thread nD τ).loc main_v4_1) = gZ1 (A0 m c) (A1 m c) (A2 m c) (A3 m c)
      ∧ r.2.mem ((c : Thread nD τ).loc main_v4_2) = gZ2 (A0 m c) (A1 m c) (A2 m c) (A3 m c)
      ∧ r.2.mem ((c : Thread nD τ).loc main_v4_3) = gZ3 (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 _ (fun t _ => flushed4_eq m c t) cover4),
      (h c).2.1.trans ((dats m 0 c).arrAt_eq_of_cover 5 _ (fun t _ => flushed5_eq m c t) cover5),
      (h c).2.2.1.trans ((dats m 0 c).arrAt_eq_of_cover 6 _ (fun t _ => flushed6_eq m c t) cover6),
      (h c).2.2.2.1.trans ((dats m 0 c).arrAt_eq_of_cover 7 _ (fun t _ => flushed7_eq m c t) cover7),
      (h c).2.2.2.2⟩)
    (Value.run_blocks m ρ)

end Cert.Kernel8Ideal.InprojFwd

end
-- ==== Proof.InprojFwdEq.lean ====
/- The equation of the forward of the norm and the input projection: what the kernel computes is what `rms_norm(x) @ w + b`,
   cut in four along its columns, is, for all arguments. -/
module

public import proofs.«01_k».proof.Proof.InprojFwd
public import proofs.«01_k».proof.Proof.HostRms
public import proofs.«01_k».proof.Proof.Gen.Reference8Ideal.Run
public import proofs.«01_k».proof.Proof.Gen.Reference8Ideal.Read

@[expose] public section

noncomputable section

namespace Cert.InprojFwdEq

open Cert.Reference8Ideal Cert.Reference8Ideal.Read Idealize.ShloMosaic Idealize.ShloMosaic.TcCoe Idealize.SL.Sem
open Idealize.ShloMosaic.ValueIdx
open scoped BigOperators

open Cert.Kernel8Ideal.InprojFwd (gZ gZ0 gZ1 gZ2 gZ3)

variable (x0 : S2048x1024.Idx → EReal) (x1 : S1024.Idx → EReal) (x2 : S1024x3584.Idx → EReal) (x3 : S3584.Idx → EReal)

theorem ref_norm (r : Fin 2048) (k : Fin 1024) :
    val_main_v12 (F := Ideal) x0 x1 (ix2 r k) = (x0 (ix2 r k) * Rms.rinv (fun l => x0 (ix2 r l))) * x1 (ix1 k) :=
  HostRms.normed x0 x1 _ _ _ _ _ _ _ _ (fun l => x0 (ix2 r l)) r k (fun _ => rfl)

theorem ref_z (r : Fin 2048) (q : Fin 3584) : val_main_v16 (F := Ideal) x0 x1 x2 x3 (ix2 r q) = gZ x0 x1 x2 x3 r q := by
  show val_main_v13 (F := Ideal) x0 x1 x2 (ix2 r q) + val_main_v15 (F := Ideal) x3 (ix2 r q) = _
  rw [val_main_v13_apply, val_main_v15_apply, val_main_v14_apply]
  refine congrArg₂ (fun a b : EReal => a + b) (Finset.sum_congr rfl fun k _ => ?_) (congrArg x3 (funext fun a => by fin_cases a; rfl))
  have el : lidx_main_v13 (ix2 r q) k = ix2 r k := Shape.idx_ext₂ rfl rfl
  have er : ridx_main_v13 (ix2 r q) k = ix2 k q := Shape.idx_ext₂ rfl rfl
  rw [el, er, ref_norm]

theorem z0_eq : val_main_v17 (F := Ideal) x0 x1 x2 x3 = gZ0 x0 x1 x2 x3 := by
  funext i
  obtain ⟨r, j, rfl⟩ : ∃ (r : Fin 2048) (j : Fin 512), i = ix2 r j := ⟨_, _, eq_ix2 i⟩
  have hj : 0 + j.val < 3584 := by omega
  have e : idx_main_v17 (ix2 r j) = ix2 (n0 := 2048) (n1 := 3584) r ⟨0 + j.val, hj⟩ := Shape.idx_ext₂ rfl (Nat.zero_add _).symm
  rw [val_main_v17_apply, e, ref_z]
  rfl

theorem z1_eq : val_main_v18 (F := Ideal) x0 x1 x2 x3 = gZ1 x0 x1 x2 x3 := by
  funext i
  obtain ⟨r, j, rfl⟩ : ∃ (r : Fin 2048) (j : Fin 1024), i = ix2 r j := ⟨_, _, eq_ix2 i⟩
  have hj : 512 + j.val < 3584 := by omega
  have e : idx_main_v18 (ix2 r j) = ix2 (n0 := 2048) (n1 := 3584) r ⟨512 + j.val, hj⟩ := Shape.idx_ext₂ rfl rfl
  rw [val_main_v18_apply, e, ref_z]
  rfl

theorem z2_eq : val_main_v19 (F := Ideal) x0 x1 x2 x3 = gZ2 x0 x1 x2 x3 := by
  funext i
  obtain ⟨r, j, rfl⟩ : ∃ (r : Fin 2048) (j : Fin 1024), i = ix2 r j := ⟨_, _, eq_ix2 i⟩
  have hj : 1536 + j.val < 3584 := by omega
  have e : idx_main_v19 (ix2 r j) = ix2 (n0 := 2048) (n1 := 3584) r ⟨1536 + j.val, hj⟩ := Shape.idx_ext₂ rfl rfl
  rw [val_main_v19_apply, e, ref_z]
  rfl

theorem z3_eq : val_main_v20 (F := Ideal) x0 x1 x2 x3 = gZ3 x0 x1 x2 x3 := by
  funext i
  obtain ⟨r, j, rfl⟩ : ∃ (r : Fin 2048) (j : Fin 1024), i = ix2 r j := ⟨_, _, eq_ix2 i⟩
  have hj : 2560 + j.val < 3584 := by omega
  have e : idx_main_v20 (ix2 r j) = ix2 (n0 := 2048) (n1 := 3584) r ⟨2560 + j.val, hj⟩ := Shape.idx_ext₂ rfl rfl
  rw [val_main_v20_apply, e, ref_z]
  rfl

end Cert.InprojFwdEq

end
-- ==== Proof.FfnDown.lean ====
/- The forward of the feed-forward block's gate and down projection: what the kernel's result array holds, as a function of
   the argument arrays index by index. Point `t` of the grid works on rows `256 t … 256 t + 255`. -/
module

public import proofs.«01_k».proof.Proof.Gen.Kernel9Ideal.Value
public import proofs.«01_k».proof.Proof.RmsBlock

@[expose] public section

noncomputable section

namespace Cert.Kernel9Ideal.FfnDown

open Cert.Kernel9Ideal Cert.Kernel9Ideal.Gen Idealize.ShloMosaic Idealize.ShloMosaic.TcCoe Idealize.SL.Sem
open Idealize.ShloMosaic.Pipeline (Dat)
open Idealize.ShloMosaic.ValueIdx
open Cert.Blocks (hz)
open scoped BigOperators

/-! ## What the kernel computes at one index -/

/-- The gated product `silu(fg) * fu`. -/
def act (fg fu : S2048x2816.Idx → EReal) (i : S2048x2816.Idx) : EReal := (fg i * Ideal.logistic (fg i)) * fu i

/-- The rows plus the gated product against the down projection. -/
def gX2 (fg fu : S2048x2816.Idx → EReal) (x : S2048x1024.Idx → EReal) (w : S2816x1024.Idx → EReal) (i : S2048x1024.Idx) : EReal :=
  x i + ∑ k : Fin 2816, act fg fu (ix2 (i 0) k) * w (ix2 k (i 1))

/-! ## The payloads of the body at one index -/

theorem pay1_apply (v0 v4 : Vec Ideal S256x2816 .bf16) (v7 : Vec Ideal S256x1024 .f32) (v8 : Vec Ideal S2816x1024 .bf16) (r : Fin 256) (j : Fin 1024) :
    (k0_pay1 (F := Ideal) v0 v4 v7 v8 (ix2 r j) : EReal)
      = v7 (ix2 r j) + ∑ k : Fin 2816, (((v0 (ix2 r k) : EReal) * Ideal.logistic (v0 (ix2 r k))) * (v4 (ix2 r k) : EReal)) * (v8 (ix2 k j) : EReal) := by
  unfold k0_pay1
  rw [shapeCast_self]
  exact congrArg (fun s : EReal => (v7 (ix2 r j) : EReal) + s) (Blocks.mmNN (φ₁ := .bf16) (φ₂ := .bf16) _ _ r j)

/-! ## The blocks the points read and write -/

variable (m : (ℓ : Loc nD τ sig) → Buf (Elt Ideal) ℓ)

/-- Row `256 t + r` of the long arrays. -/
def row (t : Fin cfg0.N) (r : Fin 256) : Fin 2048 :=
  ⟨t.val * 256 + r.val, by have : t.val < 8 := t.isLt; have := r.isLt; omega⟩

/-- Every window's block index at every point. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) := by decide +kernel

theorem emb0 (t : Fin cfg0.N) (r : Fin 256) (k : Fin 2816) : (win0_0.rect t).emb (ix2 r k) = ix2 (row t r) k := by
  refine Shape.idx_ext₂ ?_ ?_
  · rw [Pipeline.Window.rect_emb_val win0_0 t _ 0 rfl, (idx_facts t).1.1]; rfl
  · rw [Pipeline.Window.rect_emb_val win0_0 t _ 1 rfl, (idx_facts t).1.2]; show 0 * 2816 + k.val = k.val; omega
theorem emb1 (t : Fin cfg0.N) (r : Fin 256) (k : Fin 2816) : (win0_1.rect t).emb (ix2 r k) = ix2 (row t r) k := emb0 t r k
theorem emb2 (t : Fin cfg0.N) (r : Fin 256) (k : Fin 1024) : (win0_2.rect t).emb (ix2 r k) = ix2 (row t r) k := by
  refine Shape.idx_ext₂ ?_ ?_
  · rw [Pipeline.Window.rect_emb_val win0_2 t _ 0 rfl, (idx_facts t).2.2.1.1]; rfl
  · rw [Pipeline.Window.rect_emb_val win0_2 t _ 1 rfl, (idx_facts t).2.2.1.2]; show 0 * 1024 + k.val = k.val; omega
theorem emb3 (t : Fin cfg0.N) (r : Fin 2816) (k : Fin 1024) : (win0_3.rect t).emb (ix2 r k) = ix2 r k := by
  refine Shape.idx_ext₂ ?_ ?_
  · rw [Pipeline.Window.rect_emb_val win0_3 t _ 0 rfl, (idx_facts t).2.2.2.1.1]; show 0 * 2816 + r.val = r.val; omega
  · rw [Pipeline.Window.rect_emb_val win0_3 t _ 1 rfl, (idx_facts t).2.2.2.1.2]; show 0 * 1024 + k.val = k.val; omega
theorem emb4 (t : Fin cfg0.N) (r : Fin 256) (k : Fin 1024) : (win0_4.rect t).emb (ix2 r k) = ix2 (row t r) k := emb2 t r k

variable (c : Dev nD)

abbrev A0 : S2048x2816.Idx → EReal := m ((c : Thread nD τ).loc main_arg0)
abbrev A1 : S2048x2816.Idx → EReal := m ((c : Thread nD τ).loc main_arg1)
abbrev A2 : S2048x1024.Idx → EReal := m ((c : Thread nD τ).loc main_arg2)
abbrev A3 : S2816x1024.Idx → EReal := m ((c : Thread nD τ).loc main_arg3)

theorem blk0 (t : Fin cfg0.N) (r : Fin 256) (k : Fin 2816) : (iblk m c 0 t (ix2 r k) : EReal) = A0 m c (ix2 (row t r) k) := by
  show m ((c : Thread nD τ).loc main_arg0) ((win0_0.rect t).emb (ix2 r k)) = _
  rw [emb0]
theorem blk1 (t : Fin cfg0.N) (r : Fin 256) (k : Fin 2816) : (iblk m c 1 t (ix2 r k) : EReal) = A1 m c (ix2 (row t r) k) := by
  show m ((c : Thread nD τ).loc main_arg1) ((win0_1.rect t).emb (ix2 r k)) = _
  rw [emb1]
theorem blk2 (t : Fin cfg0.N) (r : Fin 256) (k : Fin 1024) : (iblk m c 2 t (ix2 r k) : EReal) = A2 m c (ix2 (row t r) k) := by
  show m ((c : Thread nD τ).loc main_arg2) ((win0_2.rect t).emb (ix2 r k)) = _
  rw [emb2]
theorem blk3 (t : Fin cfg0.N) (r : Fin 2816) (k : Fin 1024) : (iblk m c 3 t (ix2 r k) : EReal) = A3 m c (ix2 r k) := by
  show V m c main_v0 ((win0_3.rect t).emb (ix2 r k)) = _
  rw [emb3]
  entry_read
  rfl

/-! ## The blocks written back are blocks of the whole arrays -/

theorem flushed4_eq (t : Fin cfg0.N) :
    (dats m 0 c).flushed 4 t = (win0_4.blk t).view.read (Elt Ideal) (gX2 (A0 m c) (A1 m c) (A2 m c) (A3 m c)) := by
  rw [Value.flushed4]
  unfold out0_4
  rw [View.canon_unit_zero hz, View.ld_unit_zero hz, View.ld_unit_zero hz, View.ld_unit_zero hz, View.ld_unit_zero hz]
  funext i
  obtain ⟨r, j, rfl⟩ : ∃ (r : Fin 256) (j : Fin 1024), i = ix2 r j := ⟨_, _, eq_ix2 i⟩
  refine (pay1_apply _ _ _ _ r j).trans ?_
  show _ = gX2 _ _ _ _ ((win0_4.rect t).emb (ix2 r j))
  rw [emb4]
  unfold gX2
  refine congrArg₂ (fun a b : EReal => a + b) (blk2 m c t r j) (Finset.sum_congr rfl fun k _ => ?_)
  unfold act
  rw [blk0, blk1, blk3]

/-! ## The blocks tile the arrays -/

/-- The point and the row inside its block of a row of the long arrays. -/
theorem row_surj (q : Fin 2048) : ∃ (t : Fin cfg0.N) (r : Fin 256), q = row t r := by
  have h0 := q.isLt
  refine ⟨⟨q.val / 256, by show q.val / 256 < 8; omega⟩, ⟨q.val % 256, by omega⟩, Fin.ext ?_⟩
  show q.val = q.val / 256 * 256 + q.val % 256
  omega

theorem cover4 (i : S2048x1024.Idx) : ∃ t : Fin cfg0.N, (cfg0.win 4).flush t = true ∧ i ∈ ((cfg0.win 4).blk t).view.set := by
  obtain ⟨q, k, rfl⟩ : ∃ (q : Fin 2048) (k : Fin 1024), i = ix2 q k := ⟨_, _, eq_ix2 i⟩
  obtain ⟨t, r, rfl⟩ := row_surj q
  refine ⟨t, flush0_4 t, ?_⟩
  rw [← emb4]
  exact View.emb_mem_set (win0_4.blk t).view _
/-- The run, read: the result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = gX2 (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 _ (fun t _ => flushed4_eq m c t) cover4),
      (h c).2⟩)
    (Value.run_blocks m ρ)

end Cert.Kernel9Ideal.FfnDown

end
-- ==== Proof.FfnDownEq.lean ====
/- The equation of the forward of the feed-forward block's gate and down projection: what the kernel computes is what
   `x1 + (silu(fg) * fu) @ w` is, for all arguments. -/
module

public import proofs.«01_k».proof.Proof.FfnDown
public import proofs.«01_k».proof.Proof.Gen.Reference9Ideal.Run
public import proofs.«01_k».proof.Proof.Gen.Reference9Ideal.Read

@[expose] public section

noncomputable section

namespace Cert.FfnDownEq

open Cert.Reference9Ideal Cert.Reference9Ideal.Read Idealize.ShloMosaic Idealize.ShloMosaic.TcCoe Idealize.SL.Sem
open Idealize.ShloMosaic.ValueIdx
open scoped BigOperators

open Cert.Kernel9Ideal.FfnDown (act gX2)

variable (x0 x1 : S2048x2816.Idx → EReal) (x2 : S2048x1024.Idx → EReal) (x3 : S2816x1024.Idx → EReal)

/-- The gate, as the host's division spells it. -/
theorem ref_sig (i : S2048x2816.Idx) : val_main_call0_v5 (F := Ideal) x0 i = Ideal.logistic (x0 i) := by
  rw [val_main_call0_v5_apply, val_main_call0_v3_apply, val_main_call0_v4_apply, val_main_call0_v2_apply]
  show Ideal.div (Ideal.ofBits .f32 0x3F800000#32) (Ideal.ofBits .f32 0x3F800000#32 + Ideal.exp (-(x0 i))) = _
  rw [Ideal.ofBits_one_f32]
  rfl

theorem ref_act (i : S2048x2816.Idx) : val_main_v3 (F := Ideal) x0 x1 i = act x0 x1 i := by
  show (x0 i * val_main_call0_v5 (F := Ideal) x0 i) * x1 i = _
  rw [ref_sig]
  rfl

theorem x2_eq : val_main_v5 (F := Ideal) x0 x1 x2 x3 = gX2 x0 x1 x2 x3 := by
  funext i
  show x2 i + val_main_v4 (F := Ideal) x0 x1 x3 i = _
  refine congrArg (fun s : EReal => x2 i + s) ((val_main_v4_apply x0 x1 x3 i).trans (Finset.sum_congr rfl fun k _ => ?_))
  rw [ref_act]
  exact congrArg₂ (fun p q => act x0 x1 p * x3 q) (Shape.idx_ext₂ rfl rfl) (Shape.idx_ext₂ rfl rfl)

end Cert.FfnDownEq

end
-- ==== Proof.LruFrame.lean ====
module

public import proofs.«01_k».proof.Proof.Gen.Kernel10Ideal.Frame
public import proofs.«01_k».proof.Proof.Gen.Kernel10Ideal.Skeleton
public import proofs.«01_k».proof.Proof.Gen.Kernel10Ideal.Loops
public import Idealize.ShloMosaic.Lib.Claim

/-! The run of the gated recurrence's backward kernel: at every grid point its body runs whatever its buffers hold. -/

@[expose] public section

set_option maxRecDepth 65536

noncomputable section

namespace Cert.Kernel10Ideal.LruBwd

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first branch is taken at the first point only. -/
abbrev cond (i : grid0.Coords) : Prop := (Scalar.cmpi .ne (Scalar.extui (Scalar.cmpi .eq (BitVec.ofNat 32 (i 0).val) 0#32)) 0#32) = 1#1

/-- A buffer, whole at some contents. -/
abbrev full (c : Dev nD) {sp : Space} {sh : Shape} {e : EltTy} (a : Memref sig .tc sp sh e) : sProp 𝕄 :=
  iprop(∃ f, a.view.loc (c : Thread nD τ) ↦[a.view.set]{fullShare} f)

theorem owns_full (c : Dev nD) {sp : Space} {sh : Shape} {e : EltTy} (a : Memref sig .tc sp sh e) :
    full (F := F) c a ⊢ iprop(∃ X, ⌜True⌝ ∗ owns (c : Thread nD τ) a fullShare X) := by
  unfold owns
  iintro ⟨%f, H⟩
  iexists _; isplitr; · ipureintro; trivial
  iexists _; isplitr; swap; · iexact H
  ipureintro; rfl

section

variable (c : Dev nD) (arg1 : Memref sig .tc .vmem S256x1024 .f32) (arg2 : Memref sig .tc .vmem S256x1024 .f32) (arg3 : Memref sig .tc .vmem S256x1024 .f32) (arg4 : Memref sig .tc .vmem S256x1024 .f32) (arg5 : Memref sig .tc .vmem S8x1024 .f32) (arg6 : Memref sig .tc .vmem S4x1024 .f32) (arg7 : Memref sig .tc .vmem S4x256x256 .bf16) (arg8 : Memref sig .tc .vmem S1x1024 .f32) (arg9 : Memref sig .tc .vmem S4x256x256 .bf16) (arg10 : Memref sig .tc .vmem S1x1024 .f32) (arg11 : Memref sig .tc .vmem S1x1024 .f32) (arg12 : Memref sig .tc .vmem S256x1024 .bf16) (arg13 : Memref sig .tc .vmem S64x1024 .bf16) (arg14 : Memref sig .tc .vmem S64x1024 .bf16) (arg15 : Memref sig .tc .vmem S8x1024 .f32) (arg16 : Memref sig .tc .vmem S256x1024 .f32) (arg17 : Memref sig .tc .vmem S256x1024 .f32) (arg18 : Memref sig .tc .vmem S264x1024 .f32) (arg19 : Memref sig .tc .vmem S264x1024 .f32) (arg20 : Memref sig .tc .vmem S8x1024 .f32) (arg21 : Memref sig .tc .vmem S4x256x256 .f32) (arg22 : Memref sig .tc .vmem S4x256x256 .f32)

/-- The body's buffers, each whole at some contents. -/
abbrev held : sProp 𝕄 :=
  iprop(full c arg1 ∗ full c arg2 ∗ full c arg3 ∗ full c arg4 ∗ full c arg5 ∗ full c arg6 ∗ full c arg7 ∗ full c arg8 ∗ full c arg9 ∗ full c arg10 ∗ full c arg11 ∗ full c arg12 ∗ full c arg13 ∗ full c arg14 ∗ full c arg15 ∗ full c arg16 ∗ full c arg17 ∗ full c arg18 ∗ full c arg19 ∗ full c arg20 ∗ full c arg21 ∗ full c arg22)

set_option maxHeartbeats 4000000 in
/-- The body runs on its buffers whatever they hold, and leaves them whole, whichever branches it takes. -/
theorem runs_on (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 ∗ (held c arg1 arg2 arg3 arg4 arg5 arg6 arg7 arg8 arg9 arg10 arg11 arg12 arg13 arg14 arg15 arg16 arg17 arg18 arg19 arg20 arg21 arg22 -∗ K ⟨⟩))
      ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_lru_bwd_eq_skeleton]; unfold cc0_lru_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  by_cases hc0 : cond i <;> by_cases hc1 : k0_cond2 i = 1#1 <;>
  (iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hk⟩
   sl_exec (disch := first | sl_exact hc0 | sl_exact hc1)
   sl_step
   iapply Hk
   isplitl [H0]; · iexists _; iexact H0
   isplitl [H1]; · iexists _; iexact H1
   isplitl [H2]; · iexists _; iexact H2
   isplitl [H3]; · iexists _; iexact H3
   isplitl [H4]; · iexists _; iexact H4
   isplitl [H5]; · iexists _; iexact H5
   isplitl [H6]; · iexists _; iexact H6
   isplitl [H7]; · iexists _; iexact H7
   isplitl [H8]; · iexists _; iexact H8
   isplitl [H9]; · iexists _; iexact H9
   isplitl [H10]; · iexists _; iexact H10
   isplitl [H11]; · iexists _; iexact H11
   isplitl [H12]; · iexists _; iexact H12
   isplitl [H13]; · iexists _; iexact H13
   isplitl [H14]; · iexists _; iexact H14
   isplitl [H15]; · iexists _; iexact H15
   isplitl [H16]; · iexists _; iexact H16
   isplitl [H17]; · iexists _; iexact H17
   isplitl [H18]; · iexists _; iexact H18
   isplitl [H19]; · iexists _; iexact H19
   isplitl [H20]; · iexists _; iexact H20
   iexists _; iexact H21)

end

/-- The pipeline's data: the arrays at their contents at entry, nothing said of what a buffer holds. -/
def dats (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem row_eq (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : (dats (F := F) m c).BodyObligation (defs₀ (F := F)) Variants.none () Set.univ := fun t Y _ => by
  rw [bigSep_W0, bigSep_W0, row_eq]
  change iprop(Pipeline.ΦA spec0 c ∗ _ ∗ _) ⊢ wp frame _ Set.univ (bodyAt0 t) (fun _ => iprop(Pipeline.ΦA spec0 c ∗ _ ∗ _))
  unfold Pipeline.ΦA owns bodyAt0
  rw [scopedRest0_eq]
  iintro ⟨⟨⟨⟨%g0, HS0⟩, ⟨%g1, HS1⟩, ⟨%g2, HS2⟩, ⟨%g3, HS3⟩, ⟨%g4, HS4⟩, ⟨%g5, HS5⟩, ⟨%g6, HS6⟩⟩, Hr⟩, Ho, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩
  iapply (runs_on c _ _ _ _ _ _ _ _ _ _ _ _ _ _ _ _ _ _ _ _ _ _ _ _ _ _ _ _ _ _ _ _ _ _ _ _ _ _ _ _ _ _ _ _ _ _ _)
  isplitl [H0 H1 H2 H3 H4 H5 H6 H7 H8 H9 H10 H11 H12 H13 H14 HS0 HS1 HS2 HS3 HS4 HS5 HS6]
  · unfold held
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    isplitl [HS4]; · iexists _; rw [View.set_whole]; iexact HS4
    isplitl [HS5]; · iexists _; rw [View.set_whole]; iexact HS5
    iexists _; rw [View.set_whole]; iexact HS6
  unfold held
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%g0, HS0⟩, ⟨%g1, HS1⟩, ⟨%g2, HS2⟩, ⟨%g3, HS3⟩, ⟨%g4, HS4⟩, ⟨%g5, HS5⟩, ⟨%g6, HS6⟩⟩
  isplitl [HS0 HS1 HS2 HS3 HS4 HS5 HS6 Hr]
  · isplitr [Hr]; swap; · iexact Hr
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    isplitl [HS4]; · iexists _; rw [View.set_whole]; iexact HS4
    isplitl [HS5]; · iexists _; rw [View.set_whole]; iexact HS5
    iexists _; rw [View.set_whole]; iexact HS6
  isplitl [Ho]; · iexact Ho
  isplitl [H0]; · iapply owns_full; iexists _; iexact H0
  isplitl [H1]; · iapply owns_full; iexists _; iexact H1
  isplitl [H2]; · iapply owns_full; iexists _; iexact H2
  isplitl [H3]; · iapply owns_full; iexists _; iexact H3
  isplitl [H4]; · iapply owns_full; iexists _; iexact H4
  isplitl [H5]; · iapply owns_full; iexists _; iexact H5
  isplitl [H6]; · iapply owns_full; iexists _; iexact H6
  isplitl [H7]; · iapply owns_full; iexists _; iexact H7
  isplitl [H8]; · iapply owns_full; iexists _; iexact H8
  isplitl [H9]; · iapply owns_full; iexists _; iexact H9
  isplitl [H10]; · iapply owns_full; iexists _; iexact H10
  isplitl [H11]; · iapply owns_full; iexists _; iexact H11
  isplitl [H12]; · iapply owns_full; iexists _; iexact H12
  isplitl [H13]; · iapply owns_full; iexists _; iexact H13
  iapply owns_full; iexists _; iexact H14

/-! ## The run -/

set_option backward.isDefEq.respectTransparency.types false in
theorem run_main : θ_run defs (onTc (τ := τ) (main (F := F))) (s₀ m ρ) (fun r => Pipeline.RDat.FramePost cfg0 (dats m) (V m) r ∧ r.2.sem = fun _ => 0) :=
  Pipeline.RDat.θ_run_frame_track_shared (Q' := _) cfgs (0 : Fin 1) launch₀0 defs₀ Variants.none (dats m) m ρ main
    (hbody := body_obligation m) (hq := fun _ _ _ => rfl)
    (howed := fun _ _ => rfl) (V := V m) (hmain := hmain m Variants.none) (hA := fun _ _ => rfl) (hin := fun _ => .rfl) (hout := fun _ => .rfl)

set_option maxHeartbeats 4000000 in
/-- The frame: the argument arrays end unchanged and every counter ends at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 4 rfl).trans (V_main_arg3 m c),
      (h.1.arr_in c 5 rfl).trans (V_main_arg4 m c),
      (h.1.arr_in c 6 rfl).trans (V_main_arg5 m c),
      (h.1.arr_in c 7 rfl).trans (V_main_arg6 m c),
      (h.1.arr_in c 8 rfl).trans (V_main_arg7 m c),
      (h.1.arr_in c 9 rfl).trans (V_main_arg8 m c),
      (h.1.arr_in c 10 rfl).trans (V_main_arg9 m c)⟩, h.2⟩) (run_main m ρ)

end Cert.Kernel10Ideal.LruBwd

end
-- ==== Proof.S5Frame.lean ====
module

public import proofs.«01_k».proof.Proof.Gen.Kernel11Ideal.Frame
public import proofs.«01_k».proof.Proof.Gen.Kernel11Ideal.Skeleton
public import proofs.«01_k».proof.Proof.Gen.Kernel11Ideal.Loops
public import Idealize.ShloMosaic.Lib.Claim

/-! The run of the complex recurrence's backward kernel: at every grid point its body runs whatever its buffers hold. -/

@[expose] public section

set_option maxRecDepth 65536

noncomputable section

namespace Cert.Kernel11Ideal.S5Bwd

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first branch is taken at the first point only. -/
abbrev cond (i : grid0.Coords) : Prop := (Scalar.cmpi .ne (Scalar.extui (Scalar.cmpi .eq (BitVec.ofNat 32 (i 0).val) 0#32)) 0#32) = 1#1

/-- A buffer, whole at some contents. -/
abbrev full (c : Dev nD) {sp : Space} {sh : Shape} {e : EltTy} (a : Memref sig .tc sp sh e) : sProp 𝕄 :=
  iprop(∃ f, a.view.loc (c : Thread nD τ) ↦[a.view.set]{fullShare} f)

theorem owns_full (c : Dev nD) {sp : Space} {sh : Shape} {e : EltTy} (a : Memref sig .tc sp sh e) :
    full (F := F) c a ⊢ iprop(∃ X, ⌜True⌝ ∗ owns (c : Thread nD τ) a fullShare X) := by
  unfold owns
  iintro ⟨%f, H⟩
  iexists _; isplitr; · ipureintro; trivial
  iexists _; isplitr; swap; · iexact H
  ipureintro; rfl

section

variable (c : Dev nD) (arg1 : Memref sig .tc .vmem S256x512 .f32) (arg2 : Memref sig .tc .vmem S256x512 .f32) (arg3 : Memref sig .tc .vmem S256x2048 .bf16) (arg4 : Memref sig .tc .vmem S256x2048 .bf16) (arg5 : Memref sig .tc .vmem S256x512 .f32) (arg6 : Memref sig .tc .vmem S512x512 .bf16) (arg7 : Memref sig .tc .vmem S1x512 .f32) (arg8 : Memref sig .tc .vmem S4x512x128 .bf16) (arg9 : Memref sig .tc .vmem S4x512x128 .bf16) (arg10 : Memref sig .tc .vmem S4x128x512 .bf16) (arg11 : Memref sig .tc .vmem S4x128x512 .bf16) (arg12 : Memref sig .tc .vmem S1x2048 .f32) (arg13 : Memref sig .tc .vmem S1x2048 .f32) (arg14 : Memref sig .tc .vmem S1x512 .f32) (arg15 : Memref sig .tc .vmem S256x512 .bf16) (arg16 : Memref sig .tc .vmem S256x2048 .bf16) (arg17 : Memref sig .tc .vmem S256x2048 .bf16) (arg18 : Memref sig .tc .vmem S256x512 .bf16) (arg19 : Memref sig .tc .vmem S512x512 .bf16) (arg20 : Memref sig .tc .vmem S8x512 .f32) (arg21 : Memref sig .tc .vmem S8x2048 .f32) (arg22 : Memref sig .tc .vmem S264x2048 .f32) (arg23 : Memref sig .tc .vmem S264x2048 .f32) (arg24 : Memref sig .tc .vmem S8x2048 .f32) (arg25 : Memref sig .tc .vmem S8x2048 .f32) (arg26 : Memref sig .tc .vmem S512x512 .f32)

/-- The body's buffers, each whole at some contents. -/
abbrev held : sProp 𝕄 :=
  iprop(full c arg1 ∗ full c arg2 ∗ full c arg3 ∗ full c arg4 ∗ full c arg5 ∗ full c arg6 ∗ full c arg7 ∗ full c arg8 ∗ full c arg9 ∗ full c arg10 ∗ full c arg11 ∗ full c arg12 ∗ full c arg13 ∗ full c arg14 ∗ full c arg15 ∗ full c arg16 ∗ full c arg17 ∗ full c arg18 ∗ full c arg19 ∗ full c arg20 ∗ full c arg21 ∗ full c arg22 ∗ full c arg23 ∗ full c arg24 ∗ full c arg25 ∗ full c arg26)

set_option maxHeartbeats 4000000 in
/-- The body runs on its buffers whatever they hold, and leaves them whole, whichever branches it takes. -/
theorem runs_on (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 arg26 ∗ (held c arg1 arg2 arg3 arg4 arg5 arg6 arg7 arg8 arg9 arg10 arg11 arg12 arg13 arg14 arg15 arg16 arg17 arg18 arg19 arg20 arg21 arg22 arg23 arg24 arg25 arg26 -∗ K ⟨⟩))
      ⊢ wp frame (wpE (defs₀ (F := F)) Variants.none c none) E (cc0_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_s5_bwd_eq_skeleton]; unfold cc0_s5_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  by_cases hc0 : cond i <;> by_cases hc1 : k0_cond2 i = 1#1 <;>
  (iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩, Hk⟩
   sl_exec (disch := first | sl_exact hc0 | sl_exact hc1)
   sl_step
   iapply Hk
   isplitl [H0]; · iexists _; iexact H0
   isplitl [H1]; · iexists _; iexact H1
   isplitl [H2]; · iexists _; iexact H2
   isplitl [H3]; · iexists _; iexact H3
   isplitl [H4]; · iexists _; iexact H4
   isplitl [H5]; · iexists _; iexact H5
   isplitl [H6]; · iexists _; iexact H6
   isplitl [H7]; · iexists _; iexact H7
   isplitl [H8]; · iexists _; iexact H8
   isplitl [H9]; · iexists _; iexact H9
   isplitl [H10]; · iexists _; iexact H10
   isplitl [H11]; · iexists _; iexact H11
   isplitl [H12]; · iexists _; iexact H12
   isplitl [H13]; · iexists _; iexact H13
   isplitl [H14]; · iexists _; iexact H14
   isplitl [H15]; · iexists _; iexact H15
   isplitl [H16]; · iexists _; iexact H16
   isplitl [H17]; · iexists _; iexact H17
   isplitl [H18]; · iexists _; iexact H18
   isplitl [H19]; · iexists _; iexact H19
   isplitl [H20]; · iexists _; iexact H20
   isplitl [H21]; · iexists _; iexact H21
   isplitl [H22]; · iexists _; iexact H22
   isplitl [H23]; · iexists _; iexact H23
   isplitl [H24]; · iexists _; iexact H24
   iexists _; iexact H25)

end

/-- The pipeline's data: the arrays at their contents at entry, nothing said of what a buffer holds. -/
def dats (c : Dev nD) : RDat τ (Elt F) Unit ℕ (UR sig nD τ) ℕ cfg0 c where
  A w := V m c (Pipeline.arrRef spec0 w)
  after _ _ _ _ := True
  Φ _ := Pipeline.ΦA spec0 c
  q w := fullShare
  owed _ := 0

theorem row_eq (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : (dats (F := F) m c).BodyObligation (defs₀ (F := F)) Variants.none () Set.univ := fun t Y _ => by
  rw [bigSep_W0, bigSep_W0, row_eq]
  change iprop(Pipeline.ΦA spec0 c ∗ _ ∗ _) ⊢ wp frame _ Set.univ (bodyAt0 t) (fun _ => iprop(Pipeline.ΦA spec0 c ∗ _ ∗ _))
  unfold Pipeline.ΦA owns bodyAt0
  rw [scopedRest0_eq]
  iintro ⟨⟨⟨⟨%g0, HS0⟩, ⟨%g1, HS1⟩, ⟨%g2, HS2⟩, ⟨%g3, HS3⟩, ⟨%g4, HS4⟩⟩, Hr⟩, Ho, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩
  iapply (runs_on c _ _ _ _ _ _ _ _ _ _ _ _ _ _ _ _ _ _ _ _ _ _ _ _ _ _ _ _ _ _ _ _ _ _ _ _ _ _ _ _ _ _ _ _ _ _ _ _ _ _ _ _ _ _ _)
  isplitl [H0 H1 H2 H3 H4 H5 H6 H7 H8 H9 H10 H11 H12 H13 H14 H15 H16 H17 H18 H19 H20 HS0 HS1 HS2 HS3 HS4]
  · unfold held
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    iexists _; rw [View.set_whole]; iexact HS4
  unfold held
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%g0, HS0⟩, ⟨%g1, HS1⟩, ⟨%g2, HS2⟩, ⟨%g3, HS3⟩, ⟨%g4, HS4⟩⟩
  isplitl [HS0 HS1 HS2 HS3 HS4 Hr]
  · isplitr [Hr]; swap; · iexact Hr
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    iexists _; rw [View.set_whole]; iexact HS4
  isplitl [Ho]; · iexact Ho
  isplitl [H0]; · iapply owns_full; iexists _; iexact H0
  isplitl [H1]; · iapply owns_full; iexists _; iexact H1
  isplitl [H2]; · iapply owns_full; iexists _; iexact H2
  isplitl [H3]; · iapply owns_full; iexists _; iexact H3
  isplitl [H4]; · iapply owns_full; iexists _; iexact H4
  isplitl [H5]; · iapply owns_full; iexists _; iexact H5
  isplitl [H6]; · iapply owns_full; iexists _; iexact H6
  isplitl [H7]; · iapply owns_full; iexists _; iexact H7
  isplitl [H8]; · iapply owns_full; iexists _; iexact H8
  isplitl [H9]; · iapply owns_full; iexists _; iexact H9
  isplitl [H10]; · iapply owns_full; iexists _; iexact H10
  isplitl [H11]; · iapply owns_full; iexists _; iexact H11
  isplitl [H12]; · iapply owns_full; iexists _; iexact H12
  isplitl [H13]; · iapply owns_full; iexists _; iexact H13
  isplitl [H14]; · iapply owns_full; iexists _; iexact H14
  isplitl [H15]; · iapply owns_full; iexists _; iexact H15
  isplitl [H16]; · iapply owns_full; iexists _; iexact H16
  isplitl [H17]; · iapply owns_full; iexists _; iexact H17
  isplitl [H18]; · iapply owns_full; iexists _; iexact H18
  isplitl [H19]; · iapply owns_full; iexists _; iexact H19
  iapply owns_full; iexists _; iexact H20

/-! ## The run -/

set_option backward.isDefEq.respectTransparency.types false in
theorem run_main : θ_run defs (onTc (τ := τ) (main (F := F))) (s₀ m ρ) (fun r => Pipeline.RDat.FramePost cfg0 (dats m) (V m) r ∧ r.2.sem = fun _ => 0) :=
  Pipeline.RDat.θ_run_frame_track (Q' := _) cfgs (0 : Fin 1) launch0 defs₀ Variants.none (dats m) m ρ main
    (hbody := body_obligation m) (hshare := fun c => (dats m c).share_full fun _ => rfl)
    (howed := fun _ _ => rfl) (V := V m) (hmain := hmain m Variants.none) (hA := fun _ _ => rfl) (hin := fun _ => .rfl) (hout := fun _ => .rfl)

set_option maxHeartbeats 4000000 in
/-- The frame: the argument arrays end unchanged and every counter ends at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      (h.1.arr_in c 6 rfl).trans (V_main_arg6 m c),
      (h.1.arr_in c 7 rfl).trans (V_main_arg7 m c),
      (h.1.arr_in c 8 rfl).trans (V_main_arg8 m c),
      (h.1.arr_in c 9 rfl).trans (V_main_arg9 m c),
      (h.1.arr_in c 10 rfl).trans (V_main_arg10 m c),
      (h.1.arr_in c 11 rfl).trans (V_main_arg11 m c),
      (h.1.arr_in c 12 rfl).trans (V_main_arg12 m c),
      (h.1.arr_in c 13 rfl).trans (V_main_arg13 m c)⟩, h.2⟩) (run_main m ρ)

end Cert.Kernel11Ideal.S5Bwd

end
-- ==== Proof.SmallFrame.lean ====
module

public import proofs.«01_k».proof.Proof.Gen.Kernel12Ideal.Frame.Runs
public import proofs.«01_k».proof.Proof.Gen.Kernel12Ideal.Skeleton
public import Idealize.ShloMosaic.Lib.Claim

/-! The run of the kernel that sums the small gradients: at every grid point its body runs whatever its buffers hold. -/

@[expose] public section

set_option maxRecDepth 65536

noncomputable section

namespace Cert.Kernel12Ideal.SmallReduce

open Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first branch is taken at the first point only. -/
abbrev cond (i : grid0.Coords) : Prop := (Scalar.cmpi .ne (Scalar.extui (Scalar.cmpi .eq (BitVec.ofNat 32 (i 0).val) 0#32)) 0#32) = 1#1

/-- The body's second branch is taken at every point after the first. -/
abbrev later (i : grid0.Coords) : Prop := (Scalar.cmpi .ne (Scalar.extui (Scalar.cmpi .sgt (BitVec.ofNat 32 (i 0).val) 0#32)) 0#32) = 1#1

/-- A buffer, whole at some contents. -/
abbrev full (c : Dev nD) {sp : Space} {sh : Shape} {e : EltTy} (a : Memref sig .tc sp sh e) : sProp 𝕄 :=
  iprop(∃ f, a.view.loc (c : Thread nD τ) ↦[a.view.set]{fullShare} f)

theorem owns_full (c : Dev nD) {sp : Space} {sh : Shape} {e : EltTy} (a : Memref sig .tc sp sh e) :
    full (F := F) c a ⊢ iprop(∃ X, ⌜True⌝ ∗ owns (c : Thread nD τ) a fullShare X) := by
  unfold owns
  iintro ⟨%f, H⟩
  iexists _; isplitr; · ipureintro; trivial
  iexists _; isplitr; swap; · iexact H
  ipureintro; rfl

section

variable (c : Dev nD) (arg1 : Memref sig .tc .vmem S1x8x1024 .f32) (arg2 : Memref sig .tc .vmem S1x8x1024 .f32) (arg3 : Memref sig .tc .vmem S1x8x1024 .f32) (arg4 : Memref sig .tc .vmem S1x8x1024 .f32) (arg5 : Memref sig .tc .vmem S1x8x3584 .f32) (arg6 : Memref sig .tc .vmem S1x8x512 .f32) (arg7 : Memref sig .tc .vmem S1x8x2048 .f32) (arg8 : Memref sig .tc .vmem S64x1024 .bf16) (arg9 : Memref sig .tc .vmem S64x1024 .bf16) (arg10 : Memref sig .tc .vmem S1x16x2048 .bf16) (arg11 : Memref sig .tc .vmem S1x16x2048 .bf16) (arg12 : Memref sig .tc .vmem S64x512 .bf16) (arg13 : Memref sig .tc .vmem S64x512 .bf16) (arg14 : Memref sig .tc .vmem S1x8x128 .f32) (arg15 : Memref sig .tc .vmem S2048x1 .f32) (arg16 : Memref sig .tc .vmem S2048x1 .f32) (arg17 : Memref sig .tc .vmem S2048x1 .f32) (arg18 : Memref sig .tc .vmem S2048x16 .f32) (arg19 : Memref sig .tc .vmem S2048x16 .f32) (arg20 : Memref sig .tc .vmem S8x128 .f32) (arg21 : Memref sig .tc .vmem S1x1024 .f32) (arg22 : Memref sig .tc .vmem S1x3584 .f32) (arg23 : Memref sig .tc .vmem S1x512 .f32) (arg24 : Memref sig .tc .vmem S1x512 .f32) (arg25 : Memref sig .tc .vmem S1x1024 .f32) (arg26 : Memref sig .tc .vmem S1x1024 .f32) (arg27 : Memref sig .tc .vmem S1x1024 .f32) (arg28 : Memref sig .tc .vmem S1x1024 .f32) (arg29 : Memref sig .tc .vmem S1x1024 .f32) (arg30 : Memref sig .tc .vmem S1x1024 .f32) (arg31 : Memref sig .tc .vmem S1x1024 .f32) (arg32 : Memref sig .tc .vmem S1x1024 .f32) (arg33 : Memref sig .tc .vmem S1x1024 .f32) (arg34 : Memref sig .tc .vmem S1024x64 .f32) (arg35 : Memref sig .tc .vmem S1024x64 .f32) (arg36 : Memref sig .tc .vmem S512x64 .f32) (arg37 : Memref sig .tc .vmem S512x64 .f32) (arg38 : Memref sig .tc .vmem S2048x16 .f32) (arg39 : Memref sig .tc .vmem S2048x16 .f32) (arg40 : Memref sig .tc .vmem S2048x1 .f32) (arg41 : Memref sig .tc .vmem S2048x1 .f32) (arg42 : Memref sig .tc .vmem S32x1 .f32) (arg43 : Memref sig .tc .vmem S4x1024 .f32) (arg44 : Memref sig .tc .vmem S8x1024 .f32) (arg45 : Memref sig .tc .vmem S8x1024 .f32) (arg46 : Memref sig .tc .vmem S8x1024 .f32) (arg47 : Memref sig .tc .vmem S8x1024 .f32) (arg48 : Memref sig .tc .vmem S8x3584 .f32) (arg49 : Memref sig .tc .vmem S8x512 .f32) (arg50 : Memref sig .tc .vmem S8x2048 .f32) (arg51 : Memref sig .tc .vmem S64x1024 .f32) (arg52 : Memref sig .tc .vmem S64x1024 .f32) (arg53 : Memref sig .tc .vmem S16x2048 .f32) (arg54 : Memref sig .tc .vmem S16x2048 .f32) (arg55 : Memref sig .tc .vmem S64x512 .f32) (arg56 : Memref sig .tc .vmem S64x512 .f32) (arg57 : Memref sig .tc .vmem S8x128 .f32)

/-- The body's buffers, each whole at some contents. -/
abbrev held : sProp 𝕄 :=
  iprop(full c arg1 ∗ full c arg2 ∗ full c arg3 ∗ full c arg4 ∗ full c arg5 ∗ full c arg6 ∗ full c arg7 ∗ full c arg8 ∗ full c arg9 ∗ full c arg10 ∗ full c arg11 ∗ full c arg12 ∗ full c arg13 ∗ full c arg14 ∗ full c arg15 ∗ full c arg16 ∗ full c arg17 ∗ full c arg18 ∗ full c arg19 ∗ full c arg20 ∗ full c arg21 ∗ full c arg22 ∗ full c arg23 ∗ full c arg24 ∗ full c arg25 ∗ full c arg26 ∗ full c arg27 ∗ full c arg28 ∗ full c arg29 ∗ full c arg30 ∗ full c arg31 ∗ full c arg32 ∗ full c arg33 ∗ full c arg34 ∗ full c arg35 ∗ full c arg36 ∗ full c arg37 ∗ full c arg38 ∗ full c arg39 ∗ full c arg40 ∗ full c arg41 ∗ full c arg42 ∗ full c arg43 ∗ full c arg44 ∗ full c arg45 ∗ full c arg46 ∗ full c arg47 ∗ full c arg48 ∗ full c arg49 ∗ full c arg50 ∗ full c arg51 ∗ full c arg52 ∗ full c arg53 ∗ full c arg54 ∗ full c arg55 ∗ full c arg56 ∗ full c arg57)

/-- Which branches a point takes. -/
theorem which (i : grid0.Coords) : ((cond i) ∧ ¬ (later i) ∧ ¬ (k0_cond3 i = 1#1)) ∨ (¬ (cond i) ∧ (later i) ∧ ¬ (k0_cond3 i = 1#1)) ∨ (¬ (cond i) ∧ (later i) ∧ (k0_cond3 i = 1#1)) := by
  have hi : (i 0).val < 8 := (i 0).isLt
  unfold cond later k0_cond3
  generalize (i 0).val = n at hi ⊢
  revert hi; revert n; decide

set_option maxHeartbeats 16000000 in
/-- The body runs on its buffers whatever they hold, and leaves them whole, whichever branches it takes. -/
theorem runs_on (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole) (harg30 : arg30.IsWhole) (harg31 : arg31.IsWhole) (harg32 : arg32.IsWhole) (harg33 : arg33.IsWhole) (harg34 : arg34.IsWhole) (harg35 : arg35.IsWhole) (harg36 : arg36.IsWhole) (harg37 : arg37.IsWhole) (harg38 : arg38.IsWhole) (harg39 : arg39.IsWhole) (harg40 : arg40.IsWhole) (harg41 : arg41.IsWhole) (harg42 : arg42.IsWhole) (harg43 : arg43.IsWhole) (harg44 : arg44.IsWhole) (harg45 : arg45.IsWhole) (harg46 : arg46.IsWhole) (harg47 : arg47.IsWhole) (harg48 : arg48.IsWhole) (harg49 : arg49.IsWhole) (harg50 : arg50.IsWhole) (harg51 : arg51.IsWhole) (harg52 : arg52.IsWhole) (harg53 : arg53.IsWhole) (harg54 : arg54.IsWhole) (harg55 : arg55.IsWhole) (harg56 : arg56.IsWhole) (harg57 : arg57.IsWhole) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 ∗ (held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 -∗ K ⟨⟩))
      ⊢ wp frame (wpE (defs₀ (F := F)) Variants.none c none) E (cc0_small_reduce i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57) K := by
  simp only [cc0_small_reduce_eq_skeleton]; unfold cc0_small_reduce_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  rcases which i with ⟨hc0, hc1, hc2⟩ | ⟨hc0, hc1, hc2⟩ | ⟨hc0, hc1, hc2⟩ <;>
  (iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%f43, H43⟩, ⟨%f44, H44⟩, ⟨%f45, H45⟩, ⟨%f46, H46⟩, ⟨%f47, H47⟩, ⟨%f48, H48⟩, ⟨%f49, H49⟩, ⟨%f50, H50⟩, ⟨%f51, H51⟩, ⟨%f52, H52⟩, ⟨%f53, H53⟩, ⟨%f54, H54⟩, ⟨%f55, H55⟩, ⟨%f56, H56⟩⟩, Hk⟩
   sl_exec (disch := first | sl_exact hc0 | sl_exact hc1 | sl_exact hc2)
   sl_step
   iapply Hk
   isplitl [H0]; · iexists _; iexact H0
   isplitl [H1]; · iexists _; iexact H1
   isplitl [H2]; · iexists _; iexact H2
   isplitl [H3]; · iexists _; iexact H3
   isplitl [H4]; · iexists _; iexact H4
   isplitl [H5]; · iexists _; iexact H5
   isplitl [H6]; · iexists _; iexact H6
   isplitl [H7]; · iexists _; iexact H7
   isplitl [H8]; · iexists _; iexact H8
   isplitl [H9]; · iexists _; iexact H9
   isplitl [H10]; · iexists _; iexact H10
   isplitl [H11]; · iexists _; iexact H11
   isplitl [H12]; · iexists _; iexact H12
   isplitl [H13]; · iexists _; iexact H13
   isplitl [H14]; · iexists _; iexact H14
   isplitl [H15]; · iexists _; iexact H15
   isplitl [H16]; · iexists _; iexact H16
   isplitl [H17]; · iexists _; iexact H17
   isplitl [H18]; · iexists _; iexact H18
   isplitl [H19]; · iexists _; iexact H19
   isplitl [H20]; · iexists _; iexact H20
   isplitl [H21]; · iexists _; iexact H21
   isplitl [H22]; · iexists _; iexact H22
   isplitl [H23]; · iexists _; iexact H23
   isplitl [H24]; · iexists _; iexact H24
   isplitl [H25]; · iexists _; iexact H25
   isplitl [H26]; · iexists _; iexact H26
   isplitl [H27]; · iexists _; iexact H27
   isplitl [H28]; · iexists _; iexact H28
   isplitl [H29]; · iexists _; iexact H29
   isplitl [H30]; · iexists _; iexact H30
   isplitl [H31]; · iexists _; iexact H31
   isplitl [H32]; · iexists _; iexact H32
   isplitl [H33]; · iexists _; iexact H33
   isplitl [H34]; · iexists _; iexact H34
   isplitl [H35]; · iexists _; iexact H35
   isplitl [H36]; · iexists _; iexact H36
   isplitl [H37]; · iexists _; iexact H37
   isplitl [H38]; · iexists _; iexact H38
   isplitl [H39]; · iexists _; iexact H39
   isplitl [H40]; · iexists _; iexact H40
   isplitl [H41]; · iexists _; iexact H41
   isplitl [H42]; · iexists _; iexact H42
   isplitl [H43]; · iexists _; iexact H43
   isplitl [H44]; · iexists _; iexact H44
   isplitl [H45]; · iexists _; iexact H45
   isplitl [H46]; · iexists _; iexact H46
   isplitl [H47]; · iexists _; iexact H47
   isplitl [H48]; · iexists _; iexact H48
   isplitl [H49]; · iexists _; iexact H49
   isplitl [H50]; · iexists _; iexact H50
   isplitl [H51]; · iexists _; iexact H51
   isplitl [H52]; · iexists _; iexact H52
   isplitl [H53]; · iexists _; iexact H53
   isplitl [H54]; · iexists _; iexact H54
   isplitl [H55]; · iexists _; iexact H55
   iexists _; iexact H56)

end

/-- The pipeline's data: the arrays at their contents at entry, nothing said of what a buffer holds. -/
def dats (c : Dev nD) : RDat τ (Elt F) Unit ℕ (UR sig nD τ) ℕ cfg0 c where
  A w := V m c (Pipeline.arrRef spec0 w)
  after _ _ _ _ := True
  Φ _ := Pipeline.ΦA spec0 c
  q w := fullShare
  owed _ := 0

theorem row_eq (t : Fin cfg0.N) : defs₀ (F := F) .tc cfg0.body (cfg0.bodyArgs t (cfg0.slots t)) = bodyAt0 t := by
  unfold defs₀; rw [Defs.onTc_tc]

set_option maxHeartbeats 16000000 in
theorem body_obligation (c : Dev nD) : (dats (F := F) m c).BodyObligation (defs₀ (F := F)) Variants.none () Set.univ := fun t Y _ => by
  rw [bigSep_W0, bigSep_W0, row_eq]
  change iprop(Pipeline.ΦA spec0 c ∗ _ ∗ _) ⊢ wp frame _ Set.univ (bodyAt0 t) (fun _ => iprop(Pipeline.ΦA spec0 c ∗ _ ∗ _))
  unfold Pipeline.ΦA owns bodyAt0
  rw [scopedRest0_eq]
  iintro ⟨⟨⟨⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩, ⟨%g9, HS9⟩, ⟨%g10, HS10⟩, ⟨%g11, HS11⟩, ⟨%g12, HS12⟩, ⟨%g13, HS13⟩⟩, Hr⟩, Ho, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩⟩
  iapply (runs_on c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 HS0 HS1 HS2 HS3 HS4 HS5 HS6 HS7 HS8 HS9 HS10 HS11 HS12 HS13]
  · unfold held
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    isplitl [HS4]; · iexists _; rw [View.set_whole]; iexact HS4
    isplitl [HS5]; · iexists _; rw [View.set_whole]; iexact HS5
    isplitl [HS6]; · iexists _; rw [View.set_whole]; iexact HS6
    isplitl [HS7]; · iexists _; rw [View.set_whole]; iexact HS7
    isplitl [HS8]; · iexists _; rw [View.set_whole]; iexact HS8
    isplitl [HS9]; · iexists _; rw [View.set_whole]; iexact HS9
    isplitl [HS10]; · iexists _; rw [View.set_whole]; iexact HS10
    isplitl [HS11]; · iexists _; rw [View.set_whole]; iexact HS11
    isplitl [HS12]; · iexists _; rw [View.set_whole]; iexact HS12
    iexists _; rw [View.set_whole]; iexact HS13
  unfold held
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩, ⟨%g9, HS9⟩, ⟨%g10, HS10⟩, ⟨%g11, HS11⟩, ⟨%g12, HS12⟩, ⟨%g13, HS13⟩⟩
  isplitl [HS0 HS1 HS2 HS3 HS4 HS5 HS6 HS7 HS8 HS9 HS10 HS11 HS12 HS13 Hr]
  · isplitr [Hr]; swap; · iexact Hr
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    isplitl [HS4]; · iexists _; rw [View.set_whole]; iexact HS4
    isplitl [HS5]; · iexists _; rw [View.set_whole]; iexact HS5
    isplitl [HS6]; · iexists _; rw [View.set_whole]; iexact HS6
    isplitl [HS7]; · iexists _; rw [View.set_whole]; iexact HS7
    isplitl [HS8]; · iexists _; rw [View.set_whole]; iexact HS8
    isplitl [HS9]; · iexists _; rw [View.set_whole]; iexact HS9
    isplitl [HS10]; · iexists _; rw [View.set_whole]; iexact HS10
    isplitl [HS11]; · iexists _; rw [View.set_whole]; iexact HS11
    isplitl [HS12]; · iexists _; rw [View.set_whole]; iexact HS12
    iexists _; rw [View.set_whole]; iexact HS13
  isplitl [Ho]; · iexact Ho
  isplitl [H0]; · iapply owns_full; iexists _; iexact H0
  isplitl [H1]; · iapply owns_full; iexists _; iexact H1
  isplitl [H2]; · iapply owns_full; iexists _; iexact H2
  isplitl [H3]; · iapply owns_full; iexists _; iexact H3
  isplitl [H4]; · iapply owns_full; iexists _; iexact H4
  isplitl [H5]; · iapply owns_full; iexists _; iexact H5
  isplitl [H6]; · iapply owns_full; iexists _; iexact H6
  isplitl [H7]; · iapply owns_full; iexists _; iexact H7
  isplitl [H8]; · iapply owns_full; iexists _; iexact H8
  isplitl [H9]; · iapply owns_full; iexists _; iexact H9
  isplitl [H10]; · iapply owns_full; iexists _; iexact H10
  isplitl [H11]; · iapply owns_full; iexists _; iexact H11
  isplitl [H12]; · iapply owns_full; iexists _; iexact H12
  isplitl [H13]; · iapply owns_full; iexists _; iexact H13
  isplitl [H14]; · iapply owns_full; iexists _; iexact H14
  isplitl [H15]; · iapply owns_full; iexists _; iexact H15
  isplitl [H16]; · iapply owns_full; iexists _; iexact H16
  isplitl [H17]; · iapply owns_full; iexists _; iexact H17
  isplitl [H18]; · iapply owns_full; iexists _; iexact H18
  isplitl [H19]; · iapply owns_full; iexists _; iexact H19
  isplitl [H20]; · iapply owns_full; iexists _; iexact H20
  isplitl [H21]; · iapply owns_full; iexists _; iexact H21
  isplitl [H22]; · iapply owns_full; iexists _; iexact H22
  isplitl [H23]; · iapply owns_full; iexists _; iexact H23
  isplitl [H24]; · iapply owns_full; iexists _; iexact H24
  isplitl [H25]; · iapply owns_full; iexists _; iexact H25
  isplitl [H26]; · iapply owns_full; iexists _; iexact H26
  isplitl [H27]; · iapply owns_full; iexists _; iexact H27
  isplitl [H28]; · iapply owns_full; iexists _; iexact H28
  isplitl [H29]; · iapply owns_full; iexists _; iexact H29
  isplitl [H30]; · iapply owns_full; iexists _; iexact H30
  isplitl [H31]; · iapply owns_full; iexists _; iexact H31
  isplitl [H32]; · iapply owns_full; iexists _; iexact H32
  isplitl [H33]; · iapply owns_full; iexists _; iexact H33
  isplitl [H34]; · iapply owns_full; iexists _; iexact H34
  isplitl [H35]; · iapply owns_full; iexists _; iexact H35
  isplitl [H36]; · iapply owns_full; iexists _; iexact H36
  isplitl [H37]; · iapply owns_full; iexists _; iexact H37
  isplitl [H38]; · iapply owns_full; iexists _; iexact H38
  isplitl [H39]; · iapply owns_full; iexists _; iexact H39
  isplitl [H40]; · iapply owns_full; iexists _; iexact H40
  isplitl [H41]; · iapply owns_full; iexists _; iexact H41
  iapply owns_full; iexists _; iexact H42

/-! ## The run -/

set_option backward.isDefEq.respectTransparency.types false in
theorem run_main : θ_run defs (onTc (τ := τ) (main (F := F))) (s₀ m ρ) (fun r => Pipeline.RDat.FramePost cfg0 (dats m) (V m) r ∧ r.2.sem = fun _ => 0) :=
  Pipeline.RDat.θ_run_frame_track (Q' := _) cfgs (0 : Fin 1) launch0 defs₀ Variants.none (dats m) m ρ main
    (hbody := body_obligation m) (hshare := fun c => (dats m c).share_full fun _ => rfl)
    (howed := fun _ _ => rfl) (V := V m) (hmain := hmain m Variants.none) (hA := fun _ _ => rfl) (hin := fun _ => .rfl) (hout := fun _ => .rfl)

set_option maxHeartbeats 4000000 in
/-- The frame: the argument arrays end unchanged and every counter ends at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      (h.1.arr_in c 6 rfl).trans (V_main_arg6 m c),
      (h.1.arr_in c 7 rfl).trans (V_main_arg7 m c),
      (h.1.arr_in c 8 rfl).trans (V_main_arg8 m c),
      (h.1.arr_in c 9 rfl).trans (V_main_arg9 m c),
      (h.1.arr_in c 10 rfl).trans (V_main_arg10 m c),
      (h.1.arr_in c 11 rfl).trans (V_main_arg11 m c),
      (h.1.arr_in c 12 rfl).trans (V_main_arg12 m c),
      (h.1.arr_in c 13 rfl).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c)⟩, h.2⟩) (run_main m ρ)

end Cert.Kernel12Ideal.SmallReduce

end
-- ==== Proof.BranchesFrame.lean ====
module

public import proofs.«01_k».proof.Proof.Gen.Kernel13Ideal.Frame
public import proofs.«01_k».proof.Proof.Gen.Kernel13Ideal.Skeleton
public import proofs.«01_k».proof.Proof.Gen.Kernel13Ideal.Loops
public import Idealize.ShloMosaic.Lib.Claim

/-! The run of the kernel of both forward recurrences: at every grid point its body runs whatever its buffers hold. -/

@[expose] public section

set_option maxRecDepth 65536

noncomputable section

namespace Cert.Kernel13Ideal.Branches

open Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first branch is taken at the first point only. -/
abbrev cond (i : grid0.Coords) : Prop := (Scalar.cmpi .ne (Scalar.extui (Scalar.cmpi .eq (BitVec.ofNat 32 (i 0).val) 0#32)) 0#32) = 1#1

/-- A buffer, whole at some contents. -/
abbrev full (c : Dev nD) {sp : Space} {sh : Shape} {e : EltTy} (a : Memref sig .tc sp sh e) : sProp 𝕄 :=
  iprop(∃ f, a.view.loc (c : Thread nD τ) ↦[a.view.set]{fullShare} f)

theorem owns_full (c : Dev nD) {sp : Space} {sh : Shape} {e : EltTy} (a : Memref sig .tc sp sh e) :
    full (F := F) c a ⊢ iprop(∃ X, ⌜True⌝ ∗ owns (c : Thread nD τ) a fullShare X) := by
  unfold owns
  iintro ⟨%f, H⟩
  iexists _; isplitr; · ipureintro; trivial
  iexists _; isplitr; swap; · iexact H
  ipureintro; rfl

section

variable (c : Dev nD) (arg1 : Memref sig .tc .vmem S256x512 .f32) (arg2 : Memref sig .tc .vmem S4x128x512 .bf16) (arg3 : Memref sig .tc .vmem S4x128x512 .bf16) (arg4 : Memref sig .tc .vmem S1x2048 .f32) (arg5 : Memref sig .tc .vmem S1x2048 .f32) (arg6 : Memref sig .tc .vmem S4x512x128 .bf16) (arg7 : Memref sig .tc .vmem S4x512x128 .bf16) (arg8 : Memref sig .tc .vmem S1x512 .f32) (arg9 : Memref sig .tc .vmem S512x512 .bf16) (arg10 : Memref sig .tc .vmem S1x512 .f32) (arg11 : Memref sig .tc .vmem S256x1024 .f32) (arg12 : Memref sig .tc .vmem S4x1024 .f32) (arg13 : Memref sig .tc .vmem S1x1024 .f32) (arg14 : Memref sig .tc .vmem S4x256x256 .bf16) (arg15 : Memref sig .tc .vmem S1x1024 .f32) (arg16 : Memref sig .tc .vmem S4x256x256 .bf16) (arg17 : Memref sig .tc .vmem S1x1024 .f32) (arg18 : Memref sig .tc .vmem S1x1024 .f32) (arg19 : Memref sig .tc .vmem S256x2048 .bf16) (arg20 : Memref sig .tc .vmem S256x2048 .bf16) (arg21 : Memref sig .tc .vmem S256x512 .f32) (arg22 : Memref sig .tc .vmem S256x512 .f32) (arg23 : Memref sig .tc .vmem S256x1024 .f32) (arg24 : Memref sig .tc .vmem S256x1024 .f32) (arg25 : Memref sig .tc .vmem S256x1024 .f32) (arg26 : Memref sig .tc .vmem S8x2048 .f32) (arg27 : Memref sig .tc .vmem S8x2048 .f32) (arg28 : Memref sig .tc .vmem S256x2048 .f32) (arg29 : Memref sig .tc .vmem S256x2048 .f32) (arg30 : Memref sig .tc .vmem S264x1024 .f32) (arg31 : Memref sig .tc .vmem S256x1024 .f32) (arg32 : Memref sig .tc .vmem S8x1024 .f32)

/-- The body's buffers, each whole at some contents. -/
abbrev held : sProp 𝕄 :=
  iprop(full c arg1 ∗ full c arg2 ∗ full c arg3 ∗ full c arg4 ∗ full c arg5 ∗ full c arg6 ∗ full c arg7 ∗ full c arg8 ∗ full c arg9 ∗ full c arg10 ∗ full c arg11 ∗ full c arg12 ∗ full c arg13 ∗ full c arg14 ∗ full c arg15 ∗ full c arg16 ∗ full c arg17 ∗ full c arg18 ∗ full c arg19 ∗ full c arg20 ∗ full c arg21 ∗ full c arg22 ∗ full c arg23 ∗ full c arg24 ∗ full c arg25 ∗ full c arg26 ∗ full c arg27 ∗ full c arg28 ∗ full c arg29 ∗ full c arg30 ∗ full c arg31 ∗ full c arg32)

set_option maxHeartbeats 4000000 in
/-- The body runs on its buffers whatever they hold, and leaves them whole, whichever branches it takes. -/
theorem runs_on (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole) (harg30 : arg30.IsWhole) (harg31 : arg31.IsWhole) (harg32 : arg32.IsWhole) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 ∗ (held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 -∗ K ⟨⟩))
      ⊢ wp frame (wpE (defs₀ (F := F)) Variants.none c none) E (cc0_branches_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_branches_fwd_eq_skeleton]; unfold cc0_branches_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  by_cases hc0 : cond i <;>
  (iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩⟩, Hk⟩
   sl_exec (disch := first | sl_exact hc0)
   sl_step
   iapply Hk
   isplitl [H0]; · iexists _; iexact H0
   isplitl [H1]; · iexists _; iexact H1
   isplitl [H2]; · iexists _; iexact H2
   isplitl [H3]; · iexists _; iexact H3
   isplitl [H4]; · iexists _; iexact H4
   isplitl [H5]; · iexists _; iexact H5
   isplitl [H6]; · iexists _; iexact H6
   isplitl [H7]; · iexists _; iexact H7
   isplitl [H8]; · iexists _; iexact H8
   isplitl [H9]; · iexists _; iexact H9
   isplitl [H10]; · iexists _; iexact H10
   isplitl [H11]; · iexists _; iexact H11
   isplitl [H12]; · iexists _; iexact H12
   isplitl [H13]; · iexists _; iexact H13
   isplitl [H14]; · iexists _; iexact H14
   isplitl [H15]; · iexists _; iexact H15
   isplitl [H16]; · iexists _; iexact H16
   isplitl [H17]; · iexists _; iexact H17
   isplitl [H18]; · iexists _; iexact H18
   isplitl [H19]; · iexists _; iexact H19
   isplitl [H20]; · iexists _; iexact H20
   isplitl [H21]; · iexists _; iexact H21
   isplitl [H22]; · iexists _; iexact H22
   isplitl [H23]; · iexists _; iexact H23
   isplitl [H24]; · iexists _; iexact H24
   isplitl [H25]; · iexists _; iexact H25
   isplitl [H26]; · iexists _; iexact H26
   isplitl [H27]; · iexists _; iexact H27
   isplitl [H28]; · iexists _; iexact H28
   isplitl [H29]; · iexists _; iexact H29
   isplitl [H30]; · iexists _; iexact H30
   iexists _; iexact H31)

end

/-- The pipeline's data: the arrays at their contents at entry, nothing said of what a buffer holds. -/
def dats (c : Dev nD) : RDat τ (Elt F) Unit ℕ (UR sig nD τ) ℕ cfg0 c where
  A w := V m c (Pipeline.arrRef spec0 w)
  after _ _ _ _ := True
  Φ _ := Pipeline.ΦA spec0 c
  q w := fullShare
  owed _ := 0

theorem row_eq (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : (dats (F := F) m c).BodyObligation (defs₀ (F := F)) Variants.none () Set.univ := fun t Y _ => by
  rw [bigSep_W0, bigSep_W0, row_eq]
  change iprop(Pipeline.ΦA spec0 c ∗ _ ∗ _) ⊢ wp frame _ Set.univ (bodyAt0 t) (fun _ => iprop(Pipeline.ΦA spec0 c ∗ _ ∗ _))
  unfold Pipeline.ΦA owns bodyAt0
  rw [scopedRest0_eq]
  iintro ⟨⟨⟨⟨%g0, HS0⟩, ⟨%g1, HS1⟩, ⟨%g2, HS2⟩, ⟨%g3, HS3⟩, ⟨%g4, HS4⟩, ⟨%g5, HS5⟩, ⟨%g6, HS6⟩⟩, Hr⟩, Ho, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩⟩
  iapply (runs_on c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H0 H1 H2 H3 H4 H5 H6 H7 H8 H9 H10 H11 H12 H13 H14 H15 H16 H17 H18 H19 H20 H21 H22 H23 H24 HS0 HS1 HS2 HS3 HS4 HS5 HS6]
  · unfold held
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    isplitl [HS4]; · iexists _; rw [View.set_whole]; iexact HS4
    isplitl [HS5]; · iexists _; rw [View.set_whole]; iexact HS5
    iexists _; rw [View.set_whole]; iexact HS6
  unfold held
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%g0, HS0⟩, ⟨%g1, HS1⟩, ⟨%g2, HS2⟩, ⟨%g3, HS3⟩, ⟨%g4, HS4⟩, ⟨%g5, HS5⟩, ⟨%g6, HS6⟩⟩
  isplitl [HS0 HS1 HS2 HS3 HS4 HS5 HS6 Hr]
  · isplitr [Hr]; swap; · iexact Hr
    isplitl [HS0]; · iexists _; rw [View.set_whole]; iexact HS0
    isplitl [HS1]; · iexists _; rw [View.set_whole]; iexact HS1
    isplitl [HS2]; · iexists _; rw [View.set_whole]; iexact HS2
    isplitl [HS3]; · iexists _; rw [View.set_whole]; iexact HS3
    isplitl [HS4]; · iexists _; rw [View.set_whole]; iexact HS4
    isplitl [HS5]; · iexists _; rw [View.set_whole]; iexact HS5
    iexists _; rw [View.set_whole]; iexact HS6
  isplitl [Ho]; · iexact Ho
  isplitl [H0]; · iapply owns_full; iexists _; iexact H0
  isplitl [H1]; · iapply owns_full; iexists _; iexact H1
  isplitl [H2]; · iapply owns_full; iexists _; iexact H2
  isplitl [H3]; · iapply owns_full; iexists _; iexact H3
  isplitl [H4]; · iapply owns_full; iexists _; iexact H4
  isplitl [H5]; · iapply owns_full; iexists _; iexact H5
  isplitl [H6]; · iapply owns_full; iexists _; iexact H6
  isplitl [H7]; · iapply owns_full; iexists _; iexact H7
  isplitl [H8]; · iapply owns_full; iexists _; iexact H8
  isplitl [H9]; · iapply owns_full; iexists _; iexact H9
  isplitl [H10]; · iapply owns_full; iexists _; iexact H10
  isplitl [H11]; · iapply owns_full; iexists _; iexact H11
  isplitl [H12]; · iapply owns_full; iexists _; iexact H12
  isplitl [H13]; · iapply owns_full; iexists _; iexact H13
  isplitl [H14]; · iapply owns_full; iexists _; iexact H14
  isplitl [H15]; · iapply owns_full; iexists _; iexact H15
  isplitl [H16]; · iapply owns_full; iexists _; iexact H16
  isplitl [H17]; · iapply owns_full; iexists _; iexact H17
  isplitl [H18]; · iapply owns_full; iexists _; iexact H18
  isplitl [H19]; · iapply owns_full; iexists _; iexact H19
  isplitl [H20]; · iapply owns_full; iexists _; iexact H20
  isplitl [H21]; · iapply owns_full; iexists _; iexact H21
  isplitl [H22]; · iapply owns_full; iexists _; iexact H22
  isplitl [H23]; · iapply owns_full; iexists _; iexact H23
  iapply owns_full; iexists _; iexact H24

/-! ## The run -/

set_option backward.isDefEq.respectTransparency.types false in
theorem run_main : θ_run defs (onTc (τ := τ) (main (F := F))) (s₀ m ρ) (fun r => Pipeline.RDat.FramePost cfg0 (dats m) (V m) r ∧ r.2.sem = fun _ => 0) :=
  Pipeline.RDat.θ_run_frame_track (Q' := _) cfgs (0 : Fin 1) launch0 defs₀ Variants.none (dats m) m ρ main
    (hbody := body_obligation m) (hshare := fun c => (dats m c).share_full fun _ => rfl)
    (howed := fun _ _ => rfl) (V := V m) (hmain := hmain m Variants.none) (hA := fun _ _ => rfl) (hin := fun _ => .rfl) (hout := fun _ => .rfl)

set_option maxHeartbeats 4000000 in
/-- The frame: the argument arrays end unchanged and every counter ends at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨(h.1.arr_in c 0 rfl).trans (V_main_arg0 m c),
      (h.1.arr_in c 10 rfl).trans (V_main_arg1 m c),
      (h.1.arr_in c 1 rfl).trans (V_main_arg2 m c),
      (h.1.arr_in c 2 rfl).trans (V_main_arg3 m c),
      (h.1.arr_in c 3 rfl).trans (V_main_arg4 m c),
      (h.1.arr_in c 4 rfl).trans (V_main_arg5 m c),
      (h.1.arr_in c 5 rfl).trans (V_main_arg6 m c),
      (h.1.arr_in c 6 rfl).trans (V_main_arg7 m c),
      (h.1.arr_in c 7 rfl).trans (V_main_arg8 m c),
      (h.1.arr_in c 8 rfl).trans (V_main_arg9 m c),
      (h.1.arr_in c 9 rfl).trans (V_main_arg10 m c),
      (h.1.arr_in c 11 rfl).trans (V_main_arg11 m c),
      (h.1.arr_in c 12 rfl).trans (V_main_arg12 m c),
      (h.1.arr_in c 13 rfl).trans (V_main_arg13 m c),
      (h.1.arr_in c 14 rfl).trans (V_main_arg14 m c),
      (h.1.arr_in c 15 rfl).trans (V_main_arg15 m c),
      (h.1.arr_in c 16 rfl).trans (V_main_arg16 m c),
      (h.1.arr_in c 17 rfl).trans (V_main_arg17 m c)⟩, h.2⟩) (run_main m ρ)

end Cert.Kernel13Ideal.Branches

end
-- ==== Proof.Adam.lean ====
/- The optimiser's step over the extended reals: the two moments and the change of one entry, and the sum of the parts of a
   gradient as a kernel's loads spell it. Stated once for every size; the calls use them at their own. -/
module

public import proofs.«01_k».proof.Proof.Blocks

@[expose] public section

noncomputable section

namespace Cert.Adam

open Idealize.ShloMosaic Idealize.ShloMosaic.ValueIdx
open scoped BigOperators

/-- The first moment after the step. -/
def mom (g m : EReal) : EReal := Ideal.ofBits .f32 0x3F666666#32 * m + Ideal.ofBits .f32 0x3DCCCCCD#32 * g

/-- The second moment after the step. -/
def vel (g v : EReal) : EReal := Ideal.ofBits .f32 0x3F7FBE77#32 * v + Ideal.ofBits .f32 0x3A83126F#32 * (g * g)

/-- The change of the weight. -/
def change (w g m v : EReal) : EReal :=
  Ideal.ofBits .f32 0xBA83126F#32
    * (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

variable {n a b : Nat} {φ : FTy}

/-- One part of a gradient, loaded from the stack of parts and laid flat. -/
theorem part {α : Type} (x : (⟨3, ![1, a, b]⟩ : Shape).Idx → α) (h : (⟨3, ![1, a, b]⟩ : Shape).ShapeCasts ⟨2, ![a, b]⟩) (r : Fin a) (j : Fin b) :
    shapeCast ⟨2, ![a, b]⟩ x h (ix2 r j) = x (ix3 0 r j) :=
  shapeCast_apply x h _ _ (by
    rw [Shape.rowMajor_val_three, Shape.rowMajor_val_two]; show (0 * a + r.val) * b + j.val = r.val * b + j.val; rw [Nat.zero_mul, Nat.zero_add])

/-- The load of part `k`, laid flat. -/
theorem ld_part {e : EltTy} (x : Vec Ideal ⟨3, ![n, a, b]⟩ e) (k : Fin n)
    (inb : ∀ i, (![k.val, 0, 0] : Fin 3 → Nat) i + (⟨3, ![1, a, b]⟩ : Shape).size i ≤ (⟨3, ![n, a, b]⟩ : Shape).size i)
    (h : (⟨3, ![1, a, b]⟩ : Shape).ShapeCasts ⟨2, ![a, b]⟩) (r : Fin a) (j : Fin b) :
    shapeCast ⟨2, ![a, b]⟩ (View.ld x (Rect.unit (s := ⟨3, ![n, a, b]⟩) ![k.val, 0, 0] (⟨3, ![1, a, b]⟩ : Shape).size inb)) h (ix2 r j)
      = x (ix3 k r j) := by
  refine (part _ h r j).trans (congrArg x (funext fun i => Fin.ext ?_))
  fin_cases i
  · show k.val + 1 * 0 = k.val; omega
  · show 0 + 1 * r.val = r.val; omega
  · show 0 + 1 * j.val = j.val; omega

/-- The sum of four parts, as the loads and the additions spell it. -/
theorem sum4 (x : Vec Ideal ⟨3, ![4, a, b]⟩ .bf16)
    (i0 : ∀ i, (![0, 0, 0] : Fin 3 → Nat) i + (⟨3, ![1, a, b]⟩ : Shape).size i ≤ (⟨3, ![4, a, b]⟩ : Shape).size i)
    (i1 : ∀ i, (![1, 0, 0] : Fin 3 → Nat) i + (⟨3, ![1, a, b]⟩ : Shape).size i ≤ (⟨3, ![4, a, b]⟩ : Shape).size i)
    (i2 : ∀ i, (![2, 0, 0] : Fin 3 → Nat) i + (⟨3, ![1, a, b]⟩ : Shape).size i ≤ (⟨3, ![4, a, b]⟩ : Shape).size i)
    (i3 : ∀ i, (![3, 0, 0] : Fin 3 → Nat) i + (⟨3, ![1, a, b]⟩ : Shape).size i ≤ (⟨3, ![4, a, b]⟩ : Shape).size i)
    (h : (⟨3, ![1, a, b]⟩ : Shape).ShapeCasts ⟨2, ![a, b]⟩) (hb : FTy.bf16.bits < FTy.f32.bits) (r : Fin a) (j : Fin b) :
    (addf (F := Ideal) (addf (F := Ideal) (addf (F := Ideal) (extf .f32 (shapeCast ⟨2, ![a, b]⟩ (View.ld x (Rect.unit (s := ⟨3, ![4, a, b]⟩) ![0, 0, 0] (⟨3, ![1, a, b]⟩ : Shape).size i0)) h) hb)
        (extf .f32 (shapeCast ⟨2, ![a, b]⟩ (View.ld x (Rect.unit (s := ⟨3, ![4, a, b]⟩) ![1, 0, 0] (⟨3, ![1, a, b]⟩ : Shape).size i1)) h) hb))
        (extf .f32 (shapeCast ⟨2, ![a, b]⟩ (View.ld x (Rect.unit (s := ⟨3, ![4, a, b]⟩) ![2, 0, 0] (⟨3, ![1, a, b]⟩ : Shape).size i2)) h) hb))
        (extf .f32 (shapeCast ⟨2, ![a, b]⟩ (View.ld x (Rect.unit (s := ⟨3, ![4, a, b]⟩) ![3, 0, 0] (⟨3, ![1, a, b]⟩ : Shape).size i3)) h) hb) (ix2 r j) : EReal)
      = ∑ k : Fin 4, (x (ix3 k r j) : EReal) := by
  rw [Fin.sum_univ_four]
  exact congrArg₂ (fun p q : EReal => p + q) (congrArg₂ (fun p q : EReal => p + q) (congrArg₂ (fun p q : EReal => p + q) (ld_part x 0 i0 h r j)
    (ld_part x 1 i1 h r j)) (ld_part x 2 i2 h r j)) (ld_part x 3 i3 h r j)

/-- A block turned over its diagonal. -/
theorem turn {α : Type} (x : (⟨2, ![a, b]⟩ : Shape).Idx → α) (h : (⟨2, ![a, b]⟩ : Shape).Transposes [1, 0] ⟨2, ![b, a]⟩) (j : Fin b) (r : Fin a) :
    transpose ⟨2, ![b, a]⟩ [1, 0] x h (ix2 j r) = x (ix2 r j) :=
  transpose_apply [1, 0] x h (ix2 j r) (ix2 r j) (fun b => match b with
    | ⟨0, _⟩ => rfl
    | ⟨1, _⟩ => rfl)

end Cert.Adam

end
-- ==== Proof.AdamGlu.lean ====
/- Call 14, the optimiser's step of w_glu: what its one point leaves is what the reference writes, for all arguments. -/
module

public import proofs.«01_k».proof.Proof.Adam
public import proofs.«01_k».proof.Proof.Gen.Kernel14Ideal.Value
public import proofs.«01_k».proof.Proof.Gen.Reference14Ideal.Run
public import proofs.«01_k».proof.Proof.Gen.Reference14Ideal.Read

@[expose] public section

noncomputable section

namespace Cert.Kernel14Ideal.Adam

open Cert.Kernel14Ideal Cert.Kernel14Ideal.Gen Cert.Kernel14Ideal.Value Cert.Adam Cert.Reference14Ideal.Read
open Idealize.ShloMosaic Idealize.ShloMosaic.TcCoe Idealize.ShloMosaic.ValueIdx

variable (x0 : Vec Ideal S4x64x512 .bf16) (x1 x2 x3 : Vec Ideal S64x512 .f32)

/-- The gradient: the sum of the parts. -/
theorem g_eq : G4 (F := Ideal) x0 x1 x2 x3 = val_main_v1 (F := Ideal) x0 := by
  funext i
  obtain ⟨r, j, rfl⟩ : ∃ (r : Fin 64) (j : Fin 512), i = ix2 r j := ⟨_, _, eq_ix2 i⟩
  refine (sum4 x0 _ _ _ _ _ _ r j).trans (Eq.trans ?_ (val_main_v1_apply x0 _).symm)
  rw [show (val_main_cst (F := Ideal) (Shape.Idx.first Cert.Reference14Ideal.Gen.h_S_) : EReal) = 0 from Ideal.ofBits_zero_f32, zero_add]
  exact Finset.sum_congr rfl fun k _ => congrArg x0 (funext fun a => by fin_cases a <;> rfl)

theorem m_eq : G6 (F := Ideal) x0 x1 x2 x3 = val_main_v6 (F := Ideal) x0 x2 := by
  funext i
  show mom (G4 (F := Ideal) x0 x1 x2 x3 i) (x2 i) = _
  rw [g_eq]
  rfl

theorem v_eq : G7 (F := Ideal) x0 x1 x2 x3 = val_main_v12 (F := Ideal) x0 x3 := by
  funext i
  show vel (G4 (F := Ideal) x0 x1 x2 x3 i) (x3 i) = _
  rw [g_eq]
  rfl

theorem d_eq : G5 (F := Ideal) x0 x1 x2 x3 = val_main_v25 (F := Ideal) x0 x1 x2 x3 := by
  funext i
  show change (x1 i) (G4 (F := Ideal) x0 x1 x2 x3 i) (x2 i) (x3 i) = _
  rw [g_eq]
  rfl

end Cert.Kernel14Ideal.Adam

end
-- ==== Proof.AdamConv.lean ====
/- Call 15, the optimiser's step of conv_w: what its one point leaves is what the reference writes, for all arguments. -/
module

public import proofs.«01_k».proof.Proof.Adam
public import proofs.«01_k».proof.Proof.Gen.Kernel15Ideal.Value
public import proofs.«01_k».proof.Proof.Gen.Reference15Ideal.Run
public import proofs.«01_k».proof.Proof.Gen.Reference15Ideal.Read

@[expose] public section

noncomputable section

namespace Cert.Kernel15Ideal.Adam

open Cert.Kernel15Ideal Cert.Kernel15Ideal.Gen Cert.Kernel15Ideal.Value Cert.Adam Cert.Reference15Ideal.Read
open Idealize.ShloMosaic Idealize.ShloMosaic.TcCoe Idealize.ShloMosaic.ValueIdx

variable (x0 : Vec Ideal S1x4x128 .f32) (x1 x2 x3 : Vec Ideal S4x128 .f32)

/-- The gradient: the sum of the parts. -/
theorem g_eq : G4 (F := Ideal) x0 x1 x2 x3 = val_main_v0 (F := Ideal) x0 := by
  funext i
  obtain ⟨r, j, rfl⟩ : ∃ (r : Fin 4) (j : Fin 128), i = ix2 r j := ⟨_, _, eq_ix2 i⟩
  refine (part x0 _ r j).trans (Eq.trans ?_ (val_main_v0_apply x0 _).symm)
  rw [show (val_main_cst (F := Ideal) (Shape.Idx.first Cert.Reference15Ideal.Gen.h_S_) : EReal) = 0 from Ideal.ofBits_zero_f32, zero_add]
  refine Eq.trans ?_ (Fin.sum_univ_one _).symm
  exact congrArg x0 (funext fun a => by fin_cases a <;> rfl)

theorem m_eq : G6 (F := Ideal) x0 x1 x2 x3 = val_main_v5 (F := Ideal) x0 x2 := by
  funext i
  show mom (G4 (F := Ideal) x0 x1 x2 x3 i) (x2 i) = _
  rw [g_eq]
  rfl

theorem v_eq : G7 (F := Ideal) x0 x1 x2 x3 = val_main_v11 (F := Ideal) x0 x3 := by
  funext i
  show vel (G4 (F := Ideal) x0 x1 x2 x3 i) (x3 i) = _
  rw [g_eq]
  rfl

theorem d_eq : G5 (F := Ideal) x0 x1 x2 x3 = val_main_v24 (F := Ideal) x0 x1 x2 x3 := by
  funext i
  show change (x1 i) (G4 (F := Ideal) x0 x1 x2 x3 i) (x2 i) (x3 i) = _
  rw [g_eq]
  rfl

end Cert.Kernel15Ideal.Adam

end
-- ==== Proof.AdamAOut.lean ====
/- Call 16, the optimiser's step of w_a_out: each point leaves its block of what the reference writes, for all arguments. -/
module

public import proofs.«01_k».proof.Proof.Adam
public import proofs.«01_k».proof.Proof.Gen.Kernel16Ideal.Value
public import proofs.«01_k».proof.Proof.Gen.Reference16Ideal.Run
public import proofs.«01_k».proof.Proof.Gen.Reference16Ideal.Read

@[expose] public section

noncomputable section

namespace Cert.Kernel16Ideal.Adam

open Cert.Kernel16Ideal Cert.Kernel16Ideal.Gen Cert.Adam Cert.Blocks Cert.Reference16Ideal.Read
open Idealize.ShloMosaic Idealize.ShloMosaic.TcCoe Idealize.ShloMosaic.ValueIdx Idealize.SL.Sem

variable (m : (ℓ : Loc nD τ sig) → Buf (Elt Ideal) ℓ) (c : Dev nD)

/-- Row `256 t + r` of the long arrays. -/
def row (t : Fin cfg0.N) (r : Fin 256) : Fin 512 :=
  ⟨t.val * 256 + r.val, by have : t.val < 2 := t.isLt; have := r.isLt; omega⟩

/-- The point and the row inside its block of a row of the long arrays. -/
theorem row_surj (q : Fin 512) : ∃ (t : Fin cfg0.N) (r : Fin 256), q = row t r := by
  have h0 := q.isLt
  refine ⟨⟨q.val / 256, by show q.val / 256 < 2; omega⟩, ⟨q.val % 256, by omega⟩, Fin.ext ?_⟩
  show q.val = q.val / 256 * 256 + q.val % 256
  omega

theorem at_row (i : S512x128.Idx) : ∃ (t : Fin cfg0.N) (r : Fin 256) (k : Fin 128), i = ix2 (row t r) k := by
  obtain ⟨t, r, h⟩ := row_surj (i 0)
  exact ⟨t, r, i 1, Shape.idx_ext₂ (by rw [h]) rfl⟩

/-! ## The blocks -/

abbrev A0 : Vec Ideal S4x128x512 .bf16 := m ((c : Thread nD τ).loc main_arg0)
abbrev A1 : Vec Ideal S512x128 .f32 := m ((c : Thread nD τ).loc main_arg1)
abbrev A2 : Vec Ideal S512x128 .f32 := m ((c : Thread nD τ).loc main_arg2)
abbrev A3 : Vec Ideal S512x128 .f32 := m ((c : Thread nD τ).loc main_arg3)

theorem idx0 : ∀ t : Fin cfg0.N, win0_0.index t 0 = 0 ∧ win0_0.index t 1 = 0 ∧ win0_0.index t 2 = t.val := by decide +kernel
theorem blk0 (t : Fin cfg0.N) (k : Fin 4) (j : Fin 128) (r : Fin 256) : (iblk m c 0 t (ix3 k j r) : EReal) = A0 m c (ix3 k j (row t r)) := by
  refine congrArg (A0 m c) (show (win0_0.rect t).emb (ix3 k j r) = _ from funext fun a => Fin.ext ?_)
  match a with
  | ⟨0, _⟩ => rw [Pipeline.Window.rect_emb_val win0_0 t _ _ rfl]; show win0_0.index t 0 * 4 + k.val = k.val; rw [(idx0 t).1, Nat.zero_mul, Nat.zero_add]
  | ⟨1, _⟩ => rw [Pipeline.Window.rect_emb_val win0_0 t _ _ rfl]; show win0_0.index t 1 * 128 + j.val = j.val; rw [(idx0 t).2.1, Nat.zero_mul, Nat.zero_add]
  | ⟨2, _⟩ => rw [Pipeline.Window.rect_emb_val win0_0 t _ _ rfl]; show win0_0.index t 2 * 256 + r.val = t.val * 256 + r.val; rw [(idx0 t).2.2]

theorem idx1 : ∀ t : Fin cfg0.N, win0_1.index t 0 = t.val ∧ win0_1.index t 1 = 0 := by decide +kernel
theorem emb1 (t : Fin cfg0.N) (r : Fin 256) (j : Fin 128) : (win0_1.rect t).emb (ix2 r j) = ix2 (row t r) j := by
  refine Shape.idx_ext₂ ?_ ?_
  · rw [Pipeline.Window.rect_emb_val win0_1 t _ 0 rfl, (idx1 t).1]; rfl
  · rw [Pipeline.Window.rect_emb_val win0_1 t _ 1 rfl, (idx1 t).2]; show 0 * 128 + j.val = j.val; omega
theorem blk1 (t : Fin cfg0.N) (r : Fin 256) (j : Fin 128) : (iblk m c 1 t (ix2 r j) : EReal) = A1 m c (ix2 (row t r) j) :=
  congrArg (A1 m c) (emb1 t r j)

theorem emb2 (t : Fin cfg0.N) (r : Fin 256) (j : Fin 128) : (win0_2.rect t).emb (ix2 r j) = ix2 (row t r) j := emb1 t r j
theorem blk2 (t : Fin cfg0.N) (r : Fin 256) (j : Fin 128) : (iblk m c 2 t (ix2 r j) : EReal) = A2 m c (ix2 (row t r) j) :=
  congrArg (A2 m c) (emb2 t r j)

theorem emb3 (t : Fin cfg0.N) (r : Fin 256) (j : Fin 128) : (win0_3.rect t).emb (ix2 r j) = ix2 (row t r) j := emb1 t r j
theorem blk3 (t : Fin cfg0.N) (r : Fin 256) (j : Fin 128) : (iblk m c 3 t (ix2 r j) : EReal) = A3 m c (ix2 (row t r) j) :=
  congrArg (A3 m c) (emb3 t r j)

theorem emb4 (t : Fin cfg0.N) (r : Fin 256) (j : Fin 128) : (win0_4.rect t).emb (ix2 r j) = ix2 (row t r) j := emb1 t r j

theorem emb5 (t : Fin cfg0.N) (r : Fin 256) (j : Fin 128) : (win0_5.rect t).emb (ix2 r j) = ix2 (row t r) j := emb1 t r j

theorem emb6 (t : Fin cfg0.N) (r : Fin 256) (j : Fin 128) : (win0_6.rect t).emb (ix2 r j) = ix2 (row t r) j := emb1 t r j

theorem emb7 (t : Fin cfg0.N) (r : Fin 256) (j : Fin 128) : (win0_7.rect t).emb (ix2 r j) = ix2 (row t r) j := emb1 t r j

/-! ## What the points write back -/

/-- The gradient's block: the sum of the parts. -/
theorem grad0 (t : Fin cfg0.N) (r : Fin 256) (j : Fin 128) : (k0_pay2 (F := Ideal) (View.ld (iblk m c 0 t) r0_0) (View.ld (iblk m c 0 t) r0_1) (View.ld (iblk m c 0 t) r0_2) (View.ld (iblk m c 0 t) r0_3) (ix2 r j) : EReal) = val_main_v2 (F := Ideal) (A0 m c) (ix2 (row t r) j) := by
  refine (turn _ _ r j).trans ((sum4 (iblk m c 0 t) _ _ _ _ _ _ j r).trans (Eq.trans ?_ ((val_main_v2_apply _ _).trans (val_main_v1_apply _ _)).symm))
  rw [show (val_main_cst (F := Ideal) (Shape.Idx.first Cert.Reference16Ideal.Gen.h_S_) : EReal) = 0 from Ideal.ofBits_zero_f32, zero_add]
  exact Finset.sum_congr rfl fun k _ => (blk0 m c t k j r).trans (congrArg (A0 m c) (funext fun a => by fin_cases a <;> rfl))

theorem flushed4_eq (t : Fin cfg0.N) : (dats m 0 c).flushed 4 t = (win0_4.blk t).view.read (Elt Ideal) (val_main_v2 (F := Ideal) (A0 m c)) := by
  rw [Value.flushed4]
  unfold out0_4
  rw [View.canon_unit_zero hz]
  funext i
  obtain ⟨r, j, rfl⟩ : ∃ (r : Fin 256) (j : Fin 128), i = ix2 r j := ⟨_, _, eq_ix2 i⟩
  show _ = val_main_v2 (F := Ideal) (A0 m c) ((win0_4.rect t).emb (ix2 r j))
  rw [emb4]
  exact grad0 m c t r j

theorem cover4 (i : S512x128.Idx) : ∃ t, (cfg0.win 4).flush t = true ∧ i ∈ ((cfg0.win 4).blk t).view.set := by
  obtain ⟨t, r, k, rfl⟩ := at_row i
  refine ⟨t, flush0_4 t, ?_⟩
  rw [← emb4]
  exact View.emb_mem_set (win0_4.blk t).view _

theorem flushed6_eq (t : Fin cfg0.N) : (dats m 0 c).flushed 6 t = (win0_6.blk t).view.read (Elt Ideal) (val_main_v7 (F := Ideal) (A0 m c) (A2 m c)) := by
  rw [Value.flushed6]
  unfold out0_6
  rw [View.canon_unit_zero hz]
  funext i
  obtain ⟨r, j, rfl⟩ : ∃ (r : Fin 256) (j : Fin 128), i = ix2 r j := ⟨_, _, eq_ix2 i⟩
  show _ = val_main_v7 (F := Ideal) (A0 m c) (A2 m c) ((win0_6.rect t).emb (ix2 r j))
  rw [emb6]
  rw [View.ld_unit_zero hz]
  show mom (k0_pay2 (F := Ideal) (View.ld (iblk m c 0 t) r0_0) (View.ld (iblk m c 0 t) r0_1) (View.ld (iblk m c 0 t) r0_2) (View.ld (iblk m c 0 t) r0_3) (ix2 r j)) (iblk m c 2 t (ix2 r j)) = _
  rw [grad0, blk2]
  rfl

theorem cover6 (i : S512x128.Idx) : ∃ t, (cfg0.win 6).flush t = true ∧ i ∈ ((cfg0.win 6).blk t).view.set := by
  obtain ⟨t, r, k, rfl⟩ := at_row i
  refine ⟨t, flush0_6 t, ?_⟩
  rw [← emb6]
  exact View.emb_mem_set (win0_6.blk t).view _

theorem flushed7_eq (t : Fin cfg0.N) : (dats m 0 c).flushed 7 t = (win0_7.blk t).view.read (Elt Ideal) (val_main_v13 (F := Ideal) (A0 m c) (A3 m c)) := by
  rw [Value.flushed7]
  unfold out0_7
  rw [View.canon_unit_zero hz]
  funext i
  obtain ⟨r, j, rfl⟩ : ∃ (r : Fin 256) (j : Fin 128), i = ix2 r j := ⟨_, _, eq_ix2 i⟩
  show _ = val_main_v13 (F := Ideal) (A0 m c) (A3 m c) ((win0_7.rect t).emb (ix2 r j))
  rw [emb7]
  rw [View.ld_unit_zero hz]
  show vel (k0_pay2 (F := Ideal) (View.ld (iblk m c 0 t) r0_0) (View.ld (iblk m c 0 t) r0_1) (View.ld (iblk m c 0 t) r0_2) (View.ld (iblk m c 0 t) r0_3) (ix2 r j)) (iblk m c 3 t (ix2 r j)) = _
  rw [grad0, blk3]
  rfl

theorem cover7 (i : S512x128.Idx) : ∃ t, (cfg0.win 7).flush t = true ∧ i ∈ ((cfg0.win 7).blk t).view.set := by
  obtain ⟨t, r, k, rfl⟩ := at_row i
  refine ⟨t, flush0_7 t, ?_⟩
  rw [← emb7]
  exact View.emb_mem_set (win0_7.blk t).view _

theorem flushed5_eq (t : Fin cfg0.N) : (dats m 0 c).flushed 5 t = (win0_5.blk t).view.read (Elt Ideal) (val_main_v26 (F := Ideal) (A0 m c) (A1 m c) (A2 m c) (A3 m c)) := by
  rw [Value.flushed5]
  unfold out0_5
  rw [View.canon_unit_zero hz]
  funext i
  obtain ⟨r, j, rfl⟩ : ∃ (r : Fin 256) (j : Fin 128), i = ix2 r j := ⟨_, _, eq_ix2 i⟩
  show _ = val_main_v26 (F := Ideal) (A0 m c) (A1 m c) (A2 m c) (A3 m c) ((win0_5.rect t).emb (ix2 r j))
  rw [emb5]
  rw [View.ld_unit_zero hz, View.ld_unit_zero hz, View.ld_unit_zero hz]
  show change (iblk m c 1 t (ix2 r j)) (k0_pay2 (F := Ideal) (View.ld (iblk m c 0 t) r0_0) (View.ld (iblk m c 0 t) r0_1) (View.ld (iblk m c 0 t) r0_2) (View.ld (iblk m c 0 t) r0_3) (ix2 r j)) (iblk m c 2 t (ix2 r j)) (iblk m c 3 t (ix2 r j)) = _
  rw [grad0, blk1, blk2, blk3]
  rfl

theorem cover5 (i : S512x128.Idx) : ∃ t, (cfg0.win 5).flush t = true ∧ i ∈ ((cfg0.win 5).blk t).view.set := by
  obtain ⟨t, r, k, rfl⟩ := at_row i
  refine ⟨t, flush0_5 t, ?_⟩
  rw [← emb5]
  exact View.emb_mem_set (win0_5.blk t).view _

/-- The run, read: the result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = val_main_v2 (F := Ideal) (A0 m c)
      ∧ r.2.mem ((c : Thread nD τ).loc main_v0_1) = val_main_v26 (F := Ideal) (A0 m c) (A1 m c) (A2 m c) (A3 m c)
      ∧ r.2.mem ((c : Thread nD τ).loc main_v0_2) = val_main_v7 (F := Ideal) (A0 m c) (A2 m c)
      ∧ r.2.mem ((c : Thread nD τ).loc main_v0_3) = val_main_v13 (F := Ideal) (A0 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 _ (fun t _ => flushed4_eq m c t) cover4),
      (h c).2.1.trans ((dats m 0 c).arrAt_eq_of_cover 5 _ (fun t _ => flushed5_eq m c t) cover5),
      (h c).2.2.1.trans ((dats m 0 c).arrAt_eq_of_cover 6 _ (fun t _ => flushed6_eq m c t) cover6),
      (h c).2.2.2.1.trans ((dats m 0 c).arrAt_eq_of_cover 7 _ (fun t _ => flushed7_eq m c t) cover7),
      (h c).2.2.2.2⟩)
    (Value.run_blocks m ρ)

end Cert.Kernel16Ideal.Adam

end
-- ==== Proof.AdamThree.lean ====
/- Call 17, the optimiser's step of w_b_out, w_o and w_ple_gate: what its one point leaves is what the reference writes, for all arguments. -/
module

public import proofs.«01_k».proof.Proof.Adam
public import proofs.«01_k».proof.Proof.Gen.Kernel17Ideal.Value
public import proofs.«01_k».proof.Proof.Gen.Reference17Ideal.Run
public import proofs.«01_k».proof.Proof.Gen.Reference17Ideal.Read

@[expose] public section

noncomputable section

namespace Cert.Kernel17Ideal.Adam

open Cert.Kernel17Ideal Cert.Kernel17Ideal.Gen Cert.Kernel17Ideal.Value Cert.Adam Cert.Reference17Ideal.Read
open Idealize.ShloMosaic Idealize.ShloMosaic.TcCoe Idealize.ShloMosaic.ValueIdx

variable (x0 : Vec Ideal S4x128x1024 .bf16) (x3 x6 x9 : Vec Ideal S128x1024 .f32)
variable (x1 : Vec Ideal S4x128x1024 .bf16) (x4 x7 x10 : Vec Ideal S128x1024 .f32)
variable (x2 : Vec Ideal S4x128x1024 .bf16) (x5 x8 x11 : Vec Ideal S128x1024 .f32)

/-- The gradient of weight 0: the sum of the parts. -/
theorem g0_eq : G12 (F := Ideal) x0 x3 x6 x9 x1 x4 x7 x10 x2 x5 x8 x11 = val_main_v1 (F := Ideal) x0 := by
  funext i
  obtain ⟨r, j, rfl⟩ : ∃ (r : Fin 128) (j : Fin 1024), i = ix2 r j := ⟨_, _, eq_ix2 i⟩
  refine (sum4 x0 _ _ _ _ _ _ r j).trans (Eq.trans ?_ (val_main_v1_apply x0 _).symm)
  rw [show (val_main_cst (F := Ideal) (Shape.Idx.first Cert.Reference17Ideal.Gen.h_S_) : EReal) = 0 from Ideal.ofBits_zero_f32, zero_add]
  exact Finset.sum_congr rfl fun k _ => congrArg x0 (funext fun a => by fin_cases a <;> rfl)

theorem m0_eq : G14 (F := Ideal) x0 x3 x6 x9 x1 x4 x7 x10 x2 x5 x8 x11 = val_main_v6 (F := Ideal) x0 x6 := by
  funext i
  show mom (G12 (F := Ideal) x0 x3 x6 x9 x1 x4 x7 x10 x2 x5 x8 x11 i) (x6 i) = _
  rw [g0_eq]
  rfl

theorem v0_eq : G15 (F := Ideal) x0 x3 x6 x9 x1 x4 x7 x10 x2 x5 x8 x11 = val_main_v12 (F := Ideal) x0 x9 := by
  funext i
  show vel (G12 (F := Ideal) x0 x3 x6 x9 x1 x4 x7 x10 x2 x5 x8 x11 i) (x9 i) = _
  rw [g0_eq]
  rfl

theorem d0_eq : G13 (F := Ideal) x0 x3 x6 x9 x1 x4 x7 x10 x2 x5 x8 x11 = val_main_v25 (F := Ideal) x0 x3 x6 x9 := by
  funext i
  show change (x3 i) (G12 (F := Ideal) x0 x3 x6 x9 x1 x4 x7 x10 x2 x5 x8 x11 i) (x6 i) (x9 i) = _
  rw [g0_eq]
  rfl

/-- The gradient of weight 1: the sum of the parts. -/
theorem g1_eq : G16 (F := Ideal) x0 x3 x6 x9 x1 x4 x7 x10 x2 x5 x8 x11 = val_main_v27 (F := Ideal) x1 := by
  funext i
  obtain ⟨r, j, rfl⟩ : ∃ (r : Fin 128) (j : Fin 1024), i = ix2 r j := ⟨_, _, eq_ix2 i⟩
  refine (sum4 x1 _ _ _ _ _ _ r j).trans (Eq.trans ?_ (val_main_v27_apply x1 _).symm)
  rw [show (val_main_cst_9 (F := Ideal) (Shape.Idx.first Cert.Reference17Ideal.Gen.h_S_) : EReal) = 0 from Ideal.ofBits_zero_f32, zero_add]
  exact Finset.sum_congr rfl fun k _ => congrArg x1 (funext fun a => by fin_cases a <;> rfl)

theorem m1_eq : G18 (F := Ideal) x0 x3 x6 x9 x1 x4 x7 x10 x2 x5 x8 x11 = val_main_v32 (F := Ideal) x1 x7 := by
  funext i
  show mom (G16 (F := Ideal) x0 x3 x6 x9 x1 x4 x7 x10 x2 x5 x8 x11 i) (x7 i) = _
  rw [g1_eq]
  rfl

theorem v1_eq : G19 (F := Ideal) x0 x3 x6 x9 x1 x4 x7 x10 x2 x5 x8 x11 = val_main_v38 (F := Ideal) x1 x10 := by
  funext i
  show vel (G16 (F := Ideal) x0 x3 x6 x9 x1 x4 x7 x10 x2 x5 x8 x11 i) (x10 i) = _
  rw [g1_eq]
  rfl

theorem d1_eq : G17 (F := Ideal) x0 x3 x6 x9 x1 x4 x7 x10 x2 x5 x8 x11 = val_main_v51 (F := Ideal) x1 x4 x7 x10 := by
  funext i
  show change (x4 i) (G16 (F := Ideal) x0 x3 x6 x9 x1 x4 x7 x10 x2 x5 x8 x11 i) (x7 i) (x10 i) = _
  rw [g1_eq]
  rfl

/-- The gradient of weight 2: the sum of the parts. -/
theorem g2_eq : G20 (F := Ideal) x0 x3 x6 x9 x1 x4 x7 x10 x2 x5 x8 x11 = val_main_v53 (F := Ideal) x2 := by
  funext i
  obtain ⟨r, j, rfl⟩ : ∃ (r : Fin 128) (j : Fin 1024), i = ix2 r j := ⟨_, _, eq_ix2 i⟩
  refine (sum4 x2 _ _ _ _ _ _ r j).trans (Eq.trans ?_ (val_main_v53_apply x2 _).symm)
  rw [show (val_main_cst_19 (F := Ideal) (Shape.Idx.first Cert.Reference17Ideal.Gen.h_S_) : EReal) = 0 from Ideal.ofBits_zero_f32, zero_add]
  exact Finset.sum_congr rfl fun k _ => congrArg x2 (funext fun a => by fin_cases a <;> rfl)

theorem m2_eq : G22 (F := Ideal) x0 x3 x6 x9 x1 x4 x7 x10 x2 x5 x8 x11 = val_main_v58 (F := Ideal) x2 x8 := by
  funext i
  show mom (G20 (F := Ideal) x0 x3 x6 x9 x1 x4 x7 x10 x2 x5 x8 x11 i) (x8 i) = _
  rw [g2_eq]
  rfl

theorem v2_eq : G23 (F := Ideal) x0 x3 x6 x9 x1 x4 x7 x10 x2 x5 x8 x11 = val_main_v64 (F := Ideal) x2 x11 := by
  funext i
  show vel (G20 (F := Ideal) x0 x3 x6 x9 x1 x4 x7 x10 x2 x5 x8 x11 i) (x11 i) = _
  rw [g2_eq]
  rfl

theorem d2_eq : G21 (F := Ideal) x0 x3 x6 x9 x1 x4 x7 x10 x2 x5 x8 x11 = val_main_v77 (F := Ideal) x2 x5 x8 x11 := by
  funext i
  show change (x5 i) (G20 (F := Ideal) x0 x3 x6 x9 x1 x4 x7 x10 x2 x5 x8 x11 i) (x8 i) (x11 i) = _
  rw [g2_eq]
  rfl

end Cert.Kernel17Ideal.Adam

end
-- ==== Proof.AdamFfn.lean ====
/- Call 18, the optimiser's step of w_ffn_gate and w_ffn_up: each point leaves its block of what the reference writes, for all arguments. -/
module

public import proofs.«01_k».proof.Proof.Adam
public import proofs.«01_k».proof.Proof.Gen.Kernel18Ideal.Value
public import proofs.«01_k».proof.Proof.Gen.Reference18Ideal.Run
public import proofs.«01_k».proof.Proof.Gen.Reference18Ideal.Read

@[expose] public section

noncomputable section

namespace Cert.Kernel18Ideal.Adam

open Cert.Kernel18Ideal Cert.Kernel18Ideal.Gen Cert.Adam Cert.Blocks Cert.Reference18Ideal.Read
open Idealize.ShloMosaic Idealize.ShloMosaic.TcCoe Idealize.ShloMosaic.ValueIdx Idealize.SL.Sem

variable (m : (ℓ : Loc nD τ sig) → Buf (Elt Ideal) ℓ) (c : Dev nD)

/-- Row `176 t + r` of the long arrays. -/
def row (t : Fin cfg0.N) (r : Fin 176) : Fin 352 :=
  ⟨t.val * 176 + r.val, by have : t.val < 2 := t.isLt; have := r.isLt; omega⟩

/-- The point and the row inside its block of a row of the long arrays. -/
theorem row_surj (q : Fin 352) : ∃ (t : Fin cfg0.N) (r : Fin 176), q = row t r := by
  have h0 := q.isLt
  refine ⟨⟨q.val / 176, by show q.val / 176 < 2; omega⟩, ⟨q.val % 176, by omega⟩, Fin.ext ?_⟩
  show q.val = q.val / 176 * 176 + q.val % 176
  omega

theorem at_row (i : S352x1024.Idx) : ∃ (t : Fin cfg0.N) (r : Fin 176) (k : Fin 1024), i = ix2 (row t r) k := by
  obtain ⟨t, r, h⟩ := row_surj (i 0)
  exact ⟨t, r, i 1, Shape.idx_ext₂ (by rw [h]) rfl⟩

/-! ## The blocks -/

abbrev A0 : Vec Ideal S4x352x1024 .bf16 := m ((c : Thread nD τ).loc main_arg0)
abbrev A1 : Vec Ideal S4x352x1024 .bf16 := m ((c : Thread nD τ).loc main_arg1)
abbrev A2 : Vec Ideal S1024x352 .f32 := m ((c : Thread nD τ).loc main_arg2)
abbrev A3 : Vec Ideal S1024x352 .f32 := m ((c : Thread nD τ).loc main_arg3)
abbrev A4 : Vec Ideal S1024x352 .f32 := m ((c : Thread nD τ).loc main_arg4)
abbrev A5 : Vec Ideal S1024x352 .f32 := m ((c : Thread nD τ).loc main_arg5)
abbrev A6 : Vec Ideal S1024x352 .f32 := m ((c : Thread nD τ).loc main_arg6)
abbrev A7 : Vec Ideal S1024x352 .f32 := m ((c : Thread nD τ).loc main_arg7)

theorem idx0 : ∀ t : Fin cfg0.N, win0_0.index t 0 = 0 ∧ win0_0.index t 1 = t.val ∧ win0_0.index t 2 = 0 := by decide +kernel
theorem blk0 (t : Fin cfg0.N) (k : Fin 4) (r : Fin 176) (j : Fin 1024) : (iblk m c 0 t (ix3 k r j) : EReal) = A0 m c (ix3 k (row t r) j) := by
  refine congrArg (A0 m c) (show (win0_0.rect t).emb (ix3 k r j) = _ from funext fun a => Fin.ext ?_)
  match a with
  | ⟨0, _⟩ => rw [Pipeline.Window.rect_emb_val win0_0 t _ _ rfl]; show win0_0.index t 0 * 4 + k.val = k.val; rw [(idx0 t).1, Nat.zero_mul, Nat.zero_add]
  | ⟨1, _⟩ => rw [Pipeline.Window.rect_emb_val win0_0 t _ _ rfl]; show win0_0.index t 1 * 176 + r.val = t.val * 176 + r.val; rw [(idx0 t).2.1]
  | ⟨2, _⟩ => rw [Pipeline.Window.rect_emb_val win0_0 t _ _ rfl]; show win0_0.index t 2 * 1024 + j.val = j.val; rw [(idx0 t).2.2, Nat.zero_mul, Nat.zero_add]

theorem idx1 : ∀ t : Fin cfg0.N, win0_1.index t 0 = t.val ∧ win0_1.index t 1 = 0 := by decide +kernel
theorem emb1 (t : Fin cfg0.N) (r : Fin 176) (j : Fin 1024) : (win0_1.rect t).emb (ix2 r j) = ix2 (row t r) j := by
  refine Shape.idx_ext₂ ?_ ?_
  · rw [Pipeline.Window.rect_emb_val win0_1 t _ 0 rfl, (idx1 t).1]; rfl
  · rw [Pipeline.Window.rect_emb_val win0_1 t _ 1 rfl, (idx1 t).2]; show 0 * 1024 + j.val = j.val; omega
theorem blk1 (t : Fin cfg0.N) (r : Fin 176) (j : Fin 1024) : (iblk m c 1 t (ix2 r j) : EReal) = A2 m c (ix2 j (row t r)) := by
  show V m c main_v0 ((win0_1.rect t).emb (ix2 r j)) = _
  rw [emb1]
  entry_read
  exact turn _ _ (row t r) j

theorem emb2 (t : Fin cfg0.N) (r : Fin 176) (j : Fin 1024) : (win0_2.rect t).emb (ix2 r j) = ix2 (row t r) j := emb1 t r j
theorem blk2 (t : Fin cfg0.N) (r : Fin 176) (j : Fin 1024) : (iblk m c 2 t (ix2 r j) : EReal) = A4 m c (ix2 j (row t r)) := by
  show V m c main_v2 ((win0_2.rect t).emb (ix2 r j)) = _
  rw [emb2]
  entry_read
  exact turn _ _ (row t r) j

theorem emb3 (t : Fin cfg0.N) (r : Fin 176) (j : Fin 1024) : (win0_3.rect t).emb (ix2 r j) = ix2 (row t r) j := emb1 t r j
theorem blk3 (t : Fin cfg0.N) (r : Fin 176) (j : Fin 1024) : (iblk m c 3 t (ix2 r j) : EReal) = A6 m c (ix2 j (row t r)) := by
  show V m c main_v4 ((win0_3.rect t).emb (ix2 r j)) = _
  rw [emb3]
  entry_read
  exact turn _ _ (row t r) j

theorem idx4 : ∀ t : Fin cfg0.N, win0_4.index t 0 = 0 ∧ win0_4.index t 1 = t.val ∧ win0_4.index t 2 = 0 := by decide +kernel
theorem blk4 (t : Fin cfg0.N) (k : Fin 4) (r : Fin 176) (j : Fin 1024) : (iblk m c 4 t (ix3 k r j) : EReal) = A1 m c (ix3 k (row t r) j) := by
  refine congrArg (A1 m c) (show (win0_4.rect t).emb (ix3 k r j) = _ from funext fun a => Fin.ext ?_)
  match a with
  | ⟨0, _⟩ => rw [Pipeline.Window.rect_emb_val win0_4 t _ _ rfl]; show win0_4.index t 0 * 4 + k.val = k.val; rw [(idx4 t).1, Nat.zero_mul, Nat.zero_add]
  | ⟨1, _⟩ => rw [Pipeline.Window.rect_emb_val win0_4 t _ _ rfl]; show win0_4.index t 1 * 176 + r.val = t.val * 176 + r.val; rw [(idx4 t).2.1]
  | ⟨2, _⟩ => rw [Pipeline.Window.rect_emb_val win0_4 t _ _ rfl]; show win0_4.index t 2 * 1024 + j.val = j.val; rw [(idx4 t).2.2, Nat.zero_mul, Nat.zero_add]

theorem emb5 (t : Fin cfg0.N) (r : Fin 176) (j : Fin 1024) : (win0_5.rect t).emb (ix2 r j) = ix2 (row t r) j := emb1 t r j
theorem blk5 (t : Fin cfg0.N) (r : Fin 176) (j : Fin 1024) : (iblk m c 5 t (ix2 r j) : EReal) = A3 m c (ix2 j (row t r)) := by
  show V m c main_v1 ((win0_5.rect t).emb (ix2 r j)) = _
  rw [emb5]
  entry_read
  exact turn _ _ (row t r) j

theorem emb6 (t : Fin cfg0.N) (r : Fin 176) (j : Fin 1024) : (win0_6.rect t).emb (ix2 r j) = ix2 (row t r) j := emb1 t r j
theorem blk6 (t : Fin cfg0.N) (r : Fin 176) (j : Fin 1024) : (iblk m c 6 t (ix2 r j) : EReal) = A5 m c (ix2 j (row t r)) := by
  show V m c main_v3 ((win0_6.rect t).emb (ix2 r j)) = _
  rw [emb6]
  entry_read
  exact turn _ _ (row t r) j

theorem emb7 (t : Fin cfg0.N) (r : Fin 176) (j : Fin 1024) : (win0_7.rect t).emb (ix2 r j) = ix2 (row t r) j := emb1 t r j
theorem blk7 (t : Fin cfg0.N) (r : Fin 176) (j : Fin 1024) : (iblk m c 7 t (ix2 r j) : EReal) = A7 m c (ix2 j (row t r)) := by
  show V m c main_v5 ((win0_7.rect t).emb (ix2 r j)) = _
  rw [emb7]
  entry_read
  exact turn _ _ (row t r) j

theorem emb8 (t : Fin cfg0.N) (r : Fin 176) (j : Fin 1024) : (win0_8.rect t).emb (ix2 r j) = ix2 (row t r) j := emb1 t r j

theorem emb9 (t : Fin cfg0.N) (r : Fin 176) (j : Fin 1024) : (win0_9.rect t).emb (ix2 r j) = ix2 (row t r) j := emb1 t r j

theorem emb10 (t : Fin cfg0.N) (r : Fin 176) (j : Fin 1024) : (win0_10.rect t).emb (ix2 r j) = ix2 (row t r) j := emb1 t r j

theorem emb11 (t : Fin cfg0.N) (r : Fin 176) (j : Fin 1024) : (win0_11.rect t).emb (ix2 r j) = ix2 (row t r) j := emb1 t r j

theorem emb12 (t : Fin cfg0.N) (r : Fin 176) (j : Fin 1024) : (win0_12.rect t).emb (ix2 r j) = ix2 (row t r) j := emb1 t r j

theorem emb13 (t : Fin cfg0.N) (r : Fin 176) (j : Fin 1024) : (win0_13.rect t).emb (ix2 r j) = ix2 (row t r) j := emb1 t r j

theorem emb14 (t : Fin cfg0.N) (r : Fin 176) (j : Fin 1024) : (win0_14.rect t).emb (ix2 r j) = ix2 (row t r) j := emb1 t r j

theorem emb15 (t : Fin cfg0.N) (r : Fin 176) (j : Fin 1024) : (win0_15.rect t).emb (ix2 r j) = ix2 (row t r) j := emb1 t r j

/-! ## What the points write back -/

/-- The gradient's block: the sum of the parts. -/
theorem grad0 (t : Fin cfg0.N) (r : Fin 176) (j : Fin 1024) : (k0_pay4 (F := Ideal) (View.ld (iblk m c 0 t) r0_0) (View.ld (iblk m c 0 t) r0_1) (View.ld (iblk m c 0 t) r0_2) (View.ld (iblk m c 0 t) r0_3) (ix2 r j) : EReal) = val_main_v2 (F := Ideal) (A0 m c) (ix2 j (row t r)) := by
  refine (sum4 (iblk m c 0 t) _ _ _ _ _ _ r j).trans (Eq.trans ?_ ((val_main_v2_apply _ _).trans (val_main_v1_apply _ _)).symm)
  rw [show (val_main_cst (F := Ideal) (Shape.Idx.first Cert.Reference18Ideal.Gen.h_S_) : EReal) = 0 from Ideal.ofBits_zero_f32, zero_add]
  exact Finset.sum_congr rfl fun k _ => (blk0 m c t k r j).trans (congrArg (A0 m c) (funext fun a => by fin_cases a <;> rfl))

theorem flushed8_eq (t : Fin cfg0.N) : (dats m 0 c).flushed 8 t = (win0_8.blk t).view.read (Elt Ideal) (val_main_v54 (F := Ideal) (A0 m c)) := by
  rw [Value.flushed8]
  unfold out0_8
  rw [View.canon_unit_zero hz]
  funext i
  obtain ⟨r, j, rfl⟩ : ∃ (r : Fin 176) (j : Fin 1024), i = ix2 r j := ⟨_, _, eq_ix2 i⟩
  show _ = val_main_v54 (F := Ideal) (A0 m c) ((win0_8.rect t).emb (ix2 r j))
  rw [emb8, val_main_v54_apply, show idx_main_v54 (ix2 (row t r) j) = ix2 j (row t r) from Shape.idx_ext₂ rfl rfl]
  exact grad0 m c t r j

theorem cover8 (i : S352x1024.Idx) : ∃ t, (cfg0.win 8).flush t = true ∧ i ∈ ((cfg0.win 8).blk t).view.set := by
  obtain ⟨t, r, k, rfl⟩ := at_row i
  refine ⟨t, flush0_8 t, ?_⟩
  rw [← emb8]
  exact View.emb_mem_set (win0_8.blk t).view _

theorem flushed10_eq (t : Fin cfg0.N) : (dats m 0 c).flushed 10 t = (win0_10.blk t).view.read (Elt Ideal) (val_main_v56 (F := Ideal) (A0 m c) (A4 m c)) := by
  rw [Value.flushed10]
  unfold out0_10
  rw [View.canon_unit_zero hz]
  funext i
  obtain ⟨r, j, rfl⟩ : ∃ (r : Fin 176) (j : Fin 1024), i = ix2 r j := ⟨_, _, eq_ix2 i⟩
  show _ = val_main_v56 (F := Ideal) (A0 m c) (A4 m c) ((win0_10.rect t).emb (ix2 r j))
  rw [emb10, val_main_v56_apply, show idx_main_v56 (ix2 (row t r) j) = ix2 j (row t r) from Shape.idx_ext₂ rfl rfl]
  rw [View.ld_unit_zero hz]
  unfold k0_pay6
  simp only [shapeCast_self]
  show mom (k0_pay4 (F := Ideal) (View.ld (iblk m c 0 t) r0_0) (View.ld (iblk m c 0 t) r0_1) (View.ld (iblk m c 0 t) r0_2) (View.ld (iblk m c 0 t) r0_3) (ix2 r j)) (iblk m c 2 t (ix2 r j)) = _
  rw [grad0, blk2]
  rfl

theorem cover10 (i : S352x1024.Idx) : ∃ t, (cfg0.win 10).flush t = true ∧ i ∈ ((cfg0.win 10).blk t).view.set := by
  obtain ⟨t, r, k, rfl⟩ := at_row i
  refine ⟨t, flush0_10 t, ?_⟩
  rw [← emb10]
  exact View.emb_mem_set (win0_10.blk t).view _

theorem flushed11_eq (t : Fin cfg0.N) : (dats m 0 c).flushed 11 t = (win0_11.blk t).view.read (Elt Ideal) (val_main_v57 (F := Ideal) (A0 m c) (A6 m c)) := by
  rw [Value.flushed11]
  unfold out0_11 k0_pay13
  rw [View.canon_unit_zero hz]
  funext i
  obtain ⟨r, j, rfl⟩ : ∃ (r : Fin 176) (j : Fin 1024), i = ix2 r j := ⟨_, _, eq_ix2 i⟩
  show _ = val_main_v57 (F := Ideal) (A0 m c) (A6 m c) ((win0_11.rect t).emb (ix2 r j))
  rw [emb11, val_main_v57_apply, show idx_main_v57 (ix2 (row t r) j) = ix2 j (row t r) from Shape.idx_ext₂ rfl rfl]
  rw [View.ld_unit_zero hz]
  unfold k0_pay7
  simp only [shapeCast_self]
  show vel (k0_pay4 (F := Ideal) (View.ld (iblk m c 0 t) r0_0) (View.ld (iblk m c 0 t) r0_1) (View.ld (iblk m c 0 t) r0_2) (View.ld (iblk m c 0 t) r0_3) (ix2 r j)) (iblk m c 3 t (ix2 r j)) = _
  rw [grad0, blk3]
  rfl

theorem cover11 (i : S352x1024.Idx) : ∃ t, (cfg0.win 11).flush t = true ∧ i ∈ ((cfg0.win 11).blk t).view.set := by
  obtain ⟨t, r, k, rfl⟩ := at_row i
  refine ⟨t, flush0_11 t, ?_⟩
  rw [← emb11]
  exact View.emb_mem_set (win0_11.blk t).view _

theorem flushed9_eq (t : Fin cfg0.N) : (dats m 0 c).flushed 9 t = (win0_9.blk t).view.read (Elt Ideal) (val_main_v55 (F := Ideal) (A0 m c) (A2 m c) (A4 m c) (A6 m c)) := by
  rw [Value.flushed9]
  unfold out0_9 k0_pay13
  rw [View.canon_unit_zero hz]
  funext i
  obtain ⟨r, j, rfl⟩ : ∃ (r : Fin 176) (j : Fin 1024), i = ix2 r j := ⟨_, _, eq_ix2 i⟩
  show _ = val_main_v55 (F := Ideal) (A0 m c) (A2 m c) (A4 m c) (A6 m c) ((win0_9.rect t).emb (ix2 r j))
  rw [emb9, val_main_v55_apply, show idx_main_v55 (ix2 (row t r) j) = ix2 j (row t r) from Shape.idx_ext₂ rfl rfl]
  rw [View.ld_unit_zero hz, View.ld_unit_zero hz, View.ld_unit_zero hz]
  unfold k0_pay10 k0_pay5 k0_pay8 k0_pay6 k0_pay7
  simp only [shapeCast_self]
  show change (iblk m c 1 t (ix2 r j)) (k0_pay4 (F := Ideal) (View.ld (iblk m c 0 t) r0_0) (View.ld (iblk m c 0 t) r0_1) (View.ld (iblk m c 0 t) r0_2) (View.ld (iblk m c 0 t) r0_3) (ix2 r j)) (iblk m c 2 t (ix2 r j)) (iblk m c 3 t (ix2 r j)) = _
  rw [grad0, blk1, blk2, blk3]
  rfl

theorem cover9 (i : S352x1024.Idx) : ∃ t, (cfg0.win 9).flush t = true ∧ i ∈ ((cfg0.win 9).blk t).view.set := by
  obtain ⟨t, r, k, rfl⟩ := at_row i
  refine ⟨t, flush0_9 t, ?_⟩
  rw [← emb9]
  exact View.emb_mem_set (win0_9.blk t).view _

/-- The gradient's block: the sum of the parts. -/
theorem grad1 (t : Fin cfg0.N) (r : Fin 176) (j : Fin 1024) : (k0_pay11 (F := Ideal) (View.ld (iblk m c 4 t) r0_0) (View.ld (iblk m c 4 t) r0_1) (View.ld (iblk m c 4 t) r0_2) (View.ld (iblk m c 4 t) r0_3) (ix2 r j) : EReal) = val_main_v29 (F := Ideal) (A1 m c) (ix2 j (row t r)) := by
  refine (sum4 (iblk m c 4 t) _ _ _ _ _ _ r j).trans (Eq.trans ?_ ((val_main_v29_apply _ _).trans (val_main_v28_apply _ _)).symm)
  rw [show (val_main_cst_9 (F := Ideal) (Shape.Idx.first Cert.Reference18Ideal.Gen.h_S_) : EReal) = 0 from Ideal.ofBits_zero_f32, zero_add]
  exact Finset.sum_congr rfl fun k _ => (blk4 m c t k r j).trans (congrArg (A1 m c) (funext fun a => by fin_cases a <;> rfl))

theorem flushed12_eq (t : Fin cfg0.N) : (dats m 0 c).flushed 12 t = (win0_12.blk t).view.read (Elt Ideal) (val_main_v58 (F := Ideal) (A1 m c)) := by
  rw [Value.flushed12]
  unfold out0_12 k0_pay14
  rw [View.canon_unit_zero hz]
  funext i
  obtain ⟨r, j, rfl⟩ : ∃ (r : Fin 176) (j : Fin 1024), i = ix2 r j := ⟨_, _, eq_ix2 i⟩
  show _ = val_main_v58 (F := Ideal) (A1 m c) ((win0_12.rect t).emb (ix2 r j))
  rw [emb12, val_main_v58_apply, show idx_main_v58 (ix2 (row t r) j) = ix2 j (row t r) from Shape.idx_ext₂ rfl rfl]
  exact grad1 m c t r j

theorem cover12 (i : S352x1024.Idx) : ∃ t, (cfg0.win 12).flush t = true ∧ i ∈ ((cfg0.win 12).blk t).view.set := by
  obtain ⟨t, r, k, rfl⟩ := at_row i
  refine ⟨t, flush0_12 t, ?_⟩
  rw [← emb12]
  exact View.emb_mem_set (win0_12.blk t).view _

theorem flushed14_eq (t : Fin cfg0.N) : (dats m 0 c).flushed 14 t = (win0_14.blk t).view.read (Elt Ideal) (val_main_v60 (F := Ideal) (A1 m c) (A5 m c)) := by
  rw [Value.flushed14]
  unfold out0_14 k0_pay14
  rw [View.canon_unit_zero hz]
  funext i
  obtain ⟨r, j, rfl⟩ : ∃ (r : Fin 176) (j : Fin 1024), i = ix2 r j := ⟨_, _, eq_ix2 i⟩
  show _ = val_main_v60 (F := Ideal) (A1 m c) (A5 m c) ((win0_14.rect t).emb (ix2 r j))
  rw [emb14, val_main_v60_apply, show idx_main_v60 (ix2 (row t r) j) = ix2 j (row t r) from Shape.idx_ext₂ rfl rfl]
  rw [View.ld_unit_zero hz]
  unfold k0_pay1
  simp only [shapeCast_self]
  show mom (k0_pay11 (F := Ideal) (View.ld (iblk m c 4 t) r0_0) (View.ld (iblk m c 4 t) r0_1) (View.ld (iblk m c 4 t) r0_2) (View.ld (iblk m c 4 t) r0_3) (ix2 r j)) (iblk m c 6 t (ix2 r j)) = _
  rw [grad1, blk6]
  rfl

theorem cover14 (i : S352x1024.Idx) : ∃ t, (cfg0.win 14).flush t = true ∧ i ∈ ((cfg0.win 14).blk t).view.set := by
  obtain ⟨t, r, k, rfl⟩ := at_row i
  refine ⟨t, flush0_14 t, ?_⟩
  rw [← emb14]
  exact View.emb_mem_set (win0_14.blk t).view _

theorem flushed15_eq (t : Fin cfg0.N) : (dats m 0 c).flushed 15 t = (win0_15.blk t).view.read (Elt Ideal) (val_main_v61 (F := Ideal) (A1 m c) (A7 m c)) := by
  rw [Value.flushed15]
  unfold out0_15 k0_pay14
  rw [View.canon_unit_zero hz]
  funext i
  obtain ⟨r, j, rfl⟩ : ∃ (r : Fin 176) (j : Fin 1024), i = ix2 r j := ⟨_, _, eq_ix2 i⟩
  show _ = val_main_v61 (F := Ideal) (A1 m c) (A7 m c) ((win0_15.rect t).emb (ix2 r j))
  rw [emb15, val_main_v61_apply, show idx_main_v61 (ix2 (row t r) j) = ix2 j (row t r) from Shape.idx_ext₂ rfl rfl]
  rw [View.ld_unit_zero hz]
  unfold k0_pay2
  simp only [shapeCast_self]
  show vel (k0_pay11 (F := Ideal) (View.ld (iblk m c 4 t) r0_0) (View.ld (iblk m c 4 t) r0_1) (View.ld (iblk m c 4 t) r0_2) (View.ld (iblk m c 4 t) r0_3) (ix2 r j)) (iblk m c 7 t (ix2 r j)) = _
  rw [grad1, blk7]
  rfl

theorem cover15 (i : S352x1024.Idx) : ∃ t, (cfg0.win 15).flush t = true ∧ i ∈ ((cfg0.win 15).blk t).view.set := by
  obtain ⟨t, r, k, rfl⟩ := at_row i
  refine ⟨t, flush0_15 t, ?_⟩
  rw [← emb15]
  exact View.emb_mem_set (win0_15.blk t).view _

theorem flushed13_eq (t : Fin cfg0.N) : (dats m 0 c).flushed 13 t = (win0_13.blk t).view.read (Elt Ideal) (val_main_v59 (F := Ideal) (A1 m c) (A3 m c) (A5 m c) (A7 m c)) := by
  rw [Value.flushed13]
  unfold out0_13 k0_pay14
  rw [View.canon_unit_zero hz]
  funext i
  obtain ⟨r, j, rfl⟩ : ∃ (r : Fin 176) (j : Fin 1024), i = ix2 r j := ⟨_, _, eq_ix2 i⟩
  show _ = val_main_v59 (F := Ideal) (A1 m c) (A3 m c) (A5 m c) (A7 m c) ((win0_13.rect t).emb (ix2 r j))
  rw [emb13, val_main_v59_apply, show idx_main_v59 (ix2 (row t r) j) = ix2 j (row t r) from Shape.idx_ext₂ rfl rfl]
  rw [View.ld_unit_zero hz, View.ld_unit_zero hz, View.ld_unit_zero hz]
  unfold k0_pay3 k0_pay12 k0_pay1 k0_pay2
  simp only [shapeCast_self]
  show change (iblk m c 5 t (ix2 r j)) (k0_pay11 (F := Ideal) (View.ld (iblk m c 4 t) r0_0) (View.ld (iblk m c 4 t) r0_1) (View.ld (iblk m c 4 t) r0_2) (View.ld (iblk m c 4 t) r0_3) (ix2 r j)) (iblk m c 6 t (ix2 r j)) (iblk m c 7 t (ix2 r j)) = _
  rw [grad1, blk5, blk6, blk7]
  rfl

theorem cover13 (i : S352x1024.Idx) : ∃ t, (cfg0.win 13).flush t = true ∧ i ∈ ((cfg0.win 13).blk t).view.set := by
  obtain ⟨t, r, k, rfl⟩ := at_row i
  refine ⟨t, flush0_13 t, ?_⟩
  rw [← emb13]
  exact View.emb_mem_set (win0_13.blk t).view _

/-- The run, read: the result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6_0) = val_main_v54 (F := Ideal) (A0 m c)
      ∧ r.2.mem ((c : Thread nD τ).loc main_v6_1) = val_main_v55 (F := Ideal) (A0 m c) (A2 m c) (A4 m c) (A6 m c)
      ∧ r.2.mem ((c : Thread nD τ).loc main_v6_2) = val_main_v56 (F := Ideal) (A0 m c) (A4 m c)
      ∧ r.2.mem ((c : Thread nD τ).loc main_v6_3) = val_main_v57 (F := Ideal) (A0 m c) (A6 m c)
      ∧ r.2.mem ((c : Thread nD τ).loc main_v6_4) = val_main_v58 (F := Ideal) (A1 m c)
      ∧ r.2.mem ((c : Thread nD τ).loc main_v6_5) = val_main_v59 (F := Ideal) (A1 m c) (A3 m c) (A5 m c) (A7 m c)
      ∧ r.2.mem ((c : Thread nD τ).loc main_v6_6) = val_main_v60 (F := Ideal) (A1 m c) (A5 m c)
      ∧ r.2.mem ((c : Thread nD τ).loc main_v6_7) = val_main_v61 (F := Ideal) (A1 m c) (A7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨(h c).1.trans ((dats m 0 c).arrAt_eq_of_cover 8 _ (fun t _ => flushed8_eq m c t) cover8),
      (h c).2.1.trans ((dats m 0 c).arrAt_eq_of_cover 9 _ (fun t _ => flushed9_eq m c t) cover9),
      (h c).2.2.1.trans ((dats m 0 c).arrAt_eq_of_cover 10 _ (fun t _ => flushed10_eq m c t) cover10),
      (h c).2.2.2.1.trans ((dats m 0 c).arrAt_eq_of_cover 11 _ (fun t _ => flushed11_eq m c t) cover11),
      (h c).2.2.2.2.1.trans ((dats m 0 c).arrAt_eq_of_cover 12 _ (fun t _ => flushed12_eq m c t) cover12),
      (h c).2.2.2.2.2.1.trans ((dats m 0 c).arrAt_eq_of_cover 13 _ (fun t _ => flushed13_eq m c t) cover13),
      (h c).2.2.2.2.2.2.1.trans ((dats m 0 c).arrAt_eq_of_cover 14 _ (fun t _ => flushed14_eq m c t) cover14),
      (h c).2.2.2.2.2.2.2.1.trans ((dats m 0 c).arrAt_eq_of_cover 15 _ (fun t _ => flushed15_eq m c t) cover15),
      (h c).2.2.2.2.2.2.2.2⟩)
    (Value.run_blocks m ρ)

end Cert.Kernel18Ideal.Adam

end
-- ==== Proof.AdamDown.lean ====
/- Call 19, the optimiser's step of w_ffn_down: each point leaves its block of what the reference writes, for all arguments. -/
module

public import proofs.«01_k».proof.Proof.Adam
public import proofs.«01_k».proof.Proof.Gen.Kernel19Ideal.Value
public import proofs.«01_k».proof.Proof.Gen.Reference19Ideal.Run
public import proofs.«01_k».proof.Proof.Gen.Reference19Ideal.Read

@[expose] public section

noncomputable section

namespace Cert.Kernel19Ideal.Adam

open Cert.Kernel19Ideal Cert.Kernel19Ideal.Gen Cert.Adam Cert.Blocks Cert.Reference19Ideal.Read
open Idealize.ShloMosaic Idealize.ShloMosaic.TcCoe Idealize.ShloMosaic.ValueIdx Idealize.SL.Sem

variable (m : (ℓ : Loc nD τ sig) → Buf (Elt Ideal) ℓ) (c : Dev nD)

/-- Row `176 t + r` of the long arrays. -/
def row (t : Fin cfg0.N) (r : Fin 176) : Fin 352 :=
  ⟨t.val * 176 + r.val, by have : t.val < 2 := t.isLt; have := r.isLt; omega⟩

/-- The point and the row inside its block of a row of the long arrays. -/
theorem row_surj (q : Fin 352) : ∃ (t : Fin cfg0.N) (r : Fin 176), q = row t r := by
  have h0 := q.isLt
  refine ⟨⟨q.val / 176, by show q.val / 176 < 2; omega⟩, ⟨q.val % 176, by omega⟩, Fin.ext ?_⟩
  show q.val = q.val / 176 * 176 + q.val % 176
  omega

theorem at_row (i : S352x1024.Idx) : ∃ (t : Fin cfg0.N) (r : Fin 176) (k : Fin 1024), i = ix2 (row t r) k := by
  obtain ⟨t, r, h⟩ := row_surj (i 0)
  exact ⟨t, r, i 1, Shape.idx_ext₂ (by rw [h]) rfl⟩

/-! ## The blocks -/

abbrev A0 : Vec Ideal S4x352x1024 .bf16 := m ((c : Thread nD τ).loc main_arg0)
abbrev A1 : Vec Ideal S352x1024 .f32 := m ((c : Thread nD τ).loc main_arg1)
abbrev A2 : Vec Ideal S352x1024 .f32 := m ((c : Thread nD τ).loc main_arg2)
abbrev A3 : Vec Ideal S352x1024 .f32 := m ((c : Thread nD τ).loc main_arg3)

theorem idx0 : ∀ t : Fin cfg0.N, win0_0.index t 0 = 0 ∧ win0_0.index t 1 = t.val ∧ win0_0.index t 2 = 0 := by decide +kernel
theorem blk0 (t : Fin cfg0.N) (k : Fin 4) (r : Fin 176) (j : Fin 1024) : (iblk m c 0 t (ix3 k r j) : EReal) = A0 m c (ix3 k (row t r) j) := by
  refine congrArg (A0 m c) (show (win0_0.rect t).emb (ix3 k r j) = _ from funext fun a => Fin.ext ?_)
  match a with
  | ⟨0, _⟩ => rw [Pipeline.Window.rect_emb_val win0_0 t _ _ rfl]; show win0_0.index t 0 * 4 + k.val = k.val; rw [(idx0 t).1, Nat.zero_mul, Nat.zero_add]
  | ⟨1, _⟩ => rw [Pipeline.Window.rect_emb_val win0_0 t _ _ rfl]; show win0_0.index t 1 * 176 + r.val = t.val * 176 + r.val; rw [(idx0 t).2.1]
  | ⟨2, _⟩ => rw [Pipeline.Window.rect_emb_val win0_0 t _ _ rfl]; show win0_0.index t 2 * 1024 + j.val = j.val; rw [(idx0 t).2.2, Nat.zero_mul, Nat.zero_add]

theorem idx1 : ∀ t : Fin cfg0.N, win0_1.index t 0 = t.val ∧ win0_1.index t 1 = 0 := by decide +kernel
theorem emb1 (t : Fin cfg0.N) (r : Fin 176) (j : Fin 1024) : (win0_1.rect t).emb (ix2 r j) = ix2 (row t r) j := by
  refine Shape.idx_ext₂ ?_ ?_
  · rw [Pipeline.Window.rect_emb_val win0_1 t _ 0 rfl, (idx1 t).1]; rfl
  · rw [Pipeline.Window.rect_emb_val win0_1 t _ 1 rfl, (idx1 t).2]; show 0 * 1024 + j.val = j.val; omega
theorem blk1 (t : Fin cfg0.N) (r : Fin 176) (j : Fin 1024) : (iblk m c 1 t (ix2 r j) : EReal) = A1 m c (ix2 (row t r) j) :=
  congrArg (A1 m c) (emb1 t r j)

theorem emb2 (t : Fin cfg0.N) (r : Fin 176) (j : Fin 1024) : (win0_2.rect t).emb (ix2 r j) = ix2 (row t r) j := emb1 t r j
theorem blk2 (t : Fin cfg0.N) (r : Fin 176) (j : Fin 1024) : (iblk m c 2 t (ix2 r j) : EReal) = A2 m c (ix2 (row t r) j) :=
  congrArg (A2 m c) (emb2 t r j)

theorem emb3 (t : Fin cfg0.N) (r : Fin 176) (j : Fin 1024) : (win0_3.rect t).emb (ix2 r j) = ix2 (row t r) j := emb1 t r j
theorem blk3 (t : Fin cfg0.N) (r : Fin 176) (j : Fin 1024) : (iblk m c 3 t (ix2 r j) : EReal) = A3 m c (ix2 (row t r) j) :=
  congrArg (A3 m c) (emb3 t r j)

theorem emb4 (t : Fin cfg0.N) (r : Fin 176) (j : Fin 1024) : (win0_4.rect t).emb (ix2 r j) = ix2 (row t r) j := emb1 t r j

theorem emb5 (t : Fin cfg0.N) (r : Fin 176) (j : Fin 1024) : (win0_5.rect t).emb (ix2 r j) = ix2 (row t r) j := emb1 t r j

theorem emb6 (t : Fin cfg0.N) (r : Fin 176) (j : Fin 1024) : (win0_6.rect t).emb (ix2 r j) = ix2 (row t r) j := emb1 t r j

theorem emb7 (t : Fin cfg0.N) (r : Fin 176) (j : Fin 1024) : (win0_7.rect t).emb (ix2 r j) = ix2 (row t r) j := emb1 t r j

/-! ## What the points write back -/

/-- The gradient's block: the sum of the parts. -/
theorem grad0 (t : Fin cfg0.N) (r : Fin 176) (j : Fin 1024) : (k0_pay2 (F := Ideal) (View.ld (iblk m c 0 t) r0_0) (View.ld (iblk m c 0 t) r0_1) (View.ld (iblk m c 0 t) r0_2) (View.ld (iblk m c 0 t) r0_3) (ix2 r j) : EReal) = val_main_v1 (F := Ideal) (A0 m c) (ix2 (row t r) j) := by
  refine (sum4 (iblk m c 0 t) _ _ _ _ _ _ r j).trans (Eq.trans ?_ (val_main_v1_apply _ _).symm)
  rw [show (val_main_cst (F := Ideal) (Shape.Idx.first Cert.Reference19Ideal.Gen.h_S_) : EReal) = 0 from Ideal.ofBits_zero_f32, zero_add]
  exact Finset.sum_congr rfl fun k _ => (blk0 m c t k r j).trans (congrArg (A0 m c) (funext fun a => by fin_cases a <;> rfl))

theorem flushed4_eq (t : Fin cfg0.N) : (dats m 0 c).flushed 4 t = (win0_4.blk t).view.read (Elt Ideal) (val_main_v1 (F := Ideal) (A0 m c)) := by
  rw [Value.flushed4]
  unfold out0_4
  rw [View.canon_unit_zero hz]
  funext i
  obtain ⟨r, j, rfl⟩ : ∃ (r : Fin 176) (j : Fin 1024), i = ix2 r j := ⟨_, _, eq_ix2 i⟩
  show _ = val_main_v1 (F := Ideal) (A0 m c) ((win0_4.rect t).emb (ix2 r j))
  rw [emb4]
  exact grad0 m c t r j

theorem cover4 (i : S352x1024.Idx) : ∃ t, (cfg0.win 4).flush t = true ∧ i ∈ ((cfg0.win 4).blk t).view.set := by
  obtain ⟨t, r, k, rfl⟩ := at_row i
  refine ⟨t, flush0_4 t, ?_⟩
  rw [← emb4]
  exact View.emb_mem_set (win0_4.blk t).view _

theorem flushed6_eq (t : Fin cfg0.N) : (dats m 0 c).flushed 6 t = (win0_6.blk t).view.read (Elt Ideal) (val_main_v6 (F := Ideal) (A0 m c) (A2 m c)) := by
  rw [Value.flushed6]
  unfold out0_6
  rw [View.canon_unit_zero hz]
  funext i
  obtain ⟨r, j, rfl⟩ : ∃ (r : Fin 176) (j : Fin 1024), i = ix2 r j := ⟨_, _, eq_ix2 i⟩
  show _ = val_main_v6 (F := Ideal) (A0 m c) (A2 m c) ((win0_6.rect t).emb (ix2 r j))
  rw [emb6]
  rw [View.ld_unit_zero hz]
  show mom (k0_pay2 (F := Ideal) (View.ld (iblk m c 0 t) r0_0) (View.ld (iblk m c 0 t) r0_1) (View.ld (iblk m c 0 t) r0_2) (View.ld (iblk m c 0 t) r0_3) (ix2 r j)) (iblk m c 2 t (ix2 r j)) = _
  rw [grad0, blk2]
  rfl

theorem cover6 (i : S352x1024.Idx) : ∃ t, (cfg0.win 6).flush t = true ∧ i ∈ ((cfg0.win 6).blk t).view.set := by
  obtain ⟨t, r, k, rfl⟩ := at_row i
  refine ⟨t, flush0_6 t, ?_⟩
  rw [← emb6]
  exact View.emb_mem_set (win0_6.blk t).view _

theorem flushed7_eq (t : Fin cfg0.N) : (dats m 0 c).flushed 7 t = (win0_7.blk t).view.read (Elt Ideal) (val_main_v12 (F := Ideal) (A0 m c) (A3 m c)) := by
  rw [Value.flushed7]
  unfold out0_7
  rw [View.canon_unit_zero hz]
  funext i
  obtain ⟨r, j, rfl⟩ : ∃ (r : Fin 176) (j : Fin 1024), i = ix2 r j := ⟨_, _, eq_ix2 i⟩
  show _ = val_main_v12 (F := Ideal) (A0 m c) (A3 m c) ((win0_7.rect t).emb (ix2 r j))
  rw [emb7]
  rw [View.ld_unit_zero hz]
  show vel (k0_pay2 (F := Ideal) (View.ld (iblk m c 0 t) r0_0) (View.ld (iblk m c 0 t) r0_1) (View.ld (iblk m c 0 t) r0_2) (View.ld (iblk m c 0 t) r0_3) (ix2 r j)) (iblk m c 3 t (ix2 r j)) = _
  rw [grad0, blk3]
  rfl

theorem cover7 (i : S352x1024.Idx) : ∃ t, (cfg0.win 7).flush t = true ∧ i ∈ ((cfg0.win 7).blk t).view.set := by
  obtain ⟨t, r, k, rfl⟩ := at_row i
  refine ⟨t, flush0_7 t, ?_⟩
  rw [← emb7]
  exact View.emb_mem_set (win0_7.blk t).view _

theorem flushed5_eq (t : Fin cfg0.N) : (dats m 0 c).flushed 5 t = (win0_5.blk t).view.read (Elt Ideal) (val_main_v25 (F := Ideal) (A0 m c) (A1 m c) (A2 m c) (A3 m c)) := by
  rw [Value.flushed5]
  unfold out0_5
  rw [View.canon_unit_zero hz]
  funext i
  obtain ⟨r, j, rfl⟩ : ∃ (r : Fin 176) (j : Fin 1024), i = ix2 r j := ⟨_, _, eq_ix2 i⟩
  show _ = val_main_v25 (F := Ideal) (A0 m c) (A1 m c) (A2 m c) (A3 m c) ((win0_5.rect t).emb (ix2 r j))
  rw [emb5]
  rw [View.ld_unit_zero hz, View.ld_unit_zero hz, View.ld_unit_zero hz]
  show change (iblk m c 1 t (ix2 r j)) (k0_pay2 (F := Ideal) (View.ld (iblk m c 0 t) r0_0) (View.ld (iblk m c 0 t) r0_1) (View.ld (iblk m c 0 t) r0_2) (View.ld (iblk m c 0 t) r0_3) (ix2 r j)) (iblk m c 2 t (ix2 r j)) (iblk m c 3 t (ix2 r j)) = _
  rw [grad0, blk1, blk2, blk3]
  rfl

theorem cover5 (i : S352x1024.Idx) : ∃ t, (cfg0.win 5).flush t = true ∧ i ∈ ((cfg0.win 5).blk t).view.set := by
  obtain ⟨t, r, k, rfl⟩ := at_row i
  refine ⟨t, flush0_5 t, ?_⟩
  rw [← emb5]
  exact View.emb_mem_set (win0_5.blk t).view _

/-- The run, read: the result arrays as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = val_main_v1 (F := Ideal) (A0 m c)
      ∧ r.2.mem ((c : Thread nD τ).loc main_v0_1) = val_main_v25 (F := Ideal) (A0 m c) (A1 m c) (A2 m c) (A3 m c)
      ∧ r.2.mem ((c : Thread nD τ).loc main_v0_2) = val_main_v6 (F := Ideal) (A0 m c) (A2 m c)
      ∧ r.2.mem ((c : Thread nD τ).loc main_v0_3) = val_main_v12 (F := Ideal) (A0 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 _ (fun t _ => flushed4_eq m c t) cover4),
      (h c).2.1.trans ((dats m 0 c).arrAt_eq_of_cover 5 _ (fun t _ => flushed5_eq m c t) cover5),
      (h c).2.2.1.trans ((dats m 0 c).arrAt_eq_of_cover 6 _ (fun t _ => flushed6_eq m c t) cover6),
      (h c).2.2.2.1.trans ((dats m 0 c).arrAt_eq_of_cover 7 _ (fun t _ => flushed7_eq m c t) cover7),
      (h c).2.2.2.2⟩)
    (Value.run_blocks m ρ)

end Cert.Kernel19Ideal.Adam

end
-- ==== Proof.AdamPle.lean ====
/- Call 20, the optimiser's step of w_ple: what its one point leaves is what the reference writes, for all arguments. -/
module

public import proofs.«01_k».proof.Proof.Adam
public import proofs.«01_k».proof.Proof.Gen.Kernel20Ideal.Value
public import proofs.«01_k».proof.Proof.Gen.Reference20Ideal.Run
public import proofs.«01_k».proof.Proof.Gen.Reference20Ideal.Read

@[expose] public section

noncomputable section

namespace Cert.Kernel20Ideal.Adam

open Cert.Kernel20Ideal Cert.Kernel20Ideal.Gen Cert.Kernel20Ideal.Value Cert.Adam Cert.Reference20Ideal.Read
open Idealize.ShloMosaic Idealize.ShloMosaic.TcCoe Idealize.ShloMosaic.ValueIdx

variable (x0 : Vec Ideal S4x128x256 .bf16) (x1 x2 x3 : Vec Ideal S256x128 .f32)

/-- The gradient: the sum of the parts. -/
theorem g_eq : G4 (F := Ideal) x0 x1 x2 x3 = val_main_v2 (F := Ideal) x0 := by
  funext i
  obtain ⟨r, j, rfl⟩ : ∃ (r : Fin 256) (j : Fin 128), i = ix2 r j := ⟨_, _, eq_ix2 i⟩
  refine (turn _ _ r j).trans ((sum4 x0 _ _ _ _ _ _ j r).trans (Eq.trans ?_ ((val_main_v2_apply x0 _).trans (val_main_v1_apply x0 _)).symm))
  rw [show (val_main_cst (F := Ideal) (Shape.Idx.first Cert.Reference20Ideal.Gen.h_S_) : EReal) = 0 from Ideal.ofBits_zero_f32, zero_add]
  exact Finset.sum_congr rfl fun k _ => congrArg x0 (funext fun a => by fin_cases a <;> rfl)

theorem m_eq : G6 (F := Ideal) x0 x1 x2 x3 = val_main_v7 (F := Ideal) x0 x2 := by
  funext i
  show mom (G4 (F := Ideal) x0 x1 x2 x3 i) (x2 i) = _
  rw [g_eq]
  rfl

theorem v_eq : G7 (F := Ideal) x0 x1 x2 x3 = val_main_v13 (F := Ideal) x0 x3 := by
  funext i
  show vel (G4 (F := Ideal) x0 x1 x2 x3 i) (x3 i) = _
  rw [g_eq]
  rfl

theorem d_eq : G5 (F := Ideal) x0 x1 x2 x3 = val_main_v26 (F := Ideal) x0 x1 x2 x3 := by
  funext i
  show change (x1 i) (G4 (F := Ideal) x0 x1 x2 x3 i) (x2 i) (x3 i) = _
  rw [g_eq]
  rfl

end Cert.Kernel20Ideal.Adam

end
-- ==== Proof.lean ====
/- The claims of this certificate, assembled from the modules under Proof/: the frames of the programs, the
   idealization (which rewrote nothing), and the equations between the kernels' results and the references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10.Loops
public import proofs.«01_k».proof.Proof.Gen.Kernel10Ideal.Loops
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11.Loops
public import proofs.«01_k».proof.Proof.Gen.Kernel11Ideal.Loops
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13.Loops
public import proofs.«01_k».proof.Proof.Gen.Kernel13Ideal.Loops
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.FfnBwdAEq
public import proofs.«01_k».proof.Proof.FfnBwdBEq
public import proofs.«01_k».proof.Proof.TailEq
public import proofs.«01_k».proof.Proof.MergeEq
public import proofs.«01_k».proof.Proof.S5ParamsEq
public import proofs.«01_k».proof.Proof.InprojEq
public import proofs.«01_k».proof.Proof.MergeFwdEq
public import proofs.«01_k».proof.Proof.InprojFwdEq
public import proofs.«01_k».proof.Proof.FfnDownEq
public import proofs.«01_k».proof.Proof.LruFrame
public import proofs.«01_k».proof.Proof.S5Frame
public import proofs.«01_k».proof.Proof.SmallFrame
public import proofs.«01_k».proof.Proof.BranchesFrame
public import proofs.«01_k».proof.Proof.AdamGlu
public import proofs.«01_k».proof.Proof.AdamConv
public import proofs.«01_k».proof.Proof.AdamAOut
public import proofs.«01_k».proof.Proof.AdamThree
public import proofs.«01_k».proof.Proof.AdamFfn
public import proofs.«01_k».proof.Proof.AdamDown
public import proofs.«01_k».proof.Proof.AdamPle
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Reals Idealize.ShloMosaic.ValueIdx

/-- The stated shape facts of the precondition of call 1. -/
theorem finiteFacts : Cert.Pre_finite.Facts := by
  refine ⟨?_, ?_, ?_, ?_⟩ <;> first | decide | exact ⟨fun a => a.elim0, fun a => a.elim0⟩

/-- The stated shape facts of the precondition of call 2. -/
theorem finiteFacts2 : Cert.Pre_finite2.Facts := by
  refine ⟨?_, ?_, ?_, ?_, ?_⟩ <;> first | decide | exact ⟨fun a => a.elim0, fun a => a.elim0⟩

/-- The stated shape facts of the precondition of call 3. -/
theorem finiteFacts3 : Cert.Pre_finite3.Facts := by
  refine ⟨?_, ?_, ?_, ?_, ?_⟩ <;> first | decide | exact ⟨fun a => a.elim0, fun a => a.elim0⟩

/-- The stated shape facts of the precondition of call 5. -/
theorem finiteFacts5 : Cert.Pre_finite5.Facts := by
  refine ⟨?_, ?_, ?_⟩ <;> first | decide | exact ⟨fun a => a.elim0, fun a => a.elim0⟩

/-- The stated shape facts of the precondition of call 6. -/
theorem finiteFacts6 : Cert.Pre_finite6.Facts := by
  refine ⟨?_, ?_, ?_, ?_, ?_⟩ <;> first | decide | exact ⟨fun a => a.elim0, fun a => a.elim0⟩

attribute [local instance] finiteFacts Cert.Kernel.Gen.facts Cert.KernelIdeal.Gen.facts Cert.ReferenceIdeal.Gen.facts
  finiteFacts2 Cert.Kernel2.Gen.facts Cert.Kernel2Ideal.Gen.facts Cert.Reference2Ideal.Gen.facts
  finiteFacts3 Cert.Kernel3.Gen.facts Cert.Kernel3Ideal.Gen.facts Cert.Reference3Ideal.Gen.facts
  Cert.Kernel4.Gen.facts Cert.Kernel4Ideal.Gen.facts Cert.Reference4Ideal.Gen.facts finiteFacts5
  Cert.Kernel5.Gen.facts Cert.Kernel5Ideal.Gen.facts Cert.Reference5Ideal.Gen.facts finiteFacts6
  Cert.Kernel6.Gen.facts Cert.Kernel6Ideal.Gen.facts Cert.Reference6Ideal.Gen.facts Cert.Kernel7.Gen.facts
  Cert.Kernel7Ideal.Gen.facts Cert.Reference7Ideal.Gen.facts Cert.Kernel8.Gen.facts Cert.Kernel8Ideal.Gen.facts
  Cert.Reference8Ideal.Gen.facts Cert.Kernel9.Gen.facts Cert.Kernel9Ideal.Gen.facts Cert.Reference9Ideal.Gen.facts
  Cert.Kernel10.Gen.facts Cert.Kernel10Ideal.Gen.facts Cert.Kernel11.Gen.facts Cert.Kernel11Ideal.Gen.facts
  Cert.Kernel12.Gen.facts Cert.Kernel12Ideal.Gen.facts Cert.Kernel13.Gen.facts Cert.Kernel13Ideal.Gen.facts
  Cert.Kernel14.Gen.facts Cert.Kernel14Ideal.Gen.facts Cert.Reference14Ideal.Gen.facts Cert.Kernel15.Gen.facts
  Cert.Kernel15Ideal.Gen.facts Cert.Reference15Ideal.Gen.facts Cert.Kernel16.Gen.facts Cert.Kernel16Ideal.Gen.facts
  Cert.Reference16Ideal.Gen.facts Cert.Kernel17.Gen.facts Cert.Kernel17Ideal.Gen.facts Cert.Reference17Ideal.Gen.facts
  Cert.Kernel18.Gen.facts Cert.Kernel18Ideal.Gen.facts Cert.Reference18Ideal.Gen.facts Cert.Kernel19.Gen.facts
  Cert.Kernel19Ideal.Gen.facts Cert.Reference19Ideal.Gen.facts Cert.Kernel20.Gen.facts Cert.Kernel20Ideal.Gen.facts
  Cert.Reference20Ideal.Gen.facts Cert.Kernel21.Gen.facts Cert.Kernel21Ideal.Gen.facts Cert.Kernel22.Gen.facts
  Cert.Kernel22Ideal.Gen.facts Cert.Reference22Ideal.Gen.facts Cert.Kernel23.Gen.facts Cert.Kernel23Ideal.Gen.facts
  Cert.Reference23Ideal.Gen.facts Cert.Kernel24.Gen.facts Cert.Kernel24Ideal.Gen.facts Cert.Reference24Ideal.Gen.facts
  Cert.Kernel25.Gen.facts Cert.Kernel25Ideal.Gen.facts Cert.Reference25Ideal.Gen.facts Cert.Kernel26.Gen.facts
  Cert.Kernel26Ideal.Gen.facts Cert.Reference26Ideal.Gen.facts Cert.Kernel27.Gen.facts Cert.Kernel27Ideal.Gen.facts
  Cert.Reference27Ideal.Gen.facts

/-- The reference's frame: its run read at the arguments; it declares no semaphore. -/
theorem frameRef : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The backward of the gated product: all three results. -/
theorem ffnBwdA : Cert.algebraic_KernelIdeal_ReferenceIdeal_pre_finite := by
  intro m g m' g' hpre hagree
  refine ⟨_, _, _, Cert.KernelIdeal.FfnBwdA.run m g, (θ_run _ _ _).mono (fun r h c => ?_) (Cert.ReferenceIdeal.Value.run m' g')⟩
  obtain ⟨h0, h1, h2, hk⟩ := h c
  obtain ⟨e0, e1, e2, e3⟩ := hagree c
  obtain ⟨p0, p1, p2, p3⟩ := hpre c
  obtain ⟨a0, ha0⟩ := real_array (m ((c : Thread Cert.KernelIdeal.nD Cert.KernelIdeal.τ).loc Cert.KernelIdeal.main_arg0)) _ p0
  obtain ⟨a1, ha1⟩ := real_array (m ((c : Thread Cert.KernelIdeal.nD Cert.KernelIdeal.τ).loc Cert.KernelIdeal.main_arg1)) _ p1
  obtain ⟨a2, ha2⟩ := real_array (m ((c : Thread Cert.KernelIdeal.nD Cert.KernelIdeal.τ).loc Cert.KernelIdeal.main_arg2)) _ p2
  obtain ⟨a3, ha3⟩ := real_array (m ((c : Thread Cert.KernelIdeal.nD Cert.KernelIdeal.τ).loc Cert.KernelIdeal.main_arg3)) _ p3
  refine ⟨h0.trans ?_, h1.trans ?_, h2.trans ?_, hk⟩
  · rw [Cert.ReferenceIdeal.Read.val_main_v12_eq, e0, e1, e2, e3, ha0, ha1, ha2, ha3]
    exact Cert.FfnBwdAEq.dfg_eq a0 a1 a2 a3
  · rw [Cert.ReferenceIdeal.Read.val_main_v13_eq, e0, e1, e3]
    exact Cert.FfnBwdAEq.dfu_eq _ _ _
  · rw [Cert.ReferenceIdeal.Read.val_main_v14_eq, e1, e2]
    exact Cert.FfnBwdAEq.act_eq _ _

/-- The frame of call 2's reference. -/
theorem frameRef2 : Cert.quiescent_Reference2Ideal := fun m ρ _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m ρ)

/-- The backward of the feed-forward norm and up projections: all three results. -/
theorem ffnBwdB : Cert.algebraic_Kernel2Ideal_Reference2Ideal_pre_finite2 := by
  intro m g m' g' hpre hagree
  refine ⟨_, _, _, Cert.Kernel2Ideal.FfnBwdB.run m g, (θ_run _ _ _).mono (fun r h c => ?_) (Cert.Reference2Ideal.Value.run m' g')⟩
  obtain ⟨h0, h1, h2, hk⟩ := h c
  obtain ⟨e0, e1, e2, e3, e4, e5, e6⟩ := hagree c
  obtain ⟨p0, p1, p2, p4, p5, p6⟩ := hpre c
  obtain ⟨a0, ha0⟩ := real_array (m ((c : Thread Cert.Kernel2Ideal.nD Cert.Kernel2Ideal.τ).loc Cert.Kernel2Ideal.main_arg0)) _ p0
  obtain ⟨a1, ha1⟩ := real_array (m ((c : Thread Cert.Kernel2Ideal.nD Cert.Kernel2Ideal.τ).loc Cert.Kernel2Ideal.main_arg1)) _ p1
  obtain ⟨a2, ha2⟩ := real_array (m ((c : Thread Cert.Kernel2Ideal.nD Cert.Kernel2Ideal.τ).loc Cert.Kernel2Ideal.main_arg2)) _ p2
  obtain ⟨a4, ha4⟩ := real_array (m ((c : Thread Cert.Kernel2Ideal.nD Cert.Kernel2Ideal.τ).loc Cert.Kernel2Ideal.main_arg4)) _ p4
  obtain ⟨a5, ha5⟩ := real_array (m ((c : Thread Cert.Kernel2Ideal.nD Cert.Kernel2Ideal.τ).loc Cert.Kernel2Ideal.main_arg5)) _ p5
  obtain ⟨a6, ha6⟩ := real_array (m ((c : Thread Cert.Kernel2Ideal.nD Cert.Kernel2Ideal.τ).loc Cert.Kernel2Ideal.main_arg6)) _ p6
  refine ⟨h0.trans ?_, h1.trans ?_, h2.trans ?_, hk⟩
  · dsimp only [Cert.Kernel2Ideal.FfnBwdB.A0, Cert.Kernel2Ideal.FfnBwdB.A1, Cert.Kernel2Ideal.FfnBwdB.A2, Cert.Kernel2Ideal.FfnBwdB.A3,
      Cert.Kernel2Ideal.FfnBwdB.A4, Cert.Kernel2Ideal.FfnBwdB.A5, Cert.Kernel2Ideal.FfnBwdB.A6]
    rw [Cert.Reference2Ideal.Read.val_main_v43_eq, e0, e1, e2, e3, e4, e5, e6, ha0, ha1, ha2, ha4, ha5, ha6]
    exact Cert.FfnBwdBEq.dx1_eq _ a0 a1 a2 a4 a5 a6
  · rw [Cert.Reference2Ideal.Read.val_main_v57_eq, e2, e4]
    exact Cert.FfnBwdBEq.h2_eq _ _
  · refine (Cert.Reference2Ideal.Read.val_main_v60_eq _ _ _ _ _).trans ?_
    rw [e0, e1, e2, e5, e6]
    exact Cert.FfnBwdBEq.vec_eq _ _ _ _ _

/-- The frame of call 3's reference. -/
theorem frameRef3 : Cert.quiescent_Reference3Ideal := fun m ρ _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m ρ)

/-- The per-layer embedding and the loss, forward and backward: all five results. -/
theorem tail : Cert.algebraic_Kernel3Ideal_Reference3Ideal_pre_finite3 := by
  intro m g m' g' hpre hagree
  refine ⟨_, _, _, _, _, Cert.Kernel3Ideal.TailK.run m g, (θ_run _ _ _).mono (fun r h c => ?_) (Cert.Reference3Ideal.Value.run m' g')⟩
  obtain ⟨h0, h1, h2, h3, h4, hk⟩ := h c
  obtain ⟨e0, e1, e2, e3, e4, e5, e6, e7, e8⟩ := hagree c
  obtain ⟨p0, p1, p2, p3, p4, p5, p6, p7, p8⟩ := hpre c
  obtain ⟨a0, ha0⟩ := real_array (m ((c : Thread Cert.Kernel3Ideal.nD Cert.Kernel3Ideal.τ).loc Cert.Kernel3Ideal.main_arg0)) _ p0
  obtain ⟨a1, ha1⟩ := real_array (m ((c : Thread Cert.Kernel3Ideal.nD Cert.Kernel3Ideal.τ).loc Cert.Kernel3Ideal.main_arg1)) _ p1
  obtain ⟨a2, ha2⟩ := real_array (m ((c : Thread Cert.Kernel3Ideal.nD Cert.Kernel3Ideal.τ).loc Cert.Kernel3Ideal.main_arg2)) _ p2
  obtain ⟨a3, ha3⟩ := real_array (m ((c : Thread Cert.Kernel3Ideal.nD Cert.Kernel3Ideal.τ).loc Cert.Kernel3Ideal.main_arg3)) _ p3
  obtain ⟨a4, ha4⟩ := real_array (m ((c : Thread Cert.Kernel3Ideal.nD Cert.Kernel3Ideal.τ).loc Cert.Kernel3Ideal.main_arg4)) _ p4
  obtain ⟨a5, ha5⟩ := real_array (m ((c : Thread Cert.Kernel3Ideal.nD Cert.Kernel3Ideal.τ).loc Cert.Kernel3Ideal.main_arg5)) _ p5
  obtain ⟨a6, ha6⟩ := real_array (m ((c : Thread Cert.Kernel3Ideal.nD Cert.Kernel3Ideal.τ).loc Cert.Kernel3Ideal.main_arg6)) _ p6
  obtain ⟨a7, ha7⟩ := real_array (m ((c : Thread Cert.Kernel3Ideal.nD Cert.Kernel3Ideal.τ).loc Cert.Kernel3Ideal.main_arg7)) _ p7
  obtain ⟨a8, ha8⟩ := real_array (m ((c : Thread Cert.Kernel3Ideal.nD Cert.Kernel3Ideal.τ).loc Cert.Kernel3Ideal.main_arg8)) _ p8
  have e0 : StableHlo.launchContents m' c (Proc.devRef .tc Cert.Reference3Ideal.main_arg0) = m ((c : Thread Cert.Kernel3Ideal.nD Cert.Kernel3Ideal.τ).loc Cert.Kernel3Ideal.main_arg0) := e0
  have e1 : StableHlo.launchContents m' c (Proc.devRef .tc Cert.Reference3Ideal.main_arg1) = m ((c : Thread Cert.Kernel3Ideal.nD Cert.Kernel3Ideal.τ).loc Cert.Kernel3Ideal.main_arg1) := e1
  have e2 : StableHlo.launchContents m' c (Proc.devRef .tc Cert.Reference3Ideal.main_arg2) = m ((c : Thread Cert.Kernel3Ideal.nD Cert.Kernel3Ideal.τ).loc Cert.Kernel3Ideal.main_arg2) := e2
  have e3 : StableHlo.launchContents m' c (Proc.devRef .tc Cert.Reference3Ideal.main_arg3) = m ((c : Thread Cert.Kernel3Ideal.nD Cert.Kernel3Ideal.τ).loc Cert.Kernel3Ideal.main_arg3) := e3
  have e4 : StableHlo.launchContents m' c (Proc.devRef .tc Cert.Reference3Ideal.main_arg4) = m ((c : Thread Cert.Kernel3Ideal.nD Cert.Kernel3Ideal.τ).loc Cert.Kernel3Ideal.main_arg4) := e4
  have e5 : StableHlo.launchContents m' c (Proc.devRef .tc Cert.Reference3Ideal.main_arg5) = m ((c : Thread Cert.Kernel3Ideal.nD Cert.Kernel3Ideal.τ).loc Cert.Kernel3Ideal.main_arg5) := e5
  have e6 : StableHlo.launchContents m' c (Proc.devRef .tc Cert.Reference3Ideal.main_arg6) = m ((c : Thread Cert.Kernel3Ideal.nD Cert.Kernel3Ideal.τ).loc Cert.Kernel3Ideal.main_arg6) := e6
  have e7 : StableHlo.launchContents m' c (Proc.devRef .tc Cert.Reference3Ideal.main_arg7) = m ((c : Thread Cert.Kernel3Ideal.nD Cert.Kernel3Ideal.τ).loc Cert.Kernel3Ideal.main_arg7) := e7
  have e8 : StableHlo.launchContents m' c (Proc.devRef .tc Cert.Reference3Ideal.main_arg8) = m ((c : Thread Cert.Kernel3Ideal.nD Cert.Kernel3Ideal.τ).loc Cert.Kernel3Ideal.main_arg8) := e8
  have hP : Cert.TailEq.PReal (Cert.Kernel3Ideal.TailK.PP m c) :=
    ⟨fun k => ⟨_, congrFun ha3 _⟩, fun k j => ⟨_, congrFun ha4 _⟩, fun k => ⟨_, congrFun ha5 _⟩, fun j q => ⟨_, congrFun ha6 _⟩, fun k => ⟨_, congrFun ha7 _⟩,
      fun k => ⟨_, congrFun ha8 _⟩⟩
  have hR : ∀ i, Cert.TailEq.RReal (Cert.Kernel3Ideal.TailK.RR m c i) := fun i => ⟨fun k => ⟨_, congrFun ha0 _⟩, fun k => ⟨_, congrFun ha1 _⟩, fun k => ⟨_, congrFun ha2 _⟩⟩
  refine ⟨h0.trans ?_, h1.trans ?_, h2.trans ?_, h3.trans ?_, h4.trans ?_, hk⟩
  · refine (Cert.Reference3Ideal.Read.val_main_v150_eq _).trans ?_
    rw [e0, e1, e2, e3, e4, e5, e6, e7, e8]
    funext i
    obtain ⟨r, j, rfl⟩ : ∃ (r : Fin 2048) (j : Fin 1024), i = ix2 r j := ⟨i 0, i 1, Shape.idx_ext₂ rfl rfl⟩
    exact Cert.TailEq.r_dx2 _ _ _ _ _ _ _ _ _ r j hP (hR r)
  · refine (Cert.Reference3Ideal.Read.val_main_v151_eq _).trans ?_
    rw [e0, e1, e2, e3, e4, e5, e6, e7, e8]
    funext i
    exact Cert.TailEq.r_loss _ _ _ _ _ _ _ _ _ i
  · refine (Cert.Reference3Ideal.Read.val_main_v152_eq _).trans ?_
    rw [e0, e1, e2, e3, e4, e5, e6, e7, e8]
    funext i
    obtain ⟨k, j, rfl⟩ : ∃ (k : Fin 1024) (j : Fin 1024), i = ix2 k j := ⟨i 0, i 1, Shape.idx_ext₂ rfl rfl⟩
    exact Cert.TailEq.r_dwpg _ _ _ _ _ _ _ _ _ hP hR k j
  · refine (Cert.Reference3Ideal.Read.val_main_v154_eq _).trans ?_
    rw [e0, e1, e2, e3, e4, e5, e6, e7, e8]
    funext i
    obtain ⟨j, q, rfl⟩ : ∃ (j : Fin 1024) (q : Fin 256), i = ix2 j q := ⟨i 0, i 1, Shape.idx_ext₂ rfl rfl⟩
    exact Cert.TailEq.r_dwple _ _ _ _ _ _ _ _ _ hP hR j q
  · refine (Cert.Reference3Ideal.Read.val_main_v160_eq _).trans ?_
    rw [e0, e1, e2, e3, e4, e5, e6, e7, e8]
    funext i
    exact Cert.TailEq.r_vec _ _ _ _ _ _ _ _ _ hP hR i

/-- The frame of call 4's reference. -/
theorem frameRef4 : Cert.quiescent_Reference4Ideal := fun m ρ _ =>
  (θ_run Cert.Reference4Ideal.defs _ _).mono (fun r h => ⟨fun c => (h c).2.2.2.2.2.2.2, Idealize.ShloMosaic.sem_eq_zero_of_no_sems (by decide) r.2⟩)
    (Cert.Reference4Ideal.Value.run (F := Ideal) m ρ)

/-- The backward of the merge: all seven results. -/
theorem merge : Cert.algebraic_Kernel4Ideal_Reference4Ideal := by
  intro m g m' g' _ hagree
  refine ⟨_, _, _, _, _, _, _, Cert.Kernel4Ideal.MergeK.run m g, (θ_run _ _ _).mono (fun r h c => ?_) (Cert.Reference4Ideal.Value.run m' g')⟩
  obtain ⟨h0, h1, h2, h3, h4, h5, h6, hk⟩ := h c
  obtain ⟨e0, e1, e2, e3, e4, e5, e6, e7⟩ := hagree c
  refine ⟨h0.trans ?_, h1.trans ?_, h2.trans ?_, h3.trans ?_, h4.trans ?_, h5.trans ?_, h6.trans ?_, hk⟩
  · refine (Cert.Reference4Ideal.Read.val_main_v39_eq _ _ _ _ _).trans ?_
    rw [e0, e1, e3, e5, e7]
    funext i
    obtain ⟨r, j, rfl⟩ : ∃ (r : Fin 2048) (j : Fin 1024), i = ix2 r j := ⟨i 0, i 1, Shape.idx_ext₂ rfl rfl⟩
    exact Cert.MergeEq.r_dza _ _ _ _ _ r j
  · refine (Cert.Reference4Ideal.Read.val_main_v40_eq _ _ _ _ _).trans ?_
    rw [e0, e2, e4, e6, e7]
    funext i
    obtain ⟨r, j, rfl⟩ : ∃ (r : Fin 2048) (j : Fin 1024), i = ix2 r j := ⟨i 0, i 1, Shape.idx_ext₂ rfl rfl⟩
    exact Cert.MergeEq.r_dzb _ _ _ _ _ r j
  · refine (Cert.Reference4Ideal.Read.val_main_v37_eq _ _ _ _).trans ?_
    rw [e0, e3, e5, e7]
    funext i
    obtain ⟨r, j, rfl⟩ : ∃ (r : Fin 2048) (j : Fin 512), i = ix2 r j := ⟨i 0, i 1, Shape.idx_ext₂ rfl rfl⟩
    exact Cert.MergeEq.r_dya _ _ _ _ r j
  · refine (Cert.Reference4Ideal.Read.val_main_v31_eq _ _ _ _).trans ?_
    rw [e0, e4, e6, e7]
    funext i
    obtain ⟨r, j, rfl⟩ : ∃ (r : Fin 2048) (j : Fin 1024), i = ix2 r j := ⟨i 0, i 1, Shape.idx_ext₂ rfl rfl⟩
    exact Cert.MergeEq.r_dyb _ _ _ _ r j
  · refine (Cert.Reference4Ideal.Read.val_main_v41_eq _ _ _ _ _ _ _).trans ?_
    rw [e0, e1, e2, e3, e4, e5, e6]
    funext i
    obtain ⟨r, j, rfl⟩ : ∃ (r : Fin 1024) (j : Fin 1024), i = ix2 r j := ⟨i 0, i 1, Shape.idx_ext₂ rfl rfl⟩
    exact Cert.MergeEq.r_dwo _ _ _ _ _ _ _ r j
  · refine (Cert.Reference4Ideal.Read.val_main_v43_eq _ _ _ _).trans ?_
    rw [e0, e1, e3, e7]
    funext i
    obtain ⟨r, j, rfl⟩ : ∃ (r : Fin 1024) (j : Fin 512), i = ix2 r j := ⟨i 0, i 1, Shape.idx_ext₂ rfl rfl⟩
    exact Cert.MergeEq.r_dwa _ _ _ _ r j
  · refine (Cert.Reference4Ideal.Read.val_main_v44_eq _ _ _ _).trans ?_
    rw [e0, e2, e4, e7]
    funext i
    obtain ⟨r, j, rfl⟩ : ∃ (r : Fin 1024) (j : Fin 1024), i = ix2 r j := ⟨i 0, i 1, Shape.idx_ext₂ rfl rfl⟩
    exact Cert.MergeEq.r_dwb _ _ _ _ r j

/-- The frame of call 5's reference. -/
theorem frameRef5 : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

/-- The gradients of the S5 branch's input and output matrices: all four results. -/
theorem s5Params : Cert.algebraic_Kernel5Ideal_Reference5Ideal_pre_finite5 := by
  intro m g m' g' hpre hagree
  refine ⟨_, _, _, _, Cert.Kernel5Ideal.S5P.run m g, (θ_run _ _ _).mono (fun r h c => ?_) (Cert.Reference5Ideal.Value.run m' g')⟩
  obtain ⟨h0, h1, h2, h3, hk⟩ := h c
  obtain ⟨e0, e1, e2, e3, e4, e5⟩ := hagree c
  obtain ⟨p3, p5⟩ := hpre c
  obtain ⟨a3, ha3⟩ := real_array (m ((c : Thread Cert.Kernel5Ideal.nD Cert.Kernel5Ideal.τ).loc Cert.Kernel5Ideal.main_arg3)) _ p3
  obtain ⟨a5, ha5⟩ := real_array (m ((c : Thread Cert.Kernel5Ideal.nD Cert.Kernel5Ideal.τ).loc Cert.Kernel5Ideal.main_arg5)) _ p5
  refine ⟨h0.trans ?_, h1.trans ?_, h2.trans ?_, h3.trans ?_, hk⟩
  · refine (Cert.Reference5Ideal.Read.val_main_v33_eq _ _).trans ?_
    rw [e0, e4]
    exact Cert.S5PEq.dB0 _ _
  · refine (Cert.Reference5Ideal.Read.val_main_v36_eq _ _).trans ?_
    rw [e1, e4]
    exact Cert.S5PEq.dB1 _ _
  · refine (Cert.Reference5Ideal.Read.val_main_v39_eq _ _).trans ?_
    rw [e2, e5]
    exact Cert.S5PEq.dC0 _ _
  · refine (Cert.Reference5Ideal.Read.val_main_v43_eq _ _).trans ?_
    rw [e3, e5]
    exact Cert.S5PEq.dC1 _ _ (fun i => ⟨a3 i, congrFun ha3 i⟩) (fun i => ⟨a5 i, congrFun ha5 i⟩)

/-- The frame of call 6's kernel: the run is the same at either reading of the numbers. -/
theorem frameK6 : Cert.quiescent_Kernel6 := by
  intro m ρ _
  have h := Cert.Kernel6Ideal.InprojF.unchanged (F := Bits) m ρ
  refine Eq.mp ?_ h
  sl_kernel_rfl

/-- The frame of call 6's reference. -/
theorem frameRef6 : Cert.quiescent_Reference6Ideal := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m ρ)

/-- The backward of the input projection and its norm: all four results. -/
theorem inproj : Cert.algebraic_Kernel6Ideal_Reference6Ideal_pre_finite6 := by
  intro m g m' g' hpre hagree
  refine ⟨_, _, _, _, Cert.Kernel6Ideal.Inproj.run m g, (θ_run _ _ _).mono (fun r h c => ?_) (Cert.Reference6Ideal.Value.run m' g')⟩
  obtain ⟨h0, h1, h2, h3, hk⟩ := h c
  obtain ⟨e0, e1, e2, e3, e4, e5, e6, e7⟩ := hagree c
  obtain ⟨p0, p1, p2, p3, p4, p6, p7⟩ := hpre c
  obtain ⟨a0, ha0⟩ := real_array (m ((c : Thread Cert.Kernel6Ideal.nD Cert.Kernel6Ideal.τ).loc Cert.Kernel6Ideal.main_arg0)) _ p0
  obtain ⟨a1, ha1⟩ := real_array (m ((c : Thread Cert.Kernel6Ideal.nD Cert.Kernel6Ideal.τ).loc Cert.Kernel6Ideal.main_arg1)) _ p1
  obtain ⟨a2, ha2⟩ := real_array (m ((c : Thread Cert.Kernel6Ideal.nD Cert.Kernel6Ideal.τ).loc Cert.Kernel6Ideal.main_arg2)) _ p2
  obtain ⟨a3, ha3⟩ := real_array (m ((c : Thread Cert.Kernel6Ideal.nD Cert.Kernel6Ideal.τ).loc Cert.Kernel6Ideal.main_arg3)) _ p3
  obtain ⟨a4, ha4⟩ := real_array (m ((c : Thread Cert.Kernel6Ideal.nD Cert.Kernel6Ideal.τ).loc Cert.Kernel6Ideal.main_arg4)) _ p4
  obtain ⟨a6, ha6⟩ := real_array (m ((c : Thread Cert.Kernel6Ideal.nD Cert.Kernel6Ideal.τ).loc Cert.Kernel6Ideal.main_arg6)) _ p6
  obtain ⟨a7, ha7⟩ := real_array (m ((c : Thread Cert.Kernel6Ideal.nD Cert.Kernel6Ideal.τ).loc Cert.Kernel6Ideal.main_arg7)) _ p7
  refine ⟨h0.trans ?_, h1.trans ?_, h2.trans ?_, h3.trans ?_, hk⟩
  · dsimp only [Cert.Kernel6Ideal.Inproj.A0, Cert.Kernel6Ideal.Inproj.A1, Cert.Kernel6Ideal.Inproj.A2, Cert.Kernel6Ideal.Inproj.A3, Cert.Kernel6Ideal.Inproj.A4, Cert.Kernel6Ideal.Inproj.A5, Cert.Kernel6Ideal.Inproj.A6, Cert.Kernel6Ideal.Inproj.A7]
    rw [Cert.Reference6Ideal.Read.val_main_v47_eq, e0, e1, e2, e3, e4, e5, e6, e7, ha0, ha1, ha2, ha3, ha4, ha6, ha7]
    exact Cert.InprojEq.dx_eq _ a0 a1 a2 a3 a4 a6 a7
  · rw [Cert.Reference6Ideal.Read.val_main_v61_eq, e4, e6]
    exact Cert.InprojEq.h_eq _ _
  · refine (Cert.Reference6Ideal.Read.val_main_v64_eq _ _ _ _ _ _).trans ?_
    rw [e0, e1, e2, e3, e4, e7]
    exact Cert.InprojEq.vd_eq _ _ _ _ _ _
  · refine (Cert.Reference6Ideal.Read.val_main_v67_eq _ _ _ _).trans ?_
    rw [e0, e1, e2, e3]
    exact Cert.InprojEq.vn_eq _ _ _ _

/-- The frame of call 7's reference. -/
theorem frameRef7 : Cert.quiescent_Reference7Ideal := fun m ρ _ =>
  (θ_run Cert.Reference7Ideal.defs _ _).mono (fun r h => ⟨fun c => (h c).2.2.2.2.2.2, Idealize.ShloMosaic.sem_eq_zero_of_no_sems (by decide) r.2⟩)
    (Cert.Reference7Ideal.Value.run (F := Ideal) m ρ)

/-- The forward of the merge, the residual, the norm and the up projections: all six results. -/
theorem mergeFwd : Cert.algebraic_Kernel7Ideal_Reference7Ideal := by
  intro m g m' g' _ hagree
  refine ⟨_, _, _, _, _, _, Cert.Kernel7Ideal.MergeFwd.run m g, (θ_run _ _ _).mono (fun r h c => ?_) (Cert.Reference7Ideal.Value.run m' g')⟩
  obtain ⟨h0, h1, h2, h3, h4, h5, hk⟩ := h c
  obtain ⟨e0, e1, e2, e3, e4, e5, e6, e7, e8, e9, e10⟩ := hagree c
  refine ⟨h0.trans ?_, h1.trans ?_, h2.trans ?_, h3.trans ?_, h4.trans ?_, h5.trans ?_, hk⟩
  · refine (Cert.Reference7Ideal.Read.val_main_v18_eq _ _ _ _ _ _ _ _ ).trans ?_
    rw [e0, e1, e2, e3, e4, e5, e6, e7]
    exact Cert.MergeFwdEq.x1_eq _ _ _ _ _ _ _ _
  · refine (Cert.Reference7Ideal.Read.val_main_v32_eq _ _ _ _ _ _ ).trans ?_
    rw [e0, e1, e2, e3, e5, e6]
    exact Cert.MergeFwdEq.merged_eq _ _ _ _ _ _
  · refine (Cert.Reference7Ideal.Read.val_main_v33_eq _ _ ).trans ?_
    rw [e0, e5]
    exact Cert.MergeFwdEq.ma_eq _ _
  · refine (Cert.Reference7Ideal.Read.val_main_v34_eq _ _ ).trans ?_
    rw [e1, e6]
    exact Cert.MergeFwdEq.mb_eq _ _
  · refine (Cert.Reference7Ideal.Read.val_main_v36_eq _ _ _ _ _ _ _ _ _ _ ).trans ?_
    rw [e0, e1, e2, e3, e4, e5, e6, e7, e8, e9]
    exact Cert.MergeFwdEq.gate_eq _ _ _ _ _ _ _ _ _ _
  · refine (Cert.Reference7Ideal.Read.val_main_v38_eq _ _ _ _ _ _ _ _ _ _ ).trans ?_
    rw [e0, e1, e2, e3, e4, e5, e6, e7, e8, e10]
    exact Cert.MergeFwdEq.up_eq _ _ _ _ _ _ _ _ _ _

/-- The frame of call 8's reference. -/
theorem frameRef8 : Cert.quiescent_Reference8Ideal := fun m ρ _ =>
  (θ_run Cert.Reference8Ideal.defs _ _).mono (fun r h => ⟨fun c => (h c).2.2.2.2, Idealize.ShloMosaic.sem_eq_zero_of_no_sems (by decide) r.2⟩)
    (Cert.Reference8Ideal.Value.run (F := Ideal) m ρ)

/-- The forward of the norm and the input projection: all four results. -/
theorem inprojFwd : Cert.algebraic_Kernel8Ideal_Reference8Ideal := by
  intro m g m' g' _ hagree
  refine ⟨_, _, _, _, Cert.Kernel8Ideal.InprojFwd.run m g, (θ_run _ _ _).mono (fun r h c => ?_) (Cert.Reference8Ideal.Value.run m' g')⟩
  obtain ⟨h0, h1, h2, h3, hk⟩ := h c
  obtain ⟨e0, e1, e2, e3⟩ := hagree c
  refine ⟨h0.trans ?_, h1.trans ?_, h2.trans ?_, h3.trans ?_, hk⟩
  · refine (Cert.Reference8Ideal.Read.val_main_v17_eq _ _ _ _ ).trans ?_
    rw [e0, e1, e2, e3]
    exact Cert.InprojFwdEq.z0_eq _ _ _ _
  · refine (Cert.Reference8Ideal.Read.val_main_v18_eq _ _ _ _ ).trans ?_
    rw [e0, e1, e2, e3]
    exact Cert.InprojFwdEq.z1_eq _ _ _ _
  · refine (Cert.Reference8Ideal.Read.val_main_v19_eq _ _ _ _ ).trans ?_
    rw [e0, e1, e2, e3]
    exact Cert.InprojFwdEq.z2_eq _ _ _ _
  · refine (Cert.Reference8Ideal.Read.val_main_v20_eq _ _ _ _ ).trans ?_
    rw [e0, e1, e2, e3]
    exact Cert.InprojFwdEq.z3_eq _ _ _ _

/-- The frame of call 9's reference. -/
theorem frameRef9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The forward of the gate and the down projection: its one result. -/
theorem ffnDown : Cert.algebraic_Kernel9Ideal_Reference9Ideal := by
  intro m g m' g' _ hagree
  refine ⟨_, Cert.Kernel9Ideal.FfnDown.run m g, (θ_run _ _ _).mono (fun r h c => ?_) (Cert.Reference9Ideal.Value.run m' g')⟩
  obtain ⟨h0, hk⟩ := h c
  obtain ⟨e0, e1, e2, e3⟩ := hagree c
  refine ⟨h0.trans ?_, hk⟩
  · refine (Cert.Reference9Ideal.Read.val_main_v5_eq _ _ _ _ ).trans ?_
    rw [e0, e1, e2, e3]
    exact Cert.FfnDownEq.x2_eq _ _ _ _

/-- The frame of call 10 (the gated recurrence's backward) over the machine's floats: the printed program is the same text. -/
theorem frameK10 : Cert.quiescent_Kernel10 := by
  intro m ρ _
  have h := Cert.Kernel10Ideal.LruBwd.unchanged (F := Bits) m ρ
  refine Eq.mp ?_ h
  sl_kernel_rfl

/-- The frame of call 11 (the complex recurrence's backward) over the machine's floats: the printed program is the same text. -/
theorem frameK11 : Cert.quiescent_Kernel11 := by
  intro m ρ _
  have h := Cert.Kernel11Ideal.S5Bwd.unchanged (F := Bits) m ρ
  refine Eq.mp ?_ h
  sl_kernel_rfl

/-- The frame of call 12 (the sums of the small gradients) over the machine's floats: the printed program is the same text. -/
theorem frameK12 : Cert.quiescent_Kernel12 := by
  intro m ρ _
  have h := Cert.Kernel12Ideal.SmallReduce.unchanged (F := Bits) m ρ
  refine Eq.mp ?_ h
  sl_kernel_rfl

/-- The frame of call 13 (the forward of both recurrences) over the machine's floats: the printed program is the same text. -/
theorem frameK13 : Cert.quiescent_Kernel13 := by
  intro m ρ _
  have h := Cert.Kernel13Ideal.Branches.unchanged (F := Bits) m ρ
  refine Eq.mp ?_ h
  sl_kernel_rfl

/-- The frame of call 14's reference. -/
theorem frameRef14 : Cert.quiescent_Reference14Ideal := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

/-- The optimiser's step of w_glu: its 4 results. -/
theorem adamGlu : Cert.algebraic_Kernel14Ideal_Reference14Ideal := by
  intro m g m' g' _ hagree
  refine ⟨_, _, _, _, Cert.Kernel14Ideal.Value.run m g, (θ_run _ _ _).mono (fun r h c => ?_) (Cert.Reference14Ideal.Value.run m' g')⟩
  obtain ⟨h0, h1, h2, h3, hk⟩ := h c
  obtain ⟨e0, e1, e2, e3⟩ := hagree c
  refine ⟨h0.trans ?_, h1.trans ?_, h2.trans ?_, h3.trans ?_, hk⟩
  · rw [(Cert.Reference14Ideal.Read.val_main_v1_eq _), e0]
    exact (Cert.Kernel14Ideal.Adam.g_eq _ _ _ _).symm
  · rw [(Cert.Reference14Ideal.Read.val_main_v25_eq _ _ _ _), e0, e1, e2, e3]
    exact (Cert.Kernel14Ideal.Adam.d_eq _ _ _ _).symm
  · rw [(Cert.Reference14Ideal.Read.val_main_v6_eq _ _), e0, e2]
    exact (Cert.Kernel14Ideal.Adam.m_eq _ _ _ _).symm
  · rw [(Cert.Reference14Ideal.Read.val_main_v12_eq _ _), e0, e3]
    exact (Cert.Kernel14Ideal.Adam.v_eq _ _ _ _).symm

/-- The frame of call 15's reference. -/
theorem frameRef15 : Cert.quiescent_Reference15Ideal := fun m ρ _ =>
  (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

/-- The optimiser's step of conv_w: its 4 results. -/
theorem adamConv : Cert.algebraic_Kernel15Ideal_Reference15Ideal := by
  intro m g m' g' _ hagree
  refine ⟨_, _, _, _, Cert.Kernel15Ideal.Value.run m g, (θ_run _ _ _).mono (fun r h c => ?_) (Cert.Reference15Ideal.Value.run m' g')⟩
  obtain ⟨h0, h1, h2, h3, hk⟩ := h c
  obtain ⟨e0, e1, e2, e3⟩ := hagree c
  refine ⟨h0.trans ?_, h1.trans ?_, h2.trans ?_, h3.trans ?_, hk⟩
  · rw [(Cert.Reference15Ideal.Read.val_main_v0_eq _), e0]
    exact (Cert.Kernel15Ideal.Adam.g_eq _ _ _ _).symm
  · rw [(Cert.Reference15Ideal.Read.val_main_v24_eq _ _ _ _), e0, e1, e2, e3]
    exact (Cert.Kernel15Ideal.Adam.d_eq _ _ _ _).symm
  · rw [(Cert.Reference15Ideal.Read.val_main_v5_eq _ _), e0, e2]
    exact (Cert.Kernel15Ideal.Adam.m_eq _ _ _ _).symm
  · rw [(Cert.Reference15Ideal.Read.val_main_v11_eq _ _), e0, e3]
    exact (Cert.Kernel15Ideal.Adam.v_eq _ _ _ _).symm

/-- The frame of call 16's reference. -/
theorem frameRef16 : Cert.quiescent_Reference16Ideal := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

/-- The optimiser's step of w_a_out: its 4 results. -/
theorem adamAOut : Cert.algebraic_Kernel16Ideal_Reference16Ideal := by
  intro m g m' g' _ hagree
  refine ⟨_, _, _, _, Cert.Kernel16Ideal.Adam.run m g, (θ_run _ _ _).mono (fun r h c => ?_) (Cert.Reference16Ideal.Value.run m' g')⟩
  obtain ⟨h0, h1, h2, h3, hk⟩ := h c
  obtain ⟨e0, e1, e2, e3⟩ := hagree c
  refine ⟨h0.trans ?_, h1.trans ?_, h2.trans ?_, h3.trans ?_, hk⟩
  · rw [(Cert.Reference16Ideal.Read.val_main_v2_eq _), e0]
  · rw [(Cert.Reference16Ideal.Read.val_main_v26_eq _ _ _ _), e0, e1, e2, e3]
  · rw [(Cert.Reference16Ideal.Read.val_main_v7_eq _ _), e0, e2]
  · rw [(Cert.Reference16Ideal.Read.val_main_v13_eq _ _), e0, e3]

/-- The frame of call 17's reference. -/
theorem frameRef17 : Cert.quiescent_Reference17Ideal := fun m ρ _ =>
  (θ_run Cert.Reference17Ideal.defs _ _).mono (fun r h => ⟨fun c => (h c).2.2.2.2.2.2.2.2.2.2.2.2, Idealize.ShloMosaic.sem_eq_zero_of_no_sems (by decide) r.2⟩)
    (Cert.Reference17Ideal.Value.run (F := Ideal) m ρ)

set_option maxHeartbeats 1000000 in
/-- The optimiser's step of w_b_out, w_o and w_ple_gate: its 12 results. -/
theorem adamThree : Cert.algebraic_Kernel17Ideal_Reference17Ideal := by
  intro m g m' g' _ hagree
  refine ⟨_, _, _, _, _, _, _, _, _, _, _, _, Cert.Kernel17Ideal.Value.run m g, (θ_run _ _ _).mono (fun r h c => ?_) (Cert.Reference17Ideal.Value.run m' g')⟩
  obtain ⟨h0, h1, h2, h3, h4, h5, h6, h7, h8, h9, h10, h11, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, hk⟩
  · rw [(Cert.Reference17Ideal.Read.val_main_v1_eq _), e0]
    exact (Cert.Kernel17Ideal.Adam.g0_eq _ _ _ _ _ _ _ _ _ _ _ _).symm
  · rw [(Cert.Reference17Ideal.Read.val_main_v25_eq _ _ _ _), e0, e3, e6, e9]
    exact (Cert.Kernel17Ideal.Adam.d0_eq _ _ _ _ _ _ _ _ _ _ _ _).symm
  · rw [(Cert.Reference17Ideal.Read.val_main_v6_eq _ _), e0, e6]
    exact (Cert.Kernel17Ideal.Adam.m0_eq _ _ _ _ _ _ _ _ _ _ _ _).symm
  · rw [(Cert.Reference17Ideal.Read.val_main_v12_eq _ _), e0, e9]
    exact (Cert.Kernel17Ideal.Adam.v0_eq _ _ _ _ _ _ _ _ _ _ _ _).symm
  · rw [(Cert.Reference17Ideal.Read.val_main_v27_eq _), e1]
    exact (Cert.Kernel17Ideal.Adam.g1_eq _ _ _ _ _ _ _ _ _ _ _ _).symm
  · rw [(Cert.Reference17Ideal.Read.val_main_v51_eq _ _ _ _), e1, e4, e7, e10]
    exact (Cert.Kernel17Ideal.Adam.d1_eq _ _ _ _ _ _ _ _ _ _ _ _).symm
  · rw [(Cert.Reference17Ideal.Read.val_main_v32_eq _ _), e1, e7]
    exact (Cert.Kernel17Ideal.Adam.m1_eq _ _ _ _ _ _ _ _ _ _ _ _).symm
  · rw [(Cert.Reference17Ideal.Read.val_main_v38_eq _ _), e1, e10]
    exact (Cert.Kernel17Ideal.Adam.v1_eq _ _ _ _ _ _ _ _ _ _ _ _).symm
  · rw [(Cert.Reference17Ideal.Read.val_main_v53_eq _), e2]
    exact (Cert.Kernel17Ideal.Adam.g2_eq _ _ _ _ _ _ _ _ _ _ _ _).symm
  · rw [(Cert.Reference17Ideal.Read.val_main_v77_eq _ _ _ _), e2, e5, e8, e11]
    exact (Cert.Kernel17Ideal.Adam.d2_eq _ _ _ _ _ _ _ _ _ _ _ _).symm
  · rw [(Cert.Reference17Ideal.Read.val_main_v58_eq _ _), e2, e8]
    exact (Cert.Kernel17Ideal.Adam.m2_eq _ _ _ _ _ _ _ _ _ _ _ _).symm
  · rw [(Cert.Reference17Ideal.Read.val_main_v64_eq _ _), e2, e11]
    exact (Cert.Kernel17Ideal.Adam.v2_eq _ _ _ _ _ _ _ _ _ _ _ _).symm

/-- The frame of call 18's reference. -/
theorem frameRef18 : Cert.quiescent_Reference18Ideal := fun m ρ _ =>
  (θ_run Cert.Reference18Ideal.defs _ _).mono (fun r h => ⟨fun c => (h c).2.2.2.2.2.2.2.2, Idealize.ShloMosaic.sem_eq_zero_of_no_sems (by decide) r.2⟩)
    (Cert.Reference18Ideal.Value.run (F := Ideal) m ρ)

/-- The optimiser's step of w_ffn_gate and w_ffn_up: its 8 results. -/
theorem adamFfn : Cert.algebraic_Kernel18Ideal_Reference18Ideal := by
  intro m g m' g' _ hagree
  refine ⟨_, _, _, _, _, _, _, _, Cert.Kernel18Ideal.Adam.run m g, (θ_run _ _ _).mono (fun r h c => ?_) (Cert.Reference18Ideal.Value.run m' g')⟩
  obtain ⟨h0, h1, h2, h3, h4, h5, h6, h7, hk⟩ := h c
  obtain ⟨e0, e1, e2, e3, e4, e5, e6, e7⟩ := hagree c
  refine ⟨h0.trans ?_, h1.trans ?_, h2.trans ?_, h3.trans ?_, h4.trans ?_, h5.trans ?_, h6.trans ?_, h7.trans ?_, hk⟩
  · rw [(Cert.Reference18Ideal.Read.val_main_v54_eq _), e0]
  · rw [(Cert.Reference18Ideal.Read.val_main_v55_eq _ _ _ _), e0, e2, e4, e6]
  · rw [(Cert.Reference18Ideal.Read.val_main_v56_eq _ _), e0, e4]
  · rw [(Cert.Reference18Ideal.Read.val_main_v57_eq _ _), e0, e6]
  · rw [(Cert.Reference18Ideal.Read.val_main_v58_eq _), e1]
  · rw [(Cert.Reference18Ideal.Read.val_main_v59_eq _ _ _ _), e1, e3, e5, e7]
  · rw [(Cert.Reference18Ideal.Read.val_main_v60_eq _ _), e1, e5]
  · rw [(Cert.Reference18Ideal.Read.val_main_v61_eq _ _), e1, e7]

/-- The frame of call 19's reference. -/
theorem frameRef19 : Cert.quiescent_Reference19Ideal := fun m ρ _ =>
  (θ_run Cert.Reference19Ideal.defs _ _).mono (fun r h => ⟨fun c => (h c).2.2.2.2, Idealize.ShloMosaic.sem_eq_zero_of_no_sems (by decide) r.2⟩)
    (Cert.Reference19Ideal.Value.run (F := Ideal) m ρ)

/-- The optimiser's step of w_ffn_down: its 4 results. -/
theorem adamDown : Cert.algebraic_Kernel19Ideal_Reference19Ideal := by
  intro m g m' g' _ hagree
  refine ⟨_, _, _, _, Cert.Kernel19Ideal.Adam.run m g, (θ_run _ _ _).mono (fun r h c => ?_) (Cert.Reference19Ideal.Value.run m' g')⟩
  obtain ⟨h0, h1, h2, h3, hk⟩ := h c
  obtain ⟨e0, e1, e2, e3⟩ := hagree c
  refine ⟨h0.trans ?_, h1.trans ?_, h2.trans ?_, h3.trans ?_, hk⟩
  · rw [(Cert.Reference19Ideal.Read.val_main_v1_eq _), e0]
  · rw [(Cert.Reference19Ideal.Read.val_main_v25_eq _ _ _ _), e0, e1, e2, e3]
  · rw [(Cert.Reference19Ideal.Read.val_main_v6_eq _ _), e0, e2]
  · rw [(Cert.Reference19Ideal.Read.val_main_v12_eq _ _), e0, e3]

/-- The frame of call 20's reference. -/
theorem frameRef20 : Cert.quiescent_Reference20Ideal := fun m ρ _ =>
  (θ_run Cert.Reference20Ideal.defs _ _).mono (fun r h => ⟨fun c => (h c).2.2.2.2, Idealize.ShloMosaic.sem_eq_zero_of_no_sems (by decide) r.2⟩)
    (Cert.Reference20Ideal.Value.run (F := Ideal) m ρ)

/-- The optimiser's step of w_ple: its 4 results. -/
theorem adamPle : Cert.algebraic_Kernel20Ideal_Reference20Ideal := by
  intro m g m' g' _ hagree
  refine ⟨_, _, _, _, Cert.Kernel20Ideal.Value.run m g, (θ_run _ _ _).mono (fun r h c => ?_) (Cert.Reference20Ideal.Value.run m' g')⟩
  obtain ⟨h0, h1, h2, h3, hk⟩ := h c
  obtain ⟨e0, e1, e2, e3⟩ := hagree c
  refine ⟨h0.trans ?_, h1.trans ?_, h2.trans ?_, h3.trans ?_, hk⟩
  · rw [(Cert.Reference20Ideal.Read.val_main_v2_eq _), e0]
    exact (Cert.Kernel20Ideal.Adam.g_eq _ _ _ _).symm
  · rw [(Cert.Reference20Ideal.Read.val_main_v26_eq _ _ _ _), e0, e1, e2, e3]
    exact (Cert.Kernel20Ideal.Adam.d_eq _ _ _ _).symm
  · rw [(Cert.Reference20Ideal.Read.val_main_v7_eq _ _), e0, e2]
    exact (Cert.Kernel20Ideal.Adam.m_eq _ _ _ _).symm
  · rw [(Cert.Reference20Ideal.Read.val_main_v13_eq _ _), e0, e3]
    exact (Cert.Kernel20Ideal.Adam.v_eq _ _ _ _).symm

/-- The frame of call 22's reference. -/
theorem frameRef22 : Cert.quiescent_Reference22Ideal := fun m ρ _ =>
  (θ_run Cert.Reference22Ideal.defs _ _).mono (fun r h => ⟨fun c => (h c).2.2.2.2.2.2.2.2.2.2.2.2, Idealize.ShloMosaic.sem_eq_zero_of_no_sems (by decide) r.2⟩)
    (Cert.Reference22Ideal.Value.run (F := Ideal) m ρ)

set_option maxHeartbeats 1000000 in
/-- The optimiser's step of g_mix, conv_b and lru_lambda: elementwise, so the 12 results agree entry by entry. -/
theorem adamSmall22 : Cert.algebraic_Kernel22Ideal_Reference22Ideal := by
  intro m g m' g' _ hagree
  refine ⟨_, _, _, _, _, _, _, _, _, _, _, _, Cert.Kernel22Ideal.Value.run m g, (θ_run _ _ _).mono (fun r h c => ?_) (Cert.Reference22Ideal.Value.run m' g')⟩
  obtain ⟨h0, h1, h2, h3, h4, h5, h6, h7, h8, h9, h10, h11, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, hk⟩ <;>
    (simp only [e0, e1, e2, e3, e4, e5, e6, e7, e8, e9, e10, e11] <;> (funext i; rfl))

/-- The frame of call 23's reference. -/
theorem frameRef23 : Cert.quiescent_Reference23Ideal := fun m ρ _ =>
  (θ_run Cert.Reference23Ideal.defs _ _).mono (fun r h => ⟨fun c => (h c).2.2.2.2.2.2.2.2.2.2.2.2, Idealize.ShloMosaic.sem_eq_zero_of_no_sems (by decide) r.2⟩)
    (Cert.Reference23Ideal.Value.run (F := Ideal) m ρ)

set_option maxHeartbeats 1000000 in
/-- The optimiser's step of g_ffn, g_ple_gate and b_ple_gate: elementwise, so the 12 results agree entry by entry. -/
theorem adamSmall23 : Cert.algebraic_Kernel23Ideal_Reference23Ideal := by
  intro m g m' g' _ hagree
  refine ⟨_, _, _, _, _, _, _, _, _, _, _, _, Cert.Kernel23Ideal.Value.run m g, (θ_run _ _ _).mono (fun r h c => ?_) (Cert.Reference23Ideal.Value.run m' g')⟩
  obtain ⟨h0, h1, h2, h3, h4, h5, h6, h7, h8, h9, h10, h11, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, hk⟩ <;>
    (simp only [e0, e1, e2, e3, e4, e5, e6, e7, e8, e9, e10, e11] <;> (funext i; rfl))

/-- The frame of call 24's reference. -/
theorem frameRef24 : Cert.quiescent_Reference24Ideal := fun m ρ _ =>
  (θ_run Cert.Reference24Ideal.defs _ _).mono (fun r h => ⟨fun c => (h c).2.2.2.2.2.2.2.2.2.2.2.2, Idealize.ShloMosaic.sem_eq_zero_of_no_sems (by decide) r.2⟩)
    (Cert.Reference24Ideal.Value.run (F := Ideal) m ρ)

set_option maxHeartbeats 1000000 in
/-- The optimiser's step of g_ple, b_in and b_glu: elementwise, so the 12 results agree entry by entry. -/
theorem adamSmall24 : Cert.algebraic_Kernel24Ideal_Reference24Ideal := by
  intro m g m' g' _ hagree
  refine ⟨_, _, _, _, _, _, _, _, _, _, _, _, Cert.Kernel24Ideal.Value.run m g, (θ_run _ _ _).mono (fun r h c => ?_) (Cert.Reference24Ideal.Value.run m' g')⟩
  obtain ⟨h0, h1, h2, h3, h4, h5, h6, h7, h8, h9, h10, h11, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, hk⟩ <;>
    (simp only [e0, e1, e2, e3, e4, e5, e6, e7, e8, e9, e10, e11] <;> (funext i; rfl))

/-- The frame of call 25's reference. -/
theorem frameRef25 : Cert.quiescent_Reference25Ideal := fun m ρ _ =>
  (θ_run Cert.Reference25Ideal.defs _ _).mono (fun r h => ⟨fun c => (h c).2.2.2.2.2.2.2.2.2.2.2.2, Idealize.ShloMosaic.sem_eq_zero_of_no_sems (by decide) r.2⟩)
    (Cert.Reference25Ideal.Value.run (F := Ideal) m ρ)

set_option maxHeartbeats 1000000 in
/-- The optimiser's step of log_dt, b_r and b_i: elementwise, so the 12 results agree entry by entry. -/
theorem adamSmall25 : Cert.algebraic_Kernel25Ideal_Reference25Ideal := by
  intro m g m' g' _ hagree
  refine ⟨_, _, _, _, _, _, _, _, _, _, _, _, Cert.Kernel25Ideal.Value.run m g, (θ_run _ _ _).mono (fun r h c => ?_) (Cert.Reference25Ideal.Value.run m' g')⟩
  obtain ⟨h0, h1, h2, h3, h4, h5, h6, h7, h8, h9, h10, h11, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, hk⟩ <;>
    (simp only [e0, e1, e2, e3, e4, e5, e6, e7, e8, e9, e10, e11] <;> (funext i; rfl))

/-- The frame of call 26's reference. -/
theorem frameRef26 : Cert.quiescent_Reference26Ideal := fun m ρ _ =>
  (θ_run Cert.Reference26Ideal.defs _ _).mono (fun r h => ⟨fun c => (h c).2.2.2.2.2.2.2.2.2.2.2.2, Idealize.ShloMosaic.sem_eq_zero_of_no_sems (by decide) r.2⟩)
    (Cert.Reference26Ideal.Value.run (F := Ideal) m ρ)

set_option maxHeartbeats 1000000 in
/-- The optimiser's step of lam_re, lam_im and s5_c_re: elementwise, so the 12 results agree entry by entry. -/
theorem adamSmall26 : Cert.algebraic_Kernel26Ideal_Reference26Ideal := by
  intro m g m' g' _ hagree
  refine ⟨_, _, _, _, _, _, _, _, _, _, _, _, Cert.Kernel26Ideal.Value.run m g, (θ_run _ _ _).mono (fun r h c => ?_) (Cert.Reference26Ideal.Value.run m' g')⟩
  obtain ⟨h0, h1, h2, h3, h4, h5, h6, h7, h8, h9, h10, h11, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, hk⟩ <;>
    (simp only [e0, e1, e2, e3, e4, e5, e6, e7, e8, e9, e10, e11] <;> (funext i; rfl))

/-- The frame of call 27's reference. -/
theorem frameRef27 : Cert.quiescent_Reference27Ideal := fun m ρ _ =>
  (θ_run Cert.Reference27Ideal.defs _ _).mono (fun r h => ⟨fun c => (h c).2.2.2.2.2.2.2.2.2.2.2.2, Idealize.ShloMosaic.sem_eq_zero_of_no_sems (by decide) r.2⟩)
    (Cert.Reference27Ideal.Value.run (F := Ideal) m ρ)

set_option maxHeartbeats 1000000 in
/-- The optimiser's step of x: elementwise, so the 12 results agree entry by entry. -/
theorem adamSmall27 : Cert.algebraic_Kernel27Ideal_Reference27Ideal := by
  intro m g m' g' _ hagree
  refine ⟨_, _, _, _, _, _, _, _, _, _, _, _, Cert.Kernel27Ideal.Value.run m g, (θ_run _ _ _).mono (fun r h c => ?_) (Cert.Reference27Ideal.Value.run m' g')⟩
  obtain ⟨h0, h1, h2, h3, h4, h5, h6, h7, h8, h9, h10, h11, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, hk⟩ <;>
    (simp only [e0, e1, e2, e3, e4, e5, e6, e7, e8, e9, e10, e11] <;>
      first
      | (funext i; rfl)
      | (simp only [Cert.Kernel27Ideal.Value.G17, Cert.Kernel27Ideal.Value.G20, Cert.Kernel27Ideal.Gen.k0_pay14, Cert.Kernel27Ideal.Gen.k0_pay15,
          Cert.Kernel27Ideal.Gen.r0_1]; rw [View.ld_unit_zero Cert.Kernel27Ideal.Value.hz0, View.ld_unit_zero Cert.Kernel27Ideal.Value.hz0]; funext i; rfl))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Kernel11.Gen.facts,
  Cert.Kernel11Ideal.Gen.facts, Cert.Kernel12.Gen.facts, Cert.Kernel12Ideal.Gen.facts,
  Cert.Kernel13.Gen.facts, Cert.Kernel13Ideal.Gen.facts, Cert.Kernel14.Gen.facts,
  Cert.Kernel14Ideal.Gen.facts, Cert.Reference14Ideal.Gen.facts, Cert.Kernel15.Gen.facts,
  Cert.Kernel15Ideal.Gen.facts, Cert.Reference15Ideal.Gen.facts, Cert.Kernel16.Gen.facts,
  Cert.Kernel16Ideal.Gen.facts, Cert.Reference16Ideal.Gen.facts, Cert.Kernel17.Gen.facts,
  Cert.Kernel17Ideal.Gen.facts, Cert.Reference17Ideal.Gen.facts, Cert.Kernel18.Gen.facts,
  Cert.Kernel18Ideal.Gen.facts, Cert.Reference18Ideal.Gen.facts, Cert.Kernel19.Gen.facts,
  Cert.Kernel19Ideal.Gen.facts, Cert.Reference19Ideal.Gen.facts, Cert.Kernel20.Gen.facts,
  Cert.Kernel20Ideal.Gen.facts, Cert.Reference20Ideal.Gen.facts, Cert.Kernel21.Gen.facts,
  Cert.Kernel21Ideal.Gen.facts, Cert.Kernel22.Gen.facts, Cert.Kernel22Ideal.Gen.facts,
  Cert.Reference22Ideal.Gen.facts, Cert.Kernel23.Gen.facts, Cert.Kernel23Ideal.Gen.facts,
  Cert.Reference23Ideal.Gen.facts, Cert.Kernel24.Gen.facts, Cert.Kernel24Ideal.Gen.facts,
  Cert.Reference24Ideal.Gen.facts, Cert.Kernel25.Gen.facts, Cert.Kernel25Ideal.Gen.facts,
  Cert.Reference25Ideal.Gen.facts, Cert.Kernel26.Gen.facts, Cert.Kernel26Ideal.Gen.facts,
  Cert.Reference26Ideal.Gen.facts, Cert.Kernel27.Gen.facts, Cert.Kernel27Ideal.Gen.facts,
  Cert.Reference27Ideal.Gen.facts, finiteFacts, finiteFacts2,
  finiteFacts3, finiteFacts5, finiteFacts6,
  fun m ρ _ => Cert.Kernel.Gen.frame m ρ, fun m ρ _ => Cert.KernelIdeal.Gen.frame m ρ, fun m ρ _ => Cert.KernelIdeal.Gen.frame m ρ,
  frameRef, fun m ρ _ => frameRef m ρ trivial, fun m ρ _ => Cert.Kernel2.Gen.frame m ρ,
  fun m ρ _ => Cert.Kernel2Ideal.Gen.frame m ρ, fun m ρ _ => Cert.Kernel2Ideal.Gen.frame m ρ, frameRef2,
  fun m ρ _ => frameRef2 m ρ trivial, fun m ρ _ => Cert.Kernel3.Gen.frame m ρ, fun m ρ _ => Cert.Kernel3Ideal.Gen.frame m ρ,
  fun m ρ _ => Cert.Kernel3Ideal.Gen.frame m ρ, frameRef3, fun m ρ _ => frameRef3 m ρ trivial,
  fun m ρ _ => Cert.Kernel4.Gen.frame m ρ, fun m ρ _ => Cert.Kernel4Ideal.Gen.frame m ρ, frameRef4,
  fun m ρ _ => Cert.Kernel5.Gen.frame m ρ, fun m ρ _ => Cert.Kernel5Ideal.Gen.frame m ρ, fun m ρ _ => Cert.Kernel5Ideal.Gen.frame m ρ,
  frameRef5, fun m ρ _ => frameRef5 m ρ trivial, frameK6,
  fun m ρ _ => Cert.Kernel6Ideal.InprojF.unchanged (F := Ideal) m ρ, fun m ρ _ => Cert.Kernel6Ideal.InprojF.unchanged (F := Ideal) m ρ, frameRef6,
  fun m ρ _ => frameRef6 m ρ trivial, fun m ρ _ => Cert.Kernel7.Gen.frame m ρ, fun m ρ _ => Cert.Kernel7Ideal.Gen.frame m ρ,
  frameRef7, fun m ρ _ => Cert.Kernel8.Gen.frame m ρ, fun m ρ _ => Cert.Kernel8Ideal.Gen.frame m ρ,
  frameRef8, fun m ρ _ => Cert.Kernel9.Gen.frame m ρ, fun m ρ _ => Cert.Kernel9Ideal.Gen.frame m ρ,
  frameRef9, frameK10, fun m ρ _ => Cert.Kernel10Ideal.LruBwd.unchanged (F := Ideal) m ρ,
  frameK11, fun m ρ _ => Cert.Kernel11Ideal.S5Bwd.unchanged (F := Ideal) m ρ, frameK12,
  fun m ρ _ => Cert.Kernel12Ideal.SmallReduce.unchanged (F := Ideal) m ρ, frameK13, fun m ρ _ => Cert.Kernel13Ideal.Branches.unchanged (F := Ideal) m ρ,
  fun m ρ _ => Cert.Kernel14.Gen.frame m ρ, fun m ρ _ => Cert.Kernel14Ideal.Gen.frame m ρ, frameRef14,
  fun m ρ _ => Cert.Kernel15.Gen.frame m ρ, fun m ρ _ => Cert.Kernel15Ideal.Gen.frame m ρ, frameRef15,
  fun m ρ _ => Cert.Kernel16.Gen.frame m ρ, fun m ρ _ => Cert.Kernel16Ideal.Gen.frame m ρ, frameRef16,
  fun m ρ _ => Cert.Kernel17.Gen.frame m ρ, fun m ρ _ => Cert.Kernel17Ideal.Gen.frame m ρ, frameRef17,
  fun m ρ _ => Cert.Kernel18.Gen.frame m ρ, fun m ρ _ => Cert.Kernel18Ideal.Gen.frame m ρ, frameRef18,
  fun m ρ _ => Cert.Kernel19.Gen.frame m ρ, fun m ρ _ => Cert.Kernel19Ideal.Gen.frame m ρ, frameRef19,
  fun m ρ _ => Cert.Kernel20.Gen.frame m ρ, fun m ρ _ => Cert.Kernel20Ideal.Gen.frame m ρ, frameRef20,
  fun m ρ _ => Cert.Kernel21.Gen.frame m ρ, fun m ρ _ => Cert.Kernel21Ideal.Gen.frame m ρ, fun m ρ _ => Cert.Kernel22.Gen.frame m ρ,
  fun m ρ _ => Cert.Kernel22Ideal.Gen.frame m ρ, frameRef22, fun m ρ _ => Cert.Kernel23.Gen.frame m ρ,
  fun m ρ _ => Cert.Kernel23Ideal.Gen.frame m ρ, frameRef23, fun m ρ _ => Cert.Kernel24.Gen.frame m ρ,
  fun m ρ _ => Cert.Kernel24Ideal.Gen.frame m ρ, frameRef24, fun m ρ _ => Cert.Kernel25.Gen.frame m ρ,
  fun m ρ _ => Cert.Kernel25Ideal.Gen.frame m ρ, frameRef25, fun m ρ _ => Cert.Kernel26.Gen.frame m ρ,
  fun m ρ _ => Cert.Kernel26Ideal.Gen.frame m ρ, frameRef26, fun m ρ _ => Cert.Kernel27.Gen.frame m ρ,
  fun m ρ _ => Cert.Kernel27Ideal.Gen.frame m ρ, frameRef27,
  trivial, ffnBwdA, trivial, ffnBwdB, trivial, tail, trivial, merge, trivial, s5Params, trivial, inproj, trivial, mergeFwd, trivial, inprojFwd, trivial, ffnDown, trivial, trivial, trivial, trivial, trivial, adamGlu, trivial, adamConv, trivial, adamAOut, trivial, adamThree, trivial, adamFfn, trivial, adamDown, trivial, adamPle, trivial, trivial, adamSmall22, trivial, adamSmall23, trivial, adamSmall24, trivial, adamSmall25, trivial, adamSmall26, trivial, adamSmall27⟩

end Cert.Proof

end
